-- ==== Defs.lean ====
def Pre_Dhn (m : (ℓ : Loc Cert.Dhn.nD Cert.Dhn.τ Cert.Dhn.sig) → Buf (Elt Bits) ℓ) : Prop :=
  True

def Pre_DhnIdeal (m : (ℓ : Loc Cert.DhnIdeal.nD Cert.DhnIdeal.τ Cert.DhnIdeal.sig) → Buf (Elt Ideal) ℓ) : Prop :=
  True

def Pre_DhnRefIdeal (m : (ℓ : Loc Cert.DhnRefIdeal.nD Cert.DhnRefIdeal.τ Cert.DhnRefIdeal.sig) → Buf (Elt Ideal) ℓ) : Prop :=
  True

def Pre_Dwin (m : (ℓ : Loc Cert.Dwin.nD Cert.Dwin.τ Cert.Dwin.sig) → Buf (Elt Bits) ℓ) : Prop :=
  True

def Pre_DwinIdeal (m : (ℓ : Loc Cert.DwinIdeal.nD Cert.DwinIdeal.τ Cert.DwinIdeal.sig) → Buf (Elt Ideal) ℓ) : Prop :=
  True

def Pre_DwinRefIdeal (m : (ℓ : Loc Cert.DwinRefIdeal.nD Cert.DwinRefIdeal.τ Cert.DwinRefIdeal.sig) → Buf (Elt Ideal) ℓ) : Prop :=
  True

def Pre_DwinQ (m : (ℓ : Loc Cert.DwinQ.nD Cert.DwinQ.τ Cert.DwinQ.sig) → Buf (Elt Bits) ℓ) : Prop :=
  True

def Pre_DwinQIdeal (m : (ℓ : Loc Cert.DwinQIdeal.nD Cert.DwinQIdeal.τ Cert.DwinQIdeal.sig) → Buf (Elt Ideal) ℓ) : Prop :=
  True

def Pre_DwinQRefIdeal (m : (ℓ : Loc Cert.DwinQRefIdeal.nD Cert.DwinQRefIdeal.τ Cert.DwinQRefIdeal.sig) → Buf (Elt Ideal) ℓ) : Prop :=
  True

def Pre_Dwo (m : (ℓ : Loc Cert.Dwo.nD Cert.Dwo.τ Cert.Dwo.sig) → Buf (Elt Bits) ℓ) : Prop :=
  True

def Pre_DwoIdeal (m : (ℓ : Loc Cert.DwoIdeal.nD Cert.DwoIdeal.τ Cert.DwoIdeal.sig) → Buf (Elt Ideal) ℓ) : Prop :=
  True

def Pre_DwoRefIdeal (m : (ℓ : Loc Cert.DwoRefIdeal.nD Cert.DwoRefIdeal.τ Cert.DwoRefIdeal.sig) → Buf (Elt Ideal) ℓ) : Prop :=
  True

def Pre_Dwg (m : (ℓ : Loc Cert.Dwg.nD Cert.Dwg.τ Cert.Dwg.sig) → Buf (Elt Bits) ℓ) : Prop :=
  True

def Pre_DwgIdeal (m : (ℓ : Loc Cert.DwgIdeal.nD Cert.DwgIdeal.τ Cert.DwgIdeal.sig) → Buf (Elt Ideal) ℓ) : Prop :=
  True

def Pre_DwgRefIdeal (m : (ℓ : Loc Cert.DwgRefIdeal.nD Cert.DwgRefIdeal.τ Cert.DwgRefIdeal.sig) → Buf (Elt Ideal) ℓ) : Prop :=
  True

def Pre_Dwu (m : (ℓ : Loc Cert.Dwu.nD Cert.Dwu.τ Cert.Dwu.sig) → Buf (Elt Bits) ℓ) : Prop :=
  True

def Pre_DwuIdeal (m : (ℓ : Loc Cert.DwuIdeal.nD Cert.DwuIdeal.τ Cert.DwuIdeal.sig) → Buf (Elt Ideal) ℓ) : Prop :=
  True

def Pre_DwuRefIdeal (m : (ℓ : Loc Cert.DwuRefIdeal.nD Cert.DwuRefIdeal.τ Cert.DwuRefIdeal.sig) → Buf (Elt Ideal) ℓ) : Prop :=
  True

def Pre_Dh1 (m : (ℓ : Loc Cert.Dh1.nD Cert.Dh1.τ Cert.Dh1.sig) → Buf (Elt Bits) ℓ) : Prop :=
  True

def Pre_Dh1Ideal (m : (ℓ : Loc Cert.Dh1Ideal.nD Cert.Dh1Ideal.τ Cert.Dh1Ideal.sig) → Buf (Elt Ideal) ℓ) : Prop :=
  True

def Pre_Dh1RefIdeal (m : (ℓ : Loc Cert.Dh1RefIdeal.nD Cert.Dh1RefIdeal.τ Cert.Dh1RefIdeal.sig) → Buf (Elt Ideal) ℓ) : Prop :=
  True

def Pre_Dy (m : (ℓ : Loc Cert.Dy.nD Cert.Dy.τ Cert.Dy.sig) → Buf (Elt Bits) ℓ) : Prop :=
  True

def Pre_DyIdeal (m : (ℓ : Loc Cert.DyIdeal.nD Cert.DyIdeal.τ Cert.DyIdeal.sig) → Buf (Elt Ideal) ℓ) : Prop :=
  True

def Pre_DyRefIdeal (m : (ℓ : Loc Cert.DyRefIdeal.nD Cert.DyRefIdeal.τ Cert.DyRefIdeal.sig) → Buf (Elt Ideal) ℓ) : Prop :=
  True

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleRefIdeal (m : (ℓ : Loc Cert.PleRefIdeal.nD Cert.PleRefIdeal.τ Cert.PleRefIdeal.sig) → Buf (Elt Ideal) ℓ) : Prop :=
  True

def Pre_Fin (m : (ℓ : Loc Cert.Fin.nD Cert.Fin.τ Cert.Fin.sig) → Buf (Elt Bits) ℓ) : Prop :=
  True

def Pre_FinIdeal (m : (ℓ : Loc Cert.FinIdeal.nD Cert.FinIdeal.τ Cert.FinIdeal.sig) → Buf (Elt Ideal) ℓ) : Prop :=
  True

def Pre_FinRefIdeal (m : (ℓ : Loc Cert.FinRefIdeal.nD Cert.FinRefIdeal.τ Cert.FinRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Rms (m : (ℓ : Loc Cert.Rms.nD Cert.Rms.τ Cert.Rms.sig) → Buf (Elt Bits) ℓ) : Prop :=
  True

def Pre_RmsIdeal (m : (ℓ : Loc Cert.RmsIdeal.nD Cert.RmsIdeal.τ Cert.RmsIdeal.sig) → Buf (Elt Ideal) ℓ) : Prop :=
  True

def Pre_RmsRefIdeal (m : (ℓ : Loc Cert.RmsRefIdeal.nD Cert.RmsRefIdeal.τ Cert.RmsRefIdeal.sig) → Buf (Elt Ideal) ℓ) : Prop :=
  True

def Pre_AdWin (m : (ℓ : Loc Cert.AdWin.nD Cert.AdWin.τ Cert.AdWin.sig) → Buf (Elt Bits) ℓ) : Prop :=
  True

def Pre_AdWinIdeal (m : (ℓ : Loc Cert.AdWinIdeal.nD Cert.AdWinIdeal.τ Cert.AdWinIdeal.sig) → Buf (Elt Ideal) ℓ) : Prop :=
  True

def Pre_AdWinRefIdeal (m : (ℓ : Loc Cert.AdWinRefIdeal.nD Cert.AdWinRefIdeal.τ Cert.AdWinRefIdeal.sig) → Buf (Elt Ideal) ℓ) : Prop :=
  True

def Pre_AdWo (m : (ℓ : Loc Cert.AdWo.nD Cert.AdWo.τ Cert.AdWo.sig) → Buf (Elt Bits) ℓ) : Prop :=
  True

def Pre_AdWoIdeal (m : (ℓ : Loc Cert.AdWoIdeal.nD Cert.AdWoIdeal.τ Cert.AdWoIdeal.sig) → Buf (Elt Ideal) ℓ) : Prop :=
  True

def Pre_AdWoRefIdeal (m : (ℓ : Loc Cert.AdWoRefIdeal.nD Cert.AdWoRefIdeal.τ Cert.AdWoRefIdeal.sig) → Buf (Elt Ideal) ℓ) : Prop :=
  True

def Pre_AdWg (m : (ℓ : Loc Cert.AdWg.nD Cert.AdWg.τ Cert.AdWg.sig) → Buf (Elt Bits) ℓ) : Prop :=
  True

def Pre_AdWgIdeal (m : (ℓ : Loc Cert.AdWgIdeal.nD Cert.AdWgIdeal.τ Cert.AdWgIdeal.sig) → Buf (Elt Ideal) ℓ) : Prop :=
  True

def Pre_AdWgRefIdeal (m : (ℓ : Loc Cert.AdWgRefIdeal.nD Cert.AdWgRefIdeal.τ Cert.AdWgRefIdeal.sig) → Buf (Elt Ideal) ℓ) : Prop :=
  True

def Pre_AdWu (m : (ℓ : Loc Cert.AdWu.nD Cert.AdWu.τ Cert.AdWu.sig) → Buf (Elt Bits) ℓ) : Prop :=
  True

def Pre_AdWuIdeal (m : (ℓ : Loc Cert.AdWuIdeal.nD Cert.AdWuIdeal.τ Cert.AdWuIdeal.sig) → Buf (Elt Ideal) ℓ) : Prop :=
  True

def Pre_AdWuRefIdeal (m : (ℓ : Loc Cert.AdWuRefIdeal.nD Cert.AdWuRefIdeal.τ Cert.AdWuRefIdeal.sig) → Buf (Elt Ideal) ℓ) : Prop :=
  True

def Pre_AdSmall (m : (ℓ : Loc Cert.AdSmall.nD Cert.AdSmall.τ Cert.AdSmall.sig) → Buf (Elt Bits) ℓ) : Prop :=
  True

def Pre_AdSmallIdeal (m : (ℓ : Loc Cert.AdSmallIdeal.nD Cert.AdSmallIdeal.τ Cert.AdSmallIdeal.sig) → Buf (Elt Ideal) ℓ) : Prop :=
  True

def Pre_AdSmallRefIdeal (m : (ℓ : Loc Cert.AdSmallRefIdeal.nD Cert.AdSmallRefIdeal.τ Cert.AdSmallRefIdeal.sig) → Buf (Elt Ideal) ℓ) : Prop :=
  True

def Pre_AdNw (m : (ℓ : Loc Cert.AdNw.nD Cert.AdNw.τ Cert.AdNw.sig) → Buf (Elt Bits) ℓ) : Prop :=
  True

def Pre_AdNwIdeal (m : (ℓ : Loc Cert.AdNwIdeal.nD Cert.AdNwIdeal.τ Cert.AdNwIdeal.sig) → Buf (Elt Ideal) ℓ) : Prop :=
  True

def Pre_AdNwRefIdeal (m : (ℓ : Loc Cert.AdNwRefIdeal.nD Cert.AdNwRefIdeal.τ Cert.AdNwRefIdeal.sig) → Buf (Elt Ideal) ℓ) : Prop :=
  True

def Pre_SumSmall (m : (ℓ : Loc Cert.SumSmall.nD Cert.SumSmall.τ Cert.SumSmall.sig) → Buf (Elt Bits) ℓ) : Prop :=
  True

def Pre_SumSmallIdeal (m : (ℓ : Loc Cert.SumSmallIdeal.nD Cert.SumSmallIdeal.τ Cert.SumSmallIdeal.sig) → Buf (Elt Ideal) ℓ) : Prop :=
  True

def Pre_SumSmallRefIdeal (m : (ℓ : Loc Cert.SumSmallRefIdeal.nD Cert.SumSmallRefIdeal.τ Cert.SumSmallRefIdeal.sig) → Buf (Elt Ideal) ℓ) : Prop :=
  True

def Pre_SumNw (m : (ℓ : Loc Cert.SumNw.nD Cert.SumNw.τ Cert.SumNw.sig) → Buf (Elt Bits) ℓ) : Prop :=
  True

def Pre_SumNwIdeal (m : (ℓ : Loc Cert.SumNwIdeal.nD Cert.SumNwIdeal.τ Cert.SumNwIdeal.sig) → Buf (Elt Ideal) ℓ) : Prop :=
  True

def Pre_SumNwRefIdeal (m : (ℓ : Loc Cert.SumNwRefIdeal.nD Cert.SumNwRefIdeal.τ Cert.SumNwRefIdeal.sig) → Buf (Elt Ideal) ℓ) : Prop :=
  True

def Pre_GateB (m : (ℓ : Loc Cert.GateB.nD Cert.GateB.τ Cert.GateB.sig) → Buf (Elt Bits) ℓ) : Prop :=
  True

def Pre_GateBIdeal (m : (ℓ : Loc Cert.GateBIdeal.nD Cert.GateBIdeal.τ Cert.GateBIdeal.sig) → Buf (Elt Ideal) ℓ) : Prop :=
  True

def Pre_GateBIdeal_gateb_finite [hPre_gateb_finite : Cert.Pre_gateb_finite.Facts] (m : (ℓ : Loc Cert.GateBIdeal.nD Cert.GateBIdeal.τ Cert.GateBIdeal.sig) → Buf (Elt Ideal) ℓ) : Prop :=
  ∀ c : Dev Cert.GateBIdeal.nD,
    (Cert.Pre_gateb_finite.fn (F := Ideal) (m ((c.tc : Thread Cert.GateBIdeal.nD Cert.GateBIdeal.τ).loc Cert.GateBIdeal.main_arg0)) (m ((c.tc : Thread Cert.GateBIdeal.nD Cert.GateBIdeal.τ).loc Cert.GateBIdeal.main_arg1)) (m ((c.tc : Thread Cert.GateBIdeal.nD Cert.GateBIdeal.τ).loc Cert.GateBIdeal.main_arg2)) (m ((c.tc : Thread Cert.GateBIdeal.nD Cert.GateBIdeal.τ).loc Cert.GateBIdeal.main_arg3)) (m ((c.tc : Thread Cert.GateBIdeal.nD Cert.GateBIdeal.τ).loc Cert.GateBIdeal.main_arg4))) = (fun _ => 1#1)

def Pre_GateBRefIdeal (m : (ℓ : Loc Cert.GateBRefIdeal.nD Cert.GateBRefIdeal.τ Cert.GateBRefIdeal.sig) → Buf (Elt Ideal) ℓ) : Prop :=
  True

def Pre_GateBRefIdeal_gateb_finite [hPre_gateb_finite : Cert.Pre_gateb_finite.Facts] (m : (ℓ : Loc Cert.GateBRefIdeal.nD Cert.GateBRefIdeal.τ Cert.GateBRefIdeal.sig) → Buf (Elt Ideal) ℓ) : Prop :=
  ∀ c : Dev Cert.GateBRefIdeal.nD,
    (Cert.Pre_gateb_finite.fn (F := Ideal) (m ((c.tc : Thread Cert.GateBRefIdeal.nD Cert.GateBRefIdeal.τ).loc Cert.GateBRefIdeal.main_arg0)) (m ((c.tc : Thread Cert.GateBRefIdeal.nD Cert.GateBRefIdeal.τ).loc Cert.GateBRefIdeal.main_arg1)) (m ((c.tc : Thread Cert.GateBRefIdeal.nD Cert.GateBRefIdeal.τ).loc Cert.GateBRefIdeal.main_arg2)) (m ((c.tc : Thread Cert.GateBRefIdeal.nD Cert.GateBRefIdeal.τ).loc Cert.GateBRefIdeal.main_arg3)) (m ((c.tc : Thread Cert.GateBRefIdeal.nD Cert.GateBRefIdeal.τ).loc Cert.GateBRefIdeal.main_arg4))) = (fun _ => 1#1)

def Pre_QkvB (m : (ℓ : Loc Cert.QkvB.nD Cert.QkvB.τ Cert.QkvB.sig) → Buf (Elt Bits) ℓ) : Prop :=
  True

def Pre_QkvBIdeal (m : (ℓ : Loc Cert.QkvBIdeal.nD Cert.QkvBIdeal.τ Cert.QkvBIdeal.sig) → Buf (Elt Ideal) ℓ) : Prop :=
  True

def Pre_QkvBIdeal_qkvb_finite [hPre_qkvb_finite : Cert.Pre_qkvb_finite.Facts] (m : (ℓ : Loc Cert.QkvBIdeal.nD Cert.QkvBIdeal.τ Cert.QkvBIdeal.sig) → Buf (Elt Ideal) ℓ) : Prop :=
  ∀ c : Dev Cert.QkvBIdeal.nD,
    (Cert.Pre_qkvb_finite.fn (F := Ideal) (m ((c.tc : Thread Cert.QkvBIdeal.nD Cert.QkvBIdeal.τ).loc Cert.QkvBIdeal.main_arg0)) (m ((c.tc : Thread Cert.QkvBIdeal.nD Cert.QkvBIdeal.τ).loc Cert.QkvBIdeal.main_arg1)) (m ((c.tc : Thread Cert.QkvBIdeal.nD Cert.QkvBIdeal.τ).loc Cert.QkvBIdeal.main_arg2))).1 = (fun _ => 1#1)
    ∧ (Cert.Pre_qkvb_finite.fn (F := Ideal) (m ((c.tc : Thread Cert.QkvBIdeal.nD Cert.QkvBIdeal.τ).loc Cert.QkvBIdeal.main_arg0)) (m ((c.tc : Thread Cert.QkvBIdeal.nD Cert.QkvBIdeal.τ).loc Cert.QkvBIdeal.main_arg1)) (m ((c.tc : Thread Cert.QkvBIdeal.nD Cert.QkvBIdeal.τ).loc Cert.QkvBIdeal.main_arg2))).2.1 = (fun _ => 1#1)
    ∧ (Cert.Pre_qkvb_finite.fn (F := Ideal) (m ((c.tc : Thread Cert.QkvBIdeal.nD Cert.QkvBIdeal.τ).loc Cert.QkvBIdeal.main_arg0)) (m ((c.tc : Thread Cert.QkvBIdeal.nD Cert.QkvBIdeal.τ).loc Cert.QkvBIdeal.main_arg1)) (m ((c.tc : Thread Cert.QkvBIdeal.nD Cert.QkvBIdeal.τ).loc Cert.QkvBIdeal.main_arg2))).2.2 = (fun _ => 1#1)

def Pre_QkvBRefIdeal (m : (ℓ : Loc Cert.QkvBRefIdeal.nD Cert.QkvBRefIdeal.τ Cert.QkvBRefIdeal.sig) → Buf (Elt Ideal) ℓ) : Prop :=
  True

def Pre_QkvBRefIdeal_qkvb_finite [hPre_qkvb_finite : Cert.Pre_qkvb_finite.Facts] (m : (ℓ : Loc Cert.QkvBRefIdeal.nD Cert.QkvBRefIdeal.τ Cert.QkvBRefIdeal.sig) → Buf (Elt Ideal) ℓ) : Prop :=
  ∀ c : Dev Cert.QkvBRefIdeal.nD,
    (Cert.Pre_qkvb_finite.fn (F := Ideal) (m ((c.tc : Thread Cert.QkvBRefIdeal.nD Cert.QkvBRefIdeal.τ).loc Cert.QkvBRefIdeal.main_arg0)) (m ((c.tc : Thread Cert.QkvBRefIdeal.nD Cert.QkvBRefIdeal.τ).loc Cert.QkvBRefIdeal.main_arg1)) (m ((c.tc : Thread Cert.QkvBRefIdeal.nD Cert.QkvBRefIdeal.τ).loc Cert.QkvBRefIdeal.main_arg2))).1 = (fun _ => 1#1)
    ∧ (Cert.Pre_qkvb_finite.fn (F := Ideal) (m ((c.tc : Thread Cert.QkvBRefIdeal.nD Cert.QkvBRefIdeal.τ).loc Cert.QkvBRefIdeal.main_arg0)) (m ((c.tc : Thread Cert.QkvBRefIdeal.nD Cert.QkvBRefIdeal.τ).loc Cert.QkvBRefIdeal.main_arg1)) (m ((c.tc : Thread Cert.QkvBRefIdeal.nD Cert.QkvBRefIdeal.τ).loc Cert.QkvBRefIdeal.main_arg2))).2.1 = (fun _ => 1#1)
    ∧ (Cert.Pre_qkvb_finite.fn (F := Ideal) (m ((c.tc : Thread Cert.QkvBRefIdeal.nD Cert.QkvBRefIdeal.τ).loc Cert.QkvBRefIdeal.main_arg0)) (m ((c.tc : Thread Cert.QkvBRefIdeal.nD Cert.QkvBRefIdeal.τ).loc Cert.QkvBRefIdeal.main_arg1)) (m ((c.tc : Thread Cert.QkvBRefIdeal.nD Cert.QkvBRefIdeal.τ).loc Cert.QkvBRefIdeal.main_arg2))).2.2 = (fun _ => 1#1)

def Pre_HgB (m : (ℓ : Loc Cert.HgB.nD Cert.HgB.τ Cert.HgB.sig) → Buf (Elt Bits) ℓ) : Prop :=
  True

def Pre_HgBIdeal (m : (ℓ : Loc Cert.HgBIdeal.nD Cert.HgBIdeal.τ Cert.HgBIdeal.sig) → Buf (Elt Ideal) ℓ) : Prop :=
  True

def Pre_HgBRefIdeal (m : (ℓ : Loc Cert.HgBRefIdeal.nD Cert.HgBRefIdeal.τ Cert.HgBRefIdeal.sig) → Buf (Elt Ideal) ℓ) : Prop :=
  True

def Pre_DnB (m : (ℓ : Loc Cert.DnB.nD Cert.DnB.τ Cert.DnB.sig) → Buf (Elt Bits) ℓ) : Prop :=
  True

def Pre_DnBIdeal (m : (ℓ : Loc Cert.DnBIdeal.nD Cert.DnBIdeal.τ Cert.DnBIdeal.sig) → Buf (Elt Ideal) ℓ) : Prop :=
  True

def Pre_DnBRefIdeal (m : (ℓ : Loc Cert.DnBRefIdeal.nD Cert.DnBRefIdeal.τ Cert.DnBRefIdeal.sig) → Buf (Elt Ideal) ℓ) : Prop :=
  True

def Pre_GateF (m : (ℓ : Loc Cert.GateF.nD Cert.GateF.τ Cert.GateF.sig) → Buf (Elt Bits) ℓ) : Prop :=
  True

def Pre_GateFIdeal (m : (ℓ : Loc Cert.GateFIdeal.nD Cert.GateFIdeal.τ Cert.GateFIdeal.sig) → Buf (Elt Ideal) ℓ) : Prop :=
  True

def Pre_GateFRefIdeal (m : (ℓ : Loc Cert.GateFRefIdeal.nD Cert.GateFRefIdeal.τ Cert.GateFRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_HgF (m : (ℓ : Loc Cert.HgF.nD Cert.HgF.τ Cert.HgF.sig) → Buf (Elt Bits) ℓ) : Prop :=
  True

def Pre_HgFIdeal (m : (ℓ : Loc Cert.HgFIdeal.nD Cert.HgFIdeal.τ Cert.HgFIdeal.sig) → Buf (Elt Ideal) ℓ) : Prop :=
  True

def Pre_HgFRefIdeal (m : (ℓ : Loc Cert.HgFRefIdeal.nD Cert.HgFRefIdeal.τ Cert.HgFRefIdeal.sig) → Buf (Elt Ideal) ℓ) : Prop :=
  True

def quiescent_Dhn [hDhn : Cert.Dhn.Facts] : Prop :=
  ∀ (m : (ℓ : Loc Cert.Dhn.nD Cert.Dhn.τ Cert.Dhn.sig) → Buf (Elt Bits) ℓ) (g : Dev Cert.Dhn.nD → PrngReg), Pre_Dhn m →
    θ_run (Cert.Dhn.defs (F := Bits)) (onTc (τ := Cert.Dhn.τ) (Cert.Dhn.main (F := Bits))) ⟨m, fun _ => 0, g⟩ (fun r => (∀ c : Dev Cert.Dhn.nD,
      r.2.mem ((c.tc : Thread Cert.Dhn.nD Cert.Dhn.τ).loc Cert.Dhn.main_arg0) = m ((c.tc : Thread Cert.Dhn.nD Cert.Dhn.τ).loc Cert.Dhn.main_arg0)
      ∧ r.2.mem ((c.tc : Thread Cert.Dhn.nD Cert.Dhn.τ).loc Cert.Dhn.main_arg1) = m ((c.tc : Thread Cert.Dhn.nD Cert.Dhn.τ).loc Cert.Dhn.main_arg1)
      ∧ r.2.mem ((c.tc : Thread Cert.Dhn.nD Cert.Dhn.τ).loc Cert.Dhn.main_arg2) = m ((c.tc : Thread Cert.Dhn.nD Cert.Dhn.τ).loc Cert.Dhn.main_arg2)
      ∧ r.2.mem ((c.tc : Thread Cert.Dhn.nD Cert.Dhn.τ).loc Cert.Dhn.main_arg3) = m ((c.tc : Thread Cert.Dhn.nD Cert.Dhn.τ).loc Cert.Dhn.main_arg3)
      ∧ r.2.mem ((c.tc : Thread Cert.Dhn.nD Cert.Dhn.τ).loc Cert.Dhn.main_arg4) = m ((c.tc : Thread Cert.Dhn.nD Cert.Dhn.τ).loc Cert.Dhn.main_arg4))
      ∧ r.2.sem = fun _ => 0)

def quiescent_DhnIdeal [hDhnIdeal : Cert.DhnIdeal.Facts] : Prop :=
  ∀ (m : (ℓ : Loc Cert.DhnIdeal.nD Cert.DhnIdeal.τ Cert.DhnIdeal.sig) → Buf (Elt Ideal) ℓ) (g : Dev Cert.DhnIdeal.nD → PrngReg), Pre_DhnIdeal m →
    θ_run (Cert.DhnIdeal.defs (F := Ideal)) (onTc (τ := Cert.DhnIdeal.τ) (Cert.DhnIdeal.main (F := Ideal))) ⟨m, fun _ => 0, g⟩ (fun r => (∀ c : Dev Cert.DhnIdeal.nD,
      r.2.mem ((c.tc : Thread Cert.DhnIdeal.nD Cert.DhnIdeal.τ).loc Cert.DhnIdeal.main_arg0) = m ((c.tc : Thread Cert.DhnIdeal.nD Cert.DhnIdeal.τ).loc Cert.DhnIdeal.main_arg0)
      ∧ r.2.mem ((c.tc : Thread Cert.DhnIdeal.nD Cert.DhnIdeal.τ).loc Cert.DhnIdeal.main_arg1) = m ((c.tc : Thread Cert.DhnIdeal.nD Cert.DhnIdeal.τ).loc Cert.DhnIdeal.main_arg1)
      ∧ r.2.mem ((c.tc : Thread Cert.DhnIdeal.nD Cert.DhnIdeal.τ).loc Cert.DhnIdeal.main_arg2) = m ((c.tc : Thread Cert.DhnIdeal.nD Cert.DhnIdeal.τ).loc Cert.DhnIdeal.main_arg2)
      ∧ r.2.mem ((c.tc : Thread Cert.DhnIdeal.nD Cert.DhnIdeal.τ).loc Cert.DhnIdeal.main_arg3) = m ((c.tc : Thread Cert.DhnIdeal.nD Cert.DhnIdeal.τ).loc Cert.DhnIdeal.main_arg3)
      ∧ r.2.mem ((c.tc : Thread Cert.DhnIdeal.nD Cert.DhnIdeal.τ).loc Cert.DhnIdeal.main_arg4) = m ((c.tc : Thread Cert.DhnIdeal.nD Cert.DhnIdeal.τ).loc Cert.DhnIdeal.main_arg4))
      ∧ r.2.sem = fun _ => 0)

def quiescent_DhnRefIdeal [hDhnRefIdeal : Cert.DhnRefIdeal.Facts] : Prop :=
  ∀ (m : (ℓ : Loc Cert.DhnRefIdeal.nD Cert.DhnRefIdeal.τ Cert.DhnRefIdeal.sig) → Buf (Elt Ideal) ℓ) (g : Dev Cert.DhnRefIdeal.nD → PrngReg), Pre_DhnRefIdeal m →
    θ_run (Cert.DhnRefIdeal.defs (F := Ideal)) (onTc (τ := Cert.DhnRefIdeal.τ) (Cert.DhnRefIdeal.main (F := Ideal))) ⟨m, fun _ => 0, g⟩ (fun r => (∀ c : Dev Cert.DhnRefIdeal.nD,
      r.2.mem ((c.tc : Thread Cert.DhnRefIdeal.nD Cert.DhnRefIdeal.τ).loc Cert.DhnRefIdeal.main_arg0) = m ((c.tc : Thread Cert.DhnRefIdeal.nD Cert.DhnRefIdeal.τ).loc Cert.DhnRefIdeal.main_arg0)
      ∧ r.2.mem ((c.tc : Thread Cert.DhnRefIdeal.nD Cert.DhnRefIdeal.τ).loc Cert.DhnRefIdeal.main_arg1) = m ((c.tc : Thread Cert.DhnRefIdeal.nD Cert.DhnRefIdeal.τ).loc Cert.DhnRefIdeal.main_arg1)
      ∧ r.2.mem ((c.tc : Thread Cert.DhnRefIdeal.nD Cert.DhnRefIdeal.τ).loc Cert.DhnRefIdeal.main_arg2) = m ((c.tc : Thread Cert.DhnRefIdeal.nD Cert.DhnRefIdeal.τ).loc Cert.DhnRefIdeal.main_arg2)
      ∧ r.2.mem ((c.tc : Thread Cert.DhnRefIdeal.nD Cert.DhnRefIdeal.τ).loc Cert.DhnRefIdeal.main_arg3) = m ((c.tc : Thread Cert.DhnRefIdeal.nD Cert.DhnRefIdeal.τ).loc Cert.DhnRefIdeal.main_arg3)
      ∧ r.2.mem ((c.tc : Thread Cert.DhnRefIdeal.nD Cert.DhnRefIdeal.τ).loc Cert.DhnRefIdeal.main_arg4) = m ((c.tc : Thread Cert.DhnRefIdeal.nD Cert.DhnRefIdeal.τ).loc Cert.DhnRefIdeal.main_arg4))
      ∧ r.2.sem = fun _ => 0)

def quiescent_Dwin [hDwin : Cert.Dwin.Facts] : Prop :=
  ∀ (m : (ℓ : Loc Cert.Dwin.nD Cert.Dwin.τ Cert.Dwin.sig) → Buf (Elt Bits) ℓ) (g : Dev Cert.Dwin.nD → PrngReg), Pre_Dwin m →
    θ_run (Cert.Dwin.defs (F := Bits)) (onTc (τ := Cert.Dwin.τ) (Cert.Dwin.main (F := Bits))) ⟨m, fun _ => 0, g⟩ (fun r => (∀ c : Dev Cert.Dwin.nD,
      r.2.mem ((c.tc : Thread Cert.Dwin.nD Cert.Dwin.τ).loc Cert.Dwin.main_arg0) = m ((c.tc : Thread Cert.Dwin.nD Cert.Dwin.τ).loc Cert.Dwin.main_arg0)
      ∧ r.2.mem ((c.tc : Thread Cert.Dwin.nD Cert.Dwin.τ).loc Cert.Dwin.main_arg1) = m ((c.tc : Thread Cert.Dwin.nD Cert.Dwin.τ).loc Cert.Dwin.main_arg1))
      ∧ r.2.sem = fun _ => 0)

def quiescent_DwinIdeal [hDwinIdeal : Cert.DwinIdeal.Facts] : Prop :=
  ∀ (m : (ℓ : Loc Cert.DwinIdeal.nD Cert.DwinIdeal.τ Cert.DwinIdeal.sig) → Buf (Elt Ideal) ℓ) (g : Dev Cert.DwinIdeal.nD → PrngReg), Pre_DwinIdeal m →
    θ_run (Cert.DwinIdeal.defs (F := Ideal)) (onTc (τ := Cert.DwinIdeal.τ) (Cert.DwinIdeal.main (F := Ideal))) ⟨m, fun _ => 0, g⟩ (fun r => (∀ c : Dev Cert.DwinIdeal.nD,
      r.2.mem ((c.tc : Thread Cert.DwinIdeal.nD Cert.DwinIdeal.τ).loc Cert.DwinIdeal.main_arg0) = m ((c.tc : Thread Cert.DwinIdeal.nD Cert.DwinIdeal.τ).loc Cert.DwinIdeal.main_arg0)
      ∧ r.2.mem ((c.tc : Thread Cert.DwinIdeal.nD Cert.DwinIdeal.τ).loc Cert.DwinIdeal.main_arg1) = m ((c.tc : Thread Cert.DwinIdeal.nD Cert.DwinIdeal.τ).loc Cert.DwinIdeal.main_arg1))
      ∧ r.2.sem = fun _ => 0)

def quiescent_DwinRefIdeal [hDwinRefIdeal : Cert.DwinRefIdeal.Facts] : Prop :=
  ∀ (m : (ℓ : Loc Cert.DwinRefIdeal.nD Cert.DwinRefIdeal.τ Cert.DwinRefIdeal.sig) → Buf (Elt Ideal) ℓ) (g : Dev Cert.DwinRefIdeal.nD → PrngReg), Pre_DwinRefIdeal m →
    θ_run (Cert.DwinRefIdeal.defs (F := Ideal)) (onTc (τ := Cert.DwinRefIdeal.τ) (Cert.DwinRefIdeal.main (F := Ideal))) ⟨m, fun _ => 0, g⟩ (fun r => (∀ c : Dev Cert.DwinRefIdeal.nD,
      r.2.mem ((c.tc : Thread Cert.DwinRefIdeal.nD Cert.DwinRefIdeal.τ).loc Cert.DwinRefIdeal.main_arg0) = m ((c.tc : Thread Cert.DwinRefIdeal.nD Cert.DwinRefIdeal.τ).loc Cert.DwinRefIdeal.main_arg0)
      ∧ r.2.mem ((c.tc : Thread Cert.DwinRefIdeal.nD Cert.DwinRefIdeal.τ).loc Cert.DwinRefIdeal.main_arg1) = m ((c.tc : Thread Cert.DwinRefIdeal.nD Cert.DwinRefIdeal.τ).loc Cert.DwinRefIdeal.main_arg1))
      ∧ r.2.sem = fun _ => 0)

def quiescent_DwinQ [hDwinQ : Cert.DwinQ.Facts] : Prop :=
  ∀ (m : (ℓ : Loc Cert.DwinQ.nD Cert.DwinQ.τ Cert.DwinQ.sig) → Buf (Elt Bits) ℓ) (g : Dev Cert.DwinQ.nD → PrngReg), Pre_DwinQ m →
    θ_run (Cert.DwinQ.defs (F := Bits)) (onTc (τ := Cert.DwinQ.τ) (Cert.DwinQ.main (F := Bits))) ⟨m, fun _ => 0, g⟩ (fun r => (∀ c : Dev Cert.DwinQ.nD,
      r.2.mem ((c.tc : Thread Cert.DwinQ.nD Cert.DwinQ.τ).loc Cert.DwinQ.main_arg0) = m ((c.tc : Thread Cert.DwinQ.nD Cert.DwinQ.τ).loc Cert.DwinQ.main_arg0)
      ∧ r.2.mem ((c.tc : Thread Cert.DwinQ.nD Cert.DwinQ.τ).loc Cert.DwinQ.main_arg1) = m ((c.tc : Thread Cert.DwinQ.nD Cert.DwinQ.τ).loc Cert.DwinQ.main_arg1))
      ∧ r.2.sem = fun _ => 0)

def quiescent_DwinQIdeal [hDwinQIdeal : Cert.DwinQIdeal.Facts] : Prop :=
  ∀ (m : (ℓ : Loc Cert.DwinQIdeal.nD Cert.DwinQIdeal.τ Cert.DwinQIdeal.sig) → Buf (Elt Ideal) ℓ) (g : Dev Cert.DwinQIdeal.nD → PrngReg), Pre_DwinQIdeal m →
    θ_run (Cert.DwinQIdeal.defs (F := Ideal)) (onTc (τ := Cert.DwinQIdeal.τ) (Cert.DwinQIdeal.main (F := Ideal))) ⟨m, fun _ => 0, g⟩ (fun r => (∀ c : Dev Cert.DwinQIdeal.nD,
      r.2.mem ((c.tc : Thread Cert.DwinQIdeal.nD Cert.DwinQIdeal.τ).loc Cert.DwinQIdeal.main_arg0) = m ((c.tc : Thread Cert.DwinQIdeal.nD Cert.DwinQIdeal.τ).loc Cert.DwinQIdeal.main_arg0)
      ∧ r.2.mem ((c.tc : Thread Cert.DwinQIdeal.nD Cert.DwinQIdeal.τ).loc Cert.DwinQIdeal.main_arg1) = m ((c.tc : Thread Cert.DwinQIdeal.nD Cert.DwinQIdeal.τ).loc Cert.DwinQIdeal.main_arg1))
      ∧ r.2.sem = fun _ => 0)

def quiescent_DwinQRefIdeal [hDwinQRefIdeal : Cert.DwinQRefIdeal.Facts] : Prop :=
  ∀ (m : (ℓ : Loc Cert.DwinQRefIdeal.nD Cert.DwinQRefIdeal.τ Cert.DwinQRefIdeal.sig) → Buf (Elt Ideal) ℓ) (g : Dev Cert.DwinQRefIdeal.nD → PrngReg), Pre_DwinQRefIdeal m →
    θ_run (Cert.DwinQRefIdeal.defs (F := Ideal)) (onTc (τ := Cert.DwinQRefIdeal.τ) (Cert.DwinQRefIdeal.main (F := Ideal))) ⟨m, fun _ => 0, g⟩ (fun r => (∀ c : Dev Cert.DwinQRefIdeal.nD,
      r.2.mem ((c.tc : Thread Cert.DwinQRefIdeal.nD Cert.DwinQRefIdeal.τ).loc Cert.DwinQRefIdeal.main_arg0) = m ((c.tc : Thread Cert.DwinQRefIdeal.nD Cert.DwinQRefIdeal.τ).loc Cert.DwinQRefIdeal.main_arg0)
      ∧ r.2.mem ((c.tc : Thread Cert.DwinQRefIdeal.nD Cert.DwinQRefIdeal.τ).loc Cert.DwinQRefIdeal.main_arg1) = m ((c.tc : Thread Cert.DwinQRefIdeal.nD Cert.DwinQRefIdeal.τ).loc Cert.DwinQRefIdeal.main_arg1))
      ∧ r.2.sem = fun _ => 0)

def quiescent_Dwo [hDwo : Cert.Dwo.Facts] : Prop :=
  ∀ (m : (ℓ : Loc Cert.Dwo.nD Cert.Dwo.τ Cert.Dwo.sig) → Buf (Elt Bits) ℓ) (g : Dev Cert.Dwo.nD → PrngReg), Pre_Dwo m →
    θ_run (Cert.Dwo.defs (F := Bits)) (onTc (τ := Cert.Dwo.τ) (Cert.Dwo.main (F := Bits))) ⟨m, fun _ => 0, g⟩ (fun r => (∀ c : Dev Cert.Dwo.nD,
      r.2.mem ((c.tc : Thread Cert.Dwo.nD Cert.Dwo.τ).loc Cert.Dwo.main_arg0) = m ((c.tc : Thread Cert.Dwo.nD Cert.Dwo.τ).loc Cert.Dwo.main_arg0)
      ∧ r.2.mem ((c.tc : Thread Cert.Dwo.nD Cert.Dwo.τ).loc Cert.Dwo.main_arg1) = m ((c.tc : Thread Cert.Dwo.nD Cert.Dwo.τ).loc Cert.Dwo.main_arg1))
      ∧ r.2.sem = fun _ => 0)

def quiescent_DwoIdeal [hDwoIdeal : Cert.DwoIdeal.Facts] : Prop :=
  ∀ (m : (ℓ : Loc Cert.DwoIdeal.nD Cert.DwoIdeal.τ Cert.DwoIdeal.sig) → Buf (Elt Ideal) ℓ) (g : Dev Cert.DwoIdeal.nD → PrngReg), Pre_DwoIdeal m →
    θ_run (Cert.DwoIdeal.defs (F := Ideal)) (onTc (τ := Cert.DwoIdeal.τ) (Cert.DwoIdeal.main (F := Ideal))) ⟨m, fun _ => 0, g⟩ (fun r => (∀ c : Dev Cert.DwoIdeal.nD,
      r.2.mem ((c.tc : Thread Cert.DwoIdeal.nD Cert.DwoIdeal.τ).loc Cert.DwoIdeal.main_arg0) = m ((c.tc : Thread Cert.DwoIdeal.nD Cert.DwoIdeal.τ).loc Cert.DwoIdeal.main_arg0)
      ∧ r.2.mem ((c.tc : Thread Cert.DwoIdeal.nD Cert.DwoIdeal.τ).loc Cert.DwoIdeal.main_arg1) = m ((c.tc : Thread Cert.DwoIdeal.nD Cert.DwoIdeal.τ).loc Cert.DwoIdeal.main_arg1))
      ∧ r.2.sem = fun _ => 0)

def quiescent_DwoRefIdeal [hDwoRefIdeal : Cert.DwoRefIdeal.Facts] : Prop :=
  ∀ (m : (ℓ : Loc Cert.DwoRefIdeal.nD Cert.DwoRefIdeal.τ Cert.DwoRefIdeal.sig) → Buf (Elt Ideal) ℓ) (g : Dev Cert.DwoRefIdeal.nD → PrngReg), Pre_DwoRefIdeal m →
    θ_run (Cert.DwoRefIdeal.defs (F := Ideal)) (onTc (τ := Cert.DwoRefIdeal.τ) (Cert.DwoRefIdeal.main (F := Ideal))) ⟨m, fun _ => 0, g⟩ (fun r => (∀ c : Dev Cert.DwoRefIdeal.nD,
      r.2.mem ((c.tc : Thread Cert.DwoRefIdeal.nD Cert.DwoRefIdeal.τ).loc Cert.DwoRefIdeal.main_arg0) = m ((c.tc : Thread Cert.DwoRefIdeal.nD Cert.DwoRefIdeal.τ).loc Cert.DwoRefIdeal.main_arg0)
      ∧ r.2.mem ((c.tc : Thread Cert.DwoRefIdeal.nD Cert.DwoRefIdeal.τ).loc Cert.DwoRefIdeal.main_arg1) = m ((c.tc : Thread Cert.DwoRefIdeal.nD Cert.DwoRefIdeal.τ).loc Cert.DwoRefIdeal.main_arg1))
      ∧ r.2.sem = fun _ => 0)

def quiescent_Dwg [hDwg : Cert.Dwg.Facts] : Prop :=
  ∀ (m : (ℓ : Loc Cert.Dwg.nD Cert.Dwg.τ Cert.Dwg.sig) → Buf (Elt Bits) ℓ) (g : Dev Cert.Dwg.nD → PrngReg), Pre_Dwg m →
    θ_run (Cert.Dwg.defs (F := Bits)) (onTc (τ := Cert.Dwg.τ) (Cert.Dwg.main (F := Bits))) ⟨m, fun _ => 0, g⟩ (fun r => (∀ c : Dev Cert.Dwg.nD,
      r.2.mem ((c.tc : Thread Cert.Dwg.nD Cert.Dwg.τ).loc Cert.Dwg.main_arg0) = m ((c.tc : Thread Cert.Dwg.nD Cert.Dwg.τ).loc Cert.Dwg.main_arg0)
      ∧ r.2.mem ((c.tc : Thread Cert.Dwg.nD Cert.Dwg.τ).loc Cert.Dwg.main_arg1) = m ((c.tc : Thread Cert.Dwg.nD Cert.Dwg.τ).loc Cert.Dwg.main_arg1))
      ∧ r.2.sem = fun _ => 0)

def quiescent_DwgIdeal [hDwgIdeal : Cert.DwgIdeal.Facts] : Prop :=
  ∀ (m : (ℓ : Loc Cert.DwgIdeal.nD Cert.DwgIdeal.τ Cert.DwgIdeal.sig) → Buf (Elt Ideal) ℓ) (g : Dev Cert.DwgIdeal.nD → PrngReg), Pre_DwgIdeal m →
    θ_run (Cert.DwgIdeal.defs (F := Ideal)) (onTc (τ := Cert.DwgIdeal.τ) (Cert.DwgIdeal.main (F := Ideal))) ⟨m, fun _ => 0, g⟩ (fun r => (∀ c : Dev Cert.DwgIdeal.nD,
      r.2.mem ((c.tc : Thread Cert.DwgIdeal.nD Cert.DwgIdeal.τ).loc Cert.DwgIdeal.main_arg0) = m ((c.tc : Thread Cert.DwgIdeal.nD Cert.DwgIdeal.τ).loc Cert.DwgIdeal.main_arg0)
      ∧ r.2.mem ((c.tc : Thread Cert.DwgIdeal.nD Cert.DwgIdeal.τ).loc Cert.DwgIdeal.main_arg1) = m ((c.tc : Thread Cert.DwgIdeal.nD Cert.DwgIdeal.τ).loc Cert.DwgIdeal.main_arg1))
      ∧ r.2.sem = fun _ => 0)

def quiescent_DwgRefIdeal [hDwgRefIdeal : Cert.DwgRefIdeal.Facts] : Prop :=
  ∀ (m : (ℓ : Loc Cert.DwgRefIdeal.nD Cert.DwgRefIdeal.τ Cert.DwgRefIdeal.sig) → Buf (Elt Ideal) ℓ) (g : Dev Cert.DwgRefIdeal.nD → PrngReg), Pre_DwgRefIdeal m →
    θ_run (Cert.DwgRefIdeal.defs (F := Ideal)) (onTc (τ := Cert.DwgRefIdeal.τ) (Cert.DwgRefIdeal.main (F := Ideal))) ⟨m, fun _ => 0, g⟩ (fun r => (∀ c : Dev Cert.DwgRefIdeal.nD,
      r.2.mem ((c.tc : Thread Cert.DwgRefIdeal.nD Cert.DwgRefIdeal.τ).loc Cert.DwgRefIdeal.main_arg0) = m ((c.tc : Thread Cert.DwgRefIdeal.nD Cert.DwgRefIdeal.τ).loc Cert.DwgRefIdeal.main_arg0)
      ∧ r.2.mem ((c.tc : Thread Cert.DwgRefIdeal.nD Cert.DwgRefIdeal.τ).loc Cert.DwgRefIdeal.main_arg1) = m ((c.tc : Thread Cert.DwgRefIdeal.nD Cert.DwgRefIdeal.τ).loc Cert.DwgRefIdeal.main_arg1))
      ∧ r.2.sem = fun _ => 0)

def quiescent_Dwu [hDwu : Cert.Dwu.Facts] : Prop :=
  ∀ (m : (ℓ : Loc Cert.Dwu.nD Cert.Dwu.τ Cert.Dwu.sig) → Buf (Elt Bits) ℓ) (g : Dev Cert.Dwu.nD → PrngReg), Pre_Dwu m →
    θ_run (Cert.Dwu.defs (F := Bits)) (onTc (τ := Cert.Dwu.τ) (Cert.Dwu.main (F := Bits))) ⟨m, fun _ => 0, g⟩ (fun r => (∀ c : Dev Cert.Dwu.nD,
      r.2.mem ((c.tc : Thread Cert.Dwu.nD Cert.Dwu.τ).loc Cert.Dwu.main_arg0) = m ((c.tc : Thread Cert.Dwu.nD Cert.Dwu.τ).loc Cert.Dwu.main_arg0)
      ∧ r.2.mem ((c.tc : Thread Cert.Dwu.nD Cert.Dwu.τ).loc Cert.Dwu.main_arg1) = m ((c.tc : Thread Cert.Dwu.nD Cert.Dwu.τ).loc Cert.Dwu.main_arg1))
      ∧ r.2.sem = fun _ => 0)

def quiescent_DwuIdeal [hDwuIdeal : Cert.DwuIdeal.Facts] : Prop :=
  ∀ (m : (ℓ : Loc Cert.DwuIdeal.nD Cert.DwuIdeal.τ Cert.DwuIdeal.sig) → Buf (Elt Ideal) ℓ) (g : Dev Cert.DwuIdeal.nD → PrngReg), Pre_DwuIdeal m →
    θ_run (Cert.DwuIdeal.defs (F := Ideal)) (onTc (τ := Cert.DwuIdeal.τ) (Cert.DwuIdeal.main (F := Ideal))) ⟨m, fun _ => 0, g⟩ (fun r => (∀ c : Dev Cert.DwuIdeal.nD,
      r.2.mem ((c.tc : Thread Cert.DwuIdeal.nD Cert.DwuIdeal.τ).loc Cert.DwuIdeal.main_arg0) = m ((c.tc : Thread Cert.DwuIdeal.nD Cert.DwuIdeal.τ).loc Cert.DwuIdeal.main_arg0)
      ∧ r.2.mem ((c.tc : Thread Cert.DwuIdeal.nD Cert.DwuIdeal.τ).loc Cert.DwuIdeal.main_arg1) = m ((c.tc : Thread Cert.DwuIdeal.nD Cert.DwuIdeal.τ).loc Cert.DwuIdeal.main_arg1))
      ∧ r.2.sem = fun _ => 0)

def quiescent_DwuRefIdeal [hDwuRefIdeal : Cert.DwuRefIdeal.Facts] : Prop :=
  ∀ (m : (ℓ : Loc Cert.DwuRefIdeal.nD Cert.DwuRefIdeal.τ Cert.DwuRefIdeal.sig) → Buf (Elt Ideal) ℓ) (g : Dev Cert.DwuRefIdeal.nD → PrngReg), Pre_DwuRefIdeal m →
    θ_run (Cert.DwuRefIdeal.defs (F := Ideal)) (onTc (τ := Cert.DwuRefIdeal.τ) (Cert.DwuRefIdeal.main (F := Ideal))) ⟨m, fun _ => 0, g⟩ (fun r => (∀ c : Dev Cert.DwuRefIdeal.nD,
      r.2.mem ((c.tc : Thread Cert.DwuRefIdeal.nD Cert.DwuRefIdeal.τ).loc Cert.DwuRefIdeal.main_arg0) = m ((c.tc : Thread Cert.DwuRefIdeal.nD Cert.DwuRefIdeal.τ).loc Cert.DwuRefIdeal.main_arg0)
      ∧ r.2.mem ((c.tc : Thread Cert.DwuRefIdeal.nD Cert.DwuRefIdeal.τ).loc Cert.DwuRefIdeal.main_arg1) = m ((c.tc : Thread Cert.DwuRefIdeal.nD Cert.DwuRefIdeal.τ).loc Cert.DwuRefIdeal.main_arg1))
      ∧ r.2.sem = fun _ => 0)

def quiescent_Dh1 [hDh1 : Cert.Dh1.Facts] : Prop :=
  ∀ (m : (ℓ : Loc Cert.Dh1.nD Cert.Dh1.τ Cert.Dh1.sig) → Buf (Elt Bits) ℓ) (g : Dev Cert.Dh1.nD → PrngReg), Pre_Dh1 m →
    θ_run (Cert.Dh1.defs (F := Bits)) (onTc (τ := Cert.Dh1.τ) (Cert.Dh1.main (F := Bits))) ⟨m, fun _ => 0, g⟩ (fun r => (∀ c : Dev Cert.Dh1.nD,
      r.2.mem ((c.tc : Thread Cert.Dh1.nD Cert.Dh1.τ).loc Cert.Dh1.main_arg0) = m ((c.tc : Thread Cert.Dh1.nD Cert.Dh1.τ).loc Cert.Dh1.main_arg0)
      ∧ r.2.mem ((c.tc : Thread Cert.Dh1.nD Cert.Dh1.τ).loc Cert.Dh1.main_arg1) = m ((c.tc : Thread Cert.Dh1.nD Cert.Dh1.τ).loc Cert.Dh1.main_arg1)
      ∧ r.2.mem ((c.tc : Thread Cert.Dh1.nD Cert.Dh1.τ).loc Cert.Dh1.main_arg2) = m ((c.tc : Thread Cert.Dh1.nD Cert.Dh1.τ).loc Cert.Dh1.main_arg2)
      ∧ r.2.mem ((c.tc : Thread Cert.Dh1.nD Cert.Dh1.τ).loc Cert.Dh1.main_arg3) = m ((c.tc : Thread Cert.Dh1.nD Cert.Dh1.τ).loc Cert.Dh1.main_arg3)
      ∧ r.2.mem ((c.tc : Thread Cert.Dh1.nD Cert.Dh1.τ).loc Cert.Dh1.main_arg4) = m ((c.tc : Thread Cert.Dh1.nD Cert.Dh1.τ).loc Cert.Dh1.main_arg4))
      ∧ r.2.sem = fun _ => 0)

def quiescent_Dh1Ideal [hDh1Ideal : Cert.Dh1Ideal.Facts] : Prop :=
  ∀ (m : (ℓ : Loc Cert.Dh1Ideal.nD Cert.Dh1Ideal.τ Cert.Dh1Ideal.sig) → Buf (Elt Ideal) ℓ) (g : Dev Cert.Dh1Ideal.nD → PrngReg), Pre_Dh1Ideal m →
    θ_run (Cert.Dh1Ideal.defs (F := Ideal)) (onTc (τ := Cert.Dh1Ideal.τ) (Cert.Dh1Ideal.main (F := Ideal))) ⟨m, fun _ => 0, g⟩ (fun r => (∀ c : Dev Cert.Dh1Ideal.nD,
      r.2.mem ((c.tc : Thread Cert.Dh1Ideal.nD Cert.Dh1Ideal.τ).loc Cert.Dh1Ideal.main_arg0) = m ((c.tc : Thread Cert.Dh1Ideal.nD Cert.Dh1Ideal.τ).loc Cert.Dh1Ideal.main_arg0)
      ∧ r.2.mem ((c.tc : Thread Cert.Dh1Ideal.nD Cert.Dh1Ideal.τ).loc Cert.Dh1Ideal.main_arg1) = m ((c.tc : Thread Cert.Dh1Ideal.nD Cert.Dh1Ideal.τ).loc Cert.Dh1Ideal.main_arg1)
      ∧ r.2.mem ((c.tc : Thread Cert.Dh1Ideal.nD Cert.Dh1Ideal.τ).loc Cert.Dh1Ideal.main_arg2) = m ((c.tc : Thread Cert.Dh1Ideal.nD Cert.Dh1Ideal.τ).loc Cert.Dh1Ideal.main_arg2)
      ∧ r.2.mem ((c.tc : Thread Cert.Dh1Ideal.nD Cert.Dh1Ideal.τ).loc Cert.Dh1Ideal.main_arg3) = m ((c.tc : Thread Cert.Dh1Ideal.nD Cert.Dh1Ideal.τ).loc Cert.Dh1Ideal.main_arg3)
      ∧ r.2.mem ((c.tc : Thread Cert.Dh1Ideal.nD Cert.Dh1Ideal.τ).loc Cert.Dh1Ideal.main_arg4) = m ((c.tc : Thread Cert.Dh1Ideal.nD Cert.Dh1Ideal.τ).loc Cert.Dh1Ideal.main_arg4))
      ∧ r.2.sem = fun _ => 0)

def quiescent_Dh1RefIdeal [hDh1RefIdeal : Cert.Dh1RefIdeal.Facts] : Prop :=
  ∀ (m : (ℓ : Loc Cert.Dh1RefIdeal.nD Cert.Dh1RefIdeal.τ Cert.Dh1RefIdeal.sig) → Buf (Elt Ideal) ℓ) (g : Dev Cert.Dh1RefIdeal.nD → PrngReg), Pre_Dh1RefIdeal m →
    θ_run (Cert.Dh1RefIdeal.defs (F := Ideal)) (onTc (τ := Cert.Dh1RefIdeal.τ) (Cert.Dh1RefIdeal.main (F := Ideal))) ⟨m, fun _ => 0, g⟩ (fun r => (∀ c : Dev Cert.Dh1RefIdeal.nD,
      r.2.mem ((c.tc : Thread Cert.Dh1RefIdeal.nD Cert.Dh1RefIdeal.τ).loc Cert.Dh1RefIdeal.main_arg0) = m ((c.tc : Thread Cert.Dh1RefIdeal.nD Cert.Dh1RefIdeal.τ).loc Cert.Dh1RefIdeal.main_arg0)
      ∧ r.2.mem ((c.tc : Thread Cert.Dh1RefIdeal.nD Cert.Dh1RefIdeal.τ).loc Cert.Dh1RefIdeal.main_arg1) = m ((c.tc : Thread Cert.Dh1RefIdeal.nD Cert.Dh1RefIdeal.τ).loc Cert.Dh1RefIdeal.main_arg1)
      ∧ r.2.mem ((c.tc : Thread Cert.Dh1RefIdeal.nD Cert.Dh1RefIdeal.τ).loc Cert.Dh1RefIdeal.main_arg2) = m ((c.tc : Thread Cert.Dh1RefIdeal.nD Cert.Dh1RefIdeal.τ).loc Cert.Dh1RefIdeal.main_arg2)
      ∧ r.2.mem ((c.tc : Thread Cert.Dh1RefIdeal.nD Cert.Dh1RefIdeal.τ).loc Cert.Dh1RefIdeal.main_arg3) = m ((c.tc : Thread Cert.Dh1RefIdeal.nD Cert.Dh1RefIdeal.τ).loc Cert.Dh1RefIdeal.main_arg3)
      ∧ r.2.mem ((c.tc : Thread Cert.Dh1RefIdeal.nD Cert.Dh1RefIdeal.τ).loc Cert.Dh1RefIdeal.main_arg4) = m ((c.tc : Thread Cert.Dh1RefIdeal.nD Cert.Dh1RefIdeal.τ).loc Cert.Dh1RefIdeal.main_arg4))
      ∧ r.2.sem = fun _ => 0)

def quiescent_Dy [hDy : Cert.Dy.Facts] : Prop :=
  ∀ (m : (ℓ : Loc Cert.Dy.nD Cert.Dy.τ Cert.Dy.sig) → Buf (Elt Bits) ℓ) (g : Dev Cert.Dy.nD → PrngReg), Pre_Dy m →
    θ_run (Cert.Dy.defs (F := Bits)) (onTc (τ := Cert.Dy.τ) (Cert.Dy.main (F := Bits))) ⟨m, fun _ => 0, g⟩ (fun r => (∀ c : Dev Cert.Dy.nD,
      r.2.mem ((c.tc : Thread Cert.Dy.nD Cert.Dy.τ).loc Cert.Dy.main_arg0) = m ((c.tc : Thread Cert.Dy.nD Cert.Dy.τ).loc Cert.Dy.main_arg0)
      ∧ r.2.mem ((c.tc : Thread Cert.Dy.nD Cert.Dy.τ).loc Cert.Dy.main_arg1) = m ((c.tc : Thread Cert.Dy.nD Cert.Dy.τ).loc Cert.Dy.main_arg1)
      ∧ r.2.mem ((c.tc : Thread Cert.Dy.nD Cert.Dy.τ).loc Cert.Dy.main_arg2) = m ((c.tc : Thread Cert.Dy.nD Cert.Dy.τ).loc Cert.Dy.main_arg2)
      ∧ r.2.mem ((c.tc : Thread Cert.Dy.nD Cert.Dy.τ).loc Cert.Dy.main_arg3) = m ((c.tc : Thread Cert.Dy.nD Cert.Dy.τ).loc Cert.Dy.main_arg3))
      ∧ r.2.sem = fun _ => 0)

def quiescent_DyIdeal [hDyIdeal : Cert.DyIdeal.Facts] : Prop :=
  ∀ (m : (ℓ : Loc Cert.DyIdeal.nD Cert.DyIdeal.τ Cert.DyIdeal.sig) → Buf (Elt Ideal) ℓ) (g : Dev Cert.DyIdeal.nD → PrngReg), Pre_DyIdeal m →
    θ_run (Cert.DyIdeal.defs (F := Ideal)) (onTc (τ := Cert.DyIdeal.τ) (Cert.DyIdeal.main (F := Ideal))) ⟨m, fun _ => 0, g⟩ (fun r => (∀ c : Dev Cert.DyIdeal.nD,
      r.2.mem ((c.tc : Thread Cert.DyIdeal.nD Cert.DyIdeal.τ).loc Cert.DyIdeal.main_arg0) = m ((c.tc : Thread Cert.DyIdeal.nD Cert.DyIdeal.τ).loc Cert.DyIdeal.main_arg0)
      ∧ r.2.mem ((c.tc : Thread Cert.DyIdeal.nD Cert.DyIdeal.τ).loc Cert.DyIdeal.main_arg1) = m ((c.tc : Thread Cert.DyIdeal.nD Cert.DyIdeal.τ).loc Cert.DyIdeal.main_arg1)
      ∧ r.2.mem ((c.tc : Thread Cert.DyIdeal.nD Cert.DyIdeal.τ).loc Cert.DyIdeal.main_arg2) = m ((c.tc : Thread Cert.DyIdeal.nD Cert.DyIdeal.τ).loc Cert.DyIdeal.main_arg2)
      ∧ r.2.mem ((c.tc : Thread Cert.DyIdeal.nD Cert.DyIdeal.τ).loc Cert.DyIdeal.main_arg3) = m ((c.tc : Thread Cert.DyIdeal.nD Cert.DyIdeal.τ).loc Cert.DyIdeal.main_arg3))
      ∧ r.2.sem = fun _ => 0)

def quiescent_DyRefIdeal [hDyRefIdeal : Cert.DyRefIdeal.Facts] : Prop :=
  ∀ (m : (ℓ : Loc Cert.DyRefIdeal.nD Cert.DyRefIdeal.τ Cert.DyRefIdeal.sig) → Buf (Elt Ideal) ℓ) (g : Dev Cert.DyRefIdeal.nD → PrngReg), Pre_DyRefIdeal m →
    θ_run (Cert.DyRefIdeal.defs (F := Ideal)) (onTc (τ := Cert.DyRefIdeal.τ) (Cert.DyRefIdeal.main (F := Ideal))) ⟨m, fun _ => 0, g⟩ (fun r => (∀ c : Dev Cert.DyRefIdeal.nD,
      r.2.mem ((c.tc : Thread Cert.DyRefIdeal.nD Cert.DyRefIdeal.τ).loc Cert.DyRefIdeal.main_arg0) = m ((c.tc : Thread Cert.DyRefIdeal.nD Cert.DyRefIdeal.τ).loc Cert.DyRefIdeal.main_arg0)
      ∧ r.2.mem ((c.tc : Thread Cert.DyRefIdeal.nD Cert.DyRefIdeal.τ).loc Cert.DyRefIdeal.main_arg1) = m ((c.tc : Thread Cert.DyRefIdeal.nD Cert.DyRefIdeal.τ).loc Cert.DyRefIdeal.main_arg1)
      ∧ r.2.mem ((c.tc : Thread Cert.DyRefIdeal.nD Cert.DyRefIdeal.τ).loc Cert.DyRefIdeal.main_arg2) = m ((c.tc : Thread Cert.DyRefIdeal.nD Cert.DyRefIdeal.τ).loc Cert.DyRefIdeal.main_arg2)
      ∧ r.2.mem ((c.tc : Thread Cert.DyRefIdeal.nD Cert.DyRefIdeal.τ).loc Cert.DyRefIdeal.main_arg3) = m ((c.tc : Thread Cert.DyRefIdeal.nD Cert.DyRefIdeal.τ).loc Cert.DyRefIdeal.main_arg3))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2))
      ∧ r.2.sem = fun _ => 0)

def quiescent_Fin [hFin : Cert.Fin.Facts] : Prop :=
  ∀ (m : (ℓ : Loc Cert.Fin.nD Cert.Fin.τ Cert.Fin.sig) → Buf (Elt Bits) ℓ) (g : Dev Cert.Fin.nD → PrngReg), Pre_Fin m →
    θ_run (Cert.Fin.defs (F := Bits)) (onTc (τ := Cert.Fin.τ) (Cert.Fin.main (F := Bits))) ⟨m, fun _ => 0, g⟩ (fun r => (∀ c : Dev Cert.Fin.nD,
      r.2.mem ((c.tc : Thread Cert.Fin.nD Cert.Fin.τ).loc Cert.Fin.main_arg0) = m ((c.tc : Thread Cert.Fin.nD Cert.Fin.τ).loc Cert.Fin.main_arg0)
      ∧ r.2.mem ((c.tc : Thread Cert.Fin.nD Cert.Fin.τ).loc Cert.Fin.main_arg1) = m ((c.tc : Thread Cert.Fin.nD Cert.Fin.τ).loc Cert.Fin.main_arg1)
      ∧ r.2.mem ((c.tc : Thread Cert.Fin.nD Cert.Fin.τ).loc Cert.Fin.main_arg2) = m ((c.tc : Thread Cert.Fin.nD Cert.Fin.τ).loc Cert.Fin.main_arg2))
      ∧ r.2.sem = fun _ => 0)

def quiescent_FinIdeal [hFinIdeal : Cert.FinIdeal.Facts] : Prop :=
  ∀ (m : (ℓ : Loc Cert.FinIdeal.nD Cert.FinIdeal.τ Cert.FinIdeal.sig) → Buf (Elt Ideal) ℓ) (g : Dev Cert.FinIdeal.nD → PrngReg), Pre_FinIdeal m →
    θ_run (Cert.FinIdeal.defs (F := Ideal)) (onTc (τ := Cert.FinIdeal.τ) (Cert.FinIdeal.main (F := Ideal))) ⟨m, fun _ => 0, g⟩ (fun r => (∀ c : Dev Cert.FinIdeal.nD,
      r.2.mem ((c.tc : Thread Cert.FinIdeal.nD Cert.FinIdeal.τ).loc Cert.FinIdeal.main_arg0) = m ((c.tc : Thread Cert.FinIdeal.nD Cert.FinIdeal.τ).loc Cert.FinIdeal.main_arg0)
      ∧ r.2.mem ((c.tc : Thread Cert.FinIdeal.nD Cert.FinIdeal.τ).loc Cert.FinIdeal.main_arg1) = m ((c.tc : Thread Cert.FinIdeal.nD Cert.FinIdeal.τ).loc Cert.FinIdeal.main_arg1)
      ∧ r.2.mem ((c.tc : Thread Cert.FinIdeal.nD Cert.FinIdeal.τ).loc Cert.FinIdeal.main_arg2) = m ((c.tc : Thread Cert.FinIdeal.nD Cert.FinIdeal.τ).loc Cert.FinIdeal.main_arg2))
      ∧ r.2.sem = fun _ => 0)

def quiescent_FinRefIdeal [hFinRefIdeal : Cert.FinRefIdeal.Facts] : Prop :=
  ∀ (m : (ℓ : Loc Cert.FinRefIdeal.nD Cert.FinRefIdeal.τ Cert.FinRefIdeal.sig) → Buf (Elt Ideal) ℓ) (g : Dev Cert.FinRefIdeal.nD → PrngReg), Pre_FinRefIdeal m →
    θ_run (Cert.FinRefIdeal.defs (F := Ideal)) (onTc (τ := Cert.FinRefIdeal.τ) (Cert.FinRefIdeal.main (F := Ideal))) ⟨m, fun _ => 0, g⟩ (fun r => (∀ c : Dev Cert.FinRefIdeal.nD,
      r.2.mem ((c.tc : Thread Cert.FinRefIdeal.nD Cert.FinRefIdeal.τ).loc Cert.FinRefIdeal.main_arg0) = m ((c.tc : Thread Cert.FinRefIdeal.nD Cert.FinRefIdeal.τ).loc Cert.FinRefIdeal.main_arg0)
      ∧ r.2.mem ((c.tc : Thread Cert.FinRefIdeal.nD Cert.FinRefIdeal.τ).loc Cert.FinRefIdeal.main_arg1) = m ((c.tc : Thread Cert.FinRefIdeal.nD Cert.FinRefIdeal.τ).loc Cert.FinRefIdeal.main_arg1)
      ∧ r.2.mem ((c.tc : Thread Cert.FinRefIdeal.nD Cert.FinRefIdeal.τ).loc Cert.FinRefIdeal.main_arg2) = m ((c.tc : Thread Cert.FinRefIdeal.nD Cert.FinRefIdeal.τ).loc Cert.FinRefIdeal.main_arg2))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3)
      ∧ r.2.mem ((c.tc : Thread Cert.Gate.nD Cert.Gate.τ).loc Cert.Gate.main_arg4) = m ((c.tc : Thread Cert.Gate.nD Cert.Gate.τ).loc Cert.Gate.main_arg4))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3)
      ∧ r.2.mem ((c.tc : Thread Cert.GateRefIdeal.nD Cert.GateRefIdeal.τ).loc Cert.GateRefIdeal.main_arg4) = m ((c.tc : Thread Cert.GateRefIdeal.nD Cert.GateRefIdeal.τ).loc Cert.GateRefIdeal.main_arg4))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Rms [hRms : Cert.Rms.Facts] : Prop :=
  ∀ (m : (ℓ : Loc Cert.Rms.nD Cert.Rms.τ Cert.Rms.sig) → Buf (Elt Bits) ℓ) (g : Dev Cert.Rms.nD → PrngReg), Pre_Rms m →
    θ_run (Cert.Rms.defs (F := Bits)) (onTc (τ := Cert.Rms.τ) (Cert.Rms.main (F := Bits))) ⟨m, fun _ => 0, g⟩ (fun r => (∀ c : Dev Cert.Rms.nD,
      r.2.mem ((c.tc : Thread Cert.Rms.nD Cert.Rms.τ).loc Cert.Rms.main_arg0) = m ((c.tc : Thread Cert.Rms.nD Cert.Rms.τ).loc Cert.Rms.main_arg0)
      ∧ r.2.mem ((c.tc : Thread Cert.Rms.nD Cert.Rms.τ).loc Cert.Rms.main_arg1) = m ((c.tc : Thread Cert.Rms.nD Cert.Rms.τ).loc Cert.Rms.main_arg1))
      ∧ r.2.sem = fun _ => 0)

def quiescent_RmsIdeal [hRmsIdeal : Cert.RmsIdeal.Facts] : Prop :=
  ∀ (m : (ℓ : Loc Cert.RmsIdeal.nD Cert.RmsIdeal.τ Cert.RmsIdeal.sig) → Buf (Elt Ideal) ℓ) (g : Dev Cert.RmsIdeal.nD → PrngReg), Pre_RmsIdeal m →
    θ_run (Cert.RmsIdeal.defs (F := Ideal)) (onTc (τ := Cert.RmsIdeal.τ) (Cert.RmsIdeal.main (F := Ideal))) ⟨m, fun _ => 0, g⟩ (fun r => (∀ c : Dev Cert.RmsIdeal.nD,
      r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
      ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1))
      ∧ r.2.sem = fun _ => 0)

def quiescent_RmsRefIdeal [hRmsRefIdeal : Cert.RmsRefIdeal.Facts] : Prop :=
  ∀ (m : (ℓ : Loc Cert.RmsRefIdeal.nD Cert.RmsRefIdeal.τ Cert.RmsRefIdeal.sig) → Buf (Elt Ideal) ℓ) (g : Dev Cert.RmsRefIdeal.nD → PrngReg), Pre_RmsRefIdeal m →
    θ_run (Cert.RmsRefIdeal.defs (F := Ideal)) (onTc (τ := Cert.RmsRefIdeal.τ) (Cert.RmsRefIdeal.main (F := Ideal))) ⟨m, fun _ => 0, g⟩ (fun r => (∀ c : Dev Cert.RmsRefIdeal.nD,
      r.2.mem ((c.tc : Thread Cert.RmsRefIdeal.nD Cert.RmsRefIdeal.τ).loc Cert.RmsRefIdeal.main_arg0) = m ((c.tc : Thread Cert.RmsRefIdeal.nD Cert.RmsRefIdeal.τ).loc Cert.RmsRefIdeal.main_arg0)
      ∧ r.2.mem ((c.tc : Thread Cert.RmsRefIdeal.nD Cert.RmsRefIdeal.τ).loc Cert.RmsRefIdeal.main_arg1) = m ((c.tc : Thread Cert.RmsRefIdeal.nD Cert.RmsRefIdeal.τ).loc Cert.RmsRefIdeal.main_arg1))
      ∧ r.2.sem = fun _ => 0)

def quiescent_AdWin [hAdWin : Cert.AdWin.Facts] : Prop :=
  ∀ (m : (ℓ : Loc Cert.AdWin.nD Cert.AdWin.τ Cert.AdWin.sig) → Buf (Elt Bits) ℓ) (g : Dev Cert.AdWin.nD → PrngReg), Pre_AdWin m →
    θ_run (Cert.AdWin.defs (F := Bits)) (onTc (τ := Cert.AdWin.τ) (Cert.AdWin.main (F := Bits))) ⟨m, fun _ => 0, g⟩ (fun r => (∀ c : Dev Cert.AdWin.nD,
      r.2.mem ((c.tc : Thread Cert.AdWin.nD Cert.AdWin.τ).loc Cert.AdWin.main_arg0) = m ((c.tc : Thread Cert.AdWin.nD Cert.AdWin.τ).loc Cert.AdWin.main_arg0)
      ∧ r.2.mem ((c.tc : Thread Cert.AdWin.nD Cert.AdWin.τ).loc Cert.AdWin.main_arg1) = m ((c.tc : Thread Cert.AdWin.nD Cert.AdWin.τ).loc Cert.AdWin.main_arg1)
      ∧ r.2.mem ((c.tc : Thread Cert.AdWin.nD Cert.AdWin.τ).loc Cert.AdWin.main_arg2) = m ((c.tc : Thread Cert.AdWin.nD Cert.AdWin.τ).loc Cert.AdWin.main_arg2)
      ∧ r.2.mem ((c.tc : Thread Cert.AdWin.nD Cert.AdWin.τ).loc Cert.AdWin.main_arg3) = m ((c.tc : Thread Cert.AdWin.nD Cert.AdWin.τ).loc Cert.AdWin.main_arg3)
      ∧ r.2.mem ((c.tc : Thread Cert.AdWin.nD Cert.AdWin.τ).loc Cert.AdWin.main_arg4) = m ((c.tc : Thread Cert.AdWin.nD Cert.AdWin.τ).loc Cert.AdWin.main_arg4)
      ∧ r.2.mem ((c.tc : Thread Cert.AdWin.nD Cert.AdWin.τ).loc Cert.AdWin.main_arg5) = m ((c.tc : Thread Cert.AdWin.nD Cert.AdWin.τ).loc Cert.AdWin.main_arg5)
      ∧ r.2.mem ((c.tc : Thread Cert.AdWin.nD Cert.AdWin.τ).loc Cert.AdWin.main_arg6) = m ((c.tc : Thread Cert.AdWin.nD Cert.AdWin.τ).loc Cert.AdWin.main_arg6)
      ∧ r.2.mem ((c.tc : Thread Cert.AdWin.nD Cert.AdWin.τ).loc Cert.AdWin.main_arg7) = m ((c.tc : Thread Cert.AdWin.nD Cert.AdWin.τ).loc Cert.AdWin.main_arg7))
      ∧ r.2.sem = fun _ => 0)

def quiescent_AdWinIdeal [hAdWinIdeal : Cert.AdWinIdeal.Facts] : Prop :=
  ∀ (m : (ℓ : Loc Cert.AdWinIdeal.nD Cert.AdWinIdeal.τ Cert.AdWinIdeal.sig) → Buf (Elt Ideal) ℓ) (g : Dev Cert.AdWinIdeal.nD → PrngReg), Pre_AdWinIdeal m →
    θ_run (Cert.AdWinIdeal.defs (F := Ideal)) (onTc (τ := Cert.AdWinIdeal.τ) (Cert.AdWinIdeal.main (F := Ideal))) ⟨m, fun _ => 0, g⟩ (fun r => (∀ c : Dev Cert.AdWinIdeal.nD,
      r.2.mem ((c.tc : Thread Cert.AdWinIdeal.nD Cert.AdWinIdeal.τ).loc Cert.AdWinIdeal.main_arg0) = m ((c.tc : Thread Cert.AdWinIdeal.nD Cert.AdWinIdeal.τ).loc Cert.AdWinIdeal.main_arg0)
      ∧ r.2.mem ((c.tc : Thread Cert.AdWinIdeal.nD Cert.AdWinIdeal.τ).loc Cert.AdWinIdeal.main_arg1) = m ((c.tc : Thread Cert.AdWinIdeal.nD Cert.AdWinIdeal.τ).loc Cert.AdWinIdeal.main_arg1)
      ∧ r.2.mem ((c.tc : Thread Cert.AdWinIdeal.nD Cert.AdWinIdeal.τ).loc Cert.AdWinIdeal.main_arg2) = m ((c.tc : Thread Cert.AdWinIdeal.nD Cert.AdWinIdeal.τ).loc Cert.AdWinIdeal.main_arg2)
      ∧ r.2.mem ((c.tc : Thread Cert.AdWinIdeal.nD Cert.AdWinIdeal.τ).loc Cert.AdWinIdeal.main_arg3) = m ((c.tc : Thread Cert.AdWinIdeal.nD Cert.AdWinIdeal.τ).loc Cert.AdWinIdeal.main_arg3)
      ∧ r.2.mem ((c.tc : Thread Cert.AdWinIdeal.nD Cert.AdWinIdeal.τ).loc Cert.AdWinIdeal.main_arg4) = m ((c.tc : Thread Cert.AdWinIdeal.nD Cert.AdWinIdeal.τ).loc Cert.AdWinIdeal.main_arg4)
      ∧ r.2.mem ((c.tc : Thread Cert.AdWinIdeal.nD Cert.AdWinIdeal.τ).loc Cert.AdWinIdeal.main_arg5) = m ((c.tc : Thread Cert.AdWinIdeal.nD Cert.AdWinIdeal.τ).loc Cert.AdWinIdeal.main_arg5)
      ∧ r.2.mem ((c.tc : Thread Cert.AdWinIdeal.nD Cert.AdWinIdeal.τ).loc Cert.AdWinIdeal.main_arg6) = m ((c.tc : Thread Cert.AdWinIdeal.nD Cert.AdWinIdeal.τ).loc Cert.AdWinIdeal.main_arg6)
      ∧ r.2.mem ((c.tc : Thread Cert.AdWinIdeal.nD Cert.AdWinIdeal.τ).loc Cert.AdWinIdeal.main_arg7) = m ((c.tc : Thread Cert.AdWinIdeal.nD Cert.AdWinIdeal.τ).loc Cert.AdWinIdeal.main_arg7))
      ∧ r.2.sem = fun _ => 0)

def quiescent_AdWinRefIdeal [hAdWinRefIdeal : Cert.AdWinRefIdeal.Facts] : Prop :=
  ∀ (m : (ℓ : Loc Cert.AdWinRefIdeal.nD Cert.AdWinRefIdeal.τ Cert.AdWinRefIdeal.sig) → Buf (Elt Ideal) ℓ) (g : Dev Cert.AdWinRefIdeal.nD → PrngReg), Pre_AdWinRefIdeal m →
    θ_run (Cert.AdWinRefIdeal.defs (F := Ideal)) (onTc (τ := Cert.AdWinRefIdeal.τ) (Cert.AdWinRefIdeal.main (F := Ideal))) ⟨m, fun _ => 0, g⟩ (fun r => (∀ c : Dev Cert.AdWinRefIdeal.nD,
      r.2.mem ((c.tc : Thread Cert.AdWinRefIdeal.nD Cert.AdWinRefIdeal.τ).loc Cert.AdWinRefIdeal.main_arg0) = m ((c.tc : Thread Cert.AdWinRefIdeal.nD Cert.AdWinRefIdeal.τ).loc Cert.AdWinRefIdeal.main_arg0)
      ∧ r.2.mem ((c.tc : Thread Cert.AdWinRefIdeal.nD Cert.AdWinRefIdeal.τ).loc Cert.AdWinRefIdeal.main_arg1) = m ((c.tc : Thread Cert.AdWinRefIdeal.nD Cert.AdWinRefIdeal.τ).loc Cert.AdWinRefIdeal.main_arg1)
      ∧ r.2.mem ((c.tc : Thread Cert.AdWinRefIdeal.nD Cert.AdWinRefIdeal.τ).loc Cert.AdWinRefIdeal.main_arg2) = m ((c.tc : Thread Cert.AdWinRefIdeal.nD Cert.AdWinRefIdeal.τ).loc Cert.AdWinRefIdeal.main_arg2)
      ∧ r.2.mem ((c.tc : Thread Cert.AdWinRefIdeal.nD Cert.AdWinRefIdeal.τ).loc Cert.AdWinRefIdeal.main_arg3) = m ((c.tc : Thread Cert.AdWinRefIdeal.nD Cert.AdWinRefIdeal.τ).loc Cert.AdWinRefIdeal.main_arg3)
      ∧ r.2.mem ((c.tc : Thread Cert.AdWinRefIdeal.nD Cert.AdWinRefIdeal.τ).loc Cert.AdWinRefIdeal.main_arg4) = m ((c.tc : Thread Cert.AdWinRefIdeal.nD Cert.AdWinRefIdeal.τ).loc Cert.AdWinRefIdeal.main_arg4)
      ∧ r.2.mem ((c.tc : Thread Cert.AdWinRefIdeal.nD Cert.AdWinRefIdeal.τ).loc Cert.AdWinRefIdeal.main_arg5) = m ((c.tc : Thread Cert.AdWinRefIdeal.nD Cert.AdWinRefIdeal.τ).loc Cert.AdWinRefIdeal.main_arg5)
      ∧ r.2.mem ((c.tc : Thread Cert.AdWinRefIdeal.nD Cert.AdWinRefIdeal.τ).loc Cert.AdWinRefIdeal.main_arg6) = m ((c.tc : Thread Cert.AdWinRefIdeal.nD Cert.AdWinRefIdeal.τ).loc Cert.AdWinRefIdeal.main_arg6)
      ∧ r.2.mem ((c.tc : Thread Cert.AdWinRefIdeal.nD Cert.AdWinRefIdeal.τ).loc Cert.AdWinRefIdeal.main_arg7) = m ((c.tc : Thread Cert.AdWinRefIdeal.nD Cert.AdWinRefIdeal.τ).loc Cert.AdWinRefIdeal.main_arg7))
      ∧ r.2.sem = fun _ => 0)

def quiescent_AdWo [hAdWo : Cert.AdWo.Facts] : Prop :=
  ∀ (m : (ℓ : Loc Cert.AdWo.nD Cert.AdWo.τ Cert.AdWo.sig) → Buf (Elt Bits) ℓ) (g : Dev Cert.AdWo.nD → PrngReg), Pre_AdWo m →
    θ_run (Cert.AdWo.defs (F := Bits)) (onTc (τ := Cert.AdWo.τ) (Cert.AdWo.main (F := Bits))) ⟨m, fun _ => 0, g⟩ (fun r => (∀ c : Dev Cert.AdWo.nD,
      r.2.mem ((c.tc : Thread Cert.AdWo.nD Cert.AdWo.τ).loc Cert.AdWo.main_arg0) = m ((c.tc : Thread Cert.AdWo.nD Cert.AdWo.τ).loc Cert.AdWo.main_arg0)
      ∧ r.2.mem ((c.tc : Thread Cert.AdWo.nD Cert.AdWo.τ).loc Cert.AdWo.main_arg1) = m ((c.tc : Thread Cert.AdWo.nD Cert.AdWo.τ).loc Cert.AdWo.main_arg1)
      ∧ r.2.mem ((c.tc : Thread Cert.AdWo.nD Cert.AdWo.τ).loc Cert.AdWo.main_arg2) = m ((c.tc : Thread Cert.AdWo.nD Cert.AdWo.τ).loc Cert.AdWo.main_arg2)
      ∧ r.2.mem ((c.tc : Thread Cert.AdWo.nD Cert.AdWo.τ).loc Cert.AdWo.main_arg3) = m ((c.tc : Thread Cert.AdWo.nD Cert.AdWo.τ).loc Cert.AdWo.main_arg3)
      ∧ r.2.mem ((c.tc : Thread Cert.AdWo.nD Cert.AdWo.τ).loc Cert.AdWo.main_arg4) = m ((c.tc : Thread Cert.AdWo.nD Cert.AdWo.τ).loc Cert.AdWo.main_arg4)
      ∧ r.2.mem ((c.tc : Thread Cert.AdWo.nD Cert.AdWo.τ).loc Cert.AdWo.main_arg5) = m ((c.tc : Thread Cert.AdWo.nD Cert.AdWo.τ).loc Cert.AdWo.main_arg5)
      ∧ r.2.mem ((c.tc : Thread Cert.AdWo.nD Cert.AdWo.τ).loc Cert.AdWo.main_arg6) = m ((c.tc : Thread Cert.AdWo.nD Cert.AdWo.τ).loc Cert.AdWo.main_arg6)
      ∧ r.2.mem ((c.tc : Thread Cert.AdWo.nD Cert.AdWo.τ).loc Cert.AdWo.main_arg7) = m ((c.tc : Thread Cert.AdWo.nD Cert.AdWo.τ).loc Cert.AdWo.main_arg7))
      ∧ r.2.sem = fun _ => 0)

def quiescent_AdWoIdeal [hAdWoIdeal : Cert.AdWoIdeal.Facts] : Prop :=
  ∀ (m : (ℓ : Loc Cert.AdWoIdeal.nD Cert.AdWoIdeal.τ Cert.AdWoIdeal.sig) → Buf (Elt Ideal) ℓ) (g : Dev Cert.AdWoIdeal.nD → PrngReg), Pre_AdWoIdeal m →
    θ_run (Cert.AdWoIdeal.defs (F := Ideal)) (onTc (τ := Cert.AdWoIdeal.τ) (Cert.AdWoIdeal.main (F := Ideal))) ⟨m, fun _ => 0, g⟩ (fun r => (∀ c : Dev Cert.AdWoIdeal.nD,
      r.2.mem ((c.tc : Thread Cert.AdWoIdeal.nD Cert.AdWoIdeal.τ).loc Cert.AdWoIdeal.main_arg0) = m ((c.tc : Thread Cert.AdWoIdeal.nD Cert.AdWoIdeal.τ).loc Cert.AdWoIdeal.main_arg0)
      ∧ r.2.mem ((c.tc : Thread Cert.AdWoIdeal.nD Cert.AdWoIdeal.τ).loc Cert.AdWoIdeal.main_arg1) = m ((c.tc : Thread Cert.AdWoIdeal.nD Cert.AdWoIdeal.τ).loc Cert.AdWoIdeal.main_arg1)
      ∧ r.2.mem ((c.tc : Thread Cert.AdWoIdeal.nD Cert.AdWoIdeal.τ).loc Cert.AdWoIdeal.main_arg2) = m ((c.tc : Thread Cert.AdWoIdeal.nD Cert.AdWoIdeal.τ).loc Cert.AdWoIdeal.main_arg2)
      ∧ r.2.mem ((c.tc : Thread Cert.AdWoIdeal.nD Cert.AdWoIdeal.τ).loc Cert.AdWoIdeal.main_arg3) = m ((c.tc : Thread Cert.AdWoIdeal.nD Cert.AdWoIdeal.τ).loc Cert.AdWoIdeal.main_arg3)
      ∧ r.2.mem ((c.tc : Thread Cert.AdWoIdeal.nD Cert.AdWoIdeal.τ).loc Cert.AdWoIdeal.main_arg4) = m ((c.tc : Thread Cert.AdWoIdeal.nD Cert.AdWoIdeal.τ).loc Cert.AdWoIdeal.main_arg4)
      ∧ r.2.mem ((c.tc : Thread Cert.AdWoIdeal.nD Cert.AdWoIdeal.τ).loc Cert.AdWoIdeal.main_arg5) = m ((c.tc : Thread Cert.AdWoIdeal.nD Cert.AdWoIdeal.τ).loc Cert.AdWoIdeal.main_arg5)
      ∧ r.2.mem ((c.tc : Thread Cert.AdWoIdeal.nD Cert.AdWoIdeal.τ).loc Cert.AdWoIdeal.main_arg6) = m ((c.tc : Thread Cert.AdWoIdeal.nD Cert.AdWoIdeal.τ).loc Cert.AdWoIdeal.main_arg6)
      ∧ r.2.mem ((c.tc : Thread Cert.AdWoIdeal.nD Cert.AdWoIdeal.τ).loc Cert.AdWoIdeal.main_arg7) = m ((c.tc : Thread Cert.AdWoIdeal.nD Cert.AdWoIdeal.τ).loc Cert.AdWoIdeal.main_arg7))
      ∧ r.2.sem = fun _ => 0)

def quiescent_AdWoRefIdeal [hAdWoRefIdeal : Cert.AdWoRefIdeal.Facts] : Prop :=
  ∀ (m : (ℓ : Loc Cert.AdWoRefIdeal.nD Cert.AdWoRefIdeal.τ Cert.AdWoRefIdeal.sig) → Buf (Elt Ideal) ℓ) (g : Dev Cert.AdWoRefIdeal.nD → PrngReg), Pre_AdWoRefIdeal m →
    θ_run (Cert.AdWoRefIdeal.defs (F := Ideal)) (onTc (τ := Cert.AdWoRefIdeal.τ) (Cert.AdWoRefIdeal.main (F := Ideal))) ⟨m, fun _ => 0, g⟩ (fun r => (∀ c : Dev Cert.AdWoRefIdeal.nD,
      r.2.mem ((c.tc : Thread Cert.AdWoRefIdeal.nD Cert.AdWoRefIdeal.τ).loc Cert.AdWoRefIdeal.main_arg0) = m ((c.tc : Thread Cert.AdWoRefIdeal.nD Cert.AdWoRefIdeal.τ).loc Cert.AdWoRefIdeal.main_arg0)
      ∧ r.2.mem ((c.tc : Thread Cert.AdWoRefIdeal.nD Cert.AdWoRefIdeal.τ).loc Cert.AdWoRefIdeal.main_arg1) = m ((c.tc : Thread Cert.AdWoRefIdeal.nD Cert.AdWoRefIdeal.τ).loc Cert.AdWoRefIdeal.main_arg1)
      ∧ r.2.mem ((c.tc : Thread Cert.AdWoRefIdeal.nD Cert.AdWoRefIdeal.τ).loc Cert.AdWoRefIdeal.main_arg2) = m ((c.tc : Thread Cert.AdWoRefIdeal.nD Cert.AdWoRefIdeal.τ).loc Cert.AdWoRefIdeal.main_arg2)
      ∧ r.2.mem ((c.tc : Thread Cert.AdWoRefIdeal.nD Cert.AdWoRefIdeal.τ).loc Cert.AdWoRefIdeal.main_arg3) = m ((c.tc : Thread Cert.AdWoRefIdeal.nD Cert.AdWoRefIdeal.τ).loc Cert.AdWoRefIdeal.main_arg3)
      ∧ r.2.mem ((c.tc : Thread Cert.AdWoRefIdeal.nD Cert.AdWoRefIdeal.τ).loc Cert.AdWoRefIdeal.main_arg4) = m ((c.tc : Thread Cert.AdWoRefIdeal.nD Cert.AdWoRefIdeal.τ).loc Cert.AdWoRefIdeal.main_arg4)
      ∧ r.2.mem ((c.tc : Thread Cert.AdWoRefIdeal.nD Cert.AdWoRefIdeal.τ).loc Cert.AdWoRefIdeal.main_arg5) = m ((c.tc : Thread Cert.AdWoRefIdeal.nD Cert.AdWoRefIdeal.τ).loc Cert.AdWoRefIdeal.main_arg5)
      ∧ r.2.mem ((c.tc : Thread Cert.AdWoRefIdeal.nD Cert.AdWoRefIdeal.τ).loc Cert.AdWoRefIdeal.main_arg6) = m ((c.tc : Thread Cert.AdWoRefIdeal.nD Cert.AdWoRefIdeal.τ).loc Cert.AdWoRefIdeal.main_arg6)
      ∧ r.2.mem ((c.tc : Thread Cert.AdWoRefIdeal.nD Cert.AdWoRefIdeal.τ).loc Cert.AdWoRefIdeal.main_arg7) = m ((c.tc : Thread Cert.AdWoRefIdeal.nD Cert.AdWoRefIdeal.τ).loc Cert.AdWoRefIdeal.main_arg7))
      ∧ r.2.sem = fun _ => 0)

def quiescent_AdWg [hAdWg : Cert.AdWg.Facts] : Prop :=
  ∀ (m : (ℓ : Loc Cert.AdWg.nD Cert.AdWg.τ Cert.AdWg.sig) → Buf (Elt Bits) ℓ) (g : Dev Cert.AdWg.nD → PrngReg), Pre_AdWg m →
    θ_run (Cert.AdWg.defs (F := Bits)) (onTc (τ := Cert.AdWg.τ) (Cert.AdWg.main (F := Bits))) ⟨m, fun _ => 0, g⟩ (fun r => (∀ c : Dev Cert.AdWg.nD,
      r.2.mem ((c.tc : Thread Cert.AdWg.nD Cert.AdWg.τ).loc Cert.AdWg.main_arg0) = m ((c.tc : Thread Cert.AdWg.nD Cert.AdWg.τ).loc Cert.AdWg.main_arg0)
      ∧ r.2.mem ((c.tc : Thread Cert.AdWg.nD Cert.AdWg.τ).loc Cert.AdWg.main_arg1) = m ((c.tc : Thread Cert.AdWg.nD Cert.AdWg.τ).loc Cert.AdWg.main_arg1)
      ∧ r.2.mem ((c.tc : Thread Cert.AdWg.nD Cert.AdWg.τ).loc Cert.AdWg.main_arg2) = m ((c.tc : Thread Cert.AdWg.nD Cert.AdWg.τ).loc Cert.AdWg.main_arg2)
      ∧ r.2.mem ((c.tc : Thread Cert.AdWg.nD Cert.AdWg.τ).loc Cert.AdWg.main_arg3) = m ((c.tc : Thread Cert.AdWg.nD Cert.AdWg.τ).loc Cert.AdWg.main_arg3)
      ∧ r.2.mem ((c.tc : Thread Cert.AdWg.nD Cert.AdWg.τ).loc Cert.AdWg.main_arg4) = m ((c.tc : Thread Cert.AdWg.nD Cert.AdWg.τ).loc Cert.AdWg.main_arg4)
      ∧ r.2.mem ((c.tc : Thread Cert.AdWg.nD Cert.AdWg.τ).loc Cert.AdWg.main_arg5) = m ((c.tc : Thread Cert.AdWg.nD Cert.AdWg.τ).loc Cert.AdWg.main_arg5)
      ∧ r.2.mem ((c.tc : Thread Cert.AdWg.nD Cert.AdWg.τ).loc Cert.AdWg.main_arg6) = m ((c.tc : Thread Cert.AdWg.nD Cert.AdWg.τ).loc Cert.AdWg.main_arg6)
      ∧ r.2.mem ((c.tc : Thread Cert.AdWg.nD Cert.AdWg.τ).loc Cert.AdWg.main_arg7) = m ((c.tc : Thread Cert.AdWg.nD Cert.AdWg.τ).loc Cert.AdWg.main_arg7))
      ∧ r.2.sem = fun _ => 0)

def quiescent_AdWgIdeal [hAdWgIdeal : Cert.AdWgIdeal.Facts] : Prop :=
  ∀ (m : (ℓ : Loc Cert.AdWgIdeal.nD Cert.AdWgIdeal.τ Cert.AdWgIdeal.sig) → Buf (Elt Ideal) ℓ) (g : Dev Cert.AdWgIdeal.nD → PrngReg), Pre_AdWgIdeal m →
    θ_run (Cert.AdWgIdeal.defs (F := Ideal)) (onTc (τ := Cert.AdWgIdeal.τ) (Cert.AdWgIdeal.main (F := Ideal))) ⟨m, fun _ => 0, g⟩ (fun r => (∀ c : Dev Cert.AdWgIdeal.nD,
      r.2.mem ((c.tc : Thread Cert.AdWgIdeal.nD Cert.AdWgIdeal.τ).loc Cert.AdWgIdeal.main_arg0) = m ((c.tc : Thread Cert.AdWgIdeal.nD Cert.AdWgIdeal.τ).loc Cert.AdWgIdeal.main_arg0)
      ∧ r.2.mem ((c.tc : Thread Cert.AdWgIdeal.nD Cert.AdWgIdeal.τ).loc Cert.AdWgIdeal.main_arg1) = m ((c.tc : Thread Cert.AdWgIdeal.nD Cert.AdWgIdeal.τ).loc Cert.AdWgIdeal.main_arg1)
      ∧ r.2.mem ((c.tc : Thread Cert.AdWgIdeal.nD Cert.AdWgIdeal.τ).loc Cert.AdWgIdeal.main_arg2) = m ((c.tc : Thread Cert.AdWgIdeal.nD Cert.AdWgIdeal.τ).loc Cert.AdWgIdeal.main_arg2)
      ∧ r.2.mem ((c.tc : Thread Cert.AdWgIdeal.nD Cert.AdWgIdeal.τ).loc Cert.AdWgIdeal.main_arg3) = m ((c.tc : Thread Cert.AdWgIdeal.nD Cert.AdWgIdeal.τ).loc Cert.AdWgIdeal.main_arg3)
      ∧ r.2.mem ((c.tc : Thread Cert.AdWgIdeal.nD Cert.AdWgIdeal.τ).loc Cert.AdWgIdeal.main_arg4) = m ((c.tc : Thread Cert.AdWgIdeal.nD Cert.AdWgIdeal.τ).loc Cert.AdWgIdeal.main_arg4)
      ∧ r.2.mem ((c.tc : Thread Cert.AdWgIdeal.nD Cert.AdWgIdeal.τ).loc Cert.AdWgIdeal.main_arg5) = m ((c.tc : Thread Cert.AdWgIdeal.nD Cert.AdWgIdeal.τ).loc Cert.AdWgIdeal.main_arg5)
      ∧ r.2.mem ((c.tc : Thread Cert.AdWgIdeal.nD Cert.AdWgIdeal.τ).loc Cert.AdWgIdeal.main_arg6) = m ((c.tc : Thread Cert.AdWgIdeal.nD Cert.AdWgIdeal.τ).loc Cert.AdWgIdeal.main_arg6)
      ∧ r.2.mem ((c.tc : Thread Cert.AdWgIdeal.nD Cert.AdWgIdeal.τ).loc Cert.AdWgIdeal.main_arg7) = m ((c.tc : Thread Cert.AdWgIdeal.nD Cert.AdWgIdeal.τ).loc Cert.AdWgIdeal.main_arg7))
      ∧ r.2.sem = fun _ => 0)

def quiescent_AdWgRefIdeal [hAdWgRefIdeal : Cert.AdWgRefIdeal.Facts] : Prop :=
  ∀ (m : (ℓ : Loc Cert.AdWgRefIdeal.nD Cert.AdWgRefIdeal.τ Cert.AdWgRefIdeal.sig) → Buf (Elt Ideal) ℓ) (g : Dev Cert.AdWgRefIdeal.nD → PrngReg), Pre_AdWgRefIdeal m →
    θ_run (Cert.AdWgRefIdeal.defs (F := Ideal)) (onTc (τ := Cert.AdWgRefIdeal.τ) (Cert.AdWgRefIdeal.main (F := Ideal))) ⟨m, fun _ => 0, g⟩ (fun r => (∀ c : Dev Cert.AdWgRefIdeal.nD,
      r.2.mem ((c.tc : Thread Cert.AdWgRefIdeal.nD Cert.AdWgRefIdeal.τ).loc Cert.AdWgRefIdeal.main_arg0) = m ((c.tc : Thread Cert.AdWgRefIdeal.nD Cert.AdWgRefIdeal.τ).loc Cert.AdWgRefIdeal.main_arg0)
      ∧ r.2.mem ((c.tc : Thread Cert.AdWgRefIdeal.nD Cert.AdWgRefIdeal.τ).loc Cert.AdWgRefIdeal.main_arg1) = m ((c.tc : Thread Cert.AdWgRefIdeal.nD Cert.AdWgRefIdeal.τ).loc Cert.AdWgRefIdeal.main_arg1)
      ∧ r.2.mem ((c.tc : Thread Cert.AdWgRefIdeal.nD Cert.AdWgRefIdeal.τ).loc Cert.AdWgRefIdeal.main_arg2) = m ((c.tc : Thread Cert.AdWgRefIdeal.nD Cert.AdWgRefIdeal.τ).loc Cert.AdWgRefIdeal.main_arg2)
      ∧ r.2.mem ((c.tc : Thread Cert.AdWgRefIdeal.nD Cert.AdWgRefIdeal.τ).loc Cert.AdWgRefIdeal.main_arg3) = m ((c.tc : Thread Cert.AdWgRefIdeal.nD Cert.AdWgRefIdeal.τ).loc Cert.AdWgRefIdeal.main_arg3)
      ∧ r.2.mem ((c.tc : Thread Cert.AdWgRefIdeal.nD Cert.AdWgRefIdeal.τ).loc Cert.AdWgRefIdeal.main_arg4) = m ((c.tc : Thread Cert.AdWgRefIdeal.nD Cert.AdWgRefIdeal.τ).loc Cert.AdWgRefIdeal.main_arg4)
      ∧ r.2.mem ((c.tc : Thread Cert.AdWgRefIdeal.nD Cert.AdWgRefIdeal.τ).loc Cert.AdWgRefIdeal.main_arg5) = m ((c.tc : Thread Cert.AdWgRefIdeal.nD Cert.AdWgRefIdeal.τ).loc Cert.AdWgRefIdeal.main_arg5)
      ∧ r.2.mem ((c.tc : Thread Cert.AdWgRefIdeal.nD Cert.AdWgRefIdeal.τ).loc Cert.AdWgRefIdeal.main_arg6) = m ((c.tc : Thread Cert.AdWgRefIdeal.nD Cert.AdWgRefIdeal.τ).loc Cert.AdWgRefIdeal.main_arg6)
      ∧ r.2.mem ((c.tc : Thread Cert.AdWgRefIdeal.nD Cert.AdWgRefIdeal.τ).loc Cert.AdWgRefIdeal.main_arg7) = m ((c.tc : Thread Cert.AdWgRefIdeal.nD Cert.AdWgRefIdeal.τ).loc Cert.AdWgRefIdeal.main_arg7))
      ∧ r.2.sem = fun _ => 0)

def quiescent_AdWu [hAdWu : Cert.AdWu.Facts] : Prop :=
  ∀ (m : (ℓ : Loc Cert.AdWu.nD Cert.AdWu.τ Cert.AdWu.sig) → Buf (Elt Bits) ℓ) (g : Dev Cert.AdWu.nD → PrngReg), Pre_AdWu m →
    θ_run (Cert.AdWu.defs (F := Bits)) (onTc (τ := Cert.AdWu.τ) (Cert.AdWu.main (F := Bits))) ⟨m, fun _ => 0, g⟩ (fun r => (∀ c : Dev Cert.AdWu.nD,
      r.2.mem ((c.tc : Thread Cert.AdWu.nD Cert.AdWu.τ).loc Cert.AdWu.main_arg0) = m ((c.tc : Thread Cert.AdWu.nD Cert.AdWu.τ).loc Cert.AdWu.main_arg0)
      ∧ r.2.mem ((c.tc : Thread Cert.AdWu.nD Cert.AdWu.τ).loc Cert.AdWu.main_arg1) = m ((c.tc : Thread Cert.AdWu.nD Cert.AdWu.τ).loc Cert.AdWu.main_arg1)
      ∧ r.2.mem ((c.tc : Thread Cert.AdWu.nD Cert.AdWu.τ).loc Cert.AdWu.main_arg2) = m ((c.tc : Thread Cert.AdWu.nD Cert.AdWu.τ).loc Cert.AdWu.main_arg2)
      ∧ r.2.mem ((c.tc : Thread Cert.AdWu.nD Cert.AdWu.τ).loc Cert.AdWu.main_arg3) = m ((c.tc : Thread Cert.AdWu.nD Cert.AdWu.τ).loc Cert.AdWu.main_arg3)
      ∧ r.2.mem ((c.tc : Thread Cert.AdWu.nD Cert.AdWu.τ).loc Cert.AdWu.main_arg4) = m ((c.tc : Thread Cert.AdWu.nD Cert.AdWu.τ).loc Cert.AdWu.main_arg4)
      ∧ r.2.mem ((c.tc : Thread Cert.AdWu.nD Cert.AdWu.τ).loc Cert.AdWu.main_arg5) = m ((c.tc : Thread Cert.AdWu.nD Cert.AdWu.τ).loc Cert.AdWu.main_arg5)
      ∧ r.2.mem ((c.tc : Thread Cert.AdWu.nD Cert.AdWu.τ).loc Cert.AdWu.main_arg6) = m ((c.tc : Thread Cert.AdWu.nD Cert.AdWu.τ).loc Cert.AdWu.main_arg6)
      ∧ r.2.mem ((c.tc : Thread Cert.AdWu.nD Cert.AdWu.τ).loc Cert.AdWu.main_arg7) = m ((c.tc : Thread Cert.AdWu.nD Cert.AdWu.τ).loc Cert.AdWu.main_arg7))
      ∧ r.2.sem = fun _ => 0)

def quiescent_AdWuIdeal [hAdWuIdeal : Cert.AdWuIdeal.Facts] : Prop :=
  ∀ (m : (ℓ : Loc Cert.AdWuIdeal.nD Cert.AdWuIdeal.τ Cert.AdWuIdeal.sig) → Buf (Elt Ideal) ℓ) (g : Dev Cert.AdWuIdeal.nD → PrngReg), Pre_AdWuIdeal m →
    θ_run (Cert.AdWuIdeal.defs (F := Ideal)) (onTc (τ := Cert.AdWuIdeal.τ) (Cert.AdWuIdeal.main (F := Ideal))) ⟨m, fun _ => 0, g⟩ (fun r => (∀ c : Dev Cert.AdWuIdeal.nD,
      r.2.mem ((c.tc : Thread Cert.AdWuIdeal.nD Cert.AdWuIdeal.τ).loc Cert.AdWuIdeal.main_arg0) = m ((c.tc : Thread Cert.AdWuIdeal.nD Cert.AdWuIdeal.τ).loc Cert.AdWuIdeal.main_arg0)
      ∧ r.2.mem ((c.tc : Thread Cert.AdWuIdeal.nD Cert.AdWuIdeal.τ).loc Cert.AdWuIdeal.main_arg1) = m ((c.tc : Thread Cert.AdWuIdeal.nD Cert.AdWuIdeal.τ).loc Cert.AdWuIdeal.main_arg1)
      ∧ r.2.mem ((c.tc : Thread Cert.AdWuIdeal.nD Cert.AdWuIdeal.τ).loc Cert.AdWuIdeal.main_arg2) = m ((c.tc : Thread Cert.AdWuIdeal.nD Cert.AdWuIdeal.τ).loc Cert.AdWuIdeal.main_arg2)
      ∧ r.2.mem ((c.tc : Thread Cert.AdWuIdeal.nD Cert.AdWuIdeal.τ).loc Cert.AdWuIdeal.main_arg3) = m ((c.tc : Thread Cert.AdWuIdeal.nD Cert.AdWuIdeal.τ).loc Cert.AdWuIdeal.main_arg3)
      ∧ r.2.mem ((c.tc : Thread Cert.AdWuIdeal.nD Cert.AdWuIdeal.τ).loc Cert.AdWuIdeal.main_arg4) = m ((c.tc : Thread Cert.AdWuIdeal.nD Cert.AdWuIdeal.τ).loc Cert.AdWuIdeal.main_arg4)
      ∧ r.2.mem ((c.tc : Thread Cert.AdWuIdeal.nD Cert.AdWuIdeal.τ).loc Cert.AdWuIdeal.main_arg5) = m ((c.tc : Thread Cert.AdWuIdeal.nD Cert.AdWuIdeal.τ).loc Cert.AdWuIdeal.main_arg5)
      ∧ r.2.mem ((c.tc : Thread Cert.AdWuIdeal.nD Cert.AdWuIdeal.τ).loc Cert.AdWuIdeal.main_arg6) = m ((c.tc : Thread Cert.AdWuIdeal.nD Cert.AdWuIdeal.τ).loc Cert.AdWuIdeal.main_arg6)
      ∧ r.2.mem ((c.tc : Thread Cert.AdWuIdeal.nD Cert.AdWuIdeal.τ).loc Cert.AdWuIdeal.main_arg7) = m ((c.tc : Thread Cert.AdWuIdeal.nD Cert.AdWuIdeal.τ).loc Cert.AdWuIdeal.main_arg7))
      ∧ r.2.sem = fun _ => 0)

def quiescent_AdWuRefIdeal [hAdWuRefIdeal : Cert.AdWuRefIdeal.Facts] : Prop :=
  ∀ (m : (ℓ : Loc Cert.AdWuRefIdeal.nD Cert.AdWuRefIdeal.τ Cert.AdWuRefIdeal.sig) → Buf (Elt Ideal) ℓ) (g : Dev Cert.AdWuRefIdeal.nD → PrngReg), Pre_AdWuRefIdeal m →
    θ_run (Cert.AdWuRefIdeal.defs (F := Ideal)) (onTc (τ := Cert.AdWuRefIdeal.τ) (Cert.AdWuRefIdeal.main (F := Ideal))) ⟨m, fun _ => 0, g⟩ (fun r => (∀ c : Dev Cert.AdWuRefIdeal.nD,
      r.2.mem ((c.tc : Thread Cert.AdWuRefIdeal.nD Cert.AdWuRefIdeal.τ).loc Cert.AdWuRefIdeal.main_arg0) = m ((c.tc : Thread Cert.AdWuRefIdeal.nD Cert.AdWuRefIdeal.τ).loc Cert.AdWuRefIdeal.main_arg0)
      ∧ r.2.mem ((c.tc : Thread Cert.AdWuRefIdeal.nD Cert.AdWuRefIdeal.τ).loc Cert.AdWuRefIdeal.main_arg1) = m ((c.tc : Thread Cert.AdWuRefIdeal.nD Cert.AdWuRefIdeal.τ).loc Cert.AdWuRefIdeal.main_arg1)
      ∧ r.2.mem ((c.tc : Thread Cert.AdWuRefIdeal.nD Cert.AdWuRefIdeal.τ).loc Cert.AdWuRefIdeal.main_arg2) = m ((c.tc : Thread Cert.AdWuRefIdeal.nD Cert.AdWuRefIdeal.τ).loc Cert.AdWuRefIdeal.main_arg2)
      ∧ r.2.mem ((c.tc : Thread Cert.AdWuRefIdeal.nD Cert.AdWuRefIdeal.τ).loc Cert.AdWuRefIdeal.main_arg3) = m ((c.tc : Thread Cert.AdWuRefIdeal.nD Cert.AdWuRefIdeal.τ).loc Cert.AdWuRefIdeal.main_arg3)
      ∧ r.2.mem ((c.tc : Thread Cert.AdWuRefIdeal.nD Cert.AdWuRefIdeal.τ).loc Cert.AdWuRefIdeal.main_arg4) = m ((c.tc : Thread Cert.AdWuRefIdeal.nD Cert.AdWuRefIdeal.τ).loc Cert.AdWuRefIdeal.main_arg4)
      ∧ r.2.mem ((c.tc : Thread Cert.AdWuRefIdeal.nD Cert.AdWuRefIdeal.τ).loc Cert.AdWuRefIdeal.main_arg5) = m ((c.tc : Thread Cert.AdWuRefIdeal.nD Cert.AdWuRefIdeal.τ).loc Cert.AdWuRefIdeal.main_arg5)
      ∧ r.2.mem ((c.tc : Thread Cert.AdWuRefIdeal.nD Cert.AdWuRefIdeal.τ).loc Cert.AdWuRefIdeal.main_arg6) = m ((c.tc : Thread Cert.AdWuRefIdeal.nD Cert.AdWuRefIdeal.τ).loc Cert.AdWuRefIdeal.main_arg6)
      ∧ r.2.mem ((c.tc : Thread Cert.AdWuRefIdeal.nD Cert.AdWuRefIdeal.τ).loc Cert.AdWuRefIdeal.main_arg7) = m ((c.tc : Thread Cert.AdWuRefIdeal.nD Cert.AdWuRefIdeal.τ).loc Cert.AdWuRefIdeal.main_arg7))
      ∧ r.2.sem = fun _ => 0)

def quiescent_AdSmall [hAdSmall : Cert.AdSmall.Facts] : Prop :=
  ∀ (m : (ℓ : Loc Cert.AdSmall.nD Cert.AdSmall.τ Cert.AdSmall.sig) → Buf (Elt Bits) ℓ) (g : Dev Cert.AdSmall.nD → PrngReg), Pre_AdSmall m →
    θ_run (Cert.AdSmall.defs (F := Bits)) (onTc (τ := Cert.AdSmall.τ) (Cert.AdSmall.main (F := Bits))) ⟨m, fun _ => 0, g⟩ (fun r => (∀ c : Dev Cert.AdSmall.nD,
      r.2.mem ((c.tc : Thread Cert.AdSmall.nD Cert.AdSmall.τ).loc Cert.AdSmall.main_arg0) = m ((c.tc : Thread Cert.AdSmall.nD Cert.AdSmall.τ).loc Cert.AdSmall.main_arg0)
      ∧ r.2.mem ((c.tc : Thread Cert.AdSmall.nD Cert.AdSmall.τ).loc Cert.AdSmall.main_arg1) = m ((c.tc : Thread Cert.AdSmall.nD Cert.AdSmall.τ).loc Cert.AdSmall.main_arg1)
      ∧ r.2.mem ((c.tc : Thread Cert.AdSmall.nD Cert.AdSmall.τ).loc Cert.AdSmall.main_arg2) = m ((c.tc : Thread Cert.AdSmall.nD Cert.AdSmall.τ).loc Cert.AdSmall.main_arg2)
      ∧ r.2.mem ((c.tc : Thread Cert.AdSmall.nD Cert.AdSmall.τ).loc Cert.AdSmall.main_arg3) = m ((c.tc : Thread Cert.AdSmall.nD Cert.AdSmall.τ).loc Cert.AdSmall.main_arg3))
      ∧ r.2.sem = fun _ => 0)

def quiescent_AdSmallIdeal [hAdSmallIdeal : Cert.AdSmallIdeal.Facts] : Prop :=
  ∀ (m : (ℓ : Loc Cert.AdSmallIdeal.nD Cert.AdSmallIdeal.τ Cert.AdSmallIdeal.sig) → Buf (Elt Ideal) ℓ) (g : Dev Cert.AdSmallIdeal.nD → PrngReg), Pre_AdSmallIdeal m →
    θ_run (Cert.AdSmallIdeal.defs (F := Ideal)) (onTc (τ := Cert.AdSmallIdeal.τ) (Cert.AdSmallIdeal.main (F := Ideal))) ⟨m, fun _ => 0, g⟩ (fun r => (∀ c : Dev Cert.AdSmallIdeal.nD,
      r.2.mem ((c.tc : Thread Cert.AdSmallIdeal.nD Cert.AdSmallIdeal.τ).loc Cert.AdSmallIdeal.main_arg0) = m ((c.tc : Thread Cert.AdSmallIdeal.nD Cert.AdSmallIdeal.τ).loc Cert.AdSmallIdeal.main_arg0)
      ∧ r.2.mem ((c.tc : Thread Cert.AdSmallIdeal.nD Cert.AdSmallIdeal.τ).loc Cert.AdSmallIdeal.main_arg1) = m ((c.tc : Thread Cert.AdSmallIdeal.nD Cert.AdSmallIdeal.τ).loc Cert.AdSmallIdeal.main_arg1)
      ∧ r.2.mem ((c.tc : Thread Cert.AdSmallIdeal.nD Cert.AdSmallIdeal.τ).loc Cert.AdSmallIdeal.main_arg2) = m ((c.tc : Thread Cert.AdSmallIdeal.nD Cert.AdSmallIdeal.τ).loc Cert.AdSmallIdeal.main_arg2)
      ∧ r.2.mem ((c.tc : Thread Cert.AdSmallIdeal.nD Cert.AdSmallIdeal.τ).loc Cert.AdSmallIdeal.main_arg3) = m ((c.tc : Thread Cert.AdSmallIdeal.nD Cert.AdSmallIdeal.τ).loc Cert.AdSmallIdeal.main_arg3))
      ∧ r.2.sem = fun _ => 0)

def quiescent_AdSmallRefIdeal [hAdSmallRefIdeal : Cert.AdSmallRefIdeal.Facts] : Prop :=
  ∀ (m : (ℓ : Loc Cert.AdSmallRefIdeal.nD Cert.AdSmallRefIdeal.τ Cert.AdSmallRefIdeal.sig) → Buf (Elt Ideal) ℓ) (g : Dev Cert.AdSmallRefIdeal.nD → PrngReg), Pre_AdSmallRefIdeal m →
    θ_run (Cert.AdSmallRefIdeal.defs (F := Ideal)) (onTc (τ := Cert.AdSmallRefIdeal.τ) (Cert.AdSmallRefIdeal.main (F := Ideal))) ⟨m, fun _ => 0, g⟩ (fun r => (∀ c : Dev Cert.AdSmallRefIdeal.nD,
      r.2.mem ((c.tc : Thread Cert.AdSmallRefIdeal.nD Cert.AdSmallRefIdeal.τ).loc Cert.AdSmallRefIdeal.main_arg0) = m ((c.tc : Thread Cert.AdSmallRefIdeal.nD Cert.AdSmallRefIdeal.τ).loc Cert.AdSmallRefIdeal.main_arg0)
      ∧ r.2.mem ((c.tc : Thread Cert.AdSmallRefIdeal.nD Cert.AdSmallRefIdeal.τ).loc Cert.AdSmallRefIdeal.main_arg1) = m ((c.tc : Thread Cert.AdSmallRefIdeal.nD Cert.AdSmallRefIdeal.τ).loc Cert.AdSmallRefIdeal.main_arg1)
      ∧ r.2.mem ((c.tc : Thread Cert.AdSmallRefIdeal.nD Cert.AdSmallRefIdeal.τ).loc Cert.AdSmallRefIdeal.main_arg2) = m ((c.tc : Thread Cert.AdSmallRefIdeal.nD Cert.AdSmallRefIdeal.τ).loc Cert.AdSmallRefIdeal.main_arg2)
      ∧ r.2.mem ((c.tc : Thread Cert.AdSmallRefIdeal.nD Cert.AdSmallRefIdeal.τ).loc Cert.AdSmallRefIdeal.main_arg3) = m ((c.tc : Thread Cert.AdSmallRefIdeal.nD Cert.AdSmallRefIdeal.τ).loc Cert.AdSmallRefIdeal.main_arg3))
      ∧ r.2.sem = fun _ => 0)

def quiescent_AdNw [hAdNw : Cert.AdNw.Facts] : Prop :=
  ∀ (m : (ℓ : Loc Cert.AdNw.nD Cert.AdNw.τ Cert.AdNw.sig) → Buf (Elt Bits) ℓ) (g : Dev Cert.AdNw.nD → PrngReg), Pre_AdNw m →
    θ_run (Cert.AdNw.defs (F := Bits)) (onTc (τ := Cert.AdNw.τ) (Cert.AdNw.main (F := Bits))) ⟨m, fun _ => 0, g⟩ (fun r => (∀ c : Dev Cert.AdNw.nD,
      r.2.mem ((c.tc : Thread Cert.AdNw.nD Cert.AdNw.τ).loc Cert.AdNw.main_arg0) = m ((c.tc : Thread Cert.AdNw.nD Cert.AdNw.τ).loc Cert.AdNw.main_arg0)
      ∧ r.2.mem ((c.tc : Thread Cert.AdNw.nD Cert.AdNw.τ).loc Cert.AdNw.main_arg1) = m ((c.tc : Thread Cert.AdNw.nD Cert.AdNw.τ).loc Cert.AdNw.main_arg1)
      ∧ r.2.mem ((c.tc : Thread Cert.AdNw.nD Cert.AdNw.τ).loc Cert.AdNw.main_arg2) = m ((c.tc : Thread Cert.AdNw.nD Cert.AdNw.τ).loc Cert.AdNw.main_arg2)
      ∧ r.2.mem ((c.tc : Thread Cert.AdNw.nD Cert.AdNw.τ).loc Cert.AdNw.main_arg3) = m ((c.tc : Thread Cert.AdNw.nD Cert.AdNw.τ).loc Cert.AdNw.main_arg3))
      ∧ r.2.sem = fun _ => 0)

def quiescent_AdNwIdeal [hAdNwIdeal : Cert.AdNwIdeal.Facts] : Prop :=
  ∀ (m : (ℓ : Loc Cert.AdNwIdeal.nD Cert.AdNwIdeal.τ Cert.AdNwIdeal.sig) → Buf (Elt Ideal) ℓ) (g : Dev Cert.AdNwIdeal.nD → PrngReg), Pre_AdNwIdeal m →
    θ_run (Cert.AdNwIdeal.defs (F := Ideal)) (onTc (τ := Cert.AdNwIdeal.τ) (Cert.AdNwIdeal.main (F := Ideal))) ⟨m, fun _ => 0, g⟩ (fun r => (∀ c : Dev Cert.AdNwIdeal.nD,
      r.2.mem ((c.tc : Thread Cert.AdNwIdeal.nD Cert.AdNwIdeal.τ).loc Cert.AdNwIdeal.main_arg0) = m ((c.tc : Thread Cert.AdNwIdeal.nD Cert.AdNwIdeal.τ).loc Cert.AdNwIdeal.main_arg0)
      ∧ r.2.mem ((c.tc : Thread Cert.AdNwIdeal.nD Cert.AdNwIdeal.τ).loc Cert.AdNwIdeal.main_arg1) = m ((c.tc : Thread Cert.AdNwIdeal.nD Cert.AdNwIdeal.τ).loc Cert.AdNwIdeal.main_arg1)
      ∧ r.2.mem ((c.tc : Thread Cert.AdNwIdeal.nD Cert.AdNwIdeal.τ).loc Cert.AdNwIdeal.main_arg2) = m ((c.tc : Thread Cert.AdNwIdeal.nD Cert.AdNwIdeal.τ).loc Cert.AdNwIdeal.main_arg2)
      ∧ r.2.mem ((c.tc : Thread Cert.AdNwIdeal.nD Cert.AdNwIdeal.τ).loc Cert.AdNwIdeal.main_arg3) = m ((c.tc : Thread Cert.AdNwIdeal.nD Cert.AdNwIdeal.τ).loc Cert.AdNwIdeal.main_arg3))
      ∧ r.2.sem = fun _ => 0)

def quiescent_AdNwRefIdeal [hAdNwRefIdeal : Cert.AdNwRefIdeal.Facts] : Prop :=
  ∀ (m : (ℓ : Loc Cert.AdNwRefIdeal.nD Cert.AdNwRefIdeal.τ Cert.AdNwRefIdeal.sig) → Buf (Elt Ideal) ℓ) (g : Dev Cert.AdNwRefIdeal.nD → PrngReg), Pre_AdNwRefIdeal m →
    θ_run (Cert.AdNwRefIdeal.defs (F := Ideal)) (onTc (τ := Cert.AdNwRefIdeal.τ) (Cert.AdNwRefIdeal.main (F := Ideal))) ⟨m, fun _ => 0, g⟩ (fun r => (∀ c : Dev Cert.AdNwRefIdeal.nD,
      r.2.mem ((c.tc : Thread Cert.AdNwRefIdeal.nD Cert.AdNwRefIdeal.τ).loc Cert.AdNwRefIdeal.main_arg0) = m ((c.tc : Thread Cert.AdNwRefIdeal.nD Cert.AdNwRefIdeal.τ).loc Cert.AdNwRefIdeal.main_arg0)
      ∧ r.2.mem ((c.tc : Thread Cert.AdNwRefIdeal.nD Cert.AdNwRefIdeal.τ).loc Cert.AdNwRefIdeal.main_arg1) = m ((c.tc : Thread Cert.AdNwRefIdeal.nD Cert.AdNwRefIdeal.τ).loc Cert.AdNwRefIdeal.main_arg1)
      ∧ r.2.mem ((c.tc : Thread Cert.AdNwRefIdeal.nD Cert.AdNwRefIdeal.τ).loc Cert.AdNwRefIdeal.main_arg2) = m ((c.tc : Thread Cert.AdNwRefIdeal.nD Cert.AdNwRefIdeal.τ).loc Cert.AdNwRefIdeal.main_arg2)
      ∧ r.2.mem ((c.tc : Thread Cert.AdNwRefIdeal.nD Cert.AdNwRefIdeal.τ).loc Cert.AdNwRefIdeal.main_arg3) = m ((c.tc : Thread Cert.AdNwRefIdeal.nD Cert.AdNwRefIdeal.τ).loc Cert.AdNwRefIdeal.main_arg3))
      ∧ r.2.sem = fun _ => 0)

def quiescent_SumSmall [hSumSmall : Cert.SumSmall.Facts] : Prop :=
  ∀ (m : (ℓ : Loc Cert.SumSmall.nD Cert.SumSmall.τ Cert.SumSmall.sig) → Buf (Elt Bits) ℓ) (g : Dev Cert.SumSmall.nD → PrngReg), Pre_SumSmall m →
    θ_run (Cert.SumSmall.defs (F := Bits)) (onTc (τ := Cert.SumSmall.τ) (Cert.SumSmall.main (F := Bits))) ⟨m, fun _ => 0, g⟩ (fun r => (∀ c : Dev Cert.SumSmall.nD,
      r.2.mem ((c.tc : Thread Cert.SumSmall.nD Cert.SumSmall.τ).loc Cert.SumSmall.main_arg0) = m ((c.tc : Thread Cert.SumSmall.nD Cert.SumSmall.τ).loc Cert.SumSmall.main_arg0))
      ∧ r.2.sem = fun _ => 0)

def quiescent_SumSmallIdeal [hSumSmallIdeal : Cert.SumSmallIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg), Pre_SumSmallIdeal m →
    θ_run (Cert.SumSmallIdeal.defs (F := Ideal)) (onTc (τ := Cert.SumSmallIdeal.τ) (Cert.SumSmallIdeal.main (F := Ideal))) ⟨m, fun _ => 0, g⟩ (fun r => (∀ c : Dev Cert.SumSmallIdeal.nD,
      r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ r.2.sem = fun _ => 0)

def quiescent_SumSmallRefIdeal [hSumSmallRefIdeal : Cert.SumSmallRefIdeal.Facts] : Prop :=
  ∀ (m : (ℓ : Loc Cert.SumSmallRefIdeal.nD Cert.SumSmallRefIdeal.τ Cert.SumSmallRefIdeal.sig) → Buf (Elt Ideal) ℓ) (g : Dev Cert.SumSmallRefIdeal.nD → PrngReg), Pre_SumSmallRefIdeal m →
    θ_run (Cert.SumSmallRefIdeal.defs (F := Ideal)) (onTc (τ := Cert.SumSmallRefIdeal.τ) (Cert.SumSmallRefIdeal.main (F := Ideal))) ⟨m, fun _ => 0, g⟩ (fun r => (∀ c : Dev Cert.SumSmallRefIdeal.nD,
      r.2.mem ((c.tc : Thread Cert.SumSmallRefIdeal.nD Cert.SumSmallRefIdeal.τ).loc Cert.SumSmallRefIdeal.main_arg0) = m ((c.tc : Thread Cert.SumSmallRefIdeal.nD Cert.SumSmallRefIdeal.τ).loc Cert.SumSmallRefIdeal.main_arg0))
      ∧ r.2.sem = fun _ => 0)

def quiescent_SumNw [hSumNw : Cert.SumNw.Facts] : Prop :=
  ∀ (m : (ℓ : Loc Cert.SumNw.nD Cert.SumNw.τ Cert.SumNw.sig) → Buf (Elt Bits) ℓ) (g : Dev Cert.SumNw.nD → PrngReg), Pre_SumNw m →
    θ_run (Cert.SumNw.defs (F := Bits)) (onTc (τ := Cert.SumNw.τ) (Cert.SumNw.main (F := Bits))) ⟨m, fun _ => 0, g⟩ (fun r => (∀ c : Dev Cert.SumNw.nD,
      r.2.mem ((c.tc : Thread Cert.SumNw.nD Cert.SumNw.τ).loc Cert.SumNw.main_arg0) = m ((c.tc : Thread Cert.SumNw.nD Cert.SumNw.τ).loc Cert.SumNw.main_arg0))
      ∧ r.2.sem = fun _ => 0)

def quiescent_SumNwIdeal [hSumNwIdeal : Cert.SumNwIdeal.Facts] : Prop :=
  ∀ (m : (ℓ : Loc Cert.SumNwIdeal.nD Cert.SumNwIdeal.τ Cert.SumNwIdeal.sig) → Buf (Elt Ideal) ℓ) (g : Dev Cert.SumNwIdeal.nD → PrngReg), Pre_SumNwIdeal m →
    θ_run (Cert.SumNwIdeal.defs (F := Ideal)) (onTc (τ := Cert.SumNwIdeal.τ) (Cert.SumNwIdeal.main (F := Ideal))) ⟨m, fun _ => 0, g⟩ (fun r => (∀ c : Dev Cert.SumNwIdeal.nD,
      r.2.mem ((c.tc : Thread Cert.SumNwIdeal.nD Cert.SumNwIdeal.τ).loc Cert.SumNwIdeal.main_arg0) = m ((c.tc : Thread Cert.SumNwIdeal.nD Cert.SumNwIdeal.τ).loc Cert.SumNwIdeal.main_arg0))
      ∧ r.2.sem = fun _ => 0)

def quiescent_SumNwRefIdeal [hSumNwRefIdeal : Cert.SumNwRefIdeal.Facts] : Prop :=
  ∀ (m : (ℓ : Loc Cert.SumNwRefIdeal.nD Cert.SumNwRefIdeal.τ Cert.SumNwRefIdeal.sig) → Buf (Elt Ideal) ℓ) (g : Dev Cert.SumNwRefIdeal.nD → PrngReg), Pre_SumNwRefIdeal m →
    θ_run (Cert.SumNwRefIdeal.defs (F := Ideal)) (onTc (τ := Cert.SumNwRefIdeal.τ) (Cert.SumNwRefIdeal.main (F := Ideal))) ⟨m, fun _ => 0, g⟩ (fun r => (∀ c : Dev Cert.SumNwRefIdeal.nD,
      r.2.mem ((c.tc : Thread Cert.SumNwRefIdeal.nD Cert.SumNwRefIdeal.τ).loc Cert.SumNwRefIdeal.main_arg0) = m ((c.tc : Thread Cert.SumNwRefIdeal.nD Cert.SumNwRefIdeal.τ).loc Cert.SumNwRefIdeal.main_arg0))
      ∧ r.2.sem = fun _ => 0)

def quiescent_GateB [hGateB : Cert.GateB.Facts] : Prop :=
  ∀ (m : (ℓ : Loc Cert.GateB.nD Cert.GateB.τ Cert.GateB.sig) → Buf (Elt Bits) ℓ) (g : Dev Cert.GateB.nD → PrngReg), Pre_GateB m →
    θ_run (Cert.GateB.defs (F := Bits)) (onTc (τ := Cert.GateB.τ) (Cert.GateB.main (F := Bits))) ⟨m, fun _ => 0, g⟩ (fun r => (∀ c : Dev Cert.GateB.nD,
      r.2.mem ((c.tc : Thread Cert.GateB.nD Cert.GateB.τ).loc Cert.GateB.main_arg0) = m ((c.tc : Thread Cert.GateB.nD Cert.GateB.τ).loc Cert.GateB.main_arg0)
      ∧ r.2.mem ((c.tc : Thread Cert.GateB.nD Cert.GateB.τ).loc Cert.GateB.main_arg1) = m ((c.tc : Thread Cert.GateB.nD Cert.GateB.τ).loc Cert.GateB.main_arg1)
      ∧ r.2.mem ((c.tc : Thread Cert.GateB.nD Cert.GateB.τ).loc Cert.GateB.main_arg2) = m ((c.tc : Thread Cert.GateB.nD Cert.GateB.τ).loc Cert.GateB.main_arg2)
      ∧ r.2.mem ((c.tc : Thread Cert.GateB.nD Cert.GateB.τ).loc Cert.GateB.main_arg3) = m ((c.tc : Thread Cert.GateB.nD Cert.GateB.τ).loc Cert.GateB.main_arg3)
      ∧ r.2.mem ((c.tc : Thread Cert.GateB.nD Cert.GateB.τ).loc Cert.GateB.main_arg4) = m ((c.tc : Thread Cert.GateB.nD Cert.GateB.τ).loc Cert.GateB.main_arg4))
      ∧ r.2.sem = fun _ => 0)

def quiescent_GateBIdeal [hGateBIdeal : Cert.GateBIdeal.Facts] : Prop :=
  ∀ (m : (ℓ : Loc Cert.GateBIdeal.nD Cert.GateBIdeal.τ Cert.GateBIdeal.sig) → Buf (Elt Ideal) ℓ) (g : Dev Cert.GateBIdeal.nD → PrngReg), Pre_GateBIdeal m →
    θ_run (Cert.GateBIdeal.defs (F := Ideal)) (onTc (τ := Cert.GateBIdeal.τ) (Cert.GateBIdeal.main (F := Ideal))) ⟨m, fun _ => 0, g⟩ (fun r => (∀ c : Dev Cert.GateBIdeal.nD,
      r.2.mem ((c.tc : Thread Cert.GateBIdeal.nD Cert.GateBIdeal.τ).loc Cert.GateBIdeal.main_arg0) = m ((c.tc : Thread Cert.GateBIdeal.nD Cert.GateBIdeal.τ).loc Cert.GateBIdeal.main_arg0)
      ∧ r.2.mem ((c.tc : Thread Cert.GateBIdeal.nD Cert.GateBIdeal.τ).loc Cert.GateBIdeal.main_arg1) = m ((c.tc : Thread Cert.GateBIdeal.nD Cert.GateBIdeal.τ).loc Cert.GateBIdeal.main_arg1)
      ∧ r.2.mem ((c.tc : Thread Cert.GateBIdeal.nD Cert.GateBIdeal.τ).loc Cert.GateBIdeal.main_arg2) = m ((c.tc : Thread Cert.GateBIdeal.nD Cert.GateBIdeal.τ).loc Cert.GateBIdeal.main_arg2)
      ∧ r.2.mem ((c.tc : Thread Cert.GateBIdeal.nD Cert.GateBIdeal.τ).loc Cert.GateBIdeal.main_arg3) = m ((c.tc : Thread Cert.GateBIdeal.nD Cert.GateBIdeal.τ).loc Cert.GateBIdeal.main_arg3)
      ∧ r.2.mem ((c.tc : Thread Cert.GateBIdeal.nD Cert.GateBIdeal.τ).loc Cert.GateBIdeal.main_arg4) = m ((c.tc : Thread Cert.GateBIdeal.nD Cert.GateBIdeal.τ).loc Cert.GateBIdeal.main_arg4))
      ∧ r.2.sem = fun _ => 0)

def quiescent_GateBIdeal_pre_gateb_finite [hGateBIdeal : Cert.GateBIdeal.Facts] [hPre_gateb_finite : Cert.Pre_gateb_finite.Facts] : Prop :=
  ∀ (m : (ℓ : Loc Cert.GateBIdeal.nD Cert.GateBIdeal.τ Cert.GateBIdeal.sig) → Buf (Elt Ideal) ℓ) (g : Dev Cert.GateBIdeal.nD → PrngReg), Pre_GateBIdeal_gateb_finite m →
    θ_run (Cert.GateBIdeal.defs (F := Ideal)) (onTc (τ := Cert.GateBIdeal.τ) (Cert.GateBIdeal.main (F := Ideal))) ⟨m, fun _ => 0, g⟩ (fun r => (∀ c : Dev Cert.GateBIdeal.nD,
      r.2.mem ((c.tc : Thread Cert.GateBIdeal.nD Cert.GateBIdeal.τ).loc Cert.GateBIdeal.main_arg0) = m ((c.tc : Thread Cert.GateBIdeal.nD Cert.GateBIdeal.τ).loc Cert.GateBIdeal.main_arg0)
      ∧ r.2.mem ((c.tc : Thread Cert.GateBIdeal.nD Cert.GateBIdeal.τ).loc Cert.GateBIdeal.main_arg1) = m ((c.tc : Thread Cert.GateBIdeal.nD Cert.GateBIdeal.τ).loc Cert.GateBIdeal.main_arg1)
      ∧ r.2.mem ((c.tc : Thread Cert.GateBIdeal.nD Cert.GateBIdeal.τ).loc Cert.GateBIdeal.main_arg2) = m ((c.tc : Thread Cert.GateBIdeal.nD Cert.GateBIdeal.τ).loc Cert.GateBIdeal.main_arg2)
      ∧ r.2.mem ((c.tc : Thread Cert.GateBIdeal.nD Cert.GateBIdeal.τ).loc Cert.GateBIdeal.main_arg3) = m ((c.tc : Thread Cert.GateBIdeal.nD Cert.GateBIdeal.τ).loc Cert.GateBIdeal.main_arg3)
      ∧ r.2.mem ((c.tc : Thread Cert.GateBIdeal.nD Cert.GateBIdeal.τ).loc Cert.GateBIdeal.main_arg4) = m ((c.tc : Thread Cert.GateBIdeal.nD Cert.GateBIdeal.τ).loc Cert.GateBIdeal.main_arg4))
      ∧ r.2.sem = fun _ => 0)

def quiescent_GateBRefIdeal [hGateBRefIdeal : Cert.GateBRefIdeal.Facts] : Prop :=
  ∀ (m : (ℓ : Loc Cert.GateBRefIdeal.nD Cert.GateBRefIdeal.τ Cert.GateBRefIdeal.sig) → Buf (Elt Ideal) ℓ) (g : Dev Cert.GateBRefIdeal.nD → PrngReg), Pre_GateBRefIdeal m →
    θ_run (Cert.GateBRefIdeal.defs (F := Ideal)) (onTc (τ := Cert.GateBRefIdeal.τ) (Cert.GateBRefIdeal.main (F := Ideal))) ⟨m, fun _ => 0, g⟩ (fun r => (∀ c : Dev Cert.GateBRefIdeal.nD,
      r.2.mem ((c.tc : Thread Cert.GateBRefIdeal.nD Cert.GateBRefIdeal.τ).loc Cert.GateBRefIdeal.main_arg0) = m ((c.tc : Thread Cert.GateBRefIdeal.nD Cert.GateBRefIdeal.τ).loc Cert.GateBRefIdeal.main_arg0)
      ∧ r.2.mem ((c.tc : Thread Cert.GateBRefIdeal.nD Cert.GateBRefIdeal.τ).loc Cert.GateBRefIdeal.main_arg1) = m ((c.tc : Thread Cert.GateBRefIdeal.nD Cert.GateBRefIdeal.τ).loc Cert.GateBRefIdeal.main_arg1)
      ∧ r.2.mem ((c.tc : Thread Cert.GateBRefIdeal.nD Cert.GateBRefIdeal.τ).loc Cert.GateBRefIdeal.main_arg2) = m ((c.tc : Thread Cert.GateBRefIdeal.nD Cert.GateBRefIdeal.τ).loc Cert.GateBRefIdeal.main_arg2)
      ∧ r.2.mem ((c.tc : Thread Cert.GateBRefIdeal.nD Cert.GateBRefIdeal.τ).loc Cert.GateBRefIdeal.main_arg3) = m ((c.tc : Thread Cert.GateBRefIdeal.nD Cert.GateBRefIdeal.τ).loc Cert.GateBRefIdeal.main_arg3)
      ∧ r.2.mem ((c.tc : Thread Cert.GateBRefIdeal.nD Cert.GateBRefIdeal.τ).loc Cert.GateBRefIdeal.main_arg4) = m ((c.tc : Thread Cert.GateBRefIdeal.nD Cert.GateBRefIdeal.τ).loc Cert.GateBRefIdeal.main_arg4))
      ∧ r.2.sem = fun _ => 0)

def quiescent_GateBRefIdeal_pre_gateb_finite [hGateBRefIdeal : Cert.GateBRefIdeal.Facts] [hPre_gateb_finite : Cert.Pre_gateb_finite.Facts] : Prop :=
  ∀ (m : (ℓ : Loc Cert.GateBRefIdeal.nD Cert.GateBRefIdeal.τ Cert.GateBRefIdeal.sig) → Buf (Elt Ideal) ℓ) (g : Dev Cert.GateBRefIdeal.nD → PrngReg), Pre_GateBRefIdeal_gateb_finite m →
    θ_run (Cert.GateBRefIdeal.defs (F := Ideal)) (onTc (τ := Cert.GateBRefIdeal.τ) (Cert.GateBRefIdeal.main (F := Ideal))) ⟨m, fun _ => 0, g⟩ (fun r => (∀ c : Dev Cert.GateBRefIdeal.nD,
      r.2.mem ((c.tc : Thread Cert.GateBRefIdeal.nD Cert.GateBRefIdeal.τ).loc Cert.GateBRefIdeal.main_arg0) = m ((c.tc : Thread Cert.GateBRefIdeal.nD Cert.GateBRefIdeal.τ).loc Cert.GateBRefIdeal.main_arg0)
      ∧ r.2.mem ((c.tc : Thread Cert.GateBRefIdeal.nD Cert.GateBRefIdeal.τ).loc Cert.GateBRefIdeal.main_arg1) = m ((c.tc : Thread Cert.GateBRefIdeal.nD Cert.GateBRefIdeal.τ).loc Cert.GateBRefIdeal.main_arg1)
      ∧ r.2.mem ((c.tc : Thread Cert.GateBRefIdeal.nD Cert.GateBRefIdeal.τ).loc Cert.GateBRefIdeal.main_arg2) = m ((c.tc : Thread Cert.GateBRefIdeal.nD Cert.GateBRefIdeal.τ).loc Cert.GateBRefIdeal.main_arg2)
      ∧ r.2.mem ((c.tc : Thread Cert.GateBRefIdeal.nD Cert.GateBRefIdeal.τ).loc Cert.GateBRefIdeal.main_arg3) = m ((c.tc : Thread Cert.GateBRefIdeal.nD Cert.GateBRefIdeal.τ).loc Cert.GateBRefIdeal.main_arg3)
      ∧ r.2.mem ((c.tc : Thread Cert.GateBRefIdeal.nD Cert.GateBRefIdeal.τ).loc Cert.GateBRefIdeal.main_arg4) = m ((c.tc : Thread Cert.GateBRefIdeal.nD Cert.GateBRefIdeal.τ).loc Cert.GateBRefIdeal.main_arg4))
      ∧ r.2.sem = fun _ => 0)

def quiescent_QkvB [hQkvB : Cert.QkvB.Facts] : Prop :=
  ∀ (m : (ℓ : Loc Cert.QkvB.nD Cert.QkvB.τ Cert.QkvB.sig) → Buf (Elt Bits) ℓ) (g : Dev Cert.QkvB.nD → PrngReg), Pre_QkvB m →
    θ_run (Cert.QkvB.defs (F := Bits)) (onTc (τ := Cert.QkvB.τ) (Cert.QkvB.main (F := Bits))) ⟨m, fun _ => 0, g⟩ (fun r => (∀ c : Dev Cert.QkvB.nD,
      r.2.mem ((c.tc : Thread Cert.QkvB.nD Cert.QkvB.τ).loc Cert.QkvB.main_arg0) = m ((c.tc : Thread Cert.QkvB.nD Cert.QkvB.τ).loc Cert.QkvB.main_arg0)
      ∧ r.2.mem ((c.tc : Thread Cert.QkvB.nD Cert.QkvB.τ).loc Cert.QkvB.main_arg1) = m ((c.tc : Thread Cert.QkvB.nD Cert.QkvB.τ).loc Cert.QkvB.main_arg1)
      ∧ r.2.mem ((c.tc : Thread Cert.QkvB.nD Cert.QkvB.τ).loc Cert.QkvB.main_arg2) = m ((c.tc : Thread Cert.QkvB.nD Cert.QkvB.τ).loc Cert.QkvB.main_arg2))
      ∧ r.2.sem = fun _ => 0)

def quiescent_QkvBIdeal [hQkvBIdeal : Cert.QkvBIdeal.Facts] : Prop :=
  ∀ (m : (ℓ : Loc Cert.QkvBIdeal.nD Cert.QkvBIdeal.τ Cert.QkvBIdeal.sig) → Buf (Elt Ideal) ℓ) (g : Dev Cert.QkvBIdeal.nD → PrngReg), Pre_QkvBIdeal m →
    θ_run (Cert.QkvBIdeal.defs (F := Ideal)) (onTc (τ := Cert.QkvBIdeal.τ) (Cert.QkvBIdeal.main (F := Ideal))) ⟨m, fun _ => 0, g⟩ (fun r => (∀ c : Dev Cert.QkvBIdeal.nD,
      r.2.mem ((c.tc : Thread Cert.QkvBIdeal.nD Cert.QkvBIdeal.τ).loc Cert.QkvBIdeal.main_arg0) = m ((c.tc : Thread Cert.QkvBIdeal.nD Cert.QkvBIdeal.τ).loc Cert.QkvBIdeal.main_arg0)
      ∧ r.2.mem ((c.tc : Thread Cert.QkvBIdeal.nD Cert.QkvBIdeal.τ).loc Cert.QkvBIdeal.main_arg1) = m ((c.tc : Thread Cert.QkvBIdeal.nD Cert.QkvBIdeal.τ).loc Cert.QkvBIdeal.main_arg1)
      ∧ r.2.mem ((c.tc : Thread Cert.QkvBIdeal.nD Cert.QkvBIdeal.τ).loc Cert.QkvBIdeal.main_arg2) = m ((c.tc : Thread Cert.QkvBIdeal.nD Cert.QkvBIdeal.τ).loc Cert.QkvBIdeal.main_arg2))
      ∧ r.2.sem = fun _ => 0)

def quiescent_QkvBIdeal_pre_qkvb_finite [hQkvBIdeal : Cert.QkvBIdeal.Facts] [hPre_qkvb_finite : Cert.Pre_qkvb_finite.Facts] : Prop :=
  ∀ (m : (ℓ : Loc Cert.QkvBIdeal.nD Cert.QkvBIdeal.τ Cert.QkvBIdeal.sig) → Buf (Elt Ideal) ℓ) (g : Dev Cert.QkvBIdeal.nD → PrngReg), Pre_QkvBIdeal_qkvb_finite m →
    θ_run (Cert.QkvBIdeal.defs (F := Ideal)) (onTc (τ := Cert.QkvBIdeal.τ) (Cert.QkvBIdeal.main (F := Ideal))) ⟨m, fun _ => 0, g⟩ (fun r => (∀ c : Dev Cert.QkvBIdeal.nD,
      r.2.mem ((c.tc : Thread Cert.QkvBIdeal.nD Cert.QkvBIdeal.τ).loc Cert.QkvBIdeal.main_arg0) = m ((c.tc : Thread Cert.QkvBIdeal.nD Cert.QkvBIdeal.τ).loc Cert.QkvBIdeal.main_arg0)
      ∧ r.2.mem ((c.tc : Thread Cert.QkvBIdeal.nD Cert.QkvBIdeal.τ).loc Cert.QkvBIdeal.main_arg1) = m ((c.tc : Thread Cert.QkvBIdeal.nD Cert.QkvBIdeal.τ).loc Cert.QkvBIdeal.main_arg1)
      ∧ r.2.mem ((c.tc : Thread Cert.QkvBIdeal.nD Cert.QkvBIdeal.τ).loc Cert.QkvBIdeal.main_arg2) = m ((c.tc : Thread Cert.QkvBIdeal.nD Cert.QkvBIdeal.τ).loc Cert.QkvBIdeal.main_arg2))
      ∧ r.2.sem = fun _ => 0)

def quiescent_QkvBRefIdeal [hQkvBRefIdeal : Cert.QkvBRefIdeal.Facts] : Prop :=
  ∀ (m : (ℓ : Loc Cert.QkvBRefIdeal.nD Cert.QkvBRefIdeal.τ Cert.QkvBRefIdeal.sig) → Buf (Elt Ideal) ℓ) (g : Dev Cert.QkvBRefIdeal.nD → PrngReg), Pre_QkvBRefIdeal m →
    θ_run (Cert.QkvBRefIdeal.defs (F := Ideal)) (onTc (τ := Cert.QkvBRefIdeal.τ) (Cert.QkvBRefIdeal.main (F := Ideal))) ⟨m, fun _ => 0, g⟩ (fun r => (∀ c : Dev Cert.QkvBRefIdeal.nD,
      r.2.mem ((c.tc : Thread Cert.QkvBRefIdeal.nD Cert.QkvBRefIdeal.τ).loc Cert.QkvBRefIdeal.main_arg0) = m ((c.tc : Thread Cert.QkvBRefIdeal.nD Cert.QkvBRefIdeal.τ).loc Cert.QkvBRefIdeal.main_arg0)
      ∧ r.2.mem ((c.tc : Thread Cert.QkvBRefIdeal.nD Cert.QkvBRefIdeal.τ).loc Cert.QkvBRefIdeal.main_arg1) = m ((c.tc : Thread Cert.QkvBRefIdeal.nD Cert.QkvBRefIdeal.τ).loc Cert.QkvBRefIdeal.main_arg1)
      ∧ r.2.mem ((c.tc : Thread Cert.QkvBRefIdeal.nD Cert.QkvBRefIdeal.τ).loc Cert.QkvBRefIdeal.main_arg2) = m ((c.tc : Thread Cert.QkvBRefIdeal.nD Cert.QkvBRefIdeal.τ).loc Cert.QkvBRefIdeal.main_arg2))
      ∧ r.2.sem = fun _ => 0)

def quiescent_QkvBRefIdeal_pre_qkvb_finite [hQkvBRefIdeal : Cert.QkvBRefIdeal.Facts] [hPre_qkvb_finite : Cert.Pre_qkvb_finite.Facts] : Prop :=
  ∀ (m : (ℓ : Loc Cert.QkvBRefIdeal.nD Cert.QkvBRefIdeal.τ Cert.QkvBRefIdeal.sig) → Buf (Elt Ideal) ℓ) (g : Dev Cert.QkvBRefIdeal.nD → PrngReg), Pre_QkvBRefIdeal_qkvb_finite m →
    θ_run (Cert.QkvBRefIdeal.defs (F := Ideal)) (onTc (τ := Cert.QkvBRefIdeal.τ) (Cert.QkvBRefIdeal.main (F := Ideal))) ⟨m, fun _ => 0, g⟩ (fun r => (∀ c : Dev Cert.QkvBRefIdeal.nD,
      r.2.mem ((c.tc : Thread Cert.QkvBRefIdeal.nD Cert.QkvBRefIdeal.τ).loc Cert.QkvBRefIdeal.main_arg0) = m ((c.tc : Thread Cert.QkvBRefIdeal.nD Cert.QkvBRefIdeal.τ).loc Cert.QkvBRefIdeal.main_arg0)
      ∧ r.2.mem ((c.tc : Thread Cert.QkvBRefIdeal.nD Cert.QkvBRefIdeal.τ).loc Cert.QkvBRefIdeal.main_arg1) = m ((c.tc : Thread Cert.QkvBRefIdeal.nD Cert.QkvBRefIdeal.τ).loc Cert.QkvBRefIdeal.main_arg1)
      ∧ r.2.mem ((c.tc : Thread Cert.QkvBRefIdeal.nD Cert.QkvBRefIdeal.τ).loc Cert.QkvBRefIdeal.main_arg2) = m ((c.tc : Thread Cert.QkvBRefIdeal.nD Cert.QkvBRefIdeal.τ).loc Cert.QkvBRefIdeal.main_arg2))
      ∧ r.2.sem = fun _ => 0)

def quiescent_HgB [hHgB : Cert.HgB.Facts] : Prop :=
  ∀ (m : (ℓ : Loc Cert.HgB.nD Cert.HgB.τ Cert.HgB.sig) → Buf (Elt Bits) ℓ) (g : Dev Cert.HgB.nD → PrngReg), Pre_HgB m →
    θ_run (Cert.HgB.defs (F := Bits)) (onTc (τ := Cert.HgB.τ) (Cert.HgB.main (F := Bits))) ⟨m, fun _ => 0, g⟩ (fun r => (∀ c : Dev Cert.HgB.nD,
      r.2.mem ((c.tc : Thread Cert.HgB.nD Cert.HgB.τ).loc Cert.HgB.main_arg0) = m ((c.tc : Thread Cert.HgB.nD Cert.HgB.τ).loc Cert.HgB.main_arg0)
      ∧ r.2.mem ((c.tc : Thread Cert.HgB.nD Cert.HgB.τ).loc Cert.HgB.main_arg1) = m ((c.tc : Thread Cert.HgB.nD Cert.HgB.τ).loc Cert.HgB.main_arg1)
      ∧ r.2.mem ((c.tc : Thread Cert.HgB.nD Cert.HgB.τ).loc Cert.HgB.main_arg2) = m ((c.tc : Thread Cert.HgB.nD Cert.HgB.τ).loc Cert.HgB.main_arg2)
      ∧ r.2.mem ((c.tc : Thread Cert.HgB.nD Cert.HgB.τ).loc Cert.HgB.main_arg3) = m ((c.tc : Thread Cert.HgB.nD Cert.HgB.τ).loc Cert.HgB.main_arg3)
      ∧ r.2.mem ((c.tc : Thread Cert.HgB.nD Cert.HgB.τ).loc Cert.HgB.main_arg4) = m ((c.tc : Thread Cert.HgB.nD Cert.HgB.τ).loc Cert.HgB.main_arg4)
      ∧ r.2.mem ((c.tc : Thread Cert.HgB.nD Cert.HgB.τ).loc Cert.HgB.main_arg5) = m ((c.tc : Thread Cert.HgB.nD Cert.HgB.τ).loc Cert.HgB.main_arg5)
      ∧ r.2.mem ((c.tc : Thread Cert.HgB.nD Cert.HgB.τ).loc Cert.HgB.main_arg6) = m ((c.tc : Thread Cert.HgB.nD Cert.HgB.τ).loc Cert.HgB.main_arg6)
      ∧ r.2.mem ((c.tc : Thread Cert.HgB.nD Cert.HgB.τ).loc Cert.HgB.main_arg7) = m ((c.tc : Thread Cert.HgB.nD Cert.HgB.τ).loc Cert.HgB.main_arg7)
      ∧ r.2.mem ((c.tc : Thread Cert.HgB.nD Cert.HgB.τ).loc Cert.HgB.main_arg8) = m ((c.tc : Thread Cert.HgB.nD Cert.HgB.τ).loc Cert.HgB.main_arg8))
      ∧ r.2.sem = fun _ => 0)

def quiescent_HgBIdeal [hHgBIdeal : Cert.HgBIdeal.Facts] : Prop :=
  ∀ (m : (ℓ : Loc Cert.HgBIdeal.nD Cert.HgBIdeal.τ Cert.HgBIdeal.sig) → Buf (Elt Ideal) ℓ) (g : Dev Cert.HgBIdeal.nD → PrngReg), Pre_HgBIdeal m →
    θ_run (Cert.HgBIdeal.defs (F := Ideal)) (onTc (τ := Cert.HgBIdeal.τ) (Cert.HgBIdeal.main (F := Ideal))) ⟨m, fun _ => 0, g⟩ (fun r => (∀ c : Dev Cert.HgBIdeal.nD,
      r.2.mem ((c.tc : Thread Cert.HgBIdeal.nD Cert.HgBIdeal.τ).loc Cert.HgBIdeal.main_arg0) = m ((c.tc : Thread Cert.HgBIdeal.nD Cert.HgBIdeal.τ).loc Cert.HgBIdeal.main_arg0)
      ∧ r.2.mem ((c.tc : Thread Cert.HgBIdeal.nD Cert.HgBIdeal.τ).loc Cert.HgBIdeal.main_arg1) = m ((c.tc : Thread Cert.HgBIdeal.nD Cert.HgBIdeal.τ).loc Cert.HgBIdeal.main_arg1)
      ∧ r.2.mem ((c.tc : Thread Cert.HgBIdeal.nD Cert.HgBIdeal.τ).loc Cert.HgBIdeal.main_arg2) = m ((c.tc : Thread Cert.HgBIdeal.nD Cert.HgBIdeal.τ).loc Cert.HgBIdeal.main_arg2)
      ∧ r.2.mem ((c.tc : Thread Cert.HgBIdeal.nD Cert.HgBIdeal.τ).loc Cert.HgBIdeal.main_arg3) = m ((c.tc : Thread Cert.HgBIdeal.nD Cert.HgBIdeal.τ).loc Cert.HgBIdeal.main_arg3)
      ∧ r.2.mem ((c.tc : Thread Cert.HgBIdeal.nD Cert.HgBIdeal.τ).loc Cert.HgBIdeal.main_arg4) = m ((c.tc : Thread Cert.HgBIdeal.nD Cert.HgBIdeal.τ).loc Cert.HgBIdeal.main_arg4)
      ∧ r.2.mem ((c.tc : Thread Cert.HgBIdeal.nD Cert.HgBIdeal.τ).loc Cert.HgBIdeal.main_arg5) = m ((c.tc : Thread Cert.HgBIdeal.nD Cert.HgBIdeal.τ).loc Cert.HgBIdeal.main_arg5)
      ∧ r.2.mem ((c.tc : Thread Cert.HgBIdeal.nD Cert.HgBIdeal.τ).loc Cert.HgBIdeal.main_arg6) = m ((c.tc : Thread Cert.HgBIdeal.nD Cert.HgBIdeal.τ).loc Cert.HgBIdeal.main_arg6)
      ∧ r.2.mem ((c.tc : Thread Cert.HgBIdeal.nD Cert.HgBIdeal.τ).loc Cert.HgBIdeal.main_arg7) = m ((c.tc : Thread Cert.HgBIdeal.nD Cert.HgBIdeal.τ).loc Cert.HgBIdeal.main_arg7)
      ∧ r.2.mem ((c.tc : Thread Cert.HgBIdeal.nD Cert.HgBIdeal.τ).loc Cert.HgBIdeal.main_arg8) = m ((c.tc : Thread Cert.HgBIdeal.nD Cert.HgBIdeal.τ).loc Cert.HgBIdeal.main_arg8))
      ∧ r.2.sem = fun _ => 0)

def quiescent_HgBRefIdeal [hHgBRefIdeal : Cert.HgBRefIdeal.Facts] : Prop :=
  ∀ (m : (ℓ : Loc Cert.HgBRefIdeal.nD Cert.HgBRefIdeal.τ Cert.HgBRefIdeal.sig) → Buf (Elt Ideal) ℓ) (g : Dev Cert.HgBRefIdeal.nD → PrngReg), Pre_HgBRefIdeal m →
    θ_run (Cert.HgBRefIdeal.defs (F := Ideal)) (onTc (τ := Cert.HgBRefIdeal.τ) (Cert.HgBRefIdeal.main (F := Ideal))) ⟨m, fun _ => 0, g⟩ (fun r => (∀ c : Dev Cert.HgBRefIdeal.nD,
      r.2.mem ((c.tc : Thread Cert.HgBRefIdeal.nD Cert.HgBRefIdeal.τ).loc Cert.HgBRefIdeal.main_arg0) = m ((c.tc : Thread Cert.HgBRefIdeal.nD Cert.HgBRefIdeal.τ).loc Cert.HgBRefIdeal.main_arg0)
      ∧ r.2.mem ((c.tc : Thread Cert.HgBRefIdeal.nD Cert.HgBRefIdeal.τ).loc Cert.HgBRefIdeal.main_arg1) = m ((c.tc : Thread Cert.HgBRefIdeal.nD Cert.HgBRefIdeal.τ).loc Cert.HgBRefIdeal.main_arg1)
      ∧ r.2.mem ((c.tc : Thread Cert.HgBRefIdeal.nD Cert.HgBRefIdeal.τ).loc Cert.HgBRefIdeal.main_arg2) = m ((c.tc : Thread Cert.HgBRefIdeal.nD Cert.HgBRefIdeal.τ).loc Cert.HgBRefIdeal.main_arg2)
      ∧ r.2.mem ((c.tc : Thread Cert.HgBRefIdeal.nD Cert.HgBRefIdeal.τ).loc Cert.HgBRefIdeal.main_arg3) = m ((c.tc : Thread Cert.HgBRefIdeal.nD Cert.HgBRefIdeal.τ).loc Cert.HgBRefIdeal.main_arg3)
      ∧ r.2.mem ((c.tc : Thread Cert.HgBRefIdeal.nD Cert.HgBRefIdeal.τ).loc Cert.HgBRefIdeal.main_arg4) = m ((c.tc : Thread Cert.HgBRefIdeal.nD Cert.HgBRefIdeal.τ).loc Cert.HgBRefIdeal.main_arg4)
      ∧ r.2.mem ((c.tc : Thread Cert.HgBRefIdeal.nD Cert.HgBRefIdeal.τ).loc Cert.HgBRefIdeal.main_arg5) = m ((c.tc : Thread Cert.HgBRefIdeal.nD Cert.HgBRefIdeal.τ).loc Cert.HgBRefIdeal.main_arg5)
      ∧ r.2.mem ((c.tc : Thread Cert.HgBRefIdeal.nD Cert.HgBRefIdeal.τ).loc Cert.HgBRefIdeal.main_arg6) = m ((c.tc : Thread Cert.HgBRefIdeal.nD Cert.HgBRefIdeal.τ).loc Cert.HgBRefIdeal.main_arg6)
      ∧ r.2.mem ((c.tc : Thread Cert.HgBRefIdeal.nD Cert.HgBRefIdeal.τ).loc Cert.HgBRefIdeal.main_arg7) = m ((c.tc : Thread Cert.HgBRefIdeal.nD Cert.HgBRefIdeal.τ).loc Cert.HgBRefIdeal.main_arg7)
      ∧ r.2.mem ((c.tc : Thread Cert.HgBRefIdeal.nD Cert.HgBRefIdeal.τ).loc Cert.HgBRefIdeal.main_arg8) = m ((c.tc : Thread Cert.HgBRefIdeal.nD Cert.HgBRefIdeal.τ).loc Cert.HgBRefIdeal.main_arg8))
      ∧ r.2.sem = fun _ => 0)

def quiescent_DnB [hDnB : Cert.DnB.Facts] : Prop :=
  ∀ (m : (ℓ : Loc Cert.DnB.nD Cert.DnB.τ Cert.DnB.sig) → Buf (Elt Bits) ℓ) (g : Dev Cert.DnB.nD → PrngReg), Pre_DnB m →
    θ_run (Cert.DnB.defs (F := Bits)) (onTc (τ := Cert.DnB.τ) (Cert.DnB.main (F := Bits))) ⟨m, fun _ => 0, g⟩ (fun r => (∀ c : Dev Cert.DnB.nD,
      r.2.mem ((c.tc : Thread Cert.DnB.nD Cert.DnB.τ).loc Cert.DnB.main_arg0) = m ((c.tc : Thread Cert.DnB.nD Cert.DnB.τ).loc Cert.DnB.main_arg0)
      ∧ r.2.mem ((c.tc : Thread Cert.DnB.nD Cert.DnB.τ).loc Cert.DnB.main_arg1) = m ((c.tc : Thread Cert.DnB.nD Cert.DnB.τ).loc Cert.DnB.main_arg1)
      ∧ r.2.mem ((c.tc : Thread Cert.DnB.nD Cert.DnB.τ).loc Cert.DnB.main_arg2) = m ((c.tc : Thread Cert.DnB.nD Cert.DnB.τ).loc Cert.DnB.main_arg2)
      ∧ r.2.mem ((c.tc : Thread Cert.DnB.nD Cert.DnB.τ).loc Cert.DnB.main_arg3) = m ((c.tc : Thread Cert.DnB.nD Cert.DnB.τ).loc Cert.DnB.main_arg3)
      ∧ r.2.mem ((c.tc : Thread Cert.DnB.nD Cert.DnB.τ).loc Cert.DnB.main_arg4) = m ((c.tc : Thread Cert.DnB.nD Cert.DnB.τ).loc Cert.DnB.main_arg4)
      ∧ r.2.mem ((c.tc : Thread Cert.DnB.nD Cert.DnB.τ).loc Cert.DnB.main_arg5) = m ((c.tc : Thread Cert.DnB.nD Cert.DnB.τ).loc Cert.DnB.main_arg5)
      ∧ r.2.mem ((c.tc : Thread Cert.DnB.nD Cert.DnB.τ).loc Cert.DnB.main_arg6) = m ((c.tc : Thread Cert.DnB.nD Cert.DnB.τ).loc Cert.DnB.main_arg6)
      ∧ r.2.mem ((c.tc : Thread Cert.DnB.nD Cert.DnB.τ).loc Cert.DnB.main_arg7) = m ((c.tc : Thread Cert.DnB.nD Cert.DnB.τ).loc Cert.DnB.main_arg7)
      ∧ r.2.mem ((c.tc : Thread Cert.DnB.nD Cert.DnB.τ).loc Cert.DnB.main_arg8) = m ((c.tc : Thread Cert.DnB.nD Cert.DnB.τ).loc Cert.DnB.main_arg8))
      ∧ r.2.sem = fun _ => 0)

def quiescent_DnBIdeal [hDnBIdeal : Cert.DnBIdeal.Facts] : Prop :=
  ∀ (m : (ℓ : Loc Cert.DnBIdeal.nD Cert.DnBIdeal.τ Cert.DnBIdeal.sig) → Buf (Elt Ideal) ℓ) (g : Dev Cert.DnBIdeal.nD → PrngReg), Pre_DnBIdeal m →
    θ_run (Cert.DnBIdeal.defs (F := Ideal)) (onTc (τ := Cert.DnBIdeal.τ) (Cert.DnBIdeal.main (F := Ideal))) ⟨m, fun _ => 0, g⟩ (fun r => (∀ c : Dev Cert.DnBIdeal.nD,
      r.2.mem ((c.tc : Thread Cert.DnBIdeal.nD Cert.DnBIdeal.τ).loc Cert.DnBIdeal.main_arg0) = m ((c.tc : Thread Cert.DnBIdeal.nD Cert.DnBIdeal.τ).loc Cert.DnBIdeal.main_arg0)
      ∧ r.2.mem ((c.tc : Thread Cert.DnBIdeal.nD Cert.DnBIdeal.τ).loc Cert.DnBIdeal.main_arg1) = m ((c.tc : Thread Cert.DnBIdeal.nD Cert.DnBIdeal.τ).loc Cert.DnBIdeal.main_arg1)
      ∧ r.2.mem ((c.tc : Thread Cert.DnBIdeal.nD Cert.DnBIdeal.τ).loc Cert.DnBIdeal.main_arg2) = m ((c.tc : Thread Cert.DnBIdeal.nD Cert.DnBIdeal.τ).loc Cert.DnBIdeal.main_arg2)
      ∧ r.2.mem ((c.tc : Thread Cert.DnBIdeal.nD Cert.DnBIdeal.τ).loc Cert.DnBIdeal.main_arg3) = m ((c.tc : Thread Cert.DnBIdeal.nD Cert.DnBIdeal.τ).loc Cert.DnBIdeal.main_arg3)
      ∧ r.2.mem ((c.tc : Thread Cert.DnBIdeal.nD Cert.DnBIdeal.τ).loc Cert.DnBIdeal.main_arg4) = m ((c.tc : Thread Cert.DnBIdeal.nD Cert.DnBIdeal.τ).loc Cert.DnBIdeal.main_arg4)
      ∧ r.2.mem ((c.tc : Thread Cert.DnBIdeal.nD Cert.DnBIdeal.τ).loc Cert.DnBIdeal.main_arg5) = m ((c.tc : Thread Cert.DnBIdeal.nD Cert.DnBIdeal.τ).loc Cert.DnBIdeal.main_arg5)
      ∧ r.2.mem ((c.tc : Thread Cert.DnBIdeal.nD Cert.DnBIdeal.τ).loc Cert.DnBIdeal.main_arg6) = m ((c.tc : Thread Cert.DnBIdeal.nD Cert.DnBIdeal.τ).loc Cert.DnBIdeal.main_arg6)
      ∧ r.2.mem ((c.tc : Thread Cert.DnBIdeal.nD Cert.DnBIdeal.τ).loc Cert.DnBIdeal.main_arg7) = m ((c.tc : Thread Cert.DnBIdeal.nD Cert.DnBIdeal.τ).loc Cert.DnBIdeal.main_arg7)
      ∧ r.2.mem ((c.tc : Thread Cert.DnBIdeal.nD Cert.DnBIdeal.τ).loc Cert.DnBIdeal.main_arg8) = m ((c.tc : Thread Cert.DnBIdeal.nD Cert.DnBIdeal.τ).loc Cert.DnBIdeal.main_arg8))
      ∧ r.2.sem = fun _ => 0)

def quiescent_DnBRefIdeal [hDnBRefIdeal : Cert.DnBRefIdeal.Facts] : Prop :=
  ∀ (m : (ℓ : Loc Cert.DnBRefIdeal.nD Cert.DnBRefIdeal.τ Cert.DnBRefIdeal.sig) → Buf (Elt Ideal) ℓ) (g : Dev Cert.DnBRefIdeal.nD → PrngReg), Pre_DnBRefIdeal m →
    θ_run (Cert.DnBRefIdeal.defs (F := Ideal)) (onTc (τ := Cert.DnBRefIdeal.τ) (Cert.DnBRefIdeal.main (F := Ideal))) ⟨m, fun _ => 0, g⟩ (fun r => (∀ c : Dev Cert.DnBRefIdeal.nD,
      r.2.mem ((c.tc : Thread Cert.DnBRefIdeal.nD Cert.DnBRefIdeal.τ).loc Cert.DnBRefIdeal.main_arg0) = m ((c.tc : Thread Cert.DnBRefIdeal.nD Cert.DnBRefIdeal.τ).loc Cert.DnBRefIdeal.main_arg0)
      ∧ r.2.mem ((c.tc : Thread Cert.DnBRefIdeal.nD Cert.DnBRefIdeal.τ).loc Cert.DnBRefIdeal.main_arg1) = m ((c.tc : Thread Cert.DnBRefIdeal.nD Cert.DnBRefIdeal.τ).loc Cert.DnBRefIdeal.main_arg1)
      ∧ r.2.mem ((c.tc : Thread Cert.DnBRefIdeal.nD Cert.DnBRefIdeal.τ).loc Cert.DnBRefIdeal.main_arg2) = m ((c.tc : Thread Cert.DnBRefIdeal.nD Cert.DnBRefIdeal.τ).loc Cert.DnBRefIdeal.main_arg2)
      ∧ r.2.mem ((c.tc : Thread Cert.DnBRefIdeal.nD Cert.DnBRefIdeal.τ).loc Cert.DnBRefIdeal.main_arg3) = m ((c.tc : Thread Cert.DnBRefIdeal.nD Cert.DnBRefIdeal.τ).loc Cert.DnBRefIdeal.main_arg3)
      ∧ r.2.mem ((c.tc : Thread Cert.DnBRefIdeal.nD Cert.DnBRefIdeal.τ).loc Cert.DnBRefIdeal.main_arg4) = m ((c.tc : Thread Cert.DnBRefIdeal.nD Cert.DnBRefIdeal.τ).loc Cert.DnBRefIdeal.main_arg4)
      ∧ r.2.mem ((c.tc : Thread Cert.DnBRefIdeal.nD Cert.DnBRefIdeal.τ).loc Cert.DnBRefIdeal.main_arg5) = m ((c.tc : Thread Cert.DnBRefIdeal.nD Cert.DnBRefIdeal.τ).loc Cert.DnBRefIdeal.main_arg5)
      ∧ r.2.mem ((c.tc : Thread Cert.DnBRefIdeal.nD Cert.DnBRefIdeal.τ).loc Cert.DnBRefIdeal.main_arg6) = m ((c.tc : Thread Cert.DnBRefIdeal.nD Cert.DnBRefIdeal.τ).loc Cert.DnBRefIdeal.main_arg6)
      ∧ r.2.mem ((c.tc : Thread Cert.DnBRefIdeal.nD Cert.DnBRefIdeal.τ).loc Cert.DnBRefIdeal.main_arg7) = m ((c.tc : Thread Cert.DnBRefIdeal.nD Cert.DnBRefIdeal.τ).loc Cert.DnBRefIdeal.main_arg7)
      ∧ r.2.mem ((c.tc : Thread Cert.DnBRefIdeal.nD Cert.DnBRefIdeal.τ).loc Cert.DnBRefIdeal.main_arg8) = m ((c.tc : Thread Cert.DnBRefIdeal.nD Cert.DnBRefIdeal.τ).loc Cert.DnBRefIdeal.main_arg8))
      ∧ r.2.sem = fun _ => 0)

def quiescent_GateF [hGateF : Cert.GateF.Facts] : Prop :=
  ∀ (m : (ℓ : Loc Cert.GateF.nD Cert.GateF.τ Cert.GateF.sig) → Buf (Elt Bits) ℓ) (g : Dev Cert.GateF.nD → PrngReg), Pre_GateF m →
    θ_run (Cert.GateF.defs (F := Bits)) (onTc (τ := Cert.GateF.τ) (Cert.GateF.main (F := Bits))) ⟨m, fun _ => 0, g⟩ (fun r => (∀ c : Dev Cert.GateF.nD,
      r.2.mem ((c.tc : Thread Cert.GateF.nD Cert.GateF.τ).loc Cert.GateF.main_arg0) = m ((c.tc : Thread Cert.GateF.nD Cert.GateF.τ).loc Cert.GateF.main_arg0)
      ∧ r.2.mem ((c.tc : Thread Cert.GateF.nD Cert.GateF.τ).loc Cert.GateF.main_arg1) = m ((c.tc : Thread Cert.GateF.nD Cert.GateF.τ).loc Cert.GateF.main_arg1)
      ∧ r.2.mem ((c.tc : Thread Cert.GateF.nD Cert.GateF.τ).loc Cert.GateF.main_arg2) = m ((c.tc : Thread Cert.GateF.nD Cert.GateF.τ).loc Cert.GateF.main_arg2))
      ∧ r.2.sem = fun _ => 0)

def quiescent_GateFIdeal [hGateFIdeal : Cert.GateFIdeal.Facts] : Prop :=
  ∀ (m : (ℓ : Loc Cert.GateFIdeal.nD Cert.GateFIdeal.τ Cert.GateFIdeal.sig) → Buf (Elt Ideal) ℓ) (g : Dev Cert.GateFIdeal.nD → PrngReg), Pre_GateFIdeal m →
    θ_run (Cert.GateFIdeal.defs (F := Ideal)) (onTc (τ := Cert.GateFIdeal.τ) (Cert.GateFIdeal.main (F := Ideal))) ⟨m, fun _ => 0, g⟩ (fun r => (∀ c : Dev Cert.GateFIdeal.nD,
      r.2.mem ((c.tc : Thread Cert.GateFIdeal.nD Cert.GateFIdeal.τ).loc Cert.GateFIdeal.main_arg0) = m ((c.tc : Thread Cert.GateFIdeal.nD Cert.GateFIdeal.τ).loc Cert.GateFIdeal.main_arg0)
      ∧ r.2.mem ((c.tc : Thread Cert.GateFIdeal.nD Cert.GateFIdeal.τ).loc Cert.GateFIdeal.main_arg1) = m ((c.tc : Thread Cert.GateFIdeal.nD Cert.GateFIdeal.τ).loc Cert.GateFIdeal.main_arg1)
      ∧ r.2.mem ((c.tc : Thread Cert.GateFIdeal.nD Cert.GateFIdeal.τ).loc Cert.GateFIdeal.main_arg2) = m ((c.tc : Thread Cert.GateFIdeal.nD Cert.GateFIdeal.τ).loc Cert.GateFIdeal.main_arg2))
      ∧ r.2.sem = fun _ => 0)

def quiescent_GateFRefIdeal [hGateFRefIdeal : Cert.GateFRefIdeal.Facts] : Prop :=
  ∀ (m : (ℓ : Loc Cert.GateFRefIdeal.nD Cert.GateFRefIdeal.τ Cert.GateFRefIdeal.sig) → Buf (Elt Ideal) ℓ) (g : Dev Cert.GateFRefIdeal.nD → PrngReg), Pre_GateFRefIdeal m →
    θ_run (Cert.GateFRefIdeal.defs (F := Ideal)) (onTc (τ := Cert.GateFRefIdeal.τ) (Cert.GateFRefIdeal.main (F := Ideal))) ⟨m, fun _ => 0, g⟩ (fun r => (∀ c : Dev Cert.GateFRefIdeal.nD,
      r.2.mem ((c.tc : Thread Cert.GateFRefIdeal.nD Cert.GateFRefIdeal.τ).loc Cert.GateFRefIdeal.main_arg0) = m ((c.tc : Thread Cert.GateFRefIdeal.nD Cert.GateFRefIdeal.τ).loc Cert.GateFRefIdeal.main_arg0)
      ∧ r.2.mem ((c.tc : Thread Cert.GateFRefIdeal.nD Cert.GateFRefIdeal.τ).loc Cert.GateFRefIdeal.main_arg1) = m ((c.tc : Thread Cert.GateFRefIdeal.nD Cert.GateFRefIdeal.τ).loc Cert.GateFRefIdeal.main_arg1)
      ∧ r.2.mem ((c.tc : Thread Cert.GateFRefIdeal.nD Cert.GateFRefIdeal.τ).loc Cert.GateFRefIdeal.main_arg2) = m ((c.tc : Thread Cert.GateFRefIdeal.nD Cert.GateFRefIdeal.τ).loc Cert.GateFRefIdeal.main_arg2))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1))
      ∧ r.2.sem = fun _ => 0)

def quiescent_HgF [hHgF : Cert.HgF.Facts] : Prop :=
  ∀ (m : (ℓ : Loc Cert.HgF.nD Cert.HgF.τ Cert.HgF.sig) → Buf (Elt Bits) ℓ) (g : Dev Cert.HgF.nD → PrngReg), Pre_HgF m →
    θ_run (Cert.HgF.defs (F := Bits)) (onTc (τ := Cert.HgF.τ) (Cert.HgF.main (F := Bits))) ⟨m, fun _ => 0, g⟩ (fun r => (∀ c : Dev Cert.HgF.nD,
      r.2.mem ((c.tc : Thread Cert.HgF.nD Cert.HgF.τ).loc Cert.HgF.main_arg0) = m ((c.tc : Thread Cert.HgF.nD Cert.HgF.τ).loc Cert.HgF.main_arg0)
      ∧ r.2.mem ((c.tc : Thread Cert.HgF.nD Cert.HgF.τ).loc Cert.HgF.main_arg1) = m ((c.tc : Thread Cert.HgF.nD Cert.HgF.τ).loc Cert.HgF.main_arg1)
      ∧ r.2.mem ((c.tc : Thread Cert.HgF.nD Cert.HgF.τ).loc Cert.HgF.main_arg2) = m ((c.tc : Thread Cert.HgF.nD Cert.HgF.τ).loc Cert.HgF.main_arg2))
      ∧ r.2.sem = fun _ => 0)

def quiescent_HgFIdeal [hHgFIdeal : Cert.HgFIdeal.Facts] : Prop :=
  ∀ (m : (ℓ : Loc Cert.HgFIdeal.nD Cert.HgFIdeal.τ Cert.HgFIdeal.sig) → Buf (Elt Ideal) ℓ) (g : Dev Cert.HgFIdeal.nD → PrngReg), Pre_HgFIdeal m →
    θ_run (Cert.HgFIdeal.defs (F := Ideal)) (onTc (τ := Cert.HgFIdeal.τ) (Cert.HgFIdeal.main (F := Ideal))) ⟨m, fun _ => 0, g⟩ (fun r => (∀ c : Dev Cert.HgFIdeal.nD,
      r.2.mem ((c.tc : Thread Cert.HgFIdeal.nD Cert.HgFIdeal.τ).loc Cert.HgFIdeal.main_arg0) = m ((c.tc : Thread Cert.HgFIdeal.nD Cert.HgFIdeal.τ).loc Cert.HgFIdeal.main_arg0)
      ∧ r.2.mem ((c.tc : Thread Cert.HgFIdeal.nD Cert.HgFIdeal.τ).loc Cert.HgFIdeal.main_arg1) = m ((c.tc : Thread Cert.HgFIdeal.nD Cert.HgFIdeal.τ).loc Cert.HgFIdeal.main_arg1)
      ∧ r.2.mem ((c.tc : Thread Cert.HgFIdeal.nD Cert.HgFIdeal.τ).loc Cert.HgFIdeal.main_arg2) = m ((c.tc : Thread Cert.HgFIdeal.nD Cert.HgFIdeal.τ).loc Cert.HgFIdeal.main_arg2))
      ∧ r.2.sem = fun _ => 0)

def quiescent_HgFRefIdeal [hHgFRefIdeal : Cert.HgFRefIdeal.Facts] : Prop :=
  ∀ (m : (ℓ : Loc Cert.HgFRefIdeal.nD Cert.HgFRefIdeal.τ Cert.HgFRefIdeal.sig) → Buf (Elt Ideal) ℓ) (g : Dev Cert.HgFRefIdeal.nD → PrngReg), Pre_HgFRefIdeal m →
    θ_run (Cert.HgFRefIdeal.defs (F := Ideal)) (onTc (τ := Cert.HgFRefIdeal.τ) (Cert.HgFRefIdeal.main (F := Ideal))) ⟨m, fun _ => 0, g⟩ (fun r => (∀ c : Dev Cert.HgFRefIdeal.nD,
      r.2.mem ((c.tc : Thread Cert.HgFRefIdeal.nD Cert.HgFRefIdeal.τ).loc Cert.HgFRefIdeal.main_arg0) = m ((c.tc : Thread Cert.HgFRefIdeal.nD Cert.HgFRefIdeal.τ).loc Cert.HgFRefIdeal.main_arg0)
      ∧ r.2.mem ((c.tc : Thread Cert.HgFRefIdeal.nD Cert.HgFRefIdeal.τ).loc Cert.HgFRefIdeal.main_arg1) = m ((c.tc : Thread Cert.HgFRefIdeal.nD Cert.HgFRefIdeal.τ).loc Cert.HgFRefIdeal.main_arg1)
      ∧ r.2.mem ((c.tc : Thread Cert.HgFRefIdeal.nD Cert.HgFRefIdeal.τ).loc Cert.HgFRefIdeal.main_arg2) = m ((c.tc : Thread Cert.HgFRefIdeal.nD Cert.HgFRefIdeal.τ).loc Cert.HgFRefIdeal.main_arg2))
      ∧ r.2.sem = fun _ => 0)

def preserves_Dhn_DhnIdeal : Prop :=
  True

def algebraic_DhnIdeal_DhnRefIdeal [hDhnIdeal : Cert.DhnIdeal.Facts] [hDhnRefIdeal : Cert.DhnRefIdeal.Facts] : Prop :=
  ∀ (m : (ℓ : Loc Cert.DhnIdeal.nD Cert.DhnIdeal.τ Cert.DhnIdeal.sig) → Buf (Elt Ideal) ℓ) (g : Dev Cert.DhnIdeal.nD → PrngReg)
    (m' : (ℓ : Loc Cert.DhnRefIdeal.nD Cert.DhnRefIdeal.τ Cert.DhnRefIdeal.sig) → Buf (Elt Ideal) ℓ) (g' : Dev Cert.DhnRefIdeal.nD → PrngReg), Pre_DhnIdeal m →
    (∀ c : Dev Cert.DhnIdeal.nD,
      m' ((c.tc : Thread Cert.DhnRefIdeal.nD Cert.DhnRefIdeal.τ).loc Cert.DhnRefIdeal.main_arg0) = m ((c.tc : Thread Cert.DhnIdeal.nD Cert.DhnIdeal.τ).loc Cert.DhnIdeal.main_arg0)
      ∧ m' ((c.tc : Thread Cert.DhnRefIdeal.nD Cert.DhnRefIdeal.τ).loc Cert.DhnRefIdeal.main_arg1) = m ((c.tc : Thread Cert.DhnIdeal.nD Cert.DhnIdeal.τ).loc Cert.DhnIdeal.main_arg1)
      ∧ m' ((c.tc : Thread Cert.DhnRefIdeal.nD Cert.DhnRefIdeal.τ).loc Cert.DhnRefIdeal.main_arg2) = m ((c.tc : Thread Cert.DhnIdeal.nD Cert.DhnIdeal.τ).loc Cert.DhnIdeal.main_arg2)
      ∧ m' ((c.tc : Thread Cert.DhnRefIdeal.nD Cert.DhnRefIdeal.τ).loc Cert.DhnRefIdeal.main_arg3) = m ((c.tc : Thread Cert.DhnIdeal.nD Cert.DhnIdeal.τ).loc Cert.DhnIdeal.main_arg3)
      ∧ m' ((c.tc : Thread Cert.DhnRefIdeal.nD Cert.DhnRefIdeal.τ).loc Cert.DhnRefIdeal.main_arg4) = m ((c.tc : Thread Cert.DhnIdeal.nD Cert.DhnIdeal.τ).loc Cert.DhnIdeal.main_arg4)) →
    ∃ (v0 : (c : Dev Cert.DhnIdeal.nD) → Buf (Elt Ideal) ((c.tc : Thread Cert.DhnIdeal.nD Cert.DhnIdeal.τ).loc Cert.DhnIdeal.main_v1_0)) (v1 : (c : Dev Cert.DhnIdeal.nD) → Buf (Elt Ideal) ((c.tc : Thread Cert.DhnIdeal.nD Cert.DhnIdeal.τ).loc Cert.DhnIdeal.main_v1_1)),
      θ_run (Cert.DhnIdeal.defs (F := Ideal)) (onTc (τ := Cert.DhnIdeal.τ) (Cert.DhnIdeal.main (F := Ideal))) ⟨m, fun _ => 0, g⟩ (fun r => ∀ c : Dev Cert.DhnIdeal.nD,
          r.2.mem ((c.tc : Thread Cert.DhnIdeal.nD Cert.DhnIdeal.τ).loc Cert.DhnIdeal.main_v1_0) = v0 c
          ∧ r.2.mem ((c.tc : Thread Cert.DhnIdeal.nD Cert.DhnIdeal.τ).loc Cert.DhnIdeal.main_v1_1) = v1 c
          ∧ r.2.mem ((c.tc : Thread Cert.DhnIdeal.nD Cert.DhnIdeal.τ).loc Cert.DhnIdeal.main_arg0) = m ((c.tc : Thread Cert.DhnIdeal.nD Cert.DhnIdeal.τ).loc Cert.DhnIdeal.main_arg0)
          ∧ r.2.mem ((c.tc : Thread Cert.DhnIdeal.nD Cert.DhnIdeal.τ).loc Cert.DhnIdeal.main_arg1) = m ((c.tc : Thread Cert.DhnIdeal.nD Cert.DhnIdeal.τ).loc Cert.DhnIdeal.main_arg1)
          ∧ r.2.mem ((c.tc : Thread Cert.DhnIdeal.nD Cert.DhnIdeal.τ).loc Cert.DhnIdeal.main_arg2) = m ((c.tc : Thread Cert.DhnIdeal.nD Cert.DhnIdeal.τ).loc Cert.DhnIdeal.main_arg2)
          ∧ r.2.mem ((c.tc : Thread Cert.DhnIdeal.nD Cert.DhnIdeal.τ).loc Cert.DhnIdeal.main_arg3) = m ((c.tc : Thread Cert.DhnIdeal.nD Cert.DhnIdeal.τ).loc Cert.DhnIdeal.main_arg3)
          ∧ r.2.mem ((c.tc : Thread Cert.DhnIdeal.nD Cert.DhnIdeal.τ).loc Cert.DhnIdeal.main_arg4) = m ((c.tc : Thread Cert.DhnIdeal.nD Cert.DhnIdeal.τ).loc Cert.DhnIdeal.main_arg4))
      ∧ θ_run (Cert.DhnRefIdeal.defs (F := Ideal)) (onTc (τ := Cert.DhnRefIdeal.τ) (Cert.DhnRefIdeal.main (F := Ideal))) ⟨m', fun _ => 0, g'⟩ (fun r => ∀ c : Dev Cert.DhnRefIdeal.nD,
          r.2.mem ((c.tc : Thread Cert.DhnRefIdeal.nD Cert.DhnRefIdeal.τ).loc Cert.DhnRefIdeal.main_v40) = v0 c
          ∧ r.2.mem ((c.tc : Thread Cert.DhnRefIdeal.nD Cert.DhnRefIdeal.τ).loc Cert.DhnRefIdeal.main_v41) = v1 c
          ∧ r.2.mem ((c.tc : Thread Cert.DhnRefIdeal.nD Cert.DhnRefIdeal.τ).loc Cert.DhnRefIdeal.main_arg0) = m' ((c.tc : Thread Cert.DhnRefIdeal.nD Cert.DhnRefIdeal.τ).loc Cert.DhnRefIdeal.main_arg0)
          ∧ r.2.mem ((c.tc : Thread Cert.DhnRefIdeal.nD Cert.DhnRefIdeal.τ).loc Cert.DhnRefIdeal.main_arg1) = m' ((c.tc : Thread Cert.DhnRefIdeal.nD Cert.DhnRefIdeal.τ).loc Cert.DhnRefIdeal.main_arg1)
          ∧ r.2.mem ((c.tc : Thread Cert.DhnRefIdeal.nD Cert.DhnRefIdeal.τ).loc Cert.DhnRefIdeal.main_arg2) = m' ((c.tc : Thread Cert.DhnRefIdeal.nD Cert.DhnRefIdeal.τ).loc Cert.DhnRefIdeal.main_arg2)
          ∧ r.2.mem ((c.tc : Thread Cert.DhnRefIdeal.nD Cert.DhnRefIdeal.τ).loc Cert.DhnRefIdeal.main_arg3) = m' ((c.tc : Thread Cert.DhnRefIdeal.nD Cert.DhnRefIdeal.τ).loc Cert.DhnRefIdeal.main_arg3)
          ∧ r.2.mem ((c.tc : Thread Cert.DhnRefIdeal.nD Cert.DhnRefIdeal.τ).loc Cert.DhnRefIdeal.main_arg4) = m' ((c.tc : Thread Cert.DhnRefIdeal.nD Cert.DhnRefIdeal.τ).loc Cert.DhnRefIdeal.main_arg4))

def preserves_Dwin_DwinIdeal : Prop :=
  True

def algebraic_DwinIdeal_DwinRefIdeal [hDwinIdeal : Cert.DwinIdeal.Facts] [hDwinRefIdeal : Cert.DwinRefIdeal.Facts] : Prop :=
  ∀ (m : (ℓ : Loc Cert.DwinIdeal.nD Cert.DwinIdeal.τ Cert.DwinIdeal.sig) → Buf (Elt Ideal) ℓ) (g : Dev Cert.DwinIdeal.nD → PrngReg)
    (m' : (ℓ : Loc Cert.DwinRefIdeal.nD Cert.DwinRefIdeal.τ Cert.DwinRefIdeal.sig) → Buf (Elt Ideal) ℓ) (g' : Dev Cert.DwinRefIdeal.nD → PrngReg), Pre_DwinIdeal m →
    (∀ c : Dev Cert.DwinIdeal.nD,
      m' ((c.tc : Thread Cert.DwinRefIdeal.nD Cert.DwinRefIdeal.τ).loc Cert.DwinRefIdeal.main_arg0) = m ((c.tc : Thread Cert.DwinIdeal.nD Cert.DwinIdeal.τ).loc Cert.DwinIdeal.main_arg0)
      ∧ m' ((c.tc : Thread Cert.DwinRefIdeal.nD Cert.DwinRefIdeal.τ).loc Cert.DwinRefIdeal.main_arg1) = m ((c.tc : Thread Cert.DwinIdeal.nD Cert.DwinIdeal.τ).loc Cert.DwinIdeal.main_arg1)) →
    ∃ (v0 : (c : Dev Cert.DwinIdeal.nD) → Buf (Elt Ideal) ((c.tc : Thread Cert.DwinIdeal.nD Cert.DwinIdeal.τ).loc Cert.DwinIdeal.main_v0)),
      θ_run (Cert.DwinIdeal.defs (F := Ideal)) (onTc (τ := Cert.DwinIdeal.τ) (Cert.DwinIdeal.main (F := Ideal))) ⟨m, fun _ => 0, g⟩ (fun r => ∀ c : Dev Cert.DwinIdeal.nD,
          r.2.mem ((c.tc : Thread Cert.DwinIdeal.nD Cert.DwinIdeal.τ).loc Cert.DwinIdeal.main_v0) = v0 c
          ∧ r.2.mem ((c.tc : Thread Cert.DwinIdeal.nD Cert.DwinIdeal.τ).loc Cert.DwinIdeal.main_arg0) = m ((c.tc : Thread Cert.DwinIdeal.nD Cert.DwinIdeal.τ).loc Cert.DwinIdeal.main_arg0)
          ∧ r.2.mem ((c.tc : Thread Cert.DwinIdeal.nD Cert.DwinIdeal.τ).loc Cert.DwinIdeal.main_arg1) = m ((c.tc : Thread Cert.DwinIdeal.nD Cert.DwinIdeal.τ).loc Cert.DwinIdeal.main_arg1))
      ∧ θ_run (Cert.DwinRefIdeal.defs (F := Ideal)) (onTc (τ := Cert.DwinRefIdeal.τ) (Cert.DwinRefIdeal.main (F := Ideal))) ⟨m', fun _ => 0, g'⟩ (fun r => ∀ c : Dev Cert.DwinRefIdeal.nD,
          r.2.mem ((c.tc : Thread Cert.DwinRefIdeal.nD Cert.DwinRefIdeal.τ).loc Cert.DwinRefIdeal.main_v6) = v0 c
          ∧ r.2.mem ((c.tc : Thread Cert.DwinRefIdeal.nD Cert.DwinRefIdeal.τ).loc Cert.DwinRefIdeal.main_arg0) = m' ((c.tc : Thread Cert.DwinRefIdeal.nD Cert.DwinRefIdeal.τ).loc Cert.DwinRefIdeal.main_arg0)
          ∧ r.2.mem ((c.tc : Thread Cert.DwinRefIdeal.nD Cert.DwinRefIdeal.τ).loc Cert.DwinRefIdeal.main_arg1) = m' ((c.tc : Thread Cert.DwinRefIdeal.nD Cert.DwinRefIdeal.τ).loc Cert.DwinRefIdeal.main_arg1))

def preserves_DwinQ_DwinQIdeal : Prop :=
  True

def algebraic_DwinQIdeal_DwinQRefIdeal [hDwinQIdeal : Cert.DwinQIdeal.Facts] [hDwinQRefIdeal : Cert.DwinQRefIdeal.Facts] : Prop :=
  ∀ (m : (ℓ : Loc Cert.DwinQIdeal.nD Cert.DwinQIdeal.τ Cert.DwinQIdeal.sig) → Buf (Elt Ideal) ℓ) (g : Dev Cert.DwinQIdeal.nD → PrngReg)
    (m' : (ℓ : Loc Cert.DwinQRefIdeal.nD Cert.DwinQRefIdeal.τ Cert.DwinQRefIdeal.sig) → Buf (Elt Ideal) ℓ) (g' : Dev Cert.DwinQRefIdeal.nD → PrngReg), Pre_DwinQIdeal m →
    (∀ c : Dev Cert.DwinQIdeal.nD,
      m' ((c.tc : Thread Cert.DwinQRefIdeal.nD Cert.DwinQRefIdeal.τ).loc Cert.DwinQRefIdeal.main_arg0) = m ((c.tc : Thread Cert.DwinQIdeal.nD Cert.DwinQIdeal.τ).loc Cert.DwinQIdeal.main_arg0)
      ∧ m' ((c.tc : Thread Cert.DwinQRefIdeal.nD Cert.DwinQRefIdeal.τ).loc Cert.DwinQRefIdeal.main_arg1) = m ((c.tc : Thread Cert.DwinQIdeal.nD Cert.DwinQIdeal.τ).loc Cert.DwinQIdeal.main_arg1)) →
    ∃ (v0 : (c : Dev Cert.DwinQIdeal.nD) → Buf (Elt Ideal) ((c.tc : Thread Cert.DwinQIdeal.nD Cert.DwinQIdeal.τ).loc Cert.DwinQIdeal.main_v0)),
      θ_run (Cert.DwinQIdeal.defs (F := Ideal)) (onTc (τ := Cert.DwinQIdeal.τ) (Cert.DwinQIdeal.main (F := Ideal))) ⟨m, fun _ => 0, g⟩ (fun r => ∀ c : Dev Cert.DwinQIdeal.nD,
          r.2.mem ((c.tc : Thread Cert.DwinQIdeal.nD Cert.DwinQIdeal.τ).loc Cert.DwinQIdeal.main_v0) = v0 c
          ∧ r.2.mem ((c.tc : Thread Cert.DwinQIdeal.nD Cert.DwinQIdeal.τ).loc Cert.DwinQIdeal.main_arg0) = m ((c.tc : Thread Cert.DwinQIdeal.nD Cert.DwinQIdeal.τ).loc Cert.DwinQIdeal.main_arg0)
          ∧ r.2.mem ((c.tc : Thread Cert.DwinQIdeal.nD Cert.DwinQIdeal.τ).loc Cert.DwinQIdeal.main_arg1) = m ((c.tc : Thread Cert.DwinQIdeal.nD Cert.DwinQIdeal.τ).loc Cert.DwinQIdeal.main_arg1))
      ∧ θ_run (Cert.DwinQRefIdeal.defs (F := Ideal)) (onTc (τ := Cert.DwinQRefIdeal.τ) (Cert.DwinQRefIdeal.main (F := Ideal))) ⟨m', fun _ => 0, g'⟩ (fun r => ∀ c : Dev Cert.DwinQRefIdeal.nD,
          r.2.mem ((c.tc : Thread Cert.DwinQRefIdeal.nD Cert.DwinQRefIdeal.τ).loc Cert.DwinQRefIdeal.main_v6) = v0 c
          ∧ r.2.mem ((c.tc : Thread Cert.DwinQRefIdeal.nD Cert.DwinQRefIdeal.τ).loc Cert.DwinQRefIdeal.main_arg0) = m' ((c.tc : Thread Cert.DwinQRefIdeal.nD Cert.DwinQRefIdeal.τ).loc Cert.DwinQRefIdeal.main_arg0)
          ∧ r.2.mem ((c.tc : Thread Cert.DwinQRefIdeal.nD Cert.DwinQRefIdeal.τ).loc Cert.DwinQRefIdeal.main_arg1) = m' ((c.tc : Thread Cert.DwinQRefIdeal.nD Cert.DwinQRefIdeal.τ).loc Cert.DwinQRefIdeal.main_arg1))

def preserves_Dwo_DwoIdeal : Prop :=
  True

def algebraic_DwoIdeal_DwoRefIdeal [hDwoIdeal : Cert.DwoIdeal.Facts] [hDwoRefIdeal : Cert.DwoRefIdeal.Facts] : Prop :=
  ∀ (m : (ℓ : Loc Cert.DwoIdeal.nD Cert.DwoIdeal.τ Cert.DwoIdeal.sig) → Buf (Elt Ideal) ℓ) (g : Dev Cert.DwoIdeal.nD → PrngReg)
    (m' : (ℓ : Loc Cert.DwoRefIdeal.nD Cert.DwoRefIdeal.τ Cert.DwoRefIdeal.sig) → Buf (Elt Ideal) ℓ) (g' : Dev Cert.DwoRefIdeal.nD → PrngReg), Pre_DwoIdeal m →
    (∀ c : Dev Cert.DwoIdeal.nD,
      m' ((c.tc : Thread Cert.DwoRefIdeal.nD Cert.DwoRefIdeal.τ).loc Cert.DwoRefIdeal.main_arg0) = m ((c.tc : Thread Cert.DwoIdeal.nD Cert.DwoIdeal.τ).loc Cert.DwoIdeal.main_arg0)
      ∧ m' ((c.tc : Thread Cert.DwoRefIdeal.nD Cert.DwoRefIdeal.τ).loc Cert.DwoRefIdeal.main_arg1) = m ((c.tc : Thread Cert.DwoIdeal.nD Cert.DwoIdeal.τ).loc Cert.DwoIdeal.main_arg1)) →
    ∃ (v0 : (c : Dev Cert.DwoIdeal.nD) → Buf (Elt Ideal) ((c.tc : Thread Cert.DwoIdeal.nD Cert.DwoIdeal.τ).loc Cert.DwoIdeal.main_v0)),
      θ_run (Cert.DwoIdeal.defs (F := Ideal)) (onTc (τ := Cert.DwoIdeal.τ) (Cert.DwoIdeal.main (F := Ideal))) ⟨m, fun _ => 0, g⟩ (fun r => ∀ c : Dev Cert.DwoIdeal.nD,
          r.2.mem ((c.tc : Thread Cert.DwoIdeal.nD Cert.DwoIdeal.τ).loc Cert.DwoIdeal.main_v0) = v0 c
          ∧ r.2.mem ((c.tc : Thread Cert.DwoIdeal.nD Cert.DwoIdeal.τ).loc Cert.DwoIdeal.main_arg0) = m ((c.tc : Thread Cert.DwoIdeal.nD Cert.DwoIdeal.τ).loc Cert.DwoIdeal.main_arg0)
          ∧ r.2.mem ((c.tc : Thread Cert.DwoIdeal.nD Cert.DwoIdeal.τ).loc Cert.DwoIdeal.main_arg1) = m ((c.tc : Thread Cert.DwoIdeal.nD Cert.DwoIdeal.τ).loc Cert.DwoIdeal.main_arg1))
      ∧ θ_run (Cert.DwoRefIdeal.defs (F := Ideal)) (onTc (τ := Cert.DwoRefIdeal.τ) (Cert.DwoRefIdeal.main (F := Ideal))) ⟨m', fun _ => 0, g'⟩ (fun r => ∀ c : Dev Cert.DwoRefIdeal.nD,
          r.2.mem ((c.tc : Thread Cert.DwoRefIdeal.nD Cert.DwoRefIdeal.τ).loc Cert.DwoRefIdeal.main_v5) = v0 c
          ∧ r.2.mem ((c.tc : Thread Cert.DwoRefIdeal.nD Cert.DwoRefIdeal.τ).loc Cert.DwoRefIdeal.main_arg0) = m' ((c.tc : Thread Cert.DwoRefIdeal.nD Cert.DwoRefIdeal.τ).loc Cert.DwoRefIdeal.main_arg0)
          ∧ r.2.mem ((c.tc : Thread Cert.DwoRefIdeal.nD Cert.DwoRefIdeal.τ).loc Cert.DwoRefIdeal.main_arg1) = m' ((c.tc : Thread Cert.DwoRefIdeal.nD Cert.DwoRefIdeal.τ).loc Cert.DwoRefIdeal.main_arg1))

def preserves_Dwg_DwgIdeal : Prop :=
  True

def algebraic_DwgIdeal_DwgRefIdeal [hDwgIdeal : Cert.DwgIdeal.Facts] [hDwgRefIdeal : Cert.DwgRefIdeal.Facts] : Prop :=
  ∀ (m : (ℓ : Loc Cert.DwgIdeal.nD Cert.DwgIdeal.τ Cert.DwgIdeal.sig) → Buf (Elt Ideal) ℓ) (g : Dev Cert.DwgIdeal.nD → PrngReg)
    (m' : (ℓ : Loc Cert.DwgRefIdeal.nD Cert.DwgRefIdeal.τ Cert.DwgRefIdeal.sig) → Buf (Elt Ideal) ℓ) (g' : Dev Cert.DwgRefIdeal.nD → PrngReg), Pre_DwgIdeal m →
    (∀ c : Dev Cert.DwgIdeal.nD,
      m' ((c.tc : Thread Cert.DwgRefIdeal.nD Cert.DwgRefIdeal.τ).loc Cert.DwgRefIdeal.main_arg0) = m ((c.tc : Thread Cert.DwgIdeal.nD Cert.DwgIdeal.τ).loc Cert.DwgIdeal.main_arg0)
      ∧ m' ((c.tc : Thread Cert.DwgRefIdeal.nD Cert.DwgRefIdeal.τ).loc Cert.DwgRefIdeal.main_arg1) = m ((c.tc : Thread Cert.DwgIdeal.nD Cert.DwgIdeal.τ).loc Cert.DwgIdeal.main_arg1)) →
    ∃ (v0 : (c : Dev Cert.DwgIdeal.nD) → Buf (Elt Ideal) ((c.tc : Thread Cert.DwgIdeal.nD Cert.DwgIdeal.τ).loc Cert.DwgIdeal.main_v0)),
      θ_run (Cert.DwgIdeal.defs (F := Ideal)) (onTc (τ := Cert.DwgIdeal.τ) (Cert.DwgIdeal.main (F := Ideal))) ⟨m, fun _ => 0, g⟩ (fun r => ∀ c : Dev Cert.DwgIdeal.nD,
          r.2.mem ((c.tc : Thread Cert.DwgIdeal.nD Cert.DwgIdeal.τ).loc Cert.DwgIdeal.main_v0) = v0 c
          ∧ r.2.mem ((c.tc : Thread Cert.DwgIdeal.nD Cert.DwgIdeal.τ).loc Cert.DwgIdeal.main_arg0) = m ((c.tc : Thread Cert.DwgIdeal.nD Cert.DwgIdeal.τ).loc Cert.DwgIdeal.main_arg0)
          ∧ r.2.mem ((c.tc : Thread Cert.DwgIdeal.nD Cert.DwgIdeal.τ).loc Cert.DwgIdeal.main_arg1) = m ((c.tc : Thread Cert.DwgIdeal.nD Cert.DwgIdeal.τ).loc Cert.DwgIdeal.main_arg1))
      ∧ θ_run (Cert.DwgRefIdeal.defs (F := Ideal)) (onTc (τ := Cert.DwgRefIdeal.τ) (Cert.DwgRefIdeal.main (F := Ideal))) ⟨m', fun _ => 0, g'⟩ (fun r => ∀ c : Dev Cert.DwgRefIdeal.nD,
          r.2.mem ((c.tc : Thread Cert.DwgRefIdeal.nD Cert.DwgRefIdeal.τ).loc Cert.DwgRefIdeal.main_v5) = v0 c
          ∧ r.2.mem ((c.tc : Thread Cert.DwgRefIdeal.nD Cert.DwgRefIdeal.τ).loc Cert.DwgRefIdeal.main_arg0) = m' ((c.tc : Thread Cert.DwgRefIdeal.nD Cert.DwgRefIdeal.τ).loc Cert.DwgRefIdeal.main_arg0)
          ∧ r.2.mem ((c.tc : Thread Cert.DwgRefIdeal.nD Cert.DwgRefIdeal.τ).loc Cert.DwgRefIdeal.main_arg1) = m' ((c.tc : Thread Cert.DwgRefIdeal.nD Cert.DwgRefIdeal.τ).loc Cert.DwgRefIdeal.main_arg1))

def preserves_Dwu_DwuIdeal : Prop :=
  True

def algebraic_DwuIdeal_DwuRefIdeal [hDwuIdeal : Cert.DwuIdeal.Facts] [hDwuRefIdeal : Cert.DwuRefIdeal.Facts] : Prop :=
  ∀ (m : (ℓ : Loc Cert.DwuIdeal.nD Cert.DwuIdeal.τ Cert.DwuIdeal.sig) → Buf (Elt Ideal) ℓ) (g : Dev Cert.DwuIdeal.nD → PrngReg)
    (m' : (ℓ : Loc Cert.DwuRefIdeal.nD Cert.DwuRefIdeal.τ Cert.DwuRefIdeal.sig) → Buf (Elt Ideal) ℓ) (g' : Dev Cert.DwuRefIdeal.nD → PrngReg), Pre_DwuIdeal m →
    (∀ c : Dev Cert.DwuIdeal.nD,
      m' ((c.tc : Thread Cert.DwuRefIdeal.nD Cert.DwuRefIdeal.τ).loc Cert.DwuRefIdeal.main_arg0) = m ((c.tc : Thread Cert.DwuIdeal.nD Cert.DwuIdeal.τ).loc Cert.DwuIdeal.main_arg0)
      ∧ m' ((c.tc : Thread Cert.DwuRefIdeal.nD Cert.DwuRefIdeal.τ).loc Cert.DwuRefIdeal.main_arg1) = m ((c.tc : Thread Cert.DwuIdeal.nD Cert.DwuIdeal.τ).loc Cert.DwuIdeal.main_arg1)) →
    ∃ (v0 : (c : Dev Cert.DwuIdeal.nD) → Buf (Elt Ideal) ((c.tc : Thread Cert.DwuIdeal.nD Cert.DwuIdeal.τ).loc Cert.DwuIdeal.main_v0)),
      θ_run (Cert.DwuIdeal.defs (F := Ideal)) (onTc (τ := Cert.DwuIdeal.τ) (Cert.DwuIdeal.main (F := Ideal))) ⟨m, fun _ => 0, g⟩ (fun r => ∀ c : Dev Cert.DwuIdeal.nD,
          r.2.mem ((c.tc : Thread Cert.DwuIdeal.nD Cert.DwuIdeal.τ).loc Cert.DwuIdeal.main_v0) = v0 c
          ∧ r.2.mem ((c.tc : Thread Cert.DwuIdeal.nD Cert.DwuIdeal.τ).loc Cert.DwuIdeal.main_arg0) = m ((c.tc : Thread Cert.DwuIdeal.nD Cert.DwuIdeal.τ).loc Cert.DwuIdeal.main_arg0)
          ∧ r.2.mem ((c.tc : Thread Cert.DwuIdeal.nD Cert.DwuIdeal.τ).loc Cert.DwuIdeal.main_arg1) = m ((c.tc : Thread Cert.DwuIdeal.nD Cert.DwuIdeal.τ).loc Cert.DwuIdeal.main_arg1))
      ∧ θ_run (Cert.DwuRefIdeal.defs (F := Ideal)) (onTc (τ := Cert.DwuRefIdeal.τ) (Cert.DwuRefIdeal.main (F := Ideal))) ⟨m', fun _ => 0, g'⟩ (fun r => ∀ c : Dev Cert.DwuRefIdeal.nD,
          r.2.mem ((c.tc : Thread Cert.DwuRefIdeal.nD Cert.DwuRefIdeal.τ).loc Cert.DwuRefIdeal.main_v5) = v0 c
          ∧ r.2.mem ((c.tc : Thread Cert.DwuRefIdeal.nD Cert.DwuRefIdeal.τ).loc Cert.DwuRefIdeal.main_arg0) = m' ((c.tc : Thread Cert.DwuRefIdeal.nD Cert.DwuRefIdeal.τ).loc Cert.DwuRefIdeal.main_arg0)
          ∧ r.2.mem ((c.tc : Thread Cert.DwuRefIdeal.nD Cert.DwuRefIdeal.τ).loc Cert.DwuRefIdeal.main_arg1) = m' ((c.tc : Thread Cert.DwuRefIdeal.nD Cert.DwuRefIdeal.τ).loc Cert.DwuRefIdeal.main_arg1))

def preserves_Dh1_Dh1Ideal : Prop :=
  True

def algebraic_Dh1Ideal_Dh1RefIdeal [hDh1Ideal : Cert.Dh1Ideal.Facts] [hDh1RefIdeal : Cert.Dh1RefIdeal.Facts] : Prop :=
  ∀ (m : (ℓ : Loc Cert.Dh1Ideal.nD Cert.Dh1Ideal.τ Cert.Dh1Ideal.sig) → Buf (Elt Ideal) ℓ) (g : Dev Cert.Dh1Ideal.nD → PrngReg)
    (m' : (ℓ : Loc Cert.Dh1RefIdeal.nD Cert.Dh1RefIdeal.τ Cert.Dh1RefIdeal.sig) → Buf (Elt Ideal) ℓ) (g' : Dev Cert.Dh1RefIdeal.nD → PrngReg), Pre_Dh1Ideal m →
    (∀ c : Dev Cert.Dh1Ideal.nD,
      m' ((c.tc : Thread Cert.Dh1RefIdeal.nD Cert.Dh1RefIdeal.τ).loc Cert.Dh1RefIdeal.main_arg0) = m ((c.tc : Thread Cert.Dh1Ideal.nD Cert.Dh1Ideal.τ).loc Cert.Dh1Ideal.main_arg0)
      ∧ m' ((c.tc : Thread Cert.Dh1RefIdeal.nD Cert.Dh1RefIdeal.τ).loc Cert.Dh1RefIdeal.main_arg1) = m ((c.tc : Thread Cert.Dh1Ideal.nD Cert.Dh1Ideal.τ).loc Cert.Dh1Ideal.main_arg1)
      ∧ m' ((c.tc : Thread Cert.Dh1RefIdeal.nD Cert.Dh1RefIdeal.τ).loc Cert.Dh1RefIdeal.main_arg2) = m ((c.tc : Thread Cert.Dh1Ideal.nD Cert.Dh1Ideal.τ).loc Cert.Dh1Ideal.main_arg2)
      ∧ m' ((c.tc : Thread Cert.Dh1RefIdeal.nD Cert.Dh1RefIdeal.τ).loc Cert.Dh1RefIdeal.main_arg3) = m ((c.tc : Thread Cert.Dh1Ideal.nD Cert.Dh1Ideal.τ).loc Cert.Dh1Ideal.main_arg3)
      ∧ m' ((c.tc : Thread Cert.Dh1RefIdeal.nD Cert.Dh1RefIdeal.τ).loc Cert.Dh1RefIdeal.main_arg4) = m ((c.tc : Thread Cert.Dh1Ideal.nD Cert.Dh1Ideal.τ).loc Cert.Dh1Ideal.main_arg4)) →
    ∃ (v0 : (c : Dev Cert.Dh1Ideal.nD) → Buf (Elt Ideal) ((c.tc : Thread Cert.Dh1Ideal.nD Cert.Dh1Ideal.τ).loc Cert.Dh1Ideal.main_v7)),
      θ_run (Cert.Dh1Ideal.defs (F := Ideal)) (onTc (τ := Cert.Dh1Ideal.τ) (Cert.Dh1Ideal.main (F := Ideal))) ⟨m, fun _ => 0, g⟩ (fun r => ∀ c : Dev Cert.Dh1Ideal.nD,
          r.2.mem ((c.tc : Thread Cert.Dh1Ideal.nD Cert.Dh1Ideal.τ).loc Cert.Dh1Ideal.main_v7) = v0 c
          ∧ r.2.mem ((c.tc : Thread Cert.Dh1Ideal.nD Cert.Dh1Ideal.τ).loc Cert.Dh1Ideal.main_arg0) = m ((c.tc : Thread Cert.Dh1Ideal.nD Cert.Dh1Ideal.τ).loc Cert.Dh1Ideal.main_arg0)
          ∧ r.2.mem ((c.tc : Thread Cert.Dh1Ideal.nD Cert.Dh1Ideal.τ).loc Cert.Dh1Ideal.main_arg1) = m ((c.tc : Thread Cert.Dh1Ideal.nD Cert.Dh1Ideal.τ).loc Cert.Dh1Ideal.main_arg1)
          ∧ r.2.mem ((c.tc : Thread Cert.Dh1Ideal.nD Cert.Dh1Ideal.τ).loc Cert.Dh1Ideal.main_arg2) = m ((c.tc : Thread Cert.Dh1Ideal.nD Cert.Dh1Ideal.τ).loc Cert.Dh1Ideal.main_arg2)
          ∧ r.2.mem ((c.tc : Thread Cert.Dh1Ideal.nD Cert.Dh1Ideal.τ).loc Cert.Dh1Ideal.main_arg3) = m ((c.tc : Thread Cert.Dh1Ideal.nD Cert.Dh1Ideal.τ).loc Cert.Dh1Ideal.main_arg3)
          ∧ r.2.mem ((c.tc : Thread Cert.Dh1Ideal.nD Cert.Dh1Ideal.τ).loc Cert.Dh1Ideal.main_arg4) = m ((c.tc : Thread Cert.Dh1Ideal.nD Cert.Dh1Ideal.τ).loc Cert.Dh1Ideal.main_arg4))
      ∧ θ_run (Cert.Dh1RefIdeal.defs (F := Ideal)) (onTc (τ := Cert.Dh1RefIdeal.τ) (Cert.Dh1RefIdeal.main (F := Ideal))) ⟨m', fun _ => 0, g'⟩ (fun r => ∀ c : Dev Cert.Dh1RefIdeal.nD,
          r.2.mem ((c.tc : Thread Cert.Dh1RefIdeal.nD Cert.Dh1RefIdeal.τ).loc Cert.Dh1RefIdeal.main_v4) = v0 c
          ∧ r.2.mem ((c.tc : Thread Cert.Dh1RefIdeal.nD Cert.Dh1RefIdeal.τ).loc Cert.Dh1RefIdeal.main_arg0) = m' ((c.tc : Thread Cert.Dh1RefIdeal.nD Cert.Dh1RefIdeal.τ).loc Cert.Dh1RefIdeal.main_arg0)
          ∧ r.2.mem ((c.tc : Thread Cert.Dh1RefIdeal.nD Cert.Dh1RefIdeal.τ).loc Cert.Dh1RefIdeal.main_arg1) = m' ((c.tc : Thread Cert.Dh1RefIdeal.nD Cert.Dh1RefIdeal.τ).loc Cert.Dh1RefIdeal.main_arg1)
          ∧ r.2.mem ((c.tc : Thread Cert.Dh1RefIdeal.nD Cert.Dh1RefIdeal.τ).loc Cert.Dh1RefIdeal.main_arg2) = m' ((c.tc : Thread Cert.Dh1RefIdeal.nD Cert.Dh1RefIdeal.τ).loc Cert.Dh1RefIdeal.main_arg2)
          ∧ r.2.mem ((c.tc : Thread Cert.Dh1RefIdeal.nD Cert.Dh1RefIdeal.τ).loc Cert.Dh1RefIdeal.main_arg3) = m' ((c.tc : Thread Cert.Dh1RefIdeal.nD Cert.Dh1RefIdeal.τ).loc Cert.Dh1RefIdeal.main_arg3)
          ∧ r.2.mem ((c.tc : Thread Cert.Dh1RefIdeal.nD Cert.Dh1RefIdeal.τ).loc Cert.Dh1RefIdeal.main_arg4) = m' ((c.tc : Thread Cert.Dh1RefIdeal.nD Cert.Dh1RefIdeal.τ).loc Cert.Dh1RefIdeal.main_arg4))

def preserves_Dy_DyIdeal : Prop :=
  True

def algebraic_DyIdeal_DyRefIdeal [hDyIdeal : Cert.DyIdeal.Facts] [hDyRefIdeal : Cert.DyRefIdeal.Facts] : Prop :=
  ∀ (m : (ℓ : Loc Cert.DyIdeal.nD Cert.DyIdeal.τ Cert.DyIdeal.sig) → Buf (Elt Ideal) ℓ) (g : Dev Cert.DyIdeal.nD → PrngReg)
    (m' : (ℓ : Loc Cert.DyRefIdeal.nD Cert.DyRefIdeal.τ Cert.DyRefIdeal.sig) → Buf (Elt Ideal) ℓ) (g' : Dev Cert.DyRefIdeal.nD → PrngReg), Pre_DyIdeal m →
    (∀ c : Dev Cert.DyIdeal.nD,
      m' ((c.tc : Thread Cert.DyRefIdeal.nD Cert.DyRefIdeal.τ).loc Cert.DyRefIdeal.main_arg0) = m ((c.tc : Thread Cert.DyIdeal.nD Cert.DyIdeal.τ).loc Cert.DyIdeal.main_arg0)
      ∧ m' ((c.tc : Thread Cert.DyRefIdeal.nD Cert.DyRefIdeal.τ).loc Cert.DyRefIdeal.main_arg1) = m ((c.tc : Thread Cert.DyIdeal.nD Cert.DyIdeal.τ).loc Cert.DyIdeal.main_arg1)
      ∧ m' ((c.tc : Thread Cert.DyRefIdeal.nD Cert.DyRefIdeal.τ).loc Cert.DyRefIdeal.main_arg2) = m ((c.tc : Thread Cert.DyIdeal.nD Cert.DyIdeal.τ).loc Cert.DyIdeal.main_arg2)
      ∧ m' ((c.tc : Thread Cert.DyRefIdeal.nD Cert.DyRefIdeal.τ).loc Cert.DyRefIdeal.main_arg3) = m ((c.tc : Thread Cert.DyIdeal.nD Cert.DyIdeal.τ).loc Cert.DyIdeal.main_arg3)) →
    ∃ (v0 : (c : Dev Cert.DyIdeal.nD) → Buf (Elt Ideal) ((c.tc : Thread Cert.DyIdeal.nD Cert.DyIdeal.τ).loc Cert.DyIdeal.main_v7)),
      θ_run (Cert.DyIdeal.defs (F := Ideal)) (onTc (τ := Cert.DyIdeal.τ) (Cert.DyIdeal.main (F := Ideal))) ⟨m, fun _ => 0, g⟩ (fun r => ∀ c : Dev Cert.DyIdeal.nD,
          r.2.mem ((c.tc : Thread Cert.DyIdeal.nD Cert.DyIdeal.τ).loc Cert.DyIdeal.main_v7) = v0 c
          ∧ r.2.mem ((c.tc : Thread Cert.DyIdeal.nD Cert.DyIdeal.τ).loc Cert.DyIdeal.main_arg0) = m ((c.tc : Thread Cert.DyIdeal.nD Cert.DyIdeal.τ).loc Cert.DyIdeal.main_arg0)
          ∧ r.2.mem ((c.tc : Thread Cert.DyIdeal.nD Cert.DyIdeal.τ).loc Cert.DyIdeal.main_arg1) = m ((c.tc : Thread Cert.DyIdeal.nD Cert.DyIdeal.τ).loc Cert.DyIdeal.main_arg1)
          ∧ r.2.mem ((c.tc : Thread Cert.DyIdeal.nD Cert.DyIdeal.τ).loc Cert.DyIdeal.main_arg2) = m ((c.tc : Thread Cert.DyIdeal.nD Cert.DyIdeal.τ).loc Cert.DyIdeal.main_arg2)
          ∧ r.2.mem ((c.tc : Thread Cert.DyIdeal.nD Cert.DyIdeal.τ).loc Cert.DyIdeal.main_arg3) = m ((c.tc : Thread Cert.DyIdeal.nD Cert.DyIdeal.τ).loc Cert.DyIdeal.main_arg3))
      ∧ θ_run (Cert.DyRefIdeal.defs (F := Ideal)) (onTc (τ := Cert.DyRefIdeal.τ) (Cert.DyRefIdeal.main (F := Ideal))) ⟨m', fun _ => 0, g'⟩ (fun r => ∀ c : Dev Cert.DyRefIdeal.nD,
          r.2.mem ((c.tc : Thread Cert.DyRefIdeal.nD Cert.DyRefIdeal.τ).loc Cert.DyRefIdeal.main_v2) = v0 c
          ∧ r.2.mem ((c.tc : Thread Cert.DyRefIdeal.nD Cert.DyRefIdeal.τ).loc Cert.DyRefIdeal.main_arg0) = m' ((c.tc : Thread Cert.DyRefIdeal.nD Cert.DyRefIdeal.τ).loc Cert.DyRefIdeal.main_arg0)
          ∧ r.2.mem ((c.tc : Thread Cert.DyRefIdeal.nD Cert.DyRefIdeal.τ).loc Cert.DyRefIdeal.main_arg1) = m' ((c.tc : Thread Cert.DyRefIdeal.nD Cert.DyRefIdeal.τ).loc Cert.DyRefIdeal.main_arg1)
          ∧ r.2.mem ((c.tc : Thread Cert.DyRefIdeal.nD Cert.DyRefIdeal.τ).loc Cert.DyRefIdeal.main_arg2) = m' ((c.tc : Thread Cert.DyRefIdeal.nD Cert.DyRefIdeal.τ).loc Cert.DyRefIdeal.main_arg2)
          ∧ r.2.mem ((c.tc : Thread Cert.DyRefIdeal.nD Cert.DyRefIdeal.τ).loc Cert.DyRefIdeal.main_arg3) = m' ((c.tc : Thread Cert.DyRefIdeal.nD Cert.DyRefIdeal.τ).loc Cert.DyRefIdeal.main_arg3))

def preserves_Ple_PleIdeal : Prop :=
  True

def algebraic_PleIdeal_PleRefIdeal [hPleIdeal : Cert.PleIdeal.Facts] [hPleRefIdeal : Cert.PleRefIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)) →
    ∃ (v0 : (c : Dev Cert.PleIdeal.nD) → Buf (Elt Ideal) ((c.tc : Thread Cert.PleIdeal.nD Cert.PleIdeal.τ).loc Cert.PleIdeal.main_v0_0)) (v1 : (c : Dev Cert.PleIdeal.nD) → Buf (Elt Ideal) ((c.tc : Thread Cert.PleIdeal.nD Cert.PleIdeal.τ).loc Cert.PleIdeal.main_v0_1)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v0_0) = v0 c
          ∧ r.2.mem ((c.tc : Thread Cert.PleIdeal.nD Cert.PleIdeal.τ).loc Cert.PleIdeal.main_v0_1) = v1 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v13) = v0 c
          ∧ r.2.mem ((c.tc : Thread Cert.PleRefIdeal.nD Cert.PleRefIdeal.τ).loc Cert.PleRefIdeal.main_v14) = v1 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2))

def preserves_Fin_FinIdeal : Prop :=
  True

def algebraic_FinIdeal_FinRefIdeal [hFinIdeal : Cert.FinIdeal.Facts] [hFinRefIdeal : Cert.FinRefIdeal.Facts] : Prop :=
  ∀ (m : (ℓ : Loc Cert.FinIdeal.nD Cert.FinIdeal.τ Cert.FinIdeal.sig) → Buf (Elt Ideal) ℓ) (g : Dev Cert.FinIdeal.nD → PrngReg)
    (m' : (ℓ : Loc Cert.FinRefIdeal.nD Cert.FinRefIdeal.τ Cert.FinRefIdeal.sig) → Buf (Elt Ideal) ℓ) (g' : Dev Cert.FinRefIdeal.nD → PrngReg), Pre_FinIdeal m →
    (∀ c : Dev Cert.FinIdeal.nD,
      m' ((c.tc : Thread Cert.FinRefIdeal.nD Cert.FinRefIdeal.τ).loc Cert.FinRefIdeal.main_arg0) = m ((c.tc : Thread Cert.FinIdeal.nD Cert.FinIdeal.τ).loc Cert.FinIdeal.main_arg0)
      ∧ m' ((c.tc : Thread Cert.FinRefIdeal.nD Cert.FinRefIdeal.τ).loc Cert.FinRefIdeal.main_arg1) = m ((c.tc : Thread Cert.FinIdeal.nD Cert.FinIdeal.τ).loc Cert.FinIdeal.main_arg1)
      ∧ m' ((c.tc : Thread Cert.FinRefIdeal.nD Cert.FinRefIdeal.τ).loc Cert.FinRefIdeal.main_arg2) = m ((c.tc : Thread Cert.FinIdeal.nD Cert.FinIdeal.τ).loc Cert.FinIdeal.main_arg2)) →
    ∃ (v0 : (c : Dev Cert.FinIdeal.nD) → Buf (Elt Ideal) ((c.tc : Thread Cert.FinIdeal.nD Cert.FinIdeal.τ).loc Cert.FinIdeal.main_v1_0)) (v1 : (c : Dev Cert.FinIdeal.nD) → Buf (Elt Ideal) ((c.tc : Thread Cert.FinIdeal.nD Cert.FinIdeal.τ).loc Cert.FinIdeal.main_v1_1)) (v2 : (c : Dev Cert.FinIdeal.nD) → Buf (Elt Ideal) ((c.tc : Thread Cert.FinIdeal.nD Cert.FinIdeal.τ).loc Cert.FinIdeal.main_v1_2)),
      θ_run (Cert.FinIdeal.defs (F := Ideal)) (onTc (τ := Cert.FinIdeal.τ) (Cert.FinIdeal.main (F := Ideal))) ⟨m, fun _ => 0, g⟩ (fun r => ∀ c : Dev Cert.FinIdeal.nD,
          r.2.mem ((c.tc : Thread Cert.FinIdeal.nD Cert.FinIdeal.τ).loc Cert.FinIdeal.main_v1_0) = v0 c
          ∧ r.2.mem ((c.tc : Thread Cert.FinIdeal.nD Cert.FinIdeal.τ).loc Cert.FinIdeal.main_v1_1) = v1 c
          ∧ r.2.mem ((c.tc : Thread Cert.FinIdeal.nD Cert.FinIdeal.τ).loc Cert.FinIdeal.main_v1_2) = v2 c
          ∧ r.2.mem ((c.tc : Thread Cert.FinIdeal.nD Cert.FinIdeal.τ).loc Cert.FinIdeal.main_arg0) = m ((c.tc : Thread Cert.FinIdeal.nD Cert.FinIdeal.τ).loc Cert.FinIdeal.main_arg0)
          ∧ r.2.mem ((c.tc : Thread Cert.FinIdeal.nD Cert.FinIdeal.τ).loc Cert.FinIdeal.main_arg1) = m ((c.tc : Thread Cert.FinIdeal.nD Cert.FinIdeal.τ).loc Cert.FinIdeal.main_arg1)
          ∧ r.2.mem ((c.tc : Thread Cert.FinIdeal.nD Cert.FinIdeal.τ).loc Cert.FinIdeal.main_arg2) = m ((c.tc : Thread Cert.FinIdeal.nD Cert.FinIdeal.τ).loc Cert.FinIdeal.main_arg2))
      ∧ θ_run (Cert.FinRefIdeal.defs (F := Ideal)) (onTc (τ := Cert.FinRefIdeal.τ) (Cert.FinRefIdeal.main (F := Ideal))) ⟨m', fun _ => 0, g'⟩ (fun r => ∀ c : Dev Cert.FinRefIdeal.nD,
          r.2.mem ((c.tc : Thread Cert.FinRefIdeal.nD Cert.FinRefIdeal.τ).loc Cert.FinRefIdeal.main_v51) = v0 c
          ∧ r.2.mem ((c.tc : Thread Cert.FinRefIdeal.nD Cert.FinRefIdeal.τ).loc Cert.FinRefIdeal.main_v50) = v1 c
          ∧ r.2.mem ((c.tc : Thread Cert.FinRefIdeal.nD Cert.FinRefIdeal.τ).loc Cert.FinRefIdeal.main_v52) = v2 c
          ∧ r.2.mem ((c.tc : Thread Cert.FinRefIdeal.nD Cert.FinRefIdeal.τ).loc Cert.FinRefIdeal.main_arg0) = m' ((c.tc : Thread Cert.FinRefIdeal.nD Cert.FinRefIdeal.τ).loc Cert.FinRefIdeal.main_arg0)
          ∧ r.2.mem ((c.tc : Thread Cert.FinRefIdeal.nD Cert.FinRefIdeal.τ).loc Cert.FinRefIdeal.main_arg1) = m' ((c.tc : Thread Cert.FinRefIdeal.nD Cert.FinRefIdeal.τ).loc Cert.FinRefIdeal.main_arg1)
          ∧ r.2.mem ((c.tc : Thread Cert.FinRefIdeal.nD Cert.FinRefIdeal.τ).loc Cert.FinRefIdeal.main_arg2) = m' ((c.tc : Thread Cert.FinRefIdeal.nD Cert.FinRefIdeal.τ).loc Cert.FinRefIdeal.main_arg2))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v0)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v2) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)) →
    ∃ (v0 : (c : Dev Cert.OutIdeal.nD) → Buf (Elt Ideal) ((c.tc : Thread Cert.OutIdeal.nD Cert.OutIdeal.τ).loc Cert.OutIdeal.main_v7)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v7) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v2) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)
      ∧ m' ((c.tc : Thread Cert.GateRefIdeal.nD Cert.GateRefIdeal.τ).loc Cert.GateRefIdeal.main_arg4) = m ((c.tc : Thread Cert.GateIdeal.nD Cert.GateIdeal.τ).loc Cert.GateIdeal.main_arg4)) →
    ∃ (v0 : (c : Dev Cert.GateIdeal.nD) → Buf (Elt Ideal) ((c.tc : Thread Cert.GateIdeal.nD Cert.GateIdeal.τ).loc Cert.GateIdeal.main_v7_0)) (v1 : (c : Dev Cert.GateIdeal.nD) → Buf (Elt Ideal) ((c.tc : Thread Cert.GateIdeal.nD Cert.GateIdeal.τ).loc Cert.GateIdeal.main_v7_1)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v7_0) = v0 c
          ∧ r.2.mem ((c.tc : Thread Cert.GateIdeal.nD Cert.GateIdeal.τ).loc Cert.GateIdeal.main_v7_1) = v1 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
          ∧ r.2.mem ((c.tc : Thread Cert.GateIdeal.nD Cert.GateIdeal.τ).loc Cert.GateIdeal.main_arg4) = m ((c.tc : Thread Cert.GateIdeal.nD Cert.GateIdeal.τ).loc Cert.GateIdeal.main_arg4))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v0) = v0 c
          ∧ r.2.mem ((c.tc : Thread Cert.GateRefIdeal.nD Cert.GateRefIdeal.τ).loc Cert.GateRefIdeal.main_v8) = v1 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3)
          ∧ r.2.mem ((c.tc : Thread Cert.GateRefIdeal.nD Cert.GateRefIdeal.τ).loc Cert.GateRefIdeal.main_arg4) = m' ((c.tc : Thread Cert.GateRefIdeal.nD Cert.GateRefIdeal.τ).loc Cert.GateRefIdeal.main_arg4))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v1) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Rms_RmsIdeal : Prop :=
  True

def algebraic_RmsIdeal_RmsRefIdeal [hRmsIdeal : Cert.RmsIdeal.Facts] [hRmsRefIdeal : Cert.RmsRefIdeal.Facts] : Prop :=
  ∀ (m : (ℓ : Loc Cert.RmsIdeal.nD Cert.RmsIdeal.τ Cert.RmsIdeal.sig) → Buf (Elt Ideal) ℓ) (g : Dev Cert.RmsIdeal.nD → PrngReg)
    (m' : (ℓ : Loc Cert.RmsRefIdeal.nD Cert.RmsRefIdeal.τ Cert.RmsRefIdeal.sig) → Buf (Elt Ideal) ℓ) (g' : Dev Cert.RmsRefIdeal.nD → PrngReg), Pre_RmsIdeal m →
    (∀ c : Dev Cert.RmsIdeal.nD,
      m' ((c.tc : Thread Cert.RmsRefIdeal.nD Cert.RmsRefIdeal.τ).loc Cert.RmsRefIdeal.main_arg0) = m ((c.tc : Thread Cert.RmsIdeal.nD Cert.RmsIdeal.τ).loc Cert.RmsIdeal.main_arg0)
      ∧ m' ((c.tc : Thread Cert.RmsRefIdeal.nD Cert.RmsRefIdeal.τ).loc Cert.RmsRefIdeal.main_arg1) = m ((c.tc : Thread Cert.RmsIdeal.nD Cert.RmsIdeal.τ).loc Cert.RmsIdeal.main_arg1)) →
    ∃ (v0 : (c : Dev Cert.RmsIdeal.nD) → Buf (Elt Ideal) ((c.tc : Thread Cert.RmsIdeal.nD Cert.RmsIdeal.τ).loc Cert.RmsIdeal.main_v1)),
      θ_run (Cert.RmsIdeal.defs (F := Ideal)) (onTc (τ := Cert.RmsIdeal.τ) (Cert.RmsIdeal.main (F := Ideal))) ⟨m, fun _ => 0, g⟩ (fun r => ∀ c : Dev Cert.RmsIdeal.nD,
          r.2.mem ((c.tc : Thread Cert.RmsIdeal.nD Cert.RmsIdeal.τ).loc Cert.RmsIdeal.main_v1) = v0 c
          ∧ r.2.mem ((c.tc : Thread Cert.RmsIdeal.nD Cert.RmsIdeal.τ).loc Cert.RmsIdeal.main_arg0) = m ((c.tc : Thread Cert.RmsIdeal.nD Cert.RmsIdeal.τ).loc Cert.RmsIdeal.main_arg0)
          ∧ r.2.mem ((c.tc : Thread Cert.RmsIdeal.nD Cert.RmsIdeal.τ).loc Cert.RmsIdeal.main_arg1) = m ((c.tc : Thread Cert.RmsIdeal.nD Cert.RmsIdeal.τ).loc Cert.RmsIdeal.main_arg1))
      ∧ θ_run (Cert.RmsRefIdeal.defs (F := Ideal)) (onTc (τ := Cert.RmsRefIdeal.τ) (Cert.RmsRefIdeal.main (F := Ideal))) ⟨m', fun _ => 0, g'⟩ (fun r => ∀ c : Dev Cert.RmsRefIdeal.nD,
          r.2.mem ((c.tc : Thread Cert.RmsRefIdeal.nD Cert.RmsRefIdeal.τ).loc Cert.RmsRefIdeal.main_v13) = v0 c
          ∧ r.2.mem ((c.tc : Thread Cert.RmsRefIdeal.nD Cert.RmsRefIdeal.τ).loc Cert.RmsRefIdeal.main_arg0) = m' ((c.tc : Thread Cert.RmsRefIdeal.nD Cert.RmsRefIdeal.τ).loc Cert.RmsRefIdeal.main_arg0)
          ∧ r.2.mem ((c.tc : Thread Cert.RmsRefIdeal.nD Cert.RmsRefIdeal.τ).loc Cert.RmsRefIdeal.main_arg1) = m' ((c.tc : Thread Cert.RmsRefIdeal.nD Cert.RmsRefIdeal.τ).loc Cert.RmsRefIdeal.main_arg1))

def preserves_AdWin_AdWinIdeal : Prop :=
  True

def algebraic_AdWinIdeal_AdWinRefIdeal [hAdWinIdeal : Cert.AdWinIdeal.Facts] [hAdWinRefIdeal : Cert.AdWinRefIdeal.Facts] : Prop :=
  ∀ (m : (ℓ : Loc Cert.AdWinIdeal.nD Cert.AdWinIdeal.τ Cert.AdWinIdeal.sig) → Buf (Elt Ideal) ℓ) (g : Dev Cert.AdWinIdeal.nD → PrngReg)
    (m' : (ℓ : Loc Cert.AdWinRefIdeal.nD Cert.AdWinRefIdeal.τ Cert.AdWinRefIdeal.sig) → Buf (Elt Ideal) ℓ) (g' : Dev Cert.AdWinRefIdeal.nD → PrngReg), Pre_AdWinIdeal m →
    (∀ c : Dev Cert.AdWinIdeal.nD,
      m' ((c.tc : Thread Cert.AdWinRefIdeal.nD Cert.AdWinRefIdeal.τ).loc Cert.AdWinRefIdeal.main_arg0) = m ((c.tc : Thread Cert.AdWinIdeal.nD Cert.AdWinIdeal.τ).loc Cert.AdWinIdeal.main_arg0)
      ∧ m' ((c.tc : Thread Cert.AdWinRefIdeal.nD Cert.AdWinRefIdeal.τ).loc Cert.AdWinRefIdeal.main_arg1) = m ((c.tc : Thread Cert.AdWinIdeal.nD Cert.AdWinIdeal.τ).loc Cert.AdWinIdeal.main_arg1)
      ∧ m' ((c.tc : Thread Cert.AdWinRefIdeal.nD Cert.AdWinRefIdeal.τ).loc Cert.AdWinRefIdeal.main_arg2) = m ((c.tc : Thread Cert.AdWinIdeal.nD Cert.AdWinIdeal.τ).loc Cert.AdWinIdeal.main_arg2)
      ∧ m' ((c.tc : Thread Cert.AdWinRefIdeal.nD Cert.AdWinRefIdeal.τ).loc Cert.AdWinRefIdeal.main_arg3) = m ((c.tc : Thread Cert.AdWinIdeal.nD Cert.AdWinIdeal.τ).loc Cert.AdWinIdeal.main_arg3)
      ∧ m' ((c.tc : Thread Cert.AdWinRefIdeal.nD Cert.AdWinRefIdeal.τ).loc Cert.AdWinRefIdeal.main_arg4) = m ((c.tc : Thread Cert.AdWinIdeal.nD Cert.AdWinIdeal.τ).loc Cert.AdWinIdeal.main_arg4)
      ∧ m' ((c.tc : Thread Cert.AdWinRefIdeal.nD Cert.AdWinRefIdeal.τ).loc Cert.AdWinRefIdeal.main_arg5) = m ((c.tc : Thread Cert.AdWinIdeal.nD Cert.AdWinIdeal.τ).loc Cert.AdWinIdeal.main_arg5)
      ∧ m' ((c.tc : Thread Cert.AdWinRefIdeal.nD Cert.AdWinRefIdeal.τ).loc Cert.AdWinRefIdeal.main_arg6) = m ((c.tc : Thread Cert.AdWinIdeal.nD Cert.AdWinIdeal.τ).loc Cert.AdWinIdeal.main_arg6)
      ∧ m' ((c.tc : Thread Cert.AdWinRefIdeal.nD Cert.AdWinRefIdeal.τ).loc Cert.AdWinRefIdeal.main_arg7) = m ((c.tc : Thread Cert.AdWinIdeal.nD Cert.AdWinIdeal.τ).loc Cert.AdWinIdeal.main_arg7)) →
    ∃ (v0 : (c : Dev Cert.AdWinIdeal.nD) → Buf (Elt Ideal) ((c.tc : Thread Cert.AdWinIdeal.nD Cert.AdWinIdeal.τ).loc Cert.AdWinIdeal.main_v0_0)) (v1 : (c : Dev Cert.AdWinIdeal.nD) → Buf (Elt Ideal) ((c.tc : Thread Cert.AdWinIdeal.nD Cert.AdWinIdeal.τ).loc Cert.AdWinIdeal.main_v0_1)) (v2 : (c : Dev Cert.AdWinIdeal.nD) → Buf (Elt Ideal) ((c.tc : Thread Cert.AdWinIdeal.nD Cert.AdWinIdeal.τ).loc Cert.AdWinIdeal.main_v0_2)) (v3 : (c : Dev Cert.AdWinIdeal.nD) → Buf (Elt Ideal) ((c.tc : Thread Cert.AdWinIdeal.nD Cert.AdWinIdeal.τ).loc Cert.AdWinIdeal.main_v0_3)),
      θ_run (Cert.AdWinIdeal.defs (F := Ideal)) (onTc (τ := Cert.AdWinIdeal.τ) (Cert.AdWinIdeal.main (F := Ideal))) ⟨m, fun _ => 0, g⟩ (fun r => ∀ c : Dev Cert.AdWinIdeal.nD,
          r.2.mem ((c.tc : Thread Cert.AdWinIdeal.nD Cert.AdWinIdeal.τ).loc Cert.AdWinIdeal.main_v0_0) = v0 c
          ∧ r.2.mem ((c.tc : Thread Cert.AdWinIdeal.nD Cert.AdWinIdeal.τ).loc Cert.AdWinIdeal.main_v0_1) = v1 c
          ∧ r.2.mem ((c.tc : Thread Cert.AdWinIdeal.nD Cert.AdWinIdeal.τ).loc Cert.AdWinIdeal.main_v0_2) = v2 c
          ∧ r.2.mem ((c.tc : Thread Cert.AdWinIdeal.nD Cert.AdWinIdeal.τ).loc Cert.AdWinIdeal.main_v0_3) = v3 c
          ∧ r.2.mem ((c.tc : Thread Cert.AdWinIdeal.nD Cert.AdWinIdeal.τ).loc Cert.AdWinIdeal.main_arg0) = m ((c.tc : Thread Cert.AdWinIdeal.nD Cert.AdWinIdeal.τ).loc Cert.AdWinIdeal.main_arg0)
          ∧ r.2.mem ((c.tc : Thread Cert.AdWinIdeal.nD Cert.AdWinIdeal.τ).loc Cert.AdWinIdeal.main_arg1) = m ((c.tc : Thread Cert.AdWinIdeal.nD Cert.AdWinIdeal.τ).loc Cert.AdWinIdeal.main_arg1)
          ∧ r.2.mem ((c.tc : Thread Cert.AdWinIdeal.nD Cert.AdWinIdeal.τ).loc Cert.AdWinIdeal.main_arg2) = m ((c.tc : Thread Cert.AdWinIdeal.nD Cert.AdWinIdeal.τ).loc Cert.AdWinIdeal.main_arg2)
          ∧ r.2.mem ((c.tc : Thread Cert.AdWinIdeal.nD Cert.AdWinIdeal.τ).loc Cert.AdWinIdeal.main_arg3) = m ((c.tc : Thread Cert.AdWinIdeal.nD Cert.AdWinIdeal.τ).loc Cert.AdWinIdeal.main_arg3)
          ∧ r.2.mem ((c.tc : Thread Cert.AdWinIdeal.nD Cert.AdWinIdeal.τ).loc Cert.AdWinIdeal.main_arg4) = m ((c.tc : Thread Cert.AdWinIdeal.nD Cert.AdWinIdeal.τ).loc Cert.AdWinIdeal.main_arg4)
          ∧ r.2.mem ((c.tc : Thread Cert.AdWinIdeal.nD Cert.AdWinIdeal.τ).loc Cert.AdWinIdeal.main_arg5) = m ((c.tc : Thread Cert.AdWinIdeal.nD Cert.AdWinIdeal.τ).loc Cert.AdWinIdeal.main_arg5)
          ∧ r.2.mem ((c.tc : Thread Cert.AdWinIdeal.nD Cert.AdWinIdeal.τ).loc Cert.AdWinIdeal.main_arg6) = m ((c.tc : Thread Cert.AdWinIdeal.nD Cert.AdWinIdeal.τ).loc Cert.AdWinIdeal.main_arg6)
          ∧ r.2.mem ((c.tc : Thread Cert.AdWinIdeal.nD Cert.AdWinIdeal.τ).loc Cert.AdWinIdeal.main_arg7) = m ((c.tc : Thread Cert.AdWinIdeal.nD Cert.AdWinIdeal.τ).loc Cert.AdWinIdeal.main_arg7))
      ∧ θ_run (Cert.AdWinRefIdeal.defs (F := Ideal)) (onTc (τ := Cert.AdWinRefIdeal.τ) (Cert.AdWinRefIdeal.main (F := Ideal))) ⟨m', fun _ => 0, g'⟩ (fun r => ∀ c : Dev Cert.AdWinRefIdeal.nD,
          r.2.mem ((c.tc : Thread Cert.AdWinRefIdeal.nD Cert.AdWinRefIdeal.τ).loc Cert.AdWinRefIdeal.main_v31) = v0 c
          ∧ r.2.mem ((c.tc : Thread Cert.AdWinRefIdeal.nD Cert.AdWinRefIdeal.τ).loc Cert.AdWinRefIdeal.main_v34) = v1 c
          ∧ r.2.mem ((c.tc : Thread Cert.AdWinRefIdeal.nD Cert.AdWinRefIdeal.τ).loc Cert.AdWinRefIdeal.main_v37) = v2 c
          ∧ r.2.mem ((c.tc : Thread Cert.AdWinRefIdeal.nD Cert.AdWinRefIdeal.τ).loc Cert.AdWinRefIdeal.main_v40) = v3 c
          ∧ r.2.mem ((c.tc : Thread Cert.AdWinRefIdeal.nD Cert.AdWinRefIdeal.τ).loc Cert.AdWinRefIdeal.main_arg0) = m' ((c.tc : Thread Cert.AdWinRefIdeal.nD Cert.AdWinRefIdeal.τ).loc Cert.AdWinRefIdeal.main_arg0)
          ∧ r.2.mem ((c.tc : Thread Cert.AdWinRefIdeal.nD Cert.AdWinRefIdeal.τ).loc Cert.AdWinRefIdeal.main_arg1) = m' ((c.tc : Thread Cert.AdWinRefIdeal.nD Cert.AdWinRefIdeal.τ).loc Cert.AdWinRefIdeal.main_arg1)
          ∧ r.2.mem ((c.tc : Thread Cert.AdWinRefIdeal.nD Cert.AdWinRefIdeal.τ).loc Cert.AdWinRefIdeal.main_arg2) = m' ((c.tc : Thread Cert.AdWinRefIdeal.nD Cert.AdWinRefIdeal.τ).loc Cert.AdWinRefIdeal.main_arg2)
          ∧ r.2.mem ((c.tc : Thread Cert.AdWinRefIdeal.nD Cert.AdWinRefIdeal.τ).loc Cert.AdWinRefIdeal.main_arg3) = m' ((c.tc : Thread Cert.AdWinRefIdeal.nD Cert.AdWinRefIdeal.τ).loc Cert.AdWinRefIdeal.main_arg3)
          ∧ r.2.mem ((c.tc : Thread Cert.AdWinRefIdeal.nD Cert.AdWinRefIdeal.τ).loc Cert.AdWinRefIdeal.main_arg4) = m' ((c.tc : Thread Cert.AdWinRefIdeal.nD Cert.AdWinRefIdeal.τ).loc Cert.AdWinRefIdeal.main_arg4)
          ∧ r.2.mem ((c.tc : Thread Cert.AdWinRefIdeal.nD Cert.AdWinRefIdeal.τ).loc Cert.AdWinRefIdeal.main_arg5) = m' ((c.tc : Thread Cert.AdWinRefIdeal.nD Cert.AdWinRefIdeal.τ).loc Cert.AdWinRefIdeal.main_arg5)
          ∧ r.2.mem ((c.tc : Thread Cert.AdWinRefIdeal.nD Cert.AdWinRefIdeal.τ).loc Cert.AdWinRefIdeal.main_arg6) = m' ((c.tc : Thread Cert.AdWinRefIdeal.nD Cert.AdWinRefIdeal.τ).loc Cert.AdWinRefIdeal.main_arg6)
          ∧ r.2.mem ((c.tc : Thread Cert.AdWinRefIdeal.nD Cert.AdWinRefIdeal.τ).loc Cert.AdWinRefIdeal.main_arg7) = m' ((c.tc : Thread Cert.AdWinRefIdeal.nD Cert.AdWinRefIdeal.τ).loc Cert.AdWinRefIdeal.main_arg7))

def preserves_AdWo_AdWoIdeal : Prop :=
  True

def algebraic_AdWoIdeal_AdWoRefIdeal [hAdWoIdeal : Cert.AdWoIdeal.Facts] [hAdWoRefIdeal : Cert.AdWoRefIdeal.Facts] : Prop :=
  ∀ (m : (ℓ : Loc Cert.AdWoIdeal.nD Cert.AdWoIdeal.τ Cert.AdWoIdeal.sig) → Buf (Elt Ideal) ℓ) (g : Dev Cert.AdWoIdeal.nD → PrngReg)
    (m' : (ℓ : Loc Cert.AdWoRefIdeal.nD Cert.AdWoRefIdeal.τ Cert.AdWoRefIdeal.sig) → Buf (Elt Ideal) ℓ) (g' : Dev Cert.AdWoRefIdeal.nD → PrngReg), Pre_AdWoIdeal m →
    (∀ c : Dev Cert.AdWoIdeal.nD,
      m' ((c.tc : Thread Cert.AdWoRefIdeal.nD Cert.AdWoRefIdeal.τ).loc Cert.AdWoRefIdeal.main_arg0) = m ((c.tc : Thread Cert.AdWoIdeal.nD Cert.AdWoIdeal.τ).loc Cert.AdWoIdeal.main_arg0)
      ∧ m' ((c.tc : Thread Cert.AdWoRefIdeal.nD Cert.AdWoRefIdeal.τ).loc Cert.AdWoRefIdeal.main_arg1) = m ((c.tc : Thread Cert.AdWoIdeal.nD Cert.AdWoIdeal.τ).loc Cert.AdWoIdeal.main_arg1)
      ∧ m' ((c.tc : Thread Cert.AdWoRefIdeal.nD Cert.AdWoRefIdeal.τ).loc Cert.AdWoRefIdeal.main_arg2) = m ((c.tc : Thread Cert.AdWoIdeal.nD Cert.AdWoIdeal.τ).loc Cert.AdWoIdeal.main_arg2)
      ∧ m' ((c.tc : Thread Cert.AdWoRefIdeal.nD Cert.AdWoRefIdeal.τ).loc Cert.AdWoRefIdeal.main_arg3) = m ((c.tc : Thread Cert.AdWoIdeal.nD Cert.AdWoIdeal.τ).loc Cert.AdWoIdeal.main_arg3)
      ∧ m' ((c.tc : Thread Cert.AdWoRefIdeal.nD Cert.AdWoRefIdeal.τ).loc Cert.AdWoRefIdeal.main_arg4) = m ((c.tc : Thread Cert.AdWoIdeal.nD Cert.AdWoIdeal.τ).loc Cert.AdWoIdeal.main_arg4)
      ∧ m' ((c.tc : Thread Cert.AdWoRefIdeal.nD Cert.AdWoRefIdeal.τ).loc Cert.AdWoRefIdeal.main_arg5) = m ((c.tc : Thread Cert.AdWoIdeal.nD Cert.AdWoIdeal.τ).loc Cert.AdWoIdeal.main_arg5)
      ∧ m' ((c.tc : Thread Cert.AdWoRefIdeal.nD Cert.AdWoRefIdeal.τ).loc Cert.AdWoRefIdeal.main_arg6) = m ((c.tc : Thread Cert.AdWoIdeal.nD Cert.AdWoIdeal.τ).loc Cert.AdWoIdeal.main_arg6)
      ∧ m' ((c.tc : Thread Cert.AdWoRefIdeal.nD Cert.AdWoRefIdeal.τ).loc Cert.AdWoRefIdeal.main_arg7) = m ((c.tc : Thread Cert.AdWoIdeal.nD Cert.AdWoIdeal.τ).loc Cert.AdWoIdeal.main_arg7)) →
    ∃ (v0 : (c : Dev Cert.AdWoIdeal.nD) → Buf (Elt Ideal) ((c.tc : Thread Cert.AdWoIdeal.nD Cert.AdWoIdeal.τ).loc Cert.AdWoIdeal.main_v0_0)) (v1 : (c : Dev Cert.AdWoIdeal.nD) → Buf (Elt Ideal) ((c.tc : Thread Cert.AdWoIdeal.nD Cert.AdWoIdeal.τ).loc Cert.AdWoIdeal.main_v0_1)) (v2 : (c : Dev Cert.AdWoIdeal.nD) → Buf (Elt Ideal) ((c.tc : Thread Cert.AdWoIdeal.nD Cert.AdWoIdeal.τ).loc Cert.AdWoIdeal.main_v0_2)) (v3 : (c : Dev Cert.AdWoIdeal.nD) → Buf (Elt Ideal) ((c.tc : Thread Cert.AdWoIdeal.nD Cert.AdWoIdeal.τ).loc Cert.AdWoIdeal.main_v0_3)),
      θ_run (Cert.AdWoIdeal.defs (F := Ideal)) (onTc (τ := Cert.AdWoIdeal.τ) (Cert.AdWoIdeal.main (F := Ideal))) ⟨m, fun _ => 0, g⟩ (fun r => ∀ c : Dev Cert.AdWoIdeal.nD,
          r.2.mem ((c.tc : Thread Cert.AdWoIdeal.nD Cert.AdWoIdeal.τ).loc Cert.AdWoIdeal.main_v0_0) = v0 c
          ∧ r.2.mem ((c.tc : Thread Cert.AdWoIdeal.nD Cert.AdWoIdeal.τ).loc Cert.AdWoIdeal.main_v0_1) = v1 c
          ∧ r.2.mem ((c.tc : Thread Cert.AdWoIdeal.nD Cert.AdWoIdeal.τ).loc Cert.AdWoIdeal.main_v0_2) = v2 c
          ∧ r.2.mem ((c.tc : Thread Cert.AdWoIdeal.nD Cert.AdWoIdeal.τ).loc Cert.AdWoIdeal.main_v0_3) = v3 c
          ∧ r.2.mem ((c.tc : Thread Cert.AdWoIdeal.nD Cert.AdWoIdeal.τ).loc Cert.AdWoIdeal.main_arg0) = m ((c.tc : Thread Cert.AdWoIdeal.nD Cert.AdWoIdeal.τ).loc Cert.AdWoIdeal.main_arg0)
          ∧ r.2.mem ((c.tc : Thread Cert.AdWoIdeal.nD Cert.AdWoIdeal.τ).loc Cert.AdWoIdeal.main_arg1) = m ((c.tc : Thread Cert.AdWoIdeal.nD Cert.AdWoIdeal.τ).loc Cert.AdWoIdeal.main_arg1)
          ∧ r.2.mem ((c.tc : Thread Cert.AdWoIdeal.nD Cert.AdWoIdeal.τ).loc Cert.AdWoIdeal.main_arg2) = m ((c.tc : Thread Cert.AdWoIdeal.nD Cert.AdWoIdeal.τ).loc Cert.AdWoIdeal.main_arg2)
          ∧ r.2.mem ((c.tc : Thread Cert.AdWoIdeal.nD Cert.AdWoIdeal.τ).loc Cert.AdWoIdeal.main_arg3) = m ((c.tc : Thread Cert.AdWoIdeal.nD Cert.AdWoIdeal.τ).loc Cert.AdWoIdeal.main_arg3)
          ∧ r.2.mem ((c.tc : Thread Cert.AdWoIdeal.nD Cert.AdWoIdeal.τ).loc Cert.AdWoIdeal.main_arg4) = m ((c.tc : Thread Cert.AdWoIdeal.nD Cert.AdWoIdeal.τ).loc Cert.AdWoIdeal.main_arg4)
          ∧ r.2.mem ((c.tc : Thread Cert.AdWoIdeal.nD Cert.AdWoIdeal.τ).loc Cert.AdWoIdeal.main_arg5) = m ((c.tc : Thread Cert.AdWoIdeal.nD Cert.AdWoIdeal.τ).loc Cert.AdWoIdeal.main_arg5)
          ∧ r.2.mem ((c.tc : Thread Cert.AdWoIdeal.nD Cert.AdWoIdeal.τ).loc Cert.AdWoIdeal.main_arg6) = m ((c.tc : Thread Cert.AdWoIdeal.nD Cert.AdWoIdeal.τ).loc Cert.AdWoIdeal.main_arg6)
          ∧ r.2.mem ((c.tc : Thread Cert.AdWoIdeal.nD Cert.AdWoIdeal.τ).loc Cert.AdWoIdeal.main_arg7) = m ((c.tc : Thread Cert.AdWoIdeal.nD Cert.AdWoIdeal.τ).loc Cert.AdWoIdeal.main_arg7))
      ∧ θ_run (Cert.AdWoRefIdeal.defs (F := Ideal)) (onTc (τ := Cert.AdWoRefIdeal.τ) (Cert.AdWoRefIdeal.main (F := Ideal))) ⟨m', fun _ => 0, g'⟩ (fun r => ∀ c : Dev Cert.AdWoRefIdeal.nD,
          r.2.mem ((c.tc : Thread Cert.AdWoRefIdeal.nD Cert.AdWoRefIdeal.τ).loc Cert.AdWoRefIdeal.main_v32) = v0 c
          ∧ r.2.mem ((c.tc : Thread Cert.AdWoRefIdeal.nD Cert.AdWoRefIdeal.τ).loc Cert.AdWoRefIdeal.main_v35) = v1 c
          ∧ r.2.mem ((c.tc : Thread Cert.AdWoRefIdeal.nD Cert.AdWoRefIdeal.τ).loc Cert.AdWoRefIdeal.main_v38) = v2 c
          ∧ r.2.mem ((c.tc : Thread Cert.AdWoRefIdeal.nD Cert.AdWoRefIdeal.τ).loc Cert.AdWoRefIdeal.main_v41) = v3 c
          ∧ r.2.mem ((c.tc : Thread Cert.AdWoRefIdeal.nD Cert.AdWoRefIdeal.τ).loc Cert.AdWoRefIdeal.main_arg0) = m' ((c.tc : Thread Cert.AdWoRefIdeal.nD Cert.AdWoRefIdeal.τ).loc Cert.AdWoRefIdeal.main_arg0)
          ∧ r.2.mem ((c.tc : Thread Cert.AdWoRefIdeal.nD Cert.AdWoRefIdeal.τ).loc Cert.AdWoRefIdeal.main_arg1) = m' ((c.tc : Thread Cert.AdWoRefIdeal.nD Cert.AdWoRefIdeal.τ).loc Cert.AdWoRefIdeal.main_arg1)
          ∧ r.2.mem ((c.tc : Thread Cert.AdWoRefIdeal.nD Cert.AdWoRefIdeal.τ).loc Cert.AdWoRefIdeal.main_arg2) = m' ((c.tc : Thread Cert.AdWoRefIdeal.nD Cert.AdWoRefIdeal.τ).loc Cert.AdWoRefIdeal.main_arg2)
          ∧ r.2.mem ((c.tc : Thread Cert.AdWoRefIdeal.nD Cert.AdWoRefIdeal.τ).loc Cert.AdWoRefIdeal.main_arg3) = m' ((c.tc : Thread Cert.AdWoRefIdeal.nD Cert.AdWoRefIdeal.τ).loc Cert.AdWoRefIdeal.main_arg3)
          ∧ r.2.mem ((c.tc : Thread Cert.AdWoRefIdeal.nD Cert.AdWoRefIdeal.τ).loc Cert.AdWoRefIdeal.main_arg4) = m' ((c.tc : Thread Cert.AdWoRefIdeal.nD Cert.AdWoRefIdeal.τ).loc Cert.AdWoRefIdeal.main_arg4)
          ∧ r.2.mem ((c.tc : Thread Cert.AdWoRefIdeal.nD Cert.AdWoRefIdeal.τ).loc Cert.AdWoRefIdeal.main_arg5) = m' ((c.tc : Thread Cert.AdWoRefIdeal.nD Cert.AdWoRefIdeal.τ).loc Cert.AdWoRefIdeal.main_arg5)
          ∧ r.2.mem ((c.tc : Thread Cert.AdWoRefIdeal.nD Cert.AdWoRefIdeal.τ).loc Cert.AdWoRefIdeal.main_arg6) = m' ((c.tc : Thread Cert.AdWoRefIdeal.nD Cert.AdWoRefIdeal.τ).loc Cert.AdWoRefIdeal.main_arg6)
          ∧ r.2.mem ((c.tc : Thread Cert.AdWoRefIdeal.nD Cert.AdWoRefIdeal.τ).loc Cert.AdWoRefIdeal.main_arg7) = m' ((c.tc : Thread Cert.AdWoRefIdeal.nD Cert.AdWoRefIdeal.τ).loc Cert.AdWoRefIdeal.main_arg7))

def preserves_AdWg_AdWgIdeal : Prop :=
  True

def algebraic_AdWgIdeal_AdWgRefIdeal [hAdWgIdeal : Cert.AdWgIdeal.Facts] [hAdWgRefIdeal : Cert.AdWgRefIdeal.Facts] : Prop :=
  ∀ (m : (ℓ : Loc Cert.AdWgIdeal.nD Cert.AdWgIdeal.τ Cert.AdWgIdeal.sig) → Buf (Elt Ideal) ℓ) (g : Dev Cert.AdWgIdeal.nD → PrngReg)
    (m' : (ℓ : Loc Cert.AdWgRefIdeal.nD Cert.AdWgRefIdeal.τ Cert.AdWgRefIdeal.sig) → Buf (Elt Ideal) ℓ) (g' : Dev Cert.AdWgRefIdeal.nD → PrngReg), Pre_AdWgIdeal m →
    (∀ c : Dev Cert.AdWgIdeal.nD,
      m' ((c.tc : Thread Cert.AdWgRefIdeal.nD Cert.AdWgRefIdeal.τ).loc Cert.AdWgRefIdeal.main_arg0) = m ((c.tc : Thread Cert.AdWgIdeal.nD Cert.AdWgIdeal.τ).loc Cert.AdWgIdeal.main_arg0)
      ∧ m' ((c.tc : Thread Cert.AdWgRefIdeal.nD Cert.AdWgRefIdeal.τ).loc Cert.AdWgRefIdeal.main_arg1) = m ((c.tc : Thread Cert.AdWgIdeal.nD Cert.AdWgIdeal.τ).loc Cert.AdWgIdeal.main_arg1)
      ∧ m' ((c.tc : Thread Cert.AdWgRefIdeal.nD Cert.AdWgRefIdeal.τ).loc Cert.AdWgRefIdeal.main_arg2) = m ((c.tc : Thread Cert.AdWgIdeal.nD Cert.AdWgIdeal.τ).loc Cert.AdWgIdeal.main_arg2)
      ∧ m' ((c.tc : Thread Cert.AdWgRefIdeal.nD Cert.AdWgRefIdeal.τ).loc Cert.AdWgRefIdeal.main_arg3) = m ((c.tc : Thread Cert.AdWgIdeal.nD Cert.AdWgIdeal.τ).loc Cert.AdWgIdeal.main_arg3)
      ∧ m' ((c.tc : Thread Cert.AdWgRefIdeal.nD Cert.AdWgRefIdeal.τ).loc Cert.AdWgRefIdeal.main_arg4) = m ((c.tc : Thread Cert.AdWgIdeal.nD Cert.AdWgIdeal.τ).loc Cert.AdWgIdeal.main_arg4)
      ∧ m' ((c.tc : Thread Cert.AdWgRefIdeal.nD Cert.AdWgRefIdeal.τ).loc Cert.AdWgRefIdeal.main_arg5) = m ((c.tc : Thread Cert.AdWgIdeal.nD Cert.AdWgIdeal.τ).loc Cert.AdWgIdeal.main_arg5)
      ∧ m' ((c.tc : Thread Cert.AdWgRefIdeal.nD Cert.AdWgRefIdeal.τ).loc Cert.AdWgRefIdeal.main_arg6) = m ((c.tc : Thread Cert.AdWgIdeal.nD Cert.AdWgIdeal.τ).loc Cert.AdWgIdeal.main_arg6)
      ∧ m' ((c.tc : Thread Cert.AdWgRefIdeal.nD Cert.AdWgRefIdeal.τ).loc Cert.AdWgRefIdeal.main_arg7) = m ((c.tc : Thread Cert.AdWgIdeal.nD Cert.AdWgIdeal.τ).loc Cert.AdWgIdeal.main_arg7)) →
    ∃ (v0 : (c : Dev Cert.AdWgIdeal.nD) → Buf (Elt Ideal) ((c.tc : Thread Cert.AdWgIdeal.nD Cert.AdWgIdeal.τ).loc Cert.AdWgIdeal.main_v0_0)) (v1 : (c : Dev Cert.AdWgIdeal.nD) → Buf (Elt Ideal) ((c.tc : Thread Cert.AdWgIdeal.nD Cert.AdWgIdeal.τ).loc Cert.AdWgIdeal.main_v0_1)) (v2 : (c : Dev Cert.AdWgIdeal.nD) → Buf (Elt Ideal) ((c.tc : Thread Cert.AdWgIdeal.nD Cert.AdWgIdeal.τ).loc Cert.AdWgIdeal.main_v0_2)) (v3 : (c : Dev Cert.AdWgIdeal.nD) → Buf (Elt Ideal) ((c.tc : Thread Cert.AdWgIdeal.nD Cert.AdWgIdeal.τ).loc Cert.AdWgIdeal.main_v0_3)),
      θ_run (Cert.AdWgIdeal.defs (F := Ideal)) (onTc (τ := Cert.AdWgIdeal.τ) (Cert.AdWgIdeal.main (F := Ideal))) ⟨m, fun _ => 0, g⟩ (fun r => ∀ c : Dev Cert.AdWgIdeal.nD,
          r.2.mem ((c.tc : Thread Cert.AdWgIdeal.nD Cert.AdWgIdeal.τ).loc Cert.AdWgIdeal.main_v0_0) = v0 c
          ∧ r.2.mem ((c.tc : Thread Cert.AdWgIdeal.nD Cert.AdWgIdeal.τ).loc Cert.AdWgIdeal.main_v0_1) = v1 c
          ∧ r.2.mem ((c.tc : Thread Cert.AdWgIdeal.nD Cert.AdWgIdeal.τ).loc Cert.AdWgIdeal.main_v0_2) = v2 c
          ∧ r.2.mem ((c.tc : Thread Cert.AdWgIdeal.nD Cert.AdWgIdeal.τ).loc Cert.AdWgIdeal.main_v0_3) = v3 c
          ∧ r.2.mem ((c.tc : Thread Cert.AdWgIdeal.nD Cert.AdWgIdeal.τ).loc Cert.AdWgIdeal.main_arg0) = m ((c.tc : Thread Cert.AdWgIdeal.nD Cert.AdWgIdeal.τ).loc Cert.AdWgIdeal.main_arg0)
          ∧ r.2.mem ((c.tc : Thread Cert.AdWgIdeal.nD Cert.AdWgIdeal.τ).loc Cert.AdWgIdeal.main_arg1) = m ((c.tc : Thread Cert.AdWgIdeal.nD Cert.AdWgIdeal.τ).loc Cert.AdWgIdeal.main_arg1)
          ∧ r.2.mem ((c.tc : Thread Cert.AdWgIdeal.nD Cert.AdWgIdeal.τ).loc Cert.AdWgIdeal.main_arg2) = m ((c.tc : Thread Cert.AdWgIdeal.nD Cert.AdWgIdeal.τ).loc Cert.AdWgIdeal.main_arg2)
          ∧ r.2.mem ((c.tc : Thread Cert.AdWgIdeal.nD Cert.AdWgIdeal.τ).loc Cert.AdWgIdeal.main_arg3) = m ((c.tc : Thread Cert.AdWgIdeal.nD Cert.AdWgIdeal.τ).loc Cert.AdWgIdeal.main_arg3)
          ∧ r.2.mem ((c.tc : Thread Cert.AdWgIdeal.nD Cert.AdWgIdeal.τ).loc Cert.AdWgIdeal.main_arg4) = m ((c.tc : Thread Cert.AdWgIdeal.nD Cert.AdWgIdeal.τ).loc Cert.AdWgIdeal.main_arg4)
          ∧ r.2.mem ((c.tc : Thread Cert.AdWgIdeal.nD Cert.AdWgIdeal.τ).loc Cert.AdWgIdeal.main_arg5) = m ((c.tc : Thread Cert.AdWgIdeal.nD Cert.AdWgIdeal.τ).loc Cert.AdWgIdeal.main_arg5)
          ∧ r.2.mem ((c.tc : Thread Cert.AdWgIdeal.nD Cert.AdWgIdeal.τ).loc Cert.AdWgIdeal.main_arg6) = m ((c.tc : Thread Cert.AdWgIdeal.nD Cert.AdWgIdeal.τ).loc Cert.AdWgIdeal.main_arg6)
          ∧ r.2.mem ((c.tc : Thread Cert.AdWgIdeal.nD Cert.AdWgIdeal.τ).loc Cert.AdWgIdeal.main_arg7) = m ((c.tc : Thread Cert.AdWgIdeal.nD Cert.AdWgIdeal.τ).loc Cert.AdWgIdeal.main_arg7))
      ∧ θ_run (Cert.AdWgRefIdeal.defs (F := Ideal)) (onTc (τ := Cert.AdWgRefIdeal.τ) (Cert.AdWgRefIdeal.main (F := Ideal))) ⟨m', fun _ => 0, g'⟩ (fun r => ∀ c : Dev Cert.AdWgRefIdeal.nD,
          r.2.mem ((c.tc : Thread Cert.AdWgRefIdeal.nD Cert.AdWgRefIdeal.τ).loc Cert.AdWgRefIdeal.main_v32) = v0 c
          ∧ r.2.mem ((c.tc : Thread Cert.AdWgRefIdeal.nD Cert.AdWgRefIdeal.τ).loc Cert.AdWgRefIdeal.main_v35) = v1 c
          ∧ r.2.mem ((c.tc : Thread Cert.AdWgRefIdeal.nD Cert.AdWgRefIdeal.τ).loc Cert.AdWgRefIdeal.main_v38) = v2 c
          ∧ r.2.mem ((c.tc : Thread Cert.AdWgRefIdeal.nD Cert.AdWgRefIdeal.τ).loc Cert.AdWgRefIdeal.main_v41) = v3 c
          ∧ r.2.mem ((c.tc : Thread Cert.AdWgRefIdeal.nD Cert.AdWgRefIdeal.τ).loc Cert.AdWgRefIdeal.main_arg0) = m' ((c.tc : Thread Cert.AdWgRefIdeal.nD Cert.AdWgRefIdeal.τ).loc Cert.AdWgRefIdeal.main_arg0)
          ∧ r.2.mem ((c.tc : Thread Cert.AdWgRefIdeal.nD Cert.AdWgRefIdeal.τ).loc Cert.AdWgRefIdeal.main_arg1) = m' ((c.tc : Thread Cert.AdWgRefIdeal.nD Cert.AdWgRefIdeal.τ).loc Cert.AdWgRefIdeal.main_arg1)
          ∧ r.2.mem ((c.tc : Thread Cert.AdWgRefIdeal.nD Cert.AdWgRefIdeal.τ).loc Cert.AdWgRefIdeal.main_arg2) = m' ((c.tc : Thread Cert.AdWgRefIdeal.nD Cert.AdWgRefIdeal.τ).loc Cert.AdWgRefIdeal.main_arg2)
          ∧ r.2.mem ((c.tc : Thread Cert.AdWgRefIdeal.nD Cert.AdWgRefIdeal.τ).loc Cert.AdWgRefIdeal.main_arg3) = m' ((c.tc : Thread Cert.AdWgRefIdeal.nD Cert.AdWgRefIdeal.τ).loc Cert.AdWgRefIdeal.main_arg3)
          ∧ r.2.mem ((c.tc : Thread Cert.AdWgRefIdeal.nD Cert.AdWgRefIdeal.τ).loc Cert.AdWgRefIdeal.main_arg4) = m' ((c.tc : Thread Cert.AdWgRefIdeal.nD Cert.AdWgRefIdeal.τ).loc Cert.AdWgRefIdeal.main_arg4)
          ∧ r.2.mem ((c.tc : Thread Cert.AdWgRefIdeal.nD Cert.AdWgRefIdeal.τ).loc Cert.AdWgRefIdeal.main_arg5) = m' ((c.tc : Thread Cert.AdWgRefIdeal.nD Cert.AdWgRefIdeal.τ).loc Cert.AdWgRefIdeal.main_arg5)
          ∧ r.2.mem ((c.tc : Thread Cert.AdWgRefIdeal.nD Cert.AdWgRefIdeal.τ).loc Cert.AdWgRefIdeal.main_arg6) = m' ((c.tc : Thread Cert.AdWgRefIdeal.nD Cert.AdWgRefIdeal.τ).loc Cert.AdWgRefIdeal.main_arg6)
          ∧ r.2.mem ((c.tc : Thread Cert.AdWgRefIdeal.nD Cert.AdWgRefIdeal.τ).loc Cert.AdWgRefIdeal.main_arg7) = m' ((c.tc : Thread Cert.AdWgRefIdeal.nD Cert.AdWgRefIdeal.τ).loc Cert.AdWgRefIdeal.main_arg7))

def preserves_AdWu_AdWuIdeal : Prop :=
  True

def algebraic_AdWuIdeal_AdWuRefIdeal [hAdWuIdeal : Cert.AdWuIdeal.Facts] [hAdWuRefIdeal : Cert.AdWuRefIdeal.Facts] : Prop :=
  ∀ (m : (ℓ : Loc Cert.AdWuIdeal.nD Cert.AdWuIdeal.τ Cert.AdWuIdeal.sig) → Buf (Elt Ideal) ℓ) (g : Dev Cert.AdWuIdeal.nD → PrngReg)
    (m' : (ℓ : Loc Cert.AdWuRefIdeal.nD Cert.AdWuRefIdeal.τ Cert.AdWuRefIdeal.sig) → Buf (Elt Ideal) ℓ) (g' : Dev Cert.AdWuRefIdeal.nD → PrngReg), Pre_AdWuIdeal m →
    (∀ c : Dev Cert.AdWuIdeal.nD,
      m' ((c.tc : Thread Cert.AdWuRefIdeal.nD Cert.AdWuRefIdeal.τ).loc Cert.AdWuRefIdeal.main_arg0) = m ((c.tc : Thread Cert.AdWuIdeal.nD Cert.AdWuIdeal.τ).loc Cert.AdWuIdeal.main_arg0)
      ∧ m' ((c.tc : Thread Cert.AdWuRefIdeal.nD Cert.AdWuRefIdeal.τ).loc Cert.AdWuRefIdeal.main_arg1) = m ((c.tc : Thread Cert.AdWuIdeal.nD Cert.AdWuIdeal.τ).loc Cert.AdWuIdeal.main_arg1)
      ∧ m' ((c.tc : Thread Cert.AdWuRefIdeal.nD Cert.AdWuRefIdeal.τ).loc Cert.AdWuRefIdeal.main_arg2) = m ((c.tc : Thread Cert.AdWuIdeal.nD Cert.AdWuIdeal.τ).loc Cert.AdWuIdeal.main_arg2)
      ∧ m' ((c.tc : Thread Cert.AdWuRefIdeal.nD Cert.AdWuRefIdeal.τ).loc Cert.AdWuRefIdeal.main_arg3) = m ((c.tc : Thread Cert.AdWuIdeal.nD Cert.AdWuIdeal.τ).loc Cert.AdWuIdeal.main_arg3)
      ∧ m' ((c.tc : Thread Cert.AdWuRefIdeal.nD Cert.AdWuRefIdeal.τ).loc Cert.AdWuRefIdeal.main_arg4) = m ((c.tc : Thread Cert.AdWuIdeal.nD Cert.AdWuIdeal.τ).loc Cert.AdWuIdeal.main_arg4)
      ∧ m' ((c.tc : Thread Cert.AdWuRefIdeal.nD Cert.AdWuRefIdeal.τ).loc Cert.AdWuRefIdeal.main_arg5) = m ((c.tc : Thread Cert.AdWuIdeal.nD Cert.AdWuIdeal.τ).loc Cert.AdWuIdeal.main_arg5)
      ∧ m' ((c.tc : Thread Cert.AdWuRefIdeal.nD Cert.AdWuRefIdeal.τ).loc Cert.AdWuRefIdeal.main_arg6) = m ((c.tc : Thread Cert.AdWuIdeal.nD Cert.AdWuIdeal.τ).loc Cert.AdWuIdeal.main_arg6)
      ∧ m' ((c.tc : Thread Cert.AdWuRefIdeal.nD Cert.AdWuRefIdeal.τ).loc Cert.AdWuRefIdeal.main_arg7) = m ((c.tc : Thread Cert.AdWuIdeal.nD Cert.AdWuIdeal.τ).loc Cert.AdWuIdeal.main_arg7)) →
    ∃ (v0 : (c : Dev Cert.AdWuIdeal.nD) → Buf (Elt Ideal) ((c.tc : Thread Cert.AdWuIdeal.nD Cert.AdWuIdeal.τ).loc Cert.AdWuIdeal.main_v0_0)) (v1 : (c : Dev Cert.AdWuIdeal.nD) → Buf (Elt Ideal) ((c.tc : Thread Cert.AdWuIdeal.nD Cert.AdWuIdeal.τ).loc Cert.AdWuIdeal.main_v0_1)) (v2 : (c : Dev Cert.AdWuIdeal.nD) → Buf (Elt Ideal) ((c.tc : Thread Cert.AdWuIdeal.nD Cert.AdWuIdeal.τ).loc Cert.AdWuIdeal.main_v0_2)) (v3 : (c : Dev Cert.AdWuIdeal.nD) → Buf (Elt Ideal) ((c.tc : Thread Cert.AdWuIdeal.nD Cert.AdWuIdeal.τ).loc Cert.AdWuIdeal.main_v0_3)),
      θ_run (Cert.AdWuIdeal.defs (F := Ideal)) (onTc (τ := Cert.AdWuIdeal.τ) (Cert.AdWuIdeal.main (F := Ideal))) ⟨m, fun _ => 0, g⟩ (fun r => ∀ c : Dev Cert.AdWuIdeal.nD,
          r.2.mem ((c.tc : Thread Cert.AdWuIdeal.nD Cert.AdWuIdeal.τ).loc Cert.AdWuIdeal.main_v0_0) = v0 c
          ∧ r.2.mem ((c.tc : Thread Cert.AdWuIdeal.nD Cert.AdWuIdeal.τ).loc Cert.AdWuIdeal.main_v0_1) = v1 c
          ∧ r.2.mem ((c.tc : Thread Cert.AdWuIdeal.nD Cert.AdWuIdeal.τ).loc Cert.AdWuIdeal.main_v0_2) = v2 c
          ∧ r.2.mem ((c.tc : Thread Cert.AdWuIdeal.nD Cert.AdWuIdeal.τ).loc Cert.AdWuIdeal.main_v0_3) = v3 c
          ∧ r.2.mem ((c.tc : Thread Cert.AdWuIdeal.nD Cert.AdWuIdeal.τ).loc Cert.AdWuIdeal.main_arg0) = m ((c.tc : Thread Cert.AdWuIdeal.nD Cert.AdWuIdeal.τ).loc Cert.AdWuIdeal.main_arg0)
          ∧ r.2.mem ((c.tc : Thread Cert.AdWuIdeal.nD Cert.AdWuIdeal.τ).loc Cert.AdWuIdeal.main_arg1) = m ((c.tc : Thread Cert.AdWuIdeal.nD Cert.AdWuIdeal.τ).loc Cert.AdWuIdeal.main_arg1)
          ∧ r.2.mem ((c.tc : Thread Cert.AdWuIdeal.nD Cert.AdWuIdeal.τ).loc Cert.AdWuIdeal.main_arg2) = m ((c.tc : Thread Cert.AdWuIdeal.nD Cert.AdWuIdeal.τ).loc Cert.AdWuIdeal.main_arg2)
          ∧ r.2.mem ((c.tc : Thread Cert.AdWuIdeal.nD Cert.AdWuIdeal.τ).loc Cert.AdWuIdeal.main_arg3) = m ((c.tc : Thread Cert.AdWuIdeal.nD Cert.AdWuIdeal.τ).loc Cert.AdWuIdeal.main_arg3)
          ∧ r.2.mem ((c.tc : Thread Cert.AdWuIdeal.nD Cert.AdWuIdeal.τ).loc Cert.AdWuIdeal.main_arg4) = m ((c.tc : Thread Cert.AdWuIdeal.nD Cert.AdWuIdeal.τ).loc Cert.AdWuIdeal.main_arg4)
          ∧ r.2.mem ((c.tc : Thread Cert.AdWuIdeal.nD Cert.AdWuIdeal.τ).loc Cert.AdWuIdeal.main_arg5) = m ((c.tc : Thread Cert.AdWuIdeal.nD Cert.AdWuIdeal.τ).loc Cert.AdWuIdeal.main_arg5)
          ∧ r.2.mem ((c.tc : Thread Cert.AdWuIdeal.nD Cert.AdWuIdeal.τ).loc Cert.AdWuIdeal.main_arg6) = m ((c.tc : Thread Cert.AdWuIdeal.nD Cert.AdWuIdeal.τ).loc Cert.AdWuIdeal.main_arg6)
          ∧ r.2.mem ((c.tc : Thread Cert.AdWuIdeal.nD Cert.AdWuIdeal.τ).loc Cert.AdWuIdeal.main_arg7) = m ((c.tc : Thread Cert.AdWuIdeal.nD Cert.AdWuIdeal.τ).loc Cert.AdWuIdeal.main_arg7))
      ∧ θ_run (Cert.AdWuRefIdeal.defs (F := Ideal)) (onTc (τ := Cert.AdWuRefIdeal.τ) (Cert.AdWuRefIdeal.main (F := Ideal))) ⟨m', fun _ => 0, g'⟩ (fun r => ∀ c : Dev Cert.AdWuRefIdeal.nD,
          r.2.mem ((c.tc : Thread Cert.AdWuRefIdeal.nD Cert.AdWuRefIdeal.τ).loc Cert.AdWuRefIdeal.main_v32) = v0 c
          ∧ r.2.mem ((c.tc : Thread Cert.AdWuRefIdeal.nD Cert.AdWuRefIdeal.τ).loc Cert.AdWuRefIdeal.main_v35) = v1 c
          ∧ r.2.mem ((c.tc : Thread Cert.AdWuRefIdeal.nD Cert.AdWuRefIdeal.τ).loc Cert.AdWuRefIdeal.main_v38) = v2 c
          ∧ r.2.mem ((c.tc : Thread Cert.AdWuRefIdeal.nD Cert.AdWuRefIdeal.τ).loc Cert.AdWuRefIdeal.main_v41) = v3 c
          ∧ r.2.mem ((c.tc : Thread Cert.AdWuRefIdeal.nD Cert.AdWuRefIdeal.τ).loc Cert.AdWuRefIdeal.main_arg0) = m' ((c.tc : Thread Cert.AdWuRefIdeal.nD Cert.AdWuRefIdeal.τ).loc Cert.AdWuRefIdeal.main_arg0)
          ∧ r.2.mem ((c.tc : Thread Cert.AdWuRefIdeal.nD Cert.AdWuRefIdeal.τ).loc Cert.AdWuRefIdeal.main_arg1) = m' ((c.tc : Thread Cert.AdWuRefIdeal.nD Cert.AdWuRefIdeal.τ).loc Cert.AdWuRefIdeal.main_arg1)
          ∧ r.2.mem ((c.tc : Thread Cert.AdWuRefIdeal.nD Cert.AdWuRefIdeal.τ).loc Cert.AdWuRefIdeal.main_arg2) = m' ((c.tc : Thread Cert.AdWuRefIdeal.nD Cert.AdWuRefIdeal.τ).loc Cert.AdWuRefIdeal.main_arg2)
          ∧ r.2.mem ((c.tc : Thread Cert.AdWuRefIdeal.nD Cert.AdWuRefIdeal.τ).loc Cert.AdWuRefIdeal.main_arg3) = m' ((c.tc : Thread Cert.AdWuRefIdeal.nD Cert.AdWuRefIdeal.τ).loc Cert.AdWuRefIdeal.main_arg3)
          ∧ r.2.mem ((c.tc : Thread Cert.AdWuRefIdeal.nD Cert.AdWuRefIdeal.τ).loc Cert.AdWuRefIdeal.main_arg4) = m' ((c.tc : Thread Cert.AdWuRefIdeal.nD Cert.AdWuRefIdeal.τ).loc Cert.AdWuRefIdeal.main_arg4)
          ∧ r.2.mem ((c.tc : Thread Cert.AdWuRefIdeal.nD Cert.AdWuRefIdeal.τ).loc Cert.AdWuRefIdeal.main_arg5) = m' ((c.tc : Thread Cert.AdWuRefIdeal.nD Cert.AdWuRefIdeal.τ).loc Cert.AdWuRefIdeal.main_arg5)
          ∧ r.2.mem ((c.tc : Thread Cert.AdWuRefIdeal.nD Cert.AdWuRefIdeal.τ).loc Cert.AdWuRefIdeal.main_arg6) = m' ((c.tc : Thread Cert.AdWuRefIdeal.nD Cert.AdWuRefIdeal.τ).loc Cert.AdWuRefIdeal.main_arg6)
          ∧ r.2.mem ((c.tc : Thread Cert.AdWuRefIdeal.nD Cert.AdWuRefIdeal.τ).loc Cert.AdWuRefIdeal.main_arg7) = m' ((c.tc : Thread Cert.AdWuRefIdeal.nD Cert.AdWuRefIdeal.τ).loc Cert.AdWuRefIdeal.main_arg7))

def preserves_AdSmall_AdSmallIdeal : Prop :=
  True

def algebraic_AdSmallIdeal_AdSmallRefIdeal [hAdSmallIdeal : Cert.AdSmallIdeal.Facts] [hAdSmallRefIdeal : Cert.AdSmallRefIdeal.Facts] : Prop :=
  ∀ (m : (ℓ : Loc Cert.AdSmallIdeal.nD Cert.AdSmallIdeal.τ Cert.AdSmallIdeal.sig) → Buf (Elt Ideal) ℓ) (g : Dev Cert.AdSmallIdeal.nD → PrngReg)
    (m' : (ℓ : Loc Cert.AdSmallRefIdeal.nD Cert.AdSmallRefIdeal.τ Cert.AdSmallRefIdeal.sig) → Buf (Elt Ideal) ℓ) (g' : Dev Cert.AdSmallRefIdeal.nD → PrngReg), Pre_AdSmallIdeal m →
    (∀ c : Dev Cert.AdSmallIdeal.nD,
      m' ((c.tc : Thread Cert.AdSmallRefIdeal.nD Cert.AdSmallRefIdeal.τ).loc Cert.AdSmallRefIdeal.main_arg0) = m ((c.tc : Thread Cert.AdSmallIdeal.nD Cert.AdSmallIdeal.τ).loc Cert.AdSmallIdeal.main_arg0)
      ∧ m' ((c.tc : Thread Cert.AdSmallRefIdeal.nD Cert.AdSmallRefIdeal.τ).loc Cert.AdSmallRefIdeal.main_arg1) = m ((c.tc : Thread Cert.AdSmallIdeal.nD Cert.AdSmallIdeal.τ).loc Cert.AdSmallIdeal.main_arg1)
      ∧ m' ((c.tc : Thread Cert.AdSmallRefIdeal.nD Cert.AdSmallRefIdeal.τ).loc Cert.AdSmallRefIdeal.main_arg2) = m ((c.tc : Thread Cert.AdSmallIdeal.nD Cert.AdSmallIdeal.τ).loc Cert.AdSmallIdeal.main_arg2)
      ∧ m' ((c.tc : Thread Cert.AdSmallRefIdeal.nD Cert.AdSmallRefIdeal.τ).loc Cert.AdSmallRefIdeal.main_arg3) = m ((c.tc : Thread Cert.AdSmallIdeal.nD Cert.AdSmallIdeal.τ).loc Cert.AdSmallIdeal.main_arg3)) →
    ∃ (v0 : (c : Dev Cert.AdSmallIdeal.nD) → Buf (Elt Ideal) ((c.tc : Thread Cert.AdSmallIdeal.nD Cert.AdSmallIdeal.τ).loc Cert.AdSmallIdeal.main_v1_0)) (v1 : (c : Dev Cert.AdSmallIdeal.nD) → Buf (Elt Ideal) ((c.tc : Thread Cert.AdSmallIdeal.nD Cert.AdSmallIdeal.τ).loc Cert.AdSmallIdeal.main_v1_1)) (v2 : (c : Dev Cert.AdSmallIdeal.nD) → Buf (Elt Ideal) ((c.tc : Thread Cert.AdSmallIdeal.nD Cert.AdSmallIdeal.τ).loc Cert.AdSmallIdeal.main_v1_2)) (v3 : (c : Dev Cert.AdSmallIdeal.nD) → Buf (Elt Ideal) ((c.tc : Thread Cert.AdSmallIdeal.nD Cert.AdSmallIdeal.τ).loc Cert.AdSmallIdeal.main_v1_3)),
      θ_run (Cert.AdSmallIdeal.defs (F := Ideal)) (onTc (τ := Cert.AdSmallIdeal.τ) (Cert.AdSmallIdeal.main (F := Ideal))) ⟨m, fun _ => 0, g⟩ (fun r => ∀ c : Dev Cert.AdSmallIdeal.nD,
          r.2.mem ((c.tc : Thread Cert.AdSmallIdeal.nD Cert.AdSmallIdeal.τ).loc Cert.AdSmallIdeal.main_v1_0) = v0 c
          ∧ r.2.mem ((c.tc : Thread Cert.AdSmallIdeal.nD Cert.AdSmallIdeal.τ).loc Cert.AdSmallIdeal.main_v1_1) = v1 c
          ∧ r.2.mem ((c.tc : Thread Cert.AdSmallIdeal.nD Cert.AdSmallIdeal.τ).loc Cert.AdSmallIdeal.main_v1_2) = v2 c
          ∧ r.2.mem ((c.tc : Thread Cert.AdSmallIdeal.nD Cert.AdSmallIdeal.τ).loc Cert.AdSmallIdeal.main_v1_3) = v3 c
          ∧ r.2.mem ((c.tc : Thread Cert.AdSmallIdeal.nD Cert.AdSmallIdeal.τ).loc Cert.AdSmallIdeal.main_arg0) = m ((c.tc : Thread Cert.AdSmallIdeal.nD Cert.AdSmallIdeal.τ).loc Cert.AdSmallIdeal.main_arg0)
          ∧ r.2.mem ((c.tc : Thread Cert.AdSmallIdeal.nD Cert.AdSmallIdeal.τ).loc Cert.AdSmallIdeal.main_arg1) = m ((c.tc : Thread Cert.AdSmallIdeal.nD Cert.AdSmallIdeal.τ).loc Cert.AdSmallIdeal.main_arg1)
          ∧ r.2.mem ((c.tc : Thread Cert.AdSmallIdeal.nD Cert.AdSmallIdeal.τ).loc Cert.AdSmallIdeal.main_arg2) = m ((c.tc : Thread Cert.AdSmallIdeal.nD Cert.AdSmallIdeal.τ).loc Cert.AdSmallIdeal.main_arg2)
          ∧ r.2.mem ((c.tc : Thread Cert.AdSmallIdeal.nD Cert.AdSmallIdeal.τ).loc Cert.AdSmallIdeal.main_arg3) = m ((c.tc : Thread Cert.AdSmallIdeal.nD Cert.AdSmallIdeal.τ).loc Cert.AdSmallIdeal.main_arg3))
      ∧ θ_run (Cert.AdSmallRefIdeal.defs (F := Ideal)) (onTc (τ := Cert.AdSmallRefIdeal.τ) (Cert.AdSmallRefIdeal.main (F := Ideal))) ⟨m', fun _ => 0, g'⟩ (fun r => ∀ c : Dev Cert.AdSmallRefIdeal.nD,
          r.2.mem ((c.tc : Thread Cert.AdSmallRefIdeal.nD Cert.AdSmallRefIdeal.τ).loc Cert.AdSmallRefIdeal.main_arg0) = v0 c
          ∧ r.2.mem ((c.tc : Thread Cert.AdSmallRefIdeal.nD Cert.AdSmallRefIdeal.τ).loc Cert.AdSmallRefIdeal.main_v23) = v1 c
          ∧ r.2.mem ((c.tc : Thread Cert.AdSmallRefIdeal.nD Cert.AdSmallRefIdeal.τ).loc Cert.AdSmallRefIdeal.main_v4) = v2 c
          ∧ r.2.mem ((c.tc : Thread Cert.AdSmallRefIdeal.nD Cert.AdSmallRefIdeal.τ).loc Cert.AdSmallRefIdeal.main_v10) = v3 c
          ∧ r.2.mem ((c.tc : Thread Cert.AdSmallRefIdeal.nD Cert.AdSmallRefIdeal.τ).loc Cert.AdSmallRefIdeal.main_arg0) = m' ((c.tc : Thread Cert.AdSmallRefIdeal.nD Cert.AdSmallRefIdeal.τ).loc Cert.AdSmallRefIdeal.main_arg0)
          ∧ r.2.mem ((c.tc : Thread Cert.AdSmallRefIdeal.nD Cert.AdSmallRefIdeal.τ).loc Cert.AdSmallRefIdeal.main_arg1) = m' ((c.tc : Thread Cert.AdSmallRefIdeal.nD Cert.AdSmallRefIdeal.τ).loc Cert.AdSmallRefIdeal.main_arg1)
          ∧ r.2.mem ((c.tc : Thread Cert.AdSmallRefIdeal.nD Cert.AdSmallRefIdeal.τ).loc Cert.AdSmallRefIdeal.main_arg2) = m' ((c.tc : Thread Cert.AdSmallRefIdeal.nD Cert.AdSmallRefIdeal.τ).loc Cert.AdSmallRefIdeal.main_arg2)
          ∧ r.2.mem ((c.tc : Thread Cert.AdSmallRefIdeal.nD Cert.AdSmallRefIdeal.τ).loc Cert.AdSmallRefIdeal.main_arg3) = m' ((c.tc : Thread Cert.AdSmallRefIdeal.nD Cert.AdSmallRefIdeal.τ).loc Cert.AdSmallRefIdeal.main_arg3))

def preserves_AdNw_AdNwIdeal : Prop :=
  True

def algebraic_AdNwIdeal_AdNwRefIdeal [hAdNwIdeal : Cert.AdNwIdeal.Facts] [hAdNwRefIdeal : Cert.AdNwRefIdeal.Facts] : Prop :=
  ∀ (m : (ℓ : Loc Cert.AdNwIdeal.nD Cert.AdNwIdeal.τ Cert.AdNwIdeal.sig) → Buf (Elt Ideal) ℓ) (g : Dev Cert.AdNwIdeal.nD → PrngReg)
    (m' : (ℓ : Loc Cert.AdNwRefIdeal.nD Cert.AdNwRefIdeal.τ Cert.AdNwRefIdeal.sig) → Buf (Elt Ideal) ℓ) (g' : Dev Cert.AdNwRefIdeal.nD → PrngReg), Pre_AdNwIdeal m →
    (∀ c : Dev Cert.AdNwIdeal.nD,
      m' ((c.tc : Thread Cert.AdNwRefIdeal.nD Cert.AdNwRefIdeal.τ).loc Cert.AdNwRefIdeal.main_arg0) = m ((c.tc : Thread Cert.AdNwIdeal.nD Cert.AdNwIdeal.τ).loc Cert.AdNwIdeal.main_arg0)
      ∧ m' ((c.tc : Thread Cert.AdNwRefIdeal.nD Cert.AdNwRefIdeal.τ).loc Cert.AdNwRefIdeal.main_arg1) = m ((c.tc : Thread Cert.AdNwIdeal.nD Cert.AdNwIdeal.τ).loc Cert.AdNwIdeal.main_arg1)
      ∧ m' ((c.tc : Thread Cert.AdNwRefIdeal.nD Cert.AdNwRefIdeal.τ).loc Cert.AdNwRefIdeal.main_arg2) = m ((c.tc : Thread Cert.AdNwIdeal.nD Cert.AdNwIdeal.τ).loc Cert.AdNwIdeal.main_arg2)
      ∧ m' ((c.tc : Thread Cert.AdNwRefIdeal.nD Cert.AdNwRefIdeal.τ).loc Cert.AdNwRefIdeal.main_arg3) = m ((c.tc : Thread Cert.AdNwIdeal.nD Cert.AdNwIdeal.τ).loc Cert.AdNwIdeal.main_arg3)) →
    ∃ (v0 : (c : Dev Cert.AdNwIdeal.nD) → Buf (Elt Ideal) ((c.tc : Thread Cert.AdNwIdeal.nD Cert.AdNwIdeal.τ).loc Cert.AdNwIdeal.main_v1_0)) (v1 : (c : Dev Cert.AdNwIdeal.nD) → Buf (Elt Ideal) ((c.tc : Thread Cert.AdNwIdeal.nD Cert.AdNwIdeal.τ).loc Cert.AdNwIdeal.main_v1_1)) (v2 : (c : Dev Cert.AdNwIdeal.nD) → Buf (Elt Ideal) ((c.tc : Thread Cert.AdNwIdeal.nD Cert.AdNwIdeal.τ).loc Cert.AdNwIdeal.main_v1_2)) (v3 : (c : Dev Cert.AdNwIdeal.nD) → Buf (Elt Ideal) ((c.tc : Thread Cert.AdNwIdeal.nD Cert.AdNwIdeal.τ).loc Cert.AdNwIdeal.main_v1_3)),
      θ_run (Cert.AdNwIdeal.defs (F := Ideal)) (onTc (τ := Cert.AdNwIdeal.τ) (Cert.AdNwIdeal.main (F := Ideal))) ⟨m, fun _ => 0, g⟩ (fun r => ∀ c : Dev Cert.AdNwIdeal.nD,
          r.2.mem ((c.tc : Thread Cert.AdNwIdeal.nD Cert.AdNwIdeal.τ).loc Cert.AdNwIdeal.main_v1_0) = v0 c
          ∧ r.2.mem ((c.tc : Thread Cert.AdNwIdeal.nD Cert.AdNwIdeal.τ).loc Cert.AdNwIdeal.main_v1_1) = v1 c
          ∧ r.2.mem ((c.tc : Thread Cert.AdNwIdeal.nD Cert.AdNwIdeal.τ).loc Cert.AdNwIdeal.main_v1_2) = v2 c
          ∧ r.2.mem ((c.tc : Thread Cert.AdNwIdeal.nD Cert.AdNwIdeal.τ).loc Cert.AdNwIdeal.main_v1_3) = v3 c
          ∧ r.2.mem ((c.tc : Thread Cert.AdNwIdeal.nD Cert.AdNwIdeal.τ).loc Cert.AdNwIdeal.main_arg0) = m ((c.tc : Thread Cert.AdNwIdeal.nD Cert.AdNwIdeal.τ).loc Cert.AdNwIdeal.main_arg0)
          ∧ r.2.mem ((c.tc : Thread Cert.AdNwIdeal.nD Cert.AdNwIdeal.τ).loc Cert.AdNwIdeal.main_arg1) = m ((c.tc : Thread Cert.AdNwIdeal.nD Cert.AdNwIdeal.τ).loc Cert.AdNwIdeal.main_arg1)
          ∧ r.2.mem ((c.tc : Thread Cert.AdNwIdeal.nD Cert.AdNwIdeal.τ).loc Cert.AdNwIdeal.main_arg2) = m ((c.tc : Thread Cert.AdNwIdeal.nD Cert.AdNwIdeal.τ).loc Cert.AdNwIdeal.main_arg2)
          ∧ r.2.mem ((c.tc : Thread Cert.AdNwIdeal.nD Cert.AdNwIdeal.τ).loc Cert.AdNwIdeal.main_arg3) = m ((c.tc : Thread Cert.AdNwIdeal.nD Cert.AdNwIdeal.τ).loc Cert.AdNwIdeal.main_arg3))
      ∧ θ_run (Cert.AdNwRefIdeal.defs (F := Ideal)) (onTc (τ := Cert.AdNwRefIdeal.τ) (Cert.AdNwRefIdeal.main (F := Ideal))) ⟨m', fun _ => 0, g'⟩ (fun r => ∀ c : Dev Cert.AdNwRefIdeal.nD,
          r.2.mem ((c.tc : Thread Cert.AdNwRefIdeal.nD Cert.AdNwRefIdeal.τ).loc Cert.AdNwRefIdeal.main_arg0) = v0 c
          ∧ r.2.mem ((c.tc : Thread Cert.AdNwRefIdeal.nD Cert.AdNwRefIdeal.τ).loc Cert.AdNwRefIdeal.main_v23) = v1 c
          ∧ r.2.mem ((c.tc : Thread Cert.AdNwRefIdeal.nD Cert.AdNwRefIdeal.τ).loc Cert.AdNwRefIdeal.main_v4) = v2 c
          ∧ r.2.mem ((c.tc : Thread Cert.AdNwRefIdeal.nD Cert.AdNwRefIdeal.τ).loc Cert.AdNwRefIdeal.main_v10) = v3 c
          ∧ r.2.mem ((c.tc : Thread Cert.AdNwRefIdeal.nD Cert.AdNwRefIdeal.τ).loc Cert.AdNwRefIdeal.main_arg0) = m' ((c.tc : Thread Cert.AdNwRefIdeal.nD Cert.AdNwRefIdeal.τ).loc Cert.AdNwRefIdeal.main_arg0)
          ∧ r.2.mem ((c.tc : Thread Cert.AdNwRefIdeal.nD Cert.AdNwRefIdeal.τ).loc Cert.AdNwRefIdeal.main_arg1) = m' ((c.tc : Thread Cert.AdNwRefIdeal.nD Cert.AdNwRefIdeal.τ).loc Cert.AdNwRefIdeal.main_arg1)
          ∧ r.2.mem ((c.tc : Thread Cert.AdNwRefIdeal.nD Cert.AdNwRefIdeal.τ).loc Cert.AdNwRefIdeal.main_arg2) = m' ((c.tc : Thread Cert.AdNwRefIdeal.nD Cert.AdNwRefIdeal.τ).loc Cert.AdNwRefIdeal.main_arg2)
          ∧ r.2.mem ((c.tc : Thread Cert.AdNwRefIdeal.nD Cert.AdNwRefIdeal.τ).loc Cert.AdNwRefIdeal.main_arg3) = m' ((c.tc : Thread Cert.AdNwRefIdeal.nD Cert.AdNwRefIdeal.τ).loc Cert.AdNwRefIdeal.main_arg3))

def preserves_SumSmall_SumSmallIdeal : Prop :=
  True

def algebraic_SumSmallIdeal_SumSmallRefIdeal [hSumSmallIdeal : Cert.SumSmallIdeal.Facts] [hSumSmallRefIdeal : Cert.SumSmallRefIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg)
    (m' : (ℓ : Loc Cert.SumSmallRefIdeal.nD Cert.SumSmallRefIdeal.τ Cert.SumSmallRefIdeal.sig) → Buf (Elt Ideal) ℓ) (g' : Dev Cert.SumSmallRefIdeal.nD → PrngReg), Pre_SumSmallIdeal m →
    (∀ c : Dev Cert.SumSmallIdeal.nD,
      m' ((c.tc : Thread Cert.SumSmallRefIdeal.nD Cert.SumSmallRefIdeal.τ).loc Cert.SumSmallRefIdeal.main_arg0) = m ((c.tc : Thread Cert.SumSmallIdeal.nD Cert.SumSmallIdeal.τ).loc Cert.SumSmallIdeal.main_arg0)) →
    ∃ (v0 : (c : Dev Cert.SumSmallIdeal.nD) → Buf (Elt Ideal) ((c.tc : Thread Cert.SumSmallIdeal.nD Cert.SumSmallIdeal.τ).loc Cert.SumSmallIdeal.main_v0)),
      θ_run (Cert.SumSmallIdeal.defs (F := Ideal)) (onTc (τ := Cert.SumSmallIdeal.τ) (Cert.SumSmallIdeal.main (F := Ideal))) ⟨m, fun _ => 0, g⟩ (fun r => ∀ c : Dev Cert.SumSmallIdeal.nD,
          r.2.mem ((c.tc : Thread Cert.SumSmallIdeal.nD Cert.SumSmallIdeal.τ).loc Cert.SumSmallIdeal.main_v0) = v0 c
          ∧ r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ θ_run (Cert.SumSmallRefIdeal.defs (F := Ideal)) (onTc (τ := Cert.SumSmallRefIdeal.τ) (Cert.SumSmallRefIdeal.main (F := Ideal))) ⟨m', fun _ => 0, g'⟩ (fun r => ∀ c : Dev Cert.SumSmallRefIdeal.nD,
          r.2.mem ((c.tc : Thread Cert.SumSmallRefIdeal.nD Cert.SumSmallRefIdeal.τ).loc Cert.SumSmallRefIdeal.main_v0) = v0 c
          ∧ r.2.mem ((c.tc : Thread Cert.SumSmallRefIdeal.nD Cert.SumSmallRefIdeal.τ).loc Cert.SumSmallRefIdeal.main_arg0) = m' ((c.tc : Thread Cert.SumSmallRefIdeal.nD Cert.SumSmallRefIdeal.τ).loc Cert.SumSmallRefIdeal.main_arg0))

def preserves_SumNw_SumNwIdeal : Prop :=
  True

def algebraic_SumNwIdeal_SumNwRefIdeal [hSumNwIdeal : Cert.SumNwIdeal.Facts] [hSumNwRefIdeal : Cert.SumNwRefIdeal.Facts] : Prop :=
  ∀ (m : (ℓ : Loc Cert.SumNwIdeal.nD Cert.SumNwIdeal.τ Cert.SumNwIdeal.sig) → Buf (Elt Ideal) ℓ) (g : Dev Cert.SumNwIdeal.nD → PrngReg)
    (m' : (ℓ : Loc Cert.SumNwRefIdeal.nD Cert.SumNwRefIdeal.τ Cert.SumNwRefIdeal.sig) → Buf (Elt Ideal) ℓ) (g' : Dev Cert.SumNwRefIdeal.nD → PrngReg), Pre_SumNwIdeal m →
    (∀ c : Dev Cert.SumNwIdeal.nD,
      m' ((c.tc : Thread Cert.SumNwRefIdeal.nD Cert.SumNwRefIdeal.τ).loc Cert.SumNwRefIdeal.main_arg0) = m ((c.tc : Thread Cert.SumNwIdeal.nD Cert.SumNwIdeal.τ).loc Cert.SumNwIdeal.main_arg0)) →
    ∃ (v0 : (c : Dev Cert.SumNwIdeal.nD) → Buf (Elt Ideal) ((c.tc : Thread Cert.SumNwIdeal.nD Cert.SumNwIdeal.τ).loc Cert.SumNwIdeal.main_v0)),
      θ_run (Cert.SumNwIdeal.defs (F := Ideal)) (onTc (τ := Cert.SumNwIdeal.τ) (Cert.SumNwIdeal.main (F := Ideal))) ⟨m, fun _ => 0, g⟩ (fun r => ∀ c : Dev Cert.SumNwIdeal.nD,
          r.2.mem ((c.tc : Thread Cert.SumNwIdeal.nD Cert.SumNwIdeal.τ).loc Cert.SumNwIdeal.main_v0) = v0 c
          ∧ r.2.mem ((c.tc : Thread Cert.SumNwIdeal.nD Cert.SumNwIdeal.τ).loc Cert.SumNwIdeal.main_arg0) = m ((c.tc : Thread Cert.SumNwIdeal.nD Cert.SumNwIdeal.τ).loc Cert.SumNwIdeal.main_arg0))
      ∧ θ_run (Cert.SumNwRefIdeal.defs (F := Ideal)) (onTc (τ := Cert.SumNwRefIdeal.τ) (Cert.SumNwRefIdeal.main (F := Ideal))) ⟨m', fun _ => 0, g'⟩ (fun r => ∀ c : Dev Cert.SumNwRefIdeal.nD,
          r.2.mem ((c.tc : Thread Cert.SumNwRefIdeal.nD Cert.SumNwRefIdeal.τ).loc Cert.SumNwRefIdeal.main_v0) = v0 c
          ∧ r.2.mem ((c.tc : Thread Cert.SumNwRefIdeal.nD Cert.SumNwRefIdeal.τ).loc Cert.SumNwRefIdeal.main_arg0) = m' ((c.tc : Thread Cert.SumNwRefIdeal.nD Cert.SumNwRefIdeal.τ).loc Cert.SumNwRefIdeal.main_arg0))

def preserves_GateB_GateBIdeal : Prop :=
  True

def algebraic_GateBIdeal_GateBRefIdeal_pre_gateb_finite [hGateBIdeal : Cert.GateBIdeal.Facts] [hGateBRefIdeal : Cert.GateBRefIdeal.Facts] [hPre_gateb_finite : Cert.Pre_gateb_finite.Facts] : Prop :=
  ∀ (m : (ℓ : Loc Cert.GateBIdeal.nD Cert.GateBIdeal.τ Cert.GateBIdeal.sig) → Buf (Elt Ideal) ℓ) (g : Dev Cert.GateBIdeal.nD → PrngReg)
    (m' : (ℓ : Loc Cert.GateBRefIdeal.nD Cert.GateBRefIdeal.τ Cert.GateBRefIdeal.sig) → Buf (Elt Ideal) ℓ) (g' : Dev Cert.GateBRefIdeal.nD → PrngReg), Pre_GateBIdeal_gateb_finite m →
    (∀ c : Dev Cert.GateBIdeal.nD,
      m' ((c.tc : Thread Cert.GateBRefIdeal.nD Cert.GateBRefIdeal.τ).loc Cert.GateBRefIdeal.main_arg0) = m ((c.tc : Thread Cert.GateBIdeal.nD Cert.GateBIdeal.τ).loc Cert.GateBIdeal.main_arg0)
      ∧ m' ((c.tc : Thread Cert.GateBRefIdeal.nD Cert.GateBRefIdeal.τ).loc Cert.GateBRefIdeal.main_arg1) = m ((c.tc : Thread Cert.GateBIdeal.nD Cert.GateBIdeal.τ).loc Cert.GateBIdeal.main_arg1)
      ∧ m' ((c.tc : Thread Cert.GateBRefIdeal.nD Cert.GateBRefIdeal.τ).loc Cert.GateBRefIdeal.main_arg2) = m ((c.tc : Thread Cert.GateBIdeal.nD Cert.GateBIdeal.τ).loc Cert.GateBIdeal.main_arg2)
      ∧ m' ((c.tc : Thread Cert.GateBRefIdeal.nD Cert.GateBRefIdeal.τ).loc Cert.GateBRefIdeal.main_arg3) = m ((c.tc : Thread Cert.GateBIdeal.nD Cert.GateBIdeal.τ).loc Cert.GateBIdeal.main_arg3)
      ∧ m' ((c.tc : Thread Cert.GateBRefIdeal.nD Cert.GateBRefIdeal.τ).loc Cert.GateBRefIdeal.main_arg4) = m ((c.tc : Thread Cert.GateBIdeal.nD Cert.GateBIdeal.τ).loc Cert.GateBIdeal.main_arg4)) →
    ∃ (v0 : (c : Dev Cert.GateBIdeal.nD) → Buf (Elt Ideal) ((c.tc : Thread Cert.GateBIdeal.nD Cert.GateBIdeal.τ).loc Cert.GateBIdeal.main_v0_0)) (v1 : (c : Dev Cert.GateBIdeal.nD) → Buf (Elt Ideal) ((c.tc : Thread Cert.GateBIdeal.nD Cert.GateBIdeal.τ).loc Cert.GateBIdeal.main_v0_1)) (v2 : (c : Dev Cert.GateBIdeal.nD) → Buf (Elt Ideal) ((c.tc : Thread Cert.GateBIdeal.nD Cert.GateBIdeal.τ).loc Cert.GateBIdeal.main_v0_2)) (v3 : (c : Dev Cert.GateBIdeal.nD) → Buf (Elt Ideal) ((c.tc : Thread Cert.GateBIdeal.nD Cert.GateBIdeal.τ).loc Cert.GateBIdeal.main_v0_3)),
      θ_run (Cert.GateBIdeal.defs (F := Ideal)) (onTc (τ := Cert.GateBIdeal.τ) (Cert.GateBIdeal.main (F := Ideal))) ⟨m, fun _ => 0, g⟩ (fun r => ∀ c : Dev Cert.GateBIdeal.nD,
          r.2.mem ((c.tc : Thread Cert.GateBIdeal.nD Cert.GateBIdeal.τ).loc Cert.GateBIdeal.main_v0_0) = v0 c
          ∧ r.2.mem ((c.tc : Thread Cert.GateBIdeal.nD Cert.GateBIdeal.τ).loc Cert.GateBIdeal.main_v0_1) = v1 c
          ∧ r.2.mem ((c.tc : Thread Cert.GateBIdeal.nD Cert.GateBIdeal.τ).loc Cert.GateBIdeal.main_v0_2) = v2 c
          ∧ r.2.mem ((c.tc : Thread Cert.GateBIdeal.nD Cert.GateBIdeal.τ).loc Cert.GateBIdeal.main_v0_3) = v3 c
          ∧ r.2.mem ((c.tc : Thread Cert.GateBIdeal.nD Cert.GateBIdeal.τ).loc Cert.GateBIdeal.main_arg0) = m ((c.tc : Thread Cert.GateBIdeal.nD Cert.GateBIdeal.τ).loc Cert.GateBIdeal.main_arg0)
          ∧ r.2.mem ((c.tc : Thread Cert.GateBIdeal.nD Cert.GateBIdeal.τ).loc Cert.GateBIdeal.main_arg1) = m ((c.tc : Thread Cert.GateBIdeal.nD Cert.GateBIdeal.τ).loc Cert.GateBIdeal.main_arg1)
          ∧ r.2.mem ((c.tc : Thread Cert.GateBIdeal.nD Cert.GateBIdeal.τ).loc Cert.GateBIdeal.main_arg2) = m ((c.tc : Thread Cert.GateBIdeal.nD Cert.GateBIdeal.τ).loc Cert.GateBIdeal.main_arg2)
          ∧ r.2.mem ((c.tc : Thread Cert.GateBIdeal.nD Cert.GateBIdeal.τ).loc Cert.GateBIdeal.main_arg3) = m ((c.tc : Thread Cert.GateBIdeal.nD Cert.GateBIdeal.τ).loc Cert.GateBIdeal.main_arg3)
          ∧ r.2.mem ((c.tc : Thread Cert.GateBIdeal.nD Cert.GateBIdeal.τ).loc Cert.GateBIdeal.main_arg4) = m ((c.tc : Thread Cert.GateBIdeal.nD Cert.GateBIdeal.τ).loc Cert.GateBIdeal.main_arg4))
      ∧ θ_run (Cert.GateBRefIdeal.defs (F := Ideal)) (onTc (τ := Cert.GateBRefIdeal.τ) (Cert.GateBRefIdeal.main (F := Ideal))) ⟨m', fun _ => 0, g'⟩ (fun r => ∀ c : Dev Cert.GateBRefIdeal.nD,
          r.2.mem ((c.tc : Thread Cert.GateBRefIdeal.nD Cert.GateBRefIdeal.τ).loc Cert.GateBRefIdeal.main_v35) = v0 c
          ∧ r.2.mem ((c.tc : Thread Cert.GateBRefIdeal.nD Cert.GateBRefIdeal.τ).loc Cert.GateBRefIdeal.main_v36) = v1 c
          ∧ r.2.mem ((c.tc : Thread Cert.GateBRefIdeal.nD Cert.GateBRefIdeal.τ).loc Cert.GateBRefIdeal.main_v34) = v2 c
          ∧ r.2.mem ((c.tc : Thread Cert.GateBRefIdeal.nD Cert.GateBRefIdeal.τ).loc Cert.GateBRefIdeal.main_v33) = v3 c
          ∧ r.2.mem ((c.tc : Thread Cert.GateBRefIdeal.nD Cert.GateBRefIdeal.τ).loc Cert.GateBRefIdeal.main_arg0) = m' ((c.tc : Thread Cert.GateBRefIdeal.nD Cert.GateBRefIdeal.τ).loc Cert.GateBRefIdeal.main_arg0)
          ∧ r.2.mem ((c.tc : Thread Cert.GateBRefIdeal.nD Cert.GateBRefIdeal.τ).loc Cert.GateBRefIdeal.main_arg1) = m' ((c.tc : Thread Cert.GateBRefIdeal.nD Cert.GateBRefIdeal.τ).loc Cert.GateBRefIdeal.main_arg1)
          ∧ r.2.mem ((c.tc : Thread Cert.GateBRefIdeal.nD Cert.GateBRefIdeal.τ).loc Cert.GateBRefIdeal.main_arg2) = m' ((c.tc : Thread Cert.GateBRefIdeal.nD Cert.GateBRefIdeal.τ).loc Cert.GateBRefIdeal.main_arg2)
          ∧ r.2.mem ((c.tc : Thread Cert.GateBRefIdeal.nD Cert.GateBRefIdeal.τ).loc Cert.GateBRefIdeal.main_arg3) = m' ((c.tc : Thread Cert.GateBRefIdeal.nD Cert.GateBRefIdeal.τ).loc Cert.GateBRefIdeal.main_arg3)
          ∧ r.2.mem ((c.tc : Thread Cert.GateBRefIdeal.nD Cert.GateBRefIdeal.τ).loc Cert.GateBRefIdeal.main_arg4) = m' ((c.tc : Thread Cert.GateBRefIdeal.nD Cert.GateBRefIdeal.τ).loc Cert.GateBRefIdeal.main_arg4))

def preserves_QkvB_QkvBIdeal : Prop :=
  True

def algebraic_QkvBIdeal_QkvBRefIdeal_pre_qkvb_finite [hQkvBIdeal : Cert.QkvBIdeal.Facts] [hQkvBRefIdeal : Cert.QkvBRefIdeal.Facts] [hPre_qkvb_finite : Cert.Pre_qkvb_finite.Facts] : Prop :=
  ∀ (m : (ℓ : Loc Cert.QkvBIdeal.nD Cert.QkvBIdeal.τ Cert.QkvBIdeal.sig) → Buf (Elt Ideal) ℓ) (g : Dev Cert.QkvBIdeal.nD → PrngReg)
    (m' : (ℓ : Loc Cert.QkvBRefIdeal.nD Cert.QkvBRefIdeal.τ Cert.QkvBRefIdeal.sig) → Buf (Elt Ideal) ℓ) (g' : Dev Cert.QkvBRefIdeal.nD → PrngReg), Pre_QkvBIdeal_qkvb_finite m →
    (∀ c : Dev Cert.QkvBIdeal.nD,
      m' ((c.tc : Thread Cert.QkvBRefIdeal.nD Cert.QkvBRefIdeal.τ).loc Cert.QkvBRefIdeal.main_arg0) = m ((c.tc : Thread Cert.QkvBIdeal.nD Cert.QkvBIdeal.τ).loc Cert.QkvBIdeal.main_arg0)
      ∧ m' ((c.tc : Thread Cert.QkvBRefIdeal.nD Cert.QkvBRefIdeal.τ).loc Cert.QkvBRefIdeal.main_arg1) = m ((c.tc : Thread Cert.QkvBIdeal.nD Cert.QkvBIdeal.τ).loc Cert.QkvBIdeal.main_arg1)
      ∧ m' ((c.tc : Thread Cert.QkvBRefIdeal.nD Cert.QkvBRefIdeal.τ).loc Cert.QkvBRefIdeal.main_arg2) = m ((c.tc : Thread Cert.QkvBIdeal.nD Cert.QkvBIdeal.τ).loc Cert.QkvBIdeal.main_arg2)) →
    ∃ (v0 : (c : Dev Cert.QkvBIdeal.nD) → Buf (Elt Ideal) ((c.tc : Thread Cert.QkvBIdeal.nD Cert.QkvBIdeal.τ).loc Cert.QkvBIdeal.main_v0_0)) (v1 : (c : Dev Cert.QkvBIdeal.nD) → Buf (Elt Ideal) ((c.tc : Thread Cert.QkvBIdeal.nD Cert.QkvBIdeal.τ).loc Cert.QkvBIdeal.main_v0_1)),
      θ_run (Cert.QkvBIdeal.defs (F := Ideal)) (onTc (τ := Cert.QkvBIdeal.τ) (Cert.QkvBIdeal.main (F := Ideal))) ⟨m, fun _ => 0, g⟩ (fun r => ∀ c : Dev Cert.QkvBIdeal.nD,
          r.2.mem ((c.tc : Thread Cert.QkvBIdeal.nD Cert.QkvBIdeal.τ).loc Cert.QkvBIdeal.main_v0_0) = v0 c
          ∧ r.2.mem ((c.tc : Thread Cert.QkvBIdeal.nD Cert.QkvBIdeal.τ).loc Cert.QkvBIdeal.main_v0_1) = v1 c
          ∧ r.2.mem ((c.tc : Thread Cert.QkvBIdeal.nD Cert.QkvBIdeal.τ).loc Cert.QkvBIdeal.main_arg0) = m ((c.tc : Thread Cert.QkvBIdeal.nD Cert.QkvBIdeal.τ).loc Cert.QkvBIdeal.main_arg0)
          ∧ r.2.mem ((c.tc : Thread Cert.QkvBIdeal.nD Cert.QkvBIdeal.τ).loc Cert.QkvBIdeal.main_arg1) = m ((c.tc : Thread Cert.QkvBIdeal.nD Cert.QkvBIdeal.τ).loc Cert.QkvBIdeal.main_arg1)
          ∧ r.2.mem ((c.tc : Thread Cert.QkvBIdeal.nD Cert.QkvBIdeal.τ).loc Cert.QkvBIdeal.main_arg2) = m ((c.tc : Thread Cert.QkvBIdeal.nD Cert.QkvBIdeal.τ).loc Cert.QkvBIdeal.main_arg2))
      ∧ θ_run (Cert.QkvBRefIdeal.defs (F := Ideal)) (onTc (τ := Cert.QkvBRefIdeal.τ) (Cert.QkvBRefIdeal.main (F := Ideal))) ⟨m', fun _ => 0, g'⟩ (fun r => ∀ c : Dev Cert.QkvBRefIdeal.nD,
          r.2.mem ((c.tc : Thread Cert.QkvBRefIdeal.nD Cert.QkvBRefIdeal.τ).loc Cert.QkvBRefIdeal.main_v145) = v0 c
          ∧ r.2.mem ((c.tc : Thread Cert.QkvBRefIdeal.nD Cert.QkvBRefIdeal.τ).loc Cert.QkvBRefIdeal.main_v142) = v1 c
          ∧ r.2.mem ((c.tc : Thread Cert.QkvBRefIdeal.nD Cert.QkvBRefIdeal.τ).loc Cert.QkvBRefIdeal.main_arg0) = m' ((c.tc : Thread Cert.QkvBRefIdeal.nD Cert.QkvBRefIdeal.τ).loc Cert.QkvBRefIdeal.main_arg0)
          ∧ r.2.mem ((c.tc : Thread Cert.QkvBRefIdeal.nD Cert.QkvBRefIdeal.τ).loc Cert.QkvBRefIdeal.main_arg1) = m' ((c.tc : Thread Cert.QkvBRefIdeal.nD Cert.QkvBRefIdeal.τ).loc Cert.QkvBRefIdeal.main_arg1)
          ∧ r.2.mem ((c.tc : Thread Cert.QkvBRefIdeal.nD Cert.QkvBRefIdeal.τ).loc Cert.QkvBRefIdeal.main_arg2) = m' ((c.tc : Thread Cert.QkvBRefIdeal.nD Cert.QkvBRefIdeal.τ).loc Cert.QkvBRefIdeal.main_arg2))

def preserves_HgB_HgBIdeal : Prop :=
  True

def algebraic_HgBIdeal_HgBRefIdeal [hHgBIdeal : Cert.HgBIdeal.Facts] [hHgBRefIdeal : Cert.HgBRefIdeal.Facts] : Prop :=
  ∀ (m : (ℓ : Loc Cert.HgBIdeal.nD Cert.HgBIdeal.τ Cert.HgBIdeal.sig) → Buf (Elt Ideal) ℓ) (g : Dev Cert.HgBIdeal.nD → PrngReg)
    (m' : (ℓ : Loc Cert.HgBRefIdeal.nD Cert.HgBRefIdeal.τ Cert.HgBRefIdeal.sig) → Buf (Elt Ideal) ℓ) (g' : Dev Cert.HgBRefIdeal.nD → PrngReg), Pre_HgBIdeal m →
    (∀ c : Dev Cert.HgBIdeal.nD,
      m' ((c.tc : Thread Cert.HgBRefIdeal.nD Cert.HgBRefIdeal.τ).loc Cert.HgBRefIdeal.main_arg0) = m ((c.tc : Thread Cert.HgBIdeal.nD Cert.HgBIdeal.τ).loc Cert.HgBIdeal.main_arg0)
      ∧ m' ((c.tc : Thread Cert.HgBRefIdeal.nD Cert.HgBRefIdeal.τ).loc Cert.HgBRefIdeal.main_arg1) = m ((c.tc : Thread Cert.HgBIdeal.nD Cert.HgBIdeal.τ).loc Cert.HgBIdeal.main_arg1)
      ∧ m' ((c.tc : Thread Cert.HgBRefIdeal.nD Cert.HgBRefIdeal.τ).loc Cert.HgBRefIdeal.main_arg2) = m ((c.tc : Thread Cert.HgBIdeal.nD Cert.HgBIdeal.τ).loc Cert.HgBIdeal.main_arg2)
      ∧ m' ((c.tc : Thread Cert.HgBRefIdeal.nD Cert.HgBRefIdeal.τ).loc Cert.HgBRefIdeal.main_arg3) = m ((c.tc : Thread Cert.HgBIdeal.nD Cert.HgBIdeal.τ).loc Cert.HgBIdeal.main_arg3)
      ∧ m' ((c.tc : Thread Cert.HgBRefIdeal.nD Cert.HgBRefIdeal.τ).loc Cert.HgBRefIdeal.main_arg4) = m ((c.tc : Thread Cert.HgBIdeal.nD Cert.HgBIdeal.τ).loc Cert.HgBIdeal.main_arg4)
      ∧ m' ((c.tc : Thread Cert.HgBRefIdeal.nD Cert.HgBRefIdeal.τ).loc Cert.HgBRefIdeal.main_arg5) = m ((c.tc : Thread Cert.HgBIdeal.nD Cert.HgBIdeal.τ).loc Cert.HgBIdeal.main_arg5)
      ∧ m' ((c.tc : Thread Cert.HgBRefIdeal.nD Cert.HgBRefIdeal.τ).loc Cert.HgBRefIdeal.main_arg6) = m ((c.tc : Thread Cert.HgBIdeal.nD Cert.HgBIdeal.τ).loc Cert.HgBIdeal.main_arg6)
      ∧ m' ((c.tc : Thread Cert.HgBRefIdeal.nD Cert.HgBRefIdeal.τ).loc Cert.HgBRefIdeal.main_arg7) = m ((c.tc : Thread Cert.HgBIdeal.nD Cert.HgBIdeal.τ).loc Cert.HgBIdeal.main_arg7)
      ∧ m' ((c.tc : Thread Cert.HgBRefIdeal.nD Cert.HgBRefIdeal.τ).loc Cert.HgBRefIdeal.main_arg8) = m ((c.tc : Thread Cert.HgBIdeal.nD Cert.HgBIdeal.τ).loc Cert.HgBIdeal.main_arg8)) →
    ∃ (v0 : (c : Dev Cert.HgBIdeal.nD) → Buf (Elt Ideal) ((c.tc : Thread Cert.HgBIdeal.nD Cert.HgBIdeal.τ).loc Cert.HgBIdeal.main_v1_5)),
      θ_run (Cert.HgBIdeal.defs (F := Ideal)) (onTc (τ := Cert.HgBIdeal.τ) (Cert.HgBIdeal.main (F := Ideal))) ⟨m, fun _ => 0, g⟩ (fun r => ∀ c : Dev Cert.HgBIdeal.nD,
          r.2.mem ((c.tc : Thread Cert.HgBIdeal.nD Cert.HgBIdeal.τ).loc Cert.HgBIdeal.main_v1_5) = v0 c
          ∧ r.2.mem ((c.tc : Thread Cert.HgBIdeal.nD Cert.HgBIdeal.τ).loc Cert.HgBIdeal.main_arg0) = m ((c.tc : Thread Cert.HgBIdeal.nD Cert.HgBIdeal.τ).loc Cert.HgBIdeal.main_arg0)
          ∧ r.2.mem ((c.tc : Thread Cert.HgBIdeal.nD Cert.HgBIdeal.τ).loc Cert.HgBIdeal.main_arg1) = m ((c.tc : Thread Cert.HgBIdeal.nD Cert.HgBIdeal.τ).loc Cert.HgBIdeal.main_arg1)
          ∧ r.2.mem ((c.tc : Thread Cert.HgBIdeal.nD Cert.HgBIdeal.τ).loc Cert.HgBIdeal.main_arg2) = m ((c.tc : Thread Cert.HgBIdeal.nD Cert.HgBIdeal.τ).loc Cert.HgBIdeal.main_arg2)
          ∧ r.2.mem ((c.tc : Thread Cert.HgBIdeal.nD Cert.HgBIdeal.τ).loc Cert.HgBIdeal.main_arg3) = m ((c.tc : Thread Cert.HgBIdeal.nD Cert.HgBIdeal.τ).loc Cert.HgBIdeal.main_arg3)
          ∧ r.2.mem ((c.tc : Thread Cert.HgBIdeal.nD Cert.HgBIdeal.τ).loc Cert.HgBIdeal.main_arg4) = m ((c.tc : Thread Cert.HgBIdeal.nD Cert.HgBIdeal.τ).loc Cert.HgBIdeal.main_arg4)
          ∧ r.2.mem ((c.tc : Thread Cert.HgBIdeal.nD Cert.HgBIdeal.τ).loc Cert.HgBIdeal.main_arg5) = m ((c.tc : Thread Cert.HgBIdeal.nD Cert.HgBIdeal.τ).loc Cert.HgBIdeal.main_arg5)
          ∧ r.2.mem ((c.tc : Thread Cert.HgBIdeal.nD Cert.HgBIdeal.τ).loc Cert.HgBIdeal.main_arg6) = m ((c.tc : Thread Cert.HgBIdeal.nD Cert.HgBIdeal.τ).loc Cert.HgBIdeal.main_arg6)
          ∧ r.2.mem ((c.tc : Thread Cert.HgBIdeal.nD Cert.HgBIdeal.τ).loc Cert.HgBIdeal.main_arg7) = m ((c.tc : Thread Cert.HgBIdeal.nD Cert.HgBIdeal.τ).loc Cert.HgBIdeal.main_arg7)
          ∧ r.2.mem ((c.tc : Thread Cert.HgBIdeal.nD Cert.HgBIdeal.τ).loc Cert.HgBIdeal.main_arg8) = m ((c.tc : Thread Cert.HgBIdeal.nD Cert.HgBIdeal.τ).loc Cert.HgBIdeal.main_arg8))
      ∧ θ_run (Cert.HgBRefIdeal.defs (F := Ideal)) (onTc (τ := Cert.HgBRefIdeal.τ) (Cert.HgBRefIdeal.main (F := Ideal))) ⟨m', fun _ => 0, g'⟩ (fun r => ∀ c : Dev Cert.HgBRefIdeal.nD,
          r.2.mem ((c.tc : Thread Cert.HgBRefIdeal.nD Cert.HgBRefIdeal.τ).loc Cert.HgBRefIdeal.main_v26) = v0 c
          ∧ r.2.mem ((c.tc : Thread Cert.HgBRefIdeal.nD Cert.HgBRefIdeal.τ).loc Cert.HgBRefIdeal.main_arg0) = m' ((c.tc : Thread Cert.HgBRefIdeal.nD Cert.HgBRefIdeal.τ).loc Cert.HgBRefIdeal.main_arg0)
          ∧ r.2.mem ((c.tc : Thread Cert.HgBRefIdeal.nD Cert.HgBRefIdeal.τ).loc Cert.HgBRefIdeal.main_arg1) = m' ((c.tc : Thread Cert.HgBRefIdeal.nD Cert.HgBRefIdeal.τ).loc Cert.HgBRefIdeal.main_arg1)
          ∧ r.2.mem ((c.tc : Thread Cert.HgBRefIdeal.nD Cert.HgBRefIdeal.τ).loc Cert.HgBRefIdeal.main_arg2) = m' ((c.tc : Thread Cert.HgBRefIdeal.nD Cert.HgBRefIdeal.τ).loc Cert.HgBRefIdeal.main_arg2)
          ∧ r.2.mem ((c.tc : Thread Cert.HgBRefIdeal.nD Cert.HgBRefIdeal.τ).loc Cert.HgBRefIdeal.main_arg3) = m' ((c.tc : Thread Cert.HgBRefIdeal.nD Cert.HgBRefIdeal.τ).loc Cert.HgBRefIdeal.main_arg3)
          ∧ r.2.mem ((c.tc : Thread Cert.HgBRefIdeal.nD Cert.HgBRefIdeal.τ).loc Cert.HgBRefIdeal.main_arg4) = m' ((c.tc : Thread Cert.HgBRefIdeal.nD Cert.HgBRefIdeal.τ).loc Cert.HgBRefIdeal.main_arg4)
          ∧ r.2.mem ((c.tc : Thread Cert.HgBRefIdeal.nD Cert.HgBRefIdeal.τ).loc Cert.HgBRefIdeal.main_arg5) = m' ((c.tc : Thread Cert.HgBRefIdeal.nD Cert.HgBRefIdeal.τ).loc Cert.HgBRefIdeal.main_arg5)
          ∧ r.2.mem ((c.tc : Thread Cert.HgBRefIdeal.nD Cert.HgBRefIdeal.τ).loc Cert.HgBRefIdeal.main_arg6) = m' ((c.tc : Thread Cert.HgBRefIdeal.nD Cert.HgBRefIdeal.τ).loc Cert.HgBRefIdeal.main_arg6)
          ∧ r.2.mem ((c.tc : Thread Cert.HgBRefIdeal.nD Cert.HgBRefIdeal.τ).loc Cert.HgBRefIdeal.main_arg7) = m' ((c.tc : Thread Cert.HgBRefIdeal.nD Cert.HgBRefIdeal.τ).loc Cert.HgBRefIdeal.main_arg7)
          ∧ r.2.mem ((c.tc : Thread Cert.HgBRefIdeal.nD Cert.HgBRefIdeal.τ).loc Cert.HgBRefIdeal.main_arg8) = m' ((c.tc : Thread Cert.HgBRefIdeal.nD Cert.HgBRefIdeal.τ).loc Cert.HgBRefIdeal.main_arg8))

def preserves_DnB_DnBIdeal : Prop :=
  True

def algebraic_DnBIdeal_DnBRefIdeal [hDnBIdeal : Cert.DnBIdeal.Facts] [hDnBRefIdeal : Cert.DnBRefIdeal.Facts] : Prop :=
  ∀ (m : (ℓ : Loc Cert.DnBIdeal.nD Cert.DnBIdeal.τ Cert.DnBIdeal.sig) → Buf (Elt Ideal) ℓ) (g : Dev Cert.DnBIdeal.nD → PrngReg)
    (m' : (ℓ : Loc Cert.DnBRefIdeal.nD Cert.DnBRefIdeal.τ Cert.DnBRefIdeal.sig) → Buf (Elt Ideal) ℓ) (g' : Dev Cert.DnBRefIdeal.nD → PrngReg), Pre_DnBIdeal m →
    (∀ c : Dev Cert.DnBIdeal.nD,
      m' ((c.tc : Thread Cert.DnBRefIdeal.nD Cert.DnBRefIdeal.τ).loc Cert.DnBRefIdeal.main_arg0) = m ((c.tc : Thread Cert.DnBIdeal.nD Cert.DnBIdeal.τ).loc Cert.DnBIdeal.main_arg0)
      ∧ m' ((c.tc : Thread Cert.DnBRefIdeal.nD Cert.DnBRefIdeal.τ).loc Cert.DnBRefIdeal.main_arg1) = m ((c.tc : Thread Cert.DnBIdeal.nD Cert.DnBIdeal.τ).loc Cert.DnBIdeal.main_arg1)
      ∧ m' ((c.tc : Thread Cert.DnBRefIdeal.nD Cert.DnBRefIdeal.τ).loc Cert.DnBRefIdeal.main_arg2) = m ((c.tc : Thread Cert.DnBIdeal.nD Cert.DnBIdeal.τ).loc Cert.DnBIdeal.main_arg2)
      ∧ m' ((c.tc : Thread Cert.DnBRefIdeal.nD Cert.DnBRefIdeal.τ).loc Cert.DnBRefIdeal.main_arg3) = m ((c.tc : Thread Cert.DnBIdeal.nD Cert.DnBIdeal.τ).loc Cert.DnBIdeal.main_arg3)
      ∧ m' ((c.tc : Thread Cert.DnBRefIdeal.nD Cert.DnBRefIdeal.τ).loc Cert.DnBRefIdeal.main_arg4) = m ((c.tc : Thread Cert.DnBIdeal.nD Cert.DnBIdeal.τ).loc Cert.DnBIdeal.main_arg4)
      ∧ m' ((c.tc : Thread Cert.DnBRefIdeal.nD Cert.DnBRefIdeal.τ).loc Cert.DnBRefIdeal.main_arg5) = m ((c.tc : Thread Cert.DnBIdeal.nD Cert.DnBIdeal.τ).loc Cert.DnBIdeal.main_arg5)
      ∧ m' ((c.tc : Thread Cert.DnBRefIdeal.nD Cert.DnBRefIdeal.τ).loc Cert.DnBRefIdeal.main_arg6) = m ((c.tc : Thread Cert.DnBIdeal.nD Cert.DnBIdeal.τ).loc Cert.DnBIdeal.main_arg6)
      ∧ m' ((c.tc : Thread Cert.DnBRefIdeal.nD Cert.DnBRefIdeal.τ).loc Cert.DnBRefIdeal.main_arg7) = m ((c.tc : Thread Cert.DnBIdeal.nD Cert.DnBIdeal.τ).loc Cert.DnBIdeal.main_arg7)
      ∧ m' ((c.tc : Thread Cert.DnBRefIdeal.nD Cert.DnBRefIdeal.τ).loc Cert.DnBRefIdeal.main_arg8) = m ((c.tc : Thread Cert.DnBIdeal.nD Cert.DnBIdeal.τ).loc Cert.DnBIdeal.main_arg8)) →
    ∃ (v0 : (c : Dev Cert.DnBIdeal.nD) → Buf (Elt Ideal) ((c.tc : Thread Cert.DnBIdeal.nD Cert.DnBIdeal.τ).loc Cert.DnBIdeal.main_v1_4)),
      θ_run (Cert.DnBIdeal.defs (F := Ideal)) (onTc (τ := Cert.DnBIdeal.τ) (Cert.DnBIdeal.main (F := Ideal))) ⟨m, fun _ => 0, g⟩ (fun r => ∀ c : Dev Cert.DnBIdeal.nD,
          r.2.mem ((c.tc : Thread Cert.DnBIdeal.nD Cert.DnBIdeal.τ).loc Cert.DnBIdeal.main_v1_4) = v0 c
          ∧ r.2.mem ((c.tc : Thread Cert.DnBIdeal.nD Cert.DnBIdeal.τ).loc Cert.DnBIdeal.main_arg0) = m ((c.tc : Thread Cert.DnBIdeal.nD Cert.DnBIdeal.τ).loc Cert.DnBIdeal.main_arg0)
          ∧ r.2.mem ((c.tc : Thread Cert.DnBIdeal.nD Cert.DnBIdeal.τ).loc Cert.DnBIdeal.main_arg1) = m ((c.tc : Thread Cert.DnBIdeal.nD Cert.DnBIdeal.τ).loc Cert.DnBIdeal.main_arg1)
          ∧ r.2.mem ((c.tc : Thread Cert.DnBIdeal.nD Cert.DnBIdeal.τ).loc Cert.DnBIdeal.main_arg2) = m ((c.tc : Thread Cert.DnBIdeal.nD Cert.DnBIdeal.τ).loc Cert.DnBIdeal.main_arg2)
          ∧ r.2.mem ((c.tc : Thread Cert.DnBIdeal.nD Cert.DnBIdeal.τ).loc Cert.DnBIdeal.main_arg3) = m ((c.tc : Thread Cert.DnBIdeal.nD Cert.DnBIdeal.τ).loc Cert.DnBIdeal.main_arg3)
          ∧ r.2.mem ((c.tc : Thread Cert.DnBIdeal.nD Cert.DnBIdeal.τ).loc Cert.DnBIdeal.main_arg4) = m ((c.tc : Thread Cert.DnBIdeal.nD Cert.DnBIdeal.τ).loc Cert.DnBIdeal.main_arg4)
          ∧ r.2.mem ((c.tc : Thread Cert.DnBIdeal.nD Cert.DnBIdeal.τ).loc Cert.DnBIdeal.main_arg5) = m ((c.tc : Thread Cert.DnBIdeal.nD Cert.DnBIdeal.τ).loc Cert.DnBIdeal.main_arg5)
          ∧ r.2.mem ((c.tc : Thread Cert.DnBIdeal.nD Cert.DnBIdeal.τ).loc Cert.DnBIdeal.main_arg6) = m ((c.tc : Thread Cert.DnBIdeal.nD Cert.DnBIdeal.τ).loc Cert.DnBIdeal.main_arg6)
          ∧ r.2.mem ((c.tc : Thread Cert.DnBIdeal.nD Cert.DnBIdeal.τ).loc Cert.DnBIdeal.main_arg7) = m ((c.tc : Thread Cert.DnBIdeal.nD Cert.DnBIdeal.τ).loc Cert.DnBIdeal.main_arg7)
          ∧ r.2.mem ((c.tc : Thread Cert.DnBIdeal.nD Cert.DnBIdeal.τ).loc Cert.DnBIdeal.main_arg8) = m ((c.tc : Thread Cert.DnBIdeal.nD Cert.DnBIdeal.τ).loc Cert.DnBIdeal.main_arg8))
      ∧ θ_run (Cert.DnBRefIdeal.defs (F := Ideal)) (onTc (τ := Cert.DnBRefIdeal.τ) (Cert.DnBRefIdeal.main (F := Ideal))) ⟨m', fun _ => 0, g'⟩ (fun r => ∀ c : Dev Cert.DnBRefIdeal.nD,
          r.2.mem ((c.tc : Thread Cert.DnBRefIdeal.nD Cert.DnBRefIdeal.τ).loc Cert.DnBRefIdeal.main_v26) = v0 c
          ∧ r.2.mem ((c.tc : Thread Cert.DnBRefIdeal.nD Cert.DnBRefIdeal.τ).loc Cert.DnBRefIdeal.main_arg0) = m' ((c.tc : Thread Cert.DnBRefIdeal.nD Cert.DnBRefIdeal.τ).loc Cert.DnBRefIdeal.main_arg0)
          ∧ r.2.mem ((c.tc : Thread Cert.DnBRefIdeal.nD Cert.DnBRefIdeal.τ).loc Cert.DnBRefIdeal.main_arg1) = m' ((c.tc : Thread Cert.DnBRefIdeal.nD Cert.DnBRefIdeal.τ).loc Cert.DnBRefIdeal.main_arg1)
          ∧ r.2.mem ((c.tc : Thread Cert.DnBRefIdeal.nD Cert.DnBRefIdeal.τ).loc Cert.DnBRefIdeal.main_arg2) = m' ((c.tc : Thread Cert.DnBRefIdeal.nD Cert.DnBRefIdeal.τ).loc Cert.DnBRefIdeal.main_arg2)
          ∧ r.2.mem ((c.tc : Thread Cert.DnBRefIdeal.nD Cert.DnBRefIdeal.τ).loc Cert.DnBRefIdeal.main_arg3) = m' ((c.tc : Thread Cert.DnBRefIdeal.nD Cert.DnBRefIdeal.τ).loc Cert.DnBRefIdeal.main_arg3)
          ∧ r.2.mem ((c.tc : Thread Cert.DnBRefIdeal.nD Cert.DnBRefIdeal.τ).loc Cert.DnBRefIdeal.main_arg4) = m' ((c.tc : Thread Cert.DnBRefIdeal.nD Cert.DnBRefIdeal.τ).loc Cert.DnBRefIdeal.main_arg4)
          ∧ r.2.mem ((c.tc : Thread Cert.DnBRefIdeal.nD Cert.DnBRefIdeal.τ).loc Cert.DnBRefIdeal.main_arg5) = m' ((c.tc : Thread Cert.DnBRefIdeal.nD Cert.DnBRefIdeal.τ).loc Cert.DnBRefIdeal.main_arg5)
          ∧ r.2.mem ((c.tc : Thread Cert.DnBRefIdeal.nD Cert.DnBRefIdeal.τ).loc Cert.DnBRefIdeal.main_arg6) = m' ((c.tc : Thread Cert.DnBRefIdeal.nD Cert.DnBRefIdeal.τ).loc Cert.DnBRefIdeal.main_arg6)
          ∧ r.2.mem ((c.tc : Thread Cert.DnBRefIdeal.nD Cert.DnBRefIdeal.τ).loc Cert.DnBRefIdeal.main_arg7) = m' ((c.tc : Thread Cert.DnBRefIdeal.nD Cert.DnBRefIdeal.τ).loc Cert.DnBRefIdeal.main_arg7)
          ∧ r.2.mem ((c.tc : Thread Cert.DnBRefIdeal.nD Cert.DnBRefIdeal.τ).loc Cert.DnBRefIdeal.main_arg8) = m' ((c.tc : Thread Cert.DnBRefIdeal.nD Cert.DnBRefIdeal.τ).loc Cert.DnBRefIdeal.main_arg8))

def preserves_GateF_GateFIdeal : Prop :=
  True

def algebraic_GateFIdeal_GateFRefIdeal [hGateFIdeal : Cert.GateFIdeal.Facts] [hGateFRefIdeal : Cert.GateFRefIdeal.Facts] : Prop :=
  ∀ (m : (ℓ : Loc Cert.GateFIdeal.nD Cert.GateFIdeal.τ Cert.GateFIdeal.sig) → Buf (Elt Ideal) ℓ) (g : Dev Cert.GateFIdeal.nD → PrngReg)
    (m' : (ℓ : Loc Cert.GateFRefIdeal.nD Cert.GateFRefIdeal.τ Cert.GateFRefIdeal.sig) → Buf (Elt Ideal) ℓ) (g' : Dev Cert.GateFRefIdeal.nD → PrngReg), Pre_GateFIdeal m →
    (∀ c : Dev Cert.GateFIdeal.nD,
      m' ((c.tc : Thread Cert.GateFRefIdeal.nD Cert.GateFRefIdeal.τ).loc Cert.GateFRefIdeal.main_arg0) = m ((c.tc : Thread Cert.GateFIdeal.nD Cert.GateFIdeal.τ).loc Cert.GateFIdeal.main_arg0)
      ∧ m' ((c.tc : Thread Cert.GateFRefIdeal.nD Cert.GateFRefIdeal.τ).loc Cert.GateFRefIdeal.main_arg1) = m ((c.tc : Thread Cert.GateFIdeal.nD Cert.GateFIdeal.τ).loc Cert.GateFIdeal.main_arg1)
      ∧ m' ((c.tc : Thread Cert.GateFRefIdeal.nD Cert.GateFRefIdeal.τ).loc Cert.GateFRefIdeal.main_arg2) = m ((c.tc : Thread Cert.GateFIdeal.nD Cert.GateFIdeal.τ).loc Cert.GateFIdeal.main_arg2)) →
    ∃ (v0 : (c : Dev Cert.GateFIdeal.nD) → Buf (Elt Ideal) ((c.tc : Thread Cert.GateFIdeal.nD Cert.GateFIdeal.τ).loc Cert.GateFIdeal.main_v0_0)) (v1 : (c : Dev Cert.GateFIdeal.nD) → Buf (Elt Ideal) ((c.tc : Thread Cert.GateFIdeal.nD Cert.GateFIdeal.τ).loc Cert.GateFIdeal.main_v0_1)),
      θ_run (Cert.GateFIdeal.defs (F := Ideal)) (onTc (τ := Cert.GateFIdeal.τ) (Cert.GateFIdeal.main (F := Ideal))) ⟨m, fun _ => 0, g⟩ (fun r => ∀ c : Dev Cert.GateFIdeal.nD,
          r.2.mem ((c.tc : Thread Cert.GateFIdeal.nD Cert.GateFIdeal.τ).loc Cert.GateFIdeal.main_v0_0) = v0 c
          ∧ r.2.mem ((c.tc : Thread Cert.GateFIdeal.nD Cert.GateFIdeal.τ).loc Cert.GateFIdeal.main_v0_1) = v1 c
          ∧ r.2.mem ((c.tc : Thread Cert.GateFIdeal.nD Cert.GateFIdeal.τ).loc Cert.GateFIdeal.main_arg0) = m ((c.tc : Thread Cert.GateFIdeal.nD Cert.GateFIdeal.τ).loc Cert.GateFIdeal.main_arg0)
          ∧ r.2.mem ((c.tc : Thread Cert.GateFIdeal.nD Cert.GateFIdeal.τ).loc Cert.GateFIdeal.main_arg1) = m ((c.tc : Thread Cert.GateFIdeal.nD Cert.GateFIdeal.τ).loc Cert.GateFIdeal.main_arg1)
          ∧ r.2.mem ((c.tc : Thread Cert.GateFIdeal.nD Cert.GateFIdeal.τ).loc Cert.GateFIdeal.main_arg2) = m ((c.tc : Thread Cert.GateFIdeal.nD Cert.GateFIdeal.τ).loc Cert.GateFIdeal.main_arg2))
      ∧ θ_run (Cert.GateFRefIdeal.defs (F := Ideal)) (onTc (τ := Cert.GateFRefIdeal.τ) (Cert.GateFRefIdeal.main (F := Ideal))) ⟨m', fun _ => 0, g'⟩ (fun r => ∀ c : Dev Cert.GateFRefIdeal.nD,
          r.2.mem ((c.tc : Thread Cert.GateFRefIdeal.nD Cert.GateFRefIdeal.τ).loc Cert.GateFRefIdeal.main_v14) = v0 c
          ∧ r.2.mem ((c.tc : Thread Cert.GateFRefIdeal.nD Cert.GateFRefIdeal.τ).loc Cert.GateFRefIdeal.main_v17) = v1 c
          ∧ r.2.mem ((c.tc : Thread Cert.GateFRefIdeal.nD Cert.GateFRefIdeal.τ).loc Cert.GateFRefIdeal.main_arg0) = m' ((c.tc : Thread Cert.GateFRefIdeal.nD Cert.GateFRefIdeal.τ).loc Cert.GateFRefIdeal.main_arg0)
          ∧ r.2.mem ((c.tc : Thread Cert.GateFRefIdeal.nD Cert.GateFRefIdeal.τ).loc Cert.GateFRefIdeal.main_arg1) = m' ((c.tc : Thread Cert.GateFRefIdeal.nD Cert.GateFRefIdeal.τ).loc Cert.GateFRefIdeal.main_arg1)
          ∧ r.2.mem ((c.tc : Thread Cert.GateFRefIdeal.nD Cert.GateFRefIdeal.τ).loc Cert.GateFRefIdeal.main_arg2) = m' ((c.tc : Thread Cert.GateFRefIdeal.nD Cert.GateFRefIdeal.τ).loc Cert.GateFRefIdeal.main_arg2))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)) →
    ∃ (v0 : (c : Dev Cert.QkvIdeal.nD) → Buf (Elt Ideal) ((c.tc : Thread Cert.QkvIdeal.nD Cert.QkvIdeal.τ).loc Cert.QkvIdeal.main_v0)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v0) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v58) = v0 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1))

def preserves_HgF_HgFIdeal : Prop :=
  True

def algebraic_HgFIdeal_HgFRefIdeal [hHgFIdeal : Cert.HgFIdeal.Facts] [hHgFRefIdeal : Cert.HgFRefIdeal.Facts] : Prop :=
  ∀ (m : (ℓ : Loc Cert.HgFIdeal.nD Cert.HgFIdeal.τ Cert.HgFIdeal.sig) → Buf (Elt Ideal) ℓ) (g : Dev Cert.HgFIdeal.nD → PrngReg)
    (m' : (ℓ : Loc Cert.HgFRefIdeal.nD Cert.HgFRefIdeal.τ Cert.HgFRefIdeal.sig) → Buf (Elt Ideal) ℓ) (g' : Dev Cert.HgFRefIdeal.nD → PrngReg), Pre_HgFIdeal m →
    (∀ c : Dev Cert.HgFIdeal.nD,
      m' ((c.tc : Thread Cert.HgFRefIdeal.nD Cert.HgFRefIdeal.τ).loc Cert.HgFRefIdeal.main_arg0) = m ((c.tc : Thread Cert.HgFIdeal.nD Cert.HgFIdeal.τ).loc Cert.HgFIdeal.main_arg0)
      ∧ m' ((c.tc : Thread Cert.HgFRefIdeal.nD Cert.HgFRefIdeal.τ).loc Cert.HgFRefIdeal.main_arg1) = m ((c.tc : Thread Cert.HgFIdeal.nD Cert.HgFIdeal.τ).loc Cert.HgFIdeal.main_arg1)
      ∧ m' ((c.tc : Thread Cert.HgFRefIdeal.nD Cert.HgFRefIdeal.τ).loc Cert.HgFRefIdeal.main_arg2) = m ((c.tc : Thread Cert.HgFIdeal.nD Cert.HgFIdeal.τ).loc Cert.HgFIdeal.main_arg2)) →
    ∃ (v0 : (c : Dev Cert.HgFIdeal.nD) → Buf (Elt Ideal) ((c.tc : Thread Cert.HgFIdeal.nD Cert.HgFIdeal.τ).loc Cert.HgFIdeal.main_v1_2)) (v1 : (c : Dev Cert.HgFIdeal.nD) → Buf (Elt Ideal) ((c.tc : Thread Cert.HgFIdeal.nD Cert.HgFIdeal.τ).loc Cert.HgFIdeal.main_v1_3)) (v2 : (c : Dev Cert.HgFIdeal.nD) → Buf (Elt Ideal) ((c.tc : Thread Cert.HgFIdeal.nD Cert.HgFIdeal.τ).loc Cert.HgFIdeal.main_v1_4)),
      θ_run (Cert.HgFIdeal.defs (F := Ideal)) (onTc (τ := Cert.HgFIdeal.τ) (Cert.HgFIdeal.main (F := Ideal))) ⟨m, fun _ => 0, g⟩ (fun r => ∀ c : Dev Cert.HgFIdeal.nD,
          r.2.mem ((c.tc : Thread Cert.HgFIdeal.nD Cert.HgFIdeal.τ).loc Cert.HgFIdeal.main_v1_2) = v0 c
          ∧ r.2.mem ((c.tc : Thread Cert.HgFIdeal.nD Cert.HgFIdeal.τ).loc Cert.HgFIdeal.main_v1_3) = v1 c
          ∧ r.2.mem ((c.tc : Thread Cert.HgFIdeal.nD Cert.HgFIdeal.τ).loc Cert.HgFIdeal.main_v1_4) = v2 c
          ∧ r.2.mem ((c.tc : Thread Cert.HgFIdeal.nD Cert.HgFIdeal.τ).loc Cert.HgFIdeal.main_arg0) = m ((c.tc : Thread Cert.HgFIdeal.nD Cert.HgFIdeal.τ).loc Cert.HgFIdeal.main_arg0)
          ∧ r.2.mem ((c.tc : Thread Cert.HgFIdeal.nD Cert.HgFIdeal.τ).loc Cert.HgFIdeal.main_arg1) = m ((c.tc : Thread Cert.HgFIdeal.nD Cert.HgFIdeal.τ).loc Cert.HgFIdeal.main_arg1)
          ∧ r.2.mem ((c.tc : Thread Cert.HgFIdeal.nD Cert.HgFIdeal.τ).loc Cert.HgFIdeal.main_arg2) = m ((c.tc : Thread Cert.HgFIdeal.nD Cert.HgFIdeal.τ).loc Cert.HgFIdeal.main_arg2))
      ∧ θ_run (Cert.HgFRefIdeal.defs (F := Ideal)) (onTc (τ := Cert.HgFRefIdeal.τ) (Cert.HgFRefIdeal.main (F := Ideal))) ⟨m', fun _ => 0, g'⟩ (fun r => ∀ c : Dev Cert.HgFRefIdeal.nD,
          r.2.mem ((c.tc : Thread Cert.HgFRefIdeal.nD Cert.HgFRefIdeal.τ).loc Cert.HgFRefIdeal.main_v2) = v0 c
          ∧ r.2.mem ((c.tc : Thread Cert.HgFRefIdeal.nD Cert.HgFRefIdeal.τ).loc Cert.HgFRefIdeal.main_v13) = v1 c
          ∧ r.2.mem ((c.tc : Thread Cert.HgFRefIdeal.nD Cert.HgFRefIdeal.τ).loc Cert.HgFRefIdeal.main_v26) = v2 c
          ∧ r.2.mem ((c.tc : Thread Cert.HgFRefIdeal.nD Cert.HgFRefIdeal.τ).loc Cert.HgFRefIdeal.main_arg0) = m' ((c.tc : Thread Cert.HgFRefIdeal.nD Cert.HgFRefIdeal.τ).loc Cert.HgFRefIdeal.main_arg0)
          ∧ r.2.mem ((c.tc : Thread Cert.HgFRefIdeal.nD Cert.HgFRefIdeal.τ).loc Cert.HgFRefIdeal.main_arg1) = m' ((c.tc : Thread Cert.HgFRefIdeal.nD Cert.HgFRefIdeal.τ).loc Cert.HgFRefIdeal.main_arg1)
          ∧ r.2.mem ((c.tc : Thread Cert.HgFRefIdeal.nD Cert.HgFRefIdeal.τ).loc Cert.HgFRefIdeal.main_arg2) = m' ((c.tc : Thread Cert.HgFRefIdeal.nD Cert.HgFRefIdeal.τ).loc Cert.HgFRefIdeal.main_arg2))

def Claim : Prop :=
  ∃ (hDhn : Cert.Dhn.Facts) (hDhnIdeal : Cert.DhnIdeal.Facts) (hDhnRefIdeal : Cert.DhnRefIdeal.Facts) (hDwin : Cert.Dwin.Facts) (hDwinIdeal : Cert.DwinIdeal.Facts) (hDwinRefIdeal : Cert.DwinRefIdeal.Facts) (hDwinQ : Cert.DwinQ.Facts) (hDwinQIdeal : Cert.DwinQIdeal.Facts) (hDwinQRefIdeal : Cert.DwinQRefIdeal.Facts) (hDwo : Cert.Dwo.Facts) (hDwoIdeal : Cert.DwoIdeal.Facts) (hDwoRefIdeal : Cert.DwoRefIdeal.Facts) (hDwg : Cert.Dwg.Facts) (hDwgIdeal : Cert.DwgIdeal.Facts) (hDwgRefIdeal : Cert.DwgRefIdeal.Facts) (hDwu : Cert.Dwu.Facts) (hDwuIdeal : Cert.DwuIdeal.Facts) (hDwuRefIdeal : Cert.DwuRefIdeal.Facts) (hDh1 : Cert.Dh1.Facts) (hDh1Ideal : Cert.Dh1Ideal.Facts) (hDh1RefIdeal : Cert.Dh1RefIdeal.Facts) (hDy : Cert.Dy.Facts) (hDyIdeal : Cert.DyIdeal.Facts) (hDyRefIdeal : Cert.DyRefIdeal.Facts) (hPle : Cert.Ple.Facts) (hPleIdeal : Cert.PleIdeal.Facts) (hPleRefIdeal : Cert.PleRefIdeal.Facts) (hFin : Cert.Fin.Facts) (hFinIdeal : Cert.FinIdeal.Facts) (hFinRefIdeal : Cert.FinRefIdeal.Facts) (hProj : Cert.Proj.Facts) (hProjIdeal : Cert.ProjIdeal.Facts) (hProjRefIdeal : Cert.ProjRefIdeal.Facts) (hOut : Cert.Out.Facts) (hOutIdeal : Cert.OutIdeal.Facts) (hOutRefIdeal : Cert.OutRefIdeal.Facts) (hGate : Cert.Gate.Facts) (hGateIdeal : Cert.GateIdeal.Facts) (hGateRefIdeal : Cert.GateRefIdeal.Facts) (hUp : Cert.Up.Facts) (hUpIdeal : Cert.UpIdeal.Facts) (hUpRefIdeal : Cert.UpRefIdeal.Facts) (hRms : Cert.Rms.Facts) (hRmsIdeal : Cert.RmsIdeal.Facts) (hRmsRefIdeal : Cert.RmsRefIdeal.Facts) (hAdWin : Cert.AdWin.Facts) (hAdWinIdeal : Cert.AdWinIdeal.Facts) (hAdWinRefIdeal : Cert.AdWinRefIdeal.Facts) (hAdWo : Cert.AdWo.Facts) (hAdWoIdeal : Cert.AdWoIdeal.Facts) (hAdWoRefIdeal : Cert.AdWoRefIdeal.Facts) (hAdWg : Cert.AdWg.Facts) (hAdWgIdeal : Cert.AdWgIdeal.Facts) (hAdWgRefIdeal : Cert.AdWgRefIdeal.Facts) (hAdWu : Cert.AdWu.Facts) (hAdWuIdeal : Cert.AdWuIdeal.Facts) (hAdWuRefIdeal : Cert.AdWuRefIdeal.Facts) (hAdSmall : Cert.AdSmall.Facts) (hAdSmallIdeal : Cert.AdSmallIdeal.Facts) (hAdSmallRefIdeal : Cert.AdSmallRefIdeal.Facts) (hAdNw : Cert.AdNw.Facts) (hAdNwIdeal : Cert.AdNwIdeal.Facts) (hAdNwRefIdeal : Cert.AdNwRefIdeal.Facts) (hSumSmall : Cert.SumSmall.Facts) (hSumSmallIdeal : Cert.SumSmallIdeal.Facts) (hSumSmallRefIdeal : Cert.SumSmallRefIdeal.Facts) (hSumNw : Cert.SumNw.Facts) (hSumNwIdeal : Cert.SumNwIdeal.Facts) (hSumNwRefIdeal : Cert.SumNwRefIdeal.Facts) (hGateB : Cert.GateB.Facts) (hGateBIdeal : Cert.GateBIdeal.Facts) (hGateBRefIdeal : Cert.GateBRefIdeal.Facts) (hQkvB : Cert.QkvB.Facts) (hQkvBIdeal : Cert.QkvBIdeal.Facts) (hQkvBRefIdeal : Cert.QkvBRefIdeal.Facts) (hHgB : Cert.HgB.Facts) (hHgBIdeal : Cert.HgBIdeal.Facts) (hHgBRefIdeal : Cert.HgBRefIdeal.Facts) (hDnB : Cert.DnB.Facts) (hDnBIdeal : Cert.DnBIdeal.Facts) (hDnBRefIdeal : Cert.DnBRefIdeal.Facts) (hGateF : Cert.GateF.Facts) (hGateFIdeal : Cert.GateFIdeal.Facts) (hGateFRefIdeal : Cert.GateFRefIdeal.Facts) (hQkv : Cert.Qkv.Facts) (hQkvIdeal : Cert.QkvIdeal.Facts) (hQkvRefIdeal : Cert.QkvRefIdeal.Facts) (hHgF : Cert.HgF.Facts) (hHgFIdeal : Cert.HgFIdeal.Facts) (hHgFRefIdeal : Cert.HgFRefIdeal.Facts) (hPre_gateb_finite : Cert.Pre_gateb_finite.Facts) (hPre_qkvb_finite : Cert.Pre_qkvb_finite.Facts),
    quiescent_Dhn (hDhn := hDhn)
    ∧ quiescent_DhnIdeal (hDhnIdeal := hDhnIdeal)
    ∧ quiescent_DhnRefIdeal (hDhnRefIdeal := hDhnRefIdeal)
    ∧ quiescent_Dwin (hDwin := hDwin)
    ∧ quiescent_DwinIdeal (hDwinIdeal := hDwinIdeal)
    ∧ quiescent_DwinRefIdeal (hDwinRefIdeal := hDwinRefIdeal)
    ∧ quiescent_DwinQ (hDwinQ := hDwinQ)
    ∧ quiescent_DwinQIdeal (hDwinQIdeal := hDwinQIdeal)
    ∧ quiescent_DwinQRefIdeal (hDwinQRefIdeal := hDwinQRefIdeal)
    ∧ quiescent_Dwo (hDwo := hDwo)
    ∧ quiescent_DwoIdeal (hDwoIdeal := hDwoIdeal)
    ∧ quiescent_DwoRefIdeal (hDwoRefIdeal := hDwoRefIdeal)
    ∧ quiescent_Dwg (hDwg := hDwg)
    ∧ quiescent_DwgIdeal (hDwgIdeal := hDwgIdeal)
    ∧ quiescent_DwgRefIdeal (hDwgRefIdeal := hDwgRefIdeal)
    ∧ quiescent_Dwu (hDwu := hDwu)
    ∧ quiescent_DwuIdeal (hDwuIdeal := hDwuIdeal)
    ∧ quiescent_DwuRefIdeal (hDwuRefIdeal := hDwuRefIdeal)
    ∧ quiescent_Dh1 (hDh1 := hDh1)
    ∧ quiescent_Dh1Ideal (hDh1Ideal := hDh1Ideal)
    ∧ quiescent_Dh1RefIdeal (hDh1RefIdeal := hDh1RefIdeal)
    ∧ quiescent_Dy (hDy := hDy)
    ∧ quiescent_DyIdeal (hDyIdeal := hDyIdeal)
    ∧ quiescent_DyRefIdeal (hDyRefIdeal := hDyRefIdeal)
    ∧ quiescent_Ple (hPle := hPle)
    ∧ quiescent_PleIdeal (hPleIdeal := hPleIdeal)
    ∧ quiescent_PleRefIdeal (hPleRefIdeal := hPleRefIdeal)
    ∧ quiescent_Fin (hFin := hFin)
    ∧ quiescent_FinIdeal (hFinIdeal := hFinIdeal)
    ∧ quiescent_FinRefIdeal (hFinRefIdeal := hFinRefIdeal)
    ∧ quiescent_Proj (hProj := hProj)
    ∧ quiescent_ProjIdeal (hProjIdeal := hProjIdeal)
    ∧ quiescent_ProjRefIdeal (hProjRefIdeal := hProjRefIdeal)
    ∧ quiescent_Out (hOut := hOut)
    ∧ quiescent_OutIdeal (hOutIdeal := hOutIdeal)
    ∧ quiescent_OutRefIdeal (hOutRefIdeal := hOutRefIdeal)
    ∧ quiescent_Gate (hGate := hGate)
    ∧ quiescent_GateIdeal (hGateIdeal := hGateIdeal)
    ∧ quiescent_GateRefIdeal (hGateRefIdeal := hGateRefIdeal)
    ∧ quiescent_Up (hUp := hUp)
    ∧ quiescent_UpIdeal (hUpIdeal := hUpIdeal)
    ∧ quiescent_UpRefIdeal (hUpRefIdeal := hUpRefIdeal)
    ∧ quiescent_Rms (hRms := hRms)
    ∧ quiescent_RmsIdeal (hRmsIdeal := hRmsIdeal)
    ∧ quiescent_RmsRefIdeal (hRmsRefIdeal := hRmsRefIdeal)
    ∧ quiescent_AdWin (hAdWin := hAdWin)
    ∧ quiescent_AdWinIdeal (hAdWinIdeal := hAdWinIdeal)
    ∧ quiescent_AdWinRefIdeal (hAdWinRefIdeal := hAdWinRefIdeal)
    ∧ quiescent_AdWo (hAdWo := hAdWo)
    ∧ quiescent_AdWoIdeal (hAdWoIdeal := hAdWoIdeal)
    ∧ quiescent_AdWoRefIdeal (hAdWoRefIdeal := hAdWoRefIdeal)
    ∧ quiescent_AdWg (hAdWg := hAdWg)
    ∧ quiescent_AdWgIdeal (hAdWgIdeal := hAdWgIdeal)
    ∧ quiescent_AdWgRefIdeal (hAdWgRefIdeal := hAdWgRefIdeal)
    ∧ quiescent_AdWu (hAdWu := hAdWu)
    ∧ quiescent_AdWuIdeal (hAdWuIdeal := hAdWuIdeal)
    ∧ quiescent_AdWuRefIdeal (hAdWuRefIdeal := hAdWuRefIdeal)
    ∧ quiescent_AdSmall (hAdSmall := hAdSmall)
    ∧ quiescent_AdSmallIdeal (hAdSmallIdeal := hAdSmallIdeal)
    ∧ quiescent_AdSmallRefIdeal (hAdSmallRefIdeal := hAdSmallRefIdeal)
    ∧ quiescent_AdNw (hAdNw := hAdNw)
    ∧ quiescent_AdNwIdeal (hAdNwIdeal := hAdNwIdeal)
    ∧ quiescent_AdNwRefIdeal (hAdNwRefIdeal := hAdNwRefIdeal)
    ∧ quiescent_SumSmall (hSumSmall := hSumSmall)
    ∧ quiescent_SumSmallIdeal (hSumSmallIdeal := hSumSmallIdeal)
    ∧ quiescent_SumSmallRefIdeal (hSumSmallRefIdeal := hSumSmallRefIdeal)
    ∧ quiescent_SumNw (hSumNw := hSumNw)
    ∧ quiescent_SumNwIdeal (hSumNwIdeal := hSumNwIdeal)
    ∧ quiescent_SumNwRefIdeal (hSumNwRefIdeal := hSumNwRefIdeal)
    ∧ quiescent_GateB (hGateB := hGateB)
    ∧ quiescent_GateBIdeal (hGateBIdeal := hGateBIdeal)
    ∧ quiescent_GateBIdeal_pre_gateb_finite (hGateBIdeal := hGateBIdeal) (hPre_gateb_finite := hPre_gateb_finite)
    ∧ quiescent_GateBRefIdeal (hGateBRefIdeal := hGateBRefIdeal)
    ∧ quiescent_GateBRefIdeal_pre_gateb_finite (hGateBRefIdeal := hGateBRefIdeal) (hPre_gateb_finite := hPre_gateb_finite)
    ∧ quiescent_QkvB (hQkvB := hQkvB)
    ∧ quiescent_QkvBIdeal (hQkvBIdeal := hQkvBIdeal)
    ∧ quiescent_QkvBIdeal_pre_qkvb_finite (hQkvBIdeal := hQkvBIdeal) (hPre_qkvb_finite := hPre_qkvb_finite)
    ∧ quiescent_QkvBRefIdeal (hQkvBRefIdeal := hQkvBRefIdeal)
    ∧ quiescent_QkvBRefIdeal_pre_qkvb_finite (hQkvBRefIdeal := hQkvBRefIdeal) (hPre_qkvb_finite := hPre_qkvb_finite)
    ∧ quiescent_HgB (hHgB := hHgB)
    ∧ quiescent_HgBIdeal (hHgBIdeal := hHgBIdeal)
    ∧ quiescent_HgBRefIdeal (hHgBRefIdeal := hHgBRefIdeal)
    ∧ quiescent_DnB (hDnB := hDnB)
    ∧ quiescent_DnBIdeal (hDnBIdeal := hDnBIdeal)
    ∧ quiescent_DnBRefIdeal (hDnBRefIdeal := hDnBRefIdeal)
    ∧ quiescent_GateF (hGateF := hGateF)
    ∧ quiescent_GateFIdeal (hGateFIdeal := hGateFIdeal)
    ∧ quiescent_GateFRefIdeal (hGateFRefIdeal := hGateFRefIdeal)
    ∧ quiescent_Qkv (hQkv := hQkv)
    ∧ quiescent_QkvIdeal (hQkvIdeal := hQkvIdeal)
    ∧ quiescent_QkvRefIdeal (hQkvRefIdeal := hQkvRefIdeal)
    ∧ quiescent_HgF (hHgF := hHgF)
    ∧ quiescent_HgFIdeal (hHgFIdeal := hHgFIdeal)
    ∧ quiescent_HgFRefIdeal (hHgFRefIdeal := hHgFRefIdeal)
    ∧ preserves_Dhn_DhnIdeal
    ∧ algebraic_DhnIdeal_DhnRefIdeal (hDhnIdeal := hDhnIdeal) (hDhnRefIdeal := hDhnRefIdeal)
    ∧ preserves_Dwin_DwinIdeal
    ∧ algebraic_DwinIdeal_DwinRefIdeal (hDwinIdeal := hDwinIdeal) (hDwinRefIdeal := hDwinRefIdeal)
    ∧ preserves_DwinQ_DwinQIdeal
    ∧ algebraic_DwinQIdeal_DwinQRefIdeal (hDwinQIdeal := hDwinQIdeal) (hDwinQRefIdeal := hDwinQRefIdeal)
    ∧ preserves_Dwo_DwoIdeal
    ∧ algebraic_DwoIdeal_DwoRefIdeal (hDwoIdeal := hDwoIdeal) (hDwoRefIdeal := hDwoRefIdeal)
    ∧ preserves_Dwg_DwgIdeal
    ∧ algebraic_DwgIdeal_DwgRefIdeal (hDwgIdeal := hDwgIdeal) (hDwgRefIdeal := hDwgRefIdeal)
    ∧ preserves_Dwu_DwuIdeal
    ∧ algebraic_DwuIdeal_DwuRefIdeal (hDwuIdeal := hDwuIdeal) (hDwuRefIdeal := hDwuRefIdeal)
    ∧ preserves_Dh1_Dh1Ideal
    ∧ algebraic_Dh1Ideal_Dh1RefIdeal (hDh1Ideal := hDh1Ideal) (hDh1RefIdeal := hDh1RefIdeal)
    ∧ preserves_Dy_DyIdeal
    ∧ algebraic_DyIdeal_DyRefIdeal (hDyIdeal := hDyIdeal) (hDyRefIdeal := hDyRefIdeal)
    ∧ preserves_Ple_PleIdeal
    ∧ algebraic_PleIdeal_PleRefIdeal (hPleIdeal := hPleIdeal) (hPleRefIdeal := hPleRefIdeal)
    ∧ preserves_Fin_FinIdeal
    ∧ algebraic_FinIdeal_FinRefIdeal (hFinIdeal := hFinIdeal) (hFinRefIdeal := hFinRefIdeal)
    ∧ preserves_Proj_ProjIdeal
    ∧ algebraic_ProjIdeal_ProjRefIdeal (hProjIdeal := hProjIdeal) (hProjRefIdeal := hProjRefIdeal)
    ∧ preserves_Out_OutIdeal
    ∧ algebraic_OutIdeal_OutRefIdeal (hOutIdeal := hOutIdeal) (hOutRefIdeal := hOutRefIdeal)
    ∧ preserves_Gate_GateIdeal
    ∧ algebraic_GateIdeal_GateRefIdeal (hGateIdeal := hGateIdeal) (hGateRefIdeal := hGateRefIdeal)
    ∧ preserves_Up_UpIdeal
    ∧ algebraic_UpIdeal_UpRefIdeal (hUpIdeal := hUpIdeal) (hUpRefIdeal := hUpRefIdeal)
    ∧ preserves_Rms_RmsIdeal
    ∧ algebraic_RmsIdeal_RmsRefIdeal (hRmsIdeal := hRmsIdeal) (hRmsRefIdeal := hRmsRefIdeal)
    ∧ preserves_AdWin_AdWinIdeal
    ∧ algebraic_AdWinIdeal_AdWinRefIdeal (hAdWinIdeal := hAdWinIdeal) (hAdWinRefIdeal := hAdWinRefIdeal)
    ∧ preserves_AdWo_AdWoIdeal
    ∧ algebraic_AdWoIdeal_AdWoRefIdeal (hAdWoIdeal := hAdWoIdeal) (hAdWoRefIdeal := hAdWoRefIdeal)
    ∧ preserves_AdWg_AdWgIdeal
    ∧ algebraic_AdWgIdeal_AdWgRefIdeal (hAdWgIdeal := hAdWgIdeal) (hAdWgRefIdeal := hAdWgRefIdeal)
    ∧ preserves_AdWu_AdWuIdeal
    ∧ algebraic_AdWuIdeal_AdWuRefIdeal (hAdWuIdeal := hAdWuIdeal) (hAdWuRefIdeal := hAdWuRefIdeal)
    ∧ preserves_AdSmall_AdSmallIdeal
    ∧ algebraic_AdSmallIdeal_AdSmallRefIdeal (hAdSmallIdeal := hAdSmallIdeal) (hAdSmallRefIdeal := hAdSmallRefIdeal)
    ∧ preserves_AdNw_AdNwIdeal
    ∧ algebraic_AdNwIdeal_AdNwRefIdeal (hAdNwIdeal := hAdNwIdeal) (hAdNwRefIdeal := hAdNwRefIdeal)
    ∧ preserves_SumSmall_SumSmallIdeal
    ∧ algebraic_SumSmallIdeal_SumSmallRefIdeal (hSumSmallIdeal := hSumSmallIdeal) (hSumSmallRefIdeal := hSumSmallRefIdeal)
    ∧ preserves_SumNw_SumNwIdeal
    ∧ algebraic_SumNwIdeal_SumNwRefIdeal (hSumNwIdeal := hSumNwIdeal) (hSumNwRefIdeal := hSumNwRefIdeal)
    ∧ preserves_GateB_GateBIdeal
    ∧ algebraic_GateBIdeal_GateBRefIdeal_pre_gateb_finite (hGateBIdeal := hGateBIdeal) (hGateBRefIdeal := hGateBRefIdeal) (hPre_gateb_finite := hPre_gateb_finite)
    ∧ preserves_QkvB_QkvBIdeal
    ∧ algebraic_QkvBIdeal_QkvBRefIdeal_pre_qkvb_finite (hQkvBIdeal := hQkvBIdeal) (hQkvBRefIdeal := hQkvBRefIdeal) (hPre_qkvb_finite := hPre_qkvb_finite)
    ∧ preserves_HgB_HgBIdeal
    ∧ algebraic_HgBIdeal_HgBRefIdeal (hHgBIdeal := hHgBIdeal) (hHgBRefIdeal := hHgBRefIdeal)
    ∧ preserves_DnB_DnBIdeal
    ∧ algebraic_DnBIdeal_DnBRefIdeal (hDnBIdeal := hDnBIdeal) (hDnBRefIdeal := hDnBRefIdeal)
    ∧ preserves_GateF_GateFIdeal
    ∧ algebraic_GateFIdeal_GateFRefIdeal (hGateFIdeal := hGateFIdeal) (hGateFRefIdeal := hGateFRefIdeal)
    ∧ preserves_Qkv_QkvIdeal
    ∧ algebraic_QkvIdeal_QkvRefIdeal (hQkvIdeal := hQkvIdeal) (hQkvRefIdeal := hQkvRefIdeal)
    ∧ preserves_HgF_HgFIdeal
    ∧ algebraic_HgFIdeal_HgFRefIdeal (hHgFIdeal := hHgFIdeal) (hHgFRefIdeal := hHgFRefIdeal)
-- ==== Pre_gateb_finite.lean ====
abbrev S2048x8448 : Shape := ⟨2, ![2048, 8448]⟩
abbrev S1x128 : Shape := ⟨2, ![1, 128]⟩
abbrev S2048x128 : Shape := ⟨2, ![2048, 128]⟩
abbrev S_ : Shape := ⟨0, ![]⟩

class Facts : Prop where
  bcast_S_S1x128 : S_.BroadcastsInDim S1x128 (![] : Fin 0 → Fin S1x128.rank)

variable [Facts]

def fn {F : FTy → Type} [FloatOps F] (main_arg0 : FVec F S2048x8448 .f32) (main_arg1 : FVec F S1x128 .f32) (main_arg2 : FVec F S1x128 .f32) (main_arg3 : FVec F S2048x128 .f32) (main_arg4 : FVec F S2048x128 .f32) : IVec S1x128 1 :=
  let main_cst : FVec F S_ .f32 := constant S_ .f32 0x7F800000#32
  let main_v0 : FVec F S1x128 .f32 := broadcastInDim S1x128 ![] bcast_S_S1x128 main_cst
  let main_v1 : IVec S1x128 1 := cmpf .olt main_arg1 main_v0
  main_v1
-- ==== Pre_qkvb_finite.lean ====
abbrev S2048x8448 : Shape := ⟨2, ![2048, 8448]⟩
abbrev S4x3072 : Shape := ⟨2, ![4, 3072]⟩
abbrev S2048x3072 : Shape := ⟨2, ![2048, 3072]⟩
abbrev S_ : Shape := ⟨0, ![]⟩

class Facts : Prop where
  bcast_S_S2048x8448 : S_.BroadcastsInDim S2048x8448 (![] : Fin 0 → Fin S2048x8448.rank)
  bcast_S_S4x3072 : S_.BroadcastsInDim S4x3072 (![] : Fin 0 → Fin S4x3072.rank)
  bcast_S_S2048x3072 : S_.BroadcastsInDim S2048x3072 (![] : Fin 0 → Fin S2048x3072.rank)

variable [Facts]

def fn {F : FTy → Type} [FloatOps F] (main_arg0 : FVec F S2048x8448 .f32) (main_arg1 : FVec F S4x3072 .f32) (main_arg2 : FVec F S2048x3072 .f32) : IVec S2048x8448 1 × IVec S4x3072 1 × IVec S2048x3072 1 :=
  let main_v0 : FVec F S2048x8448 .f32 := Host.absf main_arg0
  let main_cst : FVec F S_ .f32 := constant S_ .f32 0x7F800000#32
  let main_v1 : FVec F S2048x8448 .f32 := broadcastInDim S2048x8448 ![] bcast_S_S2048x8448 main_cst
  let main_v2 : IVec S2048x8448 1 := cmpf .olt main_v0 main_v1
  let main_v3 : FVec F S4x3072 .f32 := Host.absf main_arg1
  let main_cst_0 : FVec F S_ .f32 := constant S_ .f32 0x7F800000#32
  let main_v4 : FVec F S4x3072 .f32 := broadcastInDim S4x3072 ![] bcast_S_S4x3072 main_cst_0
  let main_v5 : IVec S4x3072 1 := cmpf .olt main_v3 main_v4
  let main_v6 : FVec F S2048x3072 .f32 := Host.absf main_arg2
  let main_cst_1 : FVec F S_ .f32 := constant S_ .f32 0x7F800000#32
  let main_v7 : FVec F S2048x3072 .f32 := broadcastInDim S2048x3072 ![] bcast_S_S2048x3072 main_cst_1
  let main_v8 : IVec S2048x3072 1 := cmpf .olt main_v6 main_v7
  (main_v2, main_v5, main_v8)
-- ==== Dhn.lean ====
abbrev S2048x8448 : Shape := ⟨2, ![2048, 8448]⟩
abbrev S2048x2048 : Shape := ⟨2, ![2048, 2048]⟩
abbrev S2048 : Shape := ⟨1, ![2048]⟩
abbrev S1x2048 : Shape := ⟨2, ![1, 2048]⟩
abbrev S512x768 : Shape := ⟨2, ![512, 768]⟩
abbrev S2048x768 : Shape := ⟨2, ![2048, 768]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 13
  | .smem => 0
  | _ => 0

abbrev bufTy : (tb : Table) → Fin (tcTables nBuf tb) → BufTy
  | .hbm, ⟨0, _⟩ => ⟨S2048x8448, .bf16⟩
  | .hbm, ⟨1, _⟩ => ⟨S2048x8448, .bf16⟩
  | .hbm, ⟨2, _⟩ => ⟨S2048x2048, .f32⟩
  | .hbm, ⟨3, _⟩ => ⟨S2048, .f32⟩
  | .hbm, ⟨4, _⟩ => ⟨S2048x2048, .f32⟩
  | .hbm, ⟨5, _⟩ => ⟨S1x2048, .f32⟩
  | .hbm, ⟨6, _⟩ => ⟨S2048x2048, .f32⟩
  | .hbm, ⟨7, _⟩ => ⟨S1x2048, .f32⟩
  | .local _ .vmem, ⟨0, _⟩ => ⟨S512x768, .bf16⟩
  | .local _ .vmem, ⟨1, _⟩ => ⟨S512x768, .bf16⟩
  | .local _ .vmem, ⟨2, _⟩ => ⟨S2048x768, .bf16⟩
  | .local _ .vmem, ⟨3, _⟩ => ⟨S2048x768, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | .local _ .vmem, ⟨11, _⟩ => ⟨S1x2048, .f32⟩
  | .local _ .vmem, ⟨12, _⟩ => ⟨S512x2048, .f32⟩
  | _, _ => ⟨S2048x8448, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨3, ![4, 1, 11], ![false, false, false]⟩

def k0_cond2 (i : grid0.Coords) : BitVec 1 :=
  let arg2 : BitVec 32 := BitVec.ofNat 32 (i 2).val
  let c10_i32 : BitVec 32 := 10#32
  let v11 : BitVec 1 := Scalar.cmpi .eq arg2 c10_i32
  let v12 : BitVec 32 := Scalar.extui v11
  let c0_i32_8 : BitVec 32 := 0#32
  let v13 : BitVec 1 := Scalar.cmpi .ne v12 c0_i32_8
  v13

def k0_cond3 (i : grid0.Coords) : BitVec 1 :=
  let arg0 : BitVec 32 := BitVec.ofNat 32 (i 0).val
  let c0_i32_24 : BitVec 32 := 0#32
  let v47 : BitVec 1 := Scalar.cmpi .eq arg0 c0_i32_24
  let v48 : BitVec 32 := Scalar.extui v47
  let c0_i32_25 : BitVec 32 := 0#32
  let v49 : BitVec 1 := Scalar.cmpi .ne v48 c0_i32_25
  v49

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]
-- ==== DhnRefIdeal.lean ====
abbrev S2048x8448 : Shape := ⟨2, ![2048, 8448]⟩
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩

abbrev nBuf : Space → Nat
  | .hbm => 56
  | .vmem => 0
  | .smem => 0
  | _ => 0

abbrev bufTy : (tb : Table) → Fin (tcTables nBuf tb) → BufTy
  | .hbm, ⟨0, _⟩ => ⟨S2048x8448, .bf16⟩
  | .hbm, ⟨1, _⟩ => ⟨S2048x8448, .bf16⟩
  | .hbm, ⟨2, _⟩ => ⟨S2048x2048, .f32⟩
  | .hbm, ⟨3, _⟩ => ⟨S2048, .f32⟩
  | .hbm, ⟨4, _⟩ => ⟨S2048x2048, .f32⟩
  | .hbm, ⟨5, _⟩ => ⟨S2048x8448, .f32⟩
  | .hbm, ⟨6, _⟩ => ⟨S2048x8448, .f32⟩
  | .hbm, ⟨7, _⟩ => ⟨S2048x2048, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x2048, .f32⟩
  | .hbm, ⟨23, _⟩ => ⟨S2048x2048, .f32⟩
  | .hbm, ⟨24, _⟩ => ⟨S1x2048, .f32⟩
  | .hbm, ⟨25, _⟩ => ⟨S2048x2048, .f32⟩
  | .hbm, ⟨26, _⟩ => ⟨S2048x2048, .f32⟩
  | .hbm, ⟨27, _⟩ => ⟨S2048x8448, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048, .f32⟩
  | .hbm, ⟨32, _⟩ => ⟨S1x2048, .f32⟩
  | .hbm, ⟨33, _⟩ => ⟨S2048x2048, .f32⟩
  | .hbm, ⟨34, _⟩ => ⟨S2048x2048, .f32⟩
  | .hbm, ⟨35, _⟩ => ⟨S_, .f32⟩
  | .hbm, ⟨36, _⟩ => ⟨S2048, .f32⟩
  | .hbm, ⟨37, _⟩ => ⟨S2048x2048, .f32⟩
  | .hbm, ⟨38, _⟩ => ⟨S_, .f32⟩
  | .hbm, ⟨39, _⟩ => ⟨S2048, .f32⟩
  | .hbm, ⟨40, _⟩ => ⟨S2048x1, .f32⟩
  | .hbm, ⟨41, _⟩ => ⟨S2048x2048, .f32⟩
  | .hbm, ⟨42, _⟩ => ⟨S2048x2048, .f32⟩
  | .hbm, ⟨43, _⟩ => ⟨S2048x2048, .f32⟩
  | .hbm, ⟨44, _⟩ => ⟨S2048x1, .f32⟩
  | .hbm, ⟨45, _⟩ => ⟨S_, .f32⟩
  | .hbm, ⟨46, _⟩ => ⟨S2048x1, .f32⟩
  | .hbm, ⟨47, _⟩ => ⟨S2048x1, .f32⟩
  | .hbm, ⟨48, _⟩ => ⟨S_, .f32⟩
  | .hbm, ⟨49, _⟩ => ⟨S2048, .f32⟩
  | .hbm, ⟨50, _⟩ => ⟨S2048x2048, .f32⟩
  | .hbm, ⟨51, _⟩ => ⟨S2048x2048, .f32⟩
  | .hbm, ⟨52, _⟩ => ⟨S2048x2048, .f32⟩
  | .hbm, ⟨53, _⟩ => ⟨S2048x2048, .f32⟩
  | .hbm, ⟨54, _⟩ => ⟨S2048x2048, .f32⟩
  | .hbm, ⟨55, _⟩ => ⟨S1x2048, .f32⟩
  | _, _ => ⟨S2048x8448, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Dwin.lean ====
abbrev S2048x1024 : Shape := ⟨2, ![2048, 1024]⟩
abbrev S2048x8448 : Shape := ⟨2, ![2048, 8448]⟩
abbrev S1024x8448 : Shape := ⟨2, ![1024, 8448]⟩
abbrev S2048x1408 : Shape := ⟨2, ![2048, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S2048x8448, .bf16⟩
  | .hbm, ⟨2, _⟩ => ⟨S1024x8448, .bf16⟩
  | .local _ .vmem, ⟨0, _⟩ => ⟨S2048x1024, .bf16⟩
  | .local _ .vmem, ⟨1, _⟩ => ⟨S2048x1408, .bf16⟩
  | .local _ .vmem, ⟨2, _⟩ => ⟨S2048x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 6, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwinRefIdeal.lean ====
abbrev S2048x1024 : Shape := ⟨2, ![2048, 1024]⟩
abbrev S2048x8448 : Shape := ⟨2, ![2048, 8448]⟩
abbrev S_ : Shape := ⟨0, ![]⟩
abbrev S1024x8448 : Shape := ⟨2, ![1024, 8448]⟩
abbrev S8448x1024 : Shape := ⟨2, ![8448, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x8448, .bf16⟩
  | .hbm, ⟨2, _⟩ => ⟨S2048x1024, .f32⟩
  | .hbm, ⟨3, _⟩ => ⟨S2048x8448, .f32⟩
  | .hbm, ⟨4, _⟩ => ⟨S_, .f32⟩
  | .hbm, ⟨5, _⟩ => ⟨S1024x8448, .f32⟩
  | .hbm, ⟨6, _⟩ => ⟨S2048x8448, .f32⟩
  | .hbm, ⟨7, _⟩ => ⟨S8448x1024, .f32⟩
  | .hbm, ⟨8, _⟩ => ⟨S1024x8448, .f32⟩
  | .hbm, ⟨9, _⟩ => ⟨S1024x8448, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DwinQ.lean ====
abbrev S2048x512 : Shape := ⟨2, ![2048, 512]⟩
abbrev S2048x8448 : Shape := ⟨2, ![2048, 8448]⟩
abbrev S512x8448 : Shape := ⟨2, ![512, 8448]⟩
abbrev S2048x1408 : Shape := ⟨2, ![2048, 1408]⟩
abbrev S512x1408 : Shape := ⟨2, ![512, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2048x512, .bf16⟩
  | .hbm, ⟨1, _⟩ => ⟨S2048x8448, .bf16⟩
  | .hbm, ⟨2, _⟩ => ⟨S512x8448, .bf16⟩
  | .local _ .vmem, ⟨0, _⟩ => ⟨S2048x512, .bf16⟩
  | .local _ .vmem, ⟨1, _⟩ => ⟨S2048x1408, .bf16⟩
  | .local _ .vmem, ⟨2, _⟩ => ⟨S2048x1408, .bf16⟩
  | .local _ .vmem, ⟨3, _⟩ => ⟨S512x1408, .bf16⟩
  | .local _ .vmem, ⟨4, _⟩ => ⟨S512x1408, .bf16⟩
  | .local _ .vmem, ⟨5, _⟩ => ⟨S512x1408, .f32⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 6, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwinQRefIdeal.lean ====
abbrev S2048x512 : Shape := ⟨2, ![2048, 512]⟩
abbrev S2048x8448 : Shape := ⟨2, ![2048, 8448]⟩
abbrev S_ : Shape := ⟨0, ![]⟩
abbrev S512x8448 : Shape := ⟨2, ![512, 8448]⟩
abbrev S8448x512 : Shape := ⟨2, ![8448, 512]⟩

abbrev nBuf : Space → Nat
  | .hbm => 10
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S2048x8448, .bf16⟩
  | .hbm, ⟨2, _⟩ => ⟨S2048x512, .f32⟩
  | .hbm, ⟨3, _⟩ => ⟨S2048x8448, .f32⟩
  | .hbm, ⟨4, _⟩ => ⟨S_, .f32⟩
  | .hbm, ⟨5, _⟩ => ⟨S512x8448, .f32⟩
  | .hbm, ⟨6, _⟩ => ⟨S2048x8448, .f32⟩
  | .hbm, ⟨7, _⟩ => ⟨S8448x512, .f32⟩
  | .hbm, ⟨8, _⟩ => ⟨S512x8448, .f32⟩
  | .hbm, ⟨9, _⟩ => ⟨S512x8448, .bf16⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Dwo.lean ====
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .f32⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwoRefIdeal.lean ====
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .f32⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Dwg.lean ====
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x2048, .bf16⟩
  | .hbm, ⟨2, _⟩ => ⟨S2048x2048, .bf16⟩
  | .local _ .vmem, ⟨0, _⟩ => ⟨S2048x1024, .f32⟩
  | .local _ .vmem, ⟨1, _⟩ => ⟨S2048x1024, .f32⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwgRefIdeal.lean ====
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .bf16⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Dwu.lean ====
abbrev S2048x256 : Shape := ⟨2, ![2048, 256]⟩
abbrev S2048x2048 : Shape := ⟨2, ![2048, 2048]⟩
abbrev S256x2048 : Shape := ⟨2, ![256, 2048]⟩
abbrev S2048x1024 : Shape := ⟨2, ![2048, 1024]⟩
abbrev S256x1024 : Shape := ⟨2, ![256, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x256, .f32⟩
  | .hbm, ⟨1, _⟩ => ⟨S2048x2048, .bf16⟩
  | .hbm, ⟨2, _⟩ => ⟨S256x2048, .bf16⟩
  | .local _ .vmem, ⟨0, _⟩ => ⟨S2048x256, .f32⟩
  | .local _ .vmem, ⟨1, _⟩ => ⟨S2048x1024, .bf16⟩
  | .local _ .vmem, ⟨2, _⟩ => ⟨S2048x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwuRefIdeal.lean ====
abbrev S2048x256 : Shape := ⟨2, ![2048, 256]⟩
abbrev S2048x2048 : Shape := ⟨2, ![2048, 2048]⟩
abbrev S_ : Shape := ⟨0, ![]⟩
abbrev S256x2048 : Shape := ⟨2, ![256, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S2048x2048, .bf16⟩
  | .hbm, ⟨2, _⟩ => ⟨S2048x2048, .f32⟩
  | .hbm, ⟨3, _⟩ => ⟨S_, .f32⟩
  | .hbm, ⟨4, _⟩ => ⟨S256x2048, .f32⟩
  | .hbm, ⟨5, _⟩ => ⟨S2048x2048, .f32⟩
  | .hbm, ⟨6, _⟩ => ⟨S2048x256, .f32⟩
  | .hbm, ⟨7, _⟩ => ⟨S256x2048, .f32⟩
  | .hbm, ⟨8, _⟩ => ⟨S256x2048, .bf16⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Dh1.lean ====
abbrev S2048x2048 : Shape := ⟨2, ![2048, 2048]⟩
abbrev S256x2048 : Shape := ⟨2, ![256, 2048]⟩
abbrev S8x256x2048 : Shape := ⟨3, ![8, 256, 2048]⟩
abbrev S256x8x256 : Shape := ⟨3, ![256, 8, 256]⟩
abbrev S8x256x256 : Shape := ⟨3, ![8, 256, 256]⟩
abbrev S8x32x2048 : Shape := ⟨3, ![8, 32, 2048]⟩
abbrev S8x544x2048 : Shape := ⟨3, ![8, 544, 2048]⟩
abbrev S1024x2048 : Shape := ⟨2, ![1024, 2048]⟩
abbrev S4x256x2048 : Shape := ⟨3, ![4, 256, 2048]⟩
abbrev S1024x1024 : Shape := ⟨2, ![1024, 1024]⟩

abbrev nBuf : Space → Nat
  | .hbm => 13
  | .vmem => 9
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .f32⟩
  | .hbm, ⟨2, _⟩ => ⟨S2048x2048, .f32⟩
  | .hbm, ⟨3, _⟩ => ⟨S256x2048, .f32⟩
  | .hbm, ⟨4, _⟩ => ⟨S2048x2048, .f32⟩
  | .hbm, ⟨5, _⟩ => ⟨S8x256x2048, .f32⟩
  | .hbm, ⟨6, _⟩ => ⟨S8x256x2048, .f32⟩
  | .hbm, ⟨7, _⟩ => ⟨S256x8x256, .f32⟩
  | .hbm, ⟨8, _⟩ => ⟨S8x256x256, .f32⟩
  | .hbm, ⟨9, _⟩ => ⟨S8x32x2048, .f32⟩
  | .hbm, ⟨10, _⟩ => ⟨S8x544x2048, .f32⟩
  | .hbm, ⟨11, _⟩ => ⟨S8x544x2048, .bf16⟩
  | .hbm, ⟨12, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S4x256x2048, .bf16⟩
  | .local _ .vmem, ⟨3, _⟩ => ⟨S4x256x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 1], ![false, false, false]⟩

def k0_cond2 (i : grid0.Coords) : BitVec 1 :=
  let arg2 : BitVec 32 := BitVec.ofNat 32 (i 2).val
  let c0_i32_9 : BitVec 32 := 0#32
  let v13 : BitVec 1 := Scalar.cmpi .eq arg2 c0_i32_9
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![arg1.toNat, c1_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Dh1RefIdeal.lean ====
abbrev S2048x2048 : Shape := ⟨2, ![2048, 2048]⟩
abbrev S256x2048 : Shape := ⟨2, ![256, 2048]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .f32⟩
  | .hbm, ⟨2, _⟩ => ⟨S2048x2048, .f32⟩
  | .hbm, ⟨3, _⟩ => ⟨S256x2048, .f32⟩
  | .hbm, ⟨4, _⟩ => ⟨S2048x2048, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩

abbrev nD : Nat := 1
abbrev τ : Topo := Topo.v7x

variable {F : FTy → Type} [FloatOps F]
-- ==== Dy.lean ====
abbrev S2048x2048 : Shape := ⟨2, ![2048, 2048]⟩
abbrev S256x2048 : Shape := ⟨2, ![256, 2048]⟩
abbrev S8x256x2048 : Shape := ⟨3, ![8, 256, 2048]⟩
abbrev S256x8x256 : Shape := ⟨3, ![256, 8, 256]⟩
abbrev S8x256x256 : Shape := ⟨3, ![8, 256, 256]⟩
abbrev S8x32x2048 : Shape := ⟨3, ![8, 32, 2048]⟩
abbrev S8x544x2048 : Shape := ⟨3, ![8, 544, 2048]⟩
abbrev S1024x2048 : Shape := ⟨2, ![1024, 2048]⟩
abbrev S4x256x2048 : Shape := ⟨3, ![4, 256, 2048]⟩
abbrev S1024x1024 : Shape := ⟨2, ![1024, 1024]⟩

abbrev nBuf : Space → Nat
  | .hbm => 12
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S256x2048, .f32⟩
  | .hbm, ⟨4, _⟩ => ⟨S8x256x2048, .f32⟩
  | .hbm, ⟨5, _⟩ => ⟨S8x256x2048, .f32⟩
  | .hbm, ⟨6, _⟩ => ⟨S256x8x256, .f32⟩
  | .hbm, ⟨7, _⟩ => ⟨S8x256x256, .f32⟩
  | .hbm, ⟨8, _⟩ => ⟨S8x32x2048, .f32⟩
  | .hbm, ⟨9, _⟩ => ⟨S8x544x2048, .f32⟩
  | .hbm, ⟨10, _⟩ => ⟨S8x544x2048, .bf16⟩
  | .hbm, ⟨11, _⟩ => ⟨S2048x2048, .f32⟩
  | .local _ .vmem, ⟨0, _⟩ => ⟨S1024x2048, .f32⟩
  | .local _ .vmem, ⟨1, _⟩ => ⟨S1024x2048, .f32⟩
  | .local _ .vmem, ⟨2, _⟩ => ⟨S4x256x2048, .bf16⟩
  | .local _ .vmem, ⟨3, _⟩ => ⟨S4x256x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def k0_cond2 (i : grid0.Coords) : BitVec 1 :=
  let arg2 : BitVec 32 := BitVec.ofNat 32 (i 2).val
  let c0_i32_9 : BitVec 32 := 0#32
  let v14 : BitVec 1 := Scalar.cmpi .eq arg2 c0_i32_9
  let v15 : BitVec 32 := Scalar.extui v14
  let c0_i32_10 : BitVec 32 := 0#32
  let v16 : BitVec 1 := Scalar.cmpi .ne v15 c0_i32_10
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DyRefIdeal.lean ====
abbrev S2048x2048 : Shape := ⟨2, ![2048, 2048]⟩
abbrev S256x2048 : Shape := ⟨2, ![256, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S256x2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩

abbrev nD : Nat := 1
abbrev τ : Topo := Topo.v7x

variable {F : FTy → Type} [FloatOps F]
-- ==== Ple.lean ====
abbrev S2048x2048 : Shape := ⟨2, ![2048, 2048]⟩
abbrev S256x2048 : Shape := ⟨2, ![256, 2048]⟩

abbrev nBuf : Space → Nat
  | .hbm => 5
  | .vmem => 10
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .bf16⟩
  | .hbm, ⟨4, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PleRefIdeal.lean ====
abbrev S2048x2048 : Shape := ⟨2, ![2048, 2048]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S_, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .bf16⟩
  | .hbm, ⟨20, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Fin.lean ====
abbrev S2048x2048 : Shape := ⟨2, ![2048, 2048]⟩
abbrev S2048 : Shape := ⟨1, ![2048]⟩
abbrev S1x2048 : Shape := ⟨2, ![1, 2048]⟩
abbrev S1x128 : Shape := ⟨2, ![1, 128]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S1x1 : Shape := ⟨2, ![1, 1]⟩

abbrev nBuf : Space → Nat
  | .hbm => 7
  | .vmem => 9
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x2048, .f32⟩
  | .hbm, ⟨3, _⟩ => ⟨S1x2048, .f32⟩
  | .hbm, ⟨4, _⟩ => ⟨S1x128, .f32⟩
  | .hbm, ⟨5, _⟩ => ⟨S2048x2048, .f32⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S1x128, .f32⟩
  | .local _ .vmem, ⟨6, _⟩ => ⟨S256x2048, .f32⟩
  | .local _ .vmem, ⟨7, _⟩ => ⟨S256x2048, .f32⟩
  | .local _ .vmem, ⟨8, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== FinRefIdeal.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩
abbrev S1x128 : Shape := ⟨2, ![1, 128]⟩

abbrev nBuf : Space → Nat
  | .hbm => 73
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x2048, .f32⟩
  | .hbm, ⟨19, _⟩ => ⟨S2048x2048, .f32⟩
  | .hbm, ⟨20, _⟩ => ⟨S1x2048, .f32⟩
  | .hbm, ⟨21, _⟩ => ⟨S2048x2048, .f32⟩
  | .hbm, ⟨22, _⟩ => ⟨S2048x2048, .f32⟩
  | .hbm, ⟨23, _⟩ => ⟨S2048x2048, .f32⟩
  | .hbm, ⟨24, _⟩ => ⟨S2048x2048, .f32⟩
  | .hbm, ⟨25, _⟩ => ⟨S_, .f32⟩
  | .hbm, ⟨26, _⟩ => ⟨S2048x2048, .f32⟩
  | .hbm, ⟨27, _⟩ => ⟨S2048x2048, .f32⟩
  | .hbm, ⟨28, _⟩ => ⟨S_, .f32⟩
  | .hbm, ⟨29, _⟩ => ⟨S2048, .f32⟩
  | .hbm, ⟨30, _⟩ => ⟨S_, .f32⟩
  | .hbm, ⟨31, _⟩ => ⟨S2048, .f32⟩
  | .hbm, ⟨32, _⟩ => ⟨S2048, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S2048, .f32⟩
  | .hbm, ⟨41, _⟩ => ⟨S_, .f32⟩
  | .hbm, ⟨42, _⟩ => ⟨S2048, .f32⟩
  | .hbm, ⟨43, _⟩ => ⟨S2048, .f32⟩
  | .hbm, ⟨44, _⟩ => ⟨S2048x2048, .f32⟩
  | .hbm, ⟨45, _⟩ => ⟨S2048x2048, .f32⟩
  | .hbm, ⟨46, _⟩ => ⟨S2048x2048, .f32⟩
  | .hbm, ⟨47, _⟩ => ⟨S_, .f32⟩
  | .hbm, ⟨48, _⟩ => ⟨S2048, .f32⟩
  | .hbm, ⟨49, _⟩ => ⟨S1x2048, .f32⟩
  | .hbm, ⟨50, _⟩ => ⟨S2048x2048, .f32⟩
  | .hbm, ⟨51, _⟩ => ⟨S2048x2048, .f32⟩
  | .hbm, ⟨52, _⟩ => ⟨S_, .f32⟩
  | .hbm, ⟨53, _⟩ => ⟨S2048, .f32⟩
  | .hbm, ⟨54, _⟩ => ⟨S2048x2048, .f32⟩
  | .hbm, ⟨55, _⟩ => ⟨S_, .f32⟩
  | .hbm, ⟨56, _⟩ => ⟨S2048, .f32⟩
  | .hbm, ⟨57, _⟩ => ⟨S2048x1, .f32⟩
  | .hbm, ⟨58, _⟩ => ⟨S2048x2048, .f32⟩
  | .hbm, ⟨59, _⟩ => ⟨S2048x2048, .f32⟩
  | .hbm, ⟨60, _⟩ => ⟨S2048x1, .f32⟩
  | .hbm, ⟨61, _⟩ => ⟨S_, .f32⟩
  | .hbm, ⟨62, _⟩ => ⟨S2048x1, .f32⟩
  | .hbm, ⟨63, _⟩ => ⟨S2048x1, .f32⟩
  | .hbm, ⟨64, _⟩ => ⟨S_, .f32⟩
  | .hbm, ⟨65, _⟩ => ⟨S2048, .f32⟩
  | .hbm, ⟨66, _⟩ => ⟨S2048x2048, .f32⟩
  | .hbm, ⟨67, _⟩ => ⟨S2048x2048, .f32⟩
  | .hbm, ⟨68, _⟩ => ⟨S2048x2048, .f32⟩
  | .hbm, ⟨69, _⟩ => ⟨S2048x2048, .f32⟩
  | .hbm, ⟨70, _⟩ => ⟨S2048x2048, .f32⟩
  | .hbm, ⟨71, _⟩ => ⟨S1x128, .f32⟩
  | .hbm, ⟨72, _⟩ => ⟨S1x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== Proj.lean ====
abbrev S2048x2048 : Shape := ⟨2, ![2048, 2048]⟩
abbrev S2048x8448 : Shape := ⟨2, ![2048, 8448]⟩
abbrev S1024x2048 : Shape := ⟨2, ![1024, 2048]⟩
abbrev S2048x1408 : Shape := ⟨2, ![2048, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2048x8448, .bf16⟩
  | .hbm, ⟨2, _⟩ => ⟨S2048x8448, .f32⟩
  | .local _ .vmem, ⟨0, _⟩ => ⟨S1024x2048, .bf16⟩
  | .local _ .vmem, ⟨1, _⟩ => ⟨S1024x2048, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 6, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjRefIdeal.lean ====
abbrev S2048x2048 : Shape := ⟨2, ![2048, 2048]⟩
abbrev S2048x8448 : Shape := ⟨2, ![2048, 8448]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x8448, .bf16⟩
  | .hbm, ⟨2, _⟩ => ⟨S2048x2048, .f32⟩
  | .hbm, ⟨3, _⟩ => ⟨S2048x8448, .f32⟩
  | .hbm, ⟨4, _⟩ => ⟨S2048x8448, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Out.lean ====
abbrev S2048x2048 : Shape := ⟨2, ![2048, 2048]⟩
abbrev S256x2048 : Shape := ⟨2, ![256, 2048]⟩
abbrev S8x256x2048 : Shape := ⟨3, ![8, 256, 2048]⟩
abbrev S256x8x256 : Shape := ⟨3, ![256, 8, 256]⟩
abbrev S8x256x256 : Shape := ⟨3, ![8, 256, 256]⟩
abbrev S8x32x2048 : Shape := ⟨3, ![8, 32, 2048]⟩
abbrev S8x544x2048 : Shape := ⟨3, ![8, 544, 2048]⟩
abbrev S1024x2048 : Shape := ⟨2, ![1024, 2048]⟩
abbrev S8x256x1024 : Shape := ⟨3, ![8, 256, 1024]⟩
abbrev S1024x1024 : Shape := ⟨2, ![1024, 1024]⟩
abbrev S2048x1024 : Shape := ⟨2, ![2048, 1024]⟩

abbrev nBuf : Space → Nat
  | .hbm => 13
  | .vmem => 9
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .f32⟩
  | .hbm, ⟨2, _⟩ => ⟨S2048x2048, .f32⟩
  | .hbm, ⟨3, _⟩ => ⟨S256x2048, .f32⟩
  | .hbm, ⟨4, _⟩ => ⟨S2048x2048, .f32⟩
  | .hbm, ⟨5, _⟩ => ⟨S8x256x2048, .f32⟩
  | .hbm, ⟨6, _⟩ => ⟨S8x256x2048, .f32⟩
  | .hbm, ⟨7, _⟩ => ⟨S256x8x256, .f32⟩
  | .hbm, ⟨8, _⟩ => ⟨S8x256x256, .f32⟩
  | .hbm, ⟨9, _⟩ => ⟨S8x32x2048, .f32⟩
  | .hbm, ⟨10, _⟩ => ⟨S8x544x2048, .f32⟩
  | .hbm, ⟨11, _⟩ => ⟨S8x544x2048, .bf16⟩
  | .hbm, ⟨12, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S8x256x1024, .bf16⟩
  | .local _ .vmem, ⟨3, _⟩ => ⟨S8x256x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 1], ![false, false, false]⟩

def k0_cond2 (i : grid0.Coords) : BitVec 1 :=
  let arg2 : BitVec 32 := BitVec.ofNat 32 (i 2).val
  let c0_i32_9 : BitVec 32 := 0#32
  let v13 : BitVec 1 := Scalar.cmpi .eq arg2 c0_i32_9
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S8x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutRefIdeal.lean ====
abbrev S2048x2048 : Shape := ⟨2, ![2048, 2048]⟩
abbrev S256x2048 : Shape := ⟨2, ![256, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .f32⟩
  | .hbm, ⟨2, _⟩ => ⟨S2048x2048, .f32⟩
  | .hbm, ⟨3, _⟩ => ⟨S256x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩

abbrev nD : Nat := 1
abbrev τ : Topo := Topo.v7x

variable {F : FTy → Type} [FloatOps F]
-- ==== Gate.lean ====
abbrev S2048x2048 : Shape := ⟨2, ![2048, 2048]⟩
abbrev S256x2048 : Shape := ⟨2, ![256, 2048]⟩
abbrev S8x256x2048 : Shape := ⟨3, ![8, 256, 2048]⟩
abbrev S256x8x256 : Shape := ⟨3, ![256, 8, 256]⟩
abbrev S8x256x256 : Shape := ⟨3, ![8, 256, 256]⟩
abbrev S8x32x2048 : Shape := ⟨3, ![8, 32, 2048]⟩
abbrev S8x544x2048 : Shape := ⟨3, ![8, 544, 2048]⟩
abbrev S1024x2048 : Shape := ⟨2, ![1024, 2048]⟩
abbrev S8x256x512 : Shape := ⟨3, ![8, 256, 512]⟩
abbrev S1024x512 : Shape := ⟨2, ![1024, 512]⟩
abbrev S2048x512 : Shape := ⟨2, ![2048, 512]⟩

abbrev nBuf : Space → Nat
  | .hbm => 14
  | .vmem => 13
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S256x2048, .f32⟩
  | .hbm, ⟨4, _⟩ => ⟨S2048x2048, .f32⟩
  | .hbm, ⟨5, _⟩ => ⟨S8x256x2048, .f32⟩
  | .hbm, ⟨6, _⟩ => ⟨S8x256x2048, .f32⟩
  | .hbm, ⟨7, _⟩ => ⟨S256x8x256, .f32⟩
  | .hbm, ⟨8, _⟩ => ⟨S8x256x256, .f32⟩
  | .hbm, ⟨9, _⟩ => ⟨S8x32x2048, .f32⟩
  | .hbm, ⟨10, _⟩ => ⟨S8x544x2048, .f32⟩
  | .hbm, ⟨11, _⟩ => ⟨S8x544x2048, .bf16⟩
  | .hbm, ⟨12, _⟩ => ⟨S2048x2048, .f32⟩
  | .hbm, ⟨13, _⟩ => ⟨S2048x2048, .f32⟩
  | .local _ .vmem, ⟨0, _⟩ => ⟨S1024x2048, .f32⟩
  | .local _ .vmem, ⟨1, _⟩ => ⟨S1024x2048, .f32⟩
  | .local _ .vmem, ⟨2, _⟩ => ⟨S8x256x512, .bf16⟩
  | .local _ .vmem, ⟨3, _⟩ => ⟨S8x256x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 4, 1], ![false, false, false]⟩

def k0_cond2 (i : grid0.Coords) : BitVec 1 :=
  let arg2 : BitVec 32 := BitVec.ofNat 32 (i 2).val
  let c0_i32_9 : BitVec 32 := 0#32
  let v14 : BitVec 1 := Scalar.cmpi .eq arg2 c0_i32_9
  let v15 : BitVec 32 := Scalar.extui v14
  let c0_i32_10 : BitVec 32 := 0#32
  let v16 : BitVec 1 := Scalar.cmpi .ne v15 c0_i32_10
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c1_i32 : BitVec 32 := 1#32
  let c0_i32_0 : BitVec 32 := 0#32
  ![c0_i32.toNat, c1_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S8x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== GateRefIdeal.lean ====
abbrev S2048x2048 : Shape := ⟨2, ![2048, 2048]⟩
abbrev S256x2048 : Shape := ⟨2, ![256, 2048]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S256x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S_, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩

abbrev nD : Nat := 1
abbrev τ : Topo := Topo.v7x

variable {F : FTy → Type} [FloatOps F]
-- ==== Up.lean ====
abbrev S2048x256 : Shape := ⟨2, ![2048, 256]⟩
abbrev S256x2048 : Shape := ⟨2, ![256, 2048]⟩
abbrev S2048x2048 : Shape := ⟨2, ![2048, 2048]⟩
abbrev S1024x256 : Shape := ⟨2, ![1024, 256]⟩
abbrev S256x1024 : Shape := ⟨2, ![256, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x256, .f32⟩
  | .hbm, ⟨1, _⟩ => ⟨S256x2048, .bf16⟩
  | .hbm, ⟨2, _⟩ => ⟨S2048x2048, .f32⟩
  | .local _ .vmem, ⟨0, _⟩ => ⟨S1024x256, .f32⟩
  | .local _ .vmem, ⟨1, _⟩ => ⟨S1024x256, .f32⟩
  | .local _ .vmem, ⟨2, _⟩ => ⟨S256x1024, .bf16⟩
  | .local _ .vmem, ⟨3, _⟩ => ⟨S256x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpRefIdeal.lean ====
abbrev S2048x256 : Shape := ⟨2, ![2048, 256]⟩
abbrev S256x2048 : Shape := ⟨2, ![256, 2048]⟩
abbrev S2048x2048 : Shape := ⟨2, ![2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S256x2048, .bf16⟩
  | .hbm, ⟨2, _⟩ => ⟨S256x2048, .f32⟩
  | .hbm, ⟨3, _⟩ => ⟨S2048x2048, .f32⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Rms.lean ====
abbrev S2048x2048 : Shape := ⟨2, ![2048, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S1x2048, .f32⟩
  | .hbm, ⟨3, _⟩ => ⟨S2048x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsRefIdeal.lean ====
abbrev S2048x2048 : Shape := ⟨2, ![2048, 2048]⟩
abbrev S2048 : Shape := ⟨1, ![2048]⟩
abbrev S_ : Shape := ⟨0, ![]⟩
abbrev S2048x1 : Shape := ⟨2, ![2048, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S2048x2048, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x2048, .f32⟩
  | .hbm, ⟨14, _⟩ => ⟨S2048x2048, .f32⟩
  | .hbm, ⟨15, _⟩ => ⟨S1x2048, .f32⟩
  | .hbm, ⟨16, _⟩ => ⟨S2048x2048, .f32⟩
  | .hbm, ⟨17, _⟩ => ⟨S2048x2048, .f32⟩
  | .hbm, ⟨18, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== AdWin.lean ====
abbrev S8x512x1026 : Shape := ⟨3, ![8, 512, 1026]⟩
abbrev S4096x1026 : Shape := ⟨2, ![4096, 1026]⟩
abbrev S8x256x1026 : Shape := ⟨3, ![8, 256, 1026]⟩
abbrev S256x1026 : Shape := ⟨2, ![256, 1026]⟩
abbrev S1x256x1026 : Shape := ⟨3, ![1, 256, 1026]⟩

abbrev nBuf : Space → Nat
  | .hbm => 12
  | .vmem => 16
  | .smem => 0
  | _ => 0

abbrev bufTy : (tb : Table) → Fin (tcTables nBuf tb) → BufTy
  | .hbm, ⟨0, _⟩ => ⟨S8x512x1026, .bf16⟩
  | .hbm, ⟨1, _⟩ => ⟨S4096x1026, .f32⟩
  | .hbm, ⟨2, _⟩ => ⟨S4096x1026, .f32⟩
  | .hbm, ⟨3, _⟩ => ⟨S4096x1026, .f32⟩
  | .hbm, ⟨4, _⟩ => ⟨S4096x1026, .f32⟩
  | .hbm, ⟨5, _⟩ => ⟨S4096x1026, .f32⟩
  | .hbm, ⟨6, _⟩ => ⟨S4096x1026, .f32⟩
  | .hbm, ⟨7, _⟩ => ⟨S4096x1026, .f32⟩
  | .hbm, ⟨8, _⟩ => ⟨S4096x1026, .f32⟩
  | .hbm, ⟨9, _⟩ => ⟨S4096x1026, .f32⟩
  | .hbm, ⟨10, _⟩ => ⟨S4096x1026, .f32⟩
  | .hbm, ⟨11, _⟩ => ⟨S4096x1026, .f32⟩
  | .local _ .vmem, ⟨0, _⟩ => ⟨S8x256x1026, .bf16⟩
  | .local _ .vmem, ⟨1, _⟩ => ⟨S8x256x1026, .bf16⟩
  | .local _ .vmem, ⟨2, _⟩ => ⟨S256x1026, .f32⟩
  | .local _ .vmem, ⟨3, _⟩ => ⟨S256x1026, .f32⟩
  | .local _ .vmem, ⟨4, _⟩ => ⟨S256x1026, .f32⟩
  | .local _ .vmem, ⟨5, _⟩ => ⟨S256x1026, .f32⟩
  | .local _ .vmem, ⟨6, _⟩ => ⟨S256x1026, .f32⟩
  | .local _ .vmem, ⟨7, _⟩ => ⟨S256x1026, .f32⟩
  | .local _ .vmem, ⟨8, _⟩ => ⟨S256x1026, .f32⟩
  | .local _ .vmem, ⟨9, _⟩ => ⟨S256x1026, .f32⟩
  | .local _ .vmem, ⟨10, _⟩ => ⟨S256x1026, .f32⟩
  | .local _ .vmem, ⟨11, _⟩ => ⟨S256x1026, .f32⟩
  | .local _ .vmem, ⟨12, _⟩ => ⟨S256x1026, .f32⟩
  | .local _ .vmem, ⟨13, _⟩ => ⟨S256x1026, .f32⟩
  | .local _ .vmem, ⟨14, _⟩ => ⟨S256x1026, .f32⟩
  | .local _ .vmem, ⟨15, _⟩ => ⟨S256x1026, .f32⟩
  | _, _ => ⟨S8x512x1026, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, v0.toNat, c0_i32_1.toNat]

def cc0_transform_1 (i : grid0.Coords) : Fin 2 → Nat :=
  let arg0 : BitVec 32 := BitVec.ofNat 32 (i 0).val
  let c6_i32 : BitVec 32 := 6#32
  let v0 : BitVec 32 := Scalar.addi c6_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c6_i32 : BitVec 32 := 6#32
  let v0 : BitVec 32 := Scalar.addi c6_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c6_i32 : BitVec 32 := 6#32
  let v0 : BitVec 32 := Scalar.addi c6_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c6_i32 : BitVec 32 := 6#32
  let v0 : BitVec 32 := Scalar.addi c6_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c6_i32 : BitVec 32 := 6#32
  let v0 : BitVec 32 := Scalar.addi c6_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c6_i32 : BitVec 32 := 6#32
  let v0 : BitVec 32 := Scalar.addi c6_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c6_i32 : BitVec 32 := 6#32
  let v0 : BitVec 32 := Scalar.addi c6_i32 arg0
  let c0_i32 : BitVec 32 := 0#32
  let c0_i32_0 : BitVec 32 := 0#32
  ![v0.toNat, c0_i32.toNat]

abbrev stage0_0 : Fin 2 → Memref sig .tc .vmem S8x256x1026 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1026 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1026 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1026 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1026 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1026 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1026 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1026 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdWinRefIdeal.lean ====
abbrev S8x512x1026 : Shape := ⟨3, ![8, 512, 1026]⟩
abbrev S4096x1026 : Shape := ⟨2, ![4096, 1026]⟩
abbrev S_ : Shape := ⟨0, ![]⟩
abbrev S512x1026 : Shape := ⟨2, ![512, 1026]⟩
abbrev S1536x1026 : Shape := ⟨2, ![1536, 1026]⟩
abbrev S2048x1026 : Shape := ⟨2, ![2048, 1026]⟩

abbrev nBuf : Space → Nat
  | .hbm => 59
  | .vmem => 0
  | .smem => 0
  | _ => 0

abbrev bufTy : (tb : Table) → Fin (tcTables nBuf tb) → BufTy
  | .hbm, ⟨0, _⟩ => ⟨S8x512x1026, .bf16⟩
  | .hbm, ⟨1, _⟩ => ⟨S4096x1026, .f32⟩
  | .hbm, ⟨2, _⟩ => ⟨S4096x1026, .f32⟩
  | .hbm, ⟨3, _⟩ => ⟨S4096x1026, .f32⟩
  | .hbm, ⟨4, _⟩ => ⟨S4096x1026, .f32⟩
  | .hbm, ⟨5, _⟩ => ⟨S4096x1026, .f32⟩
  | .hbm, ⟨6, _⟩ => ⟨S4096x1026, .f32⟩
  | .hbm, ⟨7, _⟩ => ⟨S4096x1026, .f32⟩
  | .hbm, ⟨8, _⟩ => ⟨S8x512x1026, .f32⟩
  | .hbm, ⟨9, _⟩ => ⟨S_, .f32⟩
  | .hbm, ⟨10, _⟩ => ⟨S512x1026, .f32⟩
  | .hbm, ⟨11, _⟩ => ⟨S512x1026, .f32⟩
  | .hbm, ⟨12, _⟩ => ⟨S512x1026, .f32⟩
  | .hbm, ⟨13, _⟩ => ⟨S512x1026, .f32⟩
  | .hbm, ⟨14, _⟩ => ⟨S_, .f32⟩
  | .hbm, ⟨15, _⟩ => ⟨S512x1026, .f32⟩
  | .hbm, ⟨16, _⟩ => ⟨S512x1026, .f32⟩
  | .hbm, ⟨17, _⟩ => ⟨S_, .f32⟩
  | .hbm, ⟨18, _⟩ => ⟨S512x1026, .f32⟩
  | .hbm, ⟨19, _⟩ => ⟨S512x1026, .f32⟩
  | .hbm, ⟨20, _⟩ => ⟨S512x1026, .f32⟩
  | .hbm, ⟨21, _⟩ => ⟨S_, .f32⟩
  | .hbm, ⟨22, _⟩ => ⟨S512x1026, .f32⟩
  | .hbm, ⟨23, _⟩ => ⟨S512x1026, .f32⟩
  | .hbm, ⟨24, _⟩ => ⟨S512x1026, .f32⟩
  | .hbm, ⟨25, _⟩ => ⟨S_, .f32⟩
  | .hbm, ⟨26, _⟩ => ⟨S512x1026, .f32⟩
  | .hbm, ⟨27, _⟩ => ⟨S512x1026, .f32⟩
  | .hbm, ⟨28, _⟩ => ⟨S512x1026, .f32⟩
  | .hbm, ⟨29, _⟩ => ⟨S_, .f32⟩
  | .hbm, ⟨30, _⟩ => ⟨S512x1026, .f32⟩
  | .hbm, ⟨31, _⟩ => ⟨S512x1026, .f32⟩
  | .hbm, ⟨32, _⟩ => ⟨S_, .f32⟩
  | .hbm, ⟨33, _⟩ => ⟨S512x1026, .f32⟩
  | .hbm, ⟨34, _⟩ => ⟨S512x1026, .f32⟩
  | .hbm, ⟨35, _⟩ => ⟨S512x1026, .f32⟩
  | .hbm, ⟨36, _⟩ => ⟨S_, .f32⟩
  | .hbm, ⟨37, _⟩ => ⟨S512x1026, .f32⟩
  | .hbm, ⟨38, _⟩ => ⟨S512x1026, .f32⟩
  | .hbm, ⟨39, _⟩ => ⟨S512x1026, .f32⟩
  | .hbm, ⟨40, _⟩ => ⟨S_, .f32⟩
  | .hbm, ⟨41, _⟩ => ⟨S512x1026, .f32⟩
  | .hbm, ⟨42, _⟩ => ⟨S512x1026, .f32⟩
  | .hbm, ⟨43, _⟩ => ⟨S512x1026, .f32⟩
  | .hbm, ⟨44, _⟩ => ⟨S_, .f32⟩
  | .hbm, ⟨45, _⟩ => ⟨S512x1026, .f32⟩
  | .hbm, ⟨46, _⟩ => ⟨S512x1026, .f32⟩
  | .hbm, ⟨47, _⟩ => ⟨S1536x1026, .f32⟩
  | .hbm, ⟨48, _⟩ => ⟨S2048x1026, .f32⟩
  | .hbm, ⟨49, _⟩ => ⟨S4096x1026, .f32⟩
  | .hbm, ⟨50, _⟩ => ⟨S1536x1026, .f32⟩
  | .hbm, ⟨51, _⟩ => ⟨S2048x1026, .f32⟩
  | .hbm, ⟨52, _⟩ => ⟨S4096x1026, .f32⟩
  | .hbm, ⟨53, _⟩ => ⟨S1536x1026, .f32⟩
  | .hbm, ⟨54, _⟩ => ⟨S2048x1026, .f32⟩
  | .hbm, ⟨55, _⟩ => ⟨S4096x1026, .f32⟩
  | .hbm, ⟨56, _⟩ => ⟨S1536x1026, .f32⟩
  | .hbm, ⟨57, _⟩ => ⟨S2048x1026, .f32⟩
  | .hbm, ⟨58, _⟩ => ⟨S4096x1026, .f32⟩
  | _, _ => ⟨S8x512x1026, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_cst_5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_6 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_7 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_8 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩

abbrev nD : Nat := 1
abbrev τ : Topo := Topo.v7x

variable {F : FTy → Type} [FloatOps F]
-- ==== AdWo.lean ====
abbrev S8x544x2048 : Shape := ⟨3, ![8, 544, 2048]⟩
abbrev S512x2048 : Shape := ⟨2, ![512, 2048]⟩
abbrev S8x256x2048 : Shape := ⟨3, ![8, 256, 2048]⟩
abbrev S256x2048 : Shape := ⟨2, ![256, 2048]⟩
abbrev S1x256x2048 : Shape := ⟨3, ![1, 256, 2048]⟩

abbrev nBuf : Space → Nat
  | .hbm => 12
  | .vmem => 8
  | .smem => 0
  | _ => 0

abbrev bufTy : (tb : Table) → Fin (tcTables nBuf tb) → BufTy
  | .hbm, ⟨0, _⟩ => ⟨S8x544x2048, .bf16⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S512x2048, .f32⟩
  | .hbm, ⟨8, _⟩ => ⟨S512x2048, .f32⟩
  | .hbm, ⟨9, _⟩ => ⟨S512x2048, .f32⟩
  | .hbm, ⟨10, _⟩ => ⟨S512x2048, .f32⟩
  | .hbm, ⟨11, _⟩ => ⟨S512x2048, .f32⟩
  | .local _ .vmem, ⟨0, _⟩ => ⟨S8x256x2048, .bf16⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | _, _ => ⟨S8x544x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, v0.toNat, c0_i32_1.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_8 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_9 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_10 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_11 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 1 → Memref sig .tc .vmem S8x256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdWoRefIdeal.lean ====
abbrev S8x544x2048 : Shape := ⟨3, ![8, 544, 2048]⟩
abbrev S512x2048 : Shape := ⟨2, ![512, 2048]⟩
abbrev S8x256x2048 : Shape := ⟨3, ![8, 256, 2048]⟩
abbrev S_ : Shape := ⟨0, ![]⟩
abbrev S256x2048 : Shape := ⟨2, ![256, 2048]⟩
abbrev S0x2048 : Shape := ⟨2, ![0, 2048]⟩

abbrev nBuf : Space → Nat
  | .hbm => 60
  | .vmem => 0
  | .smem => 0
  | _ => 0

abbrev bufTy : (tb : Table) → Fin (tcTables nBuf tb) → BufTy
  | .hbm, ⟨0, _⟩ => ⟨S8x544x2048, .bf16⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S512x2048, .f32⟩
  | .hbm, ⟨8, _⟩ => ⟨S8x256x2048, .bf16⟩
  | .hbm, ⟨9, _⟩ => ⟨S8x256x2048, .f32⟩
  | .hbm, ⟨10, _⟩ => ⟨S_, .f32⟩
  | .hbm, ⟨11, _⟩ => ⟨S256x2048, .f32⟩
  | .hbm, ⟨12, _⟩ => ⟨S256x2048, .f32⟩
  | .hbm, ⟨13, _⟩ => ⟨S256x2048, .f32⟩
  | .hbm, ⟨14, _⟩ => ⟨S256x2048, .f32⟩
  | .hbm, ⟨15, _⟩ => ⟨S_, .f32⟩
  | .hbm, ⟨16, _⟩ => ⟨S256x2048, .f32⟩
  | .hbm, ⟨17, _⟩ => ⟨S256x2048, .f32⟩
  | .hbm, ⟨18, _⟩ => ⟨S_, .f32⟩
  | .hbm, ⟨19, _⟩ => ⟨S256x2048, .f32⟩
  | .hbm, ⟨20, _⟩ => ⟨S256x2048, .f32⟩
  | .hbm, ⟨21, _⟩ => ⟨S256x2048, .f32⟩
  | .hbm, ⟨22, _⟩ => ⟨S_, .f32⟩
  | .hbm, ⟨23, _⟩ => ⟨S256x2048, .f32⟩
  | .hbm, ⟨24, _⟩ => ⟨S256x2048, .f32⟩
  | .hbm, ⟨25, _⟩ => ⟨S256x2048, .f32⟩
  | .hbm, ⟨26, _⟩ => ⟨S_, .f32⟩
  | .hbm, ⟨27, _⟩ => ⟨S256x2048, .f32⟩
  | .hbm, ⟨28, _⟩ => ⟨S256x2048, .f32⟩
  | .hbm, ⟨29, _⟩ => ⟨S256x2048, .f32⟩
  | .hbm, ⟨30, _⟩ => ⟨S_, .f32⟩
  | .hbm, ⟨31, _⟩ => ⟨S256x2048, .f32⟩
  | .hbm, ⟨32, _⟩ => ⟨S256x2048, .f32⟩
  | .hbm, ⟨33, _⟩ => ⟨S_, .f32⟩
  | .hbm, ⟨34, _⟩ => ⟨S256x2048, .f32⟩
  | .hbm, ⟨35, _⟩ => ⟨S256x2048, .f32⟩
  | .hbm, ⟨36, _⟩ => ⟨S256x2048, .f32⟩
  | .hbm, ⟨37, _⟩ => ⟨S_, .f32⟩
  | .hbm, ⟨38, _⟩ => ⟨S256x2048, .f32⟩
  | .hbm, ⟨39, _⟩ => ⟨S256x2048, .f32⟩
  | .hbm, ⟨40, _⟩ => ⟨S256x2048, .f32⟩
  | .hbm, ⟨41, _⟩ => ⟨S_, .f32⟩
  | .hbm, ⟨42, _⟩ => ⟨S256x2048, .f32⟩
  | .hbm, ⟨43, _⟩ => ⟨S256x2048, .f32⟩
  | .hbm, ⟨44, _⟩ => ⟨S256x2048, .f32⟩
  | .hbm, ⟨45, _⟩ => ⟨S_, .f32⟩
  | .hbm, ⟨46, _⟩ => ⟨S256x2048, .f32⟩
  | .hbm, ⟨47, _⟩ => ⟨S256x2048, .f32⟩
  | .hbm, ⟨48, _⟩ => ⟨S0x2048, .f32⟩
  | .hbm, ⟨49, _⟩ => ⟨S256x2048, .f32⟩
  | .hbm, ⟨50, _⟩ => ⟨S512x2048, .f32⟩
  | .hbm, ⟨51, _⟩ => ⟨S0x2048, .f32⟩
  | .hbm, ⟨52, _⟩ => ⟨S256x2048, .f32⟩
  | .hbm, ⟨53, _⟩ => ⟨S512x2048, .f32⟩
  | .hbm, ⟨54, _⟩ => ⟨S0x2048, .f32⟩
  | .hbm, ⟨55, _⟩ => ⟨S256x2048, .f32⟩
  | .hbm, ⟨56, _⟩ => ⟨S512x2048, .f32⟩
  | .hbm, ⟨57, _⟩ => ⟨S0x2048, .f32⟩
  | .hbm, ⟨58, _⟩ => ⟨S256x2048, .f32⟩
  | .hbm, ⟨59, _⟩ => ⟨S512x2048, .f32⟩
  | _, _ => ⟨S8x544x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_v18 : Ref sig .tc := ⟨.hbm, 32, rfl⟩
abbrev main_cst_5 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_6 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_7 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_8 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩

abbrev nD : Nat := 1
abbrev τ : Topo := Topo.v7x

variable {F : FTy → Type} [FloatOps F]
-- ==== AdWg.lean ====
abbrev S8x544x2048 : Shape := ⟨3, ![8, 544, 2048]⟩
abbrev S512x2048 : Shape := ⟨2, ![512, 2048]⟩
abbrev S8x256x2048 : Shape := ⟨3, ![8, 256, 2048]⟩
abbrev S256x2048 : Shape := ⟨2, ![256, 2048]⟩
abbrev S1x256x2048 : Shape := ⟨3, ![1, 256, 2048]⟩

abbrev nBuf : Space → Nat
  | .hbm => 12
  | .vmem => 8
  | .smem => 0
  | _ => 0

abbrev bufTy : (tb : Table) → Fin (tcTables nBuf tb) → BufTy
  | .hbm, ⟨0, _⟩ => ⟨S8x544x2048, .bf16⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S512x2048, .f32⟩
  | .hbm, ⟨8, _⟩ => ⟨S512x2048, .f32⟩
  | .hbm, ⟨9, _⟩ => ⟨S512x2048, .f32⟩
  | .hbm, ⟨10, _⟩ => ⟨S512x2048, .f32⟩
  | .hbm, ⟨11, _⟩ => ⟨S512x2048, .f32⟩
  | .local _ .vmem, ⟨0, _⟩ => ⟨S8x256x2048, .bf16⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | _, _ => ⟨S8x544x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c1_i32 : BitVec 32 := 1#32
  let v0 : BitVec 32 := Scalar.addi c1_i32 arg0
  let c0_i32 : BitVec 32 := 0#32
  let c0_i32_0 : BitVec 32 := 0#32
  let c0_i32_1 : BitVec 32 := 0#32
  ![c0_i32.toNat, v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_8 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_9 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_10 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_11 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 1 → Memref sig .tc .vmem S8x256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdWgRefIdeal.lean ====
abbrev S8x544x2048 : Shape := ⟨3, ![8, 544, 2048]⟩
abbrev S512x2048 : Shape := ⟨2, ![512, 2048]⟩
abbrev S8x256x2048 : Shape := ⟨3, ![8, 256, 2048]⟩
abbrev S_ : Shape := ⟨0, ![]⟩
abbrev S256x2048 : Shape := ⟨2, ![256, 2048]⟩
abbrev S0x2048 : Shape := ⟨2, ![0, 2048]⟩

abbrev nBuf : Space → Nat
  | .hbm => 60
  | .vmem => 0
  | .smem => 0
  | _ => 0

abbrev bufTy : (tb : Table) → Fin (tcTables nBuf tb) → BufTy
  | .hbm, ⟨0, _⟩ => ⟨S8x544x2048, .bf16⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S512x2048, .f32⟩
  | .hbm, ⟨8, _⟩ => ⟨S8x256x2048, .bf16⟩
  | .hbm, ⟨9, _⟩ => ⟨S8x256x2048, .f32⟩
  | .hbm, ⟨10, _⟩ => ⟨S_, .f32⟩
  | .hbm, ⟨11, _⟩ => ⟨S256x2048, .f32⟩
  | .hbm, ⟨12, _⟩ => ⟨S256x2048, .f32⟩
  | .hbm, ⟨13, _⟩ => ⟨S256x2048, .f32⟩
  | .hbm, ⟨14, _⟩ => ⟨S256x2048, .f32⟩
  | .hbm, ⟨15, _⟩ => ⟨S_, .f32⟩
  | .hbm, ⟨16, _⟩ => ⟨S256x2048, .f32⟩
  | .hbm, ⟨17, _⟩ => ⟨S256x2048, .f32⟩
  | .hbm, ⟨18, _⟩ => ⟨S_, .f32⟩
  | .hbm, ⟨19, _⟩ => ⟨S256x2048, .f32⟩
  | .hbm, ⟨20, _⟩ => ⟨S256x2048, .f32⟩
  | .hbm, ⟨21, _⟩ => ⟨S256x2048, .f32⟩
  | .hbm, ⟨22, _⟩ => ⟨S_, .f32⟩
  | .hbm, ⟨23, _⟩ => ⟨S256x2048, .f32⟩
  | .hbm, ⟨24, _⟩ => ⟨S256x2048, .f32⟩
  | .hbm, ⟨25, _⟩ => ⟨S256x2048, .f32⟩
  | .hbm, ⟨26, _⟩ => ⟨S_, .f32⟩
  | .hbm, ⟨27, _⟩ => ⟨S256x2048, .f32⟩
  | .hbm, ⟨28, _⟩ => ⟨S256x2048, .f32⟩
  | .hbm, ⟨29, _⟩ => ⟨S256x2048, .f32⟩
  | .hbm, ⟨30, _⟩ => ⟨S_, .f32⟩
  | .hbm, ⟨31, _⟩ => ⟨S256x2048, .f32⟩
  | .hbm, ⟨32, _⟩ => ⟨S256x2048, .f32⟩
  | .hbm, ⟨33, _⟩ => ⟨S_, .f32⟩
  | .hbm, ⟨34, _⟩ => ⟨S256x2048, .f32⟩
  | .hbm, ⟨35, _⟩ => ⟨S256x2048, .f32⟩
  | .hbm, ⟨36, _⟩ => ⟨S256x2048, .f32⟩
  | .hbm, ⟨37, _⟩ => ⟨S_, .f32⟩
  | .hbm, ⟨38, _⟩ => ⟨S256x2048, .f32⟩
  | .hbm, ⟨39, _⟩ => ⟨S256x2048, .f32⟩
  | .hbm, ⟨40, _⟩ => ⟨S256x2048, .f32⟩
  | .hbm, ⟨41, _⟩ => ⟨S_, .f32⟩
  | .hbm, ⟨42, _⟩ => ⟨S256x2048, .f32⟩
  | .hbm, ⟨43, _⟩ => ⟨S256x2048, .f32⟩
  | .hbm, ⟨44, _⟩ => ⟨S256x2048, .f32⟩
  | .hbm, ⟨45, _⟩ => ⟨S_, .f32⟩
  | .hbm, ⟨46, _⟩ => ⟨S256x2048, .f32⟩
  | .hbm, ⟨47, _⟩ => ⟨S256x2048, .f32⟩
  | .hbm, ⟨48, _⟩ => ⟨S0x2048, .f32⟩
  | .hbm, ⟨49, _⟩ => ⟨S256x2048, .f32⟩
  | .hbm, ⟨50, _⟩ => ⟨S512x2048, .f32⟩
  | .hbm, ⟨51, _⟩ => ⟨S0x2048, .f32⟩
  | .hbm, ⟨52, _⟩ => ⟨S256x2048, .f32⟩
  | .hbm, ⟨53, _⟩ => ⟨S512x2048, .f32⟩
  | .hbm, ⟨54, _⟩ => ⟨S0x2048, .f32⟩
  | .hbm, ⟨55, _⟩ => ⟨S256x2048, .f32⟩
  | .hbm, ⟨56, _⟩ => ⟨S512x2048, .f32⟩
  | .hbm, ⟨57, _⟩ => ⟨S0x2048, .f32⟩
  | .hbm, ⟨58, _⟩ => ⟨S256x2048, .f32⟩
  | .hbm, ⟨59, _⟩ => ⟨S512x2048, .f32⟩
  | _, _ => ⟨S8x544x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_v18 : Ref sig .tc := ⟨.hbm, 32, rfl⟩
abbrev main_cst_5 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_6 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_7 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_8 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩

abbrev nD : Nat := 1
abbrev τ : Topo := Topo.v7x

variable {F : FTy → Type} [FloatOps F]
-- ==== AdWu.lean ====
abbrev S8x544x2048 : Shape := ⟨3, ![8, 544, 2048]⟩
abbrev S64x2048 : Shape := ⟨2, ![64, 2048]⟩
abbrev S8x32x2048 : Shape := ⟨3, ![8, 32, 2048]⟩
abbrev S32x2048 : Shape := ⟨2, ![32, 2048]⟩
abbrev S1x32x2048 : Shape := ⟨3, ![1, 32, 2048]⟩

abbrev nBuf : Space → Nat
  | .hbm => 12
  | .vmem => 8
  | .smem => 0
  | _ => 0

abbrev bufTy : (tb : Table) → Fin (tcTables nBuf tb) → BufTy
  | .hbm, ⟨0, _⟩ => ⟨S8x544x2048, .bf16⟩
  | .hbm, ⟨1, _⟩ => ⟨S64x2048, .f32⟩
  | .hbm, ⟨2, _⟩ => ⟨S64x2048, .f32⟩
  | .hbm, ⟨3, _⟩ => ⟨S64x2048, .f32⟩
  | .hbm, ⟨4, _⟩ => ⟨S64x2048, .f32⟩
  | .hbm, ⟨5, _⟩ => ⟨S64x2048, .f32⟩
  | .hbm, ⟨6, _⟩ => ⟨S64x2048, .f32⟩
  | .hbm, ⟨7, _⟩ => ⟨S64x2048, .f32⟩
  | .hbm, ⟨8, _⟩ => ⟨S64x2048, .f32⟩
  | .hbm, ⟨9, _⟩ => ⟨S64x2048, .f32⟩
  | .hbm, ⟨10, _⟩ => ⟨S64x2048, .f32⟩
  | .hbm, ⟨11, _⟩ => ⟨S64x2048, .f32⟩
  | .local _ .vmem, ⟨0, _⟩ => ⟨S8x32x2048, .bf16⟩
  | .local _ .vmem, ⟨1, _⟩ => ⟨S32x2048, .f32⟩
  | .local _ .vmem, ⟨2, _⟩ => ⟨S32x2048, .f32⟩
  | .local _ .vmem, ⟨3, _⟩ => ⟨S32x2048, .f32⟩
  | .local _ .vmem, ⟨4, _⟩ => ⟨S32x2048, .f32⟩
  | .local _ .vmem, ⟨5, _⟩ => ⟨S32x2048, .f32⟩
  | .local _ .vmem, ⟨6, _⟩ => ⟨S32x2048, .f32⟩
  | .local _ .vmem, ⟨7, _⟩ => ⟨S32x2048, .f32⟩
  | _, _ => ⟨S8x544x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  let c0_i32_1 : BitVec 32 := 0#32
  ![c0_i32.toNat, v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_8 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_9 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_10 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_11 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 1 → Memref sig .tc .vmem S8x32x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S32x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S32x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S32x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S32x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S32x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S32x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdWuRefIdeal.lean ====
abbrev S8x544x2048 : Shape := ⟨3, ![8, 544, 2048]⟩
abbrev S64x2048 : Shape := ⟨2, ![64, 2048]⟩
abbrev S8x32x2048 : Shape := ⟨3, ![8, 32, 2048]⟩
abbrev S_ : Shape := ⟨0, ![]⟩
abbrev S32x2048 : Shape := ⟨2, ![32, 2048]⟩
abbrev S0x2048 : Shape := ⟨2, ![0, 2048]⟩

abbrev nBuf : Space → Nat
  | .hbm => 60
  | .vmem => 0
  | .smem => 0
  | _ => 0

abbrev bufTy : (tb : Table) → Fin (tcTables nBuf tb) → BufTy
  | .hbm, ⟨0, _⟩ => ⟨S8x544x2048, .bf16⟩
  | .hbm, ⟨1, _⟩ => ⟨S64x2048, .f32⟩
  | .hbm, ⟨2, _⟩ => ⟨S64x2048, .f32⟩
  | .hbm, ⟨3, _⟩ => ⟨S64x2048, .f32⟩
  | .hbm, ⟨4, _⟩ => ⟨S64x2048, .f32⟩
  | .hbm, ⟨5, _⟩ => ⟨S64x2048, .f32⟩
  | .hbm, ⟨6, _⟩ => ⟨S64x2048, .f32⟩
  | .hbm, ⟨7, _⟩ => ⟨S64x2048, .f32⟩
  | .hbm, ⟨8, _⟩ => ⟨S8x32x2048, .bf16⟩
  | .hbm, ⟨9, _⟩ => ⟨S8x32x2048, .f32⟩
  | .hbm, ⟨10, _⟩ => ⟨S_, .f32⟩
  | .hbm, ⟨11, _⟩ => ⟨S32x2048, .f32⟩
  | .hbm, ⟨12, _⟩ => ⟨S32x2048, .f32⟩
  | .hbm, ⟨13, _⟩ => ⟨S32x2048, .f32⟩
  | .hbm, ⟨14, _⟩ => ⟨S32x2048, .f32⟩
  | .hbm, ⟨15, _⟩ => ⟨S_, .f32⟩
  | .hbm, ⟨16, _⟩ => ⟨S32x2048, .f32⟩
  | .hbm, ⟨17, _⟩ => ⟨S32x2048, .f32⟩
  | .hbm, ⟨18, _⟩ => ⟨S_, .f32⟩
  | .hbm, ⟨19, _⟩ => ⟨S32x2048, .f32⟩
  | .hbm, ⟨20, _⟩ => ⟨S32x2048, .f32⟩
  | .hbm, ⟨21, _⟩ => ⟨S32x2048, .f32⟩
  | .hbm, ⟨22, _⟩ => ⟨S_, .f32⟩
  | .hbm, ⟨23, _⟩ => ⟨S32x2048, .f32⟩
  | .hbm, ⟨24, _⟩ => ⟨S32x2048, .f32⟩
  | .hbm, ⟨25, _⟩ => ⟨S32x2048, .f32⟩
  | .hbm, ⟨26, _⟩ => ⟨S_, .f32⟩
  | .hbm, ⟨27, _⟩ => ⟨S32x2048, .f32⟩
  | .hbm, ⟨28, _⟩ => ⟨S32x2048, .f32⟩
  | .hbm, ⟨29, _⟩ => ⟨S32x2048, .f32⟩
  | .hbm, ⟨30, _⟩ => ⟨S_, .f32⟩
  | .hbm, ⟨31, _⟩ => ⟨S32x2048, .f32⟩
  | .hbm, ⟨32, _⟩ => ⟨S32x2048, .f32⟩
  | .hbm, ⟨33, _⟩ => ⟨S_, .f32⟩
  | .hbm, ⟨34, _⟩ => ⟨S32x2048, .f32⟩
  | .hbm, ⟨35, _⟩ => ⟨S32x2048, .f32⟩
  | .hbm, ⟨36, _⟩ => ⟨S32x2048, .f32⟩
  | .hbm, ⟨37, _⟩ => ⟨S_, .f32⟩
  | .hbm, ⟨38, _⟩ => ⟨S32x2048, .f32⟩
  | .hbm, ⟨39, _⟩ => ⟨S32x2048, .f32⟩
  | .hbm, ⟨40, _⟩ => ⟨S32x2048, .f32⟩
  | .hbm, ⟨41, _⟩ => ⟨S_, .f32⟩
  | .hbm, ⟨42, _⟩ => ⟨S32x2048, .f32⟩
  | .hbm, ⟨43, _⟩ => ⟨S32x2048, .f32⟩
  | .hbm, ⟨44, _⟩ => ⟨S32x2048, .f32⟩
  | .hbm, ⟨45, _⟩ => ⟨S_, .f32⟩
  | .hbm, ⟨46, _⟩ => ⟨S32x2048, .f32⟩
  | .hbm, ⟨47, _⟩ => ⟨S32x2048, .f32⟩
  | .hbm, ⟨48, _⟩ => ⟨S0x2048, .f32⟩
  | .hbm, ⟨49, _⟩ => ⟨S32x2048, .f32⟩
  | .hbm, ⟨50, _⟩ => ⟨S64x2048, .f32⟩
  | .hbm, ⟨51, _⟩ => ⟨S0x2048, .f32⟩
  | .hbm, ⟨52, _⟩ => ⟨S32x2048, .f32⟩
  | .hbm, ⟨53, _⟩ => ⟨S64x2048, .f32⟩
  | .hbm, ⟨54, _⟩ => ⟨S0x2048, .f32⟩
  | .hbm, ⟨55, _⟩ => ⟨S32x2048, .f32⟩
  | .hbm, ⟨56, _⟩ => ⟨S64x2048, .f32⟩
  | .hbm, ⟨57, _⟩ => ⟨S0x2048, .f32⟩
  | .hbm, ⟨58, _⟩ => ⟨S32x2048, .f32⟩
  | .hbm, ⟨59, _⟩ => ⟨S64x2048, .f32⟩
  | _, _ => ⟨S8x544x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_v18 : Ref sig .tc := ⟨.hbm, 32, rfl⟩
abbrev main_cst_5 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_6 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_7 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_8 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩

abbrev nD : Nat := 1
abbrev τ : Topo := Topo.v7x

variable {F : FTy → Type} [FloatOps F]
-- ==== AdSmall.lean ====
abbrev S64x128 : Shape := ⟨2, ![64, 128]⟩
abbrev S1x64x128 : Shape := ⟨3, ![1, 64, 128]⟩

abbrev nBuf : Space → Nat
  | .hbm => 9
  | .vmem => 8
  | .smem => 0
  | _ => 0

abbrev bufTy : (tb : Table) → Fin (tcTables nBuf tb) → BufTy
  | .hbm, ⟨0, _⟩ => ⟨S64x128, .f32⟩
  | .hbm, ⟨1, _⟩ => ⟨S64x128, .f32⟩
  | .hbm, ⟨2, _⟩ => ⟨S64x128, .f32⟩
  | .hbm, ⟨3, _⟩ => ⟨S64x128, .f32⟩
  | .hbm, ⟨4, _⟩ => ⟨S1x64x128, .f32⟩
  | .hbm, ⟨5, _⟩ => ⟨S64x128, .f32⟩
  | .hbm, ⟨6, _⟩ => ⟨S64x128, .f32⟩
  | .hbm, ⟨7, _⟩ => ⟨S64x128, .f32⟩
  | .hbm, ⟨8, _⟩ => ⟨S64x128, .f32⟩
  | .local _ .vmem, ⟨0, _⟩ => ⟨S1x64x128, .f32⟩
  | .local _ .vmem, ⟨1, _⟩ => ⟨S64x128, .f32⟩
  | .local _ .vmem, ⟨2, _⟩ => ⟨S64x128, .f32⟩
  | .local _ .vmem, ⟨3, _⟩ => ⟨S64x128, .f32⟩
  | .local _ .vmem, ⟨4, _⟩ => ⟨S64x128, .f32⟩
  | .local _ .vmem, ⟨5, _⟩ => ⟨S64x128, .f32⟩
  | .local _ .vmem, ⟨6, _⟩ => ⟨S64x128, .f32⟩
  | .local _ .vmem, ⟨7, _⟩ => ⟨S64x128, .f32⟩
  | _, _ => ⟨S64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, v0.toNat, c0_i32_1.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 1 → Memref sig .tc .vmem S1x64x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S64x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S64x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdSmallRefIdeal.lean ====
abbrev S64x128 : Shape := ⟨2, ![64, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S64x128, .f32⟩
  | .hbm, ⟨1, _⟩ => ⟨S64x128, .f32⟩
  | .hbm, ⟨2, _⟩ => ⟨S64x128, .f32⟩
  | .hbm, ⟨3, _⟩ => ⟨S64x128, .f32⟩
  | .hbm, ⟨4, _⟩ => ⟨S_, .f32⟩
  | .hbm, ⟨5, _⟩ => ⟨S64x128, .f32⟩
  | .hbm, ⟨6, _⟩ => ⟨S64x128, .f32⟩
  | .hbm, ⟨7, _⟩ => ⟨S_, .f32⟩
  | .hbm, ⟨8, _⟩ => ⟨S64x128, .f32⟩
  | .hbm, ⟨9, _⟩ => ⟨S64x128, .f32⟩
  | .hbm, ⟨10, _⟩ => ⟨S64x128, .f32⟩
  | .hbm, ⟨11, _⟩ => ⟨S_, .f32⟩
  | .hbm, ⟨12, _⟩ => ⟨S64x128, .f32⟩
  | .hbm, ⟨13, _⟩ => ⟨S64x128, .f32⟩
  | .hbm, ⟨14, _⟩ => ⟨S64x128, .f32⟩
  | .hbm, ⟨15, _⟩ => ⟨S_, .f32⟩
  | .hbm, ⟨16, _⟩ => ⟨S64x128, .f32⟩
  | .hbm, ⟨17, _⟩ => ⟨S64x128, .f32⟩
  | .hbm, ⟨18, _⟩ => ⟨S64x128, .f32⟩
  | .hbm, ⟨19, _⟩ => ⟨S_, .f32⟩
  | .hbm, ⟨20, _⟩ => ⟨S64x128, .f32⟩
  | .hbm, ⟨21, _⟩ => ⟨S64x128, .f32⟩
  | .hbm, ⟨22, _⟩ => ⟨S_, .f32⟩
  | .hbm, ⟨23, _⟩ => ⟨S64x128, .f32⟩
  | .hbm, ⟨24, _⟩ => ⟨S64x128, .f32⟩
  | .hbm, ⟨25, _⟩ => ⟨S64x128, .f32⟩
  | .hbm, ⟨26, _⟩ => ⟨S_, .f32⟩
  | .hbm, ⟨27, _⟩ => ⟨S64x128, .f32⟩
  | .hbm, ⟨28, _⟩ => ⟨S64x128, .f32⟩
  | .hbm, ⟨29, _⟩ => ⟨S64x128, .f32⟩
  | .hbm, ⟨30, _⟩ => ⟨S_, .f32⟩
  | .hbm, ⟨31, _⟩ => ⟨S64x128, .f32⟩
  | .hbm, ⟨32, _⟩ => ⟨S64x128, .f32⟩
  | .hbm, ⟨33, _⟩ => ⟨S64x128, .f32⟩
  | .hbm, ⟨34, _⟩ => ⟨S_, .f32⟩
  | .hbm, ⟨35, _⟩ => ⟨S64x128, .f32⟩
  | .hbm, ⟨36, _⟩ => ⟨S64x128, .f32⟩
  | _, _ => ⟨S64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdNw.lean ====
abbrev S32x128 : Shape := ⟨2, ![32, 128]⟩
abbrev S1x32x128 : Shape := ⟨3, ![1, 32, 128]⟩

abbrev nBuf : Space → Nat
  | .hbm => 9
  | .vmem => 8
  | .smem => 0
  | _ => 0

abbrev bufTy : (tb : Table) → Fin (tcTables nBuf tb) → BufTy
  | .hbm, ⟨0, _⟩ => ⟨S32x128, .f32⟩
  | .hbm, ⟨1, _⟩ => ⟨S32x128, .f32⟩
  | .hbm, ⟨2, _⟩ => ⟨S32x128, .f32⟩
  | .hbm, ⟨3, _⟩ => ⟨S32x128, .f32⟩
  | .hbm, ⟨4, _⟩ => ⟨S1x32x128, .f32⟩
  | .hbm, ⟨5, _⟩ => ⟨S32x128, .f32⟩
  | .hbm, ⟨6, _⟩ => ⟨S32x128, .f32⟩
  | .hbm, ⟨7, _⟩ => ⟨S32x128, .f32⟩
  | .hbm, ⟨8, _⟩ => ⟨S32x128, .f32⟩
  | .local _ .vmem, ⟨0, _⟩ => ⟨S1x32x128, .f32⟩
  | .local _ .vmem, ⟨1, _⟩ => ⟨S32x128, .f32⟩
  | .local _ .vmem, ⟨2, _⟩ => ⟨S32x128, .f32⟩
  | .local _ .vmem, ⟨3, _⟩ => ⟨S32x128, .f32⟩
  | .local _ .vmem, ⟨4, _⟩ => ⟨S32x128, .f32⟩
  | .local _ .vmem, ⟨5, _⟩ => ⟨S32x128, .f32⟩
  | .local _ .vmem, ⟨6, _⟩ => ⟨S32x128, .f32⟩
  | .local _ .vmem, ⟨7, _⟩ => ⟨S32x128, .f32⟩
  | _, _ => ⟨S32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, v0.toNat, c0_i32_1.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 1 → Memref sig .tc .vmem S1x32x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S32x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S32x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S32x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdNwRefIdeal.lean ====
abbrev S32x128 : Shape := ⟨2, ![32, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S32x128, .f32⟩
  | .hbm, ⟨1, _⟩ => ⟨S32x128, .f32⟩
  | .hbm, ⟨2, _⟩ => ⟨S32x128, .f32⟩
  | .hbm, ⟨3, _⟩ => ⟨S32x128, .f32⟩
  | .hbm, ⟨4, _⟩ => ⟨S_, .f32⟩
  | .hbm, ⟨5, _⟩ => ⟨S32x128, .f32⟩
  | .hbm, ⟨6, _⟩ => ⟨S32x128, .f32⟩
  | .hbm, ⟨7, _⟩ => ⟨S_, .f32⟩
  | .hbm, ⟨8, _⟩ => ⟨S32x128, .f32⟩
  | .hbm, ⟨9, _⟩ => ⟨S32x128, .f32⟩
  | .hbm, ⟨10, _⟩ => ⟨S32x128, .f32⟩
  | .hbm, ⟨11, _⟩ => ⟨S_, .f32⟩
  | .hbm, ⟨12, _⟩ => ⟨S32x128, .f32⟩
  | .hbm, ⟨13, _⟩ => ⟨S32x128, .f32⟩
  | .hbm, ⟨14, _⟩ => ⟨S32x128, .f32⟩
  | .hbm, ⟨15, _⟩ => ⟨S_, .f32⟩
  | .hbm, ⟨16, _⟩ => ⟨S32x128, .f32⟩
  | .hbm, ⟨17, _⟩ => ⟨S32x128, .f32⟩
  | .hbm, ⟨18, _⟩ => ⟨S32x128, .f32⟩
  | .hbm, ⟨19, _⟩ => ⟨S_, .f32⟩
  | .hbm, ⟨20, _⟩ => ⟨S32x128, .f32⟩
  | .hbm, ⟨21, _⟩ => ⟨S32x128, .f32⟩
  | .hbm, ⟨22, _⟩ => ⟨S_, .f32⟩
  | .hbm, ⟨23, _⟩ => ⟨S32x128, .f32⟩
  | .hbm, ⟨24, _⟩ => ⟨S32x128, .f32⟩
  | .hbm, ⟨25, _⟩ => ⟨S32x128, .f32⟩
  | .hbm, ⟨26, _⟩ => ⟨S_, .f32⟩
  | .hbm, ⟨27, _⟩ => ⟨S32x128, .f32⟩
  | .hbm, ⟨28, _⟩ => ⟨S32x128, .f32⟩
  | .hbm, ⟨29, _⟩ => ⟨S32x128, .f32⟩
  | .hbm, ⟨30, _⟩ => ⟨S_, .f32⟩
  | .hbm, ⟨31, _⟩ => ⟨S32x128, .f32⟩
  | .hbm, ⟨32, _⟩ => ⟨S32x128, .f32⟩
  | .hbm, ⟨33, _⟩ => ⟨S32x128, .f32⟩
  | .hbm, ⟨34, _⟩ => ⟨S_, .f32⟩
  | .hbm, ⟨35, _⟩ => ⟨S32x128, .f32⟩
  | .hbm, ⟨36, _⟩ => ⟨S32x128, .f32⟩
  | _, _ => ⟨S32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== SumSmall.lean ====
abbrev S8x248x128 : Shape := ⟨3, ![8, 248, 128]⟩
abbrev S248x128 : Shape := ⟨2, ![248, 128]⟩
abbrev S1x248x128 : Shape := ⟨3, ![1, 248, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x248x128, .f32⟩
  | .hbm, ⟨1, _⟩ => ⟨S248x128, .f32⟩
  | .local _ .vmem, ⟨0, _⟩ => ⟨S8x248x128, .f32⟩
  | .local _ .vmem, ⟨1, _⟩ => ⟨S248x128, .f32⟩
  | _, _ => ⟨S8x248x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x248x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S248x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== SumSmallRefIdeal.lean ====
abbrev S8x248x128 : Shape := ⟨3, ![8, 248, 128]⟩
abbrev S_ : Shape := ⟨0, ![]⟩
abbrev S248x128 : Shape := ⟨2, ![248, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x248x128, .f32⟩
  | .hbm, ⟨1, _⟩ => ⟨S_, .f32⟩
  | .hbm, ⟨2, _⟩ => ⟨S248x128, .f32⟩
  | _, _ => ⟨S8x248x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== SumNw.lean ====
abbrev S8x16x128 : Shape := ⟨3, ![8, 16, 128]⟩
abbrev S16x128 : Shape := ⟨2, ![16, 128]⟩
abbrev S1x16x128 : Shape := ⟨3, ![1, 16, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x16x128, .f32⟩
  | .hbm, ⟨1, _⟩ => ⟨S16x128, .f32⟩
  | .local _ .vmem, ⟨0, _⟩ => ⟨S8x16x128, .f32⟩
  | .local _ .vmem, ⟨1, _⟩ => ⟨S16x128, .f32⟩
  | _, _ => ⟨S8x16x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== SumNwRefIdeal.lean ====
abbrev S8x16x128 : Shape := ⟨3, ![8, 16, 128]⟩
abbrev S_ : Shape := ⟨0, ![]⟩
abbrev S16x128 : Shape := ⟨2, ![16, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x16x128, .f32⟩
  | .hbm, ⟨1, _⟩ => ⟨S_, .f32⟩
  | .hbm, ⟨2, _⟩ => ⟨S16x128, .f32⟩
  | _, _ => ⟨S8x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== GateB.lean ====
abbrev S2048x8448 : Shape := ⟨2, ![2048, 8448]⟩
abbrev S1x128 : Shape := ⟨2, ![1, 128]⟩
abbrev S2048x128 : Shape := ⟨2, ![2048, 128]⟩
abbrev S512x128 : Shape := ⟨2, ![512, 128]⟩
abbrev S64x64 : Shape := ⟨2, ![64, 64]⟩
abbrev S64x128 : Shape := ⟨2, ![64, 128]⟩
abbrev S128 : Shape := ⟨1, ![128]⟩

abbrev nBuf : Space → Nat
  | .hbm => 9
  | .vmem => 16
  | .smem => 0
  | _ => 0

abbrev bufTy : (tb : Table) → Fin (tcTables nBuf tb) → BufTy
  | .hbm, ⟨0, _⟩ => ⟨S2048x8448, .f32⟩
  | .hbm, ⟨1, _⟩ => ⟨S1x128, .f32⟩
  | .hbm, ⟨2, _⟩ => ⟨S1x128, .f32⟩
  | .hbm, ⟨3, _⟩ => ⟨S2048x128, .f32⟩
  | .hbm, ⟨4, _⟩ => ⟨S2048x128, .f32⟩
  | .hbm, ⟨5, _⟩ => ⟨S2048x128, .bf16⟩
  | .hbm, ⟨6, _⟩ => ⟨S2048x128, .bf16⟩
  | .hbm, ⟨7, _⟩ => ⟨S1x128, .f32⟩
  | .hbm, ⟨8, _⟩ => ⟨S1x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S1x128, .f32⟩
  | .local _ .vmem, ⟨5, _⟩ => ⟨S1x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .bf16⟩
  | .local _ .vmem, ⟨11, _⟩ => ⟨S512x128, .bf16⟩
  | .local _ .vmem, ⟨12, _⟩ => ⟨S512x128, .bf16⟩
  | .local _ .vmem, ⟨13, _⟩ => ⟨S512x128, .bf16⟩
  | .local _ .vmem, ⟨14, _⟩ => ⟨S1x128, .f32⟩
  | .local _ .vmem, ⟨15, _⟩ => ⟨S1x128, .f32⟩
  | _, _ => ⟨S2048x8448, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c64_i32 : BitVec 32 := 64#32
  let c0_i32 : BitVec 32 := 0#32
  ![arg0.toNat, c64_i32.toNat]

def cc0_transform_1 (i : grid0.Coords) : Fin 2 → Nat :=
  let arg0 : BitVec 32 := BitVec.ofNat 32 (i 0).val
  let c65_i32 : BitVec 32 := 65#32
  let c0_i32 : BitVec 32 := 0#32
  ![arg0.toNat, c65_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== GateBRefIdeal.lean ====
abbrev S2048x8448 : Shape := ⟨2, ![2048, 8448]⟩
abbrev S1x128 : Shape := ⟨2, ![1, 128]⟩
abbrev S2048x128 : Shape := ⟨2, ![2048, 128]⟩
abbrev S_ : Shape := ⟨0, ![]⟩
abbrev S32x64x128 : Shape := ⟨3, ![32, 64, 128]⟩
abbrev S128 : Shape := ⟨1, ![128]⟩

abbrev nBuf : Space → Nat
  | .hbm => 96
  | .vmem => 0
  | .smem => 0
  | _ => 0

abbrev bufTy : (tb : Table) → Fin (tcTables nBuf tb) → BufTy
  | .hbm, ⟨0, _⟩ => ⟨S2048x8448, .f32⟩
  | .hbm, ⟨1, _⟩ => ⟨S1x128, .f32⟩
  | .hbm, ⟨2, _⟩ => ⟨S1x128, .f32⟩
  | .hbm, ⟨3, _⟩ => ⟨S2048x128, .f32⟩
  | .hbm, ⟨4, _⟩ => ⟨S2048x128, .f32⟩
  | .hbm, ⟨5, _⟩ => ⟨S2048x128, .f32⟩
  | .hbm, ⟨6, _⟩ => ⟨S2048x128, .f32⟩
  | .hbm, ⟨7, _⟩ => ⟨S1x128, .f32⟩
  | .hbm, ⟨8, _⟩ => ⟨S2048x128, .f32⟩
  | .hbm, ⟨9, _⟩ => ⟨S2048x128, .f32⟩
  | .hbm, ⟨10, _⟩ => ⟨S_, .f32⟩
  | .hbm, ⟨11, _⟩ => ⟨S2048x128, .f32⟩
  | .hbm, ⟨12, _⟩ => ⟨S2048x128, .f32⟩
  | .hbm, ⟨13, _⟩ => ⟨S2048x128, .f32⟩
  | .hbm, ⟨14, _⟩ => ⟨S2048x128, .f32⟩
  | .hbm, ⟨15, _⟩ => ⟨S2048x128, .i1⟩
  | .hbm, ⟨16, _⟩ => ⟨S2048x128, .f32⟩
  | .hbm, ⟨17, _⟩ => ⟨S2048x128, .f32⟩
  | .hbm, ⟨18, _⟩ => ⟨S2048x128, .f32⟩
  | .hbm, ⟨19, _⟩ => ⟨S2048x128, .f32⟩
  | .hbm, ⟨20, _⟩ => ⟨S2048x128, .f32⟩
  | .hbm, ⟨21, _⟩ => ⟨S2048x128, .f32⟩
  | .hbm, ⟨22, _⟩ => ⟨S2048x128, .f32⟩
  | .hbm, ⟨23, _⟩ => ⟨S2048x128, .f32⟩
  | .hbm, ⟨24, _⟩ => ⟨S_, .f32⟩
  | .hbm, ⟨25, _⟩ => ⟨S2048x128, .f32⟩
  | .hbm, ⟨26, _⟩ => ⟨S2048x128, .i1⟩
  | .hbm, ⟨27, _⟩ => ⟨S_, .f32⟩
  | .hbm, ⟨28, _⟩ => ⟨S2048x128, .f32⟩
  | .hbm, ⟨29, _⟩ => ⟨S2048x128, .f32⟩
  | .hbm, ⟨30, _⟩ => ⟨S_, .f32⟩
  | .hbm, ⟨31, _⟩ => ⟨S2048x128, .f32⟩
  | .hbm, ⟨32, _⟩ => ⟨S2048x128, .i1⟩
  | .hbm, ⟨33, _⟩ => ⟨S_, .f32⟩
  | .hbm, ⟨34, _⟩ => ⟨S2048x128, .f32⟩
  | .hbm, ⟨35, _⟩ => ⟨S2048x128, .f32⟩
  | .hbm, ⟨36, _⟩ => ⟨S2048x128, .f32⟩
  | .hbm, ⟨37, _⟩ => ⟨S2048x128, .f32⟩
  | .hbm, ⟨38, _⟩ => ⟨S_, .f32⟩
  | .hbm, ⟨39, _⟩ => ⟨S_, .f32⟩
  | .hbm, ⟨40, _⟩ => ⟨S_, .i1⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S2048x128, .f32⟩
  | .hbm, ⟨46, _⟩ => ⟨S2048x128, .i1⟩
  | .hbm, ⟨47, _⟩ => ⟨S_, .f32⟩
  | .hbm, ⟨48, _⟩ => ⟨S2048x128, .f32⟩
  | .hbm, ⟨49, _⟩ => ⟨S2048x128, .f32⟩
  | .hbm, ⟨50, _⟩ => ⟨S2048x128, .f32⟩
  | .hbm, ⟨51, _⟩ => ⟨S2048x128, .f32⟩
  | .hbm, ⟨52, _⟩ => ⟨S2048x128, .f32⟩
  | .hbm, ⟨53, _⟩ => ⟨S_, .f32⟩
  | .hbm, ⟨54, _⟩ => ⟨S2048x128, .f32⟩
  | .hbm, ⟨55, _⟩ => ⟨S2048x128, .f32⟩
  | .hbm, ⟨56, _⟩ => ⟨S2048x128, .f32⟩
  | .hbm, ⟨57, _⟩ => ⟨S2048x128, .f32⟩
  | .hbm, ⟨58, _⟩ => ⟨S2048x128, .f32⟩
  | .hbm, ⟨59, _⟩ => ⟨S2048x128, .f32⟩
  | .hbm, ⟨60, _⟩ => ⟨S2048x128, .f32⟩
  | .hbm, ⟨61, _⟩ => ⟨S_, .f32⟩
  | .hbm, ⟨62, _⟩ => ⟨S2048x128, .f32⟩
  | .hbm, ⟨63, _⟩ => ⟨S2048x128, .f32⟩
  | .hbm, ⟨64, _⟩ => ⟨S_, .f32⟩
  | .hbm, ⟨65, _⟩ => ⟨S2048x128, .f32⟩
  | .hbm, ⟨66, _⟩ => ⟨S2048x128, .f32⟩
  | .hbm, ⟨67, _⟩ => ⟨S_, .f32⟩
  | .hbm, ⟨68, _⟩ => ⟨S2048x128, .f32⟩
  | .hbm, ⟨69, _⟩ => ⟨S2048x128, .f32⟩
  | .hbm, ⟨70, _⟩ => ⟨S2048x128, .f32⟩
  | .hbm, ⟨71, _⟩ => ⟨S32x64x128, .f32⟩
  | .hbm, ⟨72, _⟩ => ⟨S_, .f32⟩
  | .hbm, ⟨73, _⟩ => ⟨S_, .f32⟩
  | .hbm, ⟨74, _⟩ => ⟨S32x64x128, .f32⟩
  | .hbm, ⟨75, _⟩ => ⟨S2048x128, .f32⟩
  | .hbm, ⟨76, _⟩ => ⟨S32x64x128, .f32⟩
  | .hbm, ⟨77, _⟩ => ⟨S_, .f32⟩
  | .hbm, ⟨78, _⟩ => ⟨S_, .f32⟩
  | .hbm, ⟨79, _⟩ => ⟨S32x64x128, .f32⟩
  | .hbm, ⟨80, _⟩ => ⟨S2048x128, .f32⟩
  | .hbm, ⟨81, _⟩ => ⟨S2048x128, .f32⟩
  | .hbm, ⟨82, _⟩ => ⟨S2048x128, .f32⟩
  | .hbm, ⟨83, _⟩ => ⟨S2048x128, .f32⟩
  | .hbm, ⟨84, _⟩ => ⟨S2048x128, .f32⟩
  | .hbm, ⟨85, _⟩ => ⟨S2048x128, .f32⟩
  | .hbm, ⟨86, _⟩ => ⟨S_, .f32⟩
  | .hbm, ⟨87, _⟩ => ⟨S128, .f32⟩
  | .hbm, ⟨88, _⟩ => ⟨S1x128, .f32⟩
  | .hbm, ⟨89, _⟩ => ⟨S2048x128, .f32⟩
  | .hbm, ⟨90, _⟩ => ⟨S_, .f32⟩
  | .hbm, ⟨91, _⟩ => ⟨S128, .f32⟩
  | .hbm, ⟨92, _⟩ => ⟨S1x128, .f32⟩
  | .hbm, ⟨93, _⟩ => ⟨S1x128, .f32⟩
  | .hbm, ⟨94, _⟩ => ⟨S2048x128, .bf16⟩
  | .hbm, ⟨95, _⟩ => ⟨S2048x128, .bf16⟩
  | _, _ => ⟨S2048x8448, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_cst : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_v5_0 : Ref sig .tc := ⟨.hbm, 23, rfl⟩
abbrev main_call0_cst_0 : Ref sig .tc := ⟨.hbm, 24, rfl⟩
abbrev main_call0_v13 : Ref sig .tc := ⟨.hbm, 25, rfl⟩
abbrev main_call0_v14 : Ref sig .tc := ⟨.hbm, 26, rfl⟩
abbrev main_call0_cst_1 : Ref sig .tc := ⟨.hbm, 27, rfl⟩
abbrev main_call0_v15 : Ref sig .tc := ⟨.hbm, 28, rfl⟩
abbrev main_call0_v16 : Ref sig .tc := ⟨.hbm, 29, rfl⟩
abbrev main_call0_cst_2 : Ref sig .tc := ⟨.hbm, 30, rfl⟩
abbrev main_call0_v17 : Ref sig .tc := ⟨.hbm, 31, rfl⟩
abbrev main_call0_v18 : Ref sig .tc := ⟨.hbm, 32, rfl⟩
abbrev main_call0_cst_3 : Ref sig .tc := ⟨.hbm, 33, rfl⟩
abbrev main_call0_v19 : Ref sig .tc := ⟨.hbm, 34, rfl⟩
abbrev main_call0_v20 : Ref sig .tc := ⟨.hbm, 35, rfl⟩
abbrev main_call0_v21 : Ref sig .tc := ⟨.hbm, 36, rfl⟩
abbrev main_v5_1 : Ref sig .tc := ⟨.hbm, 37, rfl⟩
abbrev main_call0_cst_4 : Ref sig .tc := ⟨.hbm, 38, rfl⟩
abbrev main_call0_cst_5 : Ref sig .tc := ⟨.hbm, 39, rfl⟩
abbrev main_call0_v23 : Ref sig .tc := ⟨.hbm, 40, rfl⟩
abbrev main_call0_cst_6 : Ref sig .tc := ⟨.hbm, 41, rfl⟩
abbrev main_call0_cst_7 : Ref sig .tc := ⟨.hbm, 42, rfl⟩
abbrev main_call0_v24 : Ref sig .tc := ⟨.hbm, 43, rfl⟩
abbrev main_call0_cst_8 : Ref sig .tc := ⟨.hbm, 44, rfl⟩
abbrev main_call0_v25 : Ref sig .tc := ⟨.hbm, 45, rfl⟩
abbrev main_call0_v26 : Ref sig .tc := ⟨.hbm, 46, rfl⟩
abbrev main_call0_cst_9 : Ref sig .tc := ⟨.hbm, 47, rfl⟩
abbrev main_call0_v27 : Ref sig .tc := ⟨.hbm, 48, rfl⟩
abbrev main_call0_v28 : Ref sig .tc := ⟨.hbm, 49, rfl⟩
abbrev main_call0_v29 : Ref sig .tc := ⟨.hbm, 50, rfl⟩
abbrev main_call0_v30 : Ref sig .tc := ⟨.hbm, 51, rfl⟩
abbrev main_call0_v31 : Ref sig .tc := ⟨.hbm, 52, rfl⟩
abbrev main_call0_cst_10 : Ref sig .tc := ⟨.hbm, 53, rfl⟩
abbrev main_call0_v32 : Ref sig .tc := ⟨.hbm, 54, rfl⟩
abbrev main_v5_2 : Ref sig .tc := ⟨.hbm, 55, rfl⟩
abbrev main_v6 : Ref sig .tc := ⟨.hbm, 56, rfl⟩
abbrev main_v7 : Ref sig .tc := ⟨.hbm, 57, rfl⟩
abbrev main_v8 : Ref sig .tc := ⟨.hbm, 58, rfl⟩
abbrev main_v9 : Ref sig .tc := ⟨.hbm, 59, rfl⟩
abbrev main_v10 : Ref sig .tc := ⟨.hbm, 60, rfl⟩
abbrev main_cst : Ref sig .tc := ⟨.hbm, 61, rfl⟩
abbrev main_v11 : Ref sig .tc := ⟨.hbm, 62, rfl⟩
abbrev main_v12 : Ref sig .tc := ⟨.hbm, 63, rfl⟩
abbrev main_cst_0 : Ref sig .tc := ⟨.hbm, 64, rfl⟩
abbrev main_v13 : Ref sig .tc := ⟨.hbm, 65, rfl⟩
abbrev main_v14 : Ref sig .tc := ⟨.hbm, 66, rfl⟩
abbrev main_cst_1 : Ref sig .tc := ⟨.hbm, 67, rfl⟩
abbrev main_v15 : Ref sig .tc := ⟨.hbm, 68, rfl⟩
abbrev main_v16 : Ref sig .tc := ⟨.hbm, 69, rfl⟩
abbrev main_v17 : Ref sig .tc := ⟨.hbm, 70, rfl⟩
abbrev main_v18 : Ref sig .tc := ⟨.hbm, 71, rfl⟩
abbrev main_call1_call0_cst : Ref sig .tc := ⟨.hbm, 72, rfl⟩
abbrev main_call1_call0_v0 : Ref sig .tc := ⟨.hbm, 73, rfl⟩
abbrev main_v19 : Ref sig .tc := ⟨.hbm, 74, rfl⟩
abbrev main_v20 : Ref sig .tc := ⟨.hbm, 75, rfl⟩
abbrev main_v21 : Ref sig .tc := ⟨.hbm, 76, rfl⟩
abbrev main_call2_call0_cst : Ref sig .tc := ⟨.hbm, 77, rfl⟩
abbrev main_call2_call0_v0 : Ref sig .tc := ⟨.hbm, 78, rfl⟩
abbrev main_v22 : Ref sig .tc := ⟨.hbm, 79, rfl⟩
abbrev main_v23 : Ref sig .tc := ⟨.hbm, 80, rfl⟩
abbrev main_v24 : Ref sig .tc := ⟨.hbm, 81, rfl⟩
abbrev main_v25 : Ref sig .tc := ⟨.hbm, 82, rfl⟩
abbrev main_v26 : Ref sig .tc := ⟨.hbm, 83, rfl⟩
abbrev main_v27 : Ref sig .tc := ⟨.hbm, 84, rfl⟩
abbrev main_v28 : Ref sig .tc := ⟨.hbm, 85, rfl⟩
abbrev main_cst_2 : Ref sig .tc := ⟨.hbm, 86, rfl⟩
abbrev main_v29 : Ref sig .tc := ⟨.hbm, 87, rfl⟩
abbrev main_v30 : Ref sig .tc := ⟨.hbm, 88, rfl⟩
abbrev main_v31 : Ref sig .tc := ⟨.hbm, 89, rfl⟩
abbrev main_cst_3 : Ref sig .tc := ⟨.hbm, 90, rfl⟩
abbrev main_v32 : Ref sig .tc := ⟨.hbm, 91, rfl⟩
abbrev main_v33 : Ref sig .tc := ⟨.hbm, 92, rfl⟩
abbrev main_v34 : Ref sig .tc := ⟨.hbm, 93, rfl⟩
abbrev main_v35 : Ref sig .tc := ⟨.hbm, 94, rfl⟩
abbrev main_v36 : Ref sig .tc := ⟨.hbm, 95, rfl⟩

abbrev nD : Nat := 1
abbrev τ : Topo := Topo.v7x

variable {F : FTy → Type} [FloatOps F]
-- ==== QkvB.lean ====
abbrev S2048x8448 : Shape := ⟨2, ![2048, 8448]⟩
abbrev S4x3072 : Shape := ⟨2, ![4, 3072]⟩
abbrev S2048x3072 : Shape := ⟨2, ![2048, 3072]⟩
abbrev S2048x128 : Shape := ⟨2, ![2048, 128]⟩
abbrev S4x128 : Shape := ⟨2, ![4, 128]⟩
abbrev S1x128 : Shape := ⟨2, ![1, 128]⟩
abbrev S2048 : Shape := ⟨1, ![2048]⟩
abbrev S2048x1 : Shape := ⟨2, ![2048, 1]⟩
abbrev S128 : Shape := ⟨1, ![128]⟩

abbrev nBuf : Space → Nat
  | .hbm => 5
  | .vmem => 10
  | .smem => 0
  | _ => 0

abbrev bufTy : (tb : Table) → Fin (tcTables nBuf tb) → BufTy
  | .hbm, ⟨0, _⟩ => ⟨S2048x8448, .f32⟩
  | .hbm, ⟨1, _⟩ => ⟨S4x3072, .f32⟩
  | .hbm, ⟨2, _⟩ => ⟨S2048x3072, .f32⟩
  | .hbm, ⟨3, _⟩ => ⟨S2048x3072, .bf16⟩
  | .hbm, ⟨4, _⟩ => ⟨S4x3072, .f32⟩
  | .local _ .vmem, ⟨0, _⟩ => ⟨S2048x128, .f32⟩
  | .local _ .vmem, ⟨1, _⟩ => ⟨S2048x128, .f32⟩
  | .local _ .vmem, ⟨2, _⟩ => ⟨S4x128, .f32⟩
  | .local _ .vmem, ⟨3, _⟩ => ⟨S4x128, .f32⟩
  | .local _ .vmem, ⟨4, _⟩ => ⟨S2048x128, .f32⟩
  | .local _ .vmem, ⟨5, _⟩ => ⟨S2048x128, .f32⟩
  | .local _ .vmem, ⟨6, _⟩ => ⟨S2048x128, .bf16⟩
  | .local _ .vmem, ⟨7, _⟩ => ⟨S2048x128, .bf16⟩
  | .local _ .vmem, ⟨8, _⟩ => ⟨S4x128, .f32⟩
  | .local _ .vmem, ⟨9, _⟩ => ⟨S4x128, .f32⟩
  | _, _ => ⟨S2048x8448, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== QkvBRefIdeal.lean ====
abbrev S2048x8448 : Shape := ⟨2, ![2048, 8448]⟩
abbrev S4x3072 : Shape := ⟨2, ![4, 3072]⟩
abbrev S2048x3072 : Shape := ⟨2, ![2048, 3072]⟩
abbrev S_ : Shape := ⟨0, ![]⟩
abbrev S3x3072 : Shape := ⟨2, ![3, 3072]⟩
abbrev S2051x3072 : Shape := ⟨2, ![2051, 3072]⟩
abbrev S1x3072 : Shape := ⟨2, ![1, 3072]⟩
abbrev S3072 : Shape := ⟨1, ![3072]⟩
abbrev S2048x1024 : Shape := ⟨2, ![2048, 1024]⟩
abbrev S2048x8x128 : Shape := ⟨3, ![2048, 8, 128]⟩
abbrev S2048x8 : Shape := ⟨2, ![2048, 8]⟩
abbrev S2048x8x1 : Shape := ⟨3, ![2048, 8, 1]⟩

abbrev nBuf : Space → Nat
  | .hbm => 195
  | .vmem => 0
  | .smem => 0
  | _ => 0

abbrev hbmTy0_0 (i : Nat) : BufTy := match i % 128 with
  | 0 => ⟨S2048x8448, .f32⟩
  | 1 => ⟨S4x3072, .f32⟩
  | 2 => ⟨S2048x3072, .f32⟩
  | 3 => ⟨S2048x3072, .f32⟩
  | 4 => ⟨S_, .f32⟩
  | 5 => ⟨S3x3072, .f32⟩
  | 6 => ⟨S2051x3072, .f32⟩
  | 7 => ⟨S_, .f32⟩
  | 8 => ⟨S3x3072, .f32⟩
  | 9 => ⟨S1x3072, .f32⟩
  | 10 => ⟨S3072, .f32⟩
  | 11 => ⟨S2048x3072, .f32⟩
  | 12 => ⟨S1x3072, .f32⟩
  | 13 => ⟨S2048x3072, .f32⟩
  | 14 => ⟨S2048x3072, .f32⟩
  | 15 => ⟨S_, .f32⟩
  | 16 => ⟨S2048x3072, .f32⟩
  | 17 => ⟨S2048x3072, .f32⟩
  | 18 => ⟨S1x3072, .f32⟩
  | 19 => ⟨S3072, .f32⟩
  | 20 => ⟨S2048x3072, .f32⟩
  | 21 => ⟨S1x3072, .f32⟩
  | 22 => ⟨S2048x3072, .f32⟩
  | 23 => ⟨S2048x3072, .f32⟩
  | 24 => ⟨S2048x3072, .f32⟩
  | 25 => ⟨S1x3072, .f32⟩
  | 26 => ⟨S3072, .f32⟩
  | 27 => ⟨S2048x3072, .f32⟩
  | 28 => ⟨S1x3072, .f32⟩
  | 29 => ⟨S2048x3072, .f32⟩
  | 30 => ⟨S2048x3072, .f32⟩
  | 31 => ⟨S2048x3072, .f32⟩
  | 32 => ⟨S1x3072, .f32⟩
  | 33 => ⟨S3072, .f32⟩
  | 34 => ⟨S2048x3072, .f32⟩
  | 35 => ⟨S1x3072, .f32⟩
  | 36 => ⟨S2048x3072, .f32⟩
  | 37 => ⟨S2048x3072, .f32⟩
  | 38 => ⟨S2048x3072, .f32⟩
  | 39 => ⟨S2048x3072, .f32⟩
  | 40 => ⟨S2048x3072, .f32⟩
  | 41 => ⟨S_, .f32⟩
  | 42 => ⟨S2048x3072, .f32⟩
  | 43 => ⟨S2048x3072, .f32⟩
  | 44 => ⟨S_, .f32⟩
  | 45 => ⟨S2048x3072, .f32⟩
  | 46 => ⟨S2048x3072, .f32⟩
  | 47 => ⟨S_, .f32⟩
  | 48 => ⟨S2048x3072, .f32⟩
  | 49 => ⟨S2048x3072, .f32⟩
  | 50 => ⟨S2048x3072, .f32⟩
  | 51 => ⟨S2048x3072, .f32⟩
  | 52 => ⟨S2048x1024, .f32⟩
  | 53 => ⟨S2048x1024, .f32⟩
  | 54 => ⟨S2048x1024, .f32⟩
  | 55 => ⟨S2048x8x128, .f32⟩
  | 56 => ⟨S2048x8x128, .f32⟩
  | 57 => ⟨S_, .f32⟩
  | 58 => ⟨S2048x8, .f32⟩
  | 59 => ⟨S2048x8x1, .f32⟩
  | 60 => ⟨S_, .f32⟩
  | 61 => ⟨S2048x8x1, .f32⟩
  | 62 => ⟨S2048x8x1, .f32⟩
  | 63 => ⟨S2048x8x1, .f32⟩
  | 64 => ⟨S2048x8x1, .f32⟩
  | 65 => ⟨S_, .f32⟩
  | 66 => ⟨S2048x8x1, .f32⟩
  | 67 => ⟨S2048x8x1, .f32⟩
  | 68 => ⟨S2048x8x128, .f32⟩
  | 69 => ⟨S2048x8x128, .f32⟩
  | 70 => ⟨S_, .f32⟩
  | 71 => ⟨S2048x8x128, .f32⟩
  | 72 => ⟨S2048x8x128, .f32⟩
  | 73 => ⟨S2048x8x128, .f32⟩
  | 74 => ⟨S2048x8x128, .f32⟩
  | 75 => ⟨S_, .f32⟩
  | 76 => ⟨S2048x8, .f32⟩
  | 77 => ⟨S2048x8x1, .f32⟩
  | 78 => ⟨S_, .f32⟩
  | 79 => ⟨S2048x8x1, .f32⟩
  | 80 => ⟨S2048x8x1, .f32⟩
  | 81 => ⟨S2048x8x1, .f32⟩
  | 82 => ⟨S2048x8x1, .f32⟩
  | 83 => ⟨S_, .f32⟩
  | 84 => ⟨S2048x8x1, .f32⟩
  | 85 => ⟨S2048x8x1, .f32⟩
  | 86 => ⟨S2048x8x128, .f32⟩
  | 87 => ⟨S2048x8x128, .f32⟩
  | 88 => ⟨S2048x1024, .f32⟩
  | 89 => ⟨S2048x1024, .f32⟩
  | 90 => ⟨S2048x3072, .f32⟩
  | 91 => ⟨S2048x1024, .f32⟩
  | 92 => ⟨S2048x1024, .f32⟩
  | 93 => ⟨S2048x1024, .f32⟩
  | 94 => ⟨S2048x8x128, .f32⟩
  | 95 => ⟨S2048x8x128, .f32⟩
  | 96 => ⟨S2048x8x128, .f32⟩
  | 97 => ⟨S_, .f32⟩
  | 98 => ⟨S2048x8, .f32⟩
  | 99 => ⟨S2048x8x1, .f32⟩
  | 100 => ⟨S2048x8x128, .f32⟩
  | 101 => ⟨S2048x8x128, .f32⟩
  | 102 => ⟨S2048x8x1, .f32⟩
  | 103 => ⟨S_, .f32⟩
  | 104 => ⟨S2048x8, .f32⟩
  | 105 => ⟨S2048x8x128, .f32⟩
  | 106 => ⟨S2048x8x128, .f32⟩
  | 107 => ⟨S2048x8x128, .f32⟩
  | 108 => ⟨S2048x8x128, .f32⟩
  | 109 => ⟨S2048x8x128, .f32⟩
  | 110 => ⟨S2048x1024, .f32⟩
  | 111 => ⟨S_, .f32⟩
  | 112 => ⟨S2048x8x128, .f32⟩
  | 113 => ⟨S2048x8x128, .f32⟩
  | 114 => ⟨S2048x8x128, .f32⟩
  | 115 => ⟨S_, .f32⟩
  | 116 => ⟨S2048x8, .f32⟩
  | 117 => ⟨S2048x8x1, .f32⟩
  | 118 => ⟨S2048x8x128, .f32⟩
  | 119 => ⟨S2048x8x128, .f32⟩
  | 120 => ⟨S2048x8x1, .f32⟩
  | 121 => ⟨S_, .f32⟩
  | 122 => ⟨S2048x8, .f32⟩
  | 123 => ⟨S2048x8x128, .f32⟩
  | 124 => ⟨S2048x8x128, .f32⟩
  | 125 => ⟨S2048x8x128, .f32⟩
  | 126 => ⟨S2048x8x128, .f32⟩
  | 127 => ⟨S2048x8x128, .f32⟩
  | _ => ⟨S2048x8448, .f32⟩

abbrev hbmTy0_1 (i : Nat) : BufTy := match i % 128 with
  | 0 => ⟨S2048x1024, .f32⟩
  | 1 => ⟨S2048x3072, .f32⟩
  | 2 => ⟨S2048x3072, .f32⟩
  | 3 => ⟨S2048x3072, .f32⟩
  | 4 => ⟨S2048x3072, .f32⟩
  | 5 => ⟨S2048x3072, .f32⟩
  | 6 => ⟨S2048x3072, .f32⟩
  | 7 => ⟨S2048x3072, .f32⟩
  | 8 => ⟨S2048x3072, .f32⟩
  | 9 => ⟨S_, .f32⟩
  | 10 => ⟨S3072, .f32⟩
  | 11 => ⟨S1x3072, .f32⟩
  | 12 => ⟨S_, .f32⟩
  | 13 => ⟨S3072, .f32⟩
  | 14 => ⟨S_, .f32⟩
  | 15 => ⟨S2051x3072, .f32⟩
  | 16 => ⟨S1x3072, .f32⟩
  | 17 => ⟨S_, .f32⟩
  | 18 => ⟨S4x3072, .f32⟩
  | 19 => ⟨S2048x3072, .f32⟩
  | 20 => ⟨S2048x3072, .f32⟩
  | 21 => ⟨S2048x3072, .f32⟩
  | 22 => ⟨S_, .f32⟩
  | 23 => ⟨S3072, .f32⟩
  | 24 => ⟨S1x3072, .f32⟩
  | 25 => ⟨S_, .f32⟩
  | 26 => ⟨S3072, .f32⟩
  | 27 => ⟨S_, .f32⟩
  | 28 => ⟨S2051x3072, .f32⟩
  | 29 => ⟨S2051x3072, .f32⟩
  | 30 => ⟨S1x3072, .f32⟩
  | 31 => ⟨S_, .f32⟩
  | 32 => ⟨S4x3072, .f32⟩
  | 33 => ⟨S4x3072, .f32⟩
  | 34 => ⟨S2048x3072, .f32⟩
  | 35 => ⟨S2048x3072, .f32⟩
  | 36 => ⟨S2048x3072, .f32⟩
  | 37 => ⟨S_, .f32⟩
  | 38 => ⟨S3072, .f32⟩
  | 39 => ⟨S1x3072, .f32⟩
  | 40 => ⟨S_, .f32⟩
  | 41 => ⟨S3072, .f32⟩
  | 42 => ⟨S_, .f32⟩
  | 43 => ⟨S2051x3072, .f32⟩
  | 44 => ⟨S2051x3072, .f32⟩
  | 45 => ⟨S1x3072, .f32⟩
  | 46 => ⟨S_, .f32⟩
  | 47 => ⟨S4x3072, .f32⟩
  | 48 => ⟨S4x3072, .f32⟩
  | 49 => ⟨S2048x3072, .f32⟩
  | 50 => ⟨S2048x3072, .f32⟩
  | 51 => ⟨S2048x3072, .f32⟩
  | 52 => ⟨S_, .f32⟩
  | 53 => ⟨S3072, .f32⟩
  | 54 => ⟨S1x3072, .f32⟩
  | 55 => ⟨S_, .f32⟩
  | 56 => ⟨S3072, .f32⟩
  | 57 => ⟨S_, .f32⟩
  | 58 => ⟨S2051x3072, .f32⟩
  | 59 => ⟨S2051x3072, .f32⟩
  | 60 => ⟨S1x3072, .f32⟩
  | 61 => ⟨S_, .f32⟩
  | 62 => ⟨S4x3072, .f32⟩
  | 63 => ⟨S4x3072, .f32⟩
  | 64 => ⟨S3x3072, .f32⟩
  | 65 => ⟨S2048x3072, .f32⟩
  | 66 => ⟨S2048x3072, .bf16⟩
  | _ => ⟨S2048x8448, .f32⟩

abbrev hbmTy (i : Nat) : BufTy := match i / 128 with
  | 0 => hbmTy0_0 i
  | 1 => hbmTy0_1 i
  | _ => ⟨S2048x8448, .f32⟩

abbrev bufTy : (tb : Table) → Fin (tcTables nBuf tb) → BufTy
  | .hbm, ⟨i, _⟩ => hbmTy i
  | _, _ => ⟨S2048x8448, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_v33_2 : Ref sig .tc := ⟨.hbm, 46, rfl⟩
abbrev main_call0_cst_1 : Ref sig .tc := ⟨.hbm, 47, rfl⟩
abbrev main_call0_v6 : Ref sig .tc := ⟨.hbm, 48, rfl⟩
abbrev main_call0_v7 : Ref sig .tc := ⟨.hbm, 49, rfl⟩
abbrev main_v33_1 : Ref sig .tc := ⟨.hbm, 50, rfl⟩
abbrev main_v33_0 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_2 : Ref sig .tc := ⟨.hbm, 57, rfl⟩
abbrev main_v39 : Ref sig .tc := ⟨.hbm, 58, rfl⟩
abbrev main_v40 : Ref sig .tc := ⟨.hbm, 59, rfl⟩
abbrev main_cst_3 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_4 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_5 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_6 : Ref sig .tc := ⟨.hbm, 75, rfl⟩
abbrev main_v53 : Ref sig .tc := ⟨.hbm, 76, rfl⟩
abbrev main_v54 : Ref sig .tc := ⟨.hbm, 77, rfl⟩
abbrev main_cst_7 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_8 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_cst_9 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_cst_10 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_cst_11 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_cst_12 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_cst_13 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_call1_v0 : Ref sig .tc := ⟨.hbm, 130, rfl⟩
abbrev main_call1_v1 : Ref sig .tc := ⟨.hbm, 131, rfl⟩
abbrev main_call1_v2 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_cst_14 : Ref sig .tc := ⟨.hbm, 137, rfl⟩
abbrev main_v104 : Ref sig .tc := ⟨.hbm, 138, rfl⟩
abbrev main_v105 : Ref sig .tc := ⟨.hbm, 139, rfl⟩
abbrev main_cst_15 : Ref sig .tc := ⟨.hbm, 140, rfl⟩
abbrev main_v106 : Ref sig .tc := ⟨.hbm, 141, rfl⟩
abbrev main_cst_16 : Ref sig .tc := ⟨.hbm, 142, rfl⟩
abbrev main_v107 : Ref sig .tc := ⟨.hbm, 143, rfl⟩
abbrev main_v108 : Ref sig .tc := ⟨.hbm, 144, rfl⟩
abbrev main_cst_17 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_cst_18 : Ref sig .tc := ⟨.hbm, 150, rfl⟩
abbrev main_v113 : Ref sig .tc := ⟨.hbm, 151, rfl⟩
abbrev main_v114 : Ref sig .tc := ⟨.hbm, 152, rfl⟩
abbrev main_cst_19 : Ref sig .tc := ⟨.hbm, 153, rfl⟩
abbrev main_v115 : Ref sig .tc := ⟨.hbm, 154, rfl⟩
abbrev main_cst_20 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_cst_21 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_cst_22 : Ref sig .tc := ⟨.hbm, 165, rfl⟩
abbrev main_v124 : Ref sig .tc := ⟨.hbm, 166, rfl⟩
abbrev main_v125 : Ref sig .tc := ⟨.hbm, 167, rfl⟩
abbrev main_cst_23 : Ref sig .tc := ⟨.hbm, 168, rfl⟩
abbrev main_v126 : Ref sig .tc := ⟨.hbm, 169, rfl⟩
abbrev main_cst_24 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_cst_25 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_cst_26 : Ref sig .tc := ⟨.hbm, 180, rfl⟩
abbrev main_v135 : Ref sig .tc := ⟨.hbm, 181, rfl⟩
abbrev main_v136 : Ref sig .tc := ⟨.hbm, 182, rfl⟩
abbrev main_cst_27 : Ref sig .tc := ⟨.hbm, 183, rfl⟩
abbrev main_v137 : Ref sig .tc := ⟨.hbm, 184, rfl⟩
abbrev main_cst_28 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_cst_29 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_v145 : Ref sig .tc := ⟨.hbm, 194, rfl⟩

abbrev nD : Nat := 1
abbrev τ : Topo := Topo.v7x

variable {F : FTy → Type} [FloatOps F]
-- ==== HgB.lean ====
abbrev S2048x8448 : Shape := ⟨2, ![2048, 8448]⟩
abbrev S1x1024 : Shape := ⟨2, ![1, 1024]⟩
abbrev S2048x1024 : Shape := ⟨2, ![2048, 1024]⟩
abbrev S32x8x128x128 : Shape := ⟨4, ![32, 8, 128, 128]⟩
abbrev S128 : Shape := ⟨1, ![128]⟩
abbrev S2048x2048 : Shape := ⟨2, ![2048, 2048]⟩
abbrev S1x128 : Shape := ⟨2, ![1, 128]⟩
abbrev S64x1024 : Shape := ⟨2, ![64, 1024]⟩
abbrev S1x8x128x128 : Shape := ⟨4, ![1, 8, 128, 128]⟩
abbrev S8x128x128 : Shape := ⟨3, ![8, 128, 128]⟩
abbrev S64x128 : Shape := ⟨2, ![64, 128]⟩
abbrev S64 : Shape := ⟨1, ![64]⟩
abbrev S64x1 : Shape := ⟨2, ![64, 1]⟩
abbrev S64x64 : Shape := ⟨2, ![64, 64]⟩
abbrev S1x1x128x128 : Shape := ⟨4, ![1, 1, 128, 128]⟩
abbrev S128x128 : Shape := ⟨2, ![128, 128]⟩
abbrev S1x128x128 : Shape := ⟨3, ![1, 128, 128]⟩
abbrev S16x128 : Shape := ⟨2, ![16, 128]⟩
abbrev S256x128 : Shape := ⟨2, ![256, 128]⟩
abbrev S64x256 : Shape := ⟨2, ![64, 256]⟩
abbrev S1024 : Shape := ⟨1, ![1024]⟩

abbrev nBuf : Space → Nat
  | .hbm => 16
  | .vmem => 33
  | .smem => 0
  | _ => 0

abbrev bufTy : (tb : Table) → Fin (tcTables nBuf tb) → BufTy
  | .hbm, ⟨0, _⟩ => ⟨S2048x8448, .f32⟩
  | .hbm, ⟨1, _⟩ => ⟨S1x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S32x8x128x128, .f32⟩
  | .hbm, ⟨6, _⟩ => ⟨S2048x1024, .f32⟩
  | .hbm, ⟨7, _⟩ => ⟨S128, .f32⟩
  | .hbm, ⟨8, _⟩ => ⟨S2048x2048, .f32⟩
  | .hbm, ⟨9, _⟩ => ⟨S1x128, .f32⟩
  | .hbm, ⟨10, _⟩ => ⟨S2048x1024, .bf16⟩
  | .hbm, ⟨11, _⟩ => ⟨S2048x1024, .bf16⟩
  | .hbm, ⟨12, _⟩ => ⟨S2048x1024, .bf16⟩
  | .hbm, ⟨13, _⟩ => ⟨S2048x1024, .bf16⟩
  | .hbm, ⟨14, _⟩ => ⟨S1x1024, .f32⟩
  | .hbm, ⟨15, _⟩ => ⟨S1x128, .f32⟩
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S1x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | .local _ .vmem, ⟨13, _⟩ => ⟨S1x8x128x128, .f32⟩
  | .local _ .vmem, ⟨14, _⟩ => ⟨S1x8x128x128, .f32⟩
  | .local _ .vmem, ⟨15, _⟩ => ⟨S64x1024, .f32⟩
  | .local _ .vmem, ⟨16, _⟩ => ⟨S64x1024, .f32⟩
  | .local _ .vmem, ⟨17, _⟩ => ⟨S64x1024, .f32⟩
  | .local _ .vmem, ⟨18, _⟩ => ⟨S64x1024, .f32⟩
  | .local _ .vmem, ⟨19, _⟩ => ⟨S1x128, .f32⟩
  | .local _ .vmem, ⟨20, _⟩ => ⟨S64x1024, .f32⟩
  | .local _ .vmem, ⟨21, _⟩ => ⟨S64x1024, .f32⟩
  | .local _ .vmem, ⟨22, _⟩ => ⟨S64x1024, .bf16⟩
  | .local _ .vmem, ⟨23, _⟩ => ⟨S64x1024, .bf16⟩
  | .local _ .vmem, ⟨24, _⟩ => ⟨S64x1024, .bf16⟩
  | .local _ .vmem, ⟨25, _⟩ => ⟨S64x1024, .bf16⟩
  | .local _ .vmem, ⟨26, _⟩ => ⟨S64x1024, .bf16⟩
  | .local _ .vmem, ⟨27, _⟩ => ⟨S64x1024, .bf16⟩
  | .local _ .vmem, ⟨28, _⟩ => ⟨S64x1024, .bf16⟩
  | .local _ .vmem, ⟨29, _⟩ => ⟨S64x1024, .bf16⟩
  | .local _ .vmem, ⟨30, _⟩ => ⟨S1x1024, .f32⟩
  | .local _ .vmem, ⟨31, _⟩ => ⟨S1x128, .f32⟩
  | .local _ .vmem, ⟨32, _⟩ => ⟨S8x128x128, .f32⟩
  | _, _ => ⟨S2048x8448, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v1_3 : Ref sig .tc := ⟨.hbm, 13, rfl⟩
abbrev main_v1_4 : Ref sig .tc := ⟨.hbm, 14, rfl⟩
abbrev main_v1_5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg17_0 : Ref sig .tc := ⟨.vmem, 31, rfl⟩
abbrev cc0_scratch0 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem17_0 : DmaSem sig := 31

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c4_i32 : BitVec 32 := 4#32
  let c0_i32 : BitVec 32 := 0#32
  ![v0.toNat, c4_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c5_i32 : BitVec 32 := 5#32
  let c0_i32 : BitVec 32 := 0#32
  ![v0.toNat, c5_i32.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c6_i32 : BitVec 32 := 6#32
  let c0_i32 : BitVec 32 := 0#32
  ![v0.toNat, c6_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_7 (i : grid0.Coords) : Fin 4 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_8 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c31_i32 : BitVec 32 := 31#32
  let v0 : BitVec 32 := Scalar.subi c31_i32 arg0
  let c7_i32 : BitVec 32 := 7#32
  let c0_i32 : BitVec 32 := 0#32
  ![v0.toNat, c7_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c31_i32 : BitVec 32 := 31#32
  let v0 : BitVec 32 := Scalar.subi c31_i32 arg0
  let c1_i32 : BitVec 32 := 1#32
  let c0_i32 : BitVec 32 := 0#32
  ![v0.toNat, c1_i32.toNat]

def cc0_transform_12 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S64x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S64x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S64x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S64x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S64x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== HgBRefIdeal.lean ====
abbrev S2048x8448 : Shape := ⟨2, ![2048, 8448]⟩
abbrev S1x1024 : Shape := ⟨2, ![1, 1024]⟩
abbrev S2048x1024 : Shape := ⟨2, ![2048, 1024]⟩
abbrev S32x8x128x128 : Shape := ⟨4, ![32, 8, 128, 128]⟩
abbrev S128 : Shape := ⟨1, ![128]⟩
abbrev S2048x2048 : Shape := ⟨2, ![2048, 2048]⟩
abbrev S2048x8x128 : Shape := ⟨3, ![2048, 8, 128]⟩
abbrev S_ : Shape := ⟨0, ![]⟩
abbrev S2048x8 : Shape := ⟨2, ![2048, 8]⟩
abbrev S2048x8x1 : Shape := ⟨3, ![2048, 8, 1]⟩
abbrev S1x1x128 : Shape := ⟨3, ![1, 1, 128]⟩
abbrev S1x128 : Shape := ⟨2, ![1, 128]⟩

abbrev nBuf : Space → Nat
  | .hbm => 49
  | .vmem => 0
  | .smem => 0
  | _ => 0

abbrev bufTy : (tb : Table) → Fin (tcTables nBuf tb) → BufTy
  | .hbm, ⟨0, _⟩ => ⟨S2048x8448, .f32⟩
  | .hbm, ⟨1, _⟩ => ⟨S1x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S32x8x128x128, .f32⟩
  | .hbm, ⟨6, _⟩ => ⟨S2048x1024, .f32⟩
  | .hbm, ⟨7, _⟩ => ⟨S128, .f32⟩
  | .hbm, ⟨8, _⟩ => ⟨S2048x2048, .f32⟩
  | .hbm, ⟨9, _⟩ => ⟨S2048x1024, .f32⟩
  | .hbm, ⟨10, _⟩ => ⟨S2048x8x128, .f32⟩
  | .hbm, ⟨11, _⟩ => ⟨S2048x8x128, .f32⟩
  | .hbm, ⟨12, _⟩ => ⟨S_, .f32⟩
  | .hbm, ⟨13, _⟩ => ⟨S2048x8, .f32⟩
  | .hbm, ⟨14, _⟩ => ⟨S2048x8x1, .f32⟩
  | .hbm, ⟨15, _⟩ => ⟨S_, .f32⟩
  | .hbm, ⟨16, _⟩ => ⟨S2048x8x1, .f32⟩
  | .hbm, ⟨17, _⟩ => ⟨S2048x8x1, .f32⟩
  | .hbm, ⟨18, _⟩ => ⟨S_, .f32⟩
  | .hbm, ⟨19, _⟩ => ⟨S2048x8x1, .f32⟩
  | .hbm, ⟨20, _⟩ => ⟨S2048x8x1, .f32⟩
  | .hbm, ⟨21, _⟩ => ⟨S2048x8x1, .f32⟩
  | .hbm, ⟨22, _⟩ => ⟨S2048x8x128, .f32⟩
  | .hbm, ⟨23, _⟩ => ⟨S2048x8x128, .f32⟩
  | .hbm, ⟨24, _⟩ => ⟨S1x1x128, .f32⟩
  | .hbm, ⟨25, _⟩ => ⟨S2048x8x128, .f32⟩
  | .hbm, ⟨26, _⟩ => ⟨S2048x8x128, .f32⟩
  | .hbm, ⟨27, _⟩ => ⟨S2048x8x128, .f32⟩
  | .hbm, ⟨28, _⟩ => ⟨S2048x8x128, .f32⟩
  | .hbm, ⟨29, _⟩ => ⟨S2048x8x128, .f32⟩
  | .hbm, ⟨30, _⟩ => ⟨S_, .f32⟩
  | .hbm, ⟨31, _⟩ => ⟨S2048x8x128, .f32⟩
  | .hbm, ⟨32, _⟩ => ⟨S2048x8x128, .f32⟩
  | .hbm, ⟨33, _⟩ => ⟨S_, .f32⟩
  | .hbm, ⟨34, _⟩ => ⟨S2048x8x128, .f32⟩
  | .hbm, ⟨35, _⟩ => ⟨S2048x8x128, .f32⟩
  | .hbm, ⟨36, _⟩ => ⟨S2048x8x128, .f32⟩
  | .hbm, ⟨37, _⟩ => ⟨S2048x8x128, .f32⟩
  | .hbm, ⟨38, _⟩ => ⟨S2048x1024, .f32⟩
  | .hbm, ⟨39, _⟩ => ⟨S2048x1024, .f32⟩
  | .hbm, ⟨40, _⟩ => ⟨S2048x8x128, .f32⟩
  | .hbm, ⟨41, _⟩ => ⟨S2048x8x128, .f32⟩
  | .hbm, ⟨42, _⟩ => ⟨S2048x8x128, .f32⟩
  | .hbm, ⟨43, _⟩ => ⟨S_, .f32⟩
  | .hbm, ⟨44, _⟩ => ⟨S128, .f32⟩
  | .hbm, ⟨45, _⟩ => ⟨S1x1x128, .f32⟩
  | .hbm, ⟨46, _⟩ => ⟨S_, .f32⟩
  | .hbm, ⟨47, _⟩ => ⟨S128, .f32⟩
  | .hbm, ⟨48, _⟩ => ⟨S1x128, .f32⟩
  | _, _ => ⟨S2048x8448, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_2 : Ref sig .tc := ⟨.hbm, 43, rfl⟩
abbrev main_v23 : Ref sig .tc := ⟨.hbm, 44, rfl⟩
abbrev main_v24 : Ref sig .tc := ⟨.hbm, 45, rfl⟩
abbrev main_cst_3 : Ref sig .tc := ⟨.hbm, 46, rfl⟩
abbrev main_v25 : Ref sig .tc := ⟨.hbm, 47, rfl⟩
abbrev main_v26 : Ref sig .tc := ⟨.hbm, 48, rfl⟩

abbrev nD : Nat := 1
abbrev τ : Topo := Topo.v7x

variable {F : FTy → Type} [FloatOps F]
-- ==== DnB.lean ====
abbrev S2048x3072 : Shape := ⟨2, ![2048, 3072]⟩
abbrev S2048x128 : Shape := ⟨2, ![2048, 128]⟩
abbrev S32x8x128x128 : Shape := ⟨4, ![32, 8, 128, 128]⟩
abbrev S32x8x64x64 : Shape := ⟨4, ![32, 8, 64, 64]⟩
abbrev S2048x1024 : Shape := ⟨2, ![2048, 1024]⟩
abbrev S2048x8448 : Shape := ⟨2, ![2048, 8448]⟩
abbrev S128 : Shape := ⟨1, ![128]⟩
abbrev S2048x2048 : Shape := ⟨2, ![2048, 2048]⟩
abbrev S1x128 : Shape := ⟨2, ![1, 128]⟩
abbrev S64x1024 : Shape := ⟨2, ![64, 1024]⟩
abbrev S64x128 : Shape := ⟨2, ![64, 128]⟩
abbrev S1x8x128x128 : Shape := ⟨4, ![1, 8, 128, 128]⟩
abbrev S1x8x64x64 : Shape := ⟨4, ![1, 8, 64, 64]⟩
abbrev S64x3072 : Shape := ⟨2, ![64, 3072]⟩
abbrev S8x128x128 : Shape := ⟨3, ![8, 128, 128]⟩
abbrev S64 : Shape := ⟨1, ![64]⟩
abbrev S64x1 : Shape := ⟨2, ![64, 1]⟩
abbrev S1x1x128x128 : Shape := ⟨4, ![1, 1, 128, 128]⟩
abbrev S128x128 : Shape := ⟨2, ![128, 128]⟩
abbrev S1x128x128 : Shape := ⟨3, ![1, 128, 128]⟩
abbrev S1x1x64x64 : Shape := ⟨4, ![1, 1, 64, 64]⟩
abbrev S64x64 : Shape := ⟨2, ![64, 64]⟩
abbrev S1x64 : Shape := ⟨2, ![1, 64]⟩
abbrev S128x64 : Shape := ⟨2, ![128, 64]⟩
abbrev S64x256 : Shape := ⟨2, ![64, 256]⟩
abbrev S1 : Shape := ⟨1, ![1]⟩
abbrev S1x1 : Shape := ⟨2, ![1, 1]⟩
abbrev S128x1 : Shape := ⟨2, ![128, 1]⟩

abbrev nBuf : Space → Nat
  | .hbm => 15
  | .vmem => 31
  | .smem => 0
  | _ => 0

abbrev bufTy : (tb : Table) → Fin (tcTables nBuf tb) → BufTy
  | .hbm, ⟨0, _⟩ => ⟨S2048x3072, .f32⟩
  | .hbm, ⟨1, _⟩ => ⟨S2048x128, .f32⟩
  | .hbm, ⟨2, _⟩ => ⟨S2048x128, .f32⟩
  | .hbm, ⟨3, _⟩ => ⟨S32x8x128x128, .f32⟩
  | .hbm, ⟨4, _⟩ => ⟨S32x8x64x64, .bf16⟩
  | .hbm, ⟨5, _⟩ => ⟨S2048x1024, .f32⟩
  | .hbm, ⟨6, _⟩ => ⟨S2048x8448, .f32⟩
  | .hbm, ⟨7, _⟩ => ⟨S128, .f32⟩
  | .hbm, ⟨8, _⟩ => ⟨S2048x2048, .f32⟩
  | .hbm, ⟨9, _⟩ => ⟨S1x128, .f32⟩
  | .hbm, ⟨10, _⟩ => ⟨S2048x3072, .f32⟩
  | .hbm, ⟨11, _⟩ => ⟨S2048x128, .f32⟩
  | .hbm, ⟨12, _⟩ => ⟨S2048x128, .f32⟩
  | .hbm, ⟨13, _⟩ => ⟨S2048x1024, .bf16⟩
  | .hbm, ⟨14, _⟩ => ⟨S1x128, .f32⟩
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x128, .f32⟩
  | .local _ .vmem, ⟨7, _⟩ => ⟨S64x128, .f32⟩
  | .local _ .vmem, ⟨8, _⟩ => ⟨S64x128, .f32⟩
  | .local _ .vmem, ⟨9, _⟩ => ⟨S64x128, .f32⟩
  | .local _ .vmem, ⟨10, _⟩ => ⟨S1x8x128x128, .f32⟩
  | .local _ .vmem, ⟨11, _⟩ => ⟨S1x8x128x128, .f32⟩
  | .local _ .vmem, ⟨12, _⟩ => ⟨S1x8x64x64, .bf16⟩
  | .local _ .vmem, ⟨13, _⟩ => ⟨S1x8x64x64, .bf16⟩
  | .local _ .vmem, ⟨14, _⟩ => ⟨S64x1024, .f32⟩
  | .local _ .vmem, ⟨15, _⟩ => ⟨S64x1024, .f32⟩
  | .local _ .vmem, ⟨16, _⟩ => ⟨S64x1024, .f32⟩
  | .local _ .vmem, ⟨17, _⟩ => ⟨S64x1024, .f32⟩
  | .local _ .vmem, ⟨18, _⟩ => ⟨S1x128, .f32⟩
  | .local _ .vmem, ⟨19, _⟩ => ⟨S64x1024, .f32⟩
  | .local _ .vmem, ⟨20, _⟩ => ⟨S64x1024, .f32⟩
  | .local _ .vmem, ⟨21, _⟩ => ⟨S64x3072, .f32⟩
  | .local _ .vmem, ⟨22, _⟩ => ⟨S64x3072, .f32⟩
  | .local _ .vmem, ⟨23, _⟩ => ⟨S64x128, .f32⟩
  | .local _ .vmem, ⟨24, _⟩ => ⟨S64x128, .f32⟩
  | .local _ .vmem, ⟨25, _⟩ => ⟨S64x128, .f32⟩
  | .local _ .vmem, ⟨26, _⟩ => ⟨S64x128, .f32⟩
  | .local _ .vmem, ⟨27, _⟩ => ⟨S64x1024, .bf16⟩
  | .local _ .vmem, ⟨28, _⟩ => ⟨S64x1024, .bf16⟩
  | .local _ .vmem, ⟨29, _⟩ => ⟨S1x128, .f32⟩
  | .local _ .vmem, ⟨30, _⟩ => ⟨S8x128x128, .f32⟩
  | _, _ => ⟨S2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v1_3 : Ref sig .tc := ⟨.hbm, 13, rfl⟩
abbrev main_v1_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_scratch0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c1_i32 : BitVec 32 := 1#32
  let c0_i32 : BitVec 32 := 0#32
  ![v0.toNat, c1_i32.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c2_i32 : BitVec 32 := 2#32
  let c0_i32 : BitVec 32 := 0#32
  ![v0.toNat, c2_i32.toNat]

def cc0_transform_3 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_5 (i : grid0.Coords) : Fin 4 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_6 (i : grid0.Coords) : Fin 4 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_7 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c31_i32 : BitVec 32 := 31#32
  let v0 : BitVec 32 := Scalar.subi c31_i32 arg0
  let c3_i32 : BitVec 32 := 3#32
  let c0_i32 : BitVec 32 := 0#32
  ![v0.toNat, c3_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8x64x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S64x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S64x3072 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S64x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S64x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S64x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== DnBRefIdeal.lean ====
abbrev S2048x3072 : Shape := ⟨2, ![2048, 3072]⟩
abbrev S2048x128 : Shape := ⟨2, ![2048, 128]⟩
abbrev S32x8x128x128 : Shape := ⟨4, ![32, 8, 128, 128]⟩
abbrev S32x8x64x64 : Shape := ⟨4, ![32, 8, 64, 64]⟩
abbrev S2048x1024 : Shape := ⟨2, ![2048, 1024]⟩
abbrev S2048x8448 : Shape := ⟨2, ![2048, 8448]⟩
abbrev S128 : Shape := ⟨1, ![128]⟩
abbrev S2048x2048 : Shape := ⟨2, ![2048, 2048]⟩
abbrev S2048x8x128 : Shape := ⟨3, ![2048, 8, 128]⟩
abbrev S_ : Shape := ⟨0, ![]⟩
abbrev S2048x8 : Shape := ⟨2, ![2048, 8]⟩
abbrev S2048x8x1 : Shape := ⟨3, ![2048, 8, 1]⟩
abbrev S1x1x128 : Shape := ⟨3, ![1, 1, 128]⟩
abbrev S1x128 : Shape := ⟨2, ![1, 128]⟩

abbrev nBuf : Space → Nat
  | .hbm => 49
  | .vmem => 0
  | .smem => 0
  | _ => 0

abbrev bufTy : (tb : Table) → Fin (tcTables nBuf tb) → BufTy
  | .hbm, ⟨0, _⟩ => ⟨S2048x3072, .f32⟩
  | .hbm, ⟨1, _⟩ => ⟨S2048x128, .f32⟩
  | .hbm, ⟨2, _⟩ => ⟨S2048x128, .f32⟩
  | .hbm, ⟨3, _⟩ => ⟨S32x8x128x128, .f32⟩
  | .hbm, ⟨4, _⟩ => ⟨S32x8x64x64, .bf16⟩
  | .hbm, ⟨5, _⟩ => ⟨S2048x1024, .f32⟩
  | .hbm, ⟨6, _⟩ => ⟨S2048x8448, .f32⟩
  | .hbm, ⟨7, _⟩ => ⟨S128, .f32⟩
  | .hbm, ⟨8, _⟩ => ⟨S2048x2048, .f32⟩
  | .hbm, ⟨9, _⟩ => ⟨S2048x1024, .f32⟩
  | .hbm, ⟨10, _⟩ => ⟨S2048x8x128, .f32⟩
  | .hbm, ⟨11, _⟩ => ⟨S2048x8x128, .f32⟩
  | .hbm, ⟨12, _⟩ => ⟨S_, .f32⟩
  | .hbm, ⟨13, _⟩ => ⟨S2048x8, .f32⟩
  | .hbm, ⟨14, _⟩ => ⟨S2048x8x1, .f32⟩
  | .hbm, ⟨15, _⟩ => ⟨S_, .f32⟩
  | .hbm, ⟨16, _⟩ => ⟨S2048x8x1, .f32⟩
  | .hbm, ⟨17, _⟩ => ⟨S2048x8x1, .f32⟩
  | .hbm, ⟨18, _⟩ => ⟨S_, .f32⟩
  | .hbm, ⟨19, _⟩ => ⟨S2048x8x1, .f32⟩
  | .hbm, ⟨20, _⟩ => ⟨S2048x8x1, .f32⟩
  | .hbm, ⟨21, _⟩ => ⟨S2048x8x1, .f32⟩
  | .hbm, ⟨22, _⟩ => ⟨S2048x8x128, .f32⟩
  | .hbm, ⟨23, _⟩ => ⟨S2048x8x128, .f32⟩
  | .hbm, ⟨24, _⟩ => ⟨S1x1x128, .f32⟩
  | .hbm, ⟨25, _⟩ => ⟨S2048x8x128, .f32⟩
  | .hbm, ⟨26, _⟩ => ⟨S2048x8x128, .f32⟩
  | .hbm, ⟨27, _⟩ => ⟨S2048x8x128, .f32⟩
  | .hbm, ⟨28, _⟩ => ⟨S2048x8x128, .f32⟩
  | .hbm, ⟨29, _⟩ => ⟨S2048x8x128, .f32⟩
  | .hbm, ⟨30, _⟩ => ⟨S_, .f32⟩
  | .hbm, ⟨31, _⟩ => ⟨S2048x8x128, .f32⟩
  | .hbm, ⟨32, _⟩ => ⟨S2048x8x128, .f32⟩
  | .hbm, ⟨33, _⟩ => ⟨S_, .f32⟩
  | .hbm, ⟨34, _⟩ => ⟨S2048x8x128, .f32⟩
  | .hbm, ⟨35, _⟩ => ⟨S2048x8x128, .f32⟩
  | .hbm, ⟨36, _⟩ => ⟨S2048x8x128, .f32⟩
  | .hbm, ⟨37, _⟩ => ⟨S2048x8x128, .f32⟩
  | .hbm, ⟨38, _⟩ => ⟨S2048x1024, .f32⟩
  | .hbm, ⟨39, _⟩ => ⟨S2048x1024, .f32⟩
  | .hbm, ⟨40, _⟩ => ⟨S2048x8x128, .f32⟩
  | .hbm, ⟨41, _⟩ => ⟨S2048x8x128, .f32⟩
  | .hbm, ⟨42, _⟩ => ⟨S2048x8x128, .f32⟩
  | .hbm, ⟨43, _⟩ => ⟨S_, .f32⟩
  | .hbm, ⟨44, _⟩ => ⟨S128, .f32⟩
  | .hbm, ⟨45, _⟩ => ⟨S1x1x128, .f32⟩
  | .hbm, ⟨46, _⟩ => ⟨S_, .f32⟩
  | .hbm, ⟨47, _⟩ => ⟨S128, .f32⟩
  | .hbm, ⟨48, _⟩ => ⟨S1x128, .f32⟩
  | _, _ => ⟨S2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_2 : Ref sig .tc := ⟨.hbm, 43, rfl⟩
abbrev main_v23 : Ref sig .tc := ⟨.hbm, 44, rfl⟩
abbrev main_v24 : Ref sig .tc := ⟨.hbm, 45, rfl⟩
abbrev main_cst_3 : Ref sig .tc := ⟨.hbm, 46, rfl⟩
abbrev main_v25 : Ref sig .tc := ⟨.hbm, 47, rfl⟩
abbrev main_v26 : Ref sig .tc := ⟨.hbm, 48, rfl⟩

abbrev nD : Nat := 1
abbrev τ : Topo := Topo.v7x

variable {F : FTy → Type} [FloatOps F]
-- ==== GateF.lean ====
abbrev S2048x8448 : Shape := ⟨2, ![2048, 8448]⟩
abbrev S1x128 : Shape := ⟨2, ![1, 128]⟩
abbrev S2048x128 : Shape := ⟨2, ![2048, 128]⟩
abbrev S512x128 : Shape := ⟨2, ![512, 128]⟩
abbrev S64x64 : Shape := ⟨2, ![64, 64]⟩
abbrev S64x128 : Shape := ⟨2, ![64, 128]⟩

abbrev nBuf : Space → Nat
  | .hbm => 5
  | .vmem => 10
  | .smem => 0
  | _ => 0

abbrev bufTy : (tb : Table) → Fin (tcTables nBuf tb) → BufTy
  | .hbm, ⟨0, _⟩ => ⟨S2048x8448, .f32⟩
  | .hbm, ⟨1, _⟩ => ⟨S1x128, .f32⟩
  | .hbm, ⟨2, _⟩ => ⟨S1x128, .f32⟩
  | .hbm, ⟨3, _⟩ => ⟨S2048x128, .f32⟩
  | .hbm, ⟨4, _⟩ => ⟨S2048x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S1x128, .f32⟩
  | .local _ .vmem, ⟨5, _⟩ => ⟨S1x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | _, _ => ⟨S2048x8448, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c64_i32 : BitVec 32 := 64#32
  let c0_i32 : BitVec 32 := 0#32
  ![arg0.toNat, c64_i32.toNat]

def cc0_transform_1 (i : grid0.Coords) : Fin 2 → Nat :=
  let arg0 : BitVec 32 := BitVec.ofNat 32 (i 0).val
  let c65_i32 : BitVec 32 := 65#32
  let c0_i32 : BitVec 32 := 0#32
  ![arg0.toNat, c65_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== GateFRefIdeal.lean ====
abbrev S2048x8448 : Shape := ⟨2, ![2048, 8448]⟩
abbrev S1x128 : Shape := ⟨2, ![1, 128]⟩
abbrev S2048x128 : Shape := ⟨2, ![2048, 128]⟩
abbrev S_ : Shape := ⟨0, ![]⟩
abbrev S32x64x128 : Shape := ⟨3, ![32, 64, 128]⟩

abbrev nBuf : Space → Nat
  | .hbm => 38
  | .vmem => 0
  | .smem => 0
  | _ => 0

abbrev bufTy : (tb : Table) → Fin (tcTables nBuf tb) → BufTy
  | .hbm, ⟨0, _⟩ => ⟨S2048x8448, .f32⟩
  | .hbm, ⟨1, _⟩ => ⟨S1x128, .f32⟩
  | .hbm, ⟨2, _⟩ => ⟨S1x128, .f32⟩
  | .hbm, ⟨3, _⟩ => ⟨S2048x128, .f32⟩
  | .hbm, ⟨4, _⟩ => ⟨S2048x128, .f32⟩
  | .hbm, ⟨5, _⟩ => ⟨S1x128, .f32⟩
  | .hbm, ⟨6, _⟩ => ⟨S2048x128, .f32⟩
  | .hbm, ⟨7, _⟩ => ⟨S2048x128, .f32⟩
  | .hbm, ⟨8, _⟩ => ⟨S_, .f32⟩
  | .hbm, ⟨9, _⟩ => ⟨S2048x128, .f32⟩
  | .hbm, ⟨10, _⟩ => ⟨S2048x128, .f32⟩
  | .hbm, ⟨11, _⟩ => ⟨S2048x128, .f32⟩
  | .hbm, ⟨12, _⟩ => ⟨S2048x128, .f32⟩
  | .hbm, ⟨13, _⟩ => ⟨S2048x128, .i1⟩
  | .hbm, ⟨14, _⟩ => ⟨S2048x128, .f32⟩
  | .hbm, ⟨15, _⟩ => ⟨S2048x128, .f32⟩
  | .hbm, ⟨16, _⟩ => ⟨S2048x128, .f32⟩
  | .hbm, ⟨17, _⟩ => ⟨S2048x128, .f32⟩
  | .hbm, ⟨18, _⟩ => ⟨S2048x128, .f32⟩
  | .hbm, ⟨19, _⟩ => ⟨S2048x128, .f32⟩
  | .hbm, ⟨20, _⟩ => ⟨S2048x128, .f32⟩
  | .hbm, ⟨21, _⟩ => ⟨S2048x128, .f32⟩
  | .hbm, ⟨22, _⟩ => ⟨S2048x128, .f32⟩
  | .hbm, ⟨23, _⟩ => ⟨S2048x128, .f32⟩
  | .hbm, ⟨24, _⟩ => ⟨S2048x128, .f32⟩
  | .hbm, ⟨25, _⟩ => ⟨S2048x128, .f32⟩
  | .hbm, ⟨26, _⟩ => ⟨S2048x128, .f32⟩
  | .hbm, ⟨27, _⟩ => ⟨S_, .f32⟩
  | .hbm, ⟨28, _⟩ => ⟨S2048x128, .f32⟩
  | .hbm, ⟨29, _⟩ => ⟨S2048x128, .f32⟩
  | .hbm, ⟨30, _⟩ => ⟨S_, .f32⟩
  | .hbm, ⟨31, _⟩ => ⟨S2048x128, .f32⟩
  | .hbm, ⟨32, _⟩ => ⟨S2048x128, .f32⟩
  | .hbm, ⟨33, _⟩ => ⟨S32x64x128, .f32⟩
  | .hbm, ⟨34, _⟩ => ⟨S_, .f32⟩
  | .hbm, ⟨35, _⟩ => ⟨S_, .f32⟩
  | .hbm, ⟨36, _⟩ => ⟨S32x64x128, .f32⟩
  | .hbm, ⟨37, _⟩ => ⟨S2048x128, .f32⟩
  | _, _ => ⟨S2048x8448, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_cst : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_cst_0 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_call1_call0_cst : Ref sig .tc := ⟨.hbm, 34, rfl⟩
abbrev main_call1_call0_v0 : Ref sig .tc := ⟨.hbm, 35, rfl⟩
abbrev main_v16 : Ref sig .tc := ⟨.hbm, 36, rfl⟩
abbrev main_v17 : Ref sig .tc := ⟨.hbm, 37, rfl⟩

abbrev nD : Nat := 1
abbrev τ : Topo := Topo.v7x

variable {F : FTy → Type} [FloatOps F]
-- ==== Qkv.lean ====
abbrev S2048x8448 : Shape := ⟨2, ![2048, 8448]⟩
abbrev S4x3072 : Shape := ⟨2, ![4, 3072]⟩
abbrev S2048x3072 : Shape := ⟨2, ![2048, 3072]⟩
abbrev S2048x128 : Shape := ⟨2, ![2048, 128]⟩
abbrev S4x128 : Shape := ⟨2, ![4, 128]⟩
abbrev S1x128 : Shape := ⟨2, ![1, 128]⟩
abbrev S2048 : Shape := ⟨1, ![2048]⟩
abbrev S2048x1 : Shape := ⟨2, ![2048, 1]⟩

abbrev nBuf : Space → Nat
  | .hbm => 3
  | .vmem => 6
  | .smem => 0
  | _ => 0

abbrev bufTy : (tb : Table) → Fin (tcTables nBuf tb) → BufTy
  | .hbm, ⟨0, _⟩ => ⟨S2048x8448, .f32⟩
  | .hbm, ⟨1, _⟩ => ⟨S4x3072, .f32⟩
  | .hbm, ⟨2, _⟩ => ⟨S2048x3072, .f32⟩
  | .local _ .vmem, ⟨0, _⟩ => ⟨S2048x128, .f32⟩
  | .local _ .vmem, ⟨1, _⟩ => ⟨S2048x128, .f32⟩
  | .local _ .vmem, ⟨2, _⟩ => ⟨S4x128, .f32⟩
  | .local _ .vmem, ⟨3, _⟩ => ⟨S4x128, .f32⟩
  | .local _ .vmem, ⟨4, _⟩ => ⟨S2048x128, .f32⟩
  | .local _ .vmem, ⟨5, _⟩ => ⟨S2048x128, .f32⟩
  | _, _ => ⟨S2048x8448, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== QkvRefIdeal.lean ====
abbrev S2048x8448 : Shape := ⟨2, ![2048, 8448]⟩
abbrev S4x3072 : Shape := ⟨2, ![4, 3072]⟩
abbrev S2048x3072 : Shape := ⟨2, ![2048, 3072]⟩
abbrev S_ : Shape := ⟨0, ![]⟩
abbrev S3x3072 : Shape := ⟨2, ![3, 3072]⟩
abbrev S2051x3072 : Shape := ⟨2, ![2051, 3072]⟩
abbrev S1x3072 : Shape := ⟨2, ![1, 3072]⟩
abbrev S3072 : Shape := ⟨1, ![3072]⟩
abbrev S2048x1024 : Shape := ⟨2, ![2048, 1024]⟩
abbrev S2048x8x128 : Shape := ⟨3, ![2048, 8, 128]⟩
abbrev S2048x8 : Shape := ⟨2, ![2048, 8]⟩
abbrev S2048x8x1 : Shape := ⟨3, ![2048, 8, 1]⟩

abbrev nBuf : Space → Nat
  | .hbm => 76
  | .vmem => 0
  | .smem => 0
  | _ => 0

abbrev bufTy : (tb : Table) → Fin (tcTables nBuf tb) → BufTy
  | .hbm, ⟨0, _⟩ => ⟨S2048x8448, .f32⟩
  | .hbm, ⟨1, _⟩ => ⟨S4x3072, .f32⟩
  | .hbm, ⟨2, _⟩ => ⟨S2048x3072, .f32⟩
  | .hbm, ⟨3, _⟩ => ⟨S_, .f32⟩
  | .hbm, ⟨4, _⟩ => ⟨S3x3072, .f32⟩
  | .hbm, ⟨5, _⟩ => ⟨S2051x3072, .f32⟩
  | .hbm, ⟨6, _⟩ => ⟨S1x3072, .f32⟩
  | .hbm, ⟨7, _⟩ => ⟨S3072, .f32⟩
  | .hbm, ⟨8, _⟩ => ⟨S2048x3072, .f32⟩
  | .hbm, ⟨9, _⟩ => ⟨S1x3072, .f32⟩
  | .hbm, ⟨10, _⟩ => ⟨S2048x3072, .f32⟩
  | .hbm, ⟨11, _⟩ => ⟨S2048x3072, .f32⟩
  | .hbm, ⟨12, _⟩ => ⟨S_, .f32⟩
  | .hbm, ⟨13, _⟩ => ⟨S2048x3072, .f32⟩
  | .hbm, ⟨14, _⟩ => ⟨S2048x3072, .f32⟩
  | .hbm, ⟨15, _⟩ => ⟨S1x3072, .f32⟩
  | .hbm, ⟨16, _⟩ => ⟨S3072, .f32⟩
  | .hbm, ⟨17, _⟩ => ⟨S2048x3072, .f32⟩
  | .hbm, ⟨18, _⟩ => ⟨S1x3072, .f32⟩
  | .hbm, ⟨19, _⟩ => ⟨S2048x3072, .f32⟩
  | .hbm, ⟨20, _⟩ => ⟨S2048x3072, .f32⟩
  | .hbm, ⟨21, _⟩ => ⟨S2048x3072, .f32⟩
  | .hbm, ⟨22, _⟩ => ⟨S1x3072, .f32⟩
  | .hbm, ⟨23, _⟩ => ⟨S3072, .f32⟩
  | .hbm, ⟨24, _⟩ => ⟨S2048x3072, .f32⟩
  | .hbm, ⟨25, _⟩ => ⟨S1x3072, .f32⟩
  | .hbm, ⟨26, _⟩ => ⟨S2048x3072, .f32⟩
  | .hbm, ⟨27, _⟩ => ⟨S2048x3072, .f32⟩
  | .hbm, ⟨28, _⟩ => ⟨S2048x3072, .f32⟩
  | .hbm, ⟨29, _⟩ => ⟨S1x3072, .f32⟩
  | .hbm, ⟨30, _⟩ => ⟨S3072, .f32⟩
  | .hbm, ⟨31, _⟩ => ⟨S2048x3072, .f32⟩
  | .hbm, ⟨32, _⟩ => ⟨S1x3072, .f32⟩
  | .hbm, ⟨33, _⟩ => ⟨S2048x3072, .f32⟩
  | .hbm, ⟨34, _⟩ => ⟨S2048x3072, .f32⟩
  | .hbm, ⟨35, _⟩ => ⟨S2048x3072, .f32⟩
  | .hbm, ⟨36, _⟩ => ⟨S2048x3072, .f32⟩
  | .hbm, ⟨37, _⟩ => ⟨S2048x3072, .f32⟩
  | .hbm, ⟨38, _⟩ => ⟨S_, .f32⟩
  | .hbm, ⟨39, _⟩ => ⟨S2048x3072, .f32⟩
  | .hbm, ⟨40, _⟩ => ⟨S2048x3072, .f32⟩
  | .hbm, ⟨41, _⟩ => ⟨S_, .f32⟩
  | .hbm, ⟨42, _⟩ => ⟨S2048x3072, .f32⟩
  | .hbm, ⟨43, _⟩ => ⟨S2048x3072, .f32⟩
  | .hbm, ⟨44, _⟩ => ⟨S2048x3072, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S2048x8x128, .f32⟩
  | .hbm, ⟨49, _⟩ => ⟨S2048x8x128, .f32⟩
  | .hbm, ⟨50, _⟩ => ⟨S_, .f32⟩
  | .hbm, ⟨51, _⟩ => ⟨S2048x8, .f32⟩
  | .hbm, ⟨52, _⟩ => ⟨S2048x8x1, .f32⟩
  | .hbm, ⟨53, _⟩ => ⟨S_, .f32⟩
  | .hbm, ⟨54, _⟩ => ⟨S2048x8x1, .f32⟩
  | .hbm, ⟨55, _⟩ => ⟨S2048x8x1, .f32⟩
  | .hbm, ⟨56, _⟩ => ⟨S2048x8x1, .f32⟩
  | .hbm, ⟨57, _⟩ => ⟨S2048x8x128, .f32⟩
  | .hbm, ⟨58, _⟩ => ⟨S2048x8x128, .f32⟩
  | .hbm, ⟨59, _⟩ => ⟨S_, .f32⟩
  | .hbm, ⟨60, _⟩ => ⟨S2048x8x128, .f32⟩
  | .hbm, ⟨61, _⟩ => ⟨S2048x8x128, .f32⟩
  | .hbm, ⟨62, _⟩ => ⟨S2048x8x128, .f32⟩
  | .hbm, ⟨63, _⟩ => ⟨S2048x8x128, .f32⟩
  | .hbm, ⟨64, _⟩ => ⟨S_, .f32⟩
  | .hbm, ⟨65, _⟩ => ⟨S2048x8, .f32⟩
  | .hbm, ⟨66, _⟩ => ⟨S2048x8x1, .f32⟩
  | .hbm, ⟨67, _⟩ => ⟨S_, .f32⟩
  | .hbm, ⟨68, _⟩ => ⟨S2048x8x1, .f32⟩
  | .hbm, ⟨69, _⟩ => ⟨S2048x8x1, .f32⟩
  | .hbm, ⟨70, _⟩ => ⟨S2048x8x1, .f32⟩
  | .hbm, ⟨71, _⟩ => ⟨S2048x8x128, .f32⟩
  | .hbm, ⟨72, _⟩ => ⟨S2048x8x128, .f32⟩
  | .hbm, ⟨73, _⟩ => ⟨S2048x1024, .f32⟩
  | .hbm, ⟨74, _⟩ => ⟨S2048x1024, .f32⟩
  | .hbm, ⟨75, _⟩ => ⟨S2048x3072, .f32⟩
  | _, _ => ⟨S2048x8448, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_1 : Ref sig .tc := ⟨.hbm, 50, rfl⟩
abbrev main_v38 : Ref sig .tc := ⟨.hbm, 51, rfl⟩
abbrev main_v39 : Ref sig .tc := ⟨.hbm, 52, rfl⟩
abbrev main_cst_2 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_3 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_4 : Ref sig .tc := ⟨.hbm, 64, rfl⟩
abbrev main_v49 : Ref sig .tc := ⟨.hbm, 65, rfl⟩
abbrev main_v50 : Ref sig .tc := ⟨.hbm, 66, rfl⟩
abbrev main_cst_5 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩

abbrev nD : Nat := 1
abbrev τ : Topo := Topo.v7x

variable {F : FTy → Type} [FloatOps F]
-- ==== HgF.lean ====
abbrev S2048x8448 : Shape := ⟨2, ![2048, 8448]⟩
abbrev S1x1024 : Shape := ⟨2, ![1, 1024]⟩
abbrev S128 : Shape := ⟨1, ![128]⟩
abbrev S1x128 : Shape := ⟨2, ![1, 128]⟩
abbrev S2048x1024 : Shape := ⟨2, ![2048, 1024]⟩
abbrev S32x8x128x128 : Shape := ⟨4, ![32, 8, 128, 128]⟩
abbrev S64x1024 : Shape := ⟨2, ![64, 1024]⟩
abbrev S1x8x128x128 : Shape := ⟨4, ![1, 8, 128, 128]⟩
abbrev S8x128x128 : Shape := ⟨3, ![8, 128, 128]⟩
abbrev S1x128x128 : Shape := ⟨3, ![1, 128, 128]⟩
abbrev S128x128 : Shape := ⟨2, ![128, 128]⟩
abbrev S64x64 : Shape := ⟨2, ![64, 64]⟩
abbrev S64x128 : Shape := ⟨2, ![64, 128]⟩
abbrev S16x128 : Shape := ⟨2, ![16, 128]⟩
abbrev S256x128 : Shape := ⟨2, ![256, 128]⟩
abbrev S64x1 : Shape := ⟨2, ![64, 1]⟩
abbrev S64x256 : Shape := ⟨2, ![64, 256]⟩
abbrev S64 : Shape := ⟨1, ![64]⟩
abbrev S1x1x128x128 : Shape := ⟨4, ![1, 1, 128, 128]⟩

abbrev nBuf : Space → Nat
  | .hbm => 10
  | .vmem => 23
  | .smem => 0
  | _ => 0

abbrev bufTy : (tb : Table) → Fin (tcTables nBuf tb) → BufTy
  | .hbm, ⟨0, _⟩ => ⟨S2048x8448, .f32⟩
  | .hbm, ⟨1, _⟩ => ⟨S1x1024, .f32⟩
  | .hbm, ⟨2, _⟩ => ⟨S128, .f32⟩
  | .hbm, ⟨3, _⟩ => ⟨S1x128, .f32⟩
  | .hbm, ⟨4, _⟩ => ⟨S2048x1024, .f32⟩
  | .hbm, ⟨5, _⟩ => ⟨S32x8x128x128, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .bf16⟩
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S1x1024, .f32⟩
  | .local _ .vmem, ⟨7, _⟩ => ⟨S64x1024, .f32⟩
  | .local _ .vmem, ⟨8, _⟩ => ⟨S64x1024, .f32⟩
  | .local _ .vmem, ⟨9, _⟩ => ⟨S1x128, .f32⟩
  | .local _ .vmem, ⟨10, _⟩ => ⟨S64x1024, .f32⟩
  | .local _ .vmem, ⟨11, _⟩ => ⟨S64x1024, .f32⟩
  | .local _ .vmem, ⟨12, _⟩ => ⟨S1x8x128x128, .f32⟩
  | .local _ .vmem, ⟨13, _⟩ => ⟨S1x8x128x128, .f32⟩
  | .local _ .vmem, ⟨14, _⟩ => ⟨S64x1024, .f32⟩
  | .local _ .vmem, ⟨15, _⟩ => ⟨S64x1024, .f32⟩
  | .local _ .vmem, ⟨16, _⟩ => ⟨S64x1024, .f32⟩
  | .local _ .vmem, ⟨17, _⟩ => ⟨S64x1024, .f32⟩
  | .local _ .vmem, ⟨18, _⟩ => ⟨S64x1024, .f32⟩
  | .local _ .vmem, ⟨19, _⟩ => ⟨S64x1024, .f32⟩
  | .local _ .vmem, ⟨20, _⟩ => ⟨S64x1024, .bf16⟩
  | .local _ .vmem, ⟨21, _⟩ => ⟨S64x1024, .bf16⟩
  | .local _ .vmem, ⟨22, _⟩ => ⟨S8x128x128, .f32⟩
  | _, _ => ⟨S2048x8448, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev main_v1_4 : Ref sig .tc := ⟨.hbm, 8, rfl⟩
abbrev main_v1_5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_2 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S64x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S64x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== HgFRefIdeal.lean ====
abbrev S2048x8448 : Shape := ⟨2, ![2048, 8448]⟩
abbrev S1x1024 : Shape := ⟨2, ![1, 1024]⟩
abbrev S128 : Shape := ⟨1, ![128]⟩
abbrev S2048x1024 : Shape := ⟨2, ![2048, 1024]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S2048x8448, .f32⟩
  | .hbm, ⟨1, _⟩ => ⟨S1x1024, .f32⟩
  | .hbm, ⟨2, _⟩ => ⟨S128, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048x1024, .f32⟩
  | .hbm, ⟨9, _⟩ => ⟨S2048x1024, .f32⟩
  | .hbm, ⟨10, _⟩ => ⟨S_, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S_, .f32⟩
  | .hbm, ⟨15, _⟩ => ⟨S1x1024, .f32⟩
  | .hbm, ⟨16, _⟩ => ⟨S1x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S_, .f32⟩
  | .hbm, ⟨21, _⟩ => ⟨S2048x1024, .f32⟩
  | .hbm, ⟨22, _⟩ => ⟨S2048x1024, .f32⟩
  | .hbm, ⟨23, _⟩ => ⟨S_, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S1x1024, .f32⟩
  | .hbm, ⟨30, _⟩ => ⟨S1x1024, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S2048x1024, .f32⟩
  | .hbm, ⟨35, _⟩ => ⟨S2048x1024, .f32⟩
  | .hbm, ⟨36, _⟩ => ⟨S_, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x1024, .f32⟩
  | _, _ => ⟨S2048x8448, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_cst_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩

abbrev nD : Nat := 1
abbrev τ : Topo := Topo.v7x

variable {F : FTy → Type} [FloatOps F]
-- ==== Proof.Whole.lean ====
/-
  A load or a store through the rectangle that is a whole rank-2 buffer, stated at any two extents, so that one lemma
  serves every buffer of every call here.
-/
module

public import Idealize.ShloMosaic.Lib.Pipeline.Value
public import Idealize.ShloMosaic.Lib.Pipeline.ValueKit.Acc

@[expose] public section

noncomputable section

namespace Cert.Whole

open Idealize.ShloMosaic

variable {Val : EltTy → Type} {e : EltTy} {M N : ℕ}

theorem hz : (![0, 0] : Fin 2 → Nat) = fun _ => 0 := funext fun a => by fin_cases a <;> rfl

/-- The shape of an M × N block. -/
abbrev Mat (M N : ℕ) : Shape := ⟨2, ![M, N]⟩

/-- A load of the whole block is its contents. -/
theorem ld (inb : ∀ a, (![0, 0] : Fin 2 → Nat) a + (![M, N] : Fin 2 → Nat) a ≤ (Mat M N).size a) (X : (Mat M N).Idx → Val e) :
    View.ld X (Rect.unit (s := Mat M N) ![0, 0] ![M, N] inb) = X :=
  View.ld_unit_zero (S := Mat M N) hz inb X

variable [∀ e, Nonempty (Val e)]

/-- The last store of the whole block decides what it holds. -/
theorem canon (inb : ∀ a, (![0, 0] : Fin 2 → Nat) a + (![M, N] : Fin 2 → Nat) a ≤ (Mat M N).size a) (w : (Mat M N).Idx → Val e)
    (L : List (View.Piece Val (Mat M N) e)) :
    View.canon ((⟨Rect.unit (s := Mat M N) ![0, 0] ![M, N] inb, w⟩ : View.Piece Val (Mat M N) e) :: L) = w :=
  View.canon_cons_unit_zero (S := Mat M N) hz inb w L

/-- A load of the whole block after one store of it is the stored payload. -/
theorem readCov {sig : RefSig} {κ : Kind} {sp : Space} (v : View sig κ sp (Mat M N) e)
    (inb : ∀ a, (![0, 0] : Fin 2 → Nat) a + (![M, N] : Fin 2 → Nat) a ≤ (Mat M N).size a) (w : (Mat M N).Idx → Val e) :
    v.readCov [(⟨Rect.unit (s := Mat M N) ![0, 0] ![M, N] inb, w⟩ : View.Piece Val (Mat M N) e)]
      (Rect.unit (s := Mat M N) ![0, 0] ![M, N] inb).toLoadRect = w :=
  View.readCov_unit_zero (S := Mat M N) v hz inb w

/-- A load of the whole block after several stores of it is the payload of the last one. -/
theorem readCov_last {sig : RefSig} {κ : Kind} {sp : Space} (v : View sig κ sp (Mat M N) e)
    (inb : ∀ a, (![0, 0] : Fin 2 → Nat) a + (![M, N] : Fin 2 → Nat) a ≤ (Mat M N).size a) (w : (Mat M N).Idx → Val e)
    (L : List (View.Piece Val (Mat M N) e)) :
    v.readCov ((⟨Rect.unit (s := Mat M N) ![0, 0] ![M, N] inb, w⟩ : View.Piece Val (Mat M N) e) :: L)
      (Rect.unit (s := Mat M N) ![0, 0] ![M, N] inb).toLoadRect = w :=
  View.readCov_cons_unit_lit' (S := Mat M N) v inb inb w L (fun a => congrFun hz a) fun a => congrFun hz a

end Cert.Whole

end
-- ==== Proof.DhnCases.lean ====
/-
  What one grid point of the call `mm_dhn` leaves in its scratch and in its two results, case by case. A point either
  opens a row block's accumulation (case A), continues it (case B), or closes it and applies the gradient of the
  normalisation (cases C and D, the first row block and the others). Each statement reads the stores the run found as
  the payloads of the printed body at the blocks the point reads.
-/
module

public import proofs.«01_k».proof.Proof.Gen.DhnIdeal.Value
public import proofs.«01_k».proof.Proof.Whole
public import Idealize.ShloMosaic.Lib.Tactic

@[expose] public section

set_option maxRecDepth 16384

noncomputable section

namespace Cert.DhnIdeal.Cases

open Cert.DhnIdeal Cert.DhnIdeal.Gen Idealize.ShloMosaic Idealize.ShloMosaic.TcCoe Idealize.SL.Sem

variable {F : FTy → Type} [FloatOps F]

variable (c : Dev nD) (i : grid0.Coords)
  (a3 : Memref sig .tc .vmem S512x768 .bf16) (h3 : a3.IsWhole) (a4 : Memref sig .tc .vmem S2048x768 .bf16) (h4 : a4.IsWhole)
  (a5 : Memref sig .tc .vmem S512x2048 .f32) (h5 : a5.IsWhole) (a6 : Memref sig .tc .vmem S1x2048 .f32) (h6 : a6.IsWhole)
  (a7 : Memref sig .tc .vmem S512x2048 .f32) (h7 : a7.IsWhole) (a8 : Memref sig .tc .vmem S512x2048 .f32) (h8 : a8.IsWhole)
  (a9 : Memref sig .tc .vmem S1x2048 .f32) (h9 : a9.IsWhole) (a10 : Memref sig .tc .vmem S512x2048 .f32) (h10 : a10.IsWhole)
  (x0 : Vec F S512x768 .bf16) (x1 : Vec F S2048x768 .bf16) (x2 : Vec F S512x2048 .f32) (x3 : Vec F S1x2048 .f32)
  (x4 : Vec F S512x2048 .f32) (xo : Vec F S1x2048 .f32) (xs : Vec F S512x2048 .f32)

/-- The first point of a row block leaves the product of its two blocks over the zero block. -/
theorem scratch_A (hc0 : cond0_0 i) (hc1 : ¬cond0_1 i) :
    sout0_A_0 c i a3 h3 a4 h4 a5 h5 a6 h6 a7 h7 a8 h8 a9 h9 a10 h10 hc0 hc1 x0 x1 x2 x3 x4 = k0_pay2 x1 k0_pay1 x0 := by
  unfold sout0_A_0
  rw [View.read_writes_eq_canon _ _ _ (scover0_A_0 c i a3 h3 a4 h4 a5 h5 a6 h6 a7 h7 a8 h8 a9 h9 a10 h10 hc0 hc1 x0 x1 x2 x3 x4)]
  unfold kernelRun0_A
  dsimp only
  sl_unfold_words
  rw [Whole.canon]
  simp only [View.readAt_eq_ld, h3.read_unread, h4.read_unread, Whole.ld, Whole.readCov]

/-- A middle point adds the product of its two blocks to what the scratch held. -/
theorem scratch_B (hc0 : ¬cond0_0 i) (hc1 : ¬cond0_1 i) :
    sout0_B_0 c i a3 h3 a4 h4 a5 h5 a6 h6 a7 h7 a8 h8 a9 h9 a10 h10 hc0 hc1 x0 x1 x2 x3 x4 xs = k0_pay2 x1 xs x0 := by
  unfold sout0_B_0
  rw [View.read_writes_eq_canon _ _ _ (scover0_B_0 c i a3 h3 a4 h4 a5 h5 a6 h6 a7 h7 a8 h8 a9 h9 a10 h10 hc0 hc1 x0 x1 x2 x3 x4 xs)]
  unfold kernelRun0_B
  dsimp only
  sl_unfold_words
  rw [Whole.canon]
  simp only [View.readAt_eq_ld, h3.read_unread, h4.read_unread, h10.read_unread, Whole.ld]

/-- So does the last point of the first row block. -/
theorem scratch_C (hc0 : ¬cond0_0 i) (hc1 : cond0_1 i) (hc2 : cond0_2 i) :
    sout0_C_0 c i a3 h3 a4 h4 a5 h5 a6 h6 a7 h7 a8 h8 a9 h9 a10 h10 hc0 hc1 hc2 x0 x1 x2 x3 x4 xs = k0_pay2 x1 xs x0 := by
  unfold sout0_C_0
  rw [View.read_writes_eq_canon _ _ _ (scover0_C_0 c i a3 h3 a4 h4 a5 h5 a6 h6 a7 h7 a8 h8 a9 h9 a10 h10 hc0 hc1 hc2 x0 x1 x2 x3 x4 xs)]
  unfold kernelRun0_C
  dsimp only
  sl_unfold_words
  rw [Whole.canon]
  simp only [View.readAt_eq_ld, h3.read_unread, h4.read_unread, h10.read_unread, Whole.ld]

/-- So does the last point of every other row block. -/
theorem scratch_D (hc0 : ¬cond0_0 i) (hc1 : cond0_1 i) (hc2 : ¬cond0_2 i) :
    sout0_D_0 c i a3 h3 a4 h4 a5 h5 a6 h6 a7 h7 a8 h8 a9 h9 a10 h10 hc0 hc1 hc2 x0 x1 x2 x3 x4 xo xs = k0_pay2 x1 xs x0 := by
  unfold sout0_D_0
  rw [View.read_writes_eq_canon _ _ _ (scover0_D_0 c i a3 h3 a4 h4 a5 h5 a6 h6 a7 h7 a8 h8 a9 h9 a10 h10 hc0 hc1 hc2 x0 x1 x2 x3 x4 xo xs)]
  unfold kernelRun0_D
  dsimp only
  sl_unfold_words
  rw [Whole.canon]
  simp only [View.readAt_eq_ld, h3.read_unread, h4.read_unread, h10.read_unread, Whole.ld]

/-- The last point of the first row block writes the block's gradient from the finished product. -/
theorem grad_C (hc0 : ¬cond0_0 i) (hc1 : cond0_1 i) (hc2 : cond0_2 i) :
    out0_C_5 c i a3 h3 a4 h4 a5 h5 a6 h6 a7 h7 a8 h8 a9 h9 a10 h10 hc0 hc1 hc2 x0 x1 x2 x3 x4 xs = k0_pay6 (k0_pay2 x1 xs x0) x2 x3 x4 := by
  unfold out0_C_5
  rw [View.read_writes_eq_canon _ _ _ (cover0_C_5 c i a3 h3 a4 h4 a5 h5 a6 h6 a7 h7 a8 h8 a9 h9 a10 h10 hc0 hc1 hc2 x0 x1 x2 x3 x4 xs)]
  unfold kernelRun0_C
  dsimp only
  sl_unfold_words
  rw [Whole.canon]
  simp only [View.readAt_eq_ld, h3.read_unread, h4.read_unread, h5.read_unread, h6.read_unread, h7.read_unread, h10.read_unread,
    Whole.ld, Whole.readCov]

/-- So does the last point of every other row block. -/
theorem grad_D (hc0 : ¬cond0_0 i) (hc1 : cond0_1 i) (hc2 : ¬cond0_2 i) :
    out0_D_5 c i a3 h3 a4 h4 a5 h5 a6 h6 a7 h7 a8 h8 a9 h9 a10 h10 hc0 hc1 hc2 x0 x1 x2 x3 x4 xo xs = k0_pay6 (k0_pay2 x1 xs x0) x2 x3 x4 := by
  unfold out0_D_5
  rw [View.read_writes_eq_canon _ _ _ (cover0_D_5 c i a3 h3 a4 h4 a5 h5 a6 h6 a7 h7 a8 h8 a9 h9 a10 h10 hc0 hc1 hc2 x0 x1 x2 x3 x4 xo xs)]
  unfold kernelRun0_D
  dsimp only
  sl_unfold_words
  rw [Whole.canon]
  simp only [View.readAt_eq_ld, h3.read_unread, h4.read_unread, h5.read_unread, h6.read_unread, h7.read_unread, h10.read_unread,
    Whole.ld, Whole.readCov]

/-- The last point of the first row block opens the scale's gradient: the block's column sums over zero. -/
theorem scale_C (hc0 : ¬cond0_0 i) (hc1 : cond0_1 i) (hc2 : cond0_2 i) :
    out0_C_6 c i a3 h3 a4 h4 a5 h5 a6 h6 a7 h7 a8 h8 a9 h9 a10 h10 hc0 hc1 hc2 x0 x1 x2 x3 x4 xs
      = k0_pay3 (k0_pay5 (k0_pay2 x1 xs x0) x2) (k0_pay8 k0_pay7) := by
  unfold out0_C_6
  rw [View.read_writes_eq_canon _ _ _ (cover0_C_6 c i a3 h3 a4 h4 a5 h5 a6 h6 a7 h7 a8 h8 a9 h9 a10 h10 hc0 hc1 hc2 x0 x1 x2 x3 x4 xs)]
  unfold kernelRun0_C
  dsimp only
  sl_unfold_words
  rw [Whole.canon]
  simp only [View.readAt_eq_ld, h3.read_unread, h4.read_unread, h5.read_unread, h6.read_unread, h7.read_unread, h10.read_unread,
    Whole.ld, Whole.readCov]

/-- The last point of every other row block adds the block's column sums to what the result held. -/
theorem scale_D (hc0 : ¬cond0_0 i) (hc1 : cond0_1 i) (hc2 : ¬cond0_2 i) :
    out0_D_6 c i a3 h3 a4 h4 a5 h5 a6 h6 a7 h7 a8 h8 a9 h9 a10 h10 hc0 hc1 hc2 x0 x1 x2 x3 x4 xo xs
      = k0_pay3 (k0_pay5 (k0_pay2 x1 xs x0) x2) (k0_pay8 xo) := by
  unfold out0_D_6
  rw [View.read_writes_eq_canon _ _ _ (cover0_D_6 c i a3 h3 a4 h4 a5 h5 a6 h6 a7 h7 a8 h8 a9 h9 a10 h10 hc0 hc1 hc2 x0 x1 x2 x3 x4 xo xs)]
  unfold kernelRun0_D
  dsimp only
  sl_unfold_words
  rw [Whole.canon]
  simp only [View.readAt_eq_ld, h3.read_unread, h4.read_unread, h5.read_unread, h6.read_unread, h7.read_unread, h9.read_unread, h10.read_unread,
    Whole.ld, Whole.readCov]

end Cert.DhnIdeal.Cases

end
-- ==== Proof.Blocks.lean ====
/-
  A matrix read at natural-number coordinates, a sum over a long axis cut into blocks, and the running value of a grid
  that adds one block of the sum per point.
-/
module

public import Idealize.ShloMosaic.Lib.Pointwise
public import proofs.«01_k».proof.Proof.Whole

@[expose] public section

noncomputable section

namespace Cert.Blocks

open Idealize.ShloMosaic Cert.Whole

/-- The entry of a matrix at row `r` and column `k`, zero outside it. -/
def at2 {M N : ℕ} (X : (Mat M N).Idx → EReal) (r k : ℕ) : EReal :=
  if h : r < M ∧ k < N then X (ix2 ⟨r, h.1⟩ ⟨k, h.2⟩) else 0

theorem at2_of {M N : ℕ} (X : (Mat M N).Idx → EReal) (i : (Mat M N).Idx) (r k : ℕ) (hr : (i 0).val = r) (hk : (i 1).val = k) :
    X i = at2 X r k := by
  subst hr; subst hk
  rw [at2, dif_pos ⟨(i 0).isLt, (i 1).isLt⟩]
  exact congrArg X (eq_ix2 i)

theorem at2_ix2 {M N : ℕ} (X : (Mat M N).Idx → EReal) (r : Fin M) (k : Fin N) : at2 X r.val k.val = X (ix2 r k) :=
  (at2_of X (ix2 r k) _ _ rfl rfl).symm

/-- One more block of `T` terms. -/
theorem sum_block (f : ℕ → EReal) (T k : ℕ) :
    ∑ x ∈ Finset.range (T * (k + 1)), f x = ∑ x ∈ Finset.range (T * k), f x + ∑ j : Fin T, f (T * k + j.val) := by
  rw [Nat.mul_succ, Finset.sum_range_add, Fin.sum_univ_eq_sum_range (fun j => f (T * k + j))]

/-- The running value of a grid of `N` points in runs of `J`: reset to its block of the sum at the first point of a run,
    one more block added at each later one. After point `n` it is the sum of the blocks of the run so far. -/
theorem running {ι : Type} {N : ℕ} (S : (n : ℕ) → n < N → ι → EReal) (J T : ℕ) (f : ℕ → ι → ℕ → EReal)
    (h0 : ∀ n (h : n < N), n % J = 0 → ∀ i, S n h i = ∑ j : Fin T, f (n / J) i (T * (n % J) + j.val))
    (h1 : ∀ n (h : n + 1 < N), (n + 1) % J ≠ 0 → ∀ i,
      S (n + 1) h i = S n (Nat.lt_of_succ_lt h) i + ∑ j : Fin T, f ((n + 1) / J) i (T * ((n + 1) % J) + j.val)) :
    ∀ n (h : n < N) (i : ι), S n h i = ∑ x ∈ Finset.range (T * (n % J + 1)), f (n / J) i x := by
  have first : ∀ n (h : n < N), n % J = 0 → ∀ i, S n h i = ∑ x ∈ Finset.range (T * (n % J + 1)), f (n / J) i x := by
    intro n h hn i
    rw [h0 n h hn i, sum_block, hn, Nat.mul_zero, Finset.range_zero, Finset.sum_empty, zero_add]
  intro n
  induction n with
  | zero => exact fun h => first 0 h (Nat.zero_mod J)
  | succ n ih =>
    intro h i
    by_cases hn : (n + 1) % J = 0
    · exact first _ h hn i
    · have hm : (n + 1) % J = n % J + 1 := by
        have := Nat.succ_mod_succ_eq_zero_iff (a := n) (b := J - 1)
        rcases Nat.eq_zero_or_pos J with rfl | hJ
        · simp
        · have hlt := Nat.mod_lt n hJ
          have hd := Nat.div_add_mod n J
          have he : n + 1 = (n % J + 1) + J * (n / J) := by omega
          rw [he, Nat.add_mul_mod_self_left]
          apply Nat.mod_eq_of_lt
          rcases Nat.lt_or_ge (n % J + 1) J with h' | h'
          · exact h'
          · exfalso; apply hn; have hE : n % J + 1 = J := by omega
            rw [he, Nat.add_mul_mod_self_left, hE, Nat.mod_self]
      have hq : (n + 1) / J = n / J := by
        rcases Nat.eq_zero_or_pos J with rfl | hJ
        · simp
        · have a := Nat.div_add_mod n J
          have b := Nat.div_add_mod (n + 1) J
          rw [hm] at b
          exact Nat.eq_of_mul_eq_mul_left hJ (by omega)
      rw [h1 n h hn i, ih, hm, hq, sum_block _ T (n % J + 1)]

end Cert.Blocks

end
-- ==== Proof.DhnBlocks.lean ====
/-
  The blocks the call `mm_dhn` reads at a grid point, as entries of its argument arrays, and its payloads at an index.
-/
module

public import proofs.«01_k».proof.Proof.DhnCases
public import proofs.«01_k».proof.Proof.Blocks
public import Idealize.ShloMosaic.Lib.Pointwise

@[expose] public section

set_option maxRecDepth 16384

noncomputable section

namespace Cert.DhnIdeal.Cases

open Cert.DhnIdeal Cert.DhnIdeal.Gen Idealize.ShloMosaic Idealize.ShloMosaic.TcCoe Idealize.SL.Sem
open Cert.Blocks

variable (m : (ℓ : Loc nD τ sig) → Buf (Elt Ideal) ℓ) (c : Dev nD)

/-- The call's arguments: the gradient of the projection, the projection, the layer's input, the scale and the gradient
    that arrives at the layer's input from the layer's other branch. -/
abbrev dproj : S2048x8448.Idx → EReal := m ((c : Thread nD τ).loc main_arg0)
abbrev wi : S2048x8448.Idx → EReal := m ((c : Thread nD τ).loc main_arg1)
abbrev hid : S2048x2048.Idx → EReal := m ((c : Thread nD τ).loc main_arg2)
abbrev scale : S2048.Idx → EReal := m ((c : Thread nD τ).loc main_arg3)
abbrev dres : S2048x2048.Idx → EReal := m ((c : Thread nD τ).loc main_arg4)

theorem index_maps : ∀ t : Fin cfg0.N,
    win0_0.index t (0 : Fin 2) = t.val / 11 ∧ win0_0.index t (1 : Fin 2) = t.val % 11
    ∧ win0_1.index t (0 : Fin 2) = 0 ∧ win0_1.index t (1 : Fin 2) = t.val % 11
    ∧ win0_2.index t (0 : Fin 2) = t.val / 11 ∧ win0_2.index t (1 : Fin 2) = 0
    ∧ win0_3.index t (0 : Fin 2) = 0 ∧ win0_3.index t (1 : Fin 2) = 0
    ∧ win0_4.index t (0 : Fin 2) = t.val / 11 ∧ win0_4.index t (1 : Fin 2) = 0 :=
  (by decide +kernel : ∀ t : Fin grid0.N, _)

theorem block0 (t : Fin cfg0.N) (r : Fin 512) (k : Fin 768) :
    iblk m c 0 t (ix2 r k) = at2 (dproj m c) (512 * (t.val / 11) + r.val) (768 * (t.val % 11) + k.val) := by
  obtain ⟨e0, e1, -⟩ := index_maps t
  unfold iblk
  rw [View.read_apply]
  show V m c main_arg0 _ = _
  rw [V_main_arg0]
  refine at2_of (dproj m c) _ _ _ ?_ ?_
  · show win0_0.index t (0 : Fin 2) * 512 + 1 * r.val = _; rw [e0]; omega
  · show win0_0.index t (1 : Fin 2) * 768 + 1 * k.val = _; rw [e1]; omega

theorem block1 (t : Fin cfg0.N) (r : Fin 2048) (k : Fin 768) :
    iblk m c 1 t (ix2 r k) = at2 (wi m c) r.val (768 * (t.val % 11) + k.val) := by
  obtain ⟨-, -, e0, e1, -⟩ := index_maps t
  unfold iblk
  rw [View.read_apply]
  show V m c main_arg1 _ = _
  rw [V_main_arg1]
  refine at2_of (wi m c) _ _ _ ?_ ?_
  · show win0_1.index t (0 : Fin 2) * 2048 + 1 * r.val = _; rw [e0]; omega
  · show win0_1.index t (1 : Fin 2) * 768 + 1 * k.val = _; rw [e1]; omega

theorem block2 (t : Fin cfg0.N) (r : Fin 512) (k : Fin 2048) :
    iblk m c 2 t (ix2 r k) = at2 (hid m c) (512 * (t.val / 11) + r.val) k.val := by
  obtain ⟨-, -, -, -, e0, e1, -⟩ := index_maps t
  unfold iblk
  rw [View.read_apply]
  show V m c main_arg2 _ = _
  rw [V_main_arg2]
  refine at2_of (hid m c) _ _ _ ?_ ?_
  · show win0_2.index t (0 : Fin 2) * 512 + 1 * r.val = _; rw [e0]; omega
  · show win0_2.index t (1 : Fin 2) * 2048 + 1 * k.val = _; rw [e1]; omega

theorem block4 (t : Fin cfg0.N) (r : Fin 512) (k : Fin 2048) :
    iblk m c 4 t (ix2 r k) = at2 (dres m c) (512 * (t.val / 11) + r.val) k.val := by
  obtain ⟨-, -, -, -, -, -, -, -, e0, e1⟩ := index_maps t
  unfold iblk
  rw [View.read_apply]
  show V m c main_arg4 _ = _
  rw [V_main_arg4]
  refine at2_of (dres m c) _ _ _ ?_ ?_
  · show win0_4.index t (0 : Fin 2) * 512 + 1 * r.val = _; rw [e0]; omega
  · show win0_4.index t (1 : Fin 2) * 2048 + 1 * k.val = _; rw [e1]; omega

/-- The scale as the call's one row. -/
theorem V_row : (V m c main_v0 : S1x2048.Idx → EReal) = shapeCast S1x2048 (scale m c) shapeCasts_S2048_S1x2048 := by
  rfl

theorem block3 (t : Fin cfg0.N) (k : Fin 2048) :
    iblk m c 3 t (ix2 0 k) = scale m c (ix1 k) := by
  obtain ⟨-, -, -, -, -, -, e0, e1, -⟩ := index_maps t
  unfold iblk
  rw [View.read_apply]
  show (V m c main_v0 : S1x2048.Idx → EReal) _ = _
  rw [V_row]
  have e : ((cfg0.win 3).blk t).view.emb (ix2 0 k) = (ix2 0 k : S1x2048.Idx) := by
    funext a; apply Fin.ext
    match a with
    | ⟨0, _⟩ => show win0_3.index t (0 : Fin 2) * 1 + 1 * 0 = 0; omega
    | ⟨1, _⟩ => show win0_3.index t (1 : Fin 2) * 2048 + 1 * k.val = k.val; omega
  rw [e]
  pointwise

/-! ## The payloads at an index -/

/-- The reciprocal root of a row's mean square. -/
def rowRoot (x : Fin 2048 → EReal) : EReal :=
  Ideal.rsqrt (Ideal.div (∑ k, x k * x k) (Ideal.ofBits .f32 0x45000000#32) + Ideal.ofBits .f32 0x358637BD#32)

theorem pay1_apply (r : Fin 512) (k : Fin 2048) : (k0_pay1 : FVec Ideal S512x2048 .f32) (ix2 r k) = 0 := by
  pointwise [k0_pay1]

theorem pay2_apply (x1 : FVec Ideal S2048x768 .bf16) (xs : FVec Ideal S512x2048 .f32) (x0 : FVec Ideal S512x768 .bf16) (r : Fin 512) (q : Fin 2048) :
    k0_pay2 x1 xs x0 (ix2 r q) = xs (ix2 r q) + ∑ k : Fin 768, x0 (ix2 r k) * x1 (ix2 q k) := by
  pointwise [k0_pay2]

theorem pay4_apply (x : FVec Ideal S512x2048 .f32) (r : Fin 512) :
    k0_pay4 (F := Ideal) x (ix2 r 0) = rowRoot fun k => x (ix2 r k) := by
  pointwise [k0_pay4, rowRoot]

theorem pay5_apply (g x : FVec Ideal S512x2048 .f32) (r : Fin 512) (q : Fin 2048) :
    k0_pay5 g x (ix2 r q) = g (ix2 r q) * x (ix2 r q) * rowRoot fun k => x (ix2 r k) := by
  rw [← pay4_apply]
  pointwise [k0_pay5]

theorem pay6_apply (g x : FVec Ideal S512x2048 .f32) (w : FVec Ideal S1x2048 .f32) (d : FVec Ideal S512x2048 .f32) (r : Fin 512) (q : Fin 2048) :
    k0_pay6 g x w d (ix2 r q) = d (ix2 r q)
      + ((rowRoot fun k => x (ix2 r k)) * (g (ix2 r q) * w (ix2 0 q))
        - x (ix2 r q) * ((rowRoot fun k => x (ix2 r k)) * (rowRoot fun k => x (ix2 r k)) * (rowRoot fun k => x (ix2 r k))
          * Ideal.div (∑ k, g (ix2 r k) * w (ix2 0 k) * x (ix2 r k)) (Ideal.ofBits .f32 0x45000000#32))) := by
  rw [← pay4_apply]
  pointwise [k0_pay6]

theorem pay3_apply (v : FVec Ideal S512x2048 .f32) (a : FVec Ideal S1x2048 .f32) (q : Fin 2048) :
    k0_pay3 v a (ix2 0 q) = a (ix2 0 q) + ∑ r : Fin 512, v (ix2 r q) := by
  pointwise [k0_pay3]

theorem pay7_apply (q : Fin 2048) : (k0_pay7 : FVec Ideal S1x2048 .f32) (ix2 0 q) = 0 := by
  pointwise [k0_pay7]

theorem pay8_apply (a : FVec Ideal S1x2048 .f32) (q : Fin 2048) : k0_pay8 a (ix2 0 q) = a (ix2 0 q) := by
  pointwise [k0_pay8]

end Cert.DhnIdeal.Cases

end
-- ==== Proof.DhnState.lean ====
/-
  What the call `mm_dhn` holds after each grid point, in closed form: the scratch is the product's partial sums, the
  scale's gradient is the column sums of the row blocks closed so far; so the two result arrays, entry by entry.
-/
module

public import proofs.«01_k».proof.Proof.DhnBlocks

@[expose] public section

set_option maxRecDepth 16384

noncomputable section

namespace Cert.DhnIdeal.Cases

open Cert.DhnIdeal Cert.DhnIdeal.Gen Cert.DhnIdeal.Value Idealize.ShloMosaic Idealize.ShloMosaic.TcCoe Idealize.SL.Sem
open Cert.Blocks

variable (m : (ℓ : Loc nD τ sig) → Buf (Elt Ideal) ℓ) (c : Dev nD)

/-- The terms of the product's entry at row `r`, column `q`. -/
def term (r q k : ℕ) : EReal := at2 (dproj m c) r k * at2 (wi m c) q k

/-- The terms, at a row block and an index inside it. -/
def blockTerm (b : ℕ) (i : S512x2048.Idx) (k : ℕ) : EReal := term m c (512 * b + (i 0).val) (i 1).val k

/-- One more block of the product. -/
theorem step_term (t : Fin cfg0.N) (xs : FVec Ideal S512x2048 .f32) (i : S512x2048.Idx) :
    k0_pay2 (iblk m c 1 t) xs (iblk m c 0 t) i
      = xs i + ∑ j : Fin 768, blockTerm m c (t.val / 11) i (768 * (t.val % 11) + j.val) := by
  obtain ⟨r, q, rfl⟩ : ∃ r q, i = ix2 r q := ⟨i 0, i 1, eq_ix2 i⟩
  rw [pay2_apply]
  refine congrArg (_ + ·) (Finset.sum_congr rfl fun k _ => ?_)
  rw [block0, block1]
  rfl

theorem scratch_eq : ∀ (n : ℕ) (h : n < cfg0.N) (i : S512x2048.Idx),
    (outsAt0 m c n h).2.2 i = ∑ x ∈ Finset.range (768 * (n % 11 + 1)), blockTerm m c (n / 11) i x := by
  refine running (fun n h => (outsAt0 m c n h).2.2) 11 768 (blockTerm m c) ?_ ?_
  · intro n h hn i
    have h1 : ¬n % 11 = 10 := by omega
    rw [outsAt0_A m c ⟨n, h⟩ hn h1]
    dsimp only
    rw [scratch_A, step_term]
    obtain ⟨r, q, rfl⟩ : ∃ r q, i = ix2 r q := ⟨i 0, i 1, eq_ix2 i⟩
    rw [pay1_apply, zero_add]
  · intro n h hn i
    have hN : n + 1 < 44 := lt_of_lt_of_eq h N_0
    by_cases h1 : (n + 1) % 11 = 10
    · by_cases h2 : n + 1 < 11
      · rw [outsAt0_C m c ⟨n + 1, h⟩ hn h1 h2]
        dsimp only
        rw [scratch_C, step_term]
        rfl
      · rw [outsAt0_D m c ⟨n + 1, h⟩ hn h1 h2]
        dsimp only
        rw [scratch_D, step_term]
        rfl
    · rw [outsAt0_B m c ⟨n + 1, h⟩ hn h1]
      dsimp only
      rw [scratch_B, step_term]
      rfl

/-- The finished product, the gradient at the normalised input. -/
def dnorm (r q : ℕ) : EReal := ∑ x ∈ Finset.range 8448, term m c r q x

/-- At the last point of row block `b` the body's product is finished. -/
theorem finished (n : ℕ) (h : n + 1 < cfg0.N) (hn : (n + 1) % 11 = 10) (i : S512x2048.Idx) :
    k0_pay2 (iblk m c 1 ⟨n + 1, h⟩) (outsAt0 m c n (Nat.lt_of_succ_lt h)).2.2 (iblk m c 0 ⟨n + 1, h⟩) i
      = dnorm m c (512 * ((n + 1) / 11) + (i 0).val) (i 1).val := by
  rw [step_term, scratch_eq m c n]
  have e1 : (n + 1) % 11 = n % 11 + 1 := by omega
  have e2 : n / 11 = (n + 1) / 11 := by omega
  rw [e2]
  show _ + ∑ j : Fin 768, blockTerm m c ((n + 1) / 11) i (768 * ((n + 1) % 11) + j.val) = _
  rw [← e1, ← sum_block, hn]
  rfl

/-- The reciprocal root of row `r` of the layer's input. -/
def root (r : ℕ) : EReal := rowRoot fun k : Fin 2048 => at2 (hid m c) r k.val

/-- The gradient of the layer's input as the call computes it, at row `r`, column `q`. -/
def grad (r : ℕ) (q : Fin 2048) : EReal :=
  at2 (dres m c) r q.val
    + (root m c r * (dnorm m c r q.val * scale m c (ix1 q))
      - at2 (hid m c) r q.val * (root m c r * root m c r * root m c r
        * Ideal.div (∑ k : Fin 2048, dnorm m c r k.val * scale m c (ix1 k) * at2 (hid m c) r k.val) (Ideal.ofBits .f32 0x45000000#32)))

/-- Row `r`'s share of the scale's gradient. -/
def share (q r : ℕ) : EReal := dnorm m c r q * at2 (hid m c) r q * root m c r

theorem closing_grad (n : ℕ) (h : n + 1 < cfg0.N) (hn : (n + 1) % 11 = 10) (r : Fin 512) (q : Fin 2048) :
    k0_pay6 (k0_pay2 (iblk m c 1 ⟨n + 1, h⟩) (outsAt0 m c n (Nat.lt_of_succ_lt h)).2.2 (iblk m c 0 ⟨n + 1, h⟩))
      (iblk m c 2 ⟨n + 1, h⟩) (iblk m c 3 ⟨n + 1, h⟩) (iblk m c 4 ⟨n + 1, h⟩) (ix2 r q)
      = grad m c (512 * ((n + 1) / 11) + r.val) q := by
  rw [pay6_apply]
  simp only [finished m c n h hn, block2, block3, block4]
  rfl

theorem closing_share (n : ℕ) (h : n + 1 < cfg0.N) (hn : (n + 1) % 11 = 10) (r : Fin 512) (q : Fin 2048) :
    k0_pay5 (k0_pay2 (iblk m c 1 ⟨n + 1, h⟩) (outsAt0 m c n (Nat.lt_of_succ_lt h)).2.2 (iblk m c 0 ⟨n + 1, h⟩))
      (iblk m c 2 ⟨n + 1, h⟩) (ix2 r q)
      = share m c q.val (512 * ((n + 1) / 11) + r.val) := by
  rw [pay5_apply]
  simp only [finished m c n h hn, block2]
  rfl

/-- At the last point of a row block the first result's block holds the gradient's rows. -/
theorem grad_eq (n : ℕ) (h : n + 1 < cfg0.N) (hn : (n + 1) % 11 = 10) (r : Fin 512) (q : Fin 2048) :
    (outsAt0 m c (n + 1) h).1 (ix2 r q) = grad m c (512 * ((n + 1) / 11) + r.val) q := by
  have h0 : ¬(n + 1) % 11 = 0 := by omega
  rw [← closing_grad m c n h hn]
  by_cases h2 : n + 1 < 11
  · rw [outsAt0_C m c ⟨n + 1, h⟩ h0 hn h2]
    dsimp only
    rw [grad_C]; rfl
  · rw [outsAt0_D m c ⟨n + 1, h⟩ h0 hn h2]
    dsimp only
    rw [grad_D]; rfl

/-- From the first row block's last point on, the second result holds the column sums of the row blocks closed so far. -/
theorem scale_eq : ∀ (n : ℕ) (h : n < cfg0.N) (q : Fin 2048), 10 ≤ n →
    (outsAt0 m c n h).2.1 (ix2 0 q) = ∑ r ∈ Finset.range (512 * ((n + 1) / 11)), share m c q.val r := by
  intro n
  induction n with
  | zero => intro h q hn; omega
  | succ n ih =>
    intro h q hn
    have hN : n + 1 < 44 := lt_of_lt_of_eq h N_0
    by_cases h1 : (n + 1) % 11 = 10
    · have h0 : ¬(n + 1) % 11 = 0 := by omega
      have e : (n + 1 + 1) / 11 = (n + 1) / 11 + 1 := by omega
      rw [e, sum_block]
      by_cases h2 : n + 1 < 11
      · have ez : (n + 1) / 11 = 0 := by omega
        rw [outsAt0_C m c ⟨n + 1, h⟩ h0 h1 h2]
        dsimp only
        rw [scale_C, pay3_apply, pay8_apply, pay7_apply]
        rw [show Finset.range (512 * ((n + 1) / 11)) = ∅ by rw [ez]; rfl, Finset.sum_empty]
        exact congrArg (_ + ·) (Finset.sum_congr rfl fun r _ => closing_share m c n h h1 r q)
      · rw [outsAt0_D m c ⟨n + 1, h⟩ h0 h1 h2]
        dsimp only
        rw [scale_D, pay3_apply, pay8_apply]
        show (outsAt0 m c n _).2.1 (ix2 0 q) + _ = _
        rw [ih _ q (by omega)]
        exact congrArg (_ + ·) (Finset.sum_congr rfl fun r _ => closing_share m c n h h1 r q)
    · have e : (n + 1 + 1) / 11 = (n + 1) / 11 := by omega
      rw [e, ← ih (Nat.lt_of_succ_lt h) q (by omega)]
      by_cases h0 : (n + 1) % 11 = 0
      · rw [outsAt0_A m c ⟨n + 1, h⟩ h0 h1]; rfl
      · rw [outsAt0_B m c ⟨n + 1, h⟩ h0 h1]; rfl

/-- The first result array. -/
theorem G5_apply (r q : Fin 2048) : (G5 m c : S2048x2048.Idx → EReal) (ix2 r q) = grad m c r.val q := by
  have hN : cfg0.N = 44 := N_0
  have hp : pt5Of (ix2 r q) = 11 * (r.val / 512) + 9 + 1 := by
    show 11 * (1 * (r.val / 512 - 0) + 1 * (q.val / 2048 - 0)) + 10 = _
    omega
  have hlt : pt5Of (ix2 r q) < cfg0.N := by rw [hp, hN]; omega
  unfold G5
  rw [dif_pos hlt, ← outsAt0_sweep m c _ hlt]
  have hl : loc5Of (ix2 r q) = ix2 (⟨r.val % 512, Nat.mod_lt _ (by decide)⟩ : Fin 512) q := by
    funext a; apply Fin.ext
    match a with
    | ⟨0, _⟩ => rfl
    | ⟨1, _⟩ => show q.val % 2048 = q.val; omega
  rw [hl]
  have key : ∀ n (hn : n < cfg0.N), n = 11 * (r.val / 512) + 9 + 1 →
      (outsAt0 m c n hn).1 (ix2 (⟨r.val % 512, Nat.mod_lt _ (by decide)⟩ : Fin 512) q) = grad m c r.val q := by
    rintro n hn rfl
    rw [grad_eq m c _ hn (by omega)]
    congr 1
    show 512 * ((11 * (r.val / 512) + 9 + 1) / 11) + r.val % 512 = r.val
    omega
  exact key _ hlt hp

/-- The second result array. -/
theorem G6_apply (q : Fin 2048) :
    (G6 m c : S1x2048.Idx → EReal) (ix2 0 q) = ∑ r ∈ Finset.range 2048, share m c q.val r := by
  rw [G6_last, ← outsAt0_sweep m c 43 (lt_of_lt_of_eq (by decide) N_0.symm), scale_eq m c 43 _ q (by decide)]

end Cert.DhnIdeal.Cases

end
-- ==== Proof.DhnRef.lean ====
/-
  The derivative of the normalised projection, as the reference computes it, entry by entry.
-/
module

public import proofs.«01_k».proof.Proof.Gen.DhnRefIdeal.Read
public import Idealize.ShloMosaic.Lib.Pointwise

@[expose] public section

set_option maxRecDepth 16384

noncomputable section

namespace Cert.DhnRefIdeal.Entry

open Cert.DhnRefIdeal Cert.DhnRefIdeal.Read Idealize.ShloMosaic

variable (x0 x1 : (⟨S2048x8448, .bf16⟩ : BufTy).Contents (Elt Ideal)) (x2 : (⟨S2048x2048, .f32⟩ : BufTy).Contents (Elt Ideal))
  (x3 : (⟨S2048, .f32⟩ : BufTy).Contents (Elt Ideal)) (x4 : (⟨S2048x2048, .f32⟩ : BufTy).Contents (Elt Ideal))

/-- The gradient at the normalised input. -/
def dnorm (r q : Fin 2048) : EReal := ∑ k : Fin 8448, x0 (ix2 r k) * x1 (ix2 q k)

/-- The mean square of row `r`, plus the epsilon. -/
def meanSq (r : Fin 2048) : EReal :=
  Ideal.div (∑ k : Fin 2048, x2 (ix2 r k) * x2 (ix2 r k)) (Ideal.ofBits .f32 0x45000000#32) + Ideal.ofBits .f32 0x358637BD#32

/-- An index from its two coordinates. -/
theorem at2 {m n : ℕ} (f : (⟨2, ![m, n]⟩ : Shape).Idx) (a : Fin m) (b : Fin n) (h0 : f 0 = a) (h1 : f 1 = b) : f = ix2 a b := by
  rw [eq_ix2 f, h0, h1]

/-- A rank-1 index from its coordinate. -/
theorem at1 {n : ℕ} (f : (⟨1, ![n]⟩ : Shape).Idx) (a : Fin n) (h0 : f 0 = a) : f = ix1 a := by
  rw [eq_ix1 f, h0]

theorem v19 (r q : Fin 2048) : val_main_v19 (F := Ideal) x0 x1 (ix2 r q) = dnorm x0 x1 r q := by
  rw [val_main_v19_apply]
  refine Finset.sum_congr rfl fun k _ => ?_
  rw [at2 (lidx_main_v19 (ix2 r q) k) r k rfl rfl, at2 (ridx_main_v19 (ix2 r q) k) q k rfl rfl]
  rfl

theorem v8 (r : Fin 2048) : val_main_v8 (F := Ideal) x2 (ix2 r 0) = meanSq x2 r := by
  rw [val_main_v8_apply, val_main_v6_apply, val_main_v4_apply, val_main_v3_apply, val_main_v5_apply, val_main_v7_apply]
  refine congrArg (fun s : EReal => Ideal.div s _ + _) ?_
  refine (congrArg (· + _) Ideal.ofBits_zero_f32).trans ((zero_add _).trans (Finset.sum_congr rfl fun k _ => ?_))
  rw [at2 (idx_main_v3 (idx_main_v4 (ix2 r 0)) k) r k rfl rfl]
  rfl

/-- The reciprocal root of row `r`. -/
def root (r : Fin 2048) : EReal := Ideal.rsqrt (meanSq x2 r)

theorem v9 (r : Fin 2048) : val_main_v9 (F := Ideal) x2 (ix2 r 0) = root x2 r := by
  rw [val_main_v9_apply, v8]; rfl

theorem v12 (r : Fin 2048) :
    val_main_v12 (F := Ideal) x2 (ix2 r 0) = Ideal.ofBits .f32 0xBF000000#32 * Ideal.div (root x2 r) (meanSq x2 r) := by
  rw [val_main_v12_apply, val_main_v10_apply, v9, v8, val_main_v11_apply]; rfl

/-- The gradient before the scale, times the scale. -/
theorem v24 (r q : Fin 2048) : val_main_v24 (F := Ideal) x0 x1 x3 (ix2 r q) = dnorm x0 x1 r q * x3 (ix1 q) := by
  rw [val_main_v24_apply, v19, val_main_v23_apply, val_main_v15_apply, at1 (idx_main_v15 (idx_main_v23 (ix2 r q))) q rfl]; rfl

/-- Row `r`'s inner product of the input with its gradient. -/
def inner (r : Fin 2048) : EReal := ∑ k : Fin 2048, x2 (ix2 r k) * (dnorm x0 x1 r k * x3 (ix1 k))

theorem v28 (r : Fin 2048) : val_main_v28 (F := Ideal) x0 x1 x2 x3 (ix2 r 0) = inner x0 x1 x2 x3 r := by
  rw [val_main_v28_apply, val_main_v27_apply]
  refine (congrArg (· + _) Ideal.ofBits_zero_f32).trans ((zero_add _).trans (Finset.sum_congr rfl fun k _ => ?_))
  rw [at2 (idx_main_v27 (idx_main_v28 (ix2 r 0)) k) r k (Fin.ext (show r.val * 1 + 0 = r.val by omega)) rfl, val_main_v26_apply, v24]
  rfl

/-- The coefficient of the input in its gradient, one of two equal halves. -/
def coeff (r : Fin 2048) : EReal :=
  Ideal.div (inner x0 x1 x2 x3 r * (Ideal.ofBits .f32 0xBF000000#32 * Ideal.div (root x2 r) (meanSq x2 r))) (Ideal.ofBits .f32 0x45000000#32)

theorem v36 (r q : Fin 2048) : val_main_v36 (F := Ideal) x0 x1 x2 x3 (ix2 r q) = coeff x0 x1 x2 x3 r := by
  rw [val_main_v36_apply, val_main_v35_apply]
  refine (congrArg (· + _) Ideal.ofBits_zero_f32).trans ((zero_add _).trans ?_)
  rw [Fin.sum_univ_one, at2 (idx_main_v35 (idx_main_v36 (ix2 r q)) 0) r 0 rfl rfl, val_main_v34_apply, val_main_v32_apply, v28, v12,
    val_main_v33_apply]
  rfl

/-- The gradient at the layer's input. -/
theorem v40 (r q : Fin 2048) : val_main_v40 (F := Ideal) x0 x1 x2 x3 x4 (ix2 r q)
    = x4 (ix2 r q) + dnorm x0 x1 r q * x3 (ix1 q) * root x2 r
      + x2 (ix2 r q) * coeff x0 x1 x2 x3 r + coeff x0 x1 x2 x3 r * x2 (ix2 r q) := by
  rw [val_main_v40_apply, val_main_v38_apply, val_main_v31_apply, val_main_v30_apply, val_main_v37_apply, val_main_v39_apply, v36, v24,
    val_main_v29_apply, at2 (idx_main_v29 (ix2 r q)) r 0 rfl rfl, v9]
  rfl

/-- The gradient at the scale. -/
theorem v41 (q : Fin 2048) : val_main_v41 (F := Ideal) x0 x1 x2 (ix2 0 q)
    = ∑ r : Fin 2048, x2 (ix2 r q) * root x2 r * dnorm x0 x1 r q := by
  rw [val_main_v41_apply, val_main_v25_apply]
  refine (congrArg (· + _) Ideal.ofBits_zero_f32).trans ((zero_add _).trans ?_)
  rw [Fin.sum_univ_one, val_main_v22_apply, val_main_v21_apply]
  refine (congrArg (· + _) Ideal.ofBits_zero_f32).trans ((zero_add _).trans (Finset.sum_congr rfl fun r _ => ?_))
  rw [at2 (idx_main_v21 (idx_main_v22 (idx_main_v25 (idx_main_v41 (ix2 0 q)) 0)) r) r q rfl (Fin.ext (show 0 * 2048 + (0 * 2048 + q.val) = q.val by omega)), val_main_v20_apply, val_main_v14_apply, v19,
    val_main_v13_apply, at2 (idx_main_v13 (ix2 r q)) r 0 rfl rfl, v9]
  rfl

end Cert.DhnRefIdeal.Entry

end
-- ==== Proof.NormGrad.lean ====
/-
  The gradient of an RMS normalisation over the extended reals: the kernel's one correction term is the sum of the
  two that the derivative of the forward lines leaves, at every input, infinite ones included.
-/
module

public import Idealize.ShloMosaic.Lib.IdealHost

@[expose] public section

noncomputable section

namespace Cert.NormGrad

open Idealize.ShloMosaic

theorem ofBits_count : Ideal.ofBits .f32 0x45000000#32 = ((2048 : ℝ) : EReal) := by
  simp [Ideal.ofBits, Ideal.ieee, -EReal.coe_mul]; norm_num

theorem ofBits_half : Ideal.ofBits .f32 0xBF000000#32 = ((-(1 / 2) : ℝ) : EReal) := by
  simp [Ideal.ofBits, Ideal.ieee, -EReal.coe_mul]; norm_num

theorem ofBits_eps : ∃ e : ℝ, 0 < e ∧ Ideal.ofBits .f32 0x358637BD#32 = (e : EReal) := by
  refine ⟨8796093 / 2 ^ 43, by norm_num, ?_⟩
  simp [Ideal.ofBits, Ideal.ieee, -EReal.coe_mul]; norm_num

theorem coe_sum {n : ℕ} (f : Fin n → ℝ) : ∑ k, (f k : EReal) = ((∑ k, f k : ℝ) : EReal) :=
  (map_sum (⟨⟨Real.toEReal, rfl⟩, fun _ _ => rfl⟩ : ℝ →+ EReal) f Finset.univ).symm

theorem mul_self_nonneg (x : EReal) : 0 ≤ x * x := by
  induction x with
  | bot => simp
  | top => simp
  | coe r => exact_mod_cast _root_.mul_self_nonneg r

/-- A sum of squares with an infinite term is infinite. -/
theorem sum_sq_top {n : ℕ} (x : Fin n → EReal) (k : Fin n) (h : x k = ⊤ ∨ x k = ⊥) : ∑ j, x j * x j = ⊤ := by
  rw [← Finset.add_sum_erase _ _ (Finset.mem_univ k)]
  have hk : x k * x k = ⊤ := by rcases h with h | h <;> rw [h] <;> simp
  rw [hk]
  exact EReal.top_add_of_ne_bot (ne_of_gt (lt_of_lt_of_le EReal.bot_lt_zero (Finset.sum_nonneg fun j _ => mul_self_nonneg _)))

/-- Multiplying by a real and negating, as twice the negated half. -/
theorem neg_mul_coe (S : EReal) (z : ℝ) :
    -(S * (z : EReal)) = S * ((-(z / 2) : ℝ) : EReal) + S * ((-(z / 2) : ℝ) : EReal) := by
  rcases lt_trichotomy z 0 with hz | hz | hz
  · have h : 0 < -(z / 2) := by linarith
    induction S with
    | bot => rw [EReal.bot_mul_coe_of_neg hz, EReal.bot_mul_coe_of_pos h]; rfl
    | top => rw [EReal.top_mul_coe_of_neg hz, EReal.top_mul_coe_of_pos h]; rfl
    | coe s => norm_cast; ring
  · subst hz; simp
  · have h : -(z / 2) < 0 := by linarith
    induction S with
    | bot => rw [EReal.bot_mul_coe_of_pos hz, EReal.bot_mul_coe_of_neg h]; rfl
    | top => rw [EReal.top_mul_coe_of_pos hz, EReal.top_mul_coe_of_neg h]; rfl
    | coe s => norm_cast; ring

/-- The mean square plus the epsilon, as the programs write it. -/
abbrev meanSq {n : ℕ} (x : Fin n → EReal) : EReal :=
  Ideal.div (∑ k, x k * x k) (Ideal.ofBits .f32 0x45000000#32) + Ideal.ofBits .f32 0x358637BD#32

/-- The two gradients agree. -/
theorem eq {n : ℕ} (x : Fin n → EReal) (S d g : EReal) (q : Fin n) :
    d + (Ideal.rsqrt (meanSq x) * g
        - x q * (Ideal.rsqrt (meanSq x) * Ideal.rsqrt (meanSq x) * Ideal.rsqrt (meanSq x)
          * Ideal.div S (Ideal.ofBits .f32 0x45000000#32)))
      = d + g * Ideal.rsqrt (meanSq x)
        + x q * Ideal.div (S * (Ideal.ofBits .f32 0xBF000000#32 * Ideal.div (Ideal.rsqrt (meanSq x)) (meanSq x))) (Ideal.ofBits .f32 0x45000000#32)
        + Ideal.div (S * (Ideal.ofBits .f32 0xBF000000#32 * Ideal.div (Ideal.rsqrt (meanSq x)) (meanSq x))) (Ideal.ofBits .f32 0x45000000#32) * x q := by
  obtain ⟨e, he, hE⟩ := ofBits_eps
  have hD : (2048 : ℝ) ≠ 0 := by norm_num
  by_cases hx : ∃ k, x k = ⊤ ∨ x k = ⊥
  · obtain ⟨k, hk⟩ := hx
    have hv : meanSq x = ⊤ := by
      unfold meanSq
      rw [sum_sq_top x k hk, ofBits_count, Ideal.div_coe hD, EReal.top_mul_coe_of_pos (by norm_num), hE]
      rfl
    rw [hv, Ideal.rsqrt_top]
    have h0 : Ideal.div 0 (⊤ : EReal) = 0 := by simp [Ideal.div]
    rw [h0, ofBits_count, Ideal.div_coe hD, Ideal.div_coe hD]
    simp
  · push Not at hx
    obtain ⟨y, hy⟩ : ∃ y : Fin n → ℝ, ∀ k, x k = (y k : EReal) :=
      ⟨fun k => (x k).toReal, fun k => (EReal.coe_toReal (hx k).1 (hx k).2).symm⟩
    obtain ⟨u, hu, hv⟩ : ∃ u : ℝ, 0 < u ∧ meanSq x = (u : EReal) := by
      refine ⟨(∑ k, y k * y k) * (1 / 2048) + e,
        add_pos_of_nonneg_of_pos (mul_nonneg (Finset.sum_nonneg fun k _ => _root_.mul_self_nonneg _) (by norm_num)) he, ?_⟩
      unfold meanSq
      simp only [hy, ← EReal.coe_mul]
      rw [coe_sum, ofBits_count, Ideal.div_coe hD, hE]
      norm_cast
    have hs : Real.sqrt u * Real.sqrt u = u := Real.mul_self_sqrt hu.le
    have hs0 : Real.sqrt u ≠ 0 := (Real.sqrt_pos.mpr hu).ne'
    have hR : Ideal.rsqrt (u : EReal) = (((Real.sqrt u)⁻¹ : ℝ) : EReal) := by
      rw [Ideal.rsqrt_coe, if_neg (not_lt.mpr hu.le), if_neg hu.ne']
    rw [hv, hR, ofBits_count, ofBits_half, Ideal.div_coe hD, Ideal.div_coe hD, Ideal.div_coe hu.ne', hy q]
    generalize hρ : (Real.sqrt u)⁻¹ = ρ
    have hρ3 : ρ * (1 / u) = ρ * ρ * ρ := by
      rw [show 1 / u = ρ * ρ by rw [← hρ, ← mul_inv, hs, one_div]]; ring
    simp only [← EReal.coe_mul, hρ3]
    have e1 : (y q : EReal) * (((ρ * ρ * ρ : ℝ) : EReal) * (S * ((1 / 2048 : ℝ) : EReal)))
        = S * ((y q * (ρ * ρ * ρ) * (1 / 2048) : ℝ) : EReal) := by
      push_cast; ac_rfl
    have e2 : (y q : EReal) * (S * ((-(1 / 2) * (ρ * ρ * ρ) : ℝ) : EReal) * ((1 / 2048 : ℝ) : EReal))
        = S * ((-(y q * (ρ * ρ * ρ) * (1 / 2048) / 2) : ℝ) : EReal) := by
      rw [show -(y q * (ρ * ρ * ρ) * (1 / 2048) / 2) = y q * ((-(1 / 2) * (ρ * ρ * ρ)) * (1 / 2048)) by ring]
      simp only [EReal.coe_mul]; ac_rfl
    rw [e1, mul_comm (S * _ * _) (y q : EReal), e2, sub_eq_add_neg, neg_mul_coe, mul_comm g]
    ac_rfl

end Cert.NormGrad

end
-- ==== Proof.DhnValue.lean ====
/-
  The call `mm_dhn` and the derivative of the reference's forward lines give the same two arrays.
-/
module

public import proofs.«01_k».proof.Proof.DhnState
public import proofs.«01_k».proof.Proof.DhnRef
public import proofs.«01_k».proof.Proof.NormGrad
public import proofs.«01_k».proof.Defs

@[expose] public section

set_option maxRecDepth 16384

noncomputable section

namespace Cert.DhnValue

open Idealize.ShloMosaic Idealize.ShloMosaic.TcCoe Idealize.SL.Sem Cert.Blocks
open Cert.DhnIdeal Cert.DhnIdeal.Gen Cert.DhnIdeal.Value Cert.DhnIdeal.Cases
open Cert.DhnRefIdeal.Entry (meanSq inner coeff)

variable (m : (ℓ : Loc nD τ sig) → Buf (Elt Ideal) ℓ) (c : Dev nD)

theorem dnorm_eq (r q : Fin 2048) : Cases.dnorm m c r.val q.val = DhnRefIdeal.Entry.dnorm (dproj m c) (wi m c) r q := by
  unfold Cases.dnorm DhnRefIdeal.Entry.dnorm
  rw [Finset.sum_range]
  exact Finset.sum_congr rfl fun k _ => congrArg₂ (fun a b : EReal => a * b) (at2_ix2 _ _ _) (at2_ix2 _ _ _)

theorem root_eq (r : Fin 2048) : Cases.root m c r.val = Ideal.rsqrt (NormGrad.meanSq fun k => hid m c (ix2 r k)) := by
  unfold Cases.root rowRoot
  simp only [at2_ix2]

theorem grad_eq (r q : Fin 2048) : (G5 m c : S2048x2048.Idx → EReal) (ix2 r q)
    = DhnRefIdeal.Read.val_main_v40 (F := Ideal) (dproj m c) (wi m c) (hid m c) (scale m c) (dres m c) (ix2 r q) := by
  rw [G5_apply, DhnRefIdeal.Entry.v40]
  unfold Cases.grad
  have hS : ∑ k : Fin 2048, Cases.dnorm m c r.val k.val * scale m c (ix1 k) * at2 (hid m c) r.val k.val
      = inner (dproj m c) (wi m c) (hid m c) (scale m c) r :=
    Finset.sum_congr rfl fun k _ => by rw [dnorm_eq, at2_ix2, mul_comm]
  rw [hS, root_eq, dnorm_eq, at2_ix2, at2_ix2]
  exact NormGrad.eq (fun k => hid m c (ix2 r k)) _ _ _ q

theorem scale_eq (q : Fin 2048) : (G6 m c : S1x2048.Idx → EReal) (ix2 0 q)
    = DhnRefIdeal.Read.val_main_v41 (F := Ideal) (dproj m c) (wi m c) (hid m c) (ix2 0 q) := by
  have h : ∑ r ∈ Finset.range 2048, Cases.share m c q.val r
      = ∑ r : Fin 2048, ((hid m c (ix2 r q) : EReal) * DhnRefIdeal.Entry.root (hid m c) r * DhnRefIdeal.Entry.dnorm (dproj m c) (wi m c) r q) := by
    rw [Finset.sum_range]
    refine Finset.sum_congr rfl fun r _ => ?_
    unfold Cases.share
    rw [root_eq, dnorm_eq, at2_ix2, mul_comm (DhnRefIdeal.Entry.dnorm _ _ _ _), mul_assoc, mul_comm (DhnRefIdeal.Entry.dnorm _ _ _ _), ← mul_assoc]
    rfl
  exact (G6_apply m c q).trans (h.trans (DhnRefIdeal.Entry.v41 _ _ _ q).symm)

theorem grad_array : (G5 m c : S2048x2048.Idx → EReal)
    = DhnRefIdeal.Read.val_main_v40 (F := Ideal) (dproj m c) (wi m c) (hid m c) (scale m c) (dres m c) := by
  funext i
  rw [eq_ix2 i]
  exact grad_eq m c _ _

theorem scale_array : (G6 m c : S1x2048.Idx → EReal)
    = DhnRefIdeal.Read.val_main_v41 (F := Ideal) (dproj m c) (wi m c) (hid m c) := by
  refine funext fun (i : S1x2048.Idx) => ?_
  obtain ⟨q, rfl⟩ : ∃ q : Fin 2048, i = ix2 0 q := ⟨i 1, (eq_ix2 i).trans (congrArg (ix2 · (i 1)) (Subsingleton.elim (α := Fin 1) _ _))⟩
  exact scale_eq m c q

/-- The call against the derivative of the reference's lines. -/
theorem algebraic : Cert.algebraic_DhnIdeal_DhnRefIdeal (hDhnIdeal := Cert.DhnIdeal.Gen.facts) (hDhnRefIdeal := Cert.DhnRefIdeal.Gen.facts) :=
  fun m ρ m' ρ' _ hag => ⟨fun c => G5 m c, fun c => G6 m c, Cert.DhnIdeal.Value.run m ρ,
    (θ_run _ _ _).mono (fun _ h c => ⟨(h c).1.trans (by
        rw [DhnRefIdeal.Read.val_main_v40_eq, (hag c).1, (hag c).2.1, (hag c).2.2.1, (hag c).2.2.2.1, (hag c).2.2.2.2]
        exact (grad_array m c).symm),
      (h c).2.1.trans (by
        rw [DhnRefIdeal.Read.val_main_v41_eq, (hag c).1, (hag c).2.1, (hag c).2.2.1]
        exact (scale_array m c).symm), (h c).2.2⟩) (Cert.DhnRefIdeal.Value.run m' ρ')⟩

/-- The reference's frame: its run keeps the arguments, and it declares no semaphore. -/
theorem ref_frame : Cert.quiescent_DhnRefIdeal (hDhnRefIdeal := Cert.DhnRefIdeal.Gen.facts) :=
  fun m ρ _ => (θ_run _ _ _).mono (fun r h => ⟨fun c => (h c).2.2, sem_eq_zero_of_no_sems (by decide) r.2⟩) (Cert.DhnRefIdeal.Value.run m ρ)

end Cert.DhnValue

end
-- ==== Proof.Weights.lean ====
/-
  The weights' gradients: each call leaves the product of its left argument, transposed, with its right one. A grid point
  computes one tile of the result from whole columns of both; the tiles cover the result.
-/
module

public import proofs.«01_k».proof.Proof.Gen.DwinIdeal.Value
public import proofs.«01_k».proof.Proof.Gen.DwinRefIdeal.Read
public import proofs.«01_k».proof.Proof.Gen.DwinQIdeal.Value
public import proofs.«01_k».proof.Proof.Gen.DwinQRefIdeal.Read
public import proofs.«01_k».proof.Proof.Gen.DwoIdeal.Value
public import proofs.«01_k».proof.Proof.Gen.DwoRefIdeal.Read
public import proofs.«01_k».proof.Proof.Gen.DwgIdeal.Value
public import proofs.«01_k».proof.Proof.Gen.DwgRefIdeal.Read
public import proofs.«01_k».proof.Proof.Gen.DwuIdeal.Value
public import proofs.«01_k».proof.Proof.Gen.DwuRefIdeal.Read
public import proofs.«01_k».proof.Defs
public import Idealize.ShloMosaic.Lib.Pipeline.ValueKit
public import Idealize.ShloMosaic.Lib.Tactic

@[expose] public section

set_option maxRecDepth 16384

noncomputable section

namespace Cert.DwinIdeal.Entry

open Cert.DwinIdeal Cert.DwinIdeal.Gen Cert.DwinIdeal.Value Idealize.ShloMosaic Idealize.ShloMosaic.TcCoe Idealize.SL.Sem

variable (m : (ℓ : Loc nD τ sig) → Buf (Elt Ideal) ℓ) (c : Dev nD)

theorem index_maps : ∀ t : Fin cfg0.N, win0_0.index t = ![0, t.val / 6] ∧ win0_1.index t = ![0, t.val % 6] ∧ win0_2.index t = ![t.val / 6, t.val % 6] :=
  (by decide +kernel : ∀ t : Fin grid0.N, _)

/-- The gradient at half the projection's rows. -/
theorem final : (dats m 0 c).arrAt 2 cfg0.N = DwinRefIdeal.Read.val_main_v6 (F := Ideal)
    (m ((c : Thread nD τ).loc main_arg0)) (m ((c : Thread nD τ).loc main_arg1)) := by
  refine (dats m 0 c).arrAt_eq_of_covers 2 _ (by decide +kernel) fun t hf y => ?_
  obtain ⟨e0, e1, e2⟩ := index_maps t
  blk_simp
  rw [after0_2]
  unfold outsAt0
  frame_out
  pointwise [k0_pay3, k0_pay2, k0_pay1, DwinRefIdeal.Read.val_main_v6, DwinRefIdeal.Read.val_main_v5, DwinRefIdeal.Read.val_main_v4, DwinRefIdeal.Read.val_main_v1, DwinRefIdeal.Read.val_main_v0]
  refine Fin.sum_fin_congr fun k => (EReal.mul_comm _ _).trans ?_
  blk_point [iblk, V, e0, e1, e2]

theorem algebraic : Cert.algebraic_DwinIdeal_DwinRefIdeal (hDwinIdeal := Cert.DwinIdeal.Gen.facts) (hDwinRefIdeal := Cert.DwinRefIdeal.Gen.facts) :=
  fun m ρ m' ρ' _ hag => ⟨fun c => DwinRefIdeal.Read.val_main_v6 (F := Ideal) (m ((c : Thread nD τ).loc main_arg0)) (m ((c : Thread nD τ).loc main_arg1)),
    (θ_run _ _ _).mono (fun _ h c => ⟨(h c).1.trans (final m c), (h c).2⟩) (Cert.DwinIdeal.Value.run_blocks m ρ),
    (θ_run _ _ _).mono (fun _ h c => ⟨(h c).1.trans (by rw [DwinRefIdeal.Read.val_main_v6_eq, (hag c).1, (hag c).2]), (h c).2⟩)
      (Cert.DwinRefIdeal.Value.run m' ρ')⟩

theorem ref_frame : Cert.quiescent_DwinRefIdeal (hDwinRefIdeal := Cert.DwinRefIdeal.Gen.facts) :=
  fun m ρ _ => (θ_run _ _ _).mono (fun r h => ⟨fun c => (h c).2, sem_eq_zero_of_no_sems (by decide) r.2⟩) (Cert.DwinRefIdeal.Value.run m ρ)

end Cert.DwinIdeal.Entry

namespace Cert.DwinQIdeal.Entry

open Cert.DwinQIdeal Cert.DwinQIdeal.Gen Cert.DwinQIdeal.Value Idealize.ShloMosaic Idealize.ShloMosaic.TcCoe Idealize.SL.Sem

variable (m : (ℓ : Loc nD τ sig) → Buf (Elt Ideal) ℓ) (c : Dev nD)

theorem index_maps : ∀ t : Fin cfg0.N, win0_0.index t = ![0, t.val / 6] ∧ win0_1.index t = ![0, t.val % 6] ∧ win0_2.index t = ![t.val / 6, t.val % 6] :=
  (by decide +kernel : ∀ t : Fin grid0.N, _)

/-- The gradient at a quarter of the projection's rows. -/
theorem final : (dats m 0 c).arrAt 2 cfg0.N = DwinQRefIdeal.Read.val_main_v6 (F := Ideal)
    (m ((c : Thread nD τ).loc main_arg0)) (m ((c : Thread nD τ).loc main_arg1)) := by
  refine (dats m 0 c).arrAt_eq_of_covers 2 _ (by decide +kernel) fun t hf y => ?_
  obtain ⟨e0, e1, e2⟩ := index_maps t
  blk_simp
  rw [after0_2]
  unfold outsAt0
  frame_out
  pointwise [k0_pay3, k0_pay2, k0_pay1, DwinQRefIdeal.Read.val_main_v6, DwinQRefIdeal.Read.val_main_v5, DwinQRefIdeal.Read.val_main_v4, DwinQRefIdeal.Read.val_main_v1, DwinQRefIdeal.Read.val_main_v0]
  refine Fin.sum_fin_congr fun k => (EReal.mul_comm _ _).trans ?_
  blk_point [iblk, V, e0, e1, e2]

theorem algebraic : Cert.algebraic_DwinQIdeal_DwinQRefIdeal (hDwinQIdeal := Cert.DwinQIdeal.Gen.facts) (hDwinQRefIdeal := Cert.DwinQRefIdeal.Gen.facts) :=
  fun m ρ m' ρ' _ hag => ⟨fun c => DwinQRefIdeal.Read.val_main_v6 (F := Ideal) (m ((c : Thread nD τ).loc main_arg0)) (m ((c : Thread nD τ).loc main_arg1)),
    (θ_run _ _ _).mono (fun _ h c => ⟨(h c).1.trans (final m c), (h c).2⟩) (Cert.DwinQIdeal.Value.run_blocks m ρ),
    (θ_run _ _ _).mono (fun _ h c => ⟨(h c).1.trans (by rw [DwinQRefIdeal.Read.val_main_v6_eq, (hag c).1, (hag c).2]), (h c).2⟩)
      (Cert.DwinQRefIdeal.Value.run m' ρ')⟩

theorem ref_frame : Cert.quiescent_DwinQRefIdeal (hDwinQRefIdeal := Cert.DwinQRefIdeal.Gen.facts) :=
  fun m ρ _ => (θ_run _ _ _).mono (fun r h => ⟨fun c => (h c).2, sem_eq_zero_of_no_sems (by decide) r.2⟩) (Cert.DwinQRefIdeal.Value.run m ρ)

end Cert.DwinQIdeal.Entry

namespace Cert.DwoIdeal.Entry

open Cert.DwoIdeal Cert.DwoIdeal.Gen Cert.DwoIdeal.Value Idealize.ShloMosaic Idealize.ShloMosaic.TcCoe Idealize.SL.Sem

variable (m : (ℓ : Loc nD τ sig) → Buf (Elt Ideal) ℓ) (c : Dev nD)

theorem index_maps : ∀ t : Fin cfg0.N, win0_0.index t = ![0, t.val / 2] ∧ win0_1.index t = ![0, t.val % 2] ∧ win0_2.index t = ![t.val / 2, t.val % 2] :=
  (by decide +kernel : ∀ t : Fin grid0.N, _)

/-- The gradient at the output projection. -/
theorem final : (dats m 0 c).arrAt 2 cfg0.N = DwoRefIdeal.Read.val_main_v5 (F := Ideal)
    (m ((c : Thread nD τ).loc main_arg0)) (m ((c : Thread nD τ).loc main_arg1)) := by
  refine (dats m 0 c).arrAt_eq_of_covers 2 _ (by decide +kernel) fun t hf y => ?_
  obtain ⟨e0, e1, e2⟩ := index_maps t
  blk_simp
  rw [after0_2]
  unfold outsAt0
  frame_out
  pointwise [k0_pay3, k0_pay2, k0_pay1, DwoRefIdeal.Read.val_main_v5, DwoRefIdeal.Read.val_main_v4, DwoRefIdeal.Read.val_main_v3, DwoRefIdeal.Read.val_main_v0]
  refine Fin.sum_fin_congr fun k => (EReal.mul_comm _ _).trans ?_
  blk_point [iblk, V, e0, e1, e2]

theorem algebraic : Cert.algebraic_DwoIdeal_DwoRefIdeal (hDwoIdeal := Cert.DwoIdeal.Gen.facts) (hDwoRefIdeal := Cert.DwoRefIdeal.Gen.facts) :=
  fun m ρ m' ρ' _ hag => ⟨fun c => DwoRefIdeal.Read.val_main_v5 (F := Ideal) (m ((c : Thread nD τ).loc main_arg0)) (m ((c : Thread nD τ).loc main_arg1)),
    (θ_run _ _ _).mono (fun _ h c => ⟨(h c).1.trans (final m c), (h c).2⟩) (Cert.DwoIdeal.Value.run_blocks m ρ),
    (θ_run _ _ _).mono (fun _ h c => ⟨(h c).1.trans (by rw [DwoRefIdeal.Read.val_main_v5_eq, (hag c).1, (hag c).2]), (h c).2⟩)
      (Cert.DwoRefIdeal.Value.run m' ρ')⟩

theorem ref_frame : Cert.quiescent_DwoRefIdeal (hDwoRefIdeal := Cert.DwoRefIdeal.Gen.facts) :=
  fun m ρ _ => (θ_run _ _ _).mono (fun r h => ⟨fun c => (h c).2, sem_eq_zero_of_no_sems (by decide) r.2⟩) (Cert.DwoRefIdeal.Value.run m ρ)

end Cert.DwoIdeal.Entry

namespace Cert.DwgIdeal.Entry

open Cert.DwgIdeal Cert.DwgIdeal.Gen Cert.DwgIdeal.Value Idealize.ShloMosaic Idealize.ShloMosaic.TcCoe Idealize.SL.Sem

variable (m : (ℓ : Loc nD τ sig) → Buf (Elt Ideal) ℓ) (c : Dev nD)

theorem index_maps : ∀ t : Fin cfg0.N, win0_0.index t = ![0, t.val / 2] ∧ win0_1.index t = ![0, t.val % 2] ∧ win0_2.index t = ![t.val / 2, t.val % 2] :=
  (by decide +kernel : ∀ t : Fin grid0.N, _)

/-- The gradient at the gate's weight. -/
theorem final : (dats m 0 c).arrAt 2 cfg0.N = DwgRefIdeal.Read.val_main_v5 (F := Ideal)
    (m ((c : Thread nD τ).loc main_arg0)) (m ((c : Thread nD τ).loc main_arg1)) := by
  refine (dats m 0 c).arrAt_eq_of_covers 2 _ (by decide +kernel) fun t hf y => ?_
  obtain ⟨e0, e1, e2⟩ := index_maps t
  blk_simp
  rw [after0_2]
  unfold outsAt0
  frame_out
  pointwise [k0_pay3, k0_pay2, k0_pay1, DwgRefIdeal.Read.val_main_v5, DwgRefIdeal.Read.val_main_v4, DwgRefIdeal.Read.val_main_v3, DwgRefIdeal.Read.val_main_v0]
  refine Fin.sum_fin_congr fun k => (EReal.mul_comm _ _).trans ?_
  blk_point [iblk, V, e0, e1, e2]

theorem algebraic : Cert.algebraic_DwgIdeal_DwgRefIdeal (hDwgIdeal := Cert.DwgIdeal.Gen.facts) (hDwgRefIdeal := Cert.DwgRefIdeal.Gen.facts) :=
  fun m ρ m' ρ' _ hag => ⟨fun c => DwgRefIdeal.Read.val_main_v5 (F := Ideal) (m ((c : Thread nD τ).loc main_arg0)) (m ((c : Thread nD τ).loc main_arg1)),
    (θ_run _ _ _).mono (fun _ h c => ⟨(h c).1.trans (final m c), (h c).2⟩) (Cert.DwgIdeal.Value.run_blocks m ρ),
    (θ_run _ _ _).mono (fun _ h c => ⟨(h c).1.trans (by rw [DwgRefIdeal.Read.val_main_v5_eq, (hag c).1, (hag c).2]), (h c).2⟩)
      (Cert.DwgRefIdeal.Value.run m' ρ')⟩

theorem ref_frame : Cert.quiescent_DwgRefIdeal (hDwgRefIdeal := Cert.DwgRefIdeal.Gen.facts) :=
  fun m ρ _ => (θ_run _ _ _).mono (fun r h => ⟨fun c => (h c).2, sem_eq_zero_of_no_sems (by decide) r.2⟩) (Cert.DwgRefIdeal.Value.run m ρ)

end Cert.DwgIdeal.Entry

namespace Cert.DwuIdeal.Entry

open Cert.DwuIdeal Cert.DwuIdeal.Gen Cert.DwuIdeal.Value Idealize.ShloMosaic Idealize.ShloMosaic.TcCoe Idealize.SL.Sem

variable (m : (ℓ : Loc nD τ sig) → Buf (Elt Ideal) ℓ) (c : Dev nD)

theorem index_maps : ∀ t : Fin cfg0.N, win0_0.index t = ![0, t.val / 2] ∧ win0_1.index t = ![0, t.val % 2] ∧ win0_2.index t = ![t.val / 2, t.val % 2] :=
  (by decide +kernel : ∀ t : Fin grid0.N, _)

/-- The gradient at the embedding's weight. -/
theorem final : (dats m 0 c).arrAt 2 cfg0.N = DwuRefIdeal.Read.val_main_v5 (F := Ideal)
    (m ((c : Thread nD τ).loc main_arg0)) (m ((c : Thread nD τ).loc main_arg1)) := by
  refine (dats m 0 c).arrAt_eq_of_covers 2 _ (by decide +kernel) fun t hf y => ?_
  obtain ⟨e0, e1, e2⟩ := index_maps t
  blk_simp
  rw [after0_2]
  unfold outsAt0
  frame_out
  pointwise [k0_pay3, k0_pay2, k0_pay1, DwuRefIdeal.Read.val_main_v5, DwuRefIdeal.Read.val_main_v4, DwuRefIdeal.Read.val_main_v3, DwuRefIdeal.Read.val_main_v0]
  refine Fin.sum_fin_congr fun k => (EReal.mul_comm _ _).trans ?_
  blk_point [iblk, V, e0, e1, e2]

theorem algebraic : Cert.algebraic_DwuIdeal_DwuRefIdeal (hDwuIdeal := Cert.DwuIdeal.Gen.facts) (hDwuRefIdeal := Cert.DwuRefIdeal.Gen.facts) :=
  fun m ρ m' ρ' _ hag => ⟨fun c => DwuRefIdeal.Read.val_main_v5 (F := Ideal) (m ((c : Thread nD τ).loc main_arg0)) (m ((c : Thread nD τ).loc main_arg1)),
    (θ_run _ _ _).mono (fun _ h c => ⟨(h c).1.trans (final m c), (h c).2⟩) (Cert.DwuIdeal.Value.run_blocks m ρ),
    (θ_run _ _ _).mono (fun _ h c => ⟨(h c).1.trans (by rw [DwuRefIdeal.Read.val_main_v5_eq, (hag c).1, (hag c).2]), (h c).2⟩)
      (Cert.DwuRefIdeal.Value.run m' ρ')⟩

theorem ref_frame : Cert.quiescent_DwuRefIdeal (hDwuRefIdeal := Cert.DwuRefIdeal.Gen.facts) :=
  fun m ρ _ => (θ_run _ _ _).mono (fun r h => ⟨fun c => (h c).2, sem_eq_zero_of_no_sems (by decide) r.2⟩) (Cert.DwuRefIdeal.Value.run m ρ)

end Cert.DwuIdeal.Entry

end
-- ==== Proof.Packed.lean ====
/-
  The three weights of a layer as one array of eight row blocks, as every device holds them once they are gathered, read
  back: rows 0 to 255 of block d are rows of the first weight, the next 256 rows of the second.
-/
module

public import proofs.«01_k».proof.Proof.Gen.OutIdeal.Value
public import Idealize.ShloMosaic.Lib.Pointwise

@[expose] public section

set_option maxRecDepth 16384

noncomputable section

namespace Cert.Packed

open Cert.OutIdeal Cert.OutIdeal.Gen Idealize.ShloMosaic

/-- The packed array as the host code builds it. -/
def packed (w1 w2 : FVec Ideal S2048x2048 .f32) (w3 : FVec Ideal S256x2048 .f32) : FVec Ideal S8x544x2048 .bf16 :=
  truncf .bf16 (concatenate S8x544x2048 1
    [⟨S8x256x2048, shapeCast S8x256x2048 w1 shapeCasts_S2048x2048_S8x256x2048⟩,
     ⟨S8x256x2048, shapeCast S8x256x2048 w2 shapeCasts_S2048x2048_S8x256x2048⟩,
     ⟨S8x32x2048, shapeCast S8x32x2048 (transpose S8x256x256 [1, 0, 2] (shapeCast S256x8x256 w3 shapeCasts_S256x2048_S256x8x256)
       transposes_S256x8x256_S8x256x256_1_0_2) shapeCasts_S8x256x256_S8x32x2048⟩]
    concatenates_S8x256x2048_S8x256x2048_S8x32x2048_S8x544x2048_d1) bitsLt_bf16_f32

variable (w1 w2 : FVec Ideal S2048x2048 .f32) (w3 : FVec Ideal S256x2048 .f32)

theorem first (d : Fin 8) (r : Fin 544) (hr : r.val < 256) (q : Fin 2048) :
    packed w1 w2 w3 (ix3 d r q) = w1 (ix2 ⟨d.val * 256 + r.val, by omega⟩ q) := by
  pointwise [packed]
  rw [dif_pos hr]

theorem second (d : Fin 8) (r : Fin 544) (hr : 256 ≤ r.val) (hr' : r.val < 512) (q : Fin 2048) :
    packed w1 w2 w3 (ix3 d r q) = w2 (ix2 ⟨d.val * 256 + (r.val - 256), by omega⟩ q) := by
  pointwise [packed]
  rw [dif_neg (by omega), dif_pos (by omega)]

/-- Entry (d, r, q) of the first weight's rows. -/
theorem first_of (i : S8x544x2048.Idx) (d r q : ℕ) (hd : d < 8) (hr : r < 256) (hq : q < 2048)
    (h0 : (i 0).val = d) (h1 : (i 1).val = r) (h2 : (i 2).val = q) :
    packed w1 w2 w3 i = w1 (ix2 ⟨d * 256 + r, by omega⟩ ⟨q, hq⟩) := by
  subst h0; subst h1; subst h2
  exact (congrArg _ (eq_ix3 i)).trans (first w1 w2 w3 (i 0) (i 1) hr (i 2))

/-- Entry (d, 256 + r, q) of the second weight's rows. -/
theorem second_of (i : S8x544x2048.Idx) (d r q : ℕ) (hd : d < 8) (hr : r < 256) (hq : q < 2048)
    (h0 : (i 0).val = d) (h1 : (i 1).val = 256 + r) (h2 : (i 2).val = q) :
    packed w1 w2 w3 i = w2 (ix2 ⟨d * 256 + r, by omega⟩ ⟨q, hq⟩) := by
  subst h0; subst h2
  refine (congrArg _ (eq_ix3 i)).trans ((second w1 w2 w3 (i 0) (i 1) (by omega) (by omega) (i 2)).trans (congrArg w2 ?_))
  refine congrArg (fun z => ix2 z (i 2)) (Fin.ext ?_)
  show (i 0).val * 256 + ((i 1).val - 256) = (i 0).val * 256 + r
  omega

end Cert.Packed

end
-- ==== Proof.Gathered.lean ====
/-
  The products whose right factor is read out of the packed weights, with the sums that are fused into them.
-/
module

public import proofs.«01_k».proof.Proof.Gen.OutIdeal.Value
public import proofs.«01_k».proof.Proof.Gen.OutRefIdeal.Read
public import proofs.«01_k».proof.Proof.Gen.Dh1Ideal.Value
public import proofs.«01_k».proof.Proof.Gen.Dh1RefIdeal.Read
public import proofs.«01_k».proof.Proof.Gen.DyIdeal.Value
public import proofs.«01_k».proof.Proof.Gen.DyRefIdeal.Read
public import proofs.«01_k».proof.Proof.Gen.GateIdeal.Value
public import proofs.«01_k».proof.Proof.Gen.GateRefIdeal.Read
public import proofs.«01_k».proof.Proof.Packed
public import proofs.«01_k».proof.Defs
public import Idealize.ShloMosaic.Lib.Pipeline.ValueKit
public import Idealize.ShloMosaic.Lib.Tactic

@[expose] public section

set_option maxRecDepth 16384

noncomputable section

namespace Cert.OutIdeal.Entry

open Cert.OutIdeal Cert.OutIdeal.Gen Cert.OutIdeal.Value Idealize.ShloMosaic Idealize.ShloMosaic.TcCoe Idealize.SL.Sem

variable (m : (ℓ : Loc nD τ sig) → Buf (Elt Ideal) ℓ) (c : Dev nD)

theorem index_maps : ∀ t : Fin cfg0.N, win0_0.index t = ![t.val / 2, 0] ∧ win0_1.index t = ![0, 0, t.val % 2] ∧ win0_2.index t = ![t.val / 2, t.val % 2] ∧ win0_3.index t = ![t.val / 2, t.val % 2] :=
  (by decide +kernel : ∀ t : Fin grid0.N, _)

/-- The block of the packed weights that a point reads. -/
theorem staged (t : Fin cfg0.N) (d : Fin 8) (r : Fin 256) (q : Fin 1024) :
    X0_1 m c t (ix3 d r q) = m ((c : Thread nD τ).loc main_arg1)
      (ix2 ⟨(0 * 8 + d.val) * 256 + r.val, by have := d.isLt; have := r.isLt; omega⟩ ⟨t.val % 2 * 1024 + q.val, by have := q.isLt; omega⟩) := by
  obtain ⟨-, e1, -⟩ := index_maps t
  have hd := d.isLt
  have hr := r.isLt
  have hq := q.isLt
  unfold X0_1 Pipeline.Window.fill
  rw [dif_pos (moved0_1 t _)]
  show (V m c main_v6 : S8x544x2048.Idx → EReal) (((cfg0.win 1).blk t).view.emb fun a => ⟨(ix3 d r q a).val, _⟩) = _
  rw [show (V m c main_v6 : S8x544x2048.Idx → EReal) = Packed.packed (m ((c : Thread nD τ).loc main_arg1))
    (m ((c : Thread nD τ).loc main_arg2)) (m ((c : Thread nD τ).loc main_arg3)) from rfl]
  refine Packed.first_of _ _ _ _ _ _ _ (by omega) hr (by omega) ?_ ?_ ?_
  · show win0_1.index t (0 : Fin 3) * 8 + 1 * d.val = _; rw [e1]; show 0 * 8 + 1 * d.val = _; omega
  · show win0_1.index t (1 : Fin 3) * 256 + 1 * r.val = _; rw [e1]; show 0 * 256 + 1 * r.val = _; omega
  · show win0_1.index t (2 : Fin 3) * 1024 + 1 * q.val = _; rw [e1]; show t.val % 2 * 1024 + 1 * q.val = _; omega

/-- The residual stream plus the product. -/
theorem final : (dats m 0 c).arrAt 3 cfg0.N = OutRefIdeal.Read.val_main_v2 (F := Ideal) (m ((c : Thread nD τ).loc main_arg0)) (m ((c : Thread nD τ).loc main_arg1)) (m ((c : Thread nD τ).loc main_arg4)) := by
  refine (dats m 0 c).arrAt_eq_of_covers 3 _ (by decide +kernel) fun t hf y => ?_
  obtain ⟨e0, e1, e2, e3⟩ := index_maps t
  blk_simp
  rw [after0_3]
  unfold outsAt0
  frame_out
  pointwise [k0_pay3, k0_pay2, k0_pay1, OutRefIdeal.Read.val_main_v2, OutRefIdeal.Read.val_main_v1, OutRefIdeal.Read.val_main_v0]
  refine (add_comm (_ : EReal) _).trans (congrArg₂ (fun a b : EReal => a + b) ?_
    (Fin.sum_fin_congr fun k => congrArg₂ (fun a b : EReal => a * b) ?_ ((staged m c t _ _ _).trans ?_)))
  · blk_point [iblk, V, e2, e3]
  · blk_point [iblk, V, e0, e3]
  · blk_point [e3]

theorem algebraic : Cert.algebraic_OutIdeal_OutRefIdeal (hOutIdeal := Cert.OutIdeal.Gen.facts) (hOutRefIdeal := Cert.OutRefIdeal.Gen.facts) :=
  fun m ρ m' ρ' _ hag => ⟨fun c => OutRefIdeal.Read.val_main_v2 (F := Ideal) (m ((c : Thread nD τ).loc main_arg0)) (m ((c : Thread nD τ).loc main_arg1)) (m ((c : Thread nD τ).loc main_arg4)),
    (θ_run _ _ _).mono (fun _ h c => ⟨(h c).1.trans (final m c), (h c).2⟩) (Cert.OutIdeal.Value.run_blocks m ρ),
    (θ_run _ _ _).mono (fun _ h c => ⟨(h c).1.trans (by rw [OutRefIdeal.Read.val_main_v2_eq, (hag c).1, (hag c).2.1, (hag c).2.2.2.2]), (h c).2⟩)
      (Cert.OutRefIdeal.Value.run m' ρ')⟩

theorem ref_frame : Cert.quiescent_OutRefIdeal (hOutRefIdeal := Cert.OutRefIdeal.Gen.facts) :=
  fun m ρ _ => (θ_run _ _ _).mono (fun r h => ⟨fun c => (h c).2, sem_eq_zero_of_no_sems (by decide) r.2⟩) (Cert.OutRefIdeal.Value.run m ρ)

end Cert.OutIdeal.Entry

namespace Cert.Dh1Ideal.Entry

open Cert.Dh1Ideal Cert.Dh1Ideal.Gen Cert.Dh1Ideal.Value Idealize.ShloMosaic Idealize.ShloMosaic.TcCoe Idealize.SL.Sem

variable (m : (ℓ : Loc nD τ sig) → Buf (Elt Ideal) ℓ) (c : Dev nD)

theorem index_maps : ∀ t : Fin cfg0.N, win0_0.index t = ![t.val / 2, 0] ∧ win0_1.index t = ![t.val % 2, 1, 0] ∧ win0_2.index t = ![t.val / 2, t.val % 2] ∧ win0_3.index t = ![t.val / 2, t.val % 2] :=
  (by decide +kernel : ∀ t : Fin grid0.N, _)

/-- The block of the packed weights that a point reads. -/
theorem staged (t : Fin cfg0.N) (d : Fin 4) (r : Fin 256) (q : Fin 2048) :
    X0_1 m c t (ix3 d r q) = m ((c : Thread nD τ).loc main_arg2)
      (ix2 ⟨(t.val % 2 * 4 + d.val) * 256 + r.val, by have := d.isLt; have := r.isLt; omega⟩ ⟨0 * 2048 + q.val, by have := q.isLt; omega⟩) := by
  obtain ⟨-, e1, -⟩ := index_maps t
  have hd := d.isLt
  have hr := r.isLt
  have hq := q.isLt
  unfold X0_1 Pipeline.Window.fill
  rw [dif_pos (moved0_1 t _)]
  show (V m c main_v6 : S8x544x2048.Idx → EReal) (((cfg0.win 1).blk t).view.emb fun a => ⟨(ix3 d r q a).val, _⟩) = _
  rw [show (V m c main_v6 : S8x544x2048.Idx → EReal) = Packed.packed (m ((c : Thread nD τ).loc main_arg1))
    (m ((c : Thread nD τ).loc main_arg2)) (m ((c : Thread nD τ).loc main_arg3)) from rfl]
  refine Packed.second_of _ _ _ _ _ _ _ (by omega) hr (by omega) ?_ ?_ ?_
  · show win0_1.index t (0 : Fin 3) * 4 + 1 * d.val = _; rw [e1]; show t.val % 2 * 4 + 1 * d.val = _; omega
  · show win0_1.index t (1 : Fin 3) * 256 + 1 * r.val = _; rw [e1]; show 1 * 256 + 1 * r.val = _; omega
  · show win0_1.index t (2 : Fin 3) * 2048 + 1 * q.val = _; rw [e1]; show 0 * 2048 + 1 * q.val = _; omega

/-- The gradient that passes the gate by, plus the product. -/
theorem final : (dats m 0 c).arrAt 3 cfg0.N = Dh1RefIdeal.Read.val_main_v4 (F := Ideal) (m ((c : Thread nD τ).loc main_arg0)) (m ((c : Thread nD τ).loc main_arg2)) (m ((c : Thread nD τ).loc main_arg4)) := by
  refine (dats m 0 c).arrAt_eq_of_covers 3 _ (by decide +kernel) fun t hf y => ?_
  obtain ⟨e0, e1, e2, e3⟩ := index_maps t
  blk_simp
  rw [after0_3]
  unfold outsAt0
  frame_out
  pointwise [k0_pay3, k0_pay2, k0_pay1, Dh1RefIdeal.Read.val_main_v4, Dh1RefIdeal.Read.val_main_v3, Dh1RefIdeal.Read.val_main_v2]
  refine (add_comm (_ : EReal) _).trans (congrArg₂ (fun a b : EReal => a + b) ?_
    (Fin.sum_fin_congr fun k => congrArg₂ (fun a b : EReal => a * b) ?_ ((staged m c t _ _ _).trans ?_)))
  · blk_point [iblk, V, e2, e3]
  · blk_point [iblk, V, e0, e3]
  · blk_point [e3]

theorem algebraic : Cert.algebraic_Dh1Ideal_Dh1RefIdeal (hDh1Ideal := Cert.Dh1Ideal.Gen.facts) (hDh1RefIdeal := Cert.Dh1RefIdeal.Gen.facts) :=
  fun m ρ m' ρ' _ hag => ⟨fun c => Dh1RefIdeal.Read.val_main_v4 (F := Ideal) (m ((c : Thread nD τ).loc main_arg0)) (m ((c : Thread nD τ).loc main_arg2)) (m ((c : Thread nD τ).loc main_arg4)),
    (θ_run _ _ _).mono (fun _ h c => ⟨(h c).1.trans (final m c), (h c).2⟩) (Cert.Dh1Ideal.Value.run_blocks m ρ),
    (θ_run _ _ _).mono (fun _ h c => ⟨(h c).1.trans (by rw [Dh1RefIdeal.Read.val_main_v4_eq, (hag c).1, (hag c).2.2.1, (hag c).2.2.2.2]), (h c).2⟩)
      (Cert.Dh1RefIdeal.Value.run m' ρ')⟩

theorem ref_frame : Cert.quiescent_Dh1RefIdeal (hDh1RefIdeal := Cert.Dh1RefIdeal.Gen.facts) :=
  fun m ρ _ => (θ_run _ _ _).mono (fun r h => ⟨fun c => (h c).2, sem_eq_zero_of_no_sems (by decide) r.2⟩) (Cert.Dh1RefIdeal.Value.run m ρ)

end Cert.Dh1Ideal.Entry

namespace Cert.DyIdeal.Entry

open Cert.DyIdeal Cert.DyIdeal.Gen Cert.DyIdeal.Value Idealize.ShloMosaic Idealize.ShloMosaic.TcCoe Idealize.SL.Sem

variable (m : (ℓ : Loc nD τ sig) → Buf (Elt Ideal) ℓ) (c : Dev nD)

theorem index_maps : ∀ t : Fin cfg0.N, win0_0.index t = ![t.val / 2, 0] ∧ win0_1.index t = ![t.val % 2, 0, 0] ∧ win0_2.index t = ![t.val / 2, t.val % 2] :=
  (by decide +kernel : ∀ t : Fin grid0.N, _)

/-- The block of the packed weights that a point reads. -/
theorem staged (t : Fin cfg0.N) (d : Fin 4) (r : Fin 256) (q : Fin 2048) :
    X0_1 m c t (ix3 d r q) = m ((c : Thread nD τ).loc main_arg1)
      (ix2 ⟨(t.val % 2 * 4 + d.val) * 256 + r.val, by have := d.isLt; have := r.isLt; omega⟩ ⟨0 * 2048 + q.val, by have := q.isLt; omega⟩) := by
  obtain ⟨-, e1, -⟩ := index_maps t
  have hd := d.isLt
  have hr := r.isLt
  have hq := q.isLt
  unfold X0_1 Pipeline.Window.fill
  rw [dif_pos (moved0_1 t _)]
  show (V m c main_v6 : S8x544x2048.Idx → EReal) (((cfg0.win 1).blk t).view.emb fun a => ⟨(ix3 d r q a).val, _⟩) = _
  rw [show (V m c main_v6 : S8x544x2048.Idx → EReal) = Packed.packed (m ((c : Thread nD τ).loc main_arg1))
    (m ((c : Thread nD τ).loc main_arg2)) (m ((c : Thread nD τ).loc main_arg3)) from rfl]
  refine Packed.first_of _ _ _ _ _ _ _ (by omega) hr (by omega) ?_ ?_ ?_
  · show win0_1.index t (0 : Fin 3) * 4 + 1 * d.val = _; rw [e1]; show t.val % 2 * 4 + 1 * d.val = _; omega
  · show win0_1.index t (1 : Fin 3) * 256 + 1 * r.val = _; rw [e1]; show 0 * 256 + 1 * r.val = _; omega
  · show win0_1.index t (2 : Fin 3) * 2048 + 1 * q.val = _; rw [e1]; show 0 * 2048 + 1 * q.val = _; omega

/-- The product with the transposed weight. -/
theorem final : (dats m 0 c).arrAt 2 cfg0.N = DyRefIdeal.Read.val_main_v2 (F := Ideal) (m ((c : Thread nD τ).loc main_arg0)) (m ((c : Thread nD τ).loc main_arg1)) := by
  refine (dats m 0 c).arrAt_eq_of_covers 2 _ (by decide +kernel) fun t hf y => ?_
  obtain ⟨e0, e1, e2⟩ := index_maps t
  blk_simp
  rw [after0_2]
  unfold outsAt0
  frame_out
  pointwise [k0_pay2, k0_pay1, DyRefIdeal.Read.val_main_v2]
  refine (Fin.sum_fin_congr fun k => congrArg₂ (fun a b : EReal => a * b) ?_ ((staged m c t _ _ _).trans ?_))
  · blk_point [iblk, V, e0, e2]
  · blk_point [e2]

theorem algebraic : Cert.algebraic_DyIdeal_DyRefIdeal (hDyIdeal := Cert.DyIdeal.Gen.facts) (hDyRefIdeal := Cert.DyRefIdeal.Gen.facts) :=
  fun m ρ m' ρ' _ hag => ⟨fun c => DyRefIdeal.Read.val_main_v2 (F := Ideal) (m ((c : Thread nD τ).loc main_arg0)) (m ((c : Thread nD τ).loc main_arg1)),
    (θ_run _ _ _).mono (fun _ h c => ⟨(h c).1.trans (final m c), (h c).2⟩) (Cert.DyIdeal.Value.run_blocks m ρ),
    (θ_run _ _ _).mono (fun _ h c => ⟨(h c).1.trans (by rw [DyRefIdeal.Read.val_main_v2_eq, (hag c).1, (hag c).2.1]), (h c).2⟩)
      (Cert.DyRefIdeal.Value.run m' ρ')⟩

theorem ref_frame : Cert.quiescent_DyRefIdeal (hDyRefIdeal := Cert.DyRefIdeal.Gen.facts) :=
  fun m ρ _ => (θ_run _ _ _).mono (fun r h => ⟨fun c => (h c).2, sem_eq_zero_of_no_sems (by decide) r.2⟩) (Cert.DyRefIdeal.Value.run m ρ)

end Cert.DyIdeal.Entry

namespace Cert.GateIdeal.Entry

open Cert.GateIdeal Cert.GateIdeal.Gen Cert.GateIdeal.Value Idealize.ShloMosaic Idealize.ShloMosaic.TcCoe Idealize.SL.Sem

variable (m : (ℓ : Loc nD τ sig) → Buf (Elt Ideal) ℓ) (c : Dev nD)

theorem index_maps : ∀ t : Fin cfg0.N, win0_0.index t = ![t.val / 4, 0] ∧ win0_1.index t = ![0, 1, t.val % 4] ∧ win0_2.index t = ![t.val / 4, t.val % 4] ∧ win0_3.index t = ![t.val / 4, t.val % 4] ∧ win0_4.index t = ![t.val / 4, t.val % 4] ∧ win0_5.index t = ![t.val / 4, t.val % 4] :=
  (by decide +kernel : ∀ t : Fin grid0.N, _)

/-- The block of the packed weights that a point reads. -/
theorem staged (t : Fin cfg0.N) (d : Fin 8) (r : Fin 256) (q : Fin 512) :
    X0_1 m c t (ix3 d r q) = m ((c : Thread nD τ).loc main_arg2)
      (ix2 ⟨(0 * 8 + d.val) * 256 + r.val, by have := d.isLt; have := r.isLt; omega⟩ ⟨t.val % 4 * 512 + q.val, by have := q.isLt; omega⟩) := by
  obtain ⟨-, e1, -⟩ := index_maps t
  have hd := d.isLt
  have hr := r.isLt
  have hq := q.isLt
  unfold X0_1 Pipeline.Window.fill
  rw [dif_pos (moved0_1 t _)]
  show (V m c main_v6 : S8x544x2048.Idx → EReal) (((cfg0.win 1).blk t).view.emb fun a => ⟨(ix3 d r q a).val, _⟩) = _
  rw [show (V m c main_v6 : S8x544x2048.Idx → EReal) = Packed.packed (m ((c : Thread nD τ).loc main_arg1))
    (m ((c : Thread nD τ).loc main_arg2)) (m ((c : Thread nD τ).loc main_arg3)) from rfl]
  refine Packed.second_of _ _ _ _ _ _ _ (by omega) hr (by omega) ?_ ?_ ?_
  · show win0_1.index t (0 : Fin 3) * 8 + 1 * d.val = _; rw [e1]; show 0 * 8 + 1 * d.val = _; omega
  · show win0_1.index t (1 : Fin 3) * 256 + 1 * r.val = _; rw [e1]; show 1 * 256 + 1 * r.val = _; omega
  · show win0_1.index t (2 : Fin 3) * 512 + 1 * q.val = _; rw [e1]; show t.val % 4 * 512 + 1 * q.val = _; omega

/-- The gate before its sigmoid. -/
theorem final4 : (dats m 0 c).arrAt 4 cfg0.N = GateRefIdeal.Read.val_main_v0 (F := Ideal) (m ((c : Thread nD τ).loc main_arg0)) (m ((c : Thread nD τ).loc main_arg2)) := by
  refine (dats m 0 c).arrAt_eq_of_covers 4 _ (by decide +kernel) fun t hf y => ?_
  obtain ⟨e0, e1, e2, e3, e4, e5⟩ := index_maps t
  blk_simp
  rw [after0_4]
  unfold outsAt0
  frame_out
  pointwise [k0_pay2, k0_pay1, GateRefIdeal.Read.val_main_v0]
  refine (Fin.sum_fin_congr fun k => congrArg₂ (fun a b : EReal => a * b) ?_ ((staged m c t _ _ _).trans ?_))
  · blk_point [iblk, V, e0, e4]
  · blk_point [e4]

/-- The gated sum. -/
theorem final5 : (dats m 0 c).arrAt 5 cfg0.N = GateRefIdeal.Read.val_main_v8 (F := Ideal) (m ((c : Thread nD τ).loc main_arg0)) (m ((c : Thread nD τ).loc main_arg2)) (m ((c : Thread nD τ).loc main_arg4)) := by
  refine (dats m 0 c).arrAt_eq_of_covers 5 _ (by decide +kernel) fun t hf y => ?_
  obtain ⟨e0, e1, e2, e3, e4, e5⟩ := index_maps t
  blk_simp
  rw [after0_5]
  unfold outsAt0
  frame_out
  pointwise [k0_pay3, k0_pay2, k0_pay1, GateRefIdeal.Read.val_main_v8, GateRefIdeal.Read.val_main_v7, GateRefIdeal.Read.val_main_v6, GateRefIdeal.Read.val_main_v5, GateRefIdeal.Read.val_main_v4, GateRefIdeal.Read.val_main_v3, GateRefIdeal.Read.val_main_v2, GateRefIdeal.Read.val_main_v1, GateRefIdeal.Read.val_main_v0, GateRefIdeal.Read.val_main_cst, GateRefIdeal.Read.val_main_cst_0]
  have sum_eq : ∀ z z', z = z' → Ideal.logistic z = Ideal.div 1 (1 + Ideal.exp (-z')) := fun z z' h => h ▸ rfl
  refine congrArg₂ (fun a b : EReal => a + b) ?_ (congrArg₂ (fun a b : EReal => a * b) ?_ (sum_eq _ _
    (Fin.sum_fin_congr fun k => congrArg₂ (fun a b : EReal => a * b) ?_ ((staged m c t _ _ _).trans ?_))))
  · blk_point [iblk, V, e2, e5]
  · blk_point [iblk, V, e3, e5]
  · blk_point [iblk, V, e0, e5]
  · blk_point [e5]

theorem algebraic : Cert.algebraic_GateIdeal_GateRefIdeal (hGateIdeal := Cert.GateIdeal.Gen.facts) (hGateRefIdeal := Cert.GateRefIdeal.Gen.facts) :=
  fun m ρ m' ρ' _ hag => ⟨fun c => GateRefIdeal.Read.val_main_v0 (F := Ideal) (m ((c : Thread nD τ).loc main_arg0)) (m ((c : Thread nD τ).loc main_arg2)), fun c => GateRefIdeal.Read.val_main_v8 (F := Ideal) (m ((c : Thread nD τ).loc main_arg0)) (m ((c : Thread nD τ).loc main_arg2)) (m ((c : Thread nD τ).loc main_arg4)),
    (θ_run _ _ _).mono (fun _ h c => ⟨(h c).1.trans (final4 m c), (h c).2.1.trans (final5 m c), (h c).2.2⟩) (Cert.GateIdeal.Value.run_blocks m ρ),
    (θ_run _ _ _).mono (fun _ h c => ⟨(h c).1.trans (by rw [GateRefIdeal.Read.val_main_v0_eq, (hag c).1, (hag c).2.2.1]), (h c).2.1.trans (by rw [GateRefIdeal.Read.val_main_v8_eq, (hag c).1, (hag c).2.2.1, (hag c).2.2.2.2]), (h c).2.2⟩)
      (Cert.GateRefIdeal.Value.run m' ρ')⟩

theorem ref_frame : Cert.quiescent_GateRefIdeal (hGateRefIdeal := Cert.GateRefIdeal.Gen.facts) :=
  fun m ρ _ => (θ_run _ _ _).mono (fun r h => ⟨fun c => (h c).2.2, sem_eq_zero_of_no_sems (by decide) r.2⟩) (Cert.GateRefIdeal.Value.run m ρ)

end Cert.GateIdeal.Entry

end
-- ==== Proof.Small.lean ====
/-
  The small calls: the root-mean-square norm of the rows, the sums of the devices' parts, and the optimiser on the packed weights.
-/
module

public import proofs.«01_k».proof.Proof.Gen.RmsIdeal.Value
public import proofs.«01_k».proof.Proof.Gen.RmsRefIdeal.Read
public import proofs.«01_k».proof.Proof.Gen.SumSmallIdeal.Value
public import proofs.«01_k».proof.Proof.Gen.SumSmallRefIdeal.Read
public import proofs.«01_k».proof.Proof.Gen.SumNwIdeal.Value
public import proofs.«01_k».proof.Proof.Gen.SumNwRefIdeal.Read
public import proofs.«01_k».proof.Proof.Gen.AdSmallIdeal.Value
public import proofs.«01_k».proof.Proof.Gen.AdSmallRefIdeal.Read
public import proofs.«01_k».proof.Proof.Gen.AdNwIdeal.Value
public import proofs.«01_k».proof.Proof.Gen.AdNwRefIdeal.Read
public import proofs.«01_k».proof.Proof.Gen.PleIdeal.Value
public import proofs.«01_k».proof.Proof.Gen.PleRefIdeal.Read
public import proofs.«01_k».proof.Defs
public import Idealize.ShloMosaic.Lib.Pipeline.ValueKit
public import Idealize.ShloMosaic.Lib.Tactic

@[expose] public section

set_option maxRecDepth 16384

noncomputable section

namespace Cert.RmsIdeal.Entry

open Cert.RmsIdeal Cert.RmsIdeal.Gen Cert.RmsIdeal.Value Idealize.ShloMosaic Idealize.ShloMosaic.TcCoe Idealize.SL.Sem

variable (m : (ℓ : Loc nD τ sig) → Buf (Elt Ideal) ℓ) (c : Dev nD)

theorem index_maps : ∀ t : Fin cfg0.N, win0_0.index t = ![t.val, 0] ∧ win0_1.index t = ![0, 0] ∧ win0_2.index t = ![t.val, 0] :=
  (by decide +kernel : ∀ t : Fin grid0.N, _)

theorem final : (dats m 0 c).arrAt 2 cfg0.N = RmsRefIdeal.Read.val_main_v13 (F := Ideal) (m ((c : Thread nD τ).loc main_arg0)) (m ((c : Thread nD τ).loc main_arg1)) := by
  refine (dats m 0 c).arrAt_eq_of_covers 2 _ (by decide +kernel) fun t hf y => ?_
  obtain ⟨e0, e1, e2⟩ := index_maps t
  blk_simp
  rw [after0_2]
  unfold out0_2
  frame_out
  pointwise [k0_pay1, RmsRefIdeal.Read.val_main_v0, RmsRefIdeal.Read.val_main_cst, RmsRefIdeal.Read.val_main_v1, RmsRefIdeal.Read.val_main_v2, RmsRefIdeal.Read.val_main_cst_0, RmsRefIdeal.Read.val_main_v3, RmsRefIdeal.Read.val_main_v4, RmsRefIdeal.Read.val_main_cst_1, RmsRefIdeal.Read.val_main_v5, RmsRefIdeal.Read.val_main_v6, RmsRefIdeal.Read.val_main_v7, RmsRefIdeal.Read.val_main_v8, RmsRefIdeal.Read.val_main_v9, RmsRefIdeal.Read.val_main_v10, RmsRefIdeal.Read.val_main_v11, RmsRefIdeal.Read.val_main_v12, RmsRefIdeal.Read.val_main_v13]
  blk_point [iblk, V, e0, e1, e2]

theorem algebraic : Cert.algebraic_RmsIdeal_RmsRefIdeal (hRmsIdeal := Cert.RmsIdeal.Gen.facts) (hRmsRefIdeal := Cert.RmsRefIdeal.Gen.facts) :=
  fun m ρ m' ρ' _ hag => ⟨fun c => RmsRefIdeal.Read.val_main_v13 (F := Ideal) (m ((c : Thread nD τ).loc main_arg0)) (m ((c : Thread nD τ).loc main_arg1)),
    (θ_run _ _ _).mono (fun _ h c => ⟨(h c).1.trans (final m c), (h c).2⟩) (Cert.RmsIdeal.Value.run_blocks m ρ),
    (θ_run _ _ _).mono (fun _ h c => ⟨(h c).1.trans (by rw [RmsRefIdeal.Read.val_main_v13_eq, (hag c).1, (hag c).2]), (h c).2⟩) (Cert.RmsRefIdeal.Value.run m' ρ')⟩

theorem ref_frame : Cert.quiescent_RmsRefIdeal (hRmsRefIdeal := Cert.RmsRefIdeal.Gen.facts) :=
  fun m ρ _ => (θ_run _ _ _).mono (fun r h => ⟨fun c => (h c).2, sem_eq_zero_of_no_sems (by decide) r.2⟩) (Cert.RmsRefIdeal.Value.run m ρ)

end Cert.RmsIdeal.Entry

namespace Cert.SumSmallIdeal.Entry

open Cert.SumSmallIdeal Cert.SumSmallIdeal.Gen Cert.SumSmallIdeal.Value Idealize.ShloMosaic Idealize.ShloMosaic.TcCoe Idealize.SL.Sem

variable (m : (ℓ : Loc nD τ sig) → Buf (Elt Ideal) ℓ) (c : Dev nD)

theorem index_maps : ∀ t : Fin cfg0.N, win0_0.index t = ![0, 0, 0] ∧ win0_1.index t = ![0, 0] :=
  (by decide +kernel : ∀ t : Fin grid0.N, _)

theorem final : (dats m 0 c).arrAt 1 cfg0.N = SumSmallRefIdeal.Read.val_main_v0 (F := Ideal) (m ((c : Thread nD τ).loc main_arg0)) := by
  refine (dats m 0 c).arrAt_eq_of_covers 1 _ (by decide +kernel) fun t hf y => ?_
  obtain ⟨e0, e1⟩ := index_maps t
  blk_simp
  rw [after0_1]
  unfold out0_1
  frame_out
  pointwise [k0_pay1, SumSmallRefIdeal.Read.val_main_cst, SumSmallRefIdeal.Read.val_main_v0]
  rw [Fin.sum_univ_eight]
  blk_point [iblk, V, e0, e1]

theorem algebraic : Cert.algebraic_SumSmallIdeal_SumSmallRefIdeal (hSumSmallIdeal := Cert.SumSmallIdeal.Gen.facts) (hSumSmallRefIdeal := Cert.SumSmallRefIdeal.Gen.facts) :=
  fun m ρ m' ρ' _ hag => ⟨fun c => SumSmallRefIdeal.Read.val_main_v0 (F := Ideal) (m ((c : Thread nD τ).loc main_arg0)),
    (θ_run _ _ _).mono (fun _ h c => ⟨(h c).1.trans (final m c), (h c).2⟩) (Cert.SumSmallIdeal.Value.run_blocks m ρ),
    (θ_run _ _ _).mono (fun _ h c => ⟨(h c).1.trans (by rw [SumSmallRefIdeal.Read.val_main_v0_eq, (hag c)]), (h c).2⟩) (Cert.SumSmallRefIdeal.Value.run m' ρ')⟩

theorem ref_frame : Cert.quiescent_SumSmallRefIdeal (hSumSmallRefIdeal := Cert.SumSmallRefIdeal.Gen.facts) :=
  fun m ρ _ => (θ_run _ _ _).mono (fun r h => ⟨fun c => (h c).2, sem_eq_zero_of_no_sems (by decide) r.2⟩) (Cert.SumSmallRefIdeal.Value.run m ρ)

end Cert.SumSmallIdeal.Entry

namespace Cert.SumNwIdeal.Entry

open Cert.SumNwIdeal Cert.SumNwIdeal.Gen Cert.SumNwIdeal.Value Idealize.ShloMosaic Idealize.ShloMosaic.TcCoe Idealize.SL.Sem

variable (m : (ℓ : Loc nD τ sig) → Buf (Elt Ideal) ℓ) (c : Dev nD)

theorem index_maps : ∀ t : Fin cfg0.N, win0_0.index t = ![0, 0, 0] ∧ win0_1.index t = ![0, 0] :=
  (by decide +kernel : ∀ t : Fin grid0.N, _)

theorem final : (dats m 0 c).arrAt 1 cfg0.N = SumNwRefIdeal.Read.val_main_v0 (F := Ideal) (m ((c : Thread nD τ).loc main_arg0)) := by
  refine (dats m 0 c).arrAt_eq_of_covers 1 _ (by decide +kernel) fun t hf y => ?_
  obtain ⟨e0, e1⟩ := index_maps t
  blk_simp
  rw [after0_1]
  unfold out0_1
  frame_out
  pointwise [k0_pay1, SumNwRefIdeal.Read.val_main_cst, SumNwRefIdeal.Read.val_main_v0]
  rw [Fin.sum_univ_eight]
  blk_point [iblk, V, e0, e1]

theorem algebraic : Cert.algebraic_SumNwIdeal_SumNwRefIdeal (hSumNwIdeal := Cert.SumNwIdeal.Gen.facts) (hSumNwRefIdeal := Cert.SumNwRefIdeal.Gen.facts) :=
  fun m ρ m' ρ' _ hag => ⟨fun c => SumNwRefIdeal.Read.val_main_v0 (F := Ideal) (m ((c : Thread nD τ).loc main_arg0)),
    (θ_run _ _ _).mono (fun _ h c => ⟨(h c).1.trans (final m c), (h c).2⟩) (Cert.SumNwIdeal.Value.run_blocks m ρ),
    (θ_run _ _ _).mono (fun _ h c => ⟨(h c).1.trans (by rw [SumNwRefIdeal.Read.val_main_v0_eq, (hag c)]), (h c).2⟩) (Cert.SumNwRefIdeal.Value.run m' ρ')⟩

theorem ref_frame : Cert.quiescent_SumNwRefIdeal (hSumNwRefIdeal := Cert.SumNwRefIdeal.Gen.facts) :=
  fun m ρ _ => (θ_run _ _ _).mono (fun r h => ⟨fun c => (h c).2, sem_eq_zero_of_no_sems (by decide) r.2⟩) (Cert.SumNwRefIdeal.Value.run m ρ)

end Cert.SumNwIdeal.Entry

namespace Cert.AdSmallIdeal.Entry

open Cert.AdSmallIdeal Cert.AdSmallIdeal.Gen Cert.AdSmallIdeal.Value Idealize.ShloMosaic Idealize.ShloMosaic.TcCoe Idealize.SL.Sem

variable (m : (ℓ : Loc nD τ sig) → Buf (Elt Ideal) ℓ) (c : Dev nD)

theorem index_maps : ∀ t : Fin cfg0.N, win0_0.index t = ![0, 0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] :=
  (by decide +kernel : ∀ t : Fin grid0.N, _)

theorem final : (dats m 0 c).arrAt 4 cfg0.N = (m ((c : Thread nD τ).loc main_arg0))
    ∧ (dats m 0 c).arrAt 5 cfg0.N = AdSmallRefIdeal.Read.val_main_v23 (F := Ideal) (m ((c : Thread nD τ).loc main_arg0)) (m ((c : Thread nD τ).loc main_arg1)) (m ((c : Thread nD τ).loc main_arg2)) (m ((c : Thread nD τ).loc main_arg3))
    ∧ (dats m 0 c).arrAt 6 cfg0.N = AdSmallRefIdeal.Read.val_main_v4 (F := Ideal) (m ((c : Thread nD τ).loc main_arg0)) (m ((c : Thread nD τ).loc main_arg2))
    ∧ (dats m 0 c).arrAt 7 cfg0.N = AdSmallRefIdeal.Read.val_main_v10 (F := Ideal) (m ((c : Thread nD τ).loc main_arg0)) (m ((c : Thread nD τ).loc main_arg3)) := by
  refine ⟨(dats m 0 c).arrAt_eq_of_covers 4 _ (by decide +kernel) fun t hf y => ?_, (dats m 0 c).arrAt_eq_of_covers 5 _ (by decide +kernel) fun t hf y => ?_,
    (dats m 0 c).arrAt_eq_of_covers 6 _ (by decide +kernel) fun t hf y => ?_, (dats m 0 c).arrAt_eq_of_covers 7 _ (by decide +kernel) fun t hf y => ?_⟩
  all_goals
    obtain ⟨e0, e1, e2, e3, e4, e5, e6, e7⟩ := index_maps t
    blk_simp
    first | rw [after0_4] | rw [after0_5] | rw [after0_6] | rw [after0_7]
    first | unfold out0_4 | unfold out0_5 | unfold out0_6 | unfold out0_7
    frame_out
    pointwise [k0_pay1, k0_pay2, k0_pay3, k0_pay4, AdSmallRefIdeal.Read.val_main_cst, AdSmallRefIdeal.Read.val_main_v0, AdSmallRefIdeal.Read.val_main_v1, AdSmallRefIdeal.Read.val_main_cst_0, AdSmallRefIdeal.Read.val_main_v2, AdSmallRefIdeal.Read.val_main_v3, AdSmallRefIdeal.Read.val_main_v4, AdSmallRefIdeal.Read.val_main_cst_1, AdSmallRefIdeal.Read.val_main_v5, AdSmallRefIdeal.Read.val_main_v6, AdSmallRefIdeal.Read.val_main_v7, AdSmallRefIdeal.Read.val_main_cst_2, AdSmallRefIdeal.Read.val_main_v8, AdSmallRefIdeal.Read.val_main_v9, AdSmallRefIdeal.Read.val_main_v10, AdSmallRefIdeal.Read.val_main_cst_3, AdSmallRefIdeal.Read.val_main_v11, AdSmallRefIdeal.Read.val_main_v12, AdSmallRefIdeal.Read.val_main_cst_4, AdSmallRefIdeal.Read.val_main_v13, AdSmallRefIdeal.Read.val_main_v14, AdSmallRefIdeal.Read.val_main_v15, AdSmallRefIdeal.Read.val_main_cst_5, AdSmallRefIdeal.Read.val_main_v16, AdSmallRefIdeal.Read.val_main_v17, AdSmallRefIdeal.Read.val_main_v18, AdSmallRefIdeal.Read.val_main_cst_6, AdSmallRefIdeal.Read.val_main_v19, AdSmallRefIdeal.Read.val_main_v20, AdSmallRefIdeal.Read.val_main_v21, AdSmallRefIdeal.Read.val_main_cst_7, AdSmallRefIdeal.Read.val_main_v22, AdSmallRefIdeal.Read.val_main_v23]
    blk_point [iblk, V, e0, e1, e2, e3, e4, e5, e6, e7]

theorem algebraic : Cert.algebraic_AdSmallIdeal_AdSmallRefIdeal (hAdSmallIdeal := Cert.AdSmallIdeal.Gen.facts) (hAdSmallRefIdeal := Cert.AdSmallRefIdeal.Gen.facts) :=
  fun m ρ m' ρ' _ hag => ⟨fun c => (m ((c : Thread nD τ).loc main_arg0)), fun c => AdSmallRefIdeal.Read.val_main_v23 (F := Ideal) (m ((c : Thread nD τ).loc main_arg0)) (m ((c : Thread nD τ).loc main_arg1)) (m ((c : Thread nD τ).loc main_arg2)) (m ((c : Thread nD τ).loc main_arg3)),
    fun c => AdSmallRefIdeal.Read.val_main_v4 (F := Ideal) (m ((c : Thread nD τ).loc main_arg0)) (m ((c : Thread nD τ).loc main_arg2)), fun c => AdSmallRefIdeal.Read.val_main_v10 (F := Ideal) (m ((c : Thread nD τ).loc main_arg0)) (m ((c : Thread nD τ).loc main_arg3)),
    (θ_run _ _ _).mono (fun _ h c => ⟨(h c).1.trans (final m c).1, (h c).2.1.trans (final m c).2.1, (h c).2.2.1.trans (final m c).2.2.1,
      (h c).2.2.2.1.trans (final m c).2.2.2, (h c).2.2.2.2⟩) (Cert.AdSmallIdeal.Value.run_blocks m ρ),
    (θ_run _ _ _).mono (fun _ h c => ⟨(h c).1.trans (hag c).1,
      (h c).2.1.trans (by rw [AdSmallRefIdeal.Read.val_main_v23_eq, (hag c).1, (hag c).2.1, (hag c).2.2.1, (hag c).2.2.2]),
      (h c).2.2.1.trans (by rw [AdSmallRefIdeal.Read.val_main_v4_eq, (hag c).1, (hag c).2.2.1]),
      (h c).2.2.2.1.trans (by rw [AdSmallRefIdeal.Read.val_main_v10_eq, (hag c).1, (hag c).2.2.2]), (h c).2.2.2.2⟩)
      (Cert.AdSmallRefIdeal.Value.run m' ρ')⟩

theorem ref_frame : Cert.quiescent_AdSmallRefIdeal (hAdSmallRefIdeal := Cert.AdSmallRefIdeal.Gen.facts) :=
  fun m ρ _ => (θ_run _ _ _).mono (fun r h => ⟨fun c => (h c).2.2.2.2, sem_eq_zero_of_no_sems (by decide) r.2⟩) (Cert.AdSmallRefIdeal.Value.run m ρ)

end Cert.AdSmallIdeal.Entry

namespace Cert.AdNwIdeal.Entry

open Cert.AdNwIdeal Cert.AdNwIdeal.Gen Cert.AdNwIdeal.Value Idealize.ShloMosaic Idealize.ShloMosaic.TcCoe Idealize.SL.Sem

variable (m : (ℓ : Loc nD τ sig) → Buf (Elt Ideal) ℓ) (c : Dev nD)

theorem index_maps : ∀ t : Fin cfg0.N, win0_0.index t = ![0, 0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] :=
  (by decide +kernel : ∀ t : Fin grid0.N, _)

theorem final : (dats m 0 c).arrAt 4 cfg0.N = (m ((c : Thread nD τ).loc main_arg0))
    ∧ (dats m 0 c).arrAt 5 cfg0.N = AdNwRefIdeal.Read.val_main_v23 (F := Ideal) (m ((c : Thread nD τ).loc main_arg0)) (m ((c : Thread nD τ).loc main_arg1)) (m ((c : Thread nD τ).loc main_arg2)) (m ((c : Thread nD τ).loc main_arg3))
    ∧ (dats m 0 c).arrAt 6 cfg0.N = AdNwRefIdeal.Read.val_main_v4 (F := Ideal) (m ((c : Thread nD τ).loc main_arg0)) (m ((c : Thread nD τ).loc main_arg2))
    ∧ (dats m 0 c).arrAt 7 cfg0.N = AdNwRefIdeal.Read.val_main_v10 (F := Ideal) (m ((c : Thread nD τ).loc main_arg0)) (m ((c : Thread nD τ).loc main_arg3)) := by
  refine ⟨(dats m 0 c).arrAt_eq_of_covers 4 _ (by decide +kernel) fun t hf y => ?_, (dats m 0 c).arrAt_eq_of_covers 5 _ (by decide +kernel) fun t hf y => ?_,
    (dats m 0 c).arrAt_eq_of_covers 6 _ (by decide +kernel) fun t hf y => ?_, (dats m 0 c).arrAt_eq_of_covers 7 _ (by decide +kernel) fun t hf y => ?_⟩
  all_goals
    obtain ⟨e0, e1, e2, e3, e4, e5, e6, e7⟩ := index_maps t
    blk_simp
    first | rw [after0_4] | rw [after0_5] | rw [after0_6] | rw [after0_7]
    first | unfold out0_4 | unfold out0_5 | unfold out0_6 | unfold out0_7
    frame_out
    pointwise [k0_pay1, k0_pay2, k0_pay3, k0_pay4, AdNwRefIdeal.Read.val_main_cst, AdNwRefIdeal.Read.val_main_v0, AdNwRefIdeal.Read.val_main_v1, AdNwRefIdeal.Read.val_main_cst_0, AdNwRefIdeal.Read.val_main_v2, AdNwRefIdeal.Read.val_main_v3, AdNwRefIdeal.Read.val_main_v4, AdNwRefIdeal.Read.val_main_cst_1, AdNwRefIdeal.Read.val_main_v5, AdNwRefIdeal.Read.val_main_v6, AdNwRefIdeal.Read.val_main_v7, AdNwRefIdeal.Read.val_main_cst_2, AdNwRefIdeal.Read.val_main_v8, AdNwRefIdeal.Read.val_main_v9, AdNwRefIdeal.Read.val_main_v10, AdNwRefIdeal.Read.val_main_cst_3, AdNwRefIdeal.Read.val_main_v11, AdNwRefIdeal.Read.val_main_v12, AdNwRefIdeal.Read.val_main_cst_4, AdNwRefIdeal.Read.val_main_v13, AdNwRefIdeal.Read.val_main_v14, AdNwRefIdeal.Read.val_main_v15, AdNwRefIdeal.Read.val_main_cst_5, AdNwRefIdeal.Read.val_main_v16, AdNwRefIdeal.Read.val_main_v17, AdNwRefIdeal.Read.val_main_v18, AdNwRefIdeal.Read.val_main_cst_6, AdNwRefIdeal.Read.val_main_v19, AdNwRefIdeal.Read.val_main_v20, AdNwRefIdeal.Read.val_main_v21, AdNwRefIdeal.Read.val_main_cst_7, AdNwRefIdeal.Read.val_main_v22, AdNwRefIdeal.Read.val_main_v23]
    blk_point [iblk, V, e0, e1, e2, e3, e4, e5, e6, e7]

theorem algebraic : Cert.algebraic_AdNwIdeal_AdNwRefIdeal (hAdNwIdeal := Cert.AdNwIdeal.Gen.facts) (hAdNwRefIdeal := Cert.AdNwRefIdeal.Gen.facts) :=
  fun m ρ m' ρ' _ hag => ⟨fun c => (m ((c : Thread nD τ).loc main_arg0)), fun c => AdNwRefIdeal.Read.val_main_v23 (F := Ideal) (m ((c : Thread nD τ).loc main_arg0)) (m ((c : Thread nD τ).loc main_arg1)) (m ((c : Thread nD τ).loc main_arg2)) (m ((c : Thread nD τ).loc main_arg3)),
    fun c => AdNwRefIdeal.Read.val_main_v4 (F := Ideal) (m ((c : Thread nD τ).loc main_arg0)) (m ((c : Thread nD τ).loc main_arg2)), fun c => AdNwRefIdeal.Read.val_main_v10 (F := Ideal) (m ((c : Thread nD τ).loc main_arg0)) (m ((c : Thread nD τ).loc main_arg3)),
    (θ_run _ _ _).mono (fun _ h c => ⟨(h c).1.trans (final m c).1, (h c).2.1.trans (final m c).2.1, (h c).2.2.1.trans (final m c).2.2.1,
      (h c).2.2.2.1.trans (final m c).2.2.2, (h c).2.2.2.2⟩) (Cert.AdNwIdeal.Value.run_blocks m ρ),
    (θ_run _ _ _).mono (fun _ h c => ⟨(h c).1.trans (hag c).1,
      (h c).2.1.trans (by rw [AdNwRefIdeal.Read.val_main_v23_eq, (hag c).1, (hag c).2.1, (hag c).2.2.1, (hag c).2.2.2]),
      (h c).2.2.1.trans (by rw [AdNwRefIdeal.Read.val_main_v4_eq, (hag c).1, (hag c).2.2.1]),
      (h c).2.2.2.1.trans (by rw [AdNwRefIdeal.Read.val_main_v10_eq, (hag c).1, (hag c).2.2.2]), (h c).2.2.2.2⟩)
      (Cert.AdNwRefIdeal.Value.run m' ρ')⟩

theorem ref_frame : Cert.quiescent_AdNwRefIdeal (hAdNwRefIdeal := Cert.AdNwRefIdeal.Gen.facts) :=
  fun m ρ _ => (θ_run _ _ _).mono (fun r h => ⟨fun c => (h c).2.2.2.2, sem_eq_zero_of_no_sems (by decide) r.2⟩) (Cert.AdNwRefIdeal.Value.run m ρ)

end Cert.AdNwIdeal.Entry

namespace Cert.PleIdeal.Entry

open Cert.PleIdeal Cert.PleIdeal.Gen Cert.PleIdeal.Value Idealize.ShloMosaic Idealize.ShloMosaic.TcCoe Idealize.SL.Sem

variable (m : (ℓ : Loc nD τ sig) → Buf (Elt Ideal) ℓ) (c : Dev nD)

theorem index_maps : ∀ t : Fin cfg0.N, win0_0.index t = ![t.val, 0] ∧ win0_1.index t = ![t.val, 0] ∧ win0_2.index t = ![t.val, 0] ∧ win0_3.index t = ![t.val, 0] ∧ win0_4.index t = ![t.val, 0] :=
  (by decide +kernel : ∀ t : Fin grid0.N, _)

theorem final3 : (dats m 0 c).arrAt 3 cfg0.N = PleRefIdeal.Read.val_main_v13 (F := Ideal) (m ((c : Thread nD τ).loc main_arg0)) (m ((c : Thread nD τ).loc main_arg1)) := by
  refine (dats m 0 c).arrAt_eq_of_covers 3 _ (by decide +kernel) fun t hf y => ?_
  obtain ⟨e0, e1, e2, e3, e4⟩ := index_maps t
  blk_simp
  rw [after0_3]
  unfold out0_3
  frame_out
  pointwise [k0_pay1, k0_pay2, k0_pay3, PleRefIdeal.Read.val_main_v0, PleRefIdeal.Read.val_main_v1, PleRefIdeal.Read.val_main_cst, PleRefIdeal.Read.val_main_v2, PleRefIdeal.Read.val_main_v3, PleRefIdeal.Read.val_main_cst_0, PleRefIdeal.Read.val_main_v4, PleRefIdeal.Read.val_main_v5, PleRefIdeal.Read.val_main_cst_1, PleRefIdeal.Read.val_main_v6, PleRefIdeal.Read.val_main_v7, PleRefIdeal.Read.val_main_v8, PleRefIdeal.Read.val_main_v9, PleRefIdeal.Read.val_main_v10, PleRefIdeal.Read.val_main_v11, PleRefIdeal.Read.val_main_v12, PleRefIdeal.Read.val_main_v13, PleRefIdeal.Read.val_main_v14, Ideal.logistic]
  blk_point [iblk, V, e0, e1, e2, e3, e4]

theorem final4 : (dats m 0 c).arrAt 4 cfg0.N = PleRefIdeal.Read.val_main_v14 (F := Ideal) (m ((c : Thread nD τ).loc main_arg0)) (m ((c : Thread nD τ).loc main_arg1)) (m ((c : Thread nD τ).loc main_arg2)) := by
  refine (dats m 0 c).arrAt_eq_of_covers 4 _ (by decide +kernel) fun t hf y => ?_
  obtain ⟨e0, e1, e2, e3, e4⟩ := index_maps t
  blk_simp
  rw [after0_4]
  unfold out0_4
  frame_out
  pointwise [k0_pay1, k0_pay2, k0_pay3, PleRefIdeal.Read.val_main_v0, PleRefIdeal.Read.val_main_v1, PleRefIdeal.Read.val_main_cst, PleRefIdeal.Read.val_main_v2, PleRefIdeal.Read.val_main_v3, PleRefIdeal.Read.val_main_cst_0, PleRefIdeal.Read.val_main_v4, PleRefIdeal.Read.val_main_v5, PleRefIdeal.Read.val_main_cst_1, PleRefIdeal.Read.val_main_v6, PleRefIdeal.Read.val_main_v7, PleRefIdeal.Read.val_main_v8, PleRefIdeal.Read.val_main_v9, PleRefIdeal.Read.val_main_v10, PleRefIdeal.Read.val_main_v11, PleRefIdeal.Read.val_main_v12, PleRefIdeal.Read.val_main_v13, PleRefIdeal.Read.val_main_v14, Ideal.logistic]
  refine (mul_assoc (_ : EReal) _ _).trans (congrArg₂ (fun a b : EReal => a * b) ((mul_comm (_ : EReal) _).trans ?_) ?_)
  · blk_point [iblk, V, e0, e2, e4]
  · blk_point [iblk, V, e1, e4]

theorem algebraic : Cert.algebraic_PleIdeal_PleRefIdeal (hPleIdeal := Cert.PleIdeal.Gen.facts) (hPleRefIdeal := Cert.PleRefIdeal.Gen.facts) :=
  fun m ρ m' ρ' _ hag => ⟨fun c => PleRefIdeal.Read.val_main_v13 (F := Ideal) (m ((c : Thread nD τ).loc main_arg0)) (m ((c : Thread nD τ).loc main_arg1)), fun c => PleRefIdeal.Read.val_main_v14 (F := Ideal) (m ((c : Thread nD τ).loc main_arg0)) (m ((c : Thread nD τ).loc main_arg1)) (m ((c : Thread nD τ).loc main_arg2)),
    (θ_run _ _ _).mono (fun _ h c => ⟨(h c).1.trans (final3 m c), (h c).2.1.trans (final4 m c), (h c).2.2⟩) (Cert.PleIdeal.Value.run_blocks m ρ),
    (θ_run _ _ _).mono (fun _ h c => ⟨(h c).1.trans (by rw [PleRefIdeal.Read.val_main_v13_eq, (hag c).1, (hag c).2.1]),
      (h c).2.1.trans (by rw [PleRefIdeal.Read.val_main_v14_eq, (hag c).1, (hag c).2.1, (hag c).2.2]), (h c).2.2⟩) (Cert.PleRefIdeal.Value.run m' ρ')⟩

theorem ref_frame : Cert.quiescent_PleRefIdeal (hPleRefIdeal := Cert.PleRefIdeal.Gen.facts) :=
  fun m ρ _ => (θ_run _ _ _).mono (fun r h => ⟨fun c => (h c).2.2, sem_eq_zero_of_no_sems (by decide) r.2⟩) (Cert.PleRefIdeal.Value.run m ρ)

end Cert.PleIdeal.Entry

end
-- ==== Proof.Final.lean ====
/-
  The final norm, the loss and their gradients: the three results of one grid over the blocks of rows.
-/
module

public import proofs.«01_k».proof.Proof.Gen.FinIdeal.Value
public import proofs.«01_k».proof.Proof.Gen.FinRefIdeal.Read
public import proofs.«01_k».proof.Proof.NormGrad
public import proofs.«01_k».proof.Proof.Blocks
public import proofs.«01_k».proof.Defs
public import Idealize.ShloMosaic.Lib.Pipeline.ValueKit
public import Idealize.ShloMosaic.Lib.Tactic

@[expose] public section

set_option maxRecDepth 16384

noncomputable section

namespace Cert.FinIdeal.Entry

open Cert.FinIdeal Cert.FinIdeal.Gen Cert.FinIdeal.Value Idealize.ShloMosaic Idealize.ShloMosaic.TcCoe Idealize.SL.Sem Cert.Blocks

/-! ## A row's terms -/

/-- The reciprocal root of a row's mean square. -/
abbrev root (x : Fin 2048 → EReal) : EReal := Ideal.rsqrt (NormGrad.meanSq x)

/-- The normalised and scaled entry less its target. -/
abbrev err (x w y : Fin 2048 → EReal) (q : Fin 2048) : EReal := x q * root x * w q - y q

/-- The mean square of a row's error. -/
abbrev meanErr (x w y : Fin 2048 → EReal) : EReal :=
  Ideal.div (∑ k, err x w y k * err x w y k) (Ideal.ofBits .f32 0x45000000#32)

/-- The gradient at the scaled entry. -/
abbrev der (x w y : Fin 2048 → EReal) (q : Fin 2048) : EReal := Ideal.div (err x w y q) (Ideal.ofBits .f32 0x45000000#32)

/-- The gradient at the row, as the call writes it. -/
abbrev grad (x w y : Fin 2048 → EReal) (q : Fin 2048) : EReal :=
  root x * (der x w y q * w q) - x q * (root x * root x * root x
    * Ideal.div (∑ k, der x w y k * w k * x k) (Ideal.ofBits .f32 0x45000000#32))

/-- The derivative of half a square's mean, as the reference writes it. -/
theorem der_eq (e : EReal) :
    Ideal.div (Ideal.ofBits .f32 0x3F000000#32 * 1) (Ideal.ofBits .f32 0x45000000#32) * (Ideal.ofBits .f32 0x40000000#32 * e)
      = Ideal.div e (Ideal.ofBits .f32 0x45000000#32) := by
  have h2 : Ideal.ofBits .f32 0x40000000#32 = ((2 : ℝ) : EReal) := by
    simp [Ideal.ofBits, Ideal.ieee, -EReal.coe_mul]; norm_num
  have hh : Ideal.ofBits .f32 0x3F000000#32 = ((1 / 2 : ℝ) : EReal) := by
    simp [Ideal.ofBits, Ideal.ieee, -EReal.coe_mul]; norm_num
  rw [NormGrad.ofBits_count, h2, hh, Ideal.div_coe (by norm_num), Ideal.div_coe (by norm_num), mul_one, ← mul_assoc, ← EReal.coe_mul,
    ← EReal.coe_mul, mul_comm e]
  norm_num

/-! ## The call's payloads -/

section Payloads

variable (x y : FVec Ideal S256x2048 .f32) (w : FVec Ideal S1x2048 .f32) (r : Fin 256) (q : Fin 2048)

theorem pay7_apply : k0_pay7 (F := Ideal) x w y (ix2 r q) = err (fun k => x (ix2 r k)) (fun k => w (ix2 0 k)) (fun k => y (ix2 r k)) q := by
  pointwise [k0_pay7, k0_pay6, err, root, NormGrad.meanSq]

theorem pay9_apply : k0_pay9 (F := Ideal) x w y (ix2 r q) = der (fun k => x (ix2 r k)) (fun k => w (ix2 0 k)) (fun k => y (ix2 r k)) q := by
  pointwise [k0_pay9]
  rw [pay7_apply]

theorem pay1_apply : k0_pay1 (F := Ideal) (k0_pay10 x) (ix2 r 0) = root (fun k => x (ix2 r k)) := by
  pointwise [k0_pay1, k0_pay10, root, NormGrad.meanSq]

theorem loss_apply (a : FVec Ideal S1x128 .f32) (l : Fin 128) :
    k0_pay8 (F := Ideal) x w y a (ix2 0 l) = a (ix2 0 l) + Ideal.ofBits .f32 0x3F000000#32
      * ∑ r : Fin 256, meanErr (fun k => x (ix2 r k)) (fun k => w (ix2 0 k)) (fun k => y (ix2 r k)) := by
  pointwise [k0_pay8]
  simp only [pay7_apply]

theorem grad_apply : k0_pay2 (F := Ideal) x (k0_pay6 w) (k0_pay9 x w y) (k0_pay10 x) (ix2 r q)
    = grad (fun k => x (ix2 r k)) (fun k => w (ix2 0 k)) (fun k => y (ix2 r k)) q := by
  pointwise [k0_pay2, k0_pay6]
  simp only [pay9_apply, pay1_apply]

theorem scale_apply (a : FVec Ideal S1x2048 .f32) : k0_pay3 (F := Ideal) x (k0_pay9 x w y) (k0_pay10 x) a (ix2 0 q)
    = a (ix2 0 q) + ∑ r : Fin 256, der (fun k => x (ix2 r k)) (fun k => w (ix2 0 k)) (fun k => y (ix2 r k)) q * x (ix2 r q)
        * root (fun k => x (ix2 r k)) := by
  pointwise [k0_pay3]
  simp only [pay9_apply, pay1_apply]

end Payloads

/-! ## The reference -/

section Reference

variable (x0 x2 : (⟨S2048x2048, .f32⟩ : BufTy).Contents (Elt Ideal)) (x1 : (⟨S2048, .f32⟩ : BufTy).Contents (Elt Ideal)) (r q : Fin 2048)

theorem ref_err : FinRefIdeal.Read.val_main_v16 (F := Ideal) x0 x1 x2 (ix2 r q)
    = err (fun k => x0 (ix2 r k)) (fun k => x1 (ix1 k)) (fun k => x2 (ix2 r k)) q := by
  pointwise [FinRefIdeal.Read.val_main_v0, FinRefIdeal.Read.val_main_cst, FinRefIdeal.Read.val_main_v1, FinRefIdeal.Read.val_main_v2, FinRefIdeal.Read.val_main_cst_0, FinRefIdeal.Read.val_main_v3, FinRefIdeal.Read.val_main_v4, FinRefIdeal.Read.val_main_cst_1, FinRefIdeal.Read.val_main_v5, FinRefIdeal.Read.val_main_v6, FinRefIdeal.Read.val_main_v7, FinRefIdeal.Read.val_main_v8, FinRefIdeal.Read.val_main_cst_2, FinRefIdeal.Read.val_main_v9, FinRefIdeal.Read.val_main_v10, FinRefIdeal.Read.val_main_v11, FinRefIdeal.Read.val_main_v12, FinRefIdeal.Read.val_main_v13, FinRefIdeal.Read.val_main_v14, FinRefIdeal.Read.val_main_v15, FinRefIdeal.Read.val_main_v16, FinRefIdeal.Read.val_main_v17, FinRefIdeal.Read.val_main_cst_3, FinRefIdeal.Read.val_main_v18, FinRefIdeal.Read.val_main_v19, FinRefIdeal.Read.val_main_cst_4, FinRefIdeal.Read.val_main_v20, FinRefIdeal.Read.val_main_cst_5, FinRefIdeal.Read.val_main_v21, FinRefIdeal.Read.val_main_v22, FinRefIdeal.Read.val_main_cst_6, FinRefIdeal.Read.val_main_v23, FinRefIdeal.Read.val_main_cst_7, FinRefIdeal.Read.val_main_v24, FinRefIdeal.Read.val_main_cst_8, FinRefIdeal.Read.val_main_cst_9, FinRefIdeal.Read.val_main_v25, FinRefIdeal.Read.val_main_v26, FinRefIdeal.Read.val_main_cst_10, FinRefIdeal.Read.val_main_v27, FinRefIdeal.Read.val_main_v28, FinRefIdeal.Read.val_main_v29, FinRefIdeal.Read.val_main_v30, FinRefIdeal.Read.val_main_v31, FinRefIdeal.Read.val_main_cst_11, FinRefIdeal.Read.val_main_v32, FinRefIdeal.Read.val_main_v33, FinRefIdeal.Read.val_main_v34, FinRefIdeal.Read.val_main_v35, FinRefIdeal.Read.val_main_cst_12, FinRefIdeal.Read.val_main_v36, FinRefIdeal.Read.val_main_v37, FinRefIdeal.Read.val_main_cst_13, FinRefIdeal.Read.val_main_v38, FinRefIdeal.Read.val_main_v39, FinRefIdeal.Read.val_main_v40, FinRefIdeal.Read.val_main_v41, FinRefIdeal.Read.val_main_v42, FinRefIdeal.Read.val_main_cst_14, FinRefIdeal.Read.val_main_v43, FinRefIdeal.Read.val_main_v44, FinRefIdeal.Read.val_main_cst_15, FinRefIdeal.Read.val_main_v45, FinRefIdeal.Read.val_main_v46, FinRefIdeal.Read.val_main_v47, FinRefIdeal.Read.val_main_v48, FinRefIdeal.Read.val_main_v49, FinRefIdeal.Read.val_main_v50, FinRefIdeal.Read.val_main_v51, FinRefIdeal.Read.val_main_v52]

theorem ref_loss (l : Fin 128) : FinRefIdeal.Read.val_main_v51 (F := Ideal) x0 x1 x2 (ix2 0 l)
    = Ideal.ofBits .f32 0x3F000000#32 * ∑ r : Fin 2048, meanErr (fun k => x0 (ix2 r k)) (fun k => x1 (ix1 k)) (fun k => x2 (ix2 r k)) := by
  pointwise [FinRefIdeal.Read.val_main_v51, FinRefIdeal.Read.val_main_v24, FinRefIdeal.Read.val_main_v23, FinRefIdeal.Read.val_main_v22, FinRefIdeal.Read.val_main_v21, FinRefIdeal.Read.val_main_v20, FinRefIdeal.Read.val_main_v17, FinRefIdeal.Read.val_main_cst_4, FinRefIdeal.Read.val_main_cst_5, FinRefIdeal.Read.val_main_cst_6, FinRefIdeal.Read.val_main_cst_7]
  simp only [ref_err]

theorem ref_der : FinRefIdeal.Read.val_main_v30 (F := Ideal) x0 x1 x2 (ix2 r q)
    = der (fun k => x0 (ix2 r k)) (fun k => x1 (ix1 k)) (fun k => x2 (ix2 r k)) q := by
  unfold der
  rw [← der_eq, ← ref_err]
  pointwise [FinRefIdeal.Read.val_main_v30, FinRefIdeal.Read.val_main_v29, FinRefIdeal.Read.val_main_v28, FinRefIdeal.Read.val_main_v27, FinRefIdeal.Read.val_main_v26, FinRefIdeal.Read.val_main_v25, FinRefIdeal.Read.val_main_v19, FinRefIdeal.Read.val_main_v18, FinRefIdeal.Read.val_main_cst_3, FinRefIdeal.Read.val_main_cst_8, FinRefIdeal.Read.val_main_cst_9, FinRefIdeal.Read.val_main_cst_10]

theorem ref_root : FinRefIdeal.Read.val_main_v7 (F := Ideal) x0 (ix2 r 0) = root (fun k => x0 (ix2 r k)) := by
  pointwise [FinRefIdeal.Read.val_main_v7, FinRefIdeal.Read.val_main_v6, FinRefIdeal.Read.val_main_v5, FinRefIdeal.Read.val_main_v4, FinRefIdeal.Read.val_main_v3, FinRefIdeal.Read.val_main_v2, FinRefIdeal.Read.val_main_v1, FinRefIdeal.Read.val_main_v0, FinRefIdeal.Read.val_main_cst, FinRefIdeal.Read.val_main_cst_0, FinRefIdeal.Read.val_main_cst_1, NormGrad.meanSq]

theorem ref_var : FinRefIdeal.Read.val_main_v6 (F := Ideal) x0 (ix2 r 0) = NormGrad.meanSq (fun k => x0 (ix2 r k)) := by
  pointwise [FinRefIdeal.Read.val_main_v6, FinRefIdeal.Read.val_main_v5, FinRefIdeal.Read.val_main_v4, FinRefIdeal.Read.val_main_v3, FinRefIdeal.Read.val_main_v2, FinRefIdeal.Read.val_main_v1, FinRefIdeal.Read.val_main_v0, FinRefIdeal.Read.val_main_cst, FinRefIdeal.Read.val_main_cst_0, FinRefIdeal.Read.val_main_cst_1, NormGrad.meanSq]

theorem ref_grad : FinRefIdeal.Read.val_main_v50 (F := Ideal) x0 x1 x2 (ix2 r q)
    = grad (fun k => x0 (ix2 r k)) (fun k => x1 (ix1 k)) (fun k => x2 (ix2 r k)) q := by
  pointwise [FinRefIdeal.Read.val_main_v50, FinRefIdeal.Read.val_main_v49, FinRefIdeal.Read.val_main_v48, FinRefIdeal.Read.val_main_v47, FinRefIdeal.Read.val_main_v46, FinRefIdeal.Read.val_main_v45, FinRefIdeal.Read.val_main_v44, FinRefIdeal.Read.val_main_v43, FinRefIdeal.Read.val_main_v42, FinRefIdeal.Read.val_main_v41, FinRefIdeal.Read.val_main_v40, FinRefIdeal.Read.val_main_v39, FinRefIdeal.Read.val_main_v38, FinRefIdeal.Read.val_main_v37, FinRefIdeal.Read.val_main_v35, FinRefIdeal.Read.val_main_v34, FinRefIdeal.Read.val_main_v13, FinRefIdeal.Read.val_main_v10, FinRefIdeal.Read.val_main_v9, FinRefIdeal.Read.val_main_v8, FinRefIdeal.Read.val_main_cst_2, FinRefIdeal.Read.val_main_cst_13, FinRefIdeal.Read.val_main_cst_14, FinRefIdeal.Read.val_main_cst_15]
  simp only [Fin.sum_univ_one, ref_der, ref_root, ref_var]
  have e : (∑ k, x0 (ix2 r k) * (der (fun k => x0 (ix2 r k)) (fun k => x1 (ix1 k)) (fun k => x2 (ix2 r k)) k * x1 (ix1 k)) : EReal)
      = ∑ k, der (fun k => x0 (ix2 r k)) (fun k => x1 (ix1 k)) (fun k => x2 (ix2 r k)) k * x1 (ix1 k) * x0 (ix2 r k) :=
    Finset.sum_congr rfl fun k _ => mul_comm _ _
  have h := NormGrad.eq (fun k => x0 (ix2 r k)) (∑ k, der (fun k => x0 (ix2 r k)) (fun k => x1 (ix1 k)) (fun k => x2 (ix2 r k)) k * x1 (ix1 k) * x0 (ix2 r k))
    0 (der (fun k => x0 (ix2 r k)) (fun k => x1 (ix1 k)) (fun k => x2 (ix2 r k)) q * x1 (ix1 q)) q
  rw [zero_add, zero_add] at h
  rw [e]
  exact h.symm

theorem ref_scale : FinRefIdeal.Read.val_main_v52 (F := Ideal) x0 x1 x2 (ix2 0 q)
    = ∑ r : Fin 2048, der (fun k => x0 (ix2 r k)) (fun k => x1 (ix1 k)) (fun k => x2 (ix2 r k)) q * x0 (ix2 r q)
        * root (fun k => x0 (ix2 r k)) := by
  pointwise [FinRefIdeal.Read.val_main_v52, FinRefIdeal.Read.val_main_v36, FinRefIdeal.Read.val_main_v33, FinRefIdeal.Read.val_main_v32, FinRefIdeal.Read.val_main_v31, FinRefIdeal.Read.val_main_v12, FinRefIdeal.Read.val_main_v11, FinRefIdeal.Read.val_main_cst_11, FinRefIdeal.Read.val_main_cst_12]
  simp only [Fin.sum_univ_one, ref_der, ref_root]
  refine Finset.sum_congr rfl fun r _ => ?_
  rw [mul_comm (_ * _ : EReal), ← mul_assoc]

end Reference

variable (m : (ℓ : Loc nD τ sig) → Buf (Elt Ideal) ℓ) (c : Dev nD)

/-! ## The cases of a grid point -/

theorem first (t : Fin cfg0.N) (h0 : t.val % 8 = 0) :
    outsAt0 m c t.val t.isLt = (k0_pay8 (iblk m c 0 t) (iblk m c 1 t) (iblk m c 2 t) (k0_pay4 (F := Ideal)),
      k0_pay2 (iblk m c 0 t) (k0_pay6 (iblk m c 1 t)) (k0_pay9 (iblk m c 0 t) (iblk m c 1 t) (iblk m c 2 t)) (k0_pay10 (iblk m c 0 t)),
      k0_pay3 (iblk m c 0 t) (k0_pay9 (iblk m c 0 t) (iblk m c 1 t) (iblk m c 2 t)) (k0_pay10 (iblk m c 0 t)) (k0_pay5 (F := Ideal))) := by
  rw [outsAt0_A m c t h0]
  refine Prod.ext ?_ (Prod.ext ?_ ?_)
  · dsimp only; unfold out0_A_3; frame_out
  · dsimp only; unfold out0_A_4; frame_out
  · dsimp only; unfold out0_A_5; frame_out

theorem later (n : ℕ) (h : n + 1 < cfg0.N) (h0 : ¬(n + 1) % 8 = 0) :
    outsAt0 m c (n + 1) h = (k0_pay8 (iblk m c 0 ⟨n + 1, h⟩) (iblk m c 1 ⟨n + 1, h⟩) (iblk m c 2 ⟨n + 1, h⟩) (outsAt0 m c n (Nat.lt_of_succ_lt h)).1,
      k0_pay2 (iblk m c 0 ⟨n + 1, h⟩) (k0_pay6 (iblk m c 1 ⟨n + 1, h⟩)) (k0_pay9 (iblk m c 0 ⟨n + 1, h⟩) (iblk m c 1 ⟨n + 1, h⟩) (iblk m c 2 ⟨n + 1, h⟩)) (k0_pay10 (iblk m c 0 ⟨n + 1, h⟩)),
      k0_pay3 (iblk m c 0 ⟨n + 1, h⟩) (k0_pay9 (iblk m c 0 ⟨n + 1, h⟩) (iblk m c 1 ⟨n + 1, h⟩) (iblk m c 2 ⟨n + 1, h⟩)) (k0_pay10 (iblk m c 0 ⟨n + 1, h⟩)) (outsAt0 m c n (Nat.lt_of_succ_lt h)).2.2) := by
  rw [outsAt0_B m c ⟨n + 1, h⟩ h0]
  refine Prod.ext ?_ (Prod.ext ?_ ?_)
  · dsimp only; unfold out0_B_3; frame_out; rfl
  · dsimp only; unfold out0_B_4; frame_out
  · dsimp only; unfold out0_B_5; frame_out; rfl

/-! ## The blocks' rows -/

abbrev hid : S2048x2048.Idx → EReal := m ((c : Thread nD τ).loc main_arg0)
abbrev scale : Fin 2048 → EReal := fun k => (m ((c : Thread nD τ).loc main_arg1) : S2048.Idx → EReal) (ix1 k)
abbrev goal : S2048x2048.Idx → EReal := m ((c : Thread nD τ).loc main_arg2)

/-- Row `n` of a matrix. -/
abbrev row (X : S2048x2048.Idx → EReal) (n : ℕ) (k : Fin 2048) : EReal := at2 X n k.val

theorem index_maps : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![0, 0] :=
  (by decide +kernel : ∀ t : Fin grid0.N, _)

theorem block0 (t : Fin cfg0.N) (r : Fin 256) (k : Fin 2048) : iblk m c 0 t (ix2 r k) = row (hid m c) (256 * t.val + r.val) k := by
  obtain ⟨e0, e1, e2, e3, e4, e5⟩ := index_maps t
  blk_simp [iblk]
  refine at2_of (hid m c) _ _ _ ?_ ?_ <;> blk_simp [e0] <;> omega

/-- The scale as the call's one row. -/
theorem V_row : (V m c main_v0 : S1x2048.Idx → EReal)
    = shapeCast S1x2048 (m ((c : Thread nD τ).loc main_arg1) : S2048.Idx → EReal) shapeCasts_S2048_S1x2048 := by
  rfl

theorem block1 (t : Fin cfg0.N) (k : Fin 2048) : iblk m c 1 t (ix2 0 k) = scale m c k := by
  obtain ⟨e0, e1, e2, e3, e4, e5⟩ := index_maps t
  unfold iblk
  rw [View.read_apply]
  show (V m c main_v0 : S1x2048.Idx → EReal) _ = _
  rw [V_row]
  have e : ((cfg0.win 1).blk t).view.emb (ix2 0 k) = (ix2 0 k : S1x2048.Idx) := by
    funext a; apply Fin.ext
    match a with
    | ⟨0, _⟩ => blk_simp [e1]
    | ⟨1, _⟩ => blk_simp [e1]
  rw [e]
  pointwise

theorem block2 (t : Fin cfg0.N) (r : Fin 256) (k : Fin 2048) : iblk m c 2 t (ix2 r k) = row (goal m c) (256 * t.val + r.val) k := by
  obtain ⟨e0, e1, e2, e3, e4, e5⟩ := index_maps t
  blk_simp [iblk]
  refine at2_of (goal m c) _ _ _ ?_ ?_ <;> blk_simp [e2] <;> omega

/-- Row `n`'s share of the loss and of the scale's gradient. -/
def lossTerm (n : ℕ) : EReal := meanErr (row (hid m c) n) (scale m c) (row (goal m c) n)
def scaleTerm (q : Fin 2048) (n : ℕ) : EReal :=
  der (row (hid m c) n) (scale m c) (row (goal m c) n) q * row (hid m c) n q * root (row (hid m c) n)

theorem half_sum (a b : EReal) : Ideal.ofBits .f32 0x3F000000#32 * (a + b)
    = Ideal.ofBits .f32 0x3F000000#32 * a + Ideal.ofBits .f32 0x3F000000#32 * b := by
  have hh : Ideal.ofBits .f32 0x3F000000#32 = ((1 / 2 : ℝ) : EReal) := by
    simp [Ideal.ofBits, Ideal.ieee, -EReal.coe_mul]; norm_num
  rw [hh, EReal.left_distrib_of_nonneg_of_ne_top (by exact_mod_cast (by norm_num : (0 : ℝ) ≤ 1 / 2)) (EReal.coe_ne_top _)]

theorem loss_step (t : Fin cfg0.N) (a : FVec Ideal S1x128 .f32) (l : Fin 128) :
    k0_pay8 (iblk m c 0 t) (iblk m c 1 t) (iblk m c 2 t) a (ix2 0 l)
      = a (ix2 0 l) + Ideal.ofBits .f32 0x3F000000#32 * ∑ r : Fin 256, lossTerm m c (256 * t.val + r.val) := by
  rw [loss_apply]
  simp only [block0, block1, block2]
  rfl

theorem scale_step (t : Fin cfg0.N) (a : FVec Ideal S1x2048 .f32) (q : Fin 2048) :
    k0_pay3 (iblk m c 0 t) (k0_pay9 (iblk m c 0 t) (iblk m c 1 t) (iblk m c 2 t)) (k0_pay10 (iblk m c 0 t)) a (ix2 0 q)
      = a (ix2 0 q) + ∑ r : Fin 256, scaleTerm m c q (256 * t.val + r.val) := by
  rw [scale_apply]
  simp only [block0, block1, block2]
  rfl

theorem grad_at (t : Fin cfg0.N) (r : Fin 256) (q : Fin 2048) : (outsAt0 m c t.val t.isLt).2.1 (ix2 r q)
    = grad (row (hid m c) (256 * t.val + r.val)) (scale m c) (row (goal m c) (256 * t.val + r.val)) q := by
  have e : (outsAt0 m c t.val t.isLt).2.1
      = k0_pay2 (iblk m c 0 t) (k0_pay6 (iblk m c 1 t)) (k0_pay9 (iblk m c 0 t) (iblk m c 1 t) (iblk m c 2 t)) (k0_pay10 (iblk m c 0 t)) := by
    obtain ⟨n, hn⟩ := t
    by_cases h0 : n % 8 = 0
    · rw [first m c ⟨n, hn⟩ h0]
    · obtain ⟨k, rfl⟩ : ∃ k, n = k + 1 := ⟨n - 1, by omega⟩
      rw [later m c k hn h0]
  rw [e, grad_apply]
  simp only [block0, block1, block2]

/-- After point `n` the loss and the scale's gradient are those of the rows seen so far. -/
theorem running (n : ℕ) : ∀ (h : n < cfg0.N), (∀ l : Fin 128, (outsAt0 m c n h).1 (ix2 0 l)
      = Ideal.ofBits .f32 0x3F000000#32 * ∑ x ∈ Finset.range (256 * (n + 1)), lossTerm m c x)
    ∧ ∀ q : Fin 2048, (outsAt0 m c n h).2.2 (ix2 0 q) = ∑ x ∈ Finset.range (256 * (n + 1)), scaleTerm m c q x := by
  induction n with
  | zero =>
    intro h
    have e := first m c ⟨0, h⟩ rfl
    dsimp only at e
    rw [e]
    refine ⟨fun l => (loss_step m c ⟨0, h⟩ _ l).trans ?_, fun q => (scale_step m c ⟨0, h⟩ _ q).trans ?_⟩
    all_goals rw [sum_block, Nat.mul_zero, Finset.range_zero, Finset.sum_empty, zero_add]
    · refine (congrArg (fun z : EReal => z + _) ?_).trans (zero_add _)
      pointwise [k0_pay4]
    · refine (congrArg (fun z : EReal => z + _) ?_).trans (zero_add _)
      pointwise [k0_pay5]
  | succ n ih =>
    intro h
    have hN : n + 1 < 8 := lt_of_lt_of_eq h N_0
    obtain ⟨i1, i2⟩ := ih (Nat.lt_of_succ_lt h)
    rw [later m c n h (by omega)]
    refine ⟨fun l => (loss_step m c ⟨n + 1, h⟩ _ l).trans ?_, fun q => (scale_step m c ⟨n + 1, h⟩ _ q).trans ?_⟩
    · rw [i1, sum_block _ 256 (n + 1), half_sum]
    · rw [i2, sum_block _ 256 (n + 1)]

/-! ## The three results -/

theorem last (t : Fin cfg0.N) (h : t.val % 8 = 7) : t.val = 7 := by
  have hN : t.val < 8 := lt_of_lt_of_eq t.isLt N_0
  omega

theorem row_eq (X : S2048x2048.Idx → EReal) (r : Fin 2048) : row X r.val = fun k => X (ix2 r k) := funext fun k => at2_ix2 X r k

theorem loss_read (t : Fin cfg0.N) (h : t.val = 7) (y i : S1x128.Idx) : (outsAt0 m c t.val t.isLt).1 y
    = FinRefIdeal.Read.val_main_v51 (F := Ideal) (hid m c) (m ((c : Thread nD τ).loc main_arg1)) (goal m c) i := by
  obtain ⟨l, rfl⟩ : ∃ l : Fin 128, y = ix2 0 l := ⟨y 1, (eq_ix2 y).trans (congrArg (ix2 · (y 1)) (Subsingleton.elim (α := Fin 1) _ _))⟩
  obtain ⟨l', rfl⟩ : ∃ l : Fin 128, i = ix2 0 l := ⟨i 1, (eq_ix2 i).trans (congrArg (ix2 · (i 1)) (Subsingleton.elim (α := Fin 1) _ _))⟩
  rw [ref_loss, (running m c t.val t.isLt).1, h, Finset.sum_range]
  unfold lossTerm
  simp only [row_eq]

theorem scale_read (t : Fin cfg0.N) (h : t.val = 7) (y i : S1x2048.Idx) (hi : (i 1).val = (y 1).val) : (outsAt0 m c t.val t.isLt).2.2 y
    = FinRefIdeal.Read.val_main_v52 (F := Ideal) (hid m c) (m ((c : Thread nD τ).loc main_arg1)) (goal m c) i := by
  obtain ⟨q, rfl⟩ : ∃ q : Fin 2048, y = ix2 0 q := ⟨y 1, (eq_ix2 y).trans (congrArg (ix2 · (y 1)) (Subsingleton.elim (α := Fin 1) _ _))⟩
  obtain rfl : i = ix2 0 q := (eq_ix2 i).trans (congrArg₂ ix2 (Subsingleton.elim (α := Fin 1) _ _) (Fin.ext hi))
  rw [ref_scale, (running m c t.val t.isLt).2, h, Finset.sum_range]
  refine Finset.sum_congr rfl fun r _ => ?_
  unfold scaleTerm
  rw [row_eq, row_eq]

theorem grad_read (t : Fin cfg0.N) (y : S256x2048.Idx) (i : S2048x2048.Idx) (h0 : (i 0).val = 256 * t.val + (y 0).val)
    (h1 : (i 1).val = (y 1).val) : (outsAt0 m c t.val t.isLt).2.1 y
    = FinRefIdeal.Read.val_main_v50 (F := Ideal) (hid m c) (m ((c : Thread nD τ).loc main_arg1)) (goal m c) i := by
  obtain ⟨r, q, rfl⟩ : ∃ (r : Fin 256) (q : Fin 2048), y = ix2 r q := ⟨y 0, y 1, eq_ix2 y⟩
  obtain ⟨r', rfl⟩ : ∃ r' : Fin 2048, i = ix2 r' q := ⟨i 0, (eq_ix2 i).trans (congrArg (ix2 (i 0)) (Fin.ext h1))⟩
  have hr : 256 * t.val + r.val = r'.val := h0.symm
  rw [ref_grad, grad_at, hr]
  simp only [row_eq]

theorem loss_array : (dats m 0 c).arrAt 3 cfg0.N = FinRefIdeal.Read.val_main_v51 (F := Ideal)
    (m ((c : Thread nD τ).loc main_arg0)) (m ((c : Thread nD τ).loc main_arg1)) (m ((c : Thread nD τ).loc main_arg2)) := by
  refine (dats m 0 c).arrAt_eq_of_covers 3 _ (by decide +kernel) fun t hf y => ?_
  rw [after0_3]
  exact loss_read m c t (last t ((flush0_3 t).mp hf)) _ _

theorem grad_array : (dats m 0 c).arrAt 4 cfg0.N = FinRefIdeal.Read.val_main_v50 (F := Ideal)
    (m ((c : Thread nD τ).loc main_arg0)) (m ((c : Thread nD τ).loc main_arg1)) (m ((c : Thread nD τ).loc main_arg2)) := by
  refine (dats m 0 c).arrAt_eq_of_covers 4 _ (by decide +kernel) fun t hf y => ?_
  obtain ⟨e0, e1, e2, e3, e4, e5⟩ := index_maps t
  rw [after0_4]
  refine grad_read m c t _ _ ?_ ?_
  · blk_simp [e4]
    exact congrArg (· + _) (Nat.mul_comm _ _)
  · blk_simp [e4]

theorem scale_array : (dats m 0 c).arrAt 5 cfg0.N = FinRefIdeal.Read.val_main_v52 (F := Ideal)
    (m ((c : Thread nD τ).loc main_arg0)) (m ((c : Thread nD τ).loc main_arg1)) (m ((c : Thread nD τ).loc main_arg2)) := by
  refine (dats m 0 c).arrAt_eq_of_covers 5 _ (by decide +kernel) fun t hf y => ?_
  obtain ⟨e0, e1, e2, e3, e4, e5⟩ := index_maps t
  rw [after0_5]
  refine scale_read m c t (last t ((flush0_5 t).mp hf)) _ _ ?_
  blk_simp [e5]

theorem algebraic : Cert.algebraic_FinIdeal_FinRefIdeal (hFinIdeal := Cert.FinIdeal.Gen.facts) (hFinRefIdeal := Cert.FinRefIdeal.Gen.facts) :=
  fun m ρ m' ρ' _ hag => ⟨_, _, _,
    (θ_run _ _ _).mono (fun _ h c => ⟨(h c).1.trans (loss_array m c), (h c).2.1.trans (grad_array m c), (h c).2.2.1.trans (scale_array m c), (h c).2.2.2⟩)
      (Cert.FinIdeal.Value.run_blocks m ρ),
    (θ_run _ _ _).mono (fun _ h c => ⟨(h c).1.trans (by rw [FinRefIdeal.Read.val_main_v51_eq, (hag c).1, (hag c).2.1, (hag c).2.2]),
      (h c).2.1.trans (by rw [FinRefIdeal.Read.val_main_v50_eq, (hag c).1, (hag c).2.1, (hag c).2.2]),
      (h c).2.2.1.trans (by rw [FinRefIdeal.Read.val_main_v52_eq, (hag c).1, (hag c).2.1, (hag c).2.2]), (h c).2.2.2⟩)
      (Cert.FinRefIdeal.Value.run m' ρ')⟩

theorem ref_frame : Cert.quiescent_FinRefIdeal (hFinRefIdeal := Cert.FinRefIdeal.Gen.facts) :=
  fun m ρ _ => (θ_run _ _ _).mono (fun r h => ⟨fun c => (h c).2.2.2, sem_eq_zero_of_no_sems (by decide) r.2⟩) (Cert.FinRefIdeal.Value.run m ρ)

end Cert.FinIdeal.Entry

end
-- ==== Proof.Forward.lean ====
/-
  The forward products of a layer that read their weight as it stands.
-/
module

public import proofs.«01_k».proof.Proof.Gen.ProjIdeal.Value
public import proofs.«01_k».proof.Proof.Gen.ProjRefIdeal.Read
public import proofs.«01_k».proof.Proof.Gen.UpIdeal.Value
public import proofs.«01_k».proof.Proof.Gen.UpRefIdeal.Read
public import proofs.«01_k».proof.Defs
public import Idealize.ShloMosaic.Lib.Pipeline.ValueKit
public import Idealize.ShloMosaic.Lib.Tactic

@[expose] public section

set_option maxRecDepth 16384

noncomputable section

namespace Cert.ProjIdeal.Entry

open Cert.ProjIdeal Cert.ProjIdeal.Gen Cert.ProjIdeal.Value Idealize.ShloMosaic Idealize.ShloMosaic.TcCoe Idealize.SL.Sem

variable (m : (ℓ : Loc nD τ sig) → Buf (Elt Ideal) ℓ) (c : Dev nD)

theorem index_maps : ∀ t : Fin cfg0.N, win0_0.index t = ![t.val / 6, 0] ∧ win0_1.index t = ![0, t.val % 6] ∧ win0_2.index t = ![t.val / 6, t.val % 6] :=
  (by decide +kernel : ∀ t : Fin grid0.N, _)

/-- The input projection. -/
theorem final : (dats m 0 c).arrAt 2 cfg0.N = ProjRefIdeal.Read.val_main_v2 (F := Ideal)
    (m ((c : Thread nD τ).loc main_arg0)) (m ((c : Thread nD τ).loc main_arg1)) := by
  refine (dats m 0 c).arrAt_eq_of_covers 2 _ (by decide +kernel) fun t hf y => ?_
  obtain ⟨e0, e1, e2⟩ := index_maps t
  blk_simp
  rw [after0_2]
  unfold outsAt0
  frame_out
  pointwise [k0_pay2, k0_pay1, ProjRefIdeal.Read.val_main_v2, ProjRefIdeal.Read.val_main_v1, ProjRefIdeal.Read.val_main_v0]
  blk_point [iblk, V, e0, e1, e2]

theorem algebraic : Cert.algebraic_ProjIdeal_ProjRefIdeal (hProjIdeal := Cert.ProjIdeal.Gen.facts) (hProjRefIdeal := Cert.ProjRefIdeal.Gen.facts) :=
  fun m ρ m' ρ' _ hag => ⟨fun c => ProjRefIdeal.Read.val_main_v2 (F := Ideal) (m ((c : Thread nD τ).loc main_arg0)) (m ((c : Thread nD τ).loc main_arg1)),
    (θ_run _ _ _).mono (fun _ h c => ⟨(h c).1.trans (final m c), (h c).2⟩) (Cert.ProjIdeal.Value.run_blocks m ρ),
    (θ_run _ _ _).mono (fun _ h c => ⟨(h c).1.trans (by rw [ProjRefIdeal.Read.val_main_v2_eq, (hag c).1, (hag c).2]), (h c).2⟩)
      (Cert.ProjRefIdeal.Value.run m' ρ')⟩

theorem ref_frame : Cert.quiescent_ProjRefIdeal (hProjRefIdeal := Cert.ProjRefIdeal.Gen.facts) :=
  fun m ρ _ => (θ_run _ _ _).mono (fun r h => ⟨fun c => (h c).2, sem_eq_zero_of_no_sems (by decide) r.2⟩) (Cert.ProjRefIdeal.Value.run m ρ)

end Cert.ProjIdeal.Entry

namespace Cert.UpIdeal.Entry

open Cert.UpIdeal Cert.UpIdeal.Gen Cert.UpIdeal.Value Idealize.ShloMosaic Idealize.ShloMosaic.TcCoe Idealize.SL.Sem

variable (m : (ℓ : Loc nD τ sig) → Buf (Elt Ideal) ℓ) (c : Dev nD)

theorem index_maps : ∀ t : Fin cfg0.N, win0_0.index t = ![t.val / 2, 0] ∧ win0_1.index t = ![0, t.val % 2] ∧ win0_2.index t = ![t.val / 2, t.val % 2] :=
  (by decide +kernel : ∀ t : Fin grid0.N, _)

/-- The embedding's projection. -/
theorem final : (dats m 0 c).arrAt 2 cfg0.N = UpRefIdeal.Read.val_main_v1 (F := Ideal)
    (m ((c : Thread nD τ).loc main_arg0)) (m ((c : Thread nD τ).loc main_arg1)) := by
  refine (dats m 0 c).arrAt_eq_of_covers 2 _ (by decide +kernel) fun t hf y => ?_
  obtain ⟨e0, e1, e2⟩ := index_maps t
  blk_simp
  rw [after0_2]
  unfold outsAt0
  frame_out
  pointwise [k0_pay2, k0_pay1, UpRefIdeal.Read.val_main_v1, UpRefIdeal.Read.val_main_v0]
  blk_point [iblk, V, e0, e1, e2]

theorem algebraic : Cert.algebraic_UpIdeal_UpRefIdeal (hUpIdeal := Cert.UpIdeal.Gen.facts) (hUpRefIdeal := Cert.UpRefIdeal.Gen.facts) :=
  fun m ρ m' ρ' _ hag => ⟨fun c => UpRefIdeal.Read.val_main_v1 (F := Ideal) (m ((c : Thread nD τ).loc main_arg0)) (m ((c : Thread nD τ).loc main_arg1)),
    (θ_run _ _ _).mono (fun _ h c => ⟨(h c).1.trans (final m c), (h c).2⟩) (Cert.UpIdeal.Value.run_blocks m ρ),
    (θ_run _ _ _).mono (fun _ h c => ⟨(h c).1.trans (by rw [UpRefIdeal.Read.val_main_v1_eq, (hag c).1, (hag c).2]), (h c).2⟩)
      (Cert.UpRefIdeal.Value.run m' ρ')⟩

theorem ref_frame : Cert.quiescent_UpRefIdeal (hUpRefIdeal := Cert.UpRefIdeal.Gen.facts) :=
  fun m ρ _ => (θ_run _ _ _).mono (fun r h => ⟨fun c => (h c).2, sem_eq_zero_of_no_sems (by decide) r.2⟩) (Cert.UpRefIdeal.Value.run m ρ)

end Cert.UpIdeal.Entry

end
-- ==== Proof.AdWinVal.lean ====
/-
  The optimiser on one layer of the input projection: the 512 rows of the layer of each of the four results are what the reference computes from the sum of
  the eight parts of the gradient, and the other rows are those it was given.
-/
module

public import proofs.«01_k».proof.Proof.Gen.AdWinIdeal.Value
public import proofs.«01_k».proof.Proof.Gen.AdWinRefIdeal.Read
public import proofs.«01_k».proof.Defs
public import Idealize.ShloMosaic.Lib.Pipeline.ValueKit
public import Idealize.ShloMosaic.Lib.Tactic

@[expose] public section

set_option maxRecDepth 16384

noncomputable section

namespace Cert.AdWinIdeal.Entry

open Cert.AdWinIdeal Cert.AdWinIdeal.Gen Cert.AdWinIdeal.Value Idealize.ShloMosaic Idealize.ShloMosaic.TcCoe Idealize.SL.Sem

variable (m : (ℓ : Loc nD τ sig) → Buf (Elt Ideal) ℓ) (c : Dev nD)

theorem index_maps : ∀ t : Fin cfg0.N, win0_0.index t = ![0, t.val, 0] ∧ win0_1.index t = ![6 + t.val, 0] ∧ win0_2.index t = ![6 + t.val, 0]
    ∧ win0_3.index t = ![6 + t.val, 0] ∧ win0_4.index t = ![6 + t.val, 0] ∧ win0_5.index t = ![6 + t.val, 0]
    ∧ win0_6.index t = ![6 + t.val, 0] ∧ win0_7.index t = ![6 + t.val, 0] :=
  (by decide +kernel : ∀ t : Fin grid0.N, _)

/-- The reference's gradient, delta and new moments. -/
abbrev G4 := AdWinRefIdeal.Read.val_main_v31 (F := Ideal) (m ((c : Thread nD τ).loc main_arg0)) (m ((c : Thread nD τ).loc main_arg4))
abbrev G5 := AdWinRefIdeal.Read.val_main_v34 (F := Ideal) (m ((c : Thread nD τ).loc main_arg0)) (m ((c : Thread nD τ).loc main_arg1))
  (m ((c : Thread nD τ).loc main_arg2)) (m ((c : Thread nD τ).loc main_arg3)) (m ((c : Thread nD τ).loc main_arg5))
abbrev G6 := AdWinRefIdeal.Read.val_main_v37 (F := Ideal) (m ((c : Thread nD τ).loc main_arg0)) (m ((c : Thread nD τ).loc main_arg2))
  (m ((c : Thread nD τ).loc main_arg6))
abbrev G7 := AdWinRefIdeal.Read.val_main_v40 (F := Ideal) (m ((c : Thread nD τ).loc main_arg0)) (m ((c : Thread nD τ).loc main_arg3))
  (m ((c : Thread nD τ).loc main_arg7))

set_option maxHeartbeats 2000000 in
/-- A tile's four results at an entry: the reference's, in the layer's rows. -/
theorem inside (t : Fin cfg0.N) (y : S256x1026.Idx) :
    (outsAt0 m c t).1 y = G4 m c ((win0_4.blk t).view.emb y) ∧ (outsAt0 m c t).2.1 y = G5 m c ((win0_5.blk t).view.emb y)
    ∧ (outsAt0 m c t).2.2.1 y = G6 m c ((win0_6.blk t).view.emb y) ∧ (outsAt0 m c t).2.2.2 y = G7 m c ((win0_7.blk t).view.emb y) := by
  obtain ⟨e0, e1, e2, e3, e4, e5, e6, e7⟩ := index_maps t
  have ht : t.val < 2 := lt_of_lt_of_eq t.isLt N_0
  unfold outsAt0
  refine ⟨?_, ?_, ?_, ?_⟩
  all_goals
    frame_out
    pointwise [G4, G5, G6, G7, k0_pay4, k0_pay3, k0_pay2, k0_pay1, AdWinRefIdeal.Read.val_main_v0, AdWinRefIdeal.Read.val_main_cst, AdWinRefIdeal.Read.val_main_v1, AdWinRefIdeal.Read.val_main_v2, AdWinRefIdeal.Read.val_main_v3, AdWinRefIdeal.Read.val_main_v4, AdWinRefIdeal.Read.val_main_cst_0, AdWinRefIdeal.Read.val_main_v5, AdWinRefIdeal.Read.val_main_v6, AdWinRefIdeal.Read.val_main_cst_1, AdWinRefIdeal.Read.val_main_v7, AdWinRefIdeal.Read.val_main_v8, AdWinRefIdeal.Read.val_main_v9, AdWinRefIdeal.Read.val_main_cst_2, AdWinRefIdeal.Read.val_main_v10, AdWinRefIdeal.Read.val_main_v11, AdWinRefIdeal.Read.val_main_v12, AdWinRefIdeal.Read.val_main_cst_3, AdWinRefIdeal.Read.val_main_v13, AdWinRefIdeal.Read.val_main_v14, AdWinRefIdeal.Read.val_main_v15, AdWinRefIdeal.Read.val_main_cst_4, AdWinRefIdeal.Read.val_main_v16, AdWinRefIdeal.Read.val_main_v17, AdWinRefIdeal.Read.val_main_cst_5, AdWinRefIdeal.Read.val_main_v18, AdWinRefIdeal.Read.val_main_v19, AdWinRefIdeal.Read.val_main_v20, AdWinRefIdeal.Read.val_main_cst_6, AdWinRefIdeal.Read.val_main_v21, AdWinRefIdeal.Read.val_main_v22, AdWinRefIdeal.Read.val_main_v23, AdWinRefIdeal.Read.val_main_cst_7, AdWinRefIdeal.Read.val_main_v24, AdWinRefIdeal.Read.val_main_v25, AdWinRefIdeal.Read.val_main_v26, AdWinRefIdeal.Read.val_main_cst_8, AdWinRefIdeal.Read.val_main_v27, AdWinRefIdeal.Read.val_main_v28, AdWinRefIdeal.Read.val_main_v29, AdWinRefIdeal.Read.val_main_v30, AdWinRefIdeal.Read.val_main_v31, AdWinRefIdeal.Read.val_main_v32, AdWinRefIdeal.Read.val_main_v33, AdWinRefIdeal.Read.val_main_v34, AdWinRefIdeal.Read.val_main_v35, AdWinRefIdeal.Read.val_main_v36, AdWinRefIdeal.Read.val_main_v37, AdWinRefIdeal.Read.val_main_v38, AdWinRefIdeal.Read.val_main_v39, AdWinRefIdeal.Read.val_main_v40]
    rw [dif_neg (by blk_simp [e4, e5, e6, e7]; omega), dif_pos (by blk_simp [e4, e5, e6, e7]; idx_bounds_all; omega)]
    try rw [Fin.sum_univ_eight]
    blk_point [iblk, V, e0, e1, e2, e3, e4, e5, e6, e7]

/-- The reference leaves the other layers' rows as they were given. -/
theorem outside (j : S4096x1026.Idx) (hj : ¬ (1536 ≤ (j 0).val ∧ (j 0).val < 2048)) :
    m ((c : Thread nD τ).loc main_arg4) j = G4 m c j ∧ m ((c : Thread nD τ).loc main_arg5) j = G5 m c j
    ∧ m ((c : Thread nD τ).loc main_arg6) j = G6 m c j ∧ m ((c : Thread nD τ).loc main_arg7) j = G7 m c j := by
  refine ⟨?_, ?_, ?_, ?_⟩
  all_goals
    pointwise [G4, G5, G6, G7, AdWinRefIdeal.Read.val_main_v0, AdWinRefIdeal.Read.val_main_cst, AdWinRefIdeal.Read.val_main_v1, AdWinRefIdeal.Read.val_main_v2, AdWinRefIdeal.Read.val_main_v3, AdWinRefIdeal.Read.val_main_v4, AdWinRefIdeal.Read.val_main_cst_0, AdWinRefIdeal.Read.val_main_v5, AdWinRefIdeal.Read.val_main_v6, AdWinRefIdeal.Read.val_main_cst_1, AdWinRefIdeal.Read.val_main_v7, AdWinRefIdeal.Read.val_main_v8, AdWinRefIdeal.Read.val_main_v9, AdWinRefIdeal.Read.val_main_cst_2, AdWinRefIdeal.Read.val_main_v10, AdWinRefIdeal.Read.val_main_v11, AdWinRefIdeal.Read.val_main_v12, AdWinRefIdeal.Read.val_main_cst_3, AdWinRefIdeal.Read.val_main_v13, AdWinRefIdeal.Read.val_main_v14, AdWinRefIdeal.Read.val_main_v15, AdWinRefIdeal.Read.val_main_cst_4, AdWinRefIdeal.Read.val_main_v16, AdWinRefIdeal.Read.val_main_v17, AdWinRefIdeal.Read.val_main_cst_5, AdWinRefIdeal.Read.val_main_v18, AdWinRefIdeal.Read.val_main_v19, AdWinRefIdeal.Read.val_main_v20, AdWinRefIdeal.Read.val_main_cst_6, AdWinRefIdeal.Read.val_main_v21, AdWinRefIdeal.Read.val_main_v22, AdWinRefIdeal.Read.val_main_v23, AdWinRefIdeal.Read.val_main_cst_7, AdWinRefIdeal.Read.val_main_v24, AdWinRefIdeal.Read.val_main_v25, AdWinRefIdeal.Read.val_main_v26, AdWinRefIdeal.Read.val_main_cst_8, AdWinRefIdeal.Read.val_main_v27, AdWinRefIdeal.Read.val_main_v28, AdWinRefIdeal.Read.val_main_v29, AdWinRefIdeal.Read.val_main_v30, AdWinRefIdeal.Read.val_main_v31, AdWinRefIdeal.Read.val_main_v32, AdWinRefIdeal.Read.val_main_v33, AdWinRefIdeal.Read.val_main_v34, AdWinRefIdeal.Read.val_main_v35, AdWinRefIdeal.Read.val_main_v36, AdWinRefIdeal.Read.val_main_v37, AdWinRefIdeal.Read.val_main_v38, AdWinRefIdeal.Read.val_main_v39, AdWinRefIdeal.Read.val_main_v40]
    (repeat' split) <;> first | (exfalso; omega) | blk_point [V]

theorem results : (dats m 0 c).arrAt 4 cfg0.N = G4 m c ∧ (dats m 0 c).arrAt 5 cfg0.N = G5 m c
    ∧ (dats m 0 c).arrAt 6 cfg0.N = G6 m c ∧ (dats m 0 c).arrAt 7 cfg0.N = G7 m c := by
  refine ⟨(dats m 0 c).arrAt_eq_of_coversWhere_of_agree 4 _ (fun β => 6 ≤ β 0 ∧ β 0 < 8) (by decide +kernel) (fun t hf y => ?_) fun j hj => ?_,
    (dats m 0 c).arrAt_eq_of_coversWhere_of_agree 5 _ (fun β => 6 ≤ β 0 ∧ β 0 < 8) (by decide +kernel) (fun t hf y => ?_) fun j hj => ?_,
    (dats m 0 c).arrAt_eq_of_coversWhere_of_agree 6 _ (fun β => 6 ≤ β 0 ∧ β 0 < 8) (by decide +kernel) (fun t hf y => ?_) fun j hj => ?_,
    (dats m 0 c).arrAt_eq_of_coversWhere_of_agree 7 _ (fun β => 6 ≤ β 0 ∧ β 0 < 8) (by decide +kernel) (fun t hf y => ?_) fun j hj => ?_⟩
  all_goals first | blk_simp [Pipeline.Window.cell_apply] at hj | blk_simp
  · rw [after0_4]; exact (inside m c t y).1
  · exact (outside m c j (by omega)).1
  · rw [after0_5]; exact (inside m c t y).2.1
  · exact (outside m c j (by omega)).2.1
  · rw [after0_6]; exact (inside m c t y).2.2.1
  · exact (outside m c j (by omega)).2.2.1
  · rw [after0_7]; exact (inside m c t y).2.2.2
  · exact (outside m c j (by omega)).2.2.2

theorem algebraic : Cert.algebraic_AdWinIdeal_AdWinRefIdeal (hAdWinIdeal := Cert.AdWinIdeal.Gen.facts) (hAdWinRefIdeal := Cert.AdWinRefIdeal.Gen.facts) :=
  fun m ρ m' ρ' _ hag => ⟨fun c => G4 m c, fun c => G5 m c, fun c => G6 m c, fun c => G7 m c,
    (θ_run _ _ _).mono (fun _ h c => ⟨(h c).1.trans (results m c).1, (h c).2.1.trans (results m c).2.1, (h c).2.2.1.trans (results m c).2.2.1,
      (h c).2.2.2.1.trans (results m c).2.2.2, (h c).2.2.2.2⟩) (Cert.AdWinIdeal.Value.run_blocks m ρ),
    (θ_run _ _ _).mono (fun _ h c => ⟨(h c).1.trans (by rw [AdWinRefIdeal.Read.val_main_v31_eq, (hag c).1, (hag c).2.2.2.2.1]),
      (h c).2.1.trans (by rw [AdWinRefIdeal.Read.val_main_v34_eq, (hag c).1, (hag c).2.1, (hag c).2.2.1, (hag c).2.2.2.1, (hag c).2.2.2.2.2.1]),
      (h c).2.2.1.trans (by rw [AdWinRefIdeal.Read.val_main_v37_eq, (hag c).1, (hag c).2.2.1, (hag c).2.2.2.2.2.2.1]),
      (h c).2.2.2.1.trans (by rw [AdWinRefIdeal.Read.val_main_v40_eq, (hag c).1, (hag c).2.2.2.1, (hag c).2.2.2.2.2.2.2]), (h c).2.2.2.2⟩)
      (Cert.AdWinRefIdeal.Value.run m' ρ')⟩

theorem ref_frame : Cert.quiescent_AdWinRefIdeal (hAdWinRefIdeal := Cert.AdWinRefIdeal.Gen.facts) :=
  fun m ρ _ => (θ_run _ _ _).mono (fun r h => ⟨fun c => (h c).2.2.2.2, sem_eq_zero_of_no_sems (by decide) r.2⟩) (Cert.AdWinRefIdeal.Value.run m ρ)

end Cert.AdWinIdeal.Entry

end
-- ==== Proof.AdWoVal.lean ====
/-
  The optimiser on one layer of the output projection: the 256 rows of the layer of each of the four results are what the reference computes from the sum of
  the eight parts of the gradient, and the other rows are those it was given.
-/
module

public import proofs.«01_k».proof.Proof.Gen.AdWoIdeal.Value
public import proofs.«01_k».proof.Proof.Gen.AdWoRefIdeal.Read
public import proofs.«01_k».proof.Defs
public import Idealize.ShloMosaic.Lib.Pipeline.ValueKit
public import Idealize.ShloMosaic.Lib.Tactic

@[expose] public section

set_option maxRecDepth 16384

noncomputable section

namespace Cert.AdWoIdeal.Entry

open Cert.AdWoIdeal Cert.AdWoIdeal.Gen Cert.AdWoIdeal.Value Idealize.ShloMosaic Idealize.ShloMosaic.TcCoe Idealize.SL.Sem

variable (m : (ℓ : Loc nD τ sig) → Buf (Elt Ideal) ℓ) (c : Dev nD)

theorem index_maps : ∀ t : Fin cfg0.N, win0_0.index t = ![0, 0, 0] ∧ win0_1.index t = ![0, 0] ∧ win0_2.index t = ![0, 0]
    ∧ win0_3.index t = ![0, 0] ∧ win0_4.index t = ![0, 0] ∧ win0_5.index t = ![0, 0]
    ∧ win0_6.index t = ![0, 0] ∧ win0_7.index t = ![0, 0] :=
  (by decide +kernel : ∀ t : Fin grid0.N, _)

/-- The reference's gradient, delta and new moments. -/
abbrev G4 := AdWoRefIdeal.Read.val_main_v32 (F := Ideal) (m ((c : Thread nD τ).loc main_arg0)) (m ((c : Thread nD τ).loc main_arg4))
abbrev G5 := AdWoRefIdeal.Read.val_main_v35 (F := Ideal) (m ((c : Thread nD τ).loc main_arg0)) (m ((c : Thread nD τ).loc main_arg1))
  (m ((c : Thread nD τ).loc main_arg2)) (m ((c : Thread nD τ).loc main_arg3)) (m ((c : Thread nD τ).loc main_arg5))
abbrev G6 := AdWoRefIdeal.Read.val_main_v38 (F := Ideal) (m ((c : Thread nD τ).loc main_arg0)) (m ((c : Thread nD τ).loc main_arg2))
  (m ((c : Thread nD τ).loc main_arg6))
abbrev G7 := AdWoRefIdeal.Read.val_main_v41 (F := Ideal) (m ((c : Thread nD τ).loc main_arg0)) (m ((c : Thread nD τ).loc main_arg3))
  (m ((c : Thread nD τ).loc main_arg7))

/-- The tile of the parts, no part of it cut off. -/
theorem part (t : Fin cfg0.N) (y : S8x256x2048.Idx) (j : S8x544x2048.Idx) (h0 : (j 0).val = (y 0).val) (h1 : (j 1).val = (y 1).val)
    (h2 : (j 2).val = (y 2).val) : X0_0 m c t y = (m ((c : Thread nD τ).loc main_arg0) : S8x544x2048.Idx → EReal) j := by
  have e0 := (index_maps t).1
  unfold X0_0 Pipeline.Window.fill
  rw [dif_pos (moved0_0 t y)]
  refine (congrFun (V_main_arg0 m c) _).trans (congrArg (m ((c : Thread nD τ).loc main_arg0) : S8x544x2048.Idx → EReal) ?_)
  funext a; apply Fin.ext
  match a with
  | ⟨0, _⟩ => show win0_0.index t (0 : Fin 3) * 8 + 1 * (y 0).val = (j 0).val; rw [e0, h0]; simp
  | ⟨1, _⟩ => show win0_0.index t (1 : Fin 3) * 256 + 1 * (y 1).val = (j 1).val; rw [e0, h1]; simp
  | ⟨2, _⟩ => show win0_0.index t (2 : Fin 3) * 2048 + 1 * (y 2).val = (j 2).val; rw [e0, h2]; simp

set_option maxHeartbeats 2000000 in
/-- A tile's four results at an entry: the reference's, in the layer's rows. -/
theorem inside (t : Fin cfg0.N) (y : S256x2048.Idx) :
    (outsAt0 m c t).1 y = G4 m c ((win0_4.blk t).view.emb y) ∧ (outsAt0 m c t).2.1 y = G5 m c ((win0_5.blk t).view.emb y)
    ∧ (outsAt0 m c t).2.2.1 y = G6 m c ((win0_6.blk t).view.emb y) ∧ (outsAt0 m c t).2.2.2 y = G7 m c ((win0_7.blk t).view.emb y) := by
  obtain ⟨e0, e1, e2, e3, e4, e5, e6, e7⟩ := index_maps t
  have ht : t.val < 1 := lt_of_lt_of_eq t.isLt N_0
  unfold outsAt0
  refine ⟨?_, ?_, ?_, ?_⟩
  all_goals
    frame_out
    pointwise [G4, G5, G6, G7, k0_pay4, k0_pay3, k0_pay2, k0_pay1, AdWoRefIdeal.Read.val_main_v0, AdWoRefIdeal.Read.val_main_v1, AdWoRefIdeal.Read.val_main_cst, AdWoRefIdeal.Read.val_main_v2, AdWoRefIdeal.Read.val_main_v3, AdWoRefIdeal.Read.val_main_v4, AdWoRefIdeal.Read.val_main_v5, AdWoRefIdeal.Read.val_main_cst_0, AdWoRefIdeal.Read.val_main_v6, AdWoRefIdeal.Read.val_main_v7, AdWoRefIdeal.Read.val_main_cst_1, AdWoRefIdeal.Read.val_main_v8, AdWoRefIdeal.Read.val_main_v9, AdWoRefIdeal.Read.val_main_v10, AdWoRefIdeal.Read.val_main_cst_2, AdWoRefIdeal.Read.val_main_v11, AdWoRefIdeal.Read.val_main_v12, AdWoRefIdeal.Read.val_main_v13, AdWoRefIdeal.Read.val_main_cst_3, AdWoRefIdeal.Read.val_main_v14, AdWoRefIdeal.Read.val_main_v15, AdWoRefIdeal.Read.val_main_v16, AdWoRefIdeal.Read.val_main_cst_4, AdWoRefIdeal.Read.val_main_v17, AdWoRefIdeal.Read.val_main_v18, AdWoRefIdeal.Read.val_main_cst_5, AdWoRefIdeal.Read.val_main_v19, AdWoRefIdeal.Read.val_main_v20, AdWoRefIdeal.Read.val_main_v21, AdWoRefIdeal.Read.val_main_cst_6, AdWoRefIdeal.Read.val_main_v22, AdWoRefIdeal.Read.val_main_v23, AdWoRefIdeal.Read.val_main_v24, AdWoRefIdeal.Read.val_main_cst_7, AdWoRefIdeal.Read.val_main_v25, AdWoRefIdeal.Read.val_main_v26, AdWoRefIdeal.Read.val_main_v27, AdWoRefIdeal.Read.val_main_cst_8, AdWoRefIdeal.Read.val_main_v28, AdWoRefIdeal.Read.val_main_v29, AdWoRefIdeal.Read.val_main_v30, AdWoRefIdeal.Read.val_main_v31, AdWoRefIdeal.Read.val_main_v32, AdWoRefIdeal.Read.val_main_v33, AdWoRefIdeal.Read.val_main_v34, AdWoRefIdeal.Read.val_main_v35, AdWoRefIdeal.Read.val_main_v36, AdWoRefIdeal.Read.val_main_v37, AdWoRefIdeal.Read.val_main_v38, AdWoRefIdeal.Read.val_main_v39, AdWoRefIdeal.Read.val_main_v40, AdWoRefIdeal.Read.val_main_v41]
    rw [dif_neg (by blk_simp [e4, e5, e6, e7]; omega), dif_pos (by blk_simp [e4, e5, e6, e7]; idx_bounds_all; omega)]
    try rw [Fin.sum_univ_eight]
    blk_point [iblk, V, e0, e1, e2, e3, e4, e5, e6, e7]
    all_goals exact part m c t (ix3 _ _ _) (ix3 _ _ _) rfl rfl (by blk_simp [e4, e5, e6, e7])

/-- The reference leaves the other layers' rows as they were given. -/
theorem outside (j : S512x2048.Idx) (hj : ¬ (j 0).val < 256) :
    m ((c : Thread nD τ).loc main_arg4) j = G4 m c j ∧ m ((c : Thread nD τ).loc main_arg5) j = G5 m c j
    ∧ m ((c : Thread nD τ).loc main_arg6) j = G6 m c j ∧ m ((c : Thread nD τ).loc main_arg7) j = G7 m c j := by
  refine ⟨?_, ?_, ?_, ?_⟩
  all_goals
    pointwise [G4, G5, G6, G7, AdWoRefIdeal.Read.val_main_v0, AdWoRefIdeal.Read.val_main_v1, AdWoRefIdeal.Read.val_main_cst, AdWoRefIdeal.Read.val_main_v2, AdWoRefIdeal.Read.val_main_v3, AdWoRefIdeal.Read.val_main_v4, AdWoRefIdeal.Read.val_main_v5, AdWoRefIdeal.Read.val_main_cst_0, AdWoRefIdeal.Read.val_main_v6, AdWoRefIdeal.Read.val_main_v7, AdWoRefIdeal.Read.val_main_cst_1, AdWoRefIdeal.Read.val_main_v8, AdWoRefIdeal.Read.val_main_v9, AdWoRefIdeal.Read.val_main_v10, AdWoRefIdeal.Read.val_main_cst_2, AdWoRefIdeal.Read.val_main_v11, AdWoRefIdeal.Read.val_main_v12, AdWoRefIdeal.Read.val_main_v13, AdWoRefIdeal.Read.val_main_cst_3, AdWoRefIdeal.Read.val_main_v14, AdWoRefIdeal.Read.val_main_v15, AdWoRefIdeal.Read.val_main_v16, AdWoRefIdeal.Read.val_main_cst_4, AdWoRefIdeal.Read.val_main_v17, AdWoRefIdeal.Read.val_main_v18, AdWoRefIdeal.Read.val_main_cst_5, AdWoRefIdeal.Read.val_main_v19, AdWoRefIdeal.Read.val_main_v20, AdWoRefIdeal.Read.val_main_v21, AdWoRefIdeal.Read.val_main_cst_6, AdWoRefIdeal.Read.val_main_v22, AdWoRefIdeal.Read.val_main_v23, AdWoRefIdeal.Read.val_main_v24, AdWoRefIdeal.Read.val_main_cst_7, AdWoRefIdeal.Read.val_main_v25, AdWoRefIdeal.Read.val_main_v26, AdWoRefIdeal.Read.val_main_v27, AdWoRefIdeal.Read.val_main_cst_8, AdWoRefIdeal.Read.val_main_v28, AdWoRefIdeal.Read.val_main_v29, AdWoRefIdeal.Read.val_main_v30, AdWoRefIdeal.Read.val_main_v31, AdWoRefIdeal.Read.val_main_v32, AdWoRefIdeal.Read.val_main_v33, AdWoRefIdeal.Read.val_main_v34, AdWoRefIdeal.Read.val_main_v35, AdWoRefIdeal.Read.val_main_v36, AdWoRefIdeal.Read.val_main_v37, AdWoRefIdeal.Read.val_main_v38, AdWoRefIdeal.Read.val_main_v39, AdWoRefIdeal.Read.val_main_v40, AdWoRefIdeal.Read.val_main_v41]
    (repeat' split) <;> first | (exfalso; omega) | blk_point [V]

theorem results : (dats m 0 c).arrAt 4 cfg0.N = G4 m c ∧ (dats m 0 c).arrAt 5 cfg0.N = G5 m c
    ∧ (dats m 0 c).arrAt 6 cfg0.N = G6 m c ∧ (dats m 0 c).arrAt 7 cfg0.N = G7 m c := by
  refine ⟨(dats m 0 c).arrAt_eq_of_coversWhere_of_agree 4 _ (fun β => β 0 < 1) (by decide +kernel) (fun t hf y => ?_) fun j hj => ?_,
    (dats m 0 c).arrAt_eq_of_coversWhere_of_agree 5 _ (fun β => β 0 < 1) (by decide +kernel) (fun t hf y => ?_) fun j hj => ?_,
    (dats m 0 c).arrAt_eq_of_coversWhere_of_agree 6 _ (fun β => β 0 < 1) (by decide +kernel) (fun t hf y => ?_) fun j hj => ?_,
    (dats m 0 c).arrAt_eq_of_coversWhere_of_agree 7 _ (fun β => β 0 < 1) (by decide +kernel) (fun t hf y => ?_) fun j hj => ?_⟩
  all_goals first | blk_simp [Pipeline.Window.cell_apply] at hj | blk_simp
  · rw [after0_4]; exact (inside m c t y).1
  · exact (outside m c j (by omega)).1
  · rw [after0_5]; exact (inside m c t y).2.1
  · exact (outside m c j (by omega)).2.1
  · rw [after0_6]; exact (inside m c t y).2.2.1
  · exact (outside m c j (by omega)).2.2.1
  · rw [after0_7]; exact (inside m c t y).2.2.2
  · exact (outside m c j (by omega)).2.2.2

theorem algebraic : Cert.algebraic_AdWoIdeal_AdWoRefIdeal (hAdWoIdeal := Cert.AdWoIdeal.Gen.facts) (hAdWoRefIdeal := Cert.AdWoRefIdeal.Gen.facts) :=
  fun m ρ m' ρ' _ hag => ⟨fun c => G4 m c, fun c => G5 m c, fun c => G6 m c, fun c => G7 m c,
    (θ_run _ _ _).mono (fun _ h c => ⟨(h c).1.trans (results m c).1, (h c).2.1.trans (results m c).2.1, (h c).2.2.1.trans (results m c).2.2.1,
      (h c).2.2.2.1.trans (results m c).2.2.2, (h c).2.2.2.2⟩) (Cert.AdWoIdeal.Value.run_blocks m ρ),
    (θ_run _ _ _).mono (fun _ h c => ⟨(h c).1.trans (by rw [AdWoRefIdeal.Read.val_main_v32_eq, (hag c).1, (hag c).2.2.2.2.1]),
      (h c).2.1.trans (by rw [AdWoRefIdeal.Read.val_main_v35_eq, (hag c).1, (hag c).2.1, (hag c).2.2.1, (hag c).2.2.2.1, (hag c).2.2.2.2.2.1]),
      (h c).2.2.1.trans (by rw [AdWoRefIdeal.Read.val_main_v38_eq, (hag c).1, (hag c).2.2.1, (hag c).2.2.2.2.2.2.1]),
      (h c).2.2.2.1.trans (by rw [AdWoRefIdeal.Read.val_main_v41_eq, (hag c).1, (hag c).2.2.2.1, (hag c).2.2.2.2.2.2.2]), (h c).2.2.2.2⟩)
      (Cert.AdWoRefIdeal.Value.run m' ρ')⟩

theorem ref_frame : Cert.quiescent_AdWoRefIdeal (hAdWoRefIdeal := Cert.AdWoRefIdeal.Gen.facts) :=
  fun m ρ _ => (θ_run _ _ _).mono (fun r h => ⟨fun c => (h c).2.2.2.2, sem_eq_zero_of_no_sems (by decide) r.2⟩) (Cert.AdWoRefIdeal.Value.run m ρ)

end Cert.AdWoIdeal.Entry

end
-- ==== Proof.AdWgVal.lean ====
/-
  The optimiser on one layer of the gate: the 256 rows of the layer of each of the four results are what the reference computes from the sum of
  the eight parts of the gradient, and the other rows are those it was given.
-/
module

public import proofs.«01_k».proof.Proof.Gen.AdWgIdeal.Value
public import proofs.«01_k».proof.Proof.Gen.AdWgRefIdeal.Read
public import proofs.«01_k».proof.Defs
public import Idealize.ShloMosaic.Lib.Pipeline.ValueKit
public import Idealize.ShloMosaic.Lib.Tactic

@[expose] public section

set_option maxRecDepth 16384

noncomputable section

namespace Cert.AdWgIdeal.Entry

open Cert.AdWgIdeal Cert.AdWgIdeal.Gen Cert.AdWgIdeal.Value Idealize.ShloMosaic Idealize.ShloMosaic.TcCoe Idealize.SL.Sem

variable (m : (ℓ : Loc nD τ sig) → Buf (Elt Ideal) ℓ) (c : Dev nD)

theorem index_maps : ∀ t : Fin cfg0.N, win0_0.index t = ![0, 1, 0] ∧ win0_1.index t = ![0, 0] ∧ win0_2.index t = ![0, 0]
    ∧ win0_3.index t = ![0, 0] ∧ win0_4.index t = ![0, 0] ∧ win0_5.index t = ![0, 0]
    ∧ win0_6.index t = ![0, 0] ∧ win0_7.index t = ![0, 0] :=
  (by decide +kernel : ∀ t : Fin grid0.N, _)

/-- The reference's gradient, delta and new moments. -/
abbrev G4 := AdWgRefIdeal.Read.val_main_v32 (F := Ideal) (m ((c : Thread nD τ).loc main_arg0)) (m ((c : Thread nD τ).loc main_arg4))
abbrev G5 := AdWgRefIdeal.Read.val_main_v35 (F := Ideal) (m ((c : Thread nD τ).loc main_arg0)) (m ((c : Thread nD τ).loc main_arg1))
  (m ((c : Thread nD τ).loc main_arg2)) (m ((c : Thread nD τ).loc main_arg3)) (m ((c : Thread nD τ).loc main_arg5))
abbrev G6 := AdWgRefIdeal.Read.val_main_v38 (F := Ideal) (m ((c : Thread nD τ).loc main_arg0)) (m ((c : Thread nD τ).loc main_arg2))
  (m ((c : Thread nD τ).loc main_arg6))
abbrev G7 := AdWgRefIdeal.Read.val_main_v41 (F := Ideal) (m ((c : Thread nD τ).loc main_arg0)) (m ((c : Thread nD τ).loc main_arg3))
  (m ((c : Thread nD τ).loc main_arg7))

/-- The tile of the parts, no part of it cut off. -/
theorem part (t : Fin cfg0.N) (y : S8x256x2048.Idx) (j : S8x544x2048.Idx) (h0 : (j 0).val = (y 0).val) (h1 : (j 1).val = 256 + (y 1).val)
    (h2 : (j 2).val = (y 2).val) : X0_0 m c t y = (m ((c : Thread nD τ).loc main_arg0) : S8x544x2048.Idx → EReal) j := by
  have e0 := (index_maps t).1
  unfold X0_0 Pipeline.Window.fill
  rw [dif_pos (moved0_0 t y)]
  refine (congrFun (V_main_arg0 m c) _).trans (congrArg (m ((c : Thread nD τ).loc main_arg0) : S8x544x2048.Idx → EReal) ?_)
  funext a; apply Fin.ext
  match a with
  | ⟨0, _⟩ => show win0_0.index t (0 : Fin 3) * 8 + 1 * (y 0).val = (j 0).val; rw [e0, h0]; simp
  | ⟨1, _⟩ => show win0_0.index t (1 : Fin 3) * 256 + 1 * (y 1).val = (j 1).val; rw [e0, h1]; simp
  | ⟨2, _⟩ => show win0_0.index t (2 : Fin 3) * 2048 + 1 * (y 2).val = (j 2).val; rw [e0, h2]; simp

set_option maxHeartbeats 2000000 in
/-- A tile's four results at an entry: the reference's, in the layer's rows. -/
theorem inside (t : Fin cfg0.N) (y : S256x2048.Idx) :
    (outsAt0 m c t).1 y = G4 m c ((win0_4.blk t).view.emb y) ∧ (outsAt0 m c t).2.1 y = G5 m c ((win0_5.blk t).view.emb y)
    ∧ (outsAt0 m c t).2.2.1 y = G6 m c ((win0_6.blk t).view.emb y) ∧ (outsAt0 m c t).2.2.2 y = G7 m c ((win0_7.blk t).view.emb y) := by
  obtain ⟨e0, e1, e2, e3, e4, e5, e6, e7⟩ := index_maps t
  have ht : t.val < 1 := lt_of_lt_of_eq t.isLt N_0
  unfold outsAt0
  refine ⟨?_, ?_, ?_, ?_⟩
  all_goals
    frame_out
    pointwise [G4, G5, G6, G7, k0_pay4, k0_pay3, k0_pay2, k0_pay1, AdWgRefIdeal.Read.val_main_v0, AdWgRefIdeal.Read.val_main_v1, AdWgRefIdeal.Read.val_main_cst, AdWgRefIdeal.Read.val_main_v2, AdWgRefIdeal.Read.val_main_v3, AdWgRefIdeal.Read.val_main_v4, AdWgRefIdeal.Read.val_main_v5, AdWgRefIdeal.Read.val_main_cst_0, AdWgRefIdeal.Read.val_main_v6, AdWgRefIdeal.Read.val_main_v7, AdWgRefIdeal.Read.val_main_cst_1, AdWgRefIdeal.Read.val_main_v8, AdWgRefIdeal.Read.val_main_v9, AdWgRefIdeal.Read.val_main_v10, AdWgRefIdeal.Read.val_main_cst_2, AdWgRefIdeal.Read.val_main_v11, AdWgRefIdeal.Read.val_main_v12, AdWgRefIdeal.Read.val_main_v13, AdWgRefIdeal.Read.val_main_cst_3, AdWgRefIdeal.Read.val_main_v14, AdWgRefIdeal.Read.val_main_v15, AdWgRefIdeal.Read.val_main_v16, AdWgRefIdeal.Read.val_main_cst_4, AdWgRefIdeal.Read.val_main_v17, AdWgRefIdeal.Read.val_main_v18, AdWgRefIdeal.Read.val_main_cst_5, AdWgRefIdeal.Read.val_main_v19, AdWgRefIdeal.Read.val_main_v20, AdWgRefIdeal.Read.val_main_v21, AdWgRefIdeal.Read.val_main_cst_6, AdWgRefIdeal.Read.val_main_v22, AdWgRefIdeal.Read.val_main_v23, AdWgRefIdeal.Read.val_main_v24, AdWgRefIdeal.Read.val_main_cst_7, AdWgRefIdeal.Read.val_main_v25, AdWgRefIdeal.Read.val_main_v26, AdWgRefIdeal.Read.val_main_v27, AdWgRefIdeal.Read.val_main_cst_8, AdWgRefIdeal.Read.val_main_v28, AdWgRefIdeal.Read.val_main_v29, AdWgRefIdeal.Read.val_main_v30, AdWgRefIdeal.Read.val_main_v31, AdWgRefIdeal.Read.val_main_v32, AdWgRefIdeal.Read.val_main_v33, AdWgRefIdeal.Read.val_main_v34, AdWgRefIdeal.Read.val_main_v35, AdWgRefIdeal.Read.val_main_v36, AdWgRefIdeal.Read.val_main_v37, AdWgRefIdeal.Read.val_main_v38, AdWgRefIdeal.Read.val_main_v39, AdWgRefIdeal.Read.val_main_v40, AdWgRefIdeal.Read.val_main_v41]
    rw [dif_neg (by blk_simp [e4, e5, e6, e7]; omega), dif_pos (by blk_simp [e4, e5, e6, e7]; idx_bounds_all; omega)]
    try rw [Fin.sum_univ_eight]
    blk_point [iblk, V, e0, e1, e2, e3, e4, e5, e6, e7]
    all_goals exact part m c t (ix3 _ _ _) (ix3 _ _ _) rfl rfl (by blk_simp [e4, e5, e6, e7])

/-- The reference leaves the other layers' rows as they were given. -/
theorem outside (j : S512x2048.Idx) (hj : ¬ (j 0).val < 256) :
    m ((c : Thread nD τ).loc main_arg4) j = G4 m c j ∧ m ((c : Thread nD τ).loc main_arg5) j = G5 m c j
    ∧ m ((c : Thread nD τ).loc main_arg6) j = G6 m c j ∧ m ((c : Thread nD τ).loc main_arg7) j = G7 m c j := by
  refine ⟨?_, ?_, ?_, ?_⟩
  all_goals
    pointwise [G4, G5, G6, G7, AdWgRefIdeal.Read.val_main_v0, AdWgRefIdeal.Read.val_main_v1, AdWgRefIdeal.Read.val_main_cst, AdWgRefIdeal.Read.val_main_v2, AdWgRefIdeal.Read.val_main_v3, AdWgRefIdeal.Read.val_main_v4, AdWgRefIdeal.Read.val_main_v5, AdWgRefIdeal.Read.val_main_cst_0, AdWgRefIdeal.Read.val_main_v6, AdWgRefIdeal.Read.val_main_v7, AdWgRefIdeal.Read.val_main_cst_1, AdWgRefIdeal.Read.val_main_v8, AdWgRefIdeal.Read.val_main_v9, AdWgRefIdeal.Read.val_main_v10, AdWgRefIdeal.Read.val_main_cst_2, AdWgRefIdeal.Read.val_main_v11, AdWgRefIdeal.Read.val_main_v12, AdWgRefIdeal.Read.val_main_v13, AdWgRefIdeal.Read.val_main_cst_3, AdWgRefIdeal.Read.val_main_v14, AdWgRefIdeal.Read.val_main_v15, AdWgRefIdeal.Read.val_main_v16, AdWgRefIdeal.Read.val_main_cst_4, AdWgRefIdeal.Read.val_main_v17, AdWgRefIdeal.Read.val_main_v18, AdWgRefIdeal.Read.val_main_cst_5, AdWgRefIdeal.Read.val_main_v19, AdWgRefIdeal.Read.val_main_v20, AdWgRefIdeal.Read.val_main_v21, AdWgRefIdeal.Read.val_main_cst_6, AdWgRefIdeal.Read.val_main_v22, AdWgRefIdeal.Read.val_main_v23, AdWgRefIdeal.Read.val_main_v24, AdWgRefIdeal.Read.val_main_cst_7, AdWgRefIdeal.Read.val_main_v25, AdWgRefIdeal.Read.val_main_v26, AdWgRefIdeal.Read.val_main_v27, AdWgRefIdeal.Read.val_main_cst_8, AdWgRefIdeal.Read.val_main_v28, AdWgRefIdeal.Read.val_main_v29, AdWgRefIdeal.Read.val_main_v30, AdWgRefIdeal.Read.val_main_v31, AdWgRefIdeal.Read.val_main_v32, AdWgRefIdeal.Read.val_main_v33, AdWgRefIdeal.Read.val_main_v34, AdWgRefIdeal.Read.val_main_v35, AdWgRefIdeal.Read.val_main_v36, AdWgRefIdeal.Read.val_main_v37, AdWgRefIdeal.Read.val_main_v38, AdWgRefIdeal.Read.val_main_v39, AdWgRefIdeal.Read.val_main_v40, AdWgRefIdeal.Read.val_main_v41]
    (repeat' split) <;> first | (exfalso; omega) | blk_point [V]

theorem results : (dats m 0 c).arrAt 4 cfg0.N = G4 m c ∧ (dats m 0 c).arrAt 5 cfg0.N = G5 m c
    ∧ (dats m 0 c).arrAt 6 cfg0.N = G6 m c ∧ (dats m 0 c).arrAt 7 cfg0.N = G7 m c := by
  refine ⟨(dats m 0 c).arrAt_eq_of_coversWhere_of_agree 4 _ (fun β => β 0 < 1) (by decide +kernel) (fun t hf y => ?_) fun j hj => ?_,
    (dats m 0 c).arrAt_eq_of_coversWhere_of_agree 5 _ (fun β => β 0 < 1) (by decide +kernel) (fun t hf y => ?_) fun j hj => ?_,
    (dats m 0 c).arrAt_eq_of_coversWhere_of_agree 6 _ (fun β => β 0 < 1) (by decide +kernel) (fun t hf y => ?_) fun j hj => ?_,
    (dats m 0 c).arrAt_eq_of_coversWhere_of_agree 7 _ (fun β => β 0 < 1) (by decide +kernel) (fun t hf y => ?_) fun j hj => ?_⟩
  all_goals first | blk_simp [Pipeline.Window.cell_apply] at hj | blk_simp
  · rw [after0_4]; exact (inside m c t y).1
  · exact (outside m c j (by omega)).1
  · rw [after0_5]; exact (inside m c t y).2.1
  · exact (outside m c j (by omega)).2.1
  · rw [after0_6]; exact (inside m c t y).2.2.1
  · exact (outside m c j (by omega)).2.2.1
  · rw [after0_7]; exact (inside m c t y).2.2.2
  · exact (outside m c j (by omega)).2.2.2

theorem algebraic : Cert.algebraic_AdWgIdeal_AdWgRefIdeal (hAdWgIdeal := Cert.AdWgIdeal.Gen.facts) (hAdWgRefIdeal := Cert.AdWgRefIdeal.Gen.facts) :=
  fun m ρ m' ρ' _ hag => ⟨fun c => G4 m c, fun c => G5 m c, fun c => G6 m c, fun c => G7 m c,
    (θ_run _ _ _).mono (fun _ h c => ⟨(h c).1.trans (results m c).1, (h c).2.1.trans (results m c).2.1, (h c).2.2.1.trans (results m c).2.2.1,
      (h c).2.2.2.1.trans (results m c).2.2.2, (h c).2.2.2.2⟩) (Cert.AdWgIdeal.Value.run_blocks m ρ),
    (θ_run _ _ _).mono (fun _ h c => ⟨(h c).1.trans (by rw [AdWgRefIdeal.Read.val_main_v32_eq, (hag c).1, (hag c).2.2.2.2.1]),
      (h c).2.1.trans (by rw [AdWgRefIdeal.Read.val_main_v35_eq, (hag c).1, (hag c).2.1, (hag c).2.2.1, (hag c).2.2.2.1, (hag c).2.2.2.2.2.1]),
      (h c).2.2.1.trans (by rw [AdWgRefIdeal.Read.val_main_v38_eq, (hag c).1, (hag c).2.2.1, (hag c).2.2.2.2.2.2.1]),
      (h c).2.2.2.1.trans (by rw [AdWgRefIdeal.Read.val_main_v41_eq, (hag c).1, (hag c).2.2.2.1, (hag c).2.2.2.2.2.2.2]), (h c).2.2.2.2⟩)
      (Cert.AdWgRefIdeal.Value.run m' ρ')⟩

theorem ref_frame : Cert.quiescent_AdWgRefIdeal (hAdWgRefIdeal := Cert.AdWgRefIdeal.Gen.facts) :=
  fun m ρ _ => (θ_run _ _ _).mono (fun r h => ⟨fun c => (h c).2.2.2.2, sem_eq_zero_of_no_sems (by decide) r.2⟩) (Cert.AdWgRefIdeal.Value.run m ρ)

end Cert.AdWgIdeal.Entry

end
-- ==== Proof.AdWuVal.lean ====
/-
  The optimiser on one layer of the embedding's up-projection: the 32 rows of the layer of each of the four results are what the reference computes from the sum of
  the eight parts of the gradient, and the other rows are those it was given.
-/
module

public import proofs.«01_k».proof.Proof.Gen.AdWuIdeal.Value
public import proofs.«01_k».proof.Proof.Gen.AdWuRefIdeal.Read
public import proofs.«01_k».proof.Defs
public import Idealize.ShloMosaic.Lib.Pipeline.ValueKit
public import Idealize.ShloMosaic.Lib.Tactic

@[expose] public section

set_option maxRecDepth 16384

noncomputable section

namespace Cert.AdWuIdeal.Entry

open Cert.AdWuIdeal Cert.AdWuIdeal.Gen Cert.AdWuIdeal.Value Idealize.ShloMosaic Idealize.ShloMosaic.TcCoe Idealize.SL.Sem

variable (m : (ℓ : Loc nD τ sig) → Buf (Elt Ideal) ℓ) (c : Dev nD)

theorem index_maps : ∀ t : Fin cfg0.N, win0_0.index t = ![0, 16, 0] ∧ win0_1.index t = ![0, 0] ∧ win0_2.index t = ![0, 0]
    ∧ win0_3.index t = ![0, 0] ∧ win0_4.index t = ![0, 0] ∧ win0_5.index t = ![0, 0]
    ∧ win0_6.index t = ![0, 0] ∧ win0_7.index t = ![0, 0] :=
  (by decide +kernel : ∀ t : Fin grid0.N, _)

/-- The reference's gradient, delta and new moments. -/
abbrev G4 := AdWuRefIdeal.Read.val_main_v32 (F := Ideal) (m ((c : Thread nD τ).loc main_arg0)) (m ((c : Thread nD τ).loc main_arg4))
abbrev G5 := AdWuRefIdeal.Read.val_main_v35 (F := Ideal) (m ((c : Thread nD τ).loc main_arg0)) (m ((c : Thread nD τ).loc main_arg1))
  (m ((c : Thread nD τ).loc main_arg2)) (m ((c : Thread nD τ).loc main_arg3)) (m ((c : Thread nD τ).loc main_arg5))
abbrev G6 := AdWuRefIdeal.Read.val_main_v38 (F := Ideal) (m ((c : Thread nD τ).loc main_arg0)) (m ((c : Thread nD τ).loc main_arg2))
  (m ((c : Thread nD τ).loc main_arg6))
abbrev G7 := AdWuRefIdeal.Read.val_main_v41 (F := Ideal) (m ((c : Thread nD τ).loc main_arg0)) (m ((c : Thread nD τ).loc main_arg3))
  (m ((c : Thread nD τ).loc main_arg7))

set_option maxHeartbeats 2000000 in
/-- A tile's four results at an entry: the reference's, in the layer's rows. -/
theorem inside (t : Fin cfg0.N) (y : S32x2048.Idx) :
    (outsAt0 m c t).1 y = G4 m c ((win0_4.blk t).view.emb y) ∧ (outsAt0 m c t).2.1 y = G5 m c ((win0_5.blk t).view.emb y)
    ∧ (outsAt0 m c t).2.2.1 y = G6 m c ((win0_6.blk t).view.emb y) ∧ (outsAt0 m c t).2.2.2 y = G7 m c ((win0_7.blk t).view.emb y) := by
  obtain ⟨e0, e1, e2, e3, e4, e5, e6, e7⟩ := index_maps t
  have ht : t.val < 1 := lt_of_lt_of_eq t.isLt N_0
  unfold outsAt0
  refine ⟨?_, ?_, ?_, ?_⟩
  all_goals
    frame_out
    pointwise [G4, G5, G6, G7, k0_pay4, k0_pay3, k0_pay2, k0_pay1, AdWuRefIdeal.Read.val_main_v0, AdWuRefIdeal.Read.val_main_v1, AdWuRefIdeal.Read.val_main_cst, AdWuRefIdeal.Read.val_main_v2, AdWuRefIdeal.Read.val_main_v3, AdWuRefIdeal.Read.val_main_v4, AdWuRefIdeal.Read.val_main_v5, AdWuRefIdeal.Read.val_main_cst_0, AdWuRefIdeal.Read.val_main_v6, AdWuRefIdeal.Read.val_main_v7, AdWuRefIdeal.Read.val_main_cst_1, AdWuRefIdeal.Read.val_main_v8, AdWuRefIdeal.Read.val_main_v9, AdWuRefIdeal.Read.val_main_v10, AdWuRefIdeal.Read.val_main_cst_2, AdWuRefIdeal.Read.val_main_v11, AdWuRefIdeal.Read.val_main_v12, AdWuRefIdeal.Read.val_main_v13, AdWuRefIdeal.Read.val_main_cst_3, AdWuRefIdeal.Read.val_main_v14, AdWuRefIdeal.Read.val_main_v15, AdWuRefIdeal.Read.val_main_v16, AdWuRefIdeal.Read.val_main_cst_4, AdWuRefIdeal.Read.val_main_v17, AdWuRefIdeal.Read.val_main_v18, AdWuRefIdeal.Read.val_main_cst_5, AdWuRefIdeal.Read.val_main_v19, AdWuRefIdeal.Read.val_main_v20, AdWuRefIdeal.Read.val_main_v21, AdWuRefIdeal.Read.val_main_cst_6, AdWuRefIdeal.Read.val_main_v22, AdWuRefIdeal.Read.val_main_v23, AdWuRefIdeal.Read.val_main_v24, AdWuRefIdeal.Read.val_main_cst_7, AdWuRefIdeal.Read.val_main_v25, AdWuRefIdeal.Read.val_main_v26, AdWuRefIdeal.Read.val_main_v27, AdWuRefIdeal.Read.val_main_cst_8, AdWuRefIdeal.Read.val_main_v28, AdWuRefIdeal.Read.val_main_v29, AdWuRefIdeal.Read.val_main_v30, AdWuRefIdeal.Read.val_main_v31, AdWuRefIdeal.Read.val_main_v32, AdWuRefIdeal.Read.val_main_v33, AdWuRefIdeal.Read.val_main_v34, AdWuRefIdeal.Read.val_main_v35, AdWuRefIdeal.Read.val_main_v36, AdWuRefIdeal.Read.val_main_v37, AdWuRefIdeal.Read.val_main_v38, AdWuRefIdeal.Read.val_main_v39, AdWuRefIdeal.Read.val_main_v40, AdWuRefIdeal.Read.val_main_v41]
    rw [dif_neg (by blk_simp [e4, e5, e6, e7]; omega), dif_pos (by blk_simp [e4, e5, e6, e7]; idx_bounds_all; omega)]
    try rw [Fin.sum_univ_eight]
    blk_point [iblk, V, e0, e1, e2, e3, e4, e5, e6, e7]

/-- The reference leaves the other layers' rows as they were given. -/
theorem outside (j : S64x2048.Idx) (hj : ¬ (j 0).val < 32) :
    m ((c : Thread nD τ).loc main_arg4) j = G4 m c j ∧ m ((c : Thread nD τ).loc main_arg5) j = G5 m c j
    ∧ m ((c : Thread nD τ).loc main_arg6) j = G6 m c j ∧ m ((c : Thread nD τ).loc main_arg7) j = G7 m c j := by
  refine ⟨?_, ?_, ?_, ?_⟩
  all_goals
    pointwise [G4, G5, G6, G7, AdWuRefIdeal.Read.val_main_v0, AdWuRefIdeal.Read.val_main_v1, AdWuRefIdeal.Read.val_main_cst, AdWuRefIdeal.Read.val_main_v2, AdWuRefIdeal.Read.val_main_v3, AdWuRefIdeal.Read.val_main_v4, AdWuRefIdeal.Read.val_main_v5, AdWuRefIdeal.Read.val_main_cst_0, AdWuRefIdeal.Read.val_main_v6, AdWuRefIdeal.Read.val_main_v7, AdWuRefIdeal.Read.val_main_cst_1, AdWuRefIdeal.Read.val_main_v8, AdWuRefIdeal.Read.val_main_v9, AdWuRefIdeal.Read.val_main_v10, AdWuRefIdeal.Read.val_main_cst_2, AdWuRefIdeal.Read.val_main_v11, AdWuRefIdeal.Read.val_main_v12, AdWuRefIdeal.Read.val_main_v13, AdWuRefIdeal.Read.val_main_cst_3, AdWuRefIdeal.Read.val_main_v14, AdWuRefIdeal.Read.val_main_v15, AdWuRefIdeal.Read.val_main_v16, AdWuRefIdeal.Read.val_main_cst_4, AdWuRefIdeal.Read.val_main_v17, AdWuRefIdeal.Read.val_main_v18, AdWuRefIdeal.Read.val_main_cst_5, AdWuRefIdeal.Read.val_main_v19, AdWuRefIdeal.Read.val_main_v20, AdWuRefIdeal.Read.val_main_v21, AdWuRefIdeal.Read.val_main_cst_6, AdWuRefIdeal.Read.val_main_v22, AdWuRefIdeal.Read.val_main_v23, AdWuRefIdeal.Read.val_main_v24, AdWuRefIdeal.Read.val_main_cst_7, AdWuRefIdeal.Read.val_main_v25, AdWuRefIdeal.Read.val_main_v26, AdWuRefIdeal.Read.val_main_v27, AdWuRefIdeal.Read.val_main_cst_8, AdWuRefIdeal.Read.val_main_v28, AdWuRefIdeal.Read.val_main_v29, AdWuRefIdeal.Read.val_main_v30, AdWuRefIdeal.Read.val_main_v31, AdWuRefIdeal.Read.val_main_v32, AdWuRefIdeal.Read.val_main_v33, AdWuRefIdeal.Read.val_main_v34, AdWuRefIdeal.Read.val_main_v35, AdWuRefIdeal.Read.val_main_v36, AdWuRefIdeal.Read.val_main_v37, AdWuRefIdeal.Read.val_main_v38, AdWuRefIdeal.Read.val_main_v39, AdWuRefIdeal.Read.val_main_v40, AdWuRefIdeal.Read.val_main_v41]
    (repeat' split) <;> first | (exfalso; omega) | blk_point [V]

theorem results : (dats m 0 c).arrAt 4 cfg0.N = G4 m c ∧ (dats m 0 c).arrAt 5 cfg0.N = G5 m c
    ∧ (dats m 0 c).arrAt 6 cfg0.N = G6 m c ∧ (dats m 0 c).arrAt 7 cfg0.N = G7 m c := by
  refine ⟨(dats m 0 c).arrAt_eq_of_coversWhere_of_agree 4 _ (fun β => β 0 < 1) (by decide +kernel) (fun t hf y => ?_) fun j hj => ?_,
    (dats m 0 c).arrAt_eq_of_coversWhere_of_agree 5 _ (fun β => β 0 < 1) (by decide +kernel) (fun t hf y => ?_) fun j hj => ?_,
    (dats m 0 c).arrAt_eq_of_coversWhere_of_agree 6 _ (fun β => β 0 < 1) (by decide +kernel) (fun t hf y => ?_) fun j hj => ?_,
    (dats m 0 c).arrAt_eq_of_coversWhere_of_agree 7 _ (fun β => β 0 < 1) (by decide +kernel) (fun t hf y => ?_) fun j hj => ?_⟩
  all_goals first | blk_simp [Pipeline.Window.cell_apply] at hj | blk_simp
  · rw [after0_4]; exact (inside m c t y).1
  · exact (outside m c j (by omega)).1
  · rw [after0_5]; exact (inside m c t y).2.1
  · exact (outside m c j (by omega)).2.1
  · rw [after0_6]; exact (inside m c t y).2.2.1
  · exact (outside m c j (by omega)).2.2.1
  · rw [after0_7]; exact (inside m c t y).2.2.2
  · exact (outside m c j (by omega)).2.2.2

theorem algebraic : Cert.algebraic_AdWuIdeal_AdWuRefIdeal (hAdWuIdeal := Cert.AdWuIdeal.Gen.facts) (hAdWuRefIdeal := Cert.AdWuRefIdeal.Gen.facts) :=
  fun m ρ m' ρ' _ hag => ⟨fun c => G4 m c, fun c => G5 m c, fun c => G6 m c, fun c => G7 m c,
    (θ_run _ _ _).mono (fun _ h c => ⟨(h c).1.trans (results m c).1, (h c).2.1.trans (results m c).2.1, (h c).2.2.1.trans (results m c).2.2.1,
      (h c).2.2.2.1.trans (results m c).2.2.2, (h c).2.2.2.2⟩) (Cert.AdWuIdeal.Value.run_blocks m ρ),
    (θ_run _ _ _).mono (fun _ h c => ⟨(h c).1.trans (by rw [AdWuRefIdeal.Read.val_main_v32_eq, (hag c).1, (hag c).2.2.2.2.1]),
      (h c).2.1.trans (by rw [AdWuRefIdeal.Read.val_main_v35_eq, (hag c).1, (hag c).2.1, (hag c).2.2.1, (hag c).2.2.2.1, (hag c).2.2.2.2.2.1]),
      (h c).2.2.1.trans (by rw [AdWuRefIdeal.Read.val_main_v38_eq, (hag c).1, (hag c).2.2.1, (hag c).2.2.2.2.2.2.1]),
      (h c).2.2.2.1.trans (by rw [AdWuRefIdeal.Read.val_main_v41_eq, (hag c).1, (hag c).2.2.2.1, (hag c).2.2.2.2.2.2.2]), (h c).2.2.2.2⟩)
      (Cert.AdWuRefIdeal.Value.run m' ρ')⟩

theorem ref_frame : Cert.quiescent_AdWuRefIdeal (hAdWuRefIdeal := Cert.AdWuRefIdeal.Gen.facts) :=
  fun m ρ _ => (θ_run _ _ _).mono (fun r h => ⟨fun c => (h c).2.2.2.2, sem_eq_zero_of_no_sems (by decide) r.2⟩) (Cert.AdWuRefIdeal.Value.run m ρ)

end Cert.AdWuIdeal.Entry

end
-- ==== Proof.Gates.lean ====
/-
  The decay of the gated DeltaNet on one lane: the softplus and its derivative over the extended reals, and the sum over a
  window of a chunk's rows, as the reference takes it, against the product with a triangle of ones, as the call takes it.
-/
module

public import Idealize.ShloMosaic.Lib.Pointwise

@[expose] public section

noncomputable section

namespace Cert.Gates

open Idealize.ShloMosaic

/-! ## The softplus -/

/-- The logarithm of one plus the exponential, of the shape both programs take it in. -/
def softplus (x : EReal) : EReal := max x 0 + Ideal.log (1 + Ideal.exp (-(max x (-x))))

theorem log_pos {r : ℝ} (h : 0 < r) : Ideal.log (r : EReal) = (Real.log r : EReal) := by
  rw [Ideal.log_coe, if_neg (not_le.mpr h)]

theorem log_one : Ideal.log 1 = 0 := by
  rw [← EReal.coe_one, log_pos one_pos, Real.log_one, EReal.coe_zero]

theorem softplus_bot : softplus ⊥ = 0 := by
  simp [softplus, log_one]

theorem softplus_top : softplus ⊤ = ⊤ := by
  simp [softplus, log_one]

theorem softplus_coe (r : ℝ) : softplus (r : EReal) = ((Real.log (1 + Real.exp r) : ℝ) : EReal) := by
  have hp : (0 : ℝ) < 1 + Real.exp (-(max r (-r))) := by positivity
  have e : softplus (r : EReal) = ((max r 0 + Real.log (1 + Real.exp (-(max r (-r)))) : ℝ) : EReal) := by
    unfold softplus
    rw [← EReal.coe_neg, ← EReal.coe_strictMono.monotone.map_max, ← EReal.coe_neg, Ideal.exp_coe, ← EReal.coe_one, ← EReal.coe_add,
      log_pos hp, ← EReal.coe_zero, ← EReal.coe_strictMono.monotone.map_max, ← EReal.coe_add]
  rw [e]
  congr 1
  rcases le_total 0 r with h | h
  · rw [max_eq_left h, max_eq_left (by linarith), show 1 + Real.exp r = Real.exp r * (1 + Real.exp (-r)) by
      rw [mul_add, mul_one, ← Real.exp_add, add_neg_cancel, Real.exp_zero, add_comm],
      Real.log_mul (Real.exp_pos r).ne' (by positivity), Real.log_exp]
  · rw [max_eq_right h, max_eq_right (by linarith), neg_neg, zero_add]

/-- The softplus' derivative as the reference takes it, the exponential of a difference with the infinities taken out, is
    the logistic function. -/
theorem exp_sub_softplus (x : EReal) :
    Ideal.exp ((if x = ⊤ then 0 else x) - (if softplus x = ⊤ then 0 else softplus x)) = Ideal.logistic x := by
  induction x with
  | bot => simp [softplus_bot]
  | top =>
    have e : Ideal.exp 0 = 1 := by rw [← EReal.coe_zero, Ideal.exp_coe, Real.exp_zero, EReal.coe_one]
    simp [softplus_top, e]
  | coe r =>
    rw [softplus_coe, if_neg (EReal.coe_ne_top _), if_neg (EReal.coe_ne_top _), ← EReal.coe_sub, Ideal.exp_coe, Ideal.logistic_coe]
    congr 1
    have hp : (0 : ℝ) < 1 + Real.exp r := by positivity
    have hq : (0 : ℝ) < 1 + Real.exp (-r) := by positivity
    rw [Real.exp_sub, Real.exp_log hp, Real.exp_neg]
    field_simp
    ring

/-! ## Sums over a window of a chunk -/

theorem foldl_add {ι : Type} (g : ι → EReal) (l : List ι) (v : EReal) : l.foldl (fun r n => r + g n) v = v + (l.map g).sum := by
  induction l generalizing v with
  | nil => simp
  | cons a l ih => rw [List.foldl_cons, ih, List.map_cons, List.sum_cons, add_assoc]

abbrev Chunks : Shape := ⟨3, ![32, 64, 128]⟩

/-- The term one position of the window meets. -/
theorem window_term (o : ℕ) (x : Chunks.Idx → EReal) (p : Fin 32) (i : Fin 64) (l : Fin 128) (w : Shape.Idx ⟨3, ![1, 64, 1]⟩)
    (j : Fin 64) (hj : (w 1).val = j.val) (k : Fin 3 → ℕ) (hk : k = fun a => (ix3 p i l a).val * ![1, 1, 1] a + (w a).val)
    (d : Decidable (∀ a : Fin 3, ![0, o, 0] a ≤ k a ∧ k a - ![0, o, 0] a < Chunks.size a)) :
    (@dite EReal _ d (fun hin => x fun a => ⟨k a - ![0, o, 0] a, (hin a).2⟩) fun _ => 0)
      = if hin : o ≤ i.val + j.val ∧ i.val + j.val - o < 64 then x (ix3 p ⟨i.val + j.val - o, hin.2⟩ l) else 0 := by
  have w0 : (w 0).val = 0 := Nat.lt_one_iff.mp (w 0).isLt
  have w2 : (w 2).val = 0 := Nat.lt_one_iff.mp (w 2).isLt
  have k0 : k 0 = p.val := by rw [hk]; show p.val * 1 + (w 0).val = p.val; omega
  have k1 : k 1 = i.val + j.val := by rw [hk]; show i.val * 1 + (w 1).val = _; omega
  have k2 : k 2 = l.val := by rw [hk]; show l.val * 1 + (w 2).val = l.val; omega
  by_cases hin : o ≤ i.val + j.val ∧ i.val + j.val - o < 64
  · have hall : ∀ a : Fin 3, ![0, o, 0] a ≤ k a ∧ k a - ![0, o, 0] a < Chunks.size a := by
      intro a
      match a with
      | ⟨0, _⟩ => exact ⟨Nat.zero_le _, by show k 0 - 0 < 32; omega⟩
      | ⟨1, _⟩ => exact ⟨by show o ≤ k 1; omega, by show k 1 - o < 64; omega⟩
      | ⟨2, _⟩ => exact ⟨Nat.zero_le _, by show k 2 - 0 < 128; omega⟩
    rw [dif_pos hin, dif_pos hall]
    refine congrArg x (funext fun a => Fin.ext ?_)
    match a with
    | ⟨0, _⟩ => show k 0 - 0 = p.val; omega
    | ⟨1, _⟩ => show k 1 - o = i.val + j.val - o; omega
    | ⟨2, _⟩ => show k 2 - 0 = l.val; omega
  · rw [dif_neg hin, dif_neg]
    intro hall
    have a1 : o ≤ k 1 := (hall 1).1
    have a2 : k 1 - o < 64 := (hall 1).2
    rw [k1] at a1 a2
    exact hin ⟨a1, a2⟩

/-- The windowed sum down the rows of each chunk: the terms the 64 positions of the window meet. -/
theorem window_sum (o : ℕ) (hi : Fin 3 → ℕ) (x : Chunks.Idx → EReal) (h : Chunks.ReduceWindows ![1, 64, 1] ![1, 1, 1] ![0, o, 0] hi Chunks)
    (p : Fin 32) (i : Fin 64) (l : Fin 128) :
    Ideal.hostReduceWindowAdd (s := Chunks) ![1, 64, 1] ![1, 1, 1] ![0, o, 0] hi h x 0 (ix3 p i l)
      = ∑ j : Fin 64, if hin : o ≤ i.val + j.val ∧ i.val + j.val - o < 64 then x (ix3 p ⟨i.val + j.val - o, hin.2⟩ l) else 0 := by
  unfold Ideal.hostReduceWindowAdd Host.reduceWindow
  dsimp only
  rw [foldl_add, zero_add, ← Fin.sum_univ_def]
  have hb : Function.Bijective fun w : Shape.Idx ⟨3, ![1, 64, 1]⟩ => (w 1 : Fin 64) := by
    refine ⟨fun w w' hw => funext fun a => ?_, fun j => ⟨ix3 (0 : Fin 1) j (0 : Fin 1), rfl⟩⟩
    match a with
    | ⟨0, _⟩ => exact Subsingleton.elim (α := Fin 1) _ _
    | ⟨1, _⟩ => exact hw
    | ⟨2, _⟩ => exact Subsingleton.elim (α := Fin 1) _ _
  exact Fintype.sum_bijective (fun n => ((Shape.rowMajor ⟨3, ![1, 64, 1]⟩).symm n 1 : Fin 64))
    (hb.comp (Shape.rowMajor ⟨3, ![1, 64, 1]⟩).symm.bijective) _ _ fun n =>
      window_term o x p i l ((Shape.rowMajor ⟨3, ![1, 64, 1]⟩).symm n) _ rfl _ rfl _

/-- The rows from `i` on, picked by a mask and met by a window. -/
theorem mask_from (f : Fin 64 → EReal) (i : Fin 64) :
    ∑ k : Fin 64, (if i.val ≤ k.val then 1 else 0) * f k
      = ∑ j : Fin 64, if hin : 0 ≤ i.val + j.val ∧ i.val + j.val - 0 < 64 then f ⟨i.val + j.val - 0, hin.2⟩ else 0 := by
  set F : ℕ → EReal := fun n => if h : n < 64 then f ⟨n, h⟩ else 0 with hF
  have eL : ∀ k : Fin 64, ((if i.val ≤ k.val then 1 else 0) * f k : EReal) = if i.val ≤ k.val then F k.val else 0 := by
    intro k
    rw [hF]; dsimp only
    rw [dif_pos k.isLt, ite_mul, one_mul, zero_mul]
  have eR : ∀ j : Fin 64, (if hin : 0 ≤ i.val + j.val ∧ i.val + j.val - 0 < 64 then f ⟨i.val + j.val - 0, hin.2⟩ else 0) = F (i.val + j.val) := by
    intro j
    simp [hF]
  rw [Finset.sum_congr rfl fun k _ => eL k, Finset.sum_congr rfl fun k _ => eR k,
    Fin.sum_univ_eq_sum_range (fun k => if i.val ≤ k then F k else 0) 64, Fin.sum_univ_eq_sum_range (fun k => F (i.val + k)) 64,
    ← Finset.sum_filter]
  have e2 := Finset.sum_Ico_eq_sum_range F i.val (i.val + 64)
  rw [Nat.add_sub_cancel_left] at e2
  rw [← e2]
  refine Finset.sum_subset (fun n hn => ?_) (fun n hn hm => ?_)
  · simp only [Finset.mem_filter, Finset.mem_range, Finset.mem_Ico] at hn ⊢
    omega
  · simp only [Finset.mem_filter, Finset.mem_range, Finset.mem_Ico, not_and, not_le] at hn hm
    rw [hF]; dsimp only
    rw [dif_neg fun h => absurd (hm h) (by omega)]

/-- The rows up to `i`, picked by a mask and met by a window: `mask_from` read from the end. -/
theorem mask_upto (f : Fin 64 → EReal) (i : Fin 64) :
    ∑ k : Fin 64, (if k.val ≤ i.val then 1 else 0) * f k
      = ∑ j : Fin 64, if hin : 63 ≤ i.val + j.val ∧ i.val + j.val - 63 < 64 then f ⟨i.val + j.val - 63, hin.2⟩ else 0 := by
  have e := mask_from (fun k => f k.rev) i.rev
  rw [← Equiv.sum_comp Fin.revPerm, ← Equiv.sum_comp Fin.revPerm (fun j : Fin 64 =>
    if hin : 63 ≤ i.val + j.val ∧ i.val + j.val - 63 < 64 then f ⟨i.val + j.val - 63, hin.2⟩ else 0)]
  refine Eq.trans (Finset.sum_congr rfl fun k _ => ?_) (e.trans (Finset.sum_congr rfl fun j _ => ?_))
  · have hi := i.isLt; have hk := k.isLt
    simp only [Fin.revPerm_apply, Fin.val_rev]
    exact congrArg (· * _) (if_congr (by omega) rfl rfl)
  · have hi := i.isLt; have hj := j.isLt
    simp only [Fin.revPerm_apply, Fin.val_rev]
    by_cases h : 64 - (i.val + 1) + j.val < 64
    · rw [dif_pos ⟨Nat.zero_le _, by omega⟩, dif_pos ⟨by omega, by omega⟩]
      exact congrArg f (Fin.ext (by simp only [Fin.val_rev]; omega))
    · rw [dif_neg (by omega), dif_neg (by omega)]

/-- A chunk's row number as a word. -/
theorem toInt_ofNat (n : Fin 64) : (BitVec.ofNat 32 n.val).toInt = n.val := by
  rw [BitVec.toInt_ofNat', Int.bmod_eq_of_le (by omega) (by omega)]

end Cert.Gates

end
-- ==== Proof.GateBVal.lean ====
/-
  The gradients of the write strength and of the decay: a grid over blocks of 512 rows, that is of eight chunks.
-/
module

public import proofs.«01_k».proof.Proof.Gen.GateBIdeal.Value
public import proofs.«01_k».proof.Proof.Gen.GateBRefIdeal.Read
public import proofs.«01_k».proof.Proof.Gen.Pre_gateb_finite
public import proofs.«01_k».proof.Proof.Gates
public import proofs.«01_k».proof.Proof.Blocks
public import proofs.«01_k».proof.Defs
public import Idealize.ShloMosaic.Lib.Pipeline.ValueKit
public import Idealize.ShloMosaic.Lib.Tactic

@[expose] public section

set_option maxRecDepth 16384

noncomputable section

namespace Cert.GateBIdeal.Entry

open Cert.GateBIdeal Cert.GateBIdeal.Gen Cert.GateBIdeal.Value Idealize.ShloMosaic Idealize.ShloMosaic.TcCoe Idealize.SL.Sem Cert.Blocks
open Cert.Gates

/-! ## The call's payloads -/

theorem mask_apply (i k : Fin 64) : k0_pay6 (F := Ideal) (ix2 i k) = if i.val ≤ k.val then 1 else 0 := by
  have hn : ∀ n : Fin 64, (BitVec.ofNat 32 n.val).toInt = n.val := by
    intro n
    rw [BitVec.toInt_ofNat', Int.bmod_eq_of_le (by omega) (by omega)]
  have h1 : FloatOps.sitofp (F := Ideal) .f32 (1#32) = 1 := by
    show (((1#32 : BitVec 32).toInt : ℝ) : EReal) = 1
    simp
  have h0 : FloatOps.sitofp (F := Ideal) .f32 (0#32) = 0 := by
    show (((0#32 : BitVec 32).toInt : ℝ) : EReal) = 0
    simp
  pointwise [k0_pay6]
  by_cases h : i.val ≤ k.val
  · simp [h, IntOp.cmpi, BitVec.sle, hn, h1]
  · simp [h, IntOp.cmpi, BitVec.sle, hn, h0]

/-- The sum over the later rows of row `n`'s chunk. -/
def later {M N : ℕ} (d : (Cert.Whole.Mat M N).Idx → EReal) (n l : ℕ) : EReal :=
  ∑ k : Fin 64, (if n % 64 ≤ k.val then 1 else 0) * at2 d (64 * (n / 64) + k.val) l

section Payloads

variable (a d e : FVec Ideal S512x128 .f32) (w v : FVec Ideal S1x128 .f32) (r : Fin 512) (i : Fin 64) (l : Fin 128)

theorem strength_apply : k0_pay3 (F := Ideal) a e (ix2 r l) = e (ix2 r l) * Ideal.logistic (a (ix2 r l)) * (1 - Ideal.logistic (a (ix2 r l))) := by
  pointwise [k0_pay3]

theorem pre_apply : k0_pay4 (F := Ideal) a v (ix2 r l) = a (ix2 r l) + v (ix2 0 l) := by
  pointwise [k0_pay4]

theorem rate_apply : k0_pay5 (F := Ideal) w (ix2 0 l) = -Ideal.exp (w (ix2 0 l)) := by
  pointwise [k0_pay5]
  exact zero_sub _

/-- The sums over the chunks' later rows, the eight chunks of a block side by side. -/
abbrev sums : FVec Ideal S512x128 .f32 :=
  k0_pay12 (F := Ideal) k0_pay6 d (k0_pay7 d) (k0_pay8 d) (k0_pay9 d) (k0_pay10 d) (k0_pay11 d)

theorem chunk (o s : ℕ) (ho : r.val = o + s) (hs : s < 64) (hm : o % 64 = 0) (h : ∀ k : Fin 64, o + k.val < 512) :
    ∑ k : Fin 64, (if s ≤ k.val then 1 else 0) * d (ix2 ⟨o + k.val, h k⟩ l) = later d r.val l.val := by
  unfold later
  rw [show r.val % 64 = s by omega]
  exact Finset.sum_congr rfl fun k _ => congrArg _ (at2_of d _ _ _ (by show o + k.val = _; omega) rfl)

theorem either {p : Prop} [Decidable p] {f : p → EReal} {g : ¬p → EReal} {z : EReal} (hf : ∀ h, f h = z) (hg : ∀ h, g h = z) :
    dite p f g = z := by
  by_cases h : p
  · rw [dif_pos h, hf]
  · rw [dif_neg h, hg]

theorem sums_apply : sums d (ix2 r l) = later d r.val l.val := by
  have hr := r.isLt
  pointwise [sums, k0_pay12, k0_pay7, k0_pay8, k0_pay9, k0_pay10, k0_pay11]
  simp only [mask_apply]
  refine either (fun _ => ?_) fun _ => either (fun _ => ?_) fun _ => either (fun _ => ?_) fun _ => either (fun _ => ?_) fun _ =>
    either (fun _ => ?_) fun _ => either (fun _ => ?_) fun _ => either (fun _ => ?_) fun _ => ?_
  · have e := chunk d r l 0 r.val (by omega) (by omega) rfl (by omega)
    simpa only [zero_add] using e
  · exact chunk d r l 64 _ (by omega) (by omega) rfl _
  · exact chunk d r l 128 _ (by omega) (by omega) rfl _
  · exact chunk d r l 192 _ (by omega) (by omega) rfl _
  · exact chunk d r l 256 _ (by omega) (by omega) rfl _
  · exact chunk d r l 320 _ (by omega) (by omega) rfl _
  · exact chunk d r l 384 _ (by omega) (by omega) rfl _
  · exact chunk d r l 448 _ (by omega) (by omega) rfl _

theorem decay_apply : k0_pay13 (F := Ideal) a w k0_pay6 d (k0_pay7 d) (k0_pay8 d) (k0_pay9 d) (k0_pay10 d) (k0_pay11 d) (ix2 r l)
    = sums d (ix2 r l) * w (ix2 0 l) * Ideal.logistic (a (ix2 r l)) := by
  pointwise [k0_pay13]

theorem bias_apply : k0_pay15 (F := Ideal) a w k0_pay6 d (k0_pay7 d) (k0_pay8 d) (k0_pay9 d) (k0_pay10 d) (k0_pay11 d) v (ix2 0 l)
    = v (ix2 0 l) + ∑ r : Fin 512, sums d (ix2 r l) * w (ix2 0 l) * Ideal.logistic (a (ix2 r l)) := by
  pointwise [k0_pay15]
  simp only [decay_apply]

theorem log_apply : k0_pay16 (F := Ideal) a w k0_pay6 d (k0_pay7 d) (k0_pay8 d) (k0_pay9 d) (k0_pay10 d) (k0_pay11 d) v (ix2 0 l)
    = v (ix2 0 l) + ∑ r : Fin 512, sums d (ix2 r l) * w (ix2 0 l) * softplus (a (ix2 r l)) := by
  pointwise [k0_pay16, softplus]
  simp only [zero_sub]
  rfl

end Payloads

/-! ## The reference -/

section Reference

variable (x0 : (⟨S2048x8448, .f32⟩ : BufTy).Contents (Elt Ideal)) (x1 x2 : (⟨S1x128, .f32⟩ : BufTy).Contents (Elt Ideal))
  (x3 x4 : (⟨S2048x128, .f32⟩ : BufTy).Contents (Elt Ideal)) (r : Fin 2048) (l : Fin 128)

/-- The decay's input: its projection and its bias. -/
abbrev pre (n : ℕ) : EReal := at2 x0 n (8320 + l.val) + x2 (ix2 0 l)

theorem ref_strength : GateBRefIdeal.Read.val_main_v35 (F := Ideal) x0 x3 (ix2 r l)
    = x3 (ix2 r l) * Ideal.logistic (at2 x0 r.val (8192 + l.val)) * (1 - Ideal.logistic (at2 x0 r.val (8192 + l.val))) := by
  pointwise [GateBRefIdeal.Read.val_main_v35, GateBRefIdeal.Read.val_main_v24, GateBRefIdeal.Read.val_main_v17, GateBRefIdeal.Read.val_main_v16, GateBRefIdeal.Read.val_main_v15, GateBRefIdeal.Read.val_main_cst_1, GateBRefIdeal.Read.val_main_v14, GateBRefIdeal.Read.val_main_v13, GateBRefIdeal.Read.val_main_cst_0, GateBRefIdeal.Read.val_main_v12, GateBRefIdeal.Read.val_main_v11, GateBRefIdeal.Read.val_main_cst, GateBRefIdeal.Read.val_main_v10, GateBRefIdeal.Read.val_main_v9, GateBRefIdeal.Read.val_main_v0]
  have e : x0 (ix2 r ⟨8192 + l.val, by omega⟩) = at2 x0 r.val (8192 + l.val) := at2_of x0 _ _ _ rfl rfl
  rw [← e, mul_assoc]
  rfl

theorem ref_pre : GateBRefIdeal.Read.val_main_v4 (F := Ideal) x0 x2 (ix2 r l) = pre x0 x2 l r.val := by
  pointwise [GateBRefIdeal.Read.val_main_v4, GateBRefIdeal.Read.val_main_v3, GateBRefIdeal.Read.val_main_v1]
  exact congrArg (· + _) (at2_of x0 _ _ _ rfl rfl)

theorem ref_softplus : GateBRefIdeal.Read.val_main_v5_0 (F := Ideal) x0 x2 (ix2 r l) = softplus (pre x0 x2 l r.val) := by
  pointwise [GateBRefIdeal.Read.val_main_v5_0, GateBRefIdeal.Read.val_main_call0_v0, GateBRefIdeal.Read.val_main_call0_v1, GateBRefIdeal.Read.val_main_call0_v2, GateBRefIdeal.Read.val_main_call0_v3, GateBRefIdeal.Read.val_main_call0_v4, GateBRefIdeal.Read.val_main_call0_v5, GateBRefIdeal.Read.val_main_call0_v6, GateBRefIdeal.Read.val_main_call0_v7, GateBRefIdeal.Read.val_main_call0_v8, GateBRefIdeal.Read.val_main_call0_v9, GateBRefIdeal.Read.val_main_call0_v10, GateBRefIdeal.Read.val_main_call0_v11, GateBRefIdeal.Read.val_main_call0_cst]
  simp only [ref_pre]
  rw [if_neg (not_not.mpr rfl)]
  rfl

theorem ref_logistic : GateBRefIdeal.Read.val_main_v5_1 (F := Ideal) x0 x2 (ix2 r l) = Ideal.logistic (pre x0 x2 l r.val) := by
  rw [← exp_sub_softplus]
  pointwise [GateBRefIdeal.Read.val_main_v5_1, GateBRefIdeal.Read.val_main_call0_v13, GateBRefIdeal.Read.val_main_call0_v14, GateBRefIdeal.Read.val_main_call0_v15, GateBRefIdeal.Read.val_main_call0_v16, GateBRefIdeal.Read.val_main_call0_v17, GateBRefIdeal.Read.val_main_call0_v18, GateBRefIdeal.Read.val_main_call0_v19, GateBRefIdeal.Read.val_main_call0_v20, GateBRefIdeal.Read.val_main_call0_v21, GateBRefIdeal.Read.val_main_call0_cst_0, GateBRefIdeal.Read.val_main_call0_cst_1, GateBRefIdeal.Read.val_main_call0_cst_2, GateBRefIdeal.Read.val_main_call0_cst_3]
  simp only [ref_pre, ref_softplus]
  have e : Ideal.ofBits .f32 2139095040#32 = ⊤ := by simp [Ideal.ofBits, Ideal.ieee]
  rw [e]

theorem ref_sums : GateBRefIdeal.Read.val_main_v23 (F := Ideal) x4 (ix2 r l) = later x4 r.val l.val := by
  pointwise [GateBRefIdeal.Read.val_main_v23, GateBRefIdeal.Read.val_main_v22, GateBRefIdeal.Read.val_main_v21, GateBRefIdeal.Read.val_main_call2_call0_cst, GateBRefIdeal.Read.val_main_call2_call0_v0]
  have e := window_sum 0 ![0, 63, 0] (shapeCast GateBRefIdeal.S32x64x128 x4 GateBRefIdeal.Gen.shapeCasts_S2048x128_S32x64x128)
    GateBRefIdeal.Gen.reduceWindows_S32x64x128_S32x64x128_w1s1p0_0_w64s1p0_63_w1s1p0_0 ⟨r.val / 64, by omega⟩ ⟨r.val % 64, by omega⟩ l
  refine Eq.trans ?_ (e.trans ?_)
  · unfold Host.reduceWindowAdd
    rw [Ideal.hostReduceWindowAdd_def]
    pointwise
  · rw [← mask_from (fun k => shapeCast GateBRefIdeal.S32x64x128 x4 GateBRefIdeal.Gen.shapeCasts_S2048x128_S32x64x128
      (ix3 ⟨r.val / 64, by omega⟩ k l))]
    refine Finset.sum_congr rfl fun k _ => congrArg _ ?_
    pointwise
    exact at2_of x4 _ _ _ (by show r.val / 64 * 64 + k.val = _; omega) rfl

theorem ref_decay : GateBRefIdeal.Read.val_main_v31 (F := Ideal) x0 x1 x2 x4 (ix2 r l)
    = later x4 r.val l.val * -Ideal.exp (x1 (ix2 0 l)) * Ideal.logistic (pre x0 x2 l r.val) := by
  pointwise [GateBRefIdeal.Read.val_main_v31, GateBRefIdeal.Read.val_main_v27, GateBRefIdeal.Read.val_main_v26, GateBRefIdeal.Read.val_main_v25, GateBRefIdeal.Read.val_main_v2]
  simp only [ref_sums, ref_logistic]
  rw [mul_neg, mul_neg, mul_comm (Ideal.exp _)]

theorem ref_bias : GateBRefIdeal.Read.val_main_v33 (F := Ideal) x0 x1 x2 x4 (ix2 0 l)
    = ∑ r : Fin 2048, later x4 r.val l.val * -Ideal.exp (x1 (ix2 0 l)) * Ideal.logistic (pre x0 x2 l r.val) := by
  pointwise [GateBRefIdeal.Read.val_main_v33, GateBRefIdeal.Read.val_main_v32, GateBRefIdeal.Read.val_main_cst_3]
  simp only [ref_decay]

theorem sum_mul {ι : Type} (S : Finset ι) (f : ι → EReal) (E : EReal) (h0 : 0 ≤ E) (ht : E ≠ ⊤) : (∑ i ∈ S, f i) * E = ∑ i ∈ S, f i * E := by
  classical
  induction S using Finset.induction_on with
  | empty => simp
  | insert a S ha ih => rw [Finset.sum_insert ha, Finset.sum_insert ha, EReal.right_distrib_of_nonneg_of_ne_top h0 ht, ih]

theorem exp_nonneg (x : EReal) : 0 ≤ Ideal.exp x := by
  induction x with
  | bot => exact le_rfl
  | top => exact le_top
  | coe r => exact EReal.coe_nonneg.mpr (Real.exp_pos r).le

theorem exp_ne_top {x : EReal} (h : x ≠ ⊤) : Ideal.exp x ≠ ⊤ := by
  induction x with
  | bot => exact EReal.zero_ne_top
  | top => exact absurd rfl h
  | coe r => exact EReal.coe_ne_top _

theorem ref_log (h : x1 (ix2 0 l) ≠ ⊤) : GateBRefIdeal.Read.val_main_v34 (F := Ideal) x0 x1 x2 x4 (ix2 0 l)
    = ∑ r : Fin 2048, later x4 r.val l.val * -Ideal.exp (x1 (ix2 0 l)) * softplus (pre x0 x2 l r.val) := by
  pointwise [GateBRefIdeal.Read.val_main_v34, GateBRefIdeal.Read.val_main_v30, GateBRefIdeal.Read.val_main_v29, GateBRefIdeal.Read.val_main_v28, GateBRefIdeal.Read.val_main_v25, GateBRefIdeal.Read.val_main_cst_2, GateBRefIdeal.Read.val_main_v2]
  simp only [ref_sums, ref_softplus]
  rw [sum_mul _ _ _ (exp_nonneg _) (exp_ne_top h)]
  refine Finset.sum_congr rfl fun r _ => ?_
  rw [mul_neg, neg_mul, neg_mul, neg_mul, mul_right_comm]

end Reference

variable (m : (ℓ : Loc nD τ sig) → Buf (Elt Ideal) ℓ) (c : Dev nD)

/-! ## The cases of a grid point -/

/-- What a point leaves: the two gradients of its rows, and the two running sums over what the point found. -/
def outs (t : Fin cfg0.N) (u v : FVec Ideal S1x128 .f32) :
    FVec Ideal S512x128 .bf16 × FVec Ideal S512x128 .bf16 × FVec Ideal S1x128 .f32 × FVec Ideal S1x128 .f32 :=
  (k0_pay3 (iblk m c 0 t) (iblk m c 4 t),
    k0_pay14 (k0_pay4 (iblk m c 1 t) (iblk m c 3 t)) (k0_pay5 (iblk m c 2 t)) k0_pay6 (iblk m c 5 t) (k0_pay7 (iblk m c 5 t))
      (k0_pay8 (iblk m c 5 t)) (k0_pay9 (iblk m c 5 t)) (k0_pay10 (iblk m c 5 t)) (k0_pay11 (iblk m c 5 t)),
    k0_pay16 (k0_pay4 (iblk m c 1 t) (iblk m c 3 t)) (k0_pay5 (iblk m c 2 t)) k0_pay6 (iblk m c 5 t) (k0_pay7 (iblk m c 5 t))
      (k0_pay8 (iblk m c 5 t)) (k0_pay9 (iblk m c 5 t)) (k0_pay10 (iblk m c 5 t)) (k0_pay11 (iblk m c 5 t)) u,
    k0_pay15 (k0_pay4 (iblk m c 1 t) (iblk m c 3 t)) (k0_pay5 (iblk m c 2 t)) k0_pay6 (iblk m c 5 t) (k0_pay7 (iblk m c 5 t))
      (k0_pay8 (iblk m c 5 t)) (k0_pay9 (iblk m c 5 t)) (k0_pay10 (iblk m c 5 t)) (k0_pay11 (iblk m c 5 t)) v)

theorem first (t : Fin cfg0.N) (h0 : t.val % 4 = 0) : outsAt0 m c t.val t.isLt = outs m c t (k0_pay1 (F := Ideal)) (k0_pay2 (F := Ideal)) := by
  rw [outsAt0_A m c t h0]
  refine Prod.ext ?_ (Prod.ext ?_ (Prod.ext ?_ ?_))
  · dsimp only [outs]; unfold out0_A_6; frame_out
  · dsimp only [outs]; unfold out0_A_7; frame_out
  · dsimp only [outs]; unfold out0_A_8; frame_out
  · dsimp only [outs]; unfold out0_A_9; frame_out

theorem next (n : ℕ) (h : n + 1 < cfg0.N) (h0 : ¬(n + 1) % 4 = 0) : outsAt0 m c (n + 1) h
    = outs m c ⟨n + 1, h⟩ (outsAt0 m c n (Nat.lt_of_succ_lt h)).2.2.1 (outsAt0 m c n (Nat.lt_of_succ_lt h)).2.2.2 := by
  rw [outsAt0_B m c ⟨n + 1, h⟩ h0]
  refine Prod.ext ?_ (Prod.ext ?_ (Prod.ext ?_ ?_))
  · dsimp only [outs]; unfold out0_B_6; frame_out
  · dsimp only [outs]; unfold out0_B_7; frame_out
  · dsimp only [outs]; unfold out0_B_8; frame_out; rfl
  · dsimp only [outs]; unfold out0_B_9; frame_out; rfl

/-! ## The blocks' rows -/

abbrev proj : S2048x8448.Idx → EReal := m ((c : Thread nD τ).loc main_arg0)
abbrev rate : S1x128.Idx → EReal := m ((c : Thread nD τ).loc main_arg1)
abbrev bias : S1x128.Idx → EReal := m ((c : Thread nD τ).loc main_arg2)
abbrev dst : S2048x128.Idx → EReal := m ((c : Thread nD τ).loc main_arg3)
abbrev ddec : S2048x128.Idx → EReal := m ((c : Thread nD τ).loc main_arg4)

theorem index_maps : ∀ t : Fin cfg0.N, win0_0.index t = ![t.val, 64] ∧ win0_1.index t = ![t.val, 65] ∧ win0_2.index t = ![0, 0]
    ∧ win0_3.index t = ![0, 0] ∧ win0_4.index t = ![t.val, 0] ∧ win0_5.index t = ![t.val, 0] ∧ win0_6.index t = ![t.val, 0]
    ∧ win0_7.index t = ![t.val, 0] ∧ win0_8.index t = ![0, 0] ∧ win0_9.index t = ![0, 0] :=
  (by decide +kernel : ∀ t : Fin grid0.N, _)

section Blocks

variable (t : Fin cfg0.N) (r : Fin 512) (l : Fin 128)

theorem block0 : iblk m c 0 t (ix2 r l) = at2 (proj m c) (512 * t.val + r.val) (8192 + l.val) := by
  obtain ⟨e0, e1, e2, e3, e4, e5, e6, e7, e8, e9⟩ := index_maps t
  blk_simp [iblk]
  refine at2_of (proj m c) _ _ _ ?_ ?_ <;> blk_simp [e0] <;> omega

theorem block1 : iblk m c 1 t (ix2 r l) = at2 (proj m c) (512 * t.val + r.val) (8320 + l.val) := by
  obtain ⟨e0, e1, e2, e3, e4, e5, e6, e7, e8, e9⟩ := index_maps t
  blk_simp [iblk]
  refine at2_of (proj m c) _ _ _ ?_ ?_ <;> blk_simp [e1] <;> omega

theorem block4 : iblk m c 4 t (ix2 r l) = at2 (dst m c) (512 * t.val + r.val) l.val := by
  obtain ⟨e0, e1, e2, e3, e4, e5, e6, e7, e8, e9⟩ := index_maps t
  blk_simp [iblk]
  refine at2_of (dst m c) _ _ _ ?_ ?_ <;> blk_simp [e4] <;> omega

theorem block5 : iblk m c 5 t (ix2 r l) = at2 (ddec m c) (512 * t.val + r.val) l.val := by
  obtain ⟨e0, e1, e2, e3, e4, e5, e6, e7, e8, e9⟩ := index_maps t
  blk_simp [iblk]
  refine at2_of (ddec m c) _ _ _ ?_ ?_ <;> blk_simp [e5] <;> omega

theorem block2 : iblk m c 2 t (ix2 0 l) = rate m c (ix2 0 l) := by
  obtain ⟨e0, e1, e2, e3, e4, e5, e6, e7, e8, e9⟩ := index_maps t
  blk_simp [iblk]
  refine congrArg (rate m c) (funext fun a => Fin.ext ?_)
  match a with
  | ⟨0, _⟩ => blk_simp [e2]
  | ⟨1, _⟩ => blk_simp [e2]

theorem block3 : iblk m c 3 t (ix2 0 l) = bias m c (ix2 0 l) := by
  obtain ⟨e0, e1, e2, e3, e4, e5, e6, e7, e8, e9⟩ := index_maps t
  blk_simp [iblk]
  refine congrArg (bias m c) (funext fun a => Fin.ext ?_)
  match a with
  | ⟨0, _⟩ => blk_simp [e3]
  | ⟨1, _⟩ => blk_simp [e3]

/-- A block holds whole chunks. -/
theorem later_block : later (iblk m c 5 t : S512x128.Idx → EReal) r.val l.val = later (ddec m c) (512 * t.val + r.val) l.val := by
  have hr := r.isLt
  unfold later
  rw [show (512 * t.val + r.val) % 64 = r.val % 64 by omega, show 64 * ((512 * t.val + r.val) / 64) = 512 * t.val + 64 * (r.val / 64) by omega]
  refine Finset.sum_congr rfl fun k _ => congrArg _ ?_
  have hk : 64 * (r.val / 64) + k.val < 512 := by omega
  rw [Nat.add_assoc]
  exact (at2_ix2 (iblk m c 5 t : S512x128.Idx → EReal) ⟨_, hk⟩ l).trans (block5 m c t ⟨_, hk⟩ l)

end Blocks

/-- Row `n`'s gradient at the decay's input, and its share of the rate's gradient. -/
def decayTerm (l : Fin 128) (n : ℕ) : EReal :=
  later (ddec m c) n l.val * -Ideal.exp (rate m c (ix2 0 l)) * Ideal.logistic (pre (proj m c) (bias m c) l n)
def rateTerm (l : Fin 128) (n : ℕ) : EReal :=
  later (ddec m c) n l.val * -Ideal.exp (rate m c (ix2 0 l)) * softplus (pre (proj m c) (bias m c) l n)

section Steps

variable (t : Fin cfg0.N) (u v : FVec Ideal S1x128 .f32) (r : Fin 512) (l : Fin 128)

theorem strength_step : (outs m c t u v).1 (ix2 r l) = at2 (dst m c) (512 * t.val + r.val) l.val
      * Ideal.logistic (at2 (proj m c) (512 * t.val + r.val) (8192 + l.val))
      * (1 - Ideal.logistic (at2 (proj m c) (512 * t.val + r.val) (8192 + l.val))) := by
  unfold outs
  refine (strength_apply _ _ r l).trans ?_
  rw [block0, block4]

theorem decay_step : (outs m c t u v).2.1 (ix2 r l) = decayTerm m c l (512 * t.val + r.val) := by
  unfold outs decayTerm
  refine (decay_apply _ _ _ r l).trans ?_
  rw [sums_apply, rate_apply, pre_apply, block1, block2, block3, later_block]

theorem rate_step : (outs m c t u v).2.2.1 (ix2 0 l) = u (ix2 0 l) + ∑ r : Fin 512, rateTerm m c l (512 * t.val + r.val) := by
  unfold outs rateTerm
  refine (log_apply _ _ _ _ l).trans ?_
  simp only [sums_apply, rate_apply, pre_apply, block1, block2, block3, later_block]

theorem bias_step : (outs m c t u v).2.2.2 (ix2 0 l) = v (ix2 0 l) + ∑ r : Fin 512, decayTerm m c l (512 * t.val + r.val) := by
  unfold outs decayTerm
  refine (bias_apply _ _ _ _ l).trans ?_
  simp only [sums_apply, rate_apply, pre_apply, block1, block2, block3, later_block]

end Steps

theorem outs_at (t : Fin cfg0.N) : ∃ u v, outsAt0 m c t.val t.isLt = outs m c t u v := by
  obtain ⟨n, hn⟩ := t
  by_cases h0 : n % 4 = 0
  · exact ⟨_, _, first m c ⟨n, hn⟩ h0⟩
  · obtain ⟨k, rfl⟩ : ∃ k, n = k + 1 := ⟨n - 1, by omega⟩
    exact ⟨_, _, next m c k hn h0⟩

/-- After point `n` the two sums are those of the rows seen so far. -/
theorem running (n : ℕ) : ∀ (h : n < cfg0.N) (l : Fin 128),
    (outsAt0 m c n h).2.2.1 (ix2 0 l) = ∑ x ∈ Finset.range (512 * (n + 1)), rateTerm m c l x
    ∧ (outsAt0 m c n h).2.2.2 (ix2 0 l) = ∑ x ∈ Finset.range (512 * (n + 1)), decayTerm m c l x := by
  induction n with
  | zero =>
    intro h l
    have e := first m c ⟨0, h⟩ rfl
    dsimp only at e
    rw [e, rate_step, bias_step]
    refine ⟨?_, ?_⟩
    all_goals rw [sum_block, Nat.mul_zero, Finset.range_zero, Finset.sum_empty]
    · refine congrArg (fun z : EReal => z + _) ?_
      pointwise [k0_pay1]
    · refine congrArg (fun z : EReal => z + _) ?_
      pointwise [k0_pay2]
  | succ n ih =>
    intro h l
    have hN : n + 1 < 4 := lt_of_lt_of_eq h N_0
    obtain ⟨i1, i2⟩ := ih (Nat.lt_of_succ_lt h) l
    rw [next m c n h (by omega), rate_step, bias_step, i1, i2, sum_block _ 512 (n + 1), sum_block _ 512 (n + 1)]
    exact ⟨rfl, rfl⟩

/-! ## The four results -/

theorem last (t : Fin cfg0.N) (h : t.val % 4 = 3) : t.val = 3 := by
  have hN : t.val < 4 := lt_of_lt_of_eq t.isLt N_0
  omega

theorem lane {S : Shape} (y : S1x128.Idx) : ∃ l : Fin 128, y = ix2 0 l :=
  ⟨y 1, (eq_ix2 y).trans (congrArg (ix2 · (y 1)) (Subsingleton.elim (α := Fin 1) _ _))⟩

theorem strength_read (t : Fin cfg0.N) (y : S512x128.Idx) (i : S2048x128.Idx) (h0 : (i 0).val = 512 * t.val + (y 0).val)
    (h1 : (i 1).val = (y 1).val) : (outsAt0 m c t.val t.isLt).1 y = GateBRefIdeal.Read.val_main_v35 (F := Ideal) (proj m c) (dst m c) i := by
  obtain ⟨r, l, rfl⟩ : ∃ (r : Fin 512) (l : Fin 128), y = ix2 r l := ⟨y 0, y 1, eq_ix2 y⟩
  obtain ⟨R, rfl⟩ : ∃ R : Fin 2048, i = ix2 R l := ⟨i 0, (eq_ix2 i).trans (congrArg (ix2 (i 0)) (Fin.ext h1))⟩
  have hr : 512 * t.val + r.val = R.val := h0.symm
  obtain ⟨u, v, e⟩ := outs_at m c t
  rw [ref_strength, e, strength_step, hr, at2_ix2]

theorem decay_read (t : Fin cfg0.N) (y : S512x128.Idx) (i : S2048x128.Idx) (h0 : (i 0).val = 512 * t.val + (y 0).val)
    (h1 : (i 1).val = (y 1).val) : (outsAt0 m c t.val t.isLt).2.1 y
      = GateBRefIdeal.Read.val_main_v36 (F := Ideal) (proj m c) (rate m c) (bias m c) (ddec m c) i := by
  obtain ⟨r, l, rfl⟩ : ∃ (r : Fin 512) (l : Fin 128), y = ix2 r l := ⟨y 0, y 1, eq_ix2 y⟩
  obtain ⟨R, rfl⟩ : ∃ R : Fin 2048, i = ix2 R l := ⟨i 0, (eq_ix2 i).trans (congrArg (ix2 (i 0)) (Fin.ext h1))⟩
  have hr : 512 * t.val + r.val = R.val := h0.symm
  obtain ⟨u, v, e⟩ := outs_at m c t
  rw [e, decay_step, hr]
  exact (ref_decay _ _ _ _ R l).symm

theorem rate_read (hx : ∀ l, rate m c (ix2 0 l) ≠ ⊤) (t : Fin cfg0.N) (h : t.val = 3) (y i : S1x128.Idx) (hi : (i 1).val = (y 1).val) :
    (outsAt0 m c t.val t.isLt).2.2.1 y = GateBRefIdeal.Read.val_main_v34 (F := Ideal) (proj m c) (rate m c) (bias m c) (ddec m c) i := by
  obtain ⟨l, rfl⟩ := lane (S := S1x128) y
  obtain rfl : i = ix2 0 l := (eq_ix2 i).trans (congrArg₂ ix2 (Subsingleton.elim (α := Fin 1) _ _) (Fin.ext hi))
  rw [ref_log _ _ _ _ l (hx l), (running m c t.val t.isLt l).1, h, Finset.sum_range]
  rfl

theorem bias_read (t : Fin cfg0.N) (h : t.val = 3) (y i : S1x128.Idx) (hi : (i 1).val = (y 1).val) :
    (outsAt0 m c t.val t.isLt).2.2.2 y = GateBRefIdeal.Read.val_main_v33 (F := Ideal) (proj m c) (rate m c) (bias m c) (ddec m c) i := by
  obtain ⟨l, rfl⟩ := lane (S := S1x128) y
  obtain rfl : i = ix2 0 l := (eq_ix2 i).trans (congrArg₂ ix2 (Subsingleton.elim (α := Fin 1) _ _) (Fin.ext hi))
  rw [ref_bias, (running m c t.val t.isLt l).2, h, Finset.sum_range]
  rfl

theorem strength_array : (dats m 0 c).arrAt 6 cfg0.N = GateBRefIdeal.Read.val_main_v35 (F := Ideal) (proj m c) (dst m c) := by
  refine (dats m 0 c).arrAt_eq_of_covers 6 _ (by decide +kernel) fun t hf y => ?_
  obtain ⟨e0, e1, e2, e3, e4, e5, e6, e7, e8, e9⟩ := index_maps t
  rw [after0_6]
  refine strength_read m c t _ _ ?_ ?_
  · blk_simp [e6]
    exact congrArg (· + _) (Nat.mul_comm _ _)
  · blk_simp [e6]

theorem decay_array : (dats m 0 c).arrAt 7 cfg0.N
    = GateBRefIdeal.Read.val_main_v36 (F := Ideal) (proj m c) (rate m c) (bias m c) (ddec m c) := by
  refine (dats m 0 c).arrAt_eq_of_covers 7 _ (by decide +kernel) fun t hf y => ?_
  obtain ⟨e0, e1, e2, e3, e4, e5, e6, e7, e8, e9⟩ := index_maps t
  rw [after0_7]
  refine decay_read m c t _ _ ?_ ?_
  · blk_simp [e7]
    exact congrArg (· + _) (Nat.mul_comm _ _)
  · blk_simp [e7]

theorem rate_array (hx : ∀ l, rate m c (ix2 0 l) ≠ ⊤) : (dats m 0 c).arrAt 8 cfg0.N
    = GateBRefIdeal.Read.val_main_v34 (F := Ideal) (proj m c) (rate m c) (bias m c) (ddec m c) := by
  refine (dats m 0 c).arrAt_eq_of_covers 8 _ (by decide +kernel) fun t hf y => ?_
  obtain ⟨e0, e1, e2, e3, e4, e5, e6, e7, e8, e9⟩ := index_maps t
  rw [after0_8]
  refine rate_read m c hx t (last t ((flush0_8 t).mp hf)) _ _ ?_
  blk_simp [e8]

theorem bias_array : (dats m 0 c).arrAt 9 cfg0.N
    = GateBRefIdeal.Read.val_main_v33 (F := Ideal) (proj m c) (rate m c) (bias m c) (ddec m c) := by
  refine (dats m 0 c).arrAt_eq_of_covers 9 _ (by decide +kernel) fun t hf y => ?_
  obtain ⟨e0, e1, e2, e3, e4, e5, e6, e7, e8, e9⟩ := index_maps t
  rw [after0_9]
  refine bias_read m c t (last t ((flush0_9 t).mp hf)) _ _ ?_
  blk_simp [e9]

/-- The precondition: no rate is +∞. -/
theorem finite [Cert.Pre_gateb_finite.Facts] (h : Cert.Pre_GateBIdeal_gateb_finite m) (l : Fin 128) : rate m c (ix2 0 l) ≠ ⊤ := by
  intro e
  have q := congrFun (h c) (ix2 0 l)
  have top : Ideal.ofBits .f32 2139095040#32 = ⊤ := by simp [Ideal.ofBits, Ideal.ieee]
  dsimp only [Cert.Pre_gateb_finite.fn, cmpf, broadcastInDim, constant] at q
  rw [show m ((c : Thread nD τ).loc main_arg1) (ix2 0 l) = (⊤ : EReal) from e] at q
  have z : (FloatOps.cmpf .olt (⊤ : EReal) (Ideal.ofBits .f32 2139095040#32) : BitVec 1) = 1#1 := q
  rw [top] at z
  simp [FloatOps.cmpf, Ideal.cmp] at z

theorem algebraic : Cert.algebraic_GateBIdeal_GateBRefIdeal_pre_gateb_finite (hGateBIdeal := Cert.GateBIdeal.Gen.facts)
    (hGateBRefIdeal := Cert.GateBRefIdeal.Gen.facts) (hPre_gateb_finite := Cert.Pre_gateb_finite.Gen.facts) :=
  fun m ρ m' ρ' pre hag => ⟨_, _, _, _,
    (θ_run _ _ _).mono (fun _ h c => ⟨(h c).1.trans (strength_array m c), (h c).2.1.trans (decay_array m c),
      (h c).2.2.1.trans (rate_array m c (finite m c pre)), (h c).2.2.2.1.trans (bias_array m c), (h c).2.2.2.2⟩)
      (Cert.GateBIdeal.Value.run_blocks m ρ),
    (θ_run _ _ _).mono (fun _ h c => ⟨(h c).1.trans (by rw [GateBRefIdeal.Read.val_main_v35_eq, (hag c).1, (hag c).2.2.2.1]),
      (h c).2.1.trans (by rw [GateBRefIdeal.Read.val_main_v36_eq, (hag c).1, (hag c).2.1, (hag c).2.2.1, (hag c).2.2.2.2]),
      (h c).2.2.1.trans (by rw [GateBRefIdeal.Read.val_main_v34_eq, (hag c).1, (hag c).2.1, (hag c).2.2.1, (hag c).2.2.2.2]),
      (h c).2.2.2.1.trans (by rw [GateBRefIdeal.Read.val_main_v33_eq, (hag c).1, (hag c).2.1, (hag c).2.2.1, (hag c).2.2.2.2]),
      (h c).2.2.2.2⟩)
      (Cert.GateBRefIdeal.Value.run m' ρ')⟩

theorem ref_frame : Cert.quiescent_GateBRefIdeal (hGateBRefIdeal := Cert.GateBRefIdeal.Gen.facts) :=
  fun m ρ _ => (θ_run _ _ _).mono (fun r h => ⟨fun c => (h c).2.2.2.2, sem_eq_zero_of_no_sems (by decide) r.2⟩) (Cert.GateBRefIdeal.Value.run m ρ)

end Cert.GateBIdeal.Entry

end
-- ==== Proof.ConvGrad.lean ====
/-
  The short causal convolution of the gated DeltaNet with its silu and the L2 norm of a head, on the rows and columns of
  one sequence, and the gradient as the call takes it.
-/
module

public import Idealize.ShloMosaic.Lib.Pointwise

@[expose] public section

noncomputable section

namespace Cert.ConvGrad

open Idealize.ShloMosaic

/-- Row `n - k` of column `c`, and zero before the first row. -/
def back (x : ℕ → ℕ → EReal) (k n c : ℕ) : EReal := if k ≤ n then x (n - k) c else 0

/-- Row `n + k` of column `c`, and zero after the last row. -/
def ahead (x : ℕ → ℕ → EReal) (k n c : ℕ) : EReal := if n + k < 2048 then x (n + k) c else 0

section

variable (x w g : ℕ → ℕ → EReal)

/-- The convolution over the last four rows. -/
def conv (n c : ℕ) : EReal := w 3 c * x n c + w 2 c * back x 1 n c + w 1 c * back x 2 n c + w 0 c * back x 3 n c

/-- Its silu, and the silu's derivative. -/
def act (n c : ℕ) : EReal := conv x w n c * Ideal.logistic (conv x w n c)
def slope (n c : ℕ) : EReal := Ideal.logistic (conv x w n c) * (1 + conv x w n c * (1 - Ideal.logistic (conv x w n c)))

/-- The root that normalises the head whose columns begin at `b`. -/
def root (b n : ℕ) : EReal := Ideal.rsqrt ((∑ k : Fin 128, act x w n (b + k.val) * act x w n (b + k.val)) + Ideal.ofBits .f32 0x358637BD#32)

/-- The product of the gradient with the head. -/
def overlap (b n : ℕ) : EReal := ∑ k : Fin 128, g n (b + k.val) * act x w n (b + k.val)

/-- The gradient at the silu through the norm and the scale `s`. -/
def through (s : EReal) (b n c : ℕ) : EReal :=
  s * (root x w b n * g n c - act x w n c * (root x w b n * root x w b n * root x w b n * overlap x w g b n))

/-- The query's scale. -/
def scale (t : ℕ) : EReal := if t < 8 then Ideal.ofBits .f32 0x3DB504F3#32 else 1

/-- The gradient at the convolution, of head `t`: eight of the queries, eight of the keys, eight of the values. -/
def dconv (t b n c : ℕ) : EReal := (if t < 16 then through x w g (scale t) b n c else g n c) * slope x w n c

/-- The same gradient as the derivative of the norm's lines leaves it: the two factors of the square apart. -/
def meanSq (b n : ℕ) : EReal := (∑ k : Fin 128, act x w n (b + k.val) * act x w n (b + k.val)) + Ideal.ofBits .f32 0x358637BD#32
def pulled (b n : ℕ) : EReal :=
  (∑ k : Fin 128, act x w n (b + k.val) * g n (b + k.val)) * (Ideal.ofBits .f32 0xBF000000#32 * Ideal.div (root x w b n) (meanSq x w b n))
def plain (b n c : ℕ) : EReal := g n c * root x w b n + act x w n c * pulled x w g b n + pulled x w g b n * act x w n c

/-- The gradient at the convolution from the gradient `d` at its silu, as the derivative of the silu's lines leaves it. -/
def unslope (d : EReal) (n c : ℕ) : EReal :=
  d * Ideal.logistic (conv x w n c) + conv x w n c * d * (Ideal.logistic (conv x w n c) * (1 - Ideal.logistic (conv x w n c)))

end

/-- The gradient at the projection, from the gradient `d` at the convolution. -/
def spread (w d : ℕ → ℕ → EReal) (n c : ℕ) : EReal :=
  w 3 c * d n c + w 2 c * ahead d 1 n c + w 1 c * ahead d 2 n c + w 0 c * ahead d 3 n c

/-- The gradient at the weight of `k` rows back. -/
def tap (x d : ℕ → ℕ → EReal) (k c : ℕ) : EReal := ∑ n : Fin 2048, ahead d k n.val c * x n.val c

/-! ## The two forms agree on the reals -/

def IsReal (a : EReal) : Prop := ∃ r : ℝ, a = (r : EReal)

theorem IsReal.add {a b : EReal} : IsReal a → IsReal b → IsReal (a + b) := by
  rintro ⟨r, rfl⟩ ⟨s, rfl⟩; exact ⟨r + s, (EReal.coe_add r s).symm⟩

theorem IsReal.mul {a b : EReal} : IsReal a → IsReal b → IsReal (a * b) := by
  rintro ⟨r, rfl⟩ ⟨s, rfl⟩; exact ⟨r * s, (EReal.coe_mul r s).symm⟩

theorem IsReal.zero : IsReal 0 := ⟨0, rfl⟩

theorem IsReal.logistic {a : EReal} : IsReal a → IsReal (Ideal.logistic a) := by
  rintro ⟨r, rfl⟩; exact ⟨_, Ideal.logistic_coe r⟩

theorem IsReal.of_ne {a : EReal} (h : a ≠ ⊤) (h' : a ≠ ⊥) : IsReal a := ⟨a.toReal, (EReal.coe_toReal h h').symm⟩

theorem ofBits_half : Ideal.ofBits .f32 0xBF000000#32 = ((-(1 / 2) : ℝ) : EReal) := by
  simp [Ideal.ofBits, Ideal.ieee, -EReal.coe_mul]; norm_num

theorem ofBits_eps : ∃ e : ℝ, 0 < e ∧ Ideal.ofBits .f32 0x358637BD#32 = (e : EReal) := by
  refine ⟨8796093 / 2 ^ 43, by norm_num, ?_⟩
  simp [Ideal.ofBits, Ideal.ieee, -EReal.coe_mul]; norm_num

theorem ofBits_scale : IsReal (Ideal.ofBits .f32 0x3DB504F3#32) := by
  refine IsReal.of_ne ?_ ?_ <;> simp [Ideal.ofBits, Ideal.ieee, -EReal.coe_mul]

theorem coe_sum {n : ℕ} (f : Fin n → ℝ) : ∑ k, (f k : EReal) = ((∑ k, f k : ℝ) : EReal) :=
  (map_sum (⟨⟨Real.toEReal, rfl⟩, fun _ _ => rfl⟩ : ℝ →+ EReal) f Finset.univ).symm

/-- One head: the call's form of the norm's gradient and the derivative's. -/
theorem head_eq (s g : Fin 128 → ℝ) (a d c : ℝ) :
    (c : EReal) * (Ideal.rsqrt ((∑ k, (s k : EReal) * s k) + Ideal.ofBits .f32 0x358637BD#32) * d
        - a * (Ideal.rsqrt ((∑ k, (s k : EReal) * s k) + Ideal.ofBits .f32 0x358637BD#32)
            * Ideal.rsqrt ((∑ k, (s k : EReal) * s k) + Ideal.ofBits .f32 0x358637BD#32)
            * Ideal.rsqrt ((∑ k, (s k : EReal) * s k) + Ideal.ofBits .f32 0x358637BD#32) * ∑ k, (g k : EReal) * s k))
      = d * c * Ideal.rsqrt ((∑ k, (s k : EReal) * s k) + Ideal.ofBits .f32 0x358637BD#32)
        + a * ((∑ k, (s k : EReal) * (g k * c)) * (Ideal.ofBits .f32 0xBF000000#32
            * Ideal.div (Ideal.rsqrt ((∑ k, (s k : EReal) * s k) + Ideal.ofBits .f32 0x358637BD#32))
              ((∑ k, (s k : EReal) * s k) + Ideal.ofBits .f32 0x358637BD#32)))
        + ((∑ k, (s k : EReal) * (g k * c)) * (Ideal.ofBits .f32 0xBF000000#32
            * Ideal.div (Ideal.rsqrt ((∑ k, (s k : EReal) * s k) + Ideal.ofBits .f32 0x358637BD#32))
              ((∑ k, (s k : EReal) * s k) + Ideal.ofBits .f32 0x358637BD#32))) * a := by
  obtain ⟨e, he, hE⟩ := ofBits_eps
  obtain ⟨u, hu, hv⟩ : ∃ u : ℝ, 0 < u ∧ (∑ k, (s k : EReal) * s k) + Ideal.ofBits .f32 0x358637BD#32 = (u : EReal) := by
    refine ⟨(∑ k, s k * s k) + e, add_pos_of_nonneg_of_pos (Finset.sum_nonneg fun k _ => mul_self_nonneg _) he, ?_⟩
    simp only [← EReal.coe_mul]
    rw [coe_sum, hE]
    norm_cast
  have hs : Real.sqrt u * Real.sqrt u = u := Real.mul_self_sqrt hu.le
  have hR : Ideal.rsqrt (u : EReal) = (((Real.sqrt u)⁻¹ : ℝ) : EReal) := by
    rw [Ideal.rsqrt_coe, if_neg (not_lt.mpr hu.le), if_neg hu.ne']
  rw [hv, hR, ofBits_half, Ideal.div_coe hu.ne']
  generalize hρ : (Real.sqrt u)⁻¹ = ρ
  have hρ3 : ρ * (1 / u) = ρ * ρ * ρ := by
    rw [show 1 / u = ρ * ρ by rw [← hρ, ← mul_inv, hs, one_div]]; ring
  have hg : ∑ k, s k * (g k * c) = c * ∑ k, g k * s k := by
    rw [Finset.mul_sum]; exact Finset.sum_congr rfl fun k _ => by ring
  simp only [← EReal.coe_mul, hρ3]
  rw [coe_sum, coe_sum, hg]
  norm_cast
  ring

section

variable {x w g : ℕ → ℕ → EReal} (hx : ∀ n c, IsReal (x n c)) (hw : ∀ n c, IsReal (w n c)) (hg : ∀ n c, IsReal (g n c))

include hx hw in
theorem conv_real (n c : ℕ) : IsReal (conv x w n c) := by
  have hb : ∀ k, IsReal (back x k n c) := fun k => by unfold back; split_ifs; exacts [hx _ _, IsReal.zero]
  exact (((hw _ _).mul (hx _ _)).add ((hw _ _).mul (hb _))).add ((hw _ _).mul (hb _)) |>.add ((hw _ _).mul (hb _))

include hx hw in
theorem act_real (n c : ℕ) : IsReal (act x w n c) := (conv_real hx hw n c).mul (conv_real hx hw n c).logistic

include hx hw hg in
theorem through_eq {s : EReal} (hs : IsReal s) (b n c : ℕ) : through x w g s b n c = plain x w (fun n c => g n c * s) b n c := by
  obtain ⟨σ, rfl⟩ := hs
  choose a ha using fun k : ℕ => act_real hx hw n k
  choose d hd using fun k : ℕ => hg n k
  unfold through plain pulled meanSq root overlap
  simp only [ha, hd]
  exact head_eq (fun k => a (b + k.val)) (fun k => d (b + k.val)) (a c) (d c) σ

include hx hw in
theorem slope_eq {d : EReal} (hd : IsReal d) (n c : ℕ) : d * slope x w n c = unslope x w d n c := by
  obtain ⟨d, rfl⟩ := hd
  unfold slope unslope
  obtain ⟨v, hv⟩ := conv_real hx hw n c
  obtain ⟨σ, hσ⟩ := (conv_real hx hw n c).logistic
  rw [hσ, hv]
  norm_cast
  ring

include hx hw in
theorem root_real (b n : ℕ) : IsReal (root x w b n) := by
  obtain ⟨e, he, hE⟩ := ofBits_eps
  choose a ha using fun k : ℕ => act_real hx hw n k
  unfold root
  simp only [ha, ← EReal.coe_mul]
  rw [coe_sum, hE, ← EReal.coe_add]
  have hu : 0 < (∑ k : Fin 128, a (b + k.val) * a (b + k.val)) + e :=
    add_pos_of_nonneg_of_pos (Finset.sum_nonneg fun k _ => mul_self_nonneg _) he
  exact ⟨_, by rw [Ideal.rsqrt_coe, if_neg (not_lt.mpr hu.le), if_neg hu.ne']⟩

include hx hw hg in
theorem through_real {s : EReal} (hs : IsReal s) (b n c : ℕ) : IsReal (through x w g s b n c) := by
  obtain ⟨σ, rfl⟩ := hs
  choose a ha using fun k : ℕ => act_real hx hw n k
  choose d hd using fun k : ℕ => hg n k
  obtain ⟨r, hr⟩ := root_real hx hw b n
  unfold through overlap
  simp only [ha, hd, hr, ← EReal.coe_mul]
  rw [coe_sum]
  exact ⟨_, by norm_cast⟩

/-- The gradient at the convolution, one head, as the derivative leaves it. -/
def dplain (x w g : ℕ → ℕ → EReal) (t b n c : ℕ) : EReal :=
  unslope x w (if t < 8 then plain x w (fun n c => g n c * Ideal.ofBits .f32 0x3DB504F3#32) b n c
    else if t < 16 then plain x w g b n c else g n c) n c

include hx hw hg in
theorem dconv_eq (t b n c : ℕ) : dconv x w g t b n c = dplain x w g t b n c := by
  have one : IsReal (1 : EReal) := ⟨1, rfl⟩
  unfold dconv dplain scale
  by_cases h8 : t < 8
  · rw [if_pos (show t < 16 by omega), if_pos h8, if_pos h8, slope_eq hx hw (through_real hx hw hg ofBits_scale b n c), through_eq hx hw hg ofBits_scale]
  · by_cases h16 : t < 16
    · rw [if_pos h16, if_neg h8, if_neg h8, if_pos h16, slope_eq hx hw (through_real hx hw hg one b n c), through_eq hx hw hg one]
      simp only [mul_one]
    · rw [if_neg h16, if_neg h8, if_neg h16, slope_eq hx hw (hg n c)]

end

/-! ## The same on a block of columns -/

section

variable {x w g x' w' g' : ℕ → ℕ → EReal} {b : ℕ}
  (ex : ∀ n < 2048, ∀ l < 128, x' n l = x n (b + l)) (ew : ∀ k < 4, ∀ l < 128, w' k l = w k (b + l))
  (eg : ∀ n < 2048, ∀ l < 128, g' n l = g n (b + l))

include ex ew in
theorem conv_block {n l : ℕ} (hn : n < 2048) (hl : l < 128) : conv x' w' n l = conv x w n (b + l) := by
  have hb : ∀ k, back x' k n l = back x k n (b + l) := fun k => by
    unfold back; split_ifs; exacts [ex _ (by omega) _ hl, rfl]
  unfold conv
  rw [hb, hb, hb, ex n hn l hl, ew 3 (by omega) l hl, ew 2 (by omega) l hl, ew 1 (by omega) l hl, ew 0 (by omega) l hl]

include ex ew eg in
theorem dconv_block (t : ℕ) {n l : ℕ} (hn : n < 2048) (hl : l < 128) : dconv x' w' g' t 0 n l = dconv x w g t b n (b + l) := by
  have hv : ∀ k : Fin 128, conv x' w' n (0 + k.val) = conv x w n (b + k.val) := fun k => by
    rw [Nat.zero_add]; exact conv_block ex ew hn k.isLt
  have hg : ∀ k : Fin 128, g' n (0 + k.val) = g n (b + k.val) := fun k => by
    rw [Nat.zero_add]; exact eg n hn _ k.isLt
  unfold dconv through overlap root slope act
  simp only [hv, hg, conv_block ex ew hn hl, eg n hn l hl]

end

theorem spread_congr {w w' d d' : ℕ → ℕ → EReal} {n l c : ℕ} (hn : n < 2048) (hw : ∀ k < 4, w' k l = w k c) (hd : ∀ n < 2048, d' n l = d n c) :
    spread w' d' n l = spread w d n c := by
  have ha : ∀ k, ahead d' k n l = ahead d k n c := fun k => by unfold ahead; split_ifs with h; exacts [hd _ h, rfl]
  unfold spread
  rw [ha, ha, ha, hd n hn, hw 3 (by omega), hw 2 (by omega), hw 1 (by omega), hw 0 (by omega)]

theorem tap_congr {x x' d d' : ℕ → ℕ → EReal} {l c : ℕ} (k : ℕ) (hx : ∀ n < 2048, x' n l = x n c) (hd : ∀ n < 2048, d' n l = d n c) :
    tap x' d' k l = tap x d k c := by
  have ha : ∀ n, ahead d' k n l = ahead d k n c := fun n => by unfold ahead; split_ifs with h; exacts [hd _ h, rfl]
  unfold tap
  exact Finset.sum_congr rfl fun n _ => by rw [ha, hx _ n.isLt]

/-- The sum over the rows, taken at the row of the gradient or at the row of the input. -/
theorem tap_eq (x d : ℕ → ℕ → EReal) (k c : ℕ) (hk : k ≤ 2048) : ∑ n : Fin 2048, d n.val c * back x k n.val c = tap x d k c := by
  unfold tap
  rw [← Finset.sum_range (fun n => d n c * back x k n c), ← Finset.sum_range (fun n => ahead d k n c * x n c)]
  obtain ⟨m, hm⟩ : ∃ m, 2048 = k + m := ⟨2048 - k, by omega⟩
  have h1 : ∑ n ∈ Finset.range 2048, d n c * back x k n c = ∑ n ∈ Finset.range m, d (k + n) c * x n c := by
    rw [hm, Finset.sum_range_add, Finset.sum_eq_zero (s := Finset.range k), zero_add]
    · refine Finset.sum_congr rfl fun n _ => ?_
      unfold back
      rw [if_pos (by omega), Nat.add_sub_cancel_left]
    · intro n hn
      have := Finset.mem_range.mp hn
      unfold back
      rw [if_neg (by omega), mul_zero]
  have h2 : ∑ n ∈ Finset.range 2048, ahead d k n c * x n c = ∑ n ∈ Finset.range m, d (k + n) c * x n c := by
    rw [show 2048 = m + k by omega, Finset.sum_range_add, Finset.sum_eq_zero (s := Finset.range k), add_zero]
    · refine Finset.sum_congr rfl fun n hn => ?_
      have := Finset.mem_range.mp hn
      unfold ahead
      rw [if_pos (by omega), Nat.add_comm]
    · intro n hn
      unfold ahead
      rw [if_neg (by omega), zero_mul]
  rw [h1, h2]

end Cert.ConvGrad

end
-- ==== Proof.QkvBVal.lean ====
/-
  The gradient of the convolution that makes the queries, keys and values: a grid over the twenty-four heads.
-/
module

public import proofs.«01_k».proof.Proof.Gen.QkvBIdeal.Value
public import proofs.«01_k».proof.Proof.Gen.QkvBRefIdeal.Read
public import proofs.«01_k».proof.Proof.Gen.Pre_qkvb_finite
public import proofs.«01_k».proof.Proof.ConvGrad
public import proofs.«01_k».proof.Proof.Blocks
public import proofs.«01_k».proof.Defs
public import Idealize.ShloMosaic.Lib.Pipeline.ValueKit
public import Idealize.ShloMosaic.Lib.Tactic

@[expose] public section

set_option maxRecDepth 16384

noncomputable section

namespace Cert.QkvBIdeal.Entry

open Cert.QkvBIdeal Cert.QkvBIdeal.Gen Cert.QkvBIdeal.Value Idealize.ShloMosaic Idealize.ShloMosaic.TcCoe Idealize.SL.Sem Cert.Blocks
open Cert.ConvGrad

/-! ## The call's payloads -/

section Payloads

variable (x g : FVec Ideal S2048x128 .f32) (w : FVec Ideal S4x128 .f32) (n : Fin 2048) (l : Fin 128)

/-- A select on the row's number against a constant. -/
theorem from_row {α : Type} (k : ℕ) (hk : k < 2048) (a b : α) :
    Scalar.select (IntOp.cmpi CmpIPredicate.sge (BitVec.ofNat 32 n.val) (BitVec.ofNat 32 k)) a b = if k ≤ n.val then a else b := by
  have hn := n.isLt
  have h1 : (BitVec.ofNat 32 n.val).toInt = n.val := by rw [BitVec.toInt_ofNat', Int.bmod_eq_of_le (by omega) (by omega)]
  have h2 : (BitVec.ofNat 32 k).toInt = k := by rw [BitVec.toInt_ofNat', Int.bmod_eq_of_le (by omega) (by omega)]
  by_cases h : k ≤ n.val <;> simp [h, Scalar.select, IntOp.cmpi, BitVec.sle, h1, h2]

theorem below_row {α : Type} (k : ℕ) (hk : k < 2048) (a b : α) :
    Scalar.select (IntOp.cmpi CmpIPredicate.slt (BitVec.ofNat 32 n.val) (BitVec.ofNat 32 k)) a b = if n.val < k then a else b := by
  have hn := n.isLt
  have h1 : (BitVec.ofNat 32 n.val).toInt = n.val := by rw [BitVec.toInt_ofNat', Int.bmod_eq_of_le (by omega) (by omega)]
  have h2 : (BitVec.ofNat 32 k).toInt = k := by rw [BitVec.toInt_ofNat', Int.bmod_eq_of_le (by omega) (by omega)]
  by_cases h : n.val < k <;> simp [h, Scalar.select, IntOp.cmpi, BitVec.slt, h1, h2]

theorem below_head {α : Type} (t k : ℕ) (ht : t < 24) (hk : k < 24) (a b : α) :
    Scalar.select (Scalar.cmpi CmpIPredicate.slt (BitVec.ofNat 32 t) (BitVec.ofNat 32 k)) a b = if t < k then a else b := by
  have h1 : (BitVec.ofNat 32 t).toInt = t := by rw [BitVec.toInt_ofNat', Int.bmod_eq_of_le (by omega) (by omega)]
  have h2 : (BitVec.ofNat 32 k).toInt = k := by rw [BitVec.toInt_ofNat', Int.bmod_eq_of_le (by omega) (by omega)]
  by_cases h : t < k <;> simp [h, Scalar.select, Scalar.cmpi, IntOp.cmpi, BitVec.slt, h1, h2]

theorem back_apply (k : ℕ) (hk : k < 2048) (v : EReal) (h : (n.val + 2048 - k) % 2048 < 2048) :
    Scalar.select (IntOp.cmpi CmpIPredicate.sge (BitVec.ofNat 32 n.val) (BitVec.ofNat 32 k)) (v * x (ix2 ⟨(n.val + 2048 - k) % 2048, h⟩ l)) 0
      = v * back (at2 x) k n.val l.val := by
  have hn := n.isLt
  rw [from_row n k hk]
  unfold back
  by_cases e : k ≤ n.val
  · rw [if_pos e, if_pos e]
    exact congrArg _ (at2_of x _ _ _ (by show (n.val + 2048 - k) % 2048 = _; omega) rfl)
  · rw [if_neg e, if_neg e, mul_zero]

theorem ahead_apply (d : FVec Ideal S2048x128 .f32) (k k' : ℕ) (hk : k + k' = 2048) (h0 : 0 < k) (h : (n.val + 2048 - k') % 2048 < 2048) :
    Scalar.select (IntOp.cmpi CmpIPredicate.slt (BitVec.ofNat 32 n.val) (BitVec.ofNat 32 k')) (d (ix2 ⟨(n.val + 2048 - k') % 2048, h⟩ l)) 0
      = ahead (at2 d) k n.val l.val := by
  have hn := n.isLt
  rw [below_row n k' (by omega)]
  unfold ahead
  by_cases e : n.val < k'
  · rw [if_pos e, if_pos (by omega)]
    exact at2_of d _ _ _ (by show (n.val + 2048 - k') % 2048 = _; omega) rfl
  · rw [if_neg e, if_neg (by omega)]

theorem ahead_mul (d : FVec Ideal S2048x128 .f32) (k k' : ℕ) (hk : k + k' = 2048) (h0 : 0 < k) (h : (n.val + 2048 - k') % 2048 < 2048) :
    Scalar.select (IntOp.cmpi CmpIPredicate.slt (BitVec.ofNat 32 n.val) (BitVec.ofNat 32 k')) (d (ix2 ⟨(n.val + 2048 - k') % 2048, h⟩ l) * x (ix2 n l)) 0
      = ahead (at2 d) k n.val l.val * at2 x n.val l.val := by
  rw [← ahead_apply n l d k k' hk h0 h, at2_ix2]
  unfold Scalar.select
  split_ifs
  · rfl
  · exact (zero_mul _).symm

theorem mul_ahead (d : FVec Ideal S2048x128 .f32) (v : EReal) (k k' : ℕ) (hk : k + k' = 2048) (h0 : 0 < k) (h : (n.val + 2048 - k') % 2048 < 2048) :
    Scalar.select (IntOp.cmpi CmpIPredicate.slt (BitVec.ofNat 32 n.val) (BitVec.ofNat 32 k')) (v * d (ix2 ⟨(n.val + 2048 - k') % 2048, h⟩ l)) 0
      = v * ahead (at2 d) k n.val l.val := by
  rw [← ahead_apply n l d k k' hk h0 h]
  unfold Scalar.select
  split_ifs
  · rfl
  · exact (mul_zero _).symm

theorem conv_apply : k0_pay6 (F := Ideal) x w (ix2 n l) = conv (at2 x) (at2 w) n.val l.val := by
  pointwise [k0_pay6]
  rw [back_apply x n l 1 (by omega), back_apply x n l 2 (by omega), back_apply x n l 3 (by omega)]
  unfold conv
  rw [show at2 w 3 l.val = w (ix2 3 l) from at2_ix2 w 3 l, show at2 w 2 l.val = w (ix2 2 l) from at2_ix2 w 2 l,
    show at2 w 1 l.val = w (ix2 1 l) from at2_ix2 w 1 l, show at2 w 0 l.val = w (ix2 0 l) from at2_ix2 w 0 l, at2_ix2]

theorem act_apply : k0_pay8 (F := Ideal) x w (ix2 n l) = act (at2 x) (at2 w) n.val l.val := by
  pointwise [k0_pay8, k0_pay7]
  rw [conv_apply]
  rfl

theorem slope_apply : k0_pay9 (F := Ideal) x w (ix2 n l) = slope (at2 x) (at2 w) n.val l.val := by
  pointwise [k0_pay9, k0_pay7]
  rw [conv_apply]
  rfl

/-- The gradient at the convolution, at point `t`. -/
abbrev grad (t : ℕ) : FVec Ideal S2048x128 .f32 := k0_pay10 (F := Ideal) (BitVec.ofNat 32 t) g (k0_pay8 x w) (k0_pay9 x w)

variable (t : ℕ) (ht : t < 24)

include ht in
theorem grad_apply : grad x g w t (ix2 n l) = dconv (at2 x) (at2 w) (at2 g) t 0 n.val l.val := by
  pointwise [grad, k0_pay10]
  rw [below_head t 16 ht (by omega), below_head t 8 ht (by omega)]
  simp only [act_apply, slope_apply]
  unfold dconv through root overlap scale
  simp only [zero_add, at2_ix2]

theorem input_grad :
    k0_pay5 (F := Ideal) w (grad x g w t) (iota .tc S2048x128 32 [0] iota_S2048x128_d0_w32)
      (k0_pay13 (BitVec.ofNat 32 t) w g (k0_pay8 x w) (k0_pay9 x w)) k0_pay15 (k0_pay16 (BitVec.ofNat 32 t) g (k0_pay8 x w) (k0_pay9 x w)) (ix2 n l)
     = spread (at2 w) (at2 (grad x g w t)) n.val l.val := by
  pointwise [k0_pay5, k0_pay1, k0_pay3, k0_pay13, k0_pay12, k0_pay15, k0_pay16]
  refine congrArg₂ (· + ·) (congrArg₂ (· + ·) (congrArg₂ (· + ·) ?_ ?_) ?_) ?_
  · exact congrArg₂ (· * ·) (at2_ix2 w 3 l).symm (at2_ix2 (grad x g w t) n l).symm
  · exact (mul_ahead n l (grad x g w t) (w (ix2 2 l)) 1 2047 rfl (by omega) _).trans (congrArg (· * _) (at2_ix2 w 2 l).symm)
  · exact (mul_ahead n l (grad x g w t) (w (ix2 1 l)) 2 2046 rfl (by omega) _).trans (congrArg (· * _) (at2_ix2 w 1 l).symm)
  · exact (mul_ahead n l (grad x g w t) (w (ix2 0 l)) 3 2045 rfl (by omega) _).trans (congrArg (· * _) (at2_ix2 w 0 l).symm)

theorem weight_0 : k0_pay11 (F := Ideal) (BitVec.ofNat 32 t) x g (k0_pay8 x w) (k0_pay9 x w) (ix2 0 l) = tap (at2 x) (at2 (grad x g w t)) 0 l.val := by
  pointwise [k0_pay11]
  refine Finset.sum_congr rfl fun n _ => ?_
  unfold ahead
  rw [if_pos (show n.val + 0 < 2048 from n.isLt), at2_ix2]
  exact congrArg (· * _) (at2_ix2 (grad x g w t) n l).symm

theorem weight_1 : k0_pay14 (F := Ideal) (BitVec.ofNat 32 t) x g (k0_pay8 x w) (k0_pay9 x w) (ix2 0 l) = tap (at2 x) (at2 (grad x g w t)) 1 l.val := by
  pointwise [k0_pay14, k0_pay12]
  exact Finset.sum_congr rfl fun n _ => (ahead_mul x n l (grad x g w t) 1 2047 rfl (by omega) _)

theorem weight_2 : k0_pay2 (F := Ideal) x k0_pay15 (k0_pay16 (BitVec.ofNat 32 t) g (k0_pay8 x w) (k0_pay9 x w)) (ix2 0 l)
    = tap (at2 x) (at2 (grad x g w t)) 2 l.val := by
  pointwise [k0_pay2, k0_pay1, k0_pay15, k0_pay16]
  exact Finset.sum_congr rfl fun n _ => (ahead_mul x n l (grad x g w t) 2 2046 rfl (by omega) _)

theorem weight_3 : k0_pay4 (F := Ideal) x (grad x g w t) (iota .tc S2048x128 32 [0] iota_S2048x128_d0_w32) (ix2 0 l)
    = tap (at2 x) (at2 (grad x g w t)) 3 l.val := by
  pointwise [k0_pay4, k0_pay3]
  exact Finset.sum_congr rfl fun n _ => (ahead_mul x n l (grad x g w t) 3 2045 rfl (by omega) _)

end Payloads

section Outputs

variable (x g : FVec Ideal S2048x128 .f32) (w : FVec Ideal S4x128 .f32) (n : Fin 2048) (l : Fin 128) (i : grid0.Coords)

theorem input_out : out0_3 (F := Ideal) i x w g (ix2 n l) = spread (at2 w) (at2 (grad x g w (i 0).val)) n.val l.val := by
  unfold_out out0_3
  frame_out
  exact input_grad x g w n l (i 0).val

theorem weight_out (k : Fin 4) : out0_4 (F := Ideal) i x w g (ix2 k l) = tap (at2 x) (at2 (grad x g w (i 0).val)) (3 - k.val) l.val := by
  unfold_out out0_4
  frame_out
  canon_tiles z h
  all_goals
    obtain ⟨l', rfl⟩ : ∃ l' : Fin 128, z = ix2 0 l' := ⟨z 1, (eq_ix2 z).trans (congrArg (ix2 · (z 1)) (Subsingleton.elim (α := Fin 1) _ _))⟩
    obtain rfl : l = l' := Fin.ext h1
    replace h0 : k.val = _ := h0
    rw [h0]
  · exact weight_3 x g w l (i 0).val
  · exact weight_2 x g w l (i 0).val
  · exact weight_1 x g w l (i 0).val
  · exact weight_0 x g w l (i 0).val

end Outputs

section Reference

variable (x0 : S2048x8448.Idx → EReal) (x1 : S4x3072.Idx → EReal) (x2 : S2048x3072.Idx → EReal) (n : Fin 2048) (l : Fin 128) (h : Fin 8) (c : Fin 3072)

open QkvBRefIdeal.Read in
theorem ref_back3 : val_main_v6 (F := Ideal) x0 (ix2 n c) = back (at2 x0) 3 n.val c.val := by
  pointwise [val_main_v6, val_main_v2, val_main_v1, val_main_cst, val_main_v0]
  unfold back
  by_cases h : n.val < 3
  · exact (dif_pos h).trans (if_neg (by omega)).symm
  · refine (dif_neg h).trans (Eq.trans ?_ (if_pos (by omega)).symm)
    exact at2_of x0 _ _ _ rfl rfl

open QkvBRefIdeal.Read in
theorem ref_back2 : val_main_v14 (F := Ideal) x0 (ix2 n c) = back (at2 x0) 2 n.val c.val := by
  pointwise [val_main_v14, val_main_v2, val_main_v1, val_main_cst, val_main_v0]
  unfold back
  by_cases h : 1 + n.val < 3
  · exact (dif_pos h).trans (if_neg (by omega)).symm
  · refine (dif_neg h).trans (Eq.trans ?_ (if_pos (by omega)).symm)
    exact at2_of x0 _ _ _ (by show 1 + n.val - 3 = _; omega) rfl

open QkvBRefIdeal.Read in
theorem ref_back1 : val_main_v21 (F := Ideal) x0 (ix2 n c) = back (at2 x0) 1 n.val c.val := by
  pointwise [val_main_v21, val_main_v2, val_main_v1, val_main_cst, val_main_v0]
  unfold back
  by_cases h : 2 + n.val < 3
  · exact (dif_pos h).trans (if_neg (by omega)).symm
  · refine (dif_neg h).trans (Eq.trans ?_ (if_pos (by omega)).symm)
    exact at2_of x0 _ _ _ (by show 2 + n.val - 3 = _; omega) rfl

open QkvBRefIdeal.Read in
theorem ref_back0 : val_main_v28 (F := Ideal) x0 (ix2 n c) = back (at2 x0) 0 n.val c.val := by
  pointwise [val_main_v28, val_main_v2, val_main_v1, val_main_cst, val_main_v0]
  exact at2_of x0 _ _ _ rfl rfl

open QkvBRefIdeal.Read in
theorem ref_conv : val_main_v32 (F := Ideal) x0 x1 (ix2 n c) = conv (at2 x0) (at2 x1) n.val c.val := by
  pointwise [val_main_v32, val_main_v25, val_main_v18, val_main_v11, val_main_v10, val_main_cst_1, val_main_v9, val_main_v8, val_main_v7,
    val_main_v5, val_main_v4, val_main_v17, val_main_v16, val_main_v15, val_main_v13,
    val_main_v12, val_main_v24, val_main_v23, val_main_v22, val_main_v20, val_main_v19, val_main_v31, val_main_v30, val_main_v29,
    val_main_v27, val_main_v26]
  rw [ref_back3, ref_back2, ref_back1, ref_back0]
  unfold conv
  rw [show at2 x1 3 c.val = x1 (ix2 3 c) from at2_ix2 x1 3 c, show at2 x1 2 c.val = x1 (ix2 2 c) from at2_ix2 x1 2 c,
    show at2 x1 1 c.val = x1 (ix2 1 c) from at2_ix2 x1 1 c, show at2 x1 0 c.val = x1 (ix2 0 c) from at2_ix2 x1 0 c]
  rw [show back (at2 x0) 0 n.val c.val = at2 x0 n.val c.val from rfl]
  generalize x1 (ix2 0 c) * back (at2 x0) 3 n.val c.val = p0
  generalize x1 (ix2 1 c) * back (at2 x0) 2 n.val c.val = p1
  generalize x1 (ix2 2 c) * back (at2 x0) 1 n.val c.val = p2
  generalize x1 (ix2 3 c) * at2 x0 n.val c.val = p3
  exact (show ∀ p0 p1 p2 p3 : EReal, p0 + p1 + p2 + p3 = p3 + p2 + p1 + p0 from fun _ _ _ _ => by ac_rfl) p0 p1 p2 p3

open QkvBRefIdeal.Read in
theorem ref_act : val_main_v33_0 (F := Ideal) x0 x1 (ix2 n c) = act (at2 x0) (at2 x1) n.val c.val := by
  pointwise [val_main_v33_0, val_main_v33_2, val_main_call0_v4, val_main_call0_v3, val_main_call0_v2, val_main_call0_v1, val_main_call0_v0, val_main_call0_cst, val_main_call0_cst_0]
  rw [ref_conv]
  rfl

open QkvBRefIdeal.Read in
theorem ref_query : val_main_v97 (F := Ideal) x0 x1 x2 (ix3 n h l)
    = plain (at2 x0) (at2 x1) (fun n c => at2 x2 n c * Ideal.ofBits .f32 0x3DB504F3#32) (h.val * 128) n.val (h.val * 128 + l.val) := by
  pointwise [val_main_v97, val_main_v96, val_main_v95, val_main_v94, val_main_v93, val_main_v92, val_main_v91, val_main_v90, val_main_v89, val_main_v88, val_main_v87,
    val_main_v86, val_main_v85, val_main_v84, val_main_v70, val_main_v66, val_main_v46, val_main_v45, val_main_v44, val_main_v43, val_main_v42, val_main_v41,
    val_main_v40, val_main_v39, val_main_v38, val_main_v37, val_main_v34, val_main_cst_2, val_main_cst_3, val_main_cst_4, val_main_cst_11, val_main_cst_12, val_main_cst_13]
  have e : ∀ x : Fin 128, ∀ p, x2 (ix2 n ⟨h.val * 128 + x.val, p⟩) = at2 x2 n.val (h.val * 128 + x.val) := fun x p => at2_of x2 _ _ _ rfl rfl
  simp only [ref_act, Finset.univ_unique, Finset.sum_singleton, e]
  rfl

open QkvBRefIdeal.Read in
theorem ref_key : val_main_v82 (F := Ideal) x0 x1 x2 (ix3 n h l)
    = plain (at2 x0) (at2 x1) (at2 x2) (1024 + h.val * 128) n.val (1024 + h.val * 128 + l.val) := by
  pointwise [val_main_v82, val_main_v81, val_main_v80, val_main_v79, val_main_v78, val_main_v77, val_main_v76, val_main_v75, val_main_v74, val_main_v73, val_main_v72,
    val_main_v71, val_main_v69, val_main_v67, val_main_v60, val_main_v59, val_main_v58, val_main_v57, val_main_v56, val_main_v55, val_main_v54, val_main_v53,
    val_main_v52, val_main_v51, val_main_v35, val_main_cst_6, val_main_cst_7, val_main_cst_8, val_main_cst_9, val_main_cst_10]
  have e : ∀ x : Fin 128, ∀ p, x2 (ix2 n ⟨1024 + (h.val * 128 + x.val), p⟩) = at2 x2 n.val (1024 + h.val * 128 + x.val) :=
    fun x p => at2_of x2 _ _ _ rfl (Nat.add_assoc _ _ _).symm
  simp only [ref_act, Finset.univ_unique, Finset.sum_singleton, e]
  simp only [← Nat.add_assoc]
  rfl

open QkvBRefIdeal.Read in
theorem ref_inner : val_main_v99 (F := Ideal) x0 x1 x2 (ix2 n c)
    = if c.val / 128 < 8 then plain (at2 x0) (at2 x1) (fun n c => at2 x2 n c * Ideal.ofBits .f32 0x3DB504F3#32) (c.val / 128 * 128) n.val c.val
      else if c.val / 128 < 16 then plain (at2 x0) (at2 x1) (at2 x2) (c.val / 128 * 128) n.val c.val else at2 x2 n.val c.val := by
  pointwise [val_main_v99, val_main_v98, val_main_v83, val_main_v68]
  have hc := c.isLt
  by_cases h1 : c.val < 1024
  · rw [if_pos (show c.val / 128 < 8 by omega)]
    refine (dif_pos h1).trans ((ref_query _ _ _ _ _ _).trans ?_)
    exact congrArg (plain _ _ _ _ _) (by show c.val / 128 * 128 + c.val % 128 = _; omega)
  · rw [if_neg (show ¬ c.val / 128 < 8 by omega)]
    refine (dif_neg h1).trans ?_
    by_cases h2 : c.val - 1024 < 1024
    · rw [if_pos (show c.val / 128 < 16 by omega)]
      refine (dif_pos h2).trans ((ref_key _ _ _ _ _ _).trans ?_)
      exact congrArg₂ (fun b => plain _ _ _ b _) (by show 1024 + (c.val - 1024) / 128 * 128 = _; omega)
        (by show 1024 + (c.val - 1024) / 128 * 128 + (c.val - 1024) % 128 = _; omega)
    · rw [if_neg (show ¬ c.val / 128 < 16 by omega)]
      refine (dif_neg h2).trans ?_
      exact at2_of x2 _ _ _ rfl (by show 2048 + (c.val - 1024 - 1024) = _; omega)

open QkvBRefIdeal.Read in
theorem ref_grad : val_main_v100 (F := Ideal) x0 x1 x2 (ix2 n c)
    = dplain (at2 x0) (at2 x1) (at2 x2) (c.val / 128) (c.val / 128 * 128) n.val c.val := by
  pointwise [val_main_v100, val_main_call1_v1, val_main_call1_v2, val_main_call1_v0, val_main_v33_1, val_main_v33_2, val_main_call0_v4, val_main_call0_v3, val_main_call0_v2,
    val_main_call0_v1, val_main_call0_v0, val_main_call0_cst, val_main_call0_cst_0, val_main_call0_cst_1, val_main_call0_v7, val_main_call0_v6]
  rw [ref_conv, ref_inner]
  rfl

open QkvBRefIdeal.Read in
theorem ref_input : val_main_v145 (F := Ideal) x0 x1 x2 (ix2 n c) = spread (at2 x1) (at2 (val_main_v100 (F := Ideal) x0 x1 x2)) n.val c.val := by
  pointwise [val_main_v145, val_main_v144, val_main_v139, val_main_v138, val_main_v133, val_main_v132, val_main_v128, val_main_v127, val_main_v122, val_main_v121,
    val_main_v117, val_main_v116, val_main_v111, val_main_v110, val_main_v107, val_main_v102, val_main_v101, val_main_cst_16, val_main_cst_20, val_main_cst_24, val_main_cst_28,
    val_main_v29, val_main_v27, val_main_v26, val_main_v22, val_main_v20, val_main_v19, val_main_v15, val_main_v13, val_main_v12, val_main_v7, val_main_v5, val_main_v4]
  generalize val_main_v100 (F := Ideal) x0 x1 x2 = d
  have hn := n.isLt
  unfold spread ahead
  rw [at2_ix2, show at2 x1 3 c.val = x1 (ix2 3 c) from at2_ix2 x1 3 c, show at2 x1 2 c.val = x1 (ix2 2 c) from at2_ix2 x1 2 c,
    show at2 x1 1 c.val = x1 (ix2 1 c) from at2_ix2 x1 1 c, show at2 x1 0 c.val = x1 (ix2 0 c) from at2_ix2 x1 0 c]
  refine congrArg₂ (· + ·) (congrArg₂ (· + ·) (congrArg₂ (· + ·) rfl ?_) ?_) ?_
  · by_cases h : n.val + 1 < 2048
    · rw [dif_pos ⟨by omega, by omega⟩, if_pos h]
      exact congrArg _ (at2_of d _ _ _ (by show 3 + n.val - 2 = _; omega) rfl)
    · rw [dif_neg (by omega), if_neg h, mul_zero]
  · by_cases h : n.val + 2 < 2048
    · rw [dif_pos ⟨by omega, by omega⟩, if_pos h]
      exact congrArg _ (at2_of d _ _ _ (by show 3 + n.val - 1 = _; omega) rfl)
    · rw [dif_neg (by omega), if_neg h, mul_zero]
  · by_cases h : n.val + 3 < 2048
    · rw [dif_pos (by omega), if_pos h]
      exact congrArg _ (at2_of d _ _ _ (by show 3 + n.val = _; omega) rfl)
    · rw [dif_neg (by omega), if_neg h, mul_zero]

open QkvBRefIdeal.Read in
theorem ref_weight (k : Fin 4) : val_main_v142 (F := Ideal) x0 x1 x2 (ix2 k c) = tap (at2 x0) (at2 (val_main_v100 (F := Ideal) x0 x1 x2)) (3 - k.val) c.val := by
  pointwise [val_main_v142, val_main_v141, val_main_v140, val_main_v137, val_main_v136, val_main_v135, val_main_v134, val_main_v131, val_main_v130, val_main_v129, val_main_v126,
    val_main_v125, val_main_v124, val_main_v123, val_main_v120, val_main_v119, val_main_v118, val_main_v115, val_main_v114, val_main_v113, val_main_v112, val_main_v109, val_main_v108, val_main_v106,
    val_main_v105, val_main_v104, val_main_v103, val_main_cst_14, val_main_cst_15, val_main_cst_17, val_main_cst_18, val_main_cst_19, val_main_cst_21, val_main_cst_22, val_main_cst_23,
    val_main_cst_25, val_main_cst_26, val_main_cst_27, val_main_cst_29]
  simp only [ref_back3, ref_back2, ref_back1, ref_back0]
  generalize val_main_v100 (F := Ideal) x0 x1 x2 = d
  have e : ∀ x : Fin 2048, d (ix2 x c) = at2 d x.val c.val := fun x => (at2_ix2 d x c).symm
  rw [← tap_eq _ _ _ _ (by omega)]
  simp only [Finset.univ_unique, Finset.sum_singleton, Finset.sum_const, Finset.card_singleton, one_smul, e]
  obtain ⟨k, hk⟩ := k
  interval_cases k <;> simp

end Reference

/-! ## The two results -/

section Results

variable (m : (ℓ : Loc nD τ sig) → Buf (Elt Ideal) ℓ) (c : Dev nD)

abbrev proj : S2048x8448.Idx → EReal := m ((c : Thread nD τ).loc main_arg0)
abbrev wgt : S4x3072.Idx → EReal := m ((c : Thread nD τ).loc main_arg1)
abbrev grd : S2048x3072.Idx → EReal := m ((c : Thread nD τ).loc main_arg2)

theorem index_maps : ∀ t : Fin cfg0.N, win0_0.index t = ![0, t.val] ∧ win0_1.index t = ![0, t.val] ∧ win0_2.index t = ![0, t.val]
    ∧ win0_3.index t = ![0, t.val] ∧ win0_4.index t = ![0, t.val] ∧ (grid0.coords t 0).val = t.val :=
  (by decide +kernel : ∀ t : Fin grid0.N, _)

variable (t : Fin cfg0.N)

theorem block0 (n : Fin 2048) (l : Fin 128) : iblk m c 0 t (ix2 n l) = at2 (proj m c) n.val (128 * t.val + l.val) := by
  obtain ⟨e0, e1, e2, e3, e4, e5⟩ := index_maps t
  blk_simp [iblk]
  refine at2_of (proj m c) _ _ _ ?_ ?_ <;> blk_simp [e0] <;> omega

theorem block1 (k : Fin 4) (l : Fin 128) : iblk m c 1 t (ix2 k l) = at2 (wgt m c) k.val (128 * t.val + l.val) := by
  obtain ⟨e0, e1, e2, e3, e4, e5⟩ := index_maps t
  blk_simp [iblk]
  refine at2_of (wgt m c) _ _ _ ?_ ?_ <;> blk_simp [e1] <;> omega

theorem block2 (n : Fin 2048) (l : Fin 128) : iblk m c 2 t (ix2 n l) = at2 (grd m c) n.val (128 * t.val + l.val) := by
  obtain ⟨e0, e1, e2, e3, e4, e5⟩ := index_maps t
  blk_simp [iblk]
  refine at2_of (grd m c) _ _ _ ?_ ?_ <;> blk_simp [e2] <;> omega

/-- A real array, read anywhere. -/
theorem at2_real {M N : ℕ} {x : (⟨2, ![M, N]⟩ : Shape).Idx → EReal} (hx : ∀ i, IsReal (x i)) (n k : ℕ) : IsReal (at2 x n k) := by
  unfold at2
  split_ifs
  exacts [hx _, IsReal.zero]

variable (hx : ∀ i, IsReal (proj m c i)) (hw : ∀ i, IsReal (wgt m c i)) (hg : ∀ i, IsReal (grd m c i))

abbrev dconvs : S2048x3072.Idx → EReal := QkvBRefIdeal.Read.val_main_v100 (F := Ideal) (proj m c) (wgt m c) (grd m c)

include hx hw hg in
/-- The two programs' gradients at the convolution agree. -/
theorem grads (n : ℕ) (hn : n < 2048) (l : Fin 128) (C : Fin 3072) (hC : C.val = 128 * t.val + l.val) :
    at2 (grad (iblk m c 0 t) (iblk m c 2 t) (iblk m c 1 t) t.val) n l.val = at2 (dconvs m c) n C.val := by
  have ht : t.val < 24 := lt_of_lt_of_eq t.isLt N_0
  have hl := l.isLt
  refine (at2_ix2 (grad (iblk m c 0 t) (iblk m c 2 t) (iblk m c 1 t) t.val) ⟨n, hn⟩ l).trans ?_
  refine (grad_apply _ _ _ ⟨n, hn⟩ l t.val ht).trans ?_
  refine (dconv_block (x := at2 (proj m c)) (w := at2 (wgt m c)) (g := at2 (grd m c)) (b := 128 * t.val) ?_ ?_ ?_ t.val hn hl).trans ?_
  · exact fun n hn l hl => (at2_ix2 (iblk m c 0 t) ⟨n, hn⟩ ⟨l, hl⟩).trans (block0 m c t ⟨n, hn⟩ ⟨l, hl⟩)
  · exact fun n hn l hl => (at2_ix2 (iblk m c 1 t) ⟨n, hn⟩ ⟨l, hl⟩).trans (block1 m c t ⟨n, hn⟩ ⟨l, hl⟩)
  · exact fun n hn l hl => (at2_ix2 (iblk m c 2 t) ⟨n, hn⟩ ⟨l, hl⟩).trans (block2 m c t ⟨n, hn⟩ ⟨l, hl⟩)
  · rw [dconv_eq (at2_real hx) (at2_real hw) (at2_real hg)]
    refine Eq.trans ?_ ((at2_ix2 (dconvs m c) ⟨n, hn⟩ C).trans (ref_grad _ _ _ ⟨n, hn⟩ C)).symm
    rw [show C.val / 128 = t.val by omega, Nat.mul_comm t.val 128, hC]

include hx hw hg in
theorem input_read (y : S2048x128.Idx) (i : S2048x3072.Idx) (h0 : (i 0).val = (y 0).val) (h1 : (i 1).val = 128 * t.val + (y 1).val) :
    out0_3 (F := Ideal) (grid0.coords t) (iblk m c 0 t) (iblk m c 1 t) (iblk m c 2 t) y
      = QkvBRefIdeal.Read.val_main_v145 (F := Ideal) (proj m c) (wgt m c) (grd m c) i := by
  obtain ⟨n, l, rfl⟩ : ∃ (n : Fin 2048) (l : Fin 128), y = ix2 n l := ⟨y 0, y 1, eq_ix2 y⟩
  obtain ⟨C, rfl⟩ : ∃ C : Fin 3072, i = ix2 n C := ⟨i 1, (eq_ix2 i).trans (congrArg (ix2 · (i 1)) (Fin.ext h0))⟩
  replace h1 : C.val = 128 * t.val + l.val := h1
  obtain ⟨e0, e1, e2, e3, e4, e5⟩ := index_maps t
  rw [input_out, ref_input, e5]
  refine spread_congr n.isLt (fun k hk => ?_) fun n hn => grads m c t hx hw hg n hn l C h1
  exact ((at2_ix2 (iblk m c 1 t) ⟨k, hk⟩ l).trans (block1 m c t ⟨k, hk⟩ l)).trans (by rw [h1])

include hx hw hg in
theorem weight_read (y : S4x128.Idx) (i : S4x3072.Idx) (h0 : (i 0).val = (y 0).val) (h1 : (i 1).val = 128 * t.val + (y 1).val) :
    out0_4 (F := Ideal) (grid0.coords t) (iblk m c 0 t) (iblk m c 1 t) (iblk m c 2 t) y
      = QkvBRefIdeal.Read.val_main_v142 (F := Ideal) (proj m c) (wgt m c) (grd m c) i := by
  obtain ⟨k, l, rfl⟩ : ∃ (k : Fin 4) (l : Fin 128), y = ix2 k l := ⟨y 0, y 1, eq_ix2 y⟩
  obtain ⟨C, rfl⟩ : ∃ C : Fin 3072, i = ix2 k C := ⟨i 1, (eq_ix2 i).trans (congrArg (ix2 · (i 1)) (Fin.ext h0))⟩
  replace h1 : C.val = 128 * t.val + l.val := h1
  obtain ⟨e0, e1, e2, e3, e4, e5⟩ := index_maps t
  rw [weight_out, ref_weight, e5]
  refine tap_congr _ (fun n hn => ?_) fun n hn => grads m c t hx hw hg n hn l C h1
  exact ((at2_ix2 (iblk m c 0 t) ⟨n, hn⟩ l).trans (block0 m c t ⟨n, hn⟩ l)).trans (by rw [h1])

set_option maxHeartbeats 2000000 in
include hx hw hg in
theorem input_array : (dats m 0 c).arrAt 3 cfg0.N = QkvBRefIdeal.Read.val_main_v145 (F := Ideal) (proj m c) (wgt m c) (grd m c) := by
  refine (dats m 0 c).arrAt_eq_of_covers 3 _ (by decide +kernel) fun t hf y => ?_
  obtain ⟨e0, e1, e2, e3, e4, e5⟩ := index_maps t
  rw [after0_3]
  refine input_read m c t hx hw hg _ _ ?_ ?_
  · blk_simp [e3]
  · blk_simp [e3]
    exact congrArg (· + _) (Nat.mul_comm _ _)

include hx hw hg in
theorem weight_array : (dats m 0 c).arrAt 4 cfg0.N = QkvBRefIdeal.Read.val_main_v142 (F := Ideal) (proj m c) (wgt m c) (grd m c) := by
  refine (dats m 0 c).arrAt_eq_of_covers 4 _ (by decide +kernel) fun t hf y => ?_
  obtain ⟨e0, e1, e2, e3, e4, e5⟩ := index_maps t
  rw [after0_4]
  refine weight_read m c t hx hw hg _ _ ?_ ?_
  · blk_simp [e4]
  · blk_simp [e4]
    exact congrArg (· + _) (Nat.mul_comm _ _)

end Results

variable (m : (ℓ : Loc nD τ sig) → Buf (Elt Ideal) ℓ) (c : Dev nD)

/-- What the precondition says of one entry. -/
theorem real_of_below {a : EReal} (h : (FloatOps.cmpf .olt (max a (-a)) (Ideal.ofBits .f32 2139095040#32) : BitVec 1) = 1#1) : IsReal a := by
  have top : Ideal.ofBits .f32 2139095040#32 = ⊤ := by simp [Ideal.ofBits, Ideal.ieee]
  rw [top] at h
  refine IsReal.of_ne ?_ ?_ <;> rintro rfl <;> simp [FloatOps.cmpf, Ideal.cmp] at h

theorem finite [Cert.Pre_qkvb_finite.Facts] (h : Cert.Pre_QkvBIdeal_qkvb_finite m) :
    (∀ i, IsReal (proj m c i)) ∧ (∀ i, IsReal (wgt m c i)) ∧ ∀ i, IsReal (grd m c i) :=
  ⟨fun i => real_of_below (congrFun (h c).1 i), fun i => real_of_below (congrFun (h c).2.1 i), fun i => real_of_below (congrFun (h c).2.2 i)⟩

theorem algebraic : Cert.algebraic_QkvBIdeal_QkvBRefIdeal_pre_qkvb_finite (hQkvBIdeal := Cert.QkvBIdeal.Gen.facts)
    (hQkvBRefIdeal := Cert.QkvBRefIdeal.Gen.facts) (hPre_qkvb_finite := Cert.Pre_qkvb_finite.Gen.facts) :=
  fun m ρ m' ρ' pre hag => ⟨_, _,
    (θ_run _ _ _).mono (fun _ h c => ⟨(h c).1.trans (input_array m c (finite m c pre).1 (finite m c pre).2.1 (finite m c pre).2.2),
      (h c).2.1.trans (weight_array m c (finite m c pre).1 (finite m c pre).2.1 (finite m c pre).2.2), (h c).2.2⟩)
      (Cert.QkvBIdeal.Value.run_blocks m ρ),
    (θ_run _ _ _).mono (fun _ h c => ⟨(h c).1.trans (by
        rw [QkvBRefIdeal.Read.val_main_v145_eq]
        exact congr (congr (congrArg (QkvBRefIdeal.Read.val_main_v145 (F := Ideal)) (hag c).1) (hag c).2.1) (hag c).2.2),
      (h c).2.1.trans (by
        rw [QkvBRefIdeal.Read.val_main_v142_eq]
        exact congr (congr (congrArg (QkvBRefIdeal.Read.val_main_v142 (F := Ideal)) (hag c).1) (hag c).2.1) (hag c).2.2), (h c).2.2⟩)
      (Cert.QkvBRefIdeal.Value.run m' ρ')⟩

theorem ref_frame : Cert.quiescent_QkvBRefIdeal (hQkvBRefIdeal := Cert.QkvBRefIdeal.Gen.facts) :=
  fun m ρ _ => (θ_run _ _ _).mono (fun r h => ⟨fun c => (h c).2.2, sem_eq_zero_of_no_sems (by decide) r.2⟩) (Cert.QkvBRefIdeal.Value.run m ρ)

end Cert.QkvBIdeal.Entry

end
-- ==== Proof.HeadNorm.lean ====
/-
  The gradient at the weight of the norm of each head: the terms of its sum over the rows and the heads, the sum over the
  two leading axes of an array, and the sum of the rows from a block of 64 on.
-/
module

public import Idealize.ShloMosaic.Lib.Pointwise
public import Idealize.ShloMosaic.Lib.IdealHost
public import proofs.«01_k».proof.Proof.Blocks

@[expose] public section

noncomputable section

namespace Cert.HeadNorm

open Idealize.ShloMosaic Cert.Blocks

variable (x z g : ℕ → ℕ → EReal)

/-- The reciprocal root of the mean square of row `n` over the 128 columns from `b` on. -/
def inv (n b : ℕ) : EReal :=
  Ideal.rsqrt (Ideal.div (∑ k : Fin 128, x n (b + k.val) * x n (b + k.val)) (Ideal.ofBits .f32 0x43000000#32) + Ideal.ofBits .f32 0x358637BD#32)

/-- What row `n` and the head of the columns from `b` on add to entry `l` of the gradient: the upstream `g` through the
    gate `z`'s silu, times the normed value. -/
def term (n b l : ℕ) : EReal :=
  g n (b + l) * (z n (b + l) * Ideal.logistic (z n (b + l))) * x n (b + l) * inv x n b

/-- The same of all eight heads of a row. -/
def rowTerm (l n : ℕ) : EReal := ∑ h : Fin 8, term x z g n (h.val * 128) l

/-- The order in which the reference multiplies. -/
theorem term_comm (a b c d e : EReal) : a * b * (c * (d * e)) = c * (d * e) * a * b := by
  ac_rfl

variable {x z g} in
/-- A row's terms read 1024 columns. -/
theorem rowTerm_of {x' z' g' : ℕ → ℕ → EReal} {n n' : ℕ} (hx : ∀ k < 1024, x n k = x' n' k) (hz : ∀ k < 1024, z n k = z' n' k)
    (hg : ∀ k < 1024, g n k = g' n' k) {l : ℕ} (hl : l < 128) : rowTerm x z g l n = rowTerm x' z' g' l n' := by
  unfold rowTerm term inv
  refine Finset.sum_congr rfl fun h _ => ?_
  have hh := h.isLt
  have e : ∀ k : Fin 128, x n (h.val * 128 + k.val) = x' n' (h.val * 128 + k.val) := fun k => hx _ (by have := k.isLt; omega)
  simp only [e, hx _ (show h.val * 128 + l < 1024 by omega), hz _ (show h.val * 128 + l < 1024 by omega), hg _ (show h.val * 128 + l < 1024 by omega)]

/-- A block of 64 rows, head after head. -/
theorem block_sum (l : ℕ) : ∑ r : Fin 64, term x z g r.val 0 l + ∑ r : Fin 64, term x z g r.val 128 l + ∑ r : Fin 64, term x z g r.val 256 l
      + ∑ r : Fin 64, term x z g r.val 384 l + ∑ r : Fin 64, term x z g r.val 512 l + ∑ r : Fin 64, term x z g r.val 640 l
      + ∑ r : Fin 64, term x z g r.val 768 l + ∑ r : Fin 64, term x z g r.val 896 l
    = ∑ r : Fin 64, rowTerm x z g l r.val :=
  (Fin.sum_univ_eight fun h : Fin 8 => ∑ r : Fin 64, term x z g r.val (h.val * 128) l).symm.trans Finset.sum_comm

/-- The rows from block `k` on are its rows and those from the next block on. -/
theorem sum_from (f : ℕ → EReal) (k : ℕ) (h : k < 32) :
    ∑ n ∈ Finset.Ico (64 * k) 2048, f n = ∑ n ∈ Finset.Ico (64 * (k + 1)) 2048, f n + ∑ r : Fin 64, f (64 * k + r.val) := by
  rw [← Finset.sum_Ico_consecutive f (show 64 * k ≤ 64 * (k + 1) by omega) (show 64 * (k + 1) ≤ 2048 by omega), add_comm]
  refine congrArg (_ + ·) ?_
  rw [Finset.sum_Ico_eq_sum_range, show 64 * (k + 1) - 64 * k = 64 by omega, Finset.sum_range]

/-- A sum over the two leading axes. -/
theorem sum_two {A B C : ℕ} (h : (⟨3, ![A, B, C]⟩ : Shape).ReducesTo [0, 1] ⟨1, ![C]⟩) (v : (⟨3, ![A, B, C]⟩ : Shape).Idx → EReal)
    (init : EReal) (l : Fin C) : Ideal.hostReduceAdd h v init (ix1 l) = init + ∑ n : Fin A, ∑ k : Fin B, v (ix3 n k l) := by
  unfold Ideal.hostReduceAdd
  refine congrArg (init + ·) ?_
  rw [← Finset.sum_product']
  have e : ∀ i : (⟨3, ![A, B, C]⟩ : Shape).Idx, (h.drop i (0 : Fin 1)).val = (i (2 : Fin 3)).val := fun i => rfl
  refine Finset.sum_bij' (fun i _ => ((i 0 : Fin A), (i 1 : Fin B))) (fun p _ => ix3 p.1 p.2 l) ?_ ?_ ?_ ?_ ?_
  · exact fun i _ => Finset.mem_product.mpr ⟨Finset.mem_univ _, Finset.mem_univ _⟩
  · refine fun p _ => Finset.mem_filter.mpr ⟨Finset.mem_univ _, (eq_ix1 _).trans (congrArg ix1 (Fin.ext (e _)))⟩
  · intro i hi
    have q : (i 2 : Fin C) = l := Fin.ext ((e i).symm.trans (congrArg (fun f : (⟨1, ![C]⟩ : Shape).Idx => (f 0).val) (Finset.mem_filter.mp hi).2))
    exact ((eq_ix3 i).trans (congrArg (ix3 (i 0) (i 1)) q)).symm
  · exact fun p _ => rfl
  · intro i hi
    have q : (i 2 : Fin C) = l := Fin.ext ((e i).symm.trans (congrArg (fun f : (⟨1, ![C]⟩ : Shape).Idx => (f 0).val) (Finset.mem_filter.mp hi).2))
    exact congrArg v ((eq_ix3 i).trans (congrArg (ix3 (i 0) (i 1)) q))

/-- An entry of the 128 columns from `o` on of a block of 64 rows. -/
theorem ld_at (X : (⟨2, ![64, 1024]⟩ : Shape).Idx → Elt Ideal .f32) (o : ℕ) (inb) (r : Fin 64) (k : Fin 128) :
    (View.ld X (Rect.unit (s := ⟨2, ![64, 1024]⟩) ![0, o] ![64, 128] inb) : (⟨2, ![64, 128]⟩ : Shape).Idx → EReal) (ix2 r k)
      = at2 X r.val (o + k.val) :=
  at2_of X _ _ _ (by show 0 + 1 * r.val = r.val; omega) (by show o + 1 * k.val = o + k.val; omega)

end Cert.HeadNorm

end
-- ==== Proof.HgBVal.lean ====
/-
  The backward call of the HGRN2 branch: the gradient at the head norm's weight.
-/
module

public import proofs.«01_k».proof.Defs
public import proofs.«01_k».proof.Proof.Gen.HgBIdeal.Value
public import proofs.«01_k».proof.Proof.Gen.HgBRefIdeal.Read
public import proofs.«01_k».proof.Proof.HeadNorm
public import Idealize.ShloMosaic.Lib.Pipeline.ValueKit
public import Idealize.ShloMosaic.Lib.Tactic

@[expose] public section

set_option maxRecDepth 16384

noncomputable section

namespace Cert.HgBIdeal.Entry

open Cert.HgBIdeal Cert.HgBIdeal.Gen Cert.HgBIdeal.Value Idealize.ShloMosaic Idealize.ShloMosaic.TcCoe Idealize.SL.Sem Cert.Blocks Cert.HeadNorm

/-! ## A grid point's sum -/

section Point

/-- A row's summand, before the rows are summed. -/
abbrev cell (x z g : FVec Ideal S64x128 .f32) (r : Fin 64) (l : Fin 128) : EReal :=
  g (ix2 r l) * (z (ix2 r l) * Ideal.logistic (z (ix2 r l))) * x (ix2 r l)
    * Ideal.rsqrt (Ideal.div (∑ k : Fin 128, x (ix2 r k) * x (ix2 r k)) (Ideal.ofBits .f32 0x43000000#32) + Ideal.ofBits .f32 0x358637BD#32)

variable (x0 x1 x2 x3 x4 x5 x6 x7 z0 z1 z2 z3 z4 z5 z6 z7 g0 g1 g2 g3 g4 g5 g6 g7 : FVec Ideal S64x128 .f32) (a : FVec Ideal S1x128 .f32) (l : Fin 128)

/-- What a point writes of its heads' blocks and the value `a` it adds to. -/
abbrev step : FVec Ideal S1x128 .f32 :=
  k0_pay67 x7 (k0_pay59 x6 g6 (k0_pay51 x5 z5 g5 (k0_pay44 x4 z4 g4 (k0_pay37 x3 z3 g3 (k0_pay25 x1
    (k0_pay15 x0 k0_pay6 (k0_pay7 x0) (k0_pay9 z0 g0)) (k0_pay16 x1) (k0_pay18 z1 g1)) (k0_pay31 x2 z2 g2)) (k0_pay38 x4)) (k0_pay45 x5))
    (k0_pay52 x6) (k0_pay54 z6)) (k0_pay60 x7) (k0_pay63 z7 g7) a

theorem step_apply : step x0 x1 x2 x3 x4 x5 x6 x7 z0 z1 z2 z3 z4 z5 z6 z7 g0 g1 g2 g3 g4 g5 g6 g7 a (ix2 0 l)
    = a (ix2 0 l) + (∑ r : Fin 64, cell x0 z0 g0 r l + ∑ r : Fin 64, cell x1 z1 g1 r l + ∑ r : Fin 64, cell x2 z2 g2 r l
      + ∑ r : Fin 64, cell x3 z3 g3 r l + ∑ r : Fin 64, cell x4 z4 g4 r l + ∑ r : Fin 64, cell x5 z5 g5 r l
      + ∑ r : Fin 64, cell x6 z6 g6 r l + ∑ r : Fin 64, cell x7 z7 g7 r l) := by
  pointwise [k0_pay67, k0_pay59, k0_pay51, k0_pay44, k0_pay37, k0_pay25, k0_pay15, k0_pay6, k0_pay7, k0_pay9, k0_pay8, k0_pay16, k0_pay18,
    k0_pay17, k0_pay31, k0_pay28, k0_pay26, k0_pay38, k0_pay45, k0_pay52, k0_pay54, k0_pay53, k0_pay60, k0_pay63, k0_pay61, k0_pay34, k0_pay32,
    k0_pay41, k0_pay39, k0_pay48, k0_pay46, k0_pay56, k0_pay27, k0_pay33, k0_pay40, k0_pay47]

/-- The sums of a point's heads, read in its blocks of 1024 columns. -/
abbrev point (X Z G : Vec Ideal S64x1024 .f32) : FVec Ideal S1x128 .f32 := step
  (View.ld X (Rect.unit ![0, 0] ![64, 128] inb_S64x1024_S64x128_0_0)) (View.ld X (Rect.unit ![0, 128] ![64, 128] inb_S64x1024_S64x128_0_128))
  (View.ld X (Rect.unit ![0, 256] ![64, 128] inb_S64x1024_S64x128_0_256)) (View.ld X (Rect.unit ![0, 384] ![64, 128] inb_S64x1024_S64x128_0_384))
  (View.ld X (Rect.unit ![0, 512] ![64, 128] inb_S64x1024_S64x128_0_512)) (View.ld X (Rect.unit ![0, 640] ![64, 128] inb_S64x1024_S64x128_0_640))
  (View.ld X (Rect.unit ![0, 768] ![64, 128] inb_S64x1024_S64x128_0_768)) (View.ld X (Rect.unit ![0, 896] ![64, 128] inb_S64x1024_S64x128_0_896))
  (View.ld Z (Rect.unit ![0, 0] ![64, 128] inb_S64x1024_S64x128_0_0)) (View.ld Z (Rect.unit ![0, 128] ![64, 128] inb_S64x1024_S64x128_0_128))
  (View.ld Z (Rect.unit ![0, 256] ![64, 128] inb_S64x1024_S64x128_0_256)) (View.ld Z (Rect.unit ![0, 384] ![64, 128] inb_S64x1024_S64x128_0_384))
  (View.ld Z (Rect.unit ![0, 512] ![64, 128] inb_S64x1024_S64x128_0_512)) (View.ld Z (Rect.unit ![0, 640] ![64, 128] inb_S64x1024_S64x128_0_640))
  (View.ld Z (Rect.unit ![0, 768] ![64, 128] inb_S64x1024_S64x128_0_768)) (View.ld Z (Rect.unit ![0, 896] ![64, 128] inb_S64x1024_S64x128_0_896))
  (View.ld G (Rect.unit ![0, 0] ![64, 128] inb_S64x1024_S64x128_0_0)) (View.ld G (Rect.unit ![0, 128] ![64, 128] inb_S64x1024_S64x128_0_128))
  (View.ld G (Rect.unit ![0, 256] ![64, 128] inb_S64x1024_S64x128_0_256)) (View.ld G (Rect.unit ![0, 384] ![64, 128] inb_S64x1024_S64x128_0_384))
  (View.ld G (Rect.unit ![0, 512] ![64, 128] inb_S64x1024_S64x128_0_512)) (View.ld G (Rect.unit ![0, 640] ![64, 128] inb_S64x1024_S64x128_0_640))
  (View.ld G (Rect.unit ![0, 768] ![64, 128] inb_S64x1024_S64x128_0_768)) (View.ld G (Rect.unit ![0, 896] ![64, 128] inb_S64x1024_S64x128_0_896)) a

theorem cell_of {x z g : FVec Ideal S64x128 .f32} {X Z G : Vec Ideal S64x1024 .f32} {o : ℕ} (r : Fin 64)
    (hx : ∀ k : Fin 128, x (ix2 r k) = at2 X r.val (o + k.val)) (hz : ∀ k : Fin 128, z (ix2 r k) = at2 Z r.val (o + k.val))
    (hg : ∀ k : Fin 128, g (ix2 r k) = at2 G r.val (o + k.val)) : cell x z g r l = term (at2 X) (at2 Z) (at2 G) r.val o l.val := by
  unfold cell
  simp only [hx, hz, hg]
  rfl

theorem cell_eq (X Z G : Vec Ideal S64x1024 .f32) (o : ℕ) (inb) (r : Fin 64) :
    cell (View.ld X (Rect.unit (s := S64x1024) ![0, o] ![64, 128] inb)) (View.ld Z (Rect.unit (s := S64x1024) ![0, o] ![64, 128] inb))
      (View.ld G (Rect.unit (s := S64x1024) ![0, o] ![64, 128] inb)) r l = term (at2 X) (at2 Z) (at2 G) r.val o l.val :=
  cell_of l r (ld_at X o inb r) (ld_at Z o inb r) (ld_at G o inb r)

theorem point_apply (X Z G : Vec Ideal S64x1024 .f32) : point a X Z G (ix2 0 l)
    = a (ix2 0 l) + ∑ r : Fin 64, rowTerm (at2 X) (at2 Z) (at2 G) l.val r.val := by
  refine (step_apply _ _ _ _ _ _ _ _ _ _ _ _ _ _ _ _ _ _ _ _ _ _ _ _ a l).trans (congrArg (a (ix2 0 l) + ·) ?_)
  rw [← block_sum]
  have e : ∀ (o : ℕ) (inb), (∑ r : Fin 64, cell (View.ld X (Rect.unit (s := S64x1024) ![0, o] ![64, 128] inb))
      (View.ld Z (Rect.unit (s := S64x1024) ![0, o] ![64, 128] inb)) (View.ld G (Rect.unit (s := S64x1024) ![0, o] ![64, 128] inb)) r l)
      = ∑ r : Fin 64, term (at2 X) (at2 Z) (at2 G) r.val o l.val := fun o inb => Finset.sum_congr rfl fun r _ => cell_eq l X Z G o inb r
  rw [← e 0 inb_S64x1024_S64x128_0_0, ← e 128 inb_S64x1024_S64x128_0_128, ← e 256 inb_S64x1024_S64x128_0_256, ← e 384 inb_S64x1024_S64x128_0_384,
    ← e 512 inb_S64x1024_S64x128_0_512, ← e 640 inb_S64x1024_S64x128_0_640, ← e 768 inb_S64x1024_S64x128_0_768, ← e 896 inb_S64x1024_S64x128_0_896]

end Point

section Reference

open HgBRefIdeal.Read

variable (p : FVec Ideal S2048x8448 .f32) (o : FVec Ideal S2048x1024 .f32) (d : FVec Ideal S2048x2048 .f32)

theorem ref_inv (n : Fin 2048) (h : Fin 8) : val_main_v9 (F := Ideal) o (ix3 n h 0) = inv (at2 o) n.val (h.val * 128) := by
  pointwise [val_main_v9, val_main_v8, val_main_v7, val_main_v6, val_main_v5, val_main_v4, val_main_v3, val_main_v2, val_main_v1, val_main_cst, val_main_cst_0, val_main_cst_1]
  have e : ∀ k : Fin 128, o (ix2 n ⟨h.val * 128 + k.val, by omega⟩) = at2 o n.val (h.val * 128 + k.val) := fun k => at2_of o _ _ _ rfl rfl
  simp only [e]
  rfl

theorem ref_term (n : Fin 2048) (h : Fin 8) (l : Fin 128) : val_main_v22 (F := Ideal) p o d (ix3 n h l)
    = term (at2 o) (fun n k => at2 p n (7168 + k)) (fun n k => at2 d n (1024 + k)) n.val (h.val * 128) l.val := by
  pointwise [val_main_v22, val_main_v21, val_main_v20, val_main_v19, val_main_v16, val_main_v15, val_main_v11, val_main_v10, val_main_v1, val_main_v0,
    val_main_call0_v5, val_main_call0_v4, val_main_call0_v3, val_main_call0_v2, val_main_call0_v1, val_main_call0_v0, val_main_call0_cst, val_main_call0_cst_0]
  rw [ref_inv, at2_of o _ n.val (h.val * 128 + l.val) rfl rfl, at2_of d _ n.val (1024 + (h.val * 128 + l.val)) rfl rfl,
    at2_of p _ n.val (7168 + (h.val * 128 + l.val)) rfl rfl]
  exact term_comm _ _ _ _ _

theorem ref_sum (l : Fin 128) : val_main_v26 (F := Ideal) p o d (ix2 0 l)
    = ∑ n : Fin 2048, rowTerm (at2 o) (fun n k => at2 p n (7168 + k)) (fun n k => at2 d n (1024 + k)) l.val n.val := by
  pointwise [val_main_v26, val_main_v25, val_main_v24, val_main_v23, val_main_cst_2, val_main_cst_3]
  refine (sum_two _ _ _ _).trans ((zero_add _).trans ?_)
  simp only [Finset.univ_unique, Finset.sum_singleton]
  pointwise []
  refine (sum_two _ _ _ _).trans ?_
  refine (zero_add _).trans (Finset.sum_congr rfl fun n _ => Finset.sum_congr rfl fun h _ => ref_term p o d n h l)

end Reference

variable (m : (ℓ : Loc nD τ sig) → Buf (Elt Ideal) ℓ) (c : Dev nD)

/-! ## The cases of a grid point -/

theorem first (t : Fin cfg0.N) (h0 : t.val % 32 = 0) :
    (outsAt0 m c t.val t.isLt).2.2.2.2.2.1 = point (k0_pay4 (F := Ideal)) (iblk m c 8 t) (X0_9 m c t) (iblk m c 11 t) := by
  rw [outsAt0_A m c t h0]
  dsimp only
  unfold out0_A_17
  frame_out

theorem later (n : ℕ) (h : n + 1 < cfg0.N) (h0 : ¬(n + 1) % 32 = 0) : (outsAt0 m c (n + 1) h).2.2.2.2.2.1
    = point (outsAt0 m c n (Nat.lt_of_succ_lt h)).2.2.2.2.2.1 (iblk m c 8 ⟨n + 1, h⟩) (X0_9 m c ⟨n + 1, h⟩) (iblk m c 11 ⟨n + 1, h⟩) := by
  rw [outsAt0_B m c ⟨n + 1, h⟩ h0]
  dsimp only
  unfold out0_B_17
  frame_out
  rfl

/-! ## The blocks' rows -/

abbrev proj : S2048x8448.Idx → EReal := m ((c : Thread nD τ).loc main_arg0)
abbrev outp : S2048x1024.Idx → EReal := m ((c : Thread nD τ).loc main_arg6)
abbrev grd : S2048x2048.Idx → EReal := m ((c : Thread nD τ).loc main_arg8)

theorem index_maps : ∀ t : Fin cfg0.N, win0_8.index t = ![31 - t.val, 0] ∧ win0_9.index t = ![31 - t.val, 7] ∧ win0_11.index t = ![31 - t.val, 1]
    ∧ win0_17.index t = ![0, 0] :=
  (by decide +kernel : ∀ t : Fin grid0.N, _)

variable (t : Fin cfg0.N)

theorem block8 (r : Fin 64) (k : Fin 1024) : iblk m c 8 t (ix2 r k) = at2 (outp m c) (64 * (31 - t.val) + r.val) k.val := by
  obtain ⟨e8, e9, e11, e17⟩ := index_maps t
  blk_simp [iblk]
  refine at2_of (outp m c) _ _ _ ?_ ?_ <;> blk_simp [e8] <;> omega

theorem block11 (r : Fin 64) (k : Fin 1024) : iblk m c 11 t (ix2 r k) = at2 (grd m c) (64 * (31 - t.val) + r.val) (1024 + k.val) := by
  obtain ⟨e8, e9, e11, e17⟩ := index_maps t
  blk_simp [iblk]
  refine at2_of (grd m c) _ _ _ ?_ ?_ <;> blk_simp [e11] <;> omega

theorem block9 (r : Fin 64) (k : Fin 1024) : X0_9 m c t (ix2 r k) = at2 (proj m c) (64 * (31 - t.val) + r.val) (7168 + k.val) := by
  obtain ⟨e8, e9, e11, e17⟩ := index_maps t
  unfold X0_9 Pipeline.Window.fill
  rw [dif_pos (moved0_9 t _)]
  show (V m c main_arg0 : S2048x8448.Idx → EReal) (((cfg0.win 9).blk t).view.emb fun a => ⟨(ix2 r k a).val, _⟩) = _
  refine at2_of (proj m c) _ _ _ ?_ ?_
  · show win0_9.index t (0 : Fin 2) * 64 + 1 * r.val = _; rw [e9]; show (31 - t.val) * 64 + 1 * r.val = _; omega
  · show win0_9.index t (1 : Fin 2) * 1024 + 1 * k.val = _; rw [e9]; show 7 * 1024 + 1 * k.val = _; omega

/-- Row `n`'s summand of the gradient at column `l`. -/
abbrev rows (l n : ℕ) : EReal := rowTerm (at2 (outp m c)) (fun n k => at2 (proj m c) n (7168 + k)) (fun n k => at2 (grd m c) n (1024 + k)) l n

theorem point_step (a : FVec Ideal S1x128 .f32) (l : Fin 128) : point a (iblk m c 8 t) (X0_9 m c t) (iblk m c 11 t) (ix2 0 l)
    = a (ix2 0 l) + ∑ r : Fin 64, rows m c l.val (64 * (31 - t.val) + r.val) := by
  rw [point_apply]
  refine congrArg (a (ix2 0 l) + ·) (Finset.sum_congr rfl fun r _ => rowTerm_of ?_ ?_ ?_ l.isLt)
  · exact fun k hk => (at2_ix2 (iblk m c 8 t) r ⟨k, hk⟩).trans (block8 m c t r ⟨k, hk⟩)
  · exact fun k hk => (at2_ix2 (X0_9 m c t) r ⟨k, hk⟩).trans (block9 m c t r ⟨k, hk⟩)
  · exact fun k hk => (at2_ix2 (iblk m c 11 t) r ⟨k, hk⟩).trans (block11 m c t r ⟨k, hk⟩)

/-- After point `n` the gradient is that of the rows seen so far, from the last block on downwards. -/
theorem so_far (l : Fin 128) (n : ℕ) : ∀ h : n < cfg0.N, (outsAt0 m c n h).2.2.2.2.2.1 (ix2 0 l)
    = ∑ x ∈ Finset.Ico (64 * (31 - n)) 2048, rows m c l.val x := by
  induction n with
  | zero =>
    intro h
    have e := first m c ⟨0, h⟩ rfl
    dsimp only at e
    rw [e, point_step, sum_from _ _ (by omega)]
    refine congrArg (· + _) ?_
    rw [show 64 * (31 - 0 + 1) = 2048 by omega, Finset.Ico_self, Finset.sum_empty]
    pointwise [k0_pay4]
  | succ n ih =>
    intro h
    have hN : n + 1 < 32 := lt_of_lt_of_eq h N_0
    rw [later m c n h (by omega), point_step, ih (Nat.lt_of_succ_lt h), sum_from _ (31 - (n + 1)) (by omega),
      show 31 - (n + 1) + 1 = 31 - n by omega]

/-! ## The result -/

theorem last (t : Fin cfg0.N) (h : t.val % 32 = 31) : t.val = 31 := by
  have hN : t.val < 32 := lt_of_lt_of_eq t.isLt N_0
  omega

theorem weight_read (t : Fin cfg0.N) (h : t.val = 31) (y i : S1x128.Idx) (hi : (i 1).val = (y 1).val) : (outsAt0 m c t.val t.isLt).2.2.2.2.2.1 y
    = HgBRefIdeal.Read.val_main_v26 (F := Ideal) (proj m c) (outp m c) (grd m c) i := by
  obtain ⟨l, rfl⟩ : ∃ l : Fin 128, y = ix2 0 l := ⟨y 1, (eq_ix2 y).trans (congrArg (ix2 · (y 1)) (Subsingleton.elim (α := Fin 1) _ _))⟩
  obtain rfl : i = ix2 0 l := (eq_ix2 i).trans (congrArg₂ ix2 (Subsingleton.elim (α := Fin 1) _ _) (Fin.ext hi))
  rw [ref_sum, so_far, h, show 64 * (31 - 31) = 0 by omega, ← Finset.range_eq_Ico, Finset.sum_range]

theorem weight_array : (dats m 0 c).arrAt 17 cfg0.N = HgBRefIdeal.Read.val_main_v26 (F := Ideal) (proj m c) (outp m c) (grd m c) := by
  refine (dats m 0 c).arrAt_eq_of_covers 17 _ (by decide +kernel) fun t hf y => ?_
  obtain ⟨e8, e9, e11, e17⟩ := index_maps t
  rw [after0_17]
  refine weight_read m c t (last t ((flush0_17 t).mp hf)) _ _ ?_
  blk_simp [e17]

theorem algebraic : Cert.algebraic_HgBIdeal_HgBRefIdeal (hHgBIdeal := Cert.HgBIdeal.Gen.facts) (hHgBRefIdeal := Cert.HgBRefIdeal.Gen.facts) :=
  fun m ρ m' ρ' _ hag => ⟨_,
    (θ_run _ _ _).mono (fun _ h c => ⟨(h c).2.2.2.2.2.1.trans (weight_array m c), (h c).2.2.2.2.2.2⟩) (Cert.HgBIdeal.Value.run_blocks m ρ),
    (θ_run _ _ _).mono (fun _ h c => ⟨(h c).1.trans (by
        rw [HgBRefIdeal.Read.val_main_v26_eq]
        exact congr (congr (congrArg (HgBRefIdeal.Read.val_main_v26 (F := Ideal)) (hag c).1) (hag c).2.2.2.2.2.2.1) (hag c).2.2.2.2.2.2.2.2), (h c).2⟩)
      (Cert.HgBRefIdeal.Value.run m' ρ')⟩

theorem ref_frame : Cert.quiescent_HgBRefIdeal (hHgBRefIdeal := Cert.HgBRefIdeal.Gen.facts) :=
  fun m ρ _ => (θ_run _ _ _).mono (fun r h => ⟨fun c => (h c).2, sem_eq_zero_of_no_sems (by decide) r.2⟩) (Cert.HgBRefIdeal.Value.run m ρ)

end Cert.HgBIdeal.Entry

end
-- ==== Proof.DnBVal.lean ====
/-
  The backward call of the DeltaNet branch: the gradient at the head norm's weight.
-/
module

public import proofs.«01_k».proof.Defs
public import proofs.«01_k».proof.Proof.Gen.DnBIdeal.Value
public import proofs.«01_k».proof.Proof.Gen.DnBRefIdeal.Read
public import proofs.«01_k».proof.Proof.HgBVal
public import Idealize.ShloMosaic.Lib.Pipeline.ValueKit
public import Idealize.ShloMosaic.Lib.Tactic

@[expose] public section

set_option maxRecDepth 16384

noncomputable section

namespace Cert.DnBIdeal.Entry

open Cert.HgBIdeal.Entry (point point_apply)
open Cert.DnBIdeal Cert.DnBIdeal.Gen Cert.DnBIdeal.Value Idealize.ShloMosaic Idealize.ShloMosaic.TcCoe Idealize.SL.Sem Cert.Blocks Cert.HeadNorm

section Reference

open DnBRefIdeal.Read

variable (p : FVec Ideal S2048x8448 .f32) (o : FVec Ideal S2048x1024 .f32) (d : FVec Ideal S2048x2048 .f32)

theorem ref_inv (n : Fin 2048) (h : Fin 8) : val_main_v9 (F := Ideal) o (ix3 n h 0) = inv (at2 o) n.val (h.val * 128) :=
  HgBIdeal.Entry.ref_inv o n h

theorem ref_term (n : Fin 2048) (h : Fin 8) (l : Fin 128) : val_main_v22 (F := Ideal) o p d (ix3 n h l)
    = term (at2 o) (fun n k => at2 p n (3072 + k)) (fun n k => at2 d n k) n.val (h.val * 128) l.val := by
  pointwise [val_main_v22, val_main_v21, val_main_v20, val_main_v19, val_main_v16, val_main_v15, val_main_v11, val_main_v10, val_main_v1, val_main_v0,
    val_main_call0_v5, val_main_call0_v4, val_main_call0_v3, val_main_call0_v2, val_main_call0_v1, val_main_call0_v0, val_main_call0_cst, val_main_call0_cst_0]
  rw [ref_inv, at2_of o _ n.val (h.val * 128 + l.val) rfl rfl, at2_of d _ n.val (h.val * 128 + l.val) rfl rfl,
    at2_of p _ n.val (3072 + (h.val * 128 + l.val)) rfl rfl]
  exact term_comm _ _ _ _ _

theorem ref_sum (l : Fin 128) : val_main_v26 (F := Ideal) o p d (ix2 0 l)
    = ∑ n : Fin 2048, rowTerm (at2 o) (fun n k => at2 p n (3072 + k)) (fun n k => at2 d n k) l.val n.val := by
  pointwise [val_main_v26, val_main_v25, val_main_v24, val_main_v23, val_main_cst_2, val_main_cst_3]
  refine (sum_two _ _ _ _).trans ((zero_add _).trans ?_)
  simp only [Finset.univ_unique, Finset.sum_singleton]
  pointwise []
  refine (sum_two _ _ _ _).trans ?_
  refine (zero_add _).trans (Finset.sum_congr rfl fun n _ => Finset.sum_congr rfl fun h _ => ref_term p o d n h l)

end Reference

variable (m : (ℓ : Loc nD τ sig) → Buf (Elt Ideal) ℓ) (c : Dev nD)

/-! ## The cases of a grid point -/

theorem first (t : Fin cfg0.N) (h0 : t.val % 32 = 0) :
    (outsAt0 m c t.val t.isLt).2.2.2.2.1 = point (k0_pay2 (F := Ideal)) (iblk m c 7 t) (X0_8 m c t) (iblk m c 10 t) := by
  rw [outsAt0_A m c t h0]
  dsimp only
  unfold out0_A_15
  frame_out
  rfl

theorem later (n : ℕ) (h : n + 1 < cfg0.N) (h0 : ¬(n + 1) % 32 = 0) : (outsAt0 m c (n + 1) h).2.2.2.2.1
    = point (outsAt0 m c n (Nat.lt_of_succ_lt h)).2.2.2.2.1 (iblk m c 7 ⟨n + 1, h⟩) (X0_8 m c ⟨n + 1, h⟩) (iblk m c 10 ⟨n + 1, h⟩) := by
  rw [outsAt0_B m c ⟨n + 1, h⟩ h0]
  dsimp only
  unfold out0_B_15
  frame_out
  rfl

/-! ## The blocks' rows -/

abbrev proj : S2048x8448.Idx → EReal := m ((c : Thread nD τ).loc main_arg6)
abbrev outp : S2048x1024.Idx → EReal := m ((c : Thread nD τ).loc main_arg5)
abbrev grd : S2048x2048.Idx → EReal := m ((c : Thread nD τ).loc main_arg8)

theorem index_maps : ∀ t : Fin cfg0.N, win0_7.index t = ![31 - t.val, 0] ∧ win0_8.index t = ![31 - t.val, 3] ∧ win0_10.index t = ![31 - t.val, 0]
    ∧ win0_15.index t = ![0, 0] :=
  (by decide +kernel : ∀ t : Fin grid0.N, _)

variable (t : Fin cfg0.N)

theorem block7 (r : Fin 64) (k : Fin 1024) : iblk m c 7 t (ix2 r k) = at2 (outp m c) (64 * (31 - t.val) + r.val) k.val := by
  obtain ⟨e7, e8, e10, e15⟩ := index_maps t
  blk_simp [iblk]
  refine at2_of (outp m c) _ _ _ ?_ ?_ <;> blk_simp [e7] <;> omega

theorem block10 (r : Fin 64) (k : Fin 1024) : iblk m c 10 t (ix2 r k) = at2 (grd m c) (64 * (31 - t.val) + r.val) k.val := by
  obtain ⟨e7, e8, e10, e15⟩ := index_maps t
  blk_simp [iblk]
  refine at2_of (grd m c) _ _ _ ?_ ?_ <;> blk_simp [e10] <;> omega

theorem block8 (r : Fin 64) (k : Fin 1024) : X0_8 m c t (ix2 r k) = at2 (proj m c) (64 * (31 - t.val) + r.val) (3072 + k.val) := by
  obtain ⟨e7, e8, e10, e15⟩ := index_maps t
  unfold X0_8 Pipeline.Window.fill
  rw [dif_pos (moved0_8 t _)]
  show (V m c main_arg6 : S2048x8448.Idx → EReal) (((cfg0.win 8).blk t).view.emb fun a => ⟨(ix2 r k a).val, _⟩) = _
  refine at2_of (proj m c) _ _ _ ?_ ?_
  · show win0_8.index t (0 : Fin 2) * 64 + 1 * r.val = _; rw [e8]; show (31 - t.val) * 64 + 1 * r.val = _; omega
  · show win0_8.index t (1 : Fin 2) * 1024 + 1 * k.val = _; rw [e8]; show 3 * 1024 + 1 * k.val = _; omega

/-- Row `n`'s summand of the gradient at column `l`. -/
abbrev rows (l n : ℕ) : EReal := rowTerm (at2 (outp m c)) (fun n k => at2 (proj m c) n (3072 + k)) (fun n k => at2 (grd m c) n k) l n

theorem point_step (a : FVec Ideal S1x128 .f32) (l : Fin 128) : point a (iblk m c 7 t) (X0_8 m c t) (iblk m c 10 t) (ix2 0 l)
    = a (ix2 0 l) + ∑ r : Fin 64, rows m c l.val (64 * (31 - t.val) + r.val) := by
  rw [point_apply]
  refine congrArg (a (ix2 0 l) + ·) (Finset.sum_congr rfl fun r _ => rowTerm_of ?_ ?_ ?_ l.isLt)
  · exact fun k hk => (at2_ix2 (iblk m c 7 t) r ⟨k, hk⟩).trans (block7 m c t r ⟨k, hk⟩)
  · exact fun k hk => (at2_ix2 (X0_8 m c t) r ⟨k, hk⟩).trans (block8 m c t r ⟨k, hk⟩)
  · exact fun k hk => (at2_ix2 (iblk m c 10 t) r ⟨k, hk⟩).trans (block10 m c t r ⟨k, hk⟩)

/-- After point `n` the gradient is that of the rows seen so far, from the last block on downwards. -/
theorem so_far (l : Fin 128) (n : ℕ) : ∀ h : n < cfg0.N, (outsAt0 m c n h).2.2.2.2.1 (ix2 0 l)
    = ∑ x ∈ Finset.Ico (64 * (31 - n)) 2048, rows m c l.val x := by
  induction n with
  | zero =>
    intro h
    have e := first m c ⟨0, h⟩ rfl
    dsimp only at e
    rw [e, point_step, sum_from _ _ (by omega)]
    refine congrArg (· + _) ?_
    rw [show 64 * (31 - 0 + 1) = 2048 by omega, Finset.Ico_self, Finset.sum_empty]
    pointwise [k0_pay2]
  | succ n ih =>
    intro h
    have hN : n + 1 < 32 := lt_of_lt_of_eq h N_0
    rw [later m c n h (by omega), point_step, ih (Nat.lt_of_succ_lt h), sum_from _ (31 - (n + 1)) (by omega),
      show 31 - (n + 1) + 1 = 31 - n by omega]

/-! ## The result -/

theorem last (t : Fin cfg0.N) (h : t.val % 32 = 31) : t.val = 31 := by
  have hN : t.val < 32 := lt_of_lt_of_eq t.isLt N_0
  omega

theorem weight_read (t : Fin cfg0.N) (h : t.val = 31) (y i : S1x128.Idx) (hi : (i 1).val = (y 1).val) : (outsAt0 m c t.val t.isLt).2.2.2.2.1 y
    = DnBRefIdeal.Read.val_main_v26 (F := Ideal) (outp m c) (proj m c) (grd m c) i := by
  obtain ⟨l, rfl⟩ : ∃ l : Fin 128, y = ix2 0 l := ⟨y 1, (eq_ix2 y).trans (congrArg (ix2 · (y 1)) (Subsingleton.elim (α := Fin 1) _ _))⟩
  obtain rfl : i = ix2 0 l := (eq_ix2 i).trans (congrArg₂ ix2 (Subsingleton.elim (α := Fin 1) _ _) (Fin.ext hi))
  rw [ref_sum, so_far, h, show 64 * (31 - 31) = 0 by omega, ← Finset.range_eq_Ico, Finset.sum_range]

theorem weight_array : (dats m 0 c).arrAt 15 cfg0.N = DnBRefIdeal.Read.val_main_v26 (F := Ideal) (outp m c) (proj m c) (grd m c) := by
  refine (dats m 0 c).arrAt_eq_of_covers 15 _ (by decide +kernel) fun t hf y => ?_
  obtain ⟨e7, e8, e10, e15⟩ := index_maps t
  rw [after0_15]
  refine weight_read m c t (last t ((flush0_15 t).mp hf)) _ _ ?_
  blk_simp [e15]

theorem algebraic : Cert.algebraic_DnBIdeal_DnBRefIdeal (hDnBIdeal := Cert.DnBIdeal.Gen.facts) (hDnBRefIdeal := Cert.DnBRefIdeal.Gen.facts) :=
  fun m ρ m' ρ' _ hag => ⟨_,
    (θ_run _ _ _).mono (fun _ h c => ⟨(h c).2.2.2.2.1.trans (weight_array m c), (h c).2.2.2.2.2⟩) (Cert.DnBIdeal.Value.run_blocks m ρ),
    (θ_run _ _ _).mono (fun _ h c => ⟨(h c).1.trans (by
        rw [DnBRefIdeal.Read.val_main_v26_eq]
        exact congr (congr (congrArg (DnBRefIdeal.Read.val_main_v26 (F := Ideal)) (hag c).2.2.2.2.2.1) (hag c).2.2.2.2.2.2.1) (hag c).2.2.2.2.2.2.2.2), (h c).2⟩)
      (Cert.DnBRefIdeal.Value.run m' ρ')⟩

theorem ref_frame : Cert.quiescent_DnBRefIdeal (hDnBRefIdeal := Cert.DnBRefIdeal.Gen.facts) :=
  fun m ρ _ => (θ_run _ _ _).mono (fun r h => ⟨fun c => (h c).2, sem_eq_zero_of_no_sems (by decide) r.2⟩) (Cert.DnBRefIdeal.Value.run m ρ)

end Cert.DnBIdeal.Entry

end
-- ==== Proof.GateFVal.lean ====
/-
  The write strength and the decay: a grid over blocks of 512 rows, that is of eight chunks.
-/
module

public import proofs.«01_k».proof.Proof.Gen.GateFIdeal.Value
public import proofs.«01_k».proof.Proof.Gen.GateFRefIdeal.Read
public import proofs.«01_k».proof.Proof.GateBVal
public import proofs.«01_k».proof.Proof.Blocks
public import proofs.«01_k».proof.Defs
public import Idealize.ShloMosaic.Lib.Pipeline.ValueKit
public import Idealize.ShloMosaic.Lib.Tactic

@[expose] public section

set_option maxRecDepth 16384

noncomputable section

namespace Cert.GateFIdeal.Entry

open Cert.GateFIdeal Cert.GateFIdeal.Gen Cert.GateFIdeal.Value Idealize.ShloMosaic Idealize.ShloMosaic.TcCoe Idealize.SL.Sem Cert.Blocks
open Cert.Gates
open Cert.GateBIdeal.Entry (pre)

/-- The sum over the rows of row `n`'s chunk up to row `n`. -/
def earlier (f : ℕ → EReal) (n : ℕ) : EReal :=
  ∑ k : Fin 64, (if k.val ≤ n % 64 then 1 else 0) * f (64 * (n / 64) + k.val)

/-! ## The call's payloads -/

theorem mask_apply (i k : Fin 64) : k0_pay9 (F := Ideal) (ix2 i k) = if k.val ≤ i.val then 1 else 0 := by
  have h1 : FloatOps.sitofp (F := Ideal) .f32 (1#32) = 1 := by
    show (((1#32 : BitVec 32).toInt : ℝ) : EReal) = 1
    simp
  have h0 : FloatOps.sitofp (F := Ideal) .f32 (0#32) = 0 := by
    show (((0#32 : BitVec 32).toInt : ℝ) : EReal) = 0
    simp
  pointwise [k0_pay9]
  by_cases h : k.val ≤ i.val
  · simp [h, IntOp.cmpi, BitVec.sle, toInt_ofNat, h1]
  · simp [h, IntOp.cmpi, BitVec.sle, toInt_ofNat, h0]

section Payloads

variable (x y : FVec Ideal S512x128 .f32) (w v : FVec Ideal S1x128 .f32) (r : Fin 512) (l : Fin 128)

/-- A row's logarithm of the decay. -/
abbrev rate (n : ℕ) : EReal := -Ideal.exp (w (ix2 0 l)) * softplus (at2 y n l.val + v (ix2 0 l))

theorem rate_apply : k0_pay8 (F := Ideal) w y v (ix2 r l) = rate y w v l r.val := by
  pointwise [k0_pay8, rate, softplus]
  simp only [zero_sub, at2_ix2]
  rfl

/-- Row `s` of the chunk that begins at row `o` of the block. -/
theorem chunk (o s : ℕ) (ho : r.val = o + s) (hs : s < 64) (hm : o % 64 = 0) (h : ∀ k : Fin 64, o + k.val < 512) :
    ∑ k : Fin 64, (if k.val ≤ s then 1 else 0) * k0_pay8 (F := Ideal) w y v (ix2 ⟨o + k.val, h k⟩ l) = earlier (rate y w v l) r.val := by
  unfold earlier
  rw [show r.val % 64 = s by omega, show 64 * (r.val / 64) = o by omega]
  exact Finset.sum_congr rfl fun k _ => congrArg _ (rate_apply y w v ⟨o + k.val, h k⟩ l)

theorem strength_out : out0_4 (F := Ideal) x y w v (ix2 r l) = Ideal.logistic (x (ix2 r l)) := by
  unfold_out out0_4
  frame_out
  pointwise [k0_pay7]

theorem decay_out : out0_5 (F := Ideal) x y w v (ix2 r l) = earlier (rate y w v l) r.val := by
  unfold_out out0_5
  frame_out
  canon_tiles z h
  all_goals
    obtain ⟨s, l', rfl⟩ : ∃ (s : Fin 64) (l' : Fin 128), z = ix2 s l' := ⟨z 0, z 1, eq_ix2 z⟩
    obtain rfl : l = l' := Fin.ext h1
    replace h0 : r.val = _ := h0
    pointwise [k0_pay1, k0_pay2, k0_pay3, k0_pay4, k0_pay5, k0_pay6, k0_pay10, k0_pay11, k0_pay12]
    simp only [mask_apply]
  · exact chunk y w v r l 448 s.val h0 s.isLt rfl _
  · exact chunk y w v r l 384 s.val h0 s.isLt rfl _
  · exact chunk y w v r l 320 s.val h0 s.isLt rfl _
  · exact chunk y w v r l 256 s.val h0 s.isLt rfl _
  · exact chunk y w v r l 192 s.val h0 s.isLt rfl _
  · exact chunk y w v r l 128 s.val h0 s.isLt rfl _
  · exact chunk y w v r l 64 s.val h0 s.isLt rfl _
  · have e := chunk y w v r l 0 s.val (h0.trans (zero_add _).symm) s.isLt rfl (by omega)
    simpa only [zero_add] using e

end Payloads

/-! ## The reference -/

section Reference

open GateFRefIdeal.Read

variable (x0 : (⟨S2048x8448, .f32⟩ : BufTy).Contents (Elt Ideal)) (x1 x2 : (⟨S1x128, .f32⟩ : BufTy).Contents (Elt Ideal)) (r : Fin 2048) (l : Fin 128)

theorem ref_strength : val_main_v14 (F := Ideal) x0 (ix2 r l) = Ideal.logistic (at2 x0 r.val (8192 + l.val)) := by
  pointwise [val_main_v14, val_main_v13, val_main_v12, val_main_v11, val_main_v10, val_main_v9, val_main_v0, val_main_cst, val_main_cst_0]
  rw [at2_of x0 _ r.val (8192 + l.val) rfl rfl]
  rfl

theorem ref_softplus : val_main_v5 (F := Ideal) x0 x2 (ix2 r l) = softplus (pre x0 x2 l r.val) :=
  GateBIdeal.Entry.ref_softplus x0 x2 r l

theorem ref_rate : val_main_v8 (F := Ideal) x0 x1 x2 (ix2 r l) = -Ideal.exp (x1 (ix2 0 l)) * softplus (pre x0 x2 l r.val) := by
  pointwise [val_main_v8, val_main_v7, val_main_v6, val_main_v2]
  rw [ref_softplus, neg_mul]

theorem ref_decay : val_main_v17 (F := Ideal) x0 x1 x2 (ix2 r l)
    = earlier (fun n => -Ideal.exp (x1 (ix2 0 l)) * softplus (pre x0 x2 l n)) r.val := by
  pointwise [val_main_v17, val_main_v16, val_main_call1_call0_cst, val_main_call1_call0_v0]
  have e := window_sum 63 ![0, 0, 0] (val_main_v15 (F := Ideal) x0 x1 x2)
    GateFRefIdeal.Gen.reduceWindows_S32x64x128_S32x64x128_w1s1p0_0_w64s1p63_0_w1s1p0_0 ⟨r.val / 64, by omega⟩ ⟨r.val % 64, by omega⟩ l
  refine Eq.trans ?_ (e.trans ?_)
  · unfold Host.reduceWindowAdd
    rw [Ideal.hostReduceWindowAdd_def]
    pointwise
  · rw [← mask_upto (fun k => val_main_v15 (F := Ideal) x0 x1 x2 (ix3 ⟨r.val / 64, by omega⟩ k l))]
    refine Finset.sum_congr rfl fun k _ => congrArg _ ?_
    have hk : 64 * (r.val / 64) + k.val < 2048 := by omega
    refine Eq.trans ?_ (ref_rate x0 x1 x2 ⟨_, hk⟩ l)
    pointwise [val_main_v15]
    exact congrArg (val_main_v8 (F := Ideal) x0 x1 x2) (congrArg (ix2 · l) (Fin.ext (by show r.val / 64 * 64 + k.val = 64 * (r.val / 64) + k.val; omega)))

end Reference

variable (m : (ℓ : Loc nD τ sig) → Buf (Elt Ideal) ℓ) (c : Dev nD)

/-! ## The blocks -/

abbrev proj : S2048x8448.Idx → EReal := m ((c : Thread nD τ).loc main_arg0)
abbrev wgt : S1x128.Idx → EReal := m ((c : Thread nD τ).loc main_arg1)
abbrev bias : S1x128.Idx → EReal := m ((c : Thread nD τ).loc main_arg2)

theorem index_maps : ∀ t : Fin cfg0.N, win0_0.index t = ![t.val, 64] ∧ win0_1.index t = ![t.val, 65] ∧ win0_2.index t = ![0, 0]
    ∧ win0_3.index t = ![0, 0] ∧ win0_4.index t = ![t.val, 0] ∧ win0_5.index t = ![t.val, 0] :=
  (by decide +kernel : ∀ t : Fin grid0.N, _)

variable (t : Fin cfg0.N) (r : Fin 512) (l : Fin 128)

theorem block0 : iblk m c 0 t (ix2 r l) = at2 (proj m c) (512 * t.val + r.val) (8192 + l.val) := by
  obtain ⟨e0, e1, e2, e3, e4, e5⟩ := index_maps t
  blk_simp [iblk]
  refine at2_of (proj m c) _ _ _ ?_ ?_ <;> blk_simp [e0] <;> omega

theorem block1 : iblk m c 1 t (ix2 r l) = at2 (proj m c) (512 * t.val + r.val) (8320 + l.val) := by
  obtain ⟨e0, e1, e2, e3, e4, e5⟩ := index_maps t
  blk_simp [iblk]
  refine at2_of (proj m c) _ _ _ ?_ ?_ <;> blk_simp [e1] <;> omega

theorem block2 : iblk m c 2 t (ix2 0 l) = wgt m c (ix2 0 l) := by
  obtain ⟨e0, e1, e2, e3, e4, e5⟩ := index_maps t
  blk_simp [iblk]
  refine congrArg (wgt m c) (funext fun a => Fin.ext ?_)
  match a with
  | ⟨0, _⟩ => blk_simp [e2]
  | ⟨1, _⟩ => blk_simp [e2]

theorem block3 : iblk m c 3 t (ix2 0 l) = bias m c (ix2 0 l) := by
  obtain ⟨e0, e1, e2, e3, e4, e5⟩ := index_maps t
  blk_simp [iblk]
  refine congrArg (bias m c) (funext fun a => Fin.ext ?_)
  match a with
  | ⟨0, _⟩ => blk_simp [e3]
  | ⟨1, _⟩ => blk_simp [e3]

/-- A block holds whole chunks. -/
theorem earlier_block : earlier (rate (iblk m c 1 t) (iblk m c 2 t) (iblk m c 3 t) l) r.val
    = earlier (fun n => -Ideal.exp (wgt m c (ix2 0 l)) * softplus (pre (proj m c) (bias m c) l n)) (512 * t.val + r.val) := by
  have hr := r.isLt
  unfold earlier
  rw [show (512 * t.val + r.val) % 64 = r.val % 64 by omega, show 64 * ((512 * t.val + r.val) / 64) = 512 * t.val + 64 * (r.val / 64) by omega]
  refine Finset.sum_congr rfl fun k _ => congrArg _ ?_
  have hk : 64 * (r.val / 64) + k.val < 512 := by omega
  rw [Nat.add_assoc]
  exact congr (congrArg (fun a b => -Ideal.exp a * softplus b) (block2 m c t l))
    (congr (congrArg HAdd.hAdd ((at2_ix2 (iblk m c 1 t) ⟨_, hk⟩ l).trans (block1 m c t ⟨_, hk⟩ l))) (block3 m c t l))

/-! ## The results -/

theorem strength_read (y : S512x128.Idx) (i : S2048x128.Idx) (h0 : (i 0).val = 512 * t.val + (y 0).val) (h1 : (i 1).val = (y 1).val) :
    out0_4 (F := Ideal) (iblk m c 0 t) (iblk m c 1 t) (iblk m c 2 t) (iblk m c 3 t) y = GateFRefIdeal.Read.val_main_v14 (F := Ideal) (proj m c) i := by
  obtain ⟨r, l, rfl⟩ : ∃ (r : Fin 512) (l : Fin 128), y = ix2 r l := ⟨y 0, y 1, eq_ix2 y⟩
  obtain ⟨R, rfl⟩ : ∃ R : Fin 2048, i = ix2 R l := ⟨i 0, (eq_ix2 i).trans (congrArg (ix2 (i 0)) (Fin.ext h1))⟩
  replace h0 : R.val = 512 * t.val + r.val := h0
  rw [strength_out, ref_strength, block0, h0]

theorem decay_read (y : S512x128.Idx) (i : S2048x128.Idx) (h0 : (i 0).val = 512 * t.val + (y 0).val) (h1 : (i 1).val = (y 1).val) :
    out0_5 (F := Ideal) (iblk m c 0 t) (iblk m c 1 t) (iblk m c 2 t) (iblk m c 3 t) y
      = GateFRefIdeal.Read.val_main_v17 (F := Ideal) (proj m c) (wgt m c) (bias m c) i := by
  obtain ⟨r, l, rfl⟩ : ∃ (r : Fin 512) (l : Fin 128), y = ix2 r l := ⟨y 0, y 1, eq_ix2 y⟩
  obtain ⟨R, rfl⟩ : ∃ R : Fin 2048, i = ix2 R l := ⟨i 0, (eq_ix2 i).trans (congrArg (ix2 (i 0)) (Fin.ext h1))⟩
  replace h0 : R.val = 512 * t.val + r.val := h0
  rw [decay_out, ref_decay, earlier_block, h0]

theorem strength_array : (dats m 0 c).arrAt 4 cfg0.N = GateFRefIdeal.Read.val_main_v14 (F := Ideal) (proj m c) := by
  refine (dats m 0 c).arrAt_eq_of_covers 4 _ (by decide +kernel) fun t hf y => ?_
  obtain ⟨e0, e1, e2, e3, e4, e5⟩ := index_maps t
  rw [after0_4]
  refine strength_read m c t _ _ ?_ ?_
  · blk_simp [e4]
    exact congrArg (· + _) (Nat.mul_comm _ _)
  · blk_simp [e4]

theorem decay_array : (dats m 0 c).arrAt 5 cfg0.N = GateFRefIdeal.Read.val_main_v17 (F := Ideal) (proj m c) (wgt m c) (bias m c) := by
  refine (dats m 0 c).arrAt_eq_of_covers 5 _ (by decide +kernel) fun t hf y => ?_
  obtain ⟨e0, e1, e2, e3, e4, e5⟩ := index_maps t
  rw [after0_5]
  refine decay_read m c t _ _ ?_ ?_
  · blk_simp [e5]
    exact congrArg (· + _) (Nat.mul_comm _ _)
  · blk_simp [e5]

theorem algebraic : Cert.algebraic_GateFIdeal_GateFRefIdeal (hGateFIdeal := Cert.GateFIdeal.Gen.facts) (hGateFRefIdeal := Cert.GateFRefIdeal.Gen.facts) :=
  fun m ρ m' ρ' _ hag => ⟨_, _,
    (θ_run _ _ _).mono (fun _ h c => ⟨(h c).1.trans (strength_array m c), (h c).2.1.trans (decay_array m c), (h c).2.2⟩)
      (Cert.GateFIdeal.Value.run_blocks m ρ),
    (θ_run _ _ _).mono (fun _ h c => ⟨(h c).1.trans (by
        rw [GateFRefIdeal.Read.val_main_v14_eq]
        exact congrArg (GateFRefIdeal.Read.val_main_v14 (F := Ideal)) (hag c).1),
      (h c).2.1.trans (by
        rw [GateFRefIdeal.Read.val_main_v17_eq]
        exact congr (congr (congrArg (GateFRefIdeal.Read.val_main_v17 (F := Ideal)) (hag c).1) (hag c).2.1) (hag c).2.2), (h c).2.2⟩)
      (Cert.GateFRefIdeal.Value.run m' ρ')⟩

theorem ref_frame : Cert.quiescent_GateFRefIdeal (hGateFRefIdeal := Cert.GateFRefIdeal.Gen.facts) :=
  fun m ρ _ => (θ_run _ _ _).mono (fun r h => ⟨fun c => (h c).2.2, sem_eq_zero_of_no_sems (by decide) r.2⟩) (Cert.GateFRefIdeal.Value.run m ρ)

end Cert.GateFIdeal.Entry

end
-- ==== Proof.QkvVal.lean ====
/-
  The convolution that makes the queries, keys and values, and their norms: a grid over the twenty-four heads.
-/
module

public import proofs.«01_k».proof.Proof.Gen.QkvIdeal.Value
public import proofs.«01_k».proof.Proof.Gen.QkvRefIdeal.Read
public import proofs.«01_k».proof.Proof.QkvBVal
public import proofs.«01_k».proof.Proof.Blocks
public import proofs.«01_k».proof.Defs
public import Idealize.ShloMosaic.Lib.Pipeline.ValueKit
public import Idealize.ShloMosaic.Lib.Tactic

@[expose] public section

set_option maxRecDepth 16384

noncomputable section

namespace Cert.QkvIdeal.Entry

open Cert.QkvIdeal Cert.QkvIdeal.Gen Cert.QkvIdeal.Value Idealize.ShloMosaic Idealize.ShloMosaic.TcCoe Idealize.SL.Sem Cert.Blocks
open Cert.ConvGrad

/-- Head `t`, whose columns begin at `b`: the queries and the keys are normalised, the values are not. -/
def unit (x w : ℕ → ℕ → EReal) (t b n c : ℕ) : EReal := if t < 16 then act x w n c * root x w b n * scale t else act x w n c

/-! ## The call's payloads -/

section Payloads

variable (x : FVec Ideal S2048x128 .f32) (w : FVec Ideal S4x128 .f32) (n : Fin 2048) (l : Fin 128)

theorem act_apply : k0_pay2 (F := Ideal) x w (ix2 n l) = act (at2 x) (at2 w) n.val l.val :=
  QkvBIdeal.Entry.act_apply x w n l

theorem unit_out (i : grid0.Coords) : out0_2 (F := Ideal) i x w (ix2 n l) = unit (at2 x) (at2 w) (i 0).val 0 n.val l.val := by
  have ht : (i 0).val < 24 := (i 0).isLt
  unfold out0_2
  frame_out
  pointwise [k0_pay1, k0_pay3]
  rw [QkvBIdeal.Entry.below_head _ 16 ht (by omega), QkvBIdeal.Entry.below_head _ 8 ht (by omega)]
  simp only [act_apply]
  unfold unit root scale
  simp only [zero_add]

end Payloads

/-! ## The reference -/

section Reference

open QkvRefIdeal.Read

variable (x0 : S2048x8448.Idx → EReal) (x1 : S4x3072.Idx → EReal) (n : Fin 2048) (l : Fin 128) (h : Fin 8) (c : Fin 3072)

theorem ref_act : val_main_v32 (F := Ideal) x0 x1 (ix2 n c) = act (at2 x0) (at2 x1) n.val c.val :=
  QkvBIdeal.Entry.ref_act x0 x1 n c

theorem ref_query : val_main_v46 (F := Ideal) x0 x1 (ix3 n h l)
    = act (at2 x0) (at2 x1) n.val (h.val * 128 + l.val) * root (at2 x0) (at2 x1) (h.val * 128) n.val * Ideal.ofBits .f32 0x3DB504F3#32 := by
  pointwise [val_main_v46, val_main_v45, val_main_v44, val_main_v43, val_main_v42, val_main_v41, val_main_v40, val_main_v39, val_main_v38,
    val_main_v37, val_main_v36, val_main_v33, val_main_cst_1, val_main_cst_2, val_main_cst_3]
  simp only [ref_act]
  rfl

theorem ref_key : val_main_v55 (F := Ideal) x0 x1 (ix3 n h l)
    = act (at2 x0) (at2 x1) n.val (1024 + h.val * 128 + l.val) * root (at2 x0) (at2 x1) (1024 + h.val * 128) n.val := by
  pointwise [val_main_v55, val_main_v54, val_main_v53, val_main_v52, val_main_v51, val_main_v50, val_main_v49, val_main_v48,
    val_main_v47, val_main_v34, val_main_cst_4, val_main_cst_5]
  simp only [ref_act]
  simp only [← Nat.add_assoc]
  rfl

theorem ref_unit : val_main_v58 (F := Ideal) x0 x1 (ix2 n c) = unit (at2 x0) (at2 x1) (c.val / 128) (c.val / 128 * 128) n.val c.val := by
  pointwise [val_main_v58, val_main_v57, val_main_v56, val_main_v35]
  have hc := c.isLt
  unfold unit scale
  by_cases h1 : c.val < 1024
  · rw [if_pos (show c.val / 128 < 16 by omega), if_pos (show c.val / 128 < 8 by omega)]
    refine (dif_pos h1).trans ((ref_query _ _ _ _ _).trans ?_)
    exact congrArg (act _ _ _ · * _ * _) (by show c.val / 128 * 128 + c.val % 128 = _; omega)
  · refine (dif_neg h1).trans ?_
    by_cases h2 : c.val - 1024 < 1024
    · rw [if_pos (show c.val / 128 < 16 by omega), if_neg (show ¬ c.val / 128 < 8 by omega), mul_one]
      refine (dif_pos h2).trans ((ref_key _ _ _ _ _).trans ?_)
      exact congrArg₂ (fun b k => act _ _ _ k * root _ _ b _) (by show 1024 + (c.val - 1024) / 128 * 128 = _; omega)
        (by show 1024 + (c.val - 1024) / 128 * 128 + (c.val - 1024) % 128 = _; omega)
    · rw [if_neg (show ¬ c.val / 128 < 16 by omega)]
      refine (dif_neg h2).trans ((ref_act _ _ _ _).trans ?_)
      exact congrArg (act _ _ _) (by show 2048 + (c.val - 1024 - 1024) = _; omega)

end Reference

variable (m : (ℓ : Loc nD τ sig) → Buf (Elt Ideal) ℓ) (c : Dev nD)

/-! ## The blocks -/

abbrev proj : S2048x8448.Idx → EReal := m ((c : Thread nD τ).loc main_arg0)
abbrev wgt : S4x3072.Idx → EReal := m ((c : Thread nD τ).loc main_arg1)

theorem index_maps : ∀ t : Fin cfg0.N, win0_0.index t = ![0, t.val] ∧ win0_1.index t = ![0, t.val] ∧ win0_2.index t = ![0, t.val]
    ∧ (grid0.coords t 0).val = t.val :=
  (by decide +kernel : ∀ t : Fin grid0.N, _)

variable (t : Fin cfg0.N)

theorem block0 (n : Fin 2048) (l : Fin 128) : iblk m c 0 t (ix2 n l) = at2 (proj m c) n.val (128 * t.val + l.val) := by
  obtain ⟨e0, e1, e2, ec⟩ := index_maps t
  blk_simp [iblk]
  refine at2_of (proj m c) _ _ _ ?_ ?_ <;> blk_simp [e0] <;> omega

theorem block1 (k : Fin 4) (l : Fin 128) : iblk m c 1 t (ix2 k l) = at2 (wgt m c) k.val (128 * t.val + l.val) := by
  obtain ⟨e0, e1, e2, ec⟩ := index_maps t
  blk_simp [iblk]
  refine at2_of (wgt m c) _ _ _ ?_ ?_ <;> blk_simp [e1] <;> omega

/-- A block holds a whole head. -/
theorem unit_block (n : Fin 2048) (l : Fin 128) : unit (at2 (iblk m c 0 t)) (at2 (iblk m c 1 t)) t.val 0 n.val l.val
    = unit (at2 (proj m c)) (at2 (wgt m c)) t.val (128 * t.val) n.val (128 * t.val + l.val) := by
  have hv : ∀ k : Fin 128, conv (at2 (iblk m c 0 t)) (at2 (iblk m c 1 t)) n.val k.val = conv (at2 (proj m c)) (at2 (wgt m c)) n.val (128 * t.val + k.val) :=
    fun k => conv_block (fun n hn l hl => (at2_ix2 (iblk m c 0 t) ⟨n, hn⟩ ⟨l, hl⟩).trans (block0 m c t ⟨n, hn⟩ ⟨l, hl⟩))
      (fun k hk l hl => (at2_ix2 (iblk m c 1 t) ⟨k, hk⟩ ⟨l, hl⟩).trans (block1 m c t ⟨k, hk⟩ ⟨l, hl⟩)) n.isLt k.isLt
  unfold unit root act
  simp only [zero_add, hv]

/-! ## The result -/

theorem unit_read (y : S2048x128.Idx) (i : S2048x3072.Idx) (h0 : (i 0).val = (y 0).val) (h1 : (i 1).val = 128 * t.val + (y 1).val) :
    out0_2 (F := Ideal) (grid0.coords t) (iblk m c 0 t) (iblk m c 1 t) y = QkvRefIdeal.Read.val_main_v58 (F := Ideal) (proj m c) (wgt m c) i := by
  obtain ⟨e0, e1, e2, ec⟩ := index_maps t
  obtain ⟨n, l, rfl⟩ : ∃ (n : Fin 2048) (l : Fin 128), y = ix2 n l := ⟨y 0, y 1, eq_ix2 y⟩
  obtain ⟨C, rfl⟩ : ∃ C : Fin 3072, i = ix2 n C := ⟨i 1, (eq_ix2 i).trans (congrArg (ix2 · (i 1)) (Fin.ext h0))⟩
  replace h1 : C.val = 128 * t.val + l.val := h1
  have hl := l.isLt
  rw [unit_out, ref_unit, ec, unit_block, h1, show (128 * t.val + l.val) / 128 = t.val by omega, Nat.mul_comm t.val]

set_option maxHeartbeats 2000000 in
theorem unit_array : (dats m 0 c).arrAt 2 cfg0.N = QkvRefIdeal.Read.val_main_v58 (F := Ideal) (proj m c) (wgt m c) := by
  refine (dats m 0 c).arrAt_eq_of_covers 2 _ (by decide +kernel) fun t hf y => ?_
  obtain ⟨e0, e1, e2, ec⟩ := index_maps t
  rw [after0_2]
  refine unit_read m c t _ _ ?_ ?_
  · blk_simp [e2]
  · blk_simp [e2]
    exact congrArg (· + _) (Nat.mul_comm _ _)

theorem algebraic : Cert.algebraic_QkvIdeal_QkvRefIdeal (hQkvIdeal := Cert.QkvIdeal.Gen.facts) (hQkvRefIdeal := Cert.QkvRefIdeal.Gen.facts) :=
  fun m ρ m' ρ' _ hag => ⟨_,
    (θ_run _ _ _).mono (fun _ h c => ⟨(h c).1.trans (unit_array m c), (h c).2⟩)
      (Cert.QkvIdeal.Value.run_blocks m ρ),
    (θ_run _ _ _).mono (fun _ h c => ⟨(h c).1.trans (by
        rw [QkvRefIdeal.Read.val_main_v58_eq]
        exact congr (congrArg (QkvRefIdeal.Read.val_main_v58 (F := Ideal)) (hag c).1) (hag c).2), (h c).2⟩)
      (Cert.QkvRefIdeal.Value.run m' ρ')⟩

theorem ref_frame : Cert.quiescent_QkvRefIdeal (hQkvRefIdeal := Cert.QkvRefIdeal.Gen.facts) :=
  fun m ρ _ => (θ_run _ _ _).mono (fun r h => ⟨fun c => (h c).2, sem_eq_zero_of_no_sems (by decide) r.2⟩) (Cert.QkvRefIdeal.Value.run m ρ)

end Cert.QkvIdeal.Entry

end
-- ==== Proof.HgFVal.lean ====
/-
  The forward call of the HGRN2 branch: the queries, the keys and the logarithm of the forget gate.
-/
module

public import proofs.«01_k».proof.Defs
public import proofs.«01_k».proof.Proof.Gen.HgFIdeal.Value
public import proofs.«01_k».proof.Proof.Gen.HgFRefIdeal.Read
public import proofs.«01_k».proof.Proof.Blocks
public import Idealize.ShloMosaic.Lib.Pipeline.ValueKit
public import Idealize.ShloMosaic.Lib.Tactic

@[expose] public section

set_option maxRecDepth 16384

noncomputable section

namespace Cert.HgFIdeal.Entry

open Cert.HgFIdeal Cert.HgFIdeal.Gen Cert.HgFIdeal.Value Idealize.ShloMosaic Idealize.ShloMosaic.TcCoe Idealize.SL.Sem Cert.Blocks

variable (m : (ℓ : Loc nD τ sig) → Buf (Elt Ideal) ℓ) (c : Dev nD) (t : Fin cfg0.N)

/-! ## What a grid point leaves: the first point and the later ones alike -/

theorem queries : (outsAt0 m c t.val t.isLt).2.2.1 = k0_pay3 (F := Ideal) (X0_0 m c t) := by
  by_cases h0 : t.val % 32 = 0
  · rw [outsAt0_A m c t h0]; dsimp only; unfold out0_A_8; frame_out
  · rw [outsAt0_B m c t h0]; dsimp only; unfold out0_B_8; frame_out

theorem keys : (outsAt0 m c t.val t.isLt).2.2.2.1 = k0_pay4 (F := Ideal) (X0_1 m c t) (iblk m c 3 t) := by
  by_cases h0 : t.val % 32 = 0
  · rw [outsAt0_A m c t h0]; dsimp only; unfold out0_A_9; frame_out
  · rw [outsAt0_B m c t h0]; dsimp only; unfold out0_B_9; frame_out

theorem decays : (outsAt0 m c t.val t.isLt).2.2.2.2.1 = k0_pay5 (F := Ideal) (X0_1 m c t) (iblk m c 3 t) := by
  by_cases h0 : t.val % 32 = 0
  · rw [outsAt0_A m c t h0]; dsimp only; unfold out0_A_10; frame_out
  · rw [outsAt0_B m c t h0]; dsimp only; unfold out0_B_10; frame_out

/-! ## The blocks' rows -/

abbrev proj : S2048x8448.Idx → EReal := m ((c : Thread nD τ).loc main_arg0)
abbrev lows : S1x1024.Idx → EReal := m ((c : Thread nD τ).loc main_arg1)

theorem index_maps : ∀ t : Fin cfg0.N, win0_0.index t = ![t.val, 4] ∧ win0_1.index t = ![t.val, 5] ∧ win0_3.index t = ![0, 0]
    ∧ win0_8.index t = ![t.val, 0] ∧ win0_9.index t = ![t.val, 0] ∧ win0_10.index t = ![t.val, 0] :=
  (by decide +kernel : ∀ t : Fin grid0.N, _)

variable (r : Fin 64) (k : Fin 1024)

theorem block0 : X0_0 m c t (ix2 r k) = at2 (proj m c) (64 * t.val + r.val) (4096 + k.val) := by
  have e0 := (index_maps t).1
  unfold X0_0 Pipeline.Window.fill
  rw [dif_pos (moved0_0 t _)]
  show (V m c main_arg0 : S2048x8448.Idx → EReal) (((cfg0.win 0).blk t).view.emb fun a => ⟨(ix2 r k a).val, _⟩) = _
  refine at2_of (proj m c) _ _ _ ?_ ?_
  · show win0_0.index t (0 : Fin 2) * 64 + 1 * r.val = _; rw [e0]; show t.val * 64 + 1 * r.val = _; omega
  · show win0_0.index t (1 : Fin 2) * 1024 + 1 * k.val = _; rw [e0]; show 4 * 1024 + 1 * k.val = _; omega

theorem block1 : X0_1 m c t (ix2 r k) = at2 (proj m c) (64 * t.val + r.val) (5120 + k.val) := by
  have e1 := (index_maps t).2.1
  unfold X0_1 Pipeline.Window.fill
  rw [dif_pos (moved0_1 t _)]
  show (V m c main_arg0 : S2048x8448.Idx → EReal) (((cfg0.win 1).blk t).view.emb fun a => ⟨(ix2 r k a).val, _⟩) = _
  refine at2_of (proj m c) _ _ _ ?_ ?_
  · show win0_1.index t (0 : Fin 2) * 64 + 1 * r.val = _; rw [e1]; show t.val * 64 + 1 * r.val = _; omega
  · show win0_1.index t (1 : Fin 2) * 1024 + 1 * k.val = _; rw [e1]; show 5 * 1024 + 1 * k.val = _; omega

theorem block3 : iblk m c 3 t (ix2 0 k) = lows m c (ix2 0 k) := by
  have e3 := (index_maps t).2.2.1
  blk_simp [iblk]
  refine congrArg (lows m c) (funext fun a => Fin.ext ?_)
  match a with
  | ⟨0, _⟩ => blk_simp [e3]
  | ⟨1, _⟩ => blk_simp [e3]

/-! ## The reference -/

section Reference

open HgFRefIdeal.Read

variable (x0 : S2048x8448.Idx → EReal) (x1 : S1x1024.Idx → EReal) (n : Fin 2048)

theorem ref_queries : val_main_v2 (F := Ideal) x0 (ix2 n k) = at2 x0 n.val (4096 + k.val) * Ideal.logistic (at2 x0 n.val (4096 + k.val)) := by
  pointwise [val_main_v2, val_main_call0_v5, val_main_call0_v4, val_main_call0_v3, val_main_call0_v2, val_main_call0_v1, val_main_call0_v0,
    val_main_call0_cst, val_main_call0_cst_0, val_main_v0]
  rw [at2_of x0 _ n.val (4096 + k.val) rfl rfl]
  rfl

theorem ref_keys : val_main_v13 (F := Ideal) x0 x1 (ix2 n k)
    = (Ideal.ofBits .f32 0x3F800000#32 - x1 (ix2 0 k)) * Ideal.logistic (-at2 x0 n.val (5120 + k.val)) := by
  pointwise [val_main_v13, val_main_v12, val_main_v11, val_main_v10, val_main_v9, val_main_v8, val_main_v7, val_main_v6, val_main_v5, val_main_v4,
    val_main_v3, val_main_v1, val_main_cst, val_main_cst_0, val_main_cst_1]
  rw [at2_of x0 _ n.val (5120 + k.val) rfl rfl]
  rfl

theorem ref_decays : val_main_v26 (F := Ideal) x0 x1 (ix2 n k)
    = Ideal.log (x1 (ix2 0 k) + (Ideal.ofBits .f32 0x3F800000#32 - x1 (ix2 0 k)) * Ideal.logistic (at2 x0 n.val (5120 + k.val))) := by
  pointwise [val_main_v26, val_main_v25, val_main_v24, val_main_v23, val_main_v22, val_main_v21, val_main_v20, val_main_v19, val_main_v18, val_main_v17,
    val_main_v16, val_main_v15, val_main_v14, val_main_v1, val_main_cst_2, val_main_cst_3, val_main_cst_4]
  rw [at2_of x0 _ n.val (5120 + k.val) rfl rfl]
  rfl

end Reference

/-! ## The results -/

section Results

variable (y : S64x1024.Idx) (i : S2048x1024.Idx) (h0 : (i 0).val = 64 * t.val + (y 0).val) (h1 : (i 1).val = (y 1).val)

include h0 h1 in
theorem indices : ∃ (r : Fin 64) (k : Fin 1024) (n : Fin 2048), y = ix2 r k ∧ i = ix2 n k ∧ n.val = 64 * t.val + r.val :=
  ⟨y 0, y 1, i 0, eq_ix2 y, (eq_ix2 i).trans (congrArg (ix2 (i 0)) (Fin.ext h1)), h0⟩

include h0 h1 in
theorem queries_read : (outsAt0 m c t.val t.isLt).2.2.1 y = HgFRefIdeal.Read.val_main_v2 (F := Ideal) (proj m c) i := by
  obtain ⟨r, k, n, rfl, rfl, hn⟩ := indices t y i h0 h1
  rw [queries, ref_queries, hn, ← block0]
  pointwise [k0_pay3]

include h0 h1 in
theorem keys_read : (outsAt0 m c t.val t.isLt).2.2.2.1 y = HgFRefIdeal.Read.val_main_v13 (F := Ideal) (proj m c) (lows m c) i := by
  obtain ⟨r, k, n, rfl, rfl, hn⟩ := indices t y i h0 h1
  rw [keys, ref_keys, hn, ← block1, ← block3 m c t]
  pointwise [k0_pay4]
  rw [zero_sub]

include h0 h1 in
theorem decays_read : (outsAt0 m c t.val t.isLt).2.2.2.2.1 y = HgFRefIdeal.Read.val_main_v26 (F := Ideal) (proj m c) (lows m c) i := by
  obtain ⟨r, k, n, rfl, rfl, hn⟩ := indices t y i h0 h1
  rw [decays, ref_decays, hn, ← block1, ← block3 m c t]
  pointwise [k0_pay5]

end Results

theorem queries_array : (dats m 0 c).arrAt 8 cfg0.N = HgFRefIdeal.Read.val_main_v2 (F := Ideal) (proj m c) := by
  refine (dats m 0 c).arrAt_eq_of_covers 8 _ (by decide +kernel) fun t hf y => ?_
  obtain ⟨e0, e1, e3, e8, e9, e10⟩ := index_maps t
  rw [after0_8]
  refine queries_read m c t _ _ ?_ ?_
  · blk_simp [e8]
    exact congrArg (· + _) (Nat.mul_comm _ _)
  · blk_simp [e8]

theorem keys_array : (dats m 0 c).arrAt 9 cfg0.N = HgFRefIdeal.Read.val_main_v13 (F := Ideal) (proj m c) (lows m c) := by
  refine (dats m 0 c).arrAt_eq_of_covers 9 _ (by decide +kernel) fun t hf y => ?_
  obtain ⟨e0, e1, e3, e8, e9, e10⟩ := index_maps t
  rw [after0_9]
  refine keys_read m c t _ _ ?_ ?_
  · blk_simp [e9]
    exact congrArg (· + _) (Nat.mul_comm _ _)
  · blk_simp [e9]

theorem decays_array : (dats m 0 c).arrAt 10 cfg0.N = HgFRefIdeal.Read.val_main_v26 (F := Ideal) (proj m c) (lows m c) := by
  refine (dats m 0 c).arrAt_eq_of_covers 10 _ (by decide +kernel) fun t hf y => ?_
  obtain ⟨e0, e1, e3, e8, e9, e10⟩ := index_maps t
  rw [after0_10]
  refine decays_read m c t _ _ ?_ ?_
  · blk_simp [e10]
    exact congrArg (· + _) (Nat.mul_comm _ _)
  · blk_simp [e10]

theorem algebraic : Cert.algebraic_HgFIdeal_HgFRefIdeal (hHgFIdeal := Cert.HgFIdeal.Gen.facts) (hHgFRefIdeal := Cert.HgFRefIdeal.Gen.facts) :=
  fun m ρ m' ρ' _ hag => ⟨_, _, _,
    (θ_run _ _ _).mono (fun _ h c => ⟨(h c).2.2.1.trans (queries_array m c), (h c).2.2.2.1.trans (keys_array m c),
      (h c).2.2.2.2.1.trans (decays_array m c), (h c).2.2.2.2.2.2⟩) (Cert.HgFIdeal.Value.run_blocks m ρ),
    (θ_run _ _ _).mono (fun _ h c => ⟨(h c).1.trans (by
        rw [HgFRefIdeal.Read.val_main_v2_eq]
        exact congrArg (HgFRefIdeal.Read.val_main_v2 (F := Ideal)) (hag c).1),
      (h c).2.1.trans (by
        rw [HgFRefIdeal.Read.val_main_v13_eq]
        exact congr (congrArg (HgFRefIdeal.Read.val_main_v13 (F := Ideal)) (hag c).1) (hag c).2.1),
      (h c).2.2.1.trans (by
        rw [HgFRefIdeal.Read.val_main_v26_eq]
        exact congr (congrArg (HgFRefIdeal.Read.val_main_v26 (F := Ideal)) (hag c).1) (hag c).2.1), (h c).2.2.2⟩)
      (Cert.HgFRefIdeal.Value.run m' ρ')⟩

theorem ref_frame : Cert.quiescent_HgFRefIdeal (hHgFRefIdeal := Cert.HgFRefIdeal.Gen.facts) :=
  fun m ρ _ => (θ_run _ _ _).mono (fun r h => ⟨fun c => (h c).2.2.2, sem_eq_zero_of_no_sems (by decide) r.2⟩) (Cert.HgFRefIdeal.Value.run m ρ)

end Cert.HgFIdeal.Entry

end
-- ==== Proof.lean ====
/- The claims: the frames of the programs, that each idealized kernel is the printed one, and that over the extended
   reals each call computes what its reference does. -/
module

public import proofs.«01_k».proof.Defs
public import proofs.«01_k».proof.Proof.Gen.Dhn
public import proofs.«01_k».proof.Proof.Gen.Dhn.Skeleton
public import proofs.«01_k».proof.Proof.Gen.Dhn.Launch
public import proofs.«01_k».proof.Proof.Gen.Dhn.Points
public import proofs.«01_k».proof.Proof.Gen.Dhn.Frame
public import proofs.«01_k».proof.Proof.Gen.DhnIdeal
public import proofs.«01_k».proof.Proof.Gen.DhnIdeal.Skeleton
public import proofs.«01_k».proof.Proof.Gen.DhnIdeal.Launch
public import proofs.«01_k».proof.Proof.Gen.DhnIdeal.Points
public import proofs.«01_k».proof.Proof.Gen.DhnIdeal.Frame
public import proofs.«01_k».proof.Proof.Gen.DhnRefIdeal
public import proofs.«01_k».proof.Proof.Gen.DhnIdeal.Value
public import proofs.«01_k».proof.Proof.Gen.DhnRefIdeal.Run
public import proofs.«01_k».proof.Proof.Gen.DhnRefIdeal.Read
public import proofs.«01_k».proof.Proof.Gen.Dwin
public import proofs.«01_k».proof.Proof.Gen.Dwin.Skeleton
public import proofs.«01_k».proof.Proof.Gen.Dwin.Launch
public import proofs.«01_k».proof.Proof.Gen.Dwin.Points
public import proofs.«01_k».proof.Proof.Gen.Dwin.Frame
public import proofs.«01_k».proof.Proof.Gen.DwinIdeal
public import proofs.«01_k».proof.Proof.Gen.DwinIdeal.Skeleton
public import proofs.«01_k».proof.Proof.Gen.DwinIdeal.Launch
public import proofs.«01_k».proof.Proof.Gen.DwinIdeal.Points
public import proofs.«01_k».proof.Proof.Gen.DwinIdeal.Frame
public import proofs.«01_k».proof.Proof.Gen.DwinRefIdeal
public import proofs.«01_k».proof.Proof.Gen.DwinIdeal.Value
public import proofs.«01_k».proof.Proof.Gen.DwinRefIdeal.Run
public import proofs.«01_k».proof.Proof.Gen.DwinRefIdeal.Read
public import proofs.«01_k».proof.Proof.Gen.DwinQ
public import proofs.«01_k».proof.Proof.Gen.DwinQ.Skeleton
public import proofs.«01_k».proof.Proof.Gen.DwinQ.Launch
public import proofs.«01_k».proof.Proof.Gen.DwinQ.Points
public import proofs.«01_k».proof.Proof.Gen.DwinQ.Frame
public import proofs.«01_k».proof.Proof.Gen.DwinQIdeal
public import proofs.«01_k».proof.Proof.Gen.DwinQIdeal.Skeleton
public import proofs.«01_k».proof.Proof.Gen.DwinQIdeal.Launch
public import proofs.«01_k».proof.Proof.Gen.DwinQIdeal.Points
public import proofs.«01_k».proof.Proof.Gen.DwinQIdeal.Frame
public import proofs.«01_k».proof.Proof.Gen.DwinQRefIdeal
public import proofs.«01_k».proof.Proof.Gen.DwinQIdeal.Value
public import proofs.«01_k».proof.Proof.Gen.DwinQRefIdeal.Run
public import proofs.«01_k».proof.Proof.Gen.DwinQRefIdeal.Read
public import proofs.«01_k».proof.Proof.Gen.Dwo
public import proofs.«01_k».proof.Proof.Gen.Dwo.Skeleton
public import proofs.«01_k».proof.Proof.Gen.Dwo.Launch
public import proofs.«01_k».proof.Proof.Gen.Dwo.Points
public import proofs.«01_k».proof.Proof.Gen.Dwo.Frame
public import proofs.«01_k».proof.Proof.Gen.DwoIdeal
public import proofs.«01_k».proof.Proof.Gen.DwoIdeal.Skeleton
public import proofs.«01_k».proof.Proof.Gen.DwoIdeal.Launch
public import proofs.«01_k».proof.Proof.Gen.DwoIdeal.Points
public import proofs.«01_k».proof.Proof.Gen.DwoIdeal.Frame
public import proofs.«01_k».proof.Proof.Gen.DwoRefIdeal
public import proofs.«01_k».proof.Proof.Gen.DwoIdeal.Value
public import proofs.«01_k».proof.Proof.Gen.DwoRefIdeal.Run
public import proofs.«01_k».proof.Proof.Gen.DwoRefIdeal.Read
public import proofs.«01_k».proof.Proof.Gen.Dwg
public import proofs.«01_k».proof.Proof.Gen.Dwg.Skeleton
public import proofs.«01_k».proof.Proof.Gen.Dwg.Launch
public import proofs.«01_k».proof.Proof.Gen.Dwg.Points
public import proofs.«01_k».proof.Proof.Gen.Dwg.Frame
public import proofs.«01_k».proof.Proof.Gen.DwgIdeal
public import proofs.«01_k».proof.Proof.Gen.DwgIdeal.Skeleton
public import proofs.«01_k».proof.Proof.Gen.DwgIdeal.Launch
public import proofs.«01_k».proof.Proof.Gen.DwgIdeal.Points
public import proofs.«01_k».proof.Proof.Gen.DwgIdeal.Frame
public import proofs.«01_k».proof.Proof.Gen.DwgRefIdeal
public import proofs.«01_k».proof.Proof.Gen.DwgIdeal.Value
public import proofs.«01_k».proof.Proof.Gen.DwgRefIdeal.Run
public import proofs.«01_k».proof.Proof.Gen.DwgRefIdeal.Read
public import proofs.«01_k».proof.Proof.Gen.Dwu
public import proofs.«01_k».proof.Proof.Gen.Dwu.Skeleton
public import proofs.«01_k».proof.Proof.Gen.Dwu.Launch
public import proofs.«01_k».proof.Proof.Gen.Dwu.Points
public import proofs.«01_k».proof.Proof.Gen.Dwu.Frame
public import proofs.«01_k».proof.Proof.Gen.DwuIdeal
public import proofs.«01_k».proof.Proof.Gen.DwuIdeal.Skeleton
public import proofs.«01_k».proof.Proof.Gen.DwuIdeal.Launch
public import proofs.«01_k».proof.Proof.Gen.DwuIdeal.Points
public import proofs.«01_k».proof.Proof.Gen.DwuIdeal.Frame
public import proofs.«01_k».proof.Proof.Gen.DwuRefIdeal
public import proofs.«01_k».proof.Proof.Gen.DwuIdeal.Value
public import proofs.«01_k».proof.Proof.Gen.DwuRefIdeal.Run
public import proofs.«01_k».proof.Proof.Gen.DwuRefIdeal.Read
public import proofs.«01_k».proof.Proof.Gen.Dh1
public import proofs.«01_k».proof.Proof.Gen.Dh1.Skeleton
public import proofs.«01_k».proof.Proof.Gen.Dh1.Launch
public import proofs.«01_k».proof.Proof.Gen.Dh1.Points
public import proofs.«01_k».proof.Proof.Gen.Dh1.Frame
public import proofs.«01_k».proof.Proof.Gen.Dh1Ideal
public import proofs.«01_k».proof.Proof.Gen.Dh1Ideal.Skeleton
public import proofs.«01_k».proof.Proof.Gen.Dh1Ideal.Launch
public import proofs.«01_k».proof.Proof.Gen.Dh1Ideal.Points
public import proofs.«01_k».proof.Proof.Gen.Dh1Ideal.Frame
public import proofs.«01_k».proof.Proof.Gen.Dh1RefIdeal
public import proofs.«01_k».proof.Proof.Gen.Dh1Ideal.Value
public import proofs.«01_k».proof.Proof.Gen.Dh1RefIdeal.Run
public import proofs.«01_k».proof.Proof.Gen.Dh1RefIdeal.Read
public import proofs.«01_k».proof.Proof.Gen.Dy
public import proofs.«01_k».proof.Proof.Gen.Dy.Skeleton
public import proofs.«01_k».proof.Proof.Gen.Dy.Launch
public import proofs.«01_k».proof.Proof.Gen.Dy.Points
public import proofs.«01_k».proof.Proof.Gen.Dy.Frame
public import proofs.«01_k».proof.Proof.Gen.DyIdeal
public import proofs.«01_k».proof.Proof.Gen.DyIdeal.Skeleton
public import proofs.«01_k».proof.Proof.Gen.DyIdeal.Launch
public import proofs.«01_k».proof.Proof.Gen.DyIdeal.Points
public import proofs.«01_k».proof.Proof.Gen.DyIdeal.Frame
public import proofs.«01_k».proof.Proof.Gen.DyRefIdeal
public import proofs.«01_k».proof.Proof.Gen.DyIdeal.Value
public import proofs.«01_k».proof.Proof.Gen.DyRefIdeal.Run
public import proofs.«01_k».proof.Proof.Gen.DyRefIdeal.Read
public import proofs.«01_k».proof.Proof.Gen.Ple
public import proofs.«01_k».proof.Proof.Gen.Ple.Skeleton
public import proofs.«01_k».proof.Proof.Gen.Ple.Launch
public import proofs.«01_k».proof.Proof.Gen.Ple.Points
public import proofs.«01_k».proof.Proof.Gen.Ple.Frame
public import proofs.«01_k».proof.Proof.Gen.PleIdeal
public import proofs.«01_k».proof.Proof.Gen.PleIdeal.Skeleton
public import proofs.«01_k».proof.Proof.Gen.PleIdeal.Launch
public import proofs.«01_k».proof.Proof.Gen.PleIdeal.Points
public import proofs.«01_k».proof.Proof.Gen.PleIdeal.Frame
public import proofs.«01_k».proof.Proof.Gen.PleRefIdeal
public import proofs.«01_k».proof.Proof.Gen.PleIdeal.Value
public import proofs.«01_k».proof.Proof.Gen.PleRefIdeal.Run
public import proofs.«01_k».proof.Proof.Gen.PleRefIdeal.Read
public import proofs.«01_k».proof.Proof.Gen.Fin
public import proofs.«01_k».proof.Proof.Gen.Fin.Skeleton
public import proofs.«01_k».proof.Proof.Gen.Fin.Launch
public import proofs.«01_k».proof.Proof.Gen.Fin.Points
public import proofs.«01_k».proof.Proof.Gen.Fin.Frame
public import proofs.«01_k».proof.Proof.Gen.FinIdeal
public import proofs.«01_k».proof.Proof.Gen.FinIdeal.Skeleton
public import proofs.«01_k».proof.Proof.Gen.FinIdeal.Launch
public import proofs.«01_k».proof.Proof.Gen.FinIdeal.Points
public import proofs.«01_k».proof.Proof.Gen.FinIdeal.Frame
public import proofs.«01_k».proof.Proof.Gen.FinRefIdeal
public import proofs.«01_k».proof.Proof.Gen.FinIdeal.Value
public import proofs.«01_k».proof.Proof.Gen.FinRefIdeal.Run
public import proofs.«01_k».proof.Proof.Gen.FinRefIdeal.Read
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import proofs.«01_k».proof.Proof.Gen.ProjIdeal.Value
public import proofs.«01_k».proof.Proof.Gen.ProjRefIdeal.Run
public import proofs.«01_k».proof.Proof.Gen.ProjRefIdeal.Read
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutRefIdeal
public import proofs.«01_k».proof.Proof.Gen.OutIdeal.Value
public import proofs.«01_k».proof.Proof.Gen.OutRefIdeal.Run
public import proofs.«01_k».proof.Proof.Gen.OutRefIdeal.Read
public import proofs.«01_k».proof.Proof.Gen.Gate
public import proofs.«01_k».proof.Proof.Gen.Gate.Skeleton
public import proofs.«01_k».proof.Proof.Gen.Gate.Launch
public import proofs.«01_k».proof.Proof.Gen.Gate.Points
public import proofs.«01_k».proof.Proof.Gen.Gate.Frame
public import proofs.«01_k».proof.Proof.Gen.GateIdeal
public import proofs.«01_k».proof.Proof.Gen.GateIdeal.Skeleton
public import proofs.«01_k».proof.Proof.Gen.GateIdeal.Launch
public import proofs.«01_k».proof.Proof.Gen.GateIdeal.Points
public import proofs.«01_k».proof.Proof.Gen.GateIdeal.Frame
public import proofs.«01_k».proof.Proof.Gen.GateRefIdeal
public import proofs.«01_k».proof.Proof.Gen.GateIdeal.Value
public import proofs.«01_k».proof.Proof.Gen.GateRefIdeal.Run
public import proofs.«01_k».proof.Proof.Gen.GateRefIdeal.Read
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.UpRefIdeal
public import proofs.«01_k».proof.Proof.Gen.UpIdeal.Value
public import proofs.«01_k».proof.Proof.Gen.UpRefIdeal.Run
public import proofs.«01_k».proof.Proof.Gen.UpRefIdeal.Read
public import proofs.«01_k».proof.Proof.Gen.Rms
public import proofs.«01_k».proof.Proof.Gen.Rms.Skeleton
public import proofs.«01_k».proof.Proof.Gen.Rms.Launch
public import proofs.«01_k».proof.Proof.Gen.Rms.Points
public import proofs.«01_k».proof.Proof.Gen.Rms.Frame
public import proofs.«01_k».proof.Proof.Gen.RmsIdeal
public import proofs.«01_k».proof.Proof.Gen.RmsIdeal.Skeleton
public import proofs.«01_k».proof.Proof.Gen.RmsIdeal.Launch
public import proofs.«01_k».proof.Proof.Gen.RmsIdeal.Points
public import proofs.«01_k».proof.Proof.Gen.RmsIdeal.Frame
public import proofs.«01_k».proof.Proof.Gen.RmsRefIdeal
public import proofs.«01_k».proof.Proof.Gen.RmsIdeal.Value
public import proofs.«01_k».proof.Proof.Gen.RmsRefIdeal.Run
public import proofs.«01_k».proof.Proof.Gen.RmsRefIdeal.Read
public import proofs.«01_k».proof.Proof.Gen.AdWin
public import proofs.«01_k».proof.Proof.Gen.AdWin.Skeleton
public import proofs.«01_k».proof.Proof.Gen.AdWin.Launch
public import proofs.«01_k».proof.Proof.Gen.AdWin.Points
public import proofs.«01_k».proof.Proof.Gen.AdWin.Frame
public import proofs.«01_k».proof.Proof.Gen.AdWinIdeal
public import proofs.«01_k».proof.Proof.Gen.AdWinIdeal.Skeleton
public import proofs.«01_k».proof.Proof.Gen.AdWinIdeal.Launch
public import proofs.«01_k».proof.Proof.Gen.AdWinIdeal.Points
public import proofs.«01_k».proof.Proof.Gen.AdWinIdeal.Frame
public import proofs.«01_k».proof.Proof.Gen.AdWinRefIdeal
public import proofs.«01_k».proof.Proof.Gen.AdWinIdeal.Value
public import proofs.«01_k».proof.Proof.Gen.AdWinRefIdeal.Run
public import proofs.«01_k».proof.Proof.Gen.AdWinRefIdeal.Read
public import proofs.«01_k».proof.Proof.Gen.AdWo
public import proofs.«01_k».proof.Proof.Gen.AdWo.Skeleton
public import proofs.«01_k».proof.Proof.Gen.AdWo.Launch
public import proofs.«01_k».proof.Proof.Gen.AdWo.Points
public import proofs.«01_k».proof.Proof.Gen.AdWo.Frame
public import proofs.«01_k».proof.Proof.Gen.AdWoIdeal
public import proofs.«01_k».proof.Proof.Gen.AdWoIdeal.Skeleton
public import proofs.«01_k».proof.Proof.Gen.AdWoIdeal.Launch
public import proofs.«01_k».proof.Proof.Gen.AdWoIdeal.Points
public import proofs.«01_k».proof.Proof.Gen.AdWoIdeal.Frame
public import proofs.«01_k».proof.Proof.Gen.AdWoRefIdeal
public import proofs.«01_k».proof.Proof.Gen.AdWoIdeal.Value
public import proofs.«01_k».proof.Proof.Gen.AdWoRefIdeal.Run
public import proofs.«01_k».proof.Proof.Gen.AdWoRefIdeal.Read
public import proofs.«01_k».proof.Proof.Gen.AdWg
public import proofs.«01_k».proof.Proof.Gen.AdWg.Skeleton
public import proofs.«01_k».proof.Proof.Gen.AdWg.Launch
public import proofs.«01_k».proof.Proof.Gen.AdWg.Points
public import proofs.«01_k».proof.Proof.Gen.AdWg.Frame
public import proofs.«01_k».proof.Proof.Gen.AdWgIdeal
public import proofs.«01_k».proof.Proof.Gen.AdWgIdeal.Skeleton
public import proofs.«01_k».proof.Proof.Gen.AdWgIdeal.Launch
public import proofs.«01_k».proof.Proof.Gen.AdWgIdeal.Points
public import proofs.«01_k».proof.Proof.Gen.AdWgIdeal.Frame
public import proofs.«01_k».proof.Proof.Gen.AdWgRefIdeal
public import proofs.«01_k».proof.Proof.Gen.AdWgIdeal.Value
public import proofs.«01_k».proof.Proof.Gen.AdWgRefIdeal.Run
public import proofs.«01_k».proof.Proof.Gen.AdWgRefIdeal.Read
public import proofs.«01_k».proof.Proof.Gen.AdWu
public import proofs.«01_k».proof.Proof.Gen.AdWu.Skeleton
public import proofs.«01_k».proof.Proof.Gen.AdWu.Launch
public import proofs.«01_k».proof.Proof.Gen.AdWu.Points
public import proofs.«01_k».proof.Proof.Gen.AdWu.Frame
public import proofs.«01_k».proof.Proof.Gen.AdWuIdeal
public import proofs.«01_k».proof.Proof.Gen.AdWuIdeal.Skeleton
public import proofs.«01_k».proof.Proof.Gen.AdWuIdeal.Launch
public import proofs.«01_k».proof.Proof.Gen.AdWuIdeal.Points
public import proofs.«01_k».proof.Proof.Gen.AdWuIdeal.Frame
public import proofs.«01_k».proof.Proof.Gen.AdWuRefIdeal
public import proofs.«01_k».proof.Proof.Gen.AdWuIdeal.Value
public import proofs.«01_k».proof.Proof.Gen.AdWuRefIdeal.Run
public import proofs.«01_k».proof.Proof.Gen.AdWuRefIdeal.Read
public import proofs.«01_k».proof.Proof.Gen.AdSmall
public import proofs.«01_k».proof.Proof.Gen.AdSmall.Skeleton
public import proofs.«01_k».proof.Proof.Gen.AdSmall.Launch
public import proofs.«01_k».proof.Proof.Gen.AdSmall.Points
public import proofs.«01_k».proof.Proof.Gen.AdSmall.Frame
public import proofs.«01_k».proof.Proof.Gen.AdSmallIdeal
public import proofs.«01_k».proof.Proof.Gen.AdSmallIdeal.Skeleton
public import proofs.«01_k».proof.Proof.Gen.AdSmallIdeal.Launch
public import proofs.«01_k».proof.Proof.Gen.AdSmallIdeal.Points
public import proofs.«01_k».proof.Proof.Gen.AdSmallIdeal.Frame
public import proofs.«01_k».proof.Proof.Gen.AdSmallRefIdeal
public import proofs.«01_k».proof.Proof.Gen.AdSmallIdeal.Value
public import proofs.«01_k».proof.Proof.Gen.AdSmallRefIdeal.Run
public import proofs.«01_k».proof.Proof.Gen.AdSmallRefIdeal.Read
public import proofs.«01_k».proof.Proof.Gen.AdNw
public import proofs.«01_k».proof.Proof.Gen.AdNw.Skeleton
public import proofs.«01_k».proof.Proof.Gen.AdNw.Launch
public import proofs.«01_k».proof.Proof.Gen.AdNw.Points
public import proofs.«01_k».proof.Proof.Gen.AdNw.Frame
public import proofs.«01_k».proof.Proof.Gen.AdNwIdeal
public import proofs.«01_k».proof.Proof.Gen.AdNwIdeal.Skeleton
public import proofs.«01_k».proof.Proof.Gen.AdNwIdeal.Launch
public import proofs.«01_k».proof.Proof.Gen.AdNwIdeal.Points
public import proofs.«01_k».proof.Proof.Gen.AdNwIdeal.Frame
public import proofs.«01_k».proof.Proof.Gen.AdNwRefIdeal
public import proofs.«01_k».proof.Proof.Gen.AdNwIdeal.Value
public import proofs.«01_k».proof.Proof.Gen.AdNwRefIdeal.Run
public import proofs.«01_k».proof.Proof.Gen.AdNwRefIdeal.Read
public import proofs.«01_k».proof.Proof.Gen.SumSmall
public import proofs.«01_k».proof.Proof.Gen.SumSmall.Skeleton
public import proofs.«01_k».proof.Proof.Gen.SumSmall.Launch
public import proofs.«01_k».proof.Proof.Gen.SumSmall.Points
public import proofs.«01_k».proof.Proof.Gen.SumSmall.Frame
public import proofs.«01_k».proof.Proof.Gen.SumSmallIdeal
public import proofs.«01_k».proof.Proof.Gen.SumSmallIdeal.Skeleton
public import proofs.«01_k».proof.Proof.Gen.SumSmallIdeal.Launch
public import proofs.«01_k».proof.Proof.Gen.SumSmallIdeal.Points
public import proofs.«01_k».proof.Proof.Gen.SumSmallIdeal.Frame
public import proofs.«01_k».proof.Proof.Gen.SumSmallRefIdeal
public import proofs.«01_k».proof.Proof.Gen.SumSmallIdeal.Value
public import proofs.«01_k».proof.Proof.Gen.SumSmallRefIdeal.Run
public import proofs.«01_k».proof.Proof.Gen.SumSmallRefIdeal.Read
public import proofs.«01_k».proof.Proof.Gen.SumNw
public import proofs.«01_k».proof.Proof.Gen.SumNw.Skeleton
public import proofs.«01_k».proof.Proof.Gen.SumNw.Launch
public import proofs.«01_k».proof.Proof.Gen.SumNw.Points
public import proofs.«01_k».proof.Proof.Gen.SumNw.Frame
public import proofs.«01_k».proof.Proof.Gen.SumNwIdeal
public import proofs.«01_k».proof.Proof.Gen.SumNwIdeal.Skeleton
public import proofs.«01_k».proof.Proof.Gen.SumNwIdeal.Launch
public import proofs.«01_k».proof.Proof.Gen.SumNwIdeal.Points
public import proofs.«01_k».proof.Proof.Gen.SumNwIdeal.Frame
public import proofs.«01_k».proof.Proof.Gen.SumNwRefIdeal
public import proofs.«01_k».proof.Proof.Gen.SumNwIdeal.Value
public import proofs.«01_k».proof.Proof.Gen.SumNwRefIdeal.Run
public import proofs.«01_k».proof.Proof.Gen.SumNwRefIdeal.Read
public import proofs.«01_k».proof.Proof.Gen.GateB
public import proofs.«01_k».proof.Proof.Gen.GateB.Skeleton
public import proofs.«01_k».proof.Proof.Gen.GateB.Launch
public import proofs.«01_k».proof.Proof.Gen.GateB.Points
public import proofs.«01_k».proof.Proof.Gen.GateB.Frame
public import proofs.«01_k».proof.Proof.Gen.GateBIdeal
public import proofs.«01_k».proof.Proof.Gen.GateBIdeal.Skeleton
public import proofs.«01_k».proof.Proof.Gen.GateBIdeal.Launch
public import proofs.«01_k».proof.Proof.Gen.GateBIdeal.Points
public import proofs.«01_k».proof.Proof.Gen.GateBIdeal.Frame
public import proofs.«01_k».proof.Proof.Gen.GateBRefIdeal
public import proofs.«01_k».proof.Proof.Gen.GateBIdeal.Value
public import proofs.«01_k».proof.Proof.Gen.GateBRefIdeal.Run
public import proofs.«01_k».proof.Proof.Gen.GateBRefIdeal.Read
public import proofs.«01_k».proof.Proof.Gen.QkvB
public import proofs.«01_k».proof.Proof.Gen.QkvB.Skeleton
public import proofs.«01_k».proof.Proof.Gen.QkvB.Launch
public import proofs.«01_k».proof.Proof.Gen.QkvB.Points
public import proofs.«01_k».proof.Proof.Gen.QkvB.Frame
public import proofs.«01_k».proof.Proof.Gen.QkvBIdeal
public import proofs.«01_k».proof.Proof.Gen.QkvBIdeal.Skeleton
public import proofs.«01_k».proof.Proof.Gen.QkvBIdeal.Launch
public import proofs.«01_k».proof.Proof.Gen.QkvBIdeal.Points
public import proofs.«01_k».proof.Proof.Gen.QkvBIdeal.Frame
public import proofs.«01_k».proof.Proof.Gen.QkvBRefIdeal
public import proofs.«01_k».proof.Proof.Gen.QkvBIdeal.Value
public import proofs.«01_k».proof.Proof.Gen.QkvBRefIdeal.Run
public import proofs.«01_k».proof.Proof.Gen.QkvBRefIdeal.Read
public import proofs.«01_k».proof.Proof.Gen.HgB
public import proofs.«01_k».proof.Proof.Gen.HgB.Skeleton
public import proofs.«01_k».proof.Proof.Gen.HgB.Launch
public import proofs.«01_k».proof.Proof.Gen.HgB.Points
public import proofs.«01_k».proof.Proof.Gen.HgB.Frame
public import proofs.«01_k».proof.Proof.Gen.HgBIdeal
public import proofs.«01_k».proof.Proof.Gen.HgBIdeal.Skeleton
public import proofs.«01_k».proof.Proof.Gen.HgBIdeal.Launch
public import proofs.«01_k».proof.Proof.Gen.HgBIdeal.Points
public import proofs.«01_k».proof.Proof.Gen.HgBIdeal.Frame
public import proofs.«01_k».proof.Proof.Gen.HgBRefIdeal
public import proofs.«01_k».proof.Proof.Gen.HgBIdeal.Value
public import proofs.«01_k».proof.Proof.Gen.HgBRefIdeal.Run
public import proofs.«01_k».proof.Proof.Gen.HgBRefIdeal.Read
public import proofs.«01_k».proof.Proof.Gen.DnB
public import proofs.«01_k».proof.Proof.Gen.DnB.Skeleton
public import proofs.«01_k».proof.Proof.Gen.DnB.Launch
public import proofs.«01_k».proof.Proof.Gen.DnB.Points
public import proofs.«01_k».proof.Proof.Gen.DnB.Frame
public import proofs.«01_k».proof.Proof.Gen.DnBIdeal
public import proofs.«01_k».proof.Proof.Gen.DnBIdeal.Skeleton
public import proofs.«01_k».proof.Proof.Gen.DnBIdeal.Launch
public import proofs.«01_k».proof.Proof.Gen.DnBIdeal.Points
public import proofs.«01_k».proof.Proof.Gen.DnBIdeal.Frame
public import proofs.«01_k».proof.Proof.Gen.DnBRefIdeal
public import proofs.«01_k».proof.Proof.Gen.DnBIdeal.Value
public import proofs.«01_k».proof.Proof.Gen.DnBRefIdeal.Run
public import proofs.«01_k».proof.Proof.Gen.DnBRefIdeal.Read
public import proofs.«01_k».proof.Proof.Gen.GateF
public import proofs.«01_k».proof.Proof.Gen.GateF.Skeleton
public import proofs.«01_k».proof.Proof.Gen.GateF.Launch
public import proofs.«01_k».proof.Proof.Gen.GateF.Points
public import proofs.«01_k».proof.Proof.Gen.GateF.Frame
public import proofs.«01_k».proof.Proof.Gen.GateFIdeal
public import proofs.«01_k».proof.Proof.Gen.GateFIdeal.Skeleton
public import proofs.«01_k».proof.Proof.Gen.GateFIdeal.Launch
public import proofs.«01_k».proof.Proof.Gen.GateFIdeal.Points
public import proofs.«01_k».proof.Proof.Gen.GateFIdeal.Frame
public import proofs.«01_k».proof.Proof.Gen.GateFRefIdeal
public import proofs.«01_k».proof.Proof.Gen.GateFIdeal.Value
public import proofs.«01_k».proof.Proof.Gen.GateFRefIdeal.Run
public import proofs.«01_k».proof.Proof.Gen.GateFRefIdeal.Read
public import proofs.«01_k».proof.Proof.Gen.Qkv
public import proofs.«01_k».proof.Proof.Gen.Qkv.Skeleton
public import proofs.«01_k».proof.Proof.Gen.Qkv.Launch
public import proofs.«01_k».proof.Proof.Gen.Qkv.Points
public import proofs.«01_k».proof.Proof.Gen.Qkv.Frame
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvIdeal.Frame
public import proofs.«01_k».proof.Proof.Gen.QkvRefIdeal
public import proofs.«01_k».proof.Proof.Gen.QkvIdeal.Value
public import proofs.«01_k».proof.Proof.Gen.QkvRefIdeal.Run
public import proofs.«01_k».proof.Proof.Gen.QkvRefIdeal.Read
public import proofs.«01_k».proof.Proof.Gen.HgF
public import proofs.«01_k».proof.Proof.Gen.HgF.Skeleton
public import proofs.«01_k».proof.Proof.Gen.HgF.Launch
public import proofs.«01_k».proof.Proof.Gen.HgF.Points
public import proofs.«01_k».proof.Proof.Gen.HgF.Frame
public import proofs.«01_k».proof.Proof.Gen.HgFIdeal
public import proofs.«01_k».proof.Proof.Gen.HgFIdeal.Skeleton
public import proofs.«01_k».proof.Proof.Gen.HgFIdeal.Launch
public import proofs.«01_k».proof.Proof.Gen.HgFIdeal.Points
public import proofs.«01_k».proof.Proof.Gen.HgFIdeal.Frame
public import proofs.«01_k».proof.Proof.Gen.HgFRefIdeal
public import proofs.«01_k».proof.Proof.Gen.HgFIdeal.Value
public import proofs.«01_k».proof.Proof.Gen.HgFRefIdeal.Run
public import proofs.«01_k».proof.Proof.Gen.HgFRefIdeal.Read
public import proofs.«01_k».proof.Proof.Gen.Pre_gateb_finite
public import proofs.«01_k».proof.Proof.Gen.Pre_qkvb_finite
public import proofs.«01_k».proof.Proof.DhnValue
public import proofs.«01_k».proof.Proof.Weights
public import proofs.«01_k».proof.Proof.Gathered
public import proofs.«01_k».proof.Proof.Small
public import proofs.«01_k».proof.Proof.Final
public import proofs.«01_k».proof.Proof.Forward
public import proofs.«01_k».proof.Proof.AdWinVal
public import proofs.«01_k».proof.Proof.AdWoVal
public import proofs.«01_k».proof.Proof.AdWgVal
public import proofs.«01_k».proof.Proof.AdWuVal
public import proofs.«01_k».proof.Proof.GateBVal
public import proofs.«01_k».proof.Proof.QkvBVal
public import proofs.«01_k».proof.Proof.HgBVal
public import proofs.«01_k».proof.Proof.DnBVal
public import proofs.«01_k».proof.Proof.GateFVal
public import proofs.«01_k».proof.Proof.QkvVal
public import proofs.«01_k».proof.Proof.HgFVal
public import Idealize.ShloMosaic.Adequacy
public import Idealize.ShloMosaic.Init

@[expose] public section

noncomputable section

namespace Cert.Proof

open Idealize.ShloMosaic Idealize.SL.Sem

theorem claim : Cert.Claim := ⟨
  Cert.Dhn.Gen.facts, Cert.DhnIdeal.Gen.facts, Cert.DhnRefIdeal.Gen.facts,
  Cert.Dwin.Gen.facts, Cert.DwinIdeal.Gen.facts, Cert.DwinRefIdeal.Gen.facts,
  Cert.DwinQ.Gen.facts, Cert.DwinQIdeal.Gen.facts, Cert.DwinQRefIdeal.Gen.facts,
  Cert.Dwo.Gen.facts, Cert.DwoIdeal.Gen.facts, Cert.DwoRefIdeal.Gen.facts,
  Cert.Dwg.Gen.facts, Cert.DwgIdeal.Gen.facts, Cert.DwgRefIdeal.Gen.facts,
  Cert.Dwu.Gen.facts, Cert.DwuIdeal.Gen.facts, Cert.DwuRefIdeal.Gen.facts,
  Cert.Dh1.Gen.facts, Cert.Dh1Ideal.Gen.facts, Cert.Dh1RefIdeal.Gen.facts,
  Cert.Dy.Gen.facts, Cert.DyIdeal.Gen.facts, Cert.DyRefIdeal.Gen.facts,
  Cert.Ple.Gen.facts, Cert.PleIdeal.Gen.facts, Cert.PleRefIdeal.Gen.facts,
  Cert.Fin.Gen.facts, Cert.FinIdeal.Gen.facts, Cert.FinRefIdeal.Gen.facts,
  Cert.Proj.Gen.facts, Cert.ProjIdeal.Gen.facts, Cert.ProjRefIdeal.Gen.facts,
  Cert.Out.Gen.facts, Cert.OutIdeal.Gen.facts, Cert.OutRefIdeal.Gen.facts,
  Cert.Gate.Gen.facts, Cert.GateIdeal.Gen.facts, Cert.GateRefIdeal.Gen.facts,
  Cert.Up.Gen.facts, Cert.UpIdeal.Gen.facts, Cert.UpRefIdeal.Gen.facts,
  Cert.Rms.Gen.facts, Cert.RmsIdeal.Gen.facts, Cert.RmsRefIdeal.Gen.facts,
  Cert.AdWin.Gen.facts, Cert.AdWinIdeal.Gen.facts, Cert.AdWinRefIdeal.Gen.facts,
  Cert.AdWo.Gen.facts, Cert.AdWoIdeal.Gen.facts, Cert.AdWoRefIdeal.Gen.facts,
  Cert.AdWg.Gen.facts, Cert.AdWgIdeal.Gen.facts, Cert.AdWgRefIdeal.Gen.facts,
  Cert.AdWu.Gen.facts, Cert.AdWuIdeal.Gen.facts, Cert.AdWuRefIdeal.Gen.facts,
  Cert.AdSmall.Gen.facts, Cert.AdSmallIdeal.Gen.facts, Cert.AdSmallRefIdeal.Gen.facts,
  Cert.AdNw.Gen.facts, Cert.AdNwIdeal.Gen.facts, Cert.AdNwRefIdeal.Gen.facts,
  Cert.SumSmall.Gen.facts, Cert.SumSmallIdeal.Gen.facts, Cert.SumSmallRefIdeal.Gen.facts,
  Cert.SumNw.Gen.facts, Cert.SumNwIdeal.Gen.facts, Cert.SumNwRefIdeal.Gen.facts,
  Cert.GateB.Gen.facts, Cert.GateBIdeal.Gen.facts, Cert.GateBRefIdeal.Gen.facts,
  Cert.QkvB.Gen.facts, Cert.QkvBIdeal.Gen.facts, Cert.QkvBRefIdeal.Gen.facts,
  Cert.HgB.Gen.facts, Cert.HgBIdeal.Gen.facts, Cert.HgBRefIdeal.Gen.facts,
  Cert.DnB.Gen.facts, Cert.DnBIdeal.Gen.facts, Cert.DnBRefIdeal.Gen.facts,
  Cert.GateF.Gen.facts, Cert.GateFIdeal.Gen.facts, Cert.GateFRefIdeal.Gen.facts,
  Cert.Qkv.Gen.facts, Cert.QkvIdeal.Gen.facts, Cert.QkvRefIdeal.Gen.facts,
  Cert.HgF.Gen.facts, Cert.HgFIdeal.Gen.facts, Cert.HgFRefIdeal.Gen.facts,
  Cert.Pre_gateb_finite.Gen.facts,
  Cert.Pre_qkvb_finite.Gen.facts,
  fun m ρ _ => Cert.Dhn.Gen.frame m ρ, fun m ρ _ => Cert.DhnIdeal.Gen.frame m ρ, Cert.DhnValue.ref_frame,
  fun m ρ _ => Cert.Dwin.Gen.frame m ρ, fun m ρ _ => Cert.DwinIdeal.Gen.frame m ρ, Cert.DwinIdeal.Entry.ref_frame,
  fun m ρ _ => Cert.DwinQ.Gen.frame m ρ, fun m ρ _ => Cert.DwinQIdeal.Gen.frame m ρ, Cert.DwinQIdeal.Entry.ref_frame,
  fun m ρ _ => Cert.Dwo.Gen.frame m ρ, fun m ρ _ => Cert.DwoIdeal.Gen.frame m ρ, Cert.DwoIdeal.Entry.ref_frame,
  fun m ρ _ => Cert.Dwg.Gen.frame m ρ, fun m ρ _ => Cert.DwgIdeal.Gen.frame m ρ, Cert.DwgIdeal.Entry.ref_frame,
  fun m ρ _ => Cert.Dwu.Gen.frame m ρ, fun m ρ _ => Cert.DwuIdeal.Gen.frame m ρ, Cert.DwuIdeal.Entry.ref_frame,
  fun m ρ _ => Cert.Dh1.Gen.frame m ρ, fun m ρ _ => Cert.Dh1Ideal.Gen.frame m ρ, Cert.Dh1Ideal.Entry.ref_frame,
  fun m ρ _ => Cert.Dy.Gen.frame m ρ, fun m ρ _ => Cert.DyIdeal.Gen.frame m ρ, Cert.DyIdeal.Entry.ref_frame,
  fun m ρ _ => Cert.Ple.Gen.frame m ρ, fun m ρ _ => Cert.PleIdeal.Gen.frame m ρ, Cert.PleIdeal.Entry.ref_frame,
  fun m ρ _ => Cert.Fin.Gen.frame m ρ, fun m ρ _ => Cert.FinIdeal.Gen.frame m ρ, Cert.FinIdeal.Entry.ref_frame,
  fun m ρ _ => Cert.Proj.Gen.frame m ρ, fun m ρ _ => Cert.ProjIdeal.Gen.frame m ρ, Cert.ProjIdeal.Entry.ref_frame,
  fun m ρ _ => Cert.Out.Gen.frame m ρ, fun m ρ _ => Cert.OutIdeal.Gen.frame m ρ, Cert.OutIdeal.Entry.ref_frame,
  fun m ρ _ => Cert.Gate.Gen.frame m ρ, fun m ρ _ => Cert.GateIdeal.Gen.frame m ρ, Cert.GateIdeal.Entry.ref_frame,
  fun m ρ _ => Cert.Up.Gen.frame m ρ, fun m ρ _ => Cert.UpIdeal.Gen.frame m ρ, Cert.UpIdeal.Entry.ref_frame,
  fun m ρ _ => Cert.Rms.Gen.frame m ρ, fun m ρ _ => Cert.RmsIdeal.Gen.frame m ρ, Cert.RmsIdeal.Entry.ref_frame,
  fun m ρ _ => Cert.AdWin.Gen.frame m ρ, fun m ρ _ => Cert.AdWinIdeal.Gen.frame m ρ, Cert.AdWinIdeal.Entry.ref_frame,
  fun m ρ _ => Cert.AdWo.Gen.frame m ρ, fun m ρ _ => Cert.AdWoIdeal.Gen.frame m ρ, Cert.AdWoIdeal.Entry.ref_frame,
  fun m ρ _ => Cert.AdWg.Gen.frame m ρ, fun m ρ _ => Cert.AdWgIdeal.Gen.frame m ρ, Cert.AdWgIdeal.Entry.ref_frame,
  fun m ρ _ => Cert.AdWu.Gen.frame m ρ, fun m ρ _ => Cert.AdWuIdeal.Gen.frame m ρ, Cert.AdWuIdeal.Entry.ref_frame,
  fun m ρ _ => Cert.AdSmall.Gen.frame m ρ, fun m ρ _ => Cert.AdSmallIdeal.Gen.frame m ρ, Cert.AdSmallIdeal.Entry.ref_frame,
  fun m ρ _ => Cert.AdNw.Gen.frame m ρ, fun m ρ _ => Cert.AdNwIdeal.Gen.frame m ρ, Cert.AdNwIdeal.Entry.ref_frame,
  fun m ρ _ => Cert.SumSmall.Gen.frame m ρ, fun m ρ _ => Cert.SumSmallIdeal.Gen.frame m ρ, Cert.SumSmallIdeal.Entry.ref_frame,
  fun m ρ _ => Cert.SumNw.Gen.frame m ρ, fun m ρ _ => Cert.SumNwIdeal.Gen.frame m ρ, Cert.SumNwIdeal.Entry.ref_frame,
  fun m ρ _ => Cert.GateB.Gen.frame m ρ, fun m ρ _ => Cert.GateBIdeal.Gen.frame m ρ, fun m ρ _ => Cert.GateBIdeal.Gen.frame m ρ, Cert.GateBIdeal.Entry.ref_frame, fun m ρ _ => Cert.GateBIdeal.Entry.ref_frame m ρ trivial,
  fun m ρ _ => Cert.QkvB.Gen.frame m ρ, fun m ρ _ => Cert.QkvBIdeal.Gen.frame m ρ, fun m ρ _ => Cert.QkvBIdeal.Gen.frame m ρ, Cert.QkvBIdeal.Entry.ref_frame, fun m ρ _ => Cert.QkvBIdeal.Entry.ref_frame m ρ trivial,
  fun m ρ _ => Cert.HgB.Gen.frame m ρ, fun m ρ _ => Cert.HgBIdeal.Gen.frame m ρ, Cert.HgBIdeal.Entry.ref_frame,
  fun m ρ _ => Cert.DnB.Gen.frame m ρ, fun m ρ _ => Cert.DnBIdeal.Gen.frame m ρ, Cert.DnBIdeal.Entry.ref_frame,
  fun m ρ _ => Cert.GateF.Gen.frame m ρ, fun m ρ _ => Cert.GateFIdeal.Gen.frame m ρ, Cert.GateFIdeal.Entry.ref_frame,
  fun m ρ _ => Cert.Qkv.Gen.frame m ρ, fun m ρ _ => Cert.QkvIdeal.Gen.frame m ρ, Cert.QkvIdeal.Entry.ref_frame,
  fun m ρ _ => Cert.HgF.Gen.frame m ρ, fun m ρ _ => Cert.HgFIdeal.Gen.frame m ρ, Cert.HgFIdeal.Entry.ref_frame,
  trivial, Cert.DhnValue.algebraic,
  trivial, Cert.DwinIdeal.Entry.algebraic,
  trivial, Cert.DwinQIdeal.Entry.algebraic,
  trivial, Cert.DwoIdeal.Entry.algebraic,
  trivial, Cert.DwgIdeal.Entry.algebraic,
  trivial, Cert.DwuIdeal.Entry.algebraic,
  trivial, Cert.Dh1Ideal.Entry.algebraic,
  trivial, Cert.DyIdeal.Entry.algebraic,
  trivial, Cert.PleIdeal.Entry.algebraic,
  trivial, Cert.FinIdeal.Entry.algebraic,
  trivial, Cert.ProjIdeal.Entry.algebraic,
  trivial, Cert.OutIdeal.Entry.algebraic,
  trivial, Cert.GateIdeal.Entry.algebraic,
  trivial, Cert.UpIdeal.Entry.algebraic,
  trivial, Cert.RmsIdeal.Entry.algebraic,
  trivial, Cert.AdWinIdeal.Entry.algebraic,
  trivial, Cert.AdWoIdeal.Entry.algebraic,
  trivial, Cert.AdWgIdeal.Entry.algebraic,
  trivial, Cert.AdWuIdeal.Entry.algebraic,
  trivial, Cert.AdSmallIdeal.Entry.algebraic,
  trivial, Cert.AdNwIdeal.Entry.algebraic,
  trivial, Cert.SumSmallIdeal.Entry.algebraic,
  trivial, Cert.SumNwIdeal.Entry.algebraic,
  trivial, Cert.GateBIdeal.Entry.algebraic,
  trivial, Cert.QkvBIdeal.Entry.algebraic,
  trivial, Cert.HgBIdeal.Entry.algebraic,
  trivial, Cert.DnBIdeal.Entry.algebraic,
  trivial, Cert.GateFIdeal.Entry.algebraic,
  trivial, Cert.QkvIdeal.Entry.algebraic,
  trivial, Cert.HgFIdeal.Entry.algebraic⟩

end Cert.Proof

end
